-- ==== Defs.lean ====
def Pre_RgConvBwd (m : (ℓ : Loc Cert.RgConvBwd.nD Cert.RgConvBwd.τ Cert.RgConvBwd.sig) → Buf (Elt Bits) ℓ) : Prop :=
  True

def Pre_RgConvBwdIdeal (m : (ℓ : Loc Cert.RgConvBwdIdeal.nD Cert.RgConvBwdIdeal.τ Cert.RgConvBwdIdeal.sig) → Buf (Elt Ideal) ℓ) : Prop :=
  True

def Pre_RgConvRefIdeal (m : (ℓ : Loc Cert.RgConvRefIdeal.nD Cert.RgConvRefIdeal.τ Cert.RgConvRefIdeal.sig) → Buf (Elt Ideal) ℓ) : Prop :=
  True

def Pre_GdnConvBwd (m : (ℓ : Loc Cert.GdnConvBwd.nD Cert.GdnConvBwd.τ Cert.GdnConvBwd.sig) → Buf (Elt Bits) ℓ) : Prop :=
  True

def Pre_GdnConvBwdIdeal (m : (ℓ : Loc Cert.GdnConvBwdIdeal.nD Cert.GdnConvBwdIdeal.τ Cert.GdnConvBwdIdeal.sig) → Buf (Elt Ideal) ℓ) : Prop :=
  True

def Pre_GdnConvRefIdeal (m : (ℓ : Loc Cert.GdnConvRefIdeal.nD Cert.GdnConvRefIdeal.τ Cert.GdnConvRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_GdnPrepBwd (m : (ℓ : Loc Cert.GdnPrepBwd.nD Cert.GdnPrepBwd.τ Cert.GdnPrepBwd.sig) → Buf (Elt Bits) ℓ) : Prop :=
  True

def Pre_GdnPrepBwdIdeal (m : (ℓ : Loc Cert.GdnPrepBwdIdeal.nD Cert.GdnPrepBwdIdeal.τ Cert.GdnPrepBwdIdeal.sig) → Buf (Elt Ideal) ℓ) : Prop :=
  True

def Pre_GdnPrepBwdIdeal_gdn_prep_finite [hPre_gdn_prep_finite : Cert.Pre_gdn_prep_finite.Facts] (m : (ℓ : Loc Cert.GdnPrepBwdIdeal.nD Cert.GdnPrepBwdIdeal.τ Cert.GdnPrepBwdIdeal.sig) → Buf (Elt Ideal) ℓ) : Prop :=
  ∀ c : Dev Cert.GdnPrepBwdIdeal.nD,
    (Cert.Pre_gdn_prep_finite.fn (F := Ideal) (m ((c.tc : Thread Cert.GdnPrepBwdIdeal.nD Cert.GdnPrepBwdIdeal.τ).loc Cert.GdnPrepBwdIdeal.main_arg0)) (m ((c.tc : Thread Cert.GdnPrepBwdIdeal.nD Cert.GdnPrepBwdIdeal.τ).loc Cert.GdnPrepBwdIdeal.main_arg1)) (m ((c.tc : Thread Cert.GdnPrepBwdIdeal.nD Cert.GdnPrepBwdIdeal.τ).loc Cert.GdnPrepBwdIdeal.main_arg2)) (m ((c.tc : Thread Cert.GdnPrepBwdIdeal.nD Cert.GdnPrepBwdIdeal.τ).loc Cert.GdnPrepBwdIdeal.main_arg3)) (m ((c.tc : Thread Cert.GdnPrepBwdIdeal.nD Cert.GdnPrepBwdIdeal.τ).loc Cert.GdnPrepBwdIdeal.main_arg4)) (m ((c.tc : Thread Cert.GdnPrepBwdIdeal.nD Cert.GdnPrepBwdIdeal.τ).loc Cert.GdnPrepBwdIdeal.main_arg5)) (m ((c.tc : Thread Cert.GdnPrepBwdIdeal.nD Cert.GdnPrepBwdIdeal.τ).loc Cert.GdnPrepBwdIdeal.main_arg6)) (m ((c.tc : Thread Cert.GdnPrepBwdIdeal.nD Cert.GdnPrepBwdIdeal.τ).loc Cert.GdnPrepBwdIdeal.main_arg7))).1 = (fun _ => 1#1)
    ∧ (Cert.Pre_gdn_prep_finite.fn (F := Ideal) (m ((c.tc : Thread Cert.GdnPrepBwdIdeal.nD Cert.GdnPrepBwdIdeal.τ).loc Cert.GdnPrepBwdIdeal.main_arg0)) (m ((c.tc : Thread Cert.GdnPrepBwdIdeal.nD Cert.GdnPrepBwdIdeal.τ).loc Cert.GdnPrepBwdIdeal.main_arg1)) (m ((c.tc : Thread Cert.GdnPrepBwdIdeal.nD Cert.GdnPrepBwdIdeal.τ).loc Cert.GdnPrepBwdIdeal.main_arg2)) (m ((c.tc : Thread Cert.GdnPrepBwdIdeal.nD Cert.GdnPrepBwdIdeal.τ).loc Cert.GdnPrepBwdIdeal.main_arg3)) (m ((c.tc : Thread Cert.GdnPrepBwdIdeal.nD Cert.GdnPrepBwdIdeal.τ).loc Cert.GdnPrepBwdIdeal.main_arg4)) (m ((c.tc : Thread Cert.GdnPrepBwdIdeal.nD Cert.GdnPrepBwdIdeal.τ).loc Cert.GdnPrepBwdIdeal.main_arg5)) (m ((c.tc : Thread Cert.GdnPrepBwdIdeal.nD Cert.GdnPrepBwdIdeal.τ).loc Cert.GdnPrepBwdIdeal.main_arg6)) (m ((c.tc : Thread Cert.GdnPrepBwdIdeal.nD Cert.GdnPrepBwdIdeal.τ).loc Cert.GdnPrepBwdIdeal.main_arg7))).2.1 = (fun _ => 1#1)
    ∧ (Cert.Pre_gdn_prep_finite.fn (F := Ideal) (m ((c.tc : Thread Cert.GdnPrepBwdIdeal.nD Cert.GdnPrepBwdIdeal.τ).loc Cert.GdnPrepBwdIdeal.main_arg0)) (m ((c.tc : Thread Cert.GdnPrepBwdIdeal.nD Cert.GdnPrepBwdIdeal.τ).loc Cert.GdnPrepBwdIdeal.main_arg1)) (m ((c.tc : Thread Cert.GdnPrepBwdIdeal.nD Cert.GdnPrepBwdIdeal.τ).loc Cert.GdnPrepBwdIdeal.main_arg2)) (m ((c.tc : Thread Cert.GdnPrepBwdIdeal.nD Cert.GdnPrepBwdIdeal.τ).loc Cert.GdnPrepBwdIdeal.main_arg3)) (m ((c.tc : Thread Cert.GdnPrepBwdIdeal.nD Cert.GdnPrepBwdIdeal.τ).loc Cert.GdnPrepBwdIdeal.main_arg4)) (m ((c.tc : Thread Cert.GdnPrepBwdIdeal.nD Cert.GdnPrepBwdIdeal.τ).loc Cert.GdnPrepBwdIdeal.main_arg5)) (m ((c.tc : Thread Cert.GdnPrepBwdIdeal.nD Cert.GdnPrepBwdIdeal.τ).loc Cert.GdnPrepBwdIdeal.main_arg6)) (m ((c.tc : Thread Cert.GdnPrepBwdIdeal.nD Cert.GdnPrepBwdIdeal.τ).loc Cert.GdnPrepBwdIdeal.main_arg7))).2.2.1 = (fun _ => 1#1)
    ∧ (Cert.Pre_gdn_prep_finite.fn (F := Ideal) (m ((c.tc : Thread Cert.GdnPrepBwdIdeal.nD Cert.GdnPrepBwdIdeal.τ).loc Cert.GdnPrepBwdIdeal.main_arg0)) (m ((c.tc : Thread Cert.GdnPrepBwdIdeal.nD Cert.GdnPrepBwdIdeal.τ).loc Cert.GdnPrepBwdIdeal.main_arg1)) (m ((c.tc : Thread Cert.GdnPrepBwdIdeal.nD Cert.GdnPrepBwdIdeal.τ).loc Cert.GdnPrepBwdIdeal.main_arg2)) (m ((c.tc : Thread Cert.GdnPrepBwdIdeal.nD Cert.GdnPrepBwdIdeal.τ).loc Cert.GdnPrepBwdIdeal.main_arg3)) (m ((c.tc : Thread Cert.GdnPrepBwdIdeal.nD Cert.GdnPrepBwdIdeal.τ).loc Cert.GdnPrepBwdIdeal.main_arg4)) (m ((c.tc : Thread Cert.GdnPrepBwdIdeal.nD Cert.GdnPrepBwdIdeal.τ).loc Cert.GdnPrepBwdIdeal.main_arg5)) (m ((c.tc : Thread Cert.GdnPrepBwdIdeal.nD Cert.GdnPrepBwdIdeal.τ).loc Cert.GdnPrepBwdIdeal.main_arg6)) (m ((c.tc : Thread Cert.GdnPrepBwdIdeal.nD Cert.GdnPrepBwdIdeal.τ).loc Cert.GdnPrepBwdIdeal.main_arg7))).2.2.2.1 = (fun _ => 1#1)
    ∧ (Cert.Pre_gdn_prep_finite.fn (F := Ideal) (m ((c.tc : Thread Cert.GdnPrepBwdIdeal.nD Cert.GdnPrepBwdIdeal.τ).loc Cert.GdnPrepBwdIdeal.main_arg0)) (m ((c.tc : Thread Cert.GdnPrepBwdIdeal.nD Cert.GdnPrepBwdIdeal.τ).loc Cert.GdnPrepBwdIdeal.main_arg1)) (m ((c.tc : Thread Cert.GdnPrepBwdIdeal.nD Cert.GdnPrepBwdIdeal.τ).loc Cert.GdnPrepBwdIdeal.main_arg2)) (m ((c.tc : Thread Cert.GdnPrepBwdIdeal.nD Cert.GdnPrepBwdIdeal.τ).loc Cert.GdnPrepBwdIdeal.main_arg3)) (m ((c.tc : Thread Cert.GdnPrepBwdIdeal.nD Cert.GdnPrepBwdIdeal.τ).loc Cert.GdnPrepBwdIdeal.main_arg4)) (m ((c.tc : Thread Cert.GdnPrepBwdIdeal.nD Cert.GdnPrepBwdIdeal.τ).loc Cert.GdnPrepBwdIdeal.main_arg5)) (m ((c.tc : Thread Cert.GdnPrepBwdIdeal.nD Cert.GdnPrepBwdIdeal.τ).loc Cert.GdnPrepBwdIdeal.main_arg6)) (m ((c.tc : Thread Cert.GdnPrepBwdIdeal.nD Cert.GdnPrepBwdIdeal.τ).loc Cert.GdnPrepBwdIdeal.main_arg7))).2.2.2.2.1 = (fun _ => 1#1)
    ∧ (Cert.Pre_gdn_prep_finite.fn (F := Ideal) (m ((c.tc : Thread Cert.GdnPrepBwdIdeal.nD Cert.GdnPrepBwdIdeal.τ).loc Cert.GdnPrepBwdIdeal.main_arg0)) (m ((c.tc : Thread Cert.GdnPrepBwdIdeal.nD Cert.GdnPrepBwdIdeal.τ).loc Cert.GdnPrepBwdIdeal.main_arg1)) (m ((c.tc : Thread Cert.GdnPrepBwdIdeal.nD Cert.GdnPrepBwdIdeal.τ).loc Cert.GdnPrepBwdIdeal.main_arg2)) (m ((c.tc : Thread Cert.GdnPrepBwdIdeal.nD Cert.GdnPrepBwdIdeal.τ).loc Cert.GdnPrepBwdIdeal.main_arg3)) (m ((c.tc : Thread Cert.GdnPrepBwdIdeal.nD Cert.GdnPrepBwdIdeal.τ).loc Cert.GdnPrepBwdIdeal.main_arg4)) (m ((c.tc : Thread Cert.GdnPrepBwdIdeal.nD Cert.GdnPrepBwdIdeal.τ).loc Cert.GdnPrepBwdIdeal.main_arg5)) (m ((c.tc : Thread Cert.GdnPrepBwdIdeal.nD Cert.GdnPrepBwdIdeal.τ).loc Cert.GdnPrepBwdIdeal.main_arg6)) (m ((c.tc : Thread Cert.GdnPrepBwdIdeal.nD Cert.GdnPrepBwdIdeal.τ).loc Cert.GdnPrepBwdIdeal.main_arg7))).2.2.2.2.2.1 = (fun _ => 1#1)
    ∧ (Cert.Pre_gdn_prep_finite.fn (F := Ideal) (m ((c.tc : Thread Cert.GdnPrepBwdIdeal.nD Cert.GdnPrepBwdIdeal.τ).loc Cert.GdnPrepBwdIdeal.main_arg0)) (m ((c.tc : Thread Cert.GdnPrepBwdIdeal.nD Cert.GdnPrepBwdIdeal.τ).loc Cert.GdnPrepBwdIdeal.main_arg1)) (m ((c.tc : Thread Cert.GdnPrepBwdIdeal.nD Cert.GdnPrepBwdIdeal.τ).loc Cert.GdnPrepBwdIdeal.main_arg2)) (m ((c.tc : Thread Cert.GdnPrepBwdIdeal.nD Cert.GdnPrepBwdIdeal.τ).loc Cert.GdnPrepBwdIdeal.main_arg3)) (m ((c.tc : Thread Cert.GdnPrepBwdIdeal.nD Cert.GdnPrepBwdIdeal.τ).loc Cert.GdnPrepBwdIdeal.main_arg4)) (m ((c.tc : Thread Cert.GdnPrepBwdIdeal.nD Cert.GdnPrepBwdIdeal.τ).loc Cert.GdnPrepBwdIdeal.main_arg5)) (m ((c.tc : Thread Cert.GdnPrepBwdIdeal.nD Cert.GdnPrepBwdIdeal.τ).loc Cert.GdnPrepBwdIdeal.main_arg6)) (m ((c.tc : Thread Cert.GdnPrepBwdIdeal.nD Cert.GdnPrepBwdIdeal.τ).loc Cert.GdnPrepBwdIdeal.main_arg7))).2.2.2.2.2.2.1 = (fun _ => 1#1)
    ∧ (Cert.Pre_gdn_prep_finite.fn (F := Ideal) (m ((c.tc : Thread Cert.GdnPrepBwdIdeal.nD Cert.GdnPrepBwdIdeal.τ).loc Cert.GdnPrepBwdIdeal.main_arg0)) (m ((c.tc : Thread Cert.GdnPrepBwdIdeal.nD Cert.GdnPrepBwdIdeal.τ).loc Cert.GdnPrepBwdIdeal.main_arg1)) (m ((c.tc : Thread Cert.GdnPrepBwdIdeal.nD Cert.GdnPrepBwdIdeal.τ).loc Cert.GdnPrepBwdIdeal.main_arg2)) (m ((c.tc : Thread Cert.GdnPrepBwdIdeal.nD Cert.GdnPrepBwdIdeal.τ).loc Cert.GdnPrepBwdIdeal.main_arg3)) (m ((c.tc : Thread Cert.GdnPrepBwdIdeal.nD Cert.GdnPrepBwdIdeal.τ).loc Cert.GdnPrepBwdIdeal.main_arg4)) (m ((c.tc : Thread Cert.GdnPrepBwdIdeal.nD Cert.GdnPrepBwdIdeal.τ).loc Cert.GdnPrepBwdIdeal.main_arg5)) (m ((c.tc : Thread Cert.GdnPrepBwdIdeal.nD Cert.GdnPrepBwdIdeal.τ).loc Cert.GdnPrepBwdIdeal.main_arg6)) (m ((c.tc : Thread Cert.GdnPrepBwdIdeal.nD Cert.GdnPrepBwdIdeal.τ).loc Cert.GdnPrepBwdIdeal.main_arg7))).2.2.2.2.2.2.2 = (fun _ => 1#1)

def Pre_GdnPrepRefIdeal (m : (ℓ : Loc Cert.GdnPrepRefIdeal.nD Cert.GdnPrepRefIdeal.τ Cert.GdnPrepRefIdeal.sig) → Buf (Elt Ideal) ℓ) : Prop :=
  True

def Pre_GdnPrepRefIdeal_gdn_prep_finite [hPre_gdn_prep_finite : Cert.Pre_gdn_prep_finite.Facts] (m : (ℓ : Loc Cert.GdnPrepRefIdeal.nD Cert.GdnPrepRefIdeal.τ Cert.GdnPrepRefIdeal.sig) → Buf (Elt Ideal) ℓ) : Prop :=
  ∀ c : Dev Cert.GdnPrepRefIdeal.nD,
    (Cert.Pre_gdn_prep_finite.fn (F := Ideal) (m ((c.tc : Thread Cert.GdnPrepRefIdeal.nD Cert.GdnPrepRefIdeal.τ).loc Cert.GdnPrepRefIdeal.main_arg0)) (m ((c.tc : Thread Cert.GdnPrepRefIdeal.nD Cert.GdnPrepRefIdeal.τ).loc Cert.GdnPrepRefIdeal.main_arg1)) (m ((c.tc : Thread Cert.GdnPrepRefIdeal.nD Cert.GdnPrepRefIdeal.τ).loc Cert.GdnPrepRefIdeal.main_arg2)) (m ((c.tc : Thread Cert.GdnPrepRefIdeal.nD Cert.GdnPrepRefIdeal.τ).loc Cert.GdnPrepRefIdeal.main_arg3)) (m ((c.tc : Thread Cert.GdnPrepRefIdeal.nD Cert.GdnPrepRefIdeal.τ).loc Cert.GdnPrepRefIdeal.main_arg4)) (m ((c.tc : Thread Cert.GdnPrepRefIdeal.nD Cert.GdnPrepRefIdeal.τ).loc Cert.GdnPrepRefIdeal.main_arg5)) (m ((c.tc : Thread Cert.GdnPrepRefIdeal.nD Cert.GdnPrepRefIdeal.τ).loc Cert.GdnPrepRefIdeal.main_arg6)) (m ((c.tc : Thread Cert.GdnPrepRefIdeal.nD Cert.GdnPrepRefIdeal.τ).loc Cert.GdnPrepRefIdeal.main_arg7))).1 = (fun _ => 1#1)
    ∧ (Cert.Pre_gdn_prep_finite.fn (F := Ideal) (m ((c.tc : Thread Cert.GdnPrepRefIdeal.nD Cert.GdnPrepRefIdeal.τ).loc Cert.GdnPrepRefIdeal.main_arg0)) (m ((c.tc : Thread Cert.GdnPrepRefIdeal.nD Cert.GdnPrepRefIdeal.τ).loc Cert.GdnPrepRefIdeal.main_arg1)) (m ((c.tc : Thread Cert.GdnPrepRefIdeal.nD Cert.GdnPrepRefIdeal.τ).loc Cert.GdnPrepRefIdeal.main_arg2)) (m ((c.tc : Thread Cert.GdnPrepRefIdeal.nD Cert.GdnPrepRefIdeal.τ).loc Cert.GdnPrepRefIdeal.main_arg3)) (m ((c.tc : Thread Cert.GdnPrepRefIdeal.nD Cert.GdnPrepRefIdeal.τ).loc Cert.GdnPrepRefIdeal.main_arg4)) (m ((c.tc : Thread Cert.GdnPrepRefIdeal.nD Cert.GdnPrepRefIdeal.τ).loc Cert.GdnPrepRefIdeal.main_arg5)) (m ((c.tc : Thread Cert.GdnPrepRefIdeal.nD Cert.GdnPrepRefIdeal.τ).loc Cert.GdnPrepRefIdeal.main_arg6)) (m ((c.tc : Thread Cert.GdnPrepRefIdeal.nD Cert.GdnPrepRefIdeal.τ).loc Cert.GdnPrepRefIdeal.main_arg7))).2.1 = (fun _ => 1#1)
    ∧ (Cert.Pre_gdn_prep_finite.fn (F := Ideal) (m ((c.tc : Thread Cert.GdnPrepRefIdeal.nD Cert.GdnPrepRefIdeal.τ).loc Cert.GdnPrepRefIdeal.main_arg0)) (m ((c.tc : Thread Cert.GdnPrepRefIdeal.nD Cert.GdnPrepRefIdeal.τ).loc Cert.GdnPrepRefIdeal.main_arg1)) (m ((c.tc : Thread Cert.GdnPrepRefIdeal.nD Cert.GdnPrepRefIdeal.τ).loc Cert.GdnPrepRefIdeal.main_arg2)) (m ((c.tc : Thread Cert.GdnPrepRefIdeal.nD Cert.GdnPrepRefIdeal.τ).loc Cert.GdnPrepRefIdeal.main_arg3)) (m ((c.tc : Thread Cert.GdnPrepRefIdeal.nD Cert.GdnPrepRefIdeal.τ).loc Cert.GdnPrepRefIdeal.main_arg4)) (m ((c.tc : Thread Cert.GdnPrepRefIdeal.nD Cert.GdnPrepRefIdeal.τ).loc Cert.GdnPrepRefIdeal.main_arg5)) (m ((c.tc : Thread Cert.GdnPrepRefIdeal.nD Cert.GdnPrepRefIdeal.τ).loc Cert.GdnPrepRefIdeal.main_arg6)) (m ((c.tc : Thread Cert.GdnPrepRefIdeal.nD Cert.GdnPrepRefIdeal.τ).loc Cert.GdnPrepRefIdeal.main_arg7))).2.2.1 = (fun _ => 1#1)
    ∧ (Cert.Pre_gdn_prep_finite.fn (F := Ideal) (m ((c.tc : Thread Cert.GdnPrepRefIdeal.nD Cert.GdnPrepRefIdeal.τ).loc Cert.GdnPrepRefIdeal.main_arg0)) (m ((c.tc : Thread Cert.GdnPrepRefIdeal.nD Cert.GdnPrepRefIdeal.τ).loc Cert.GdnPrepRefIdeal.main_arg1)) (m ((c.tc : Thread Cert.GdnPrepRefIdeal.nD Cert.GdnPrepRefIdeal.τ).loc Cert.GdnPrepRefIdeal.main_arg2)) (m ((c.tc : Thread Cert.GdnPrepRefIdeal.nD Cert.GdnPrepRefIdeal.τ).loc Cert.GdnPrepRefIdeal.main_arg3)) (m ((c.tc : Thread Cert.GdnPrepRefIdeal.nD Cert.GdnPrepRefIdeal.τ).loc Cert.GdnPrepRefIdeal.main_arg4)) (m ((c.tc : Thread Cert.GdnPrepRefIdeal.nD Cert.GdnPrepRefIdeal.τ).loc Cert.GdnPrepRefIdeal.main_arg5)) (m ((c.tc : Thread Cert.GdnPrepRefIdeal.nD Cert.GdnPrepRefIdeal.τ).loc Cert.GdnPrepRefIdeal.main_arg6)) (m ((c.tc : Thread Cert.GdnPrepRefIdeal.nD Cert.GdnPrepRefIdeal.τ).loc Cert.GdnPrepRefIdeal.main_arg7))).2.2.2.1 = (fun _ => 1#1)
    ∧ (Cert.Pre_gdn_prep_finite.fn (F := Ideal) (m ((c.tc : Thread Cert.GdnPrepRefIdeal.nD Cert.GdnPrepRefIdeal.τ).loc Cert.GdnPrepRefIdeal.main_arg0)) (m ((c.tc : Thread Cert.GdnPrepRefIdeal.nD Cert.GdnPrepRefIdeal.τ).loc Cert.GdnPrepRefIdeal.main_arg1)) (m ((c.tc : Thread Cert.GdnPrepRefIdeal.nD Cert.GdnPrepRefIdeal.τ).loc Cert.GdnPrepRefIdeal.main_arg2)) (m ((c.tc : Thread Cert.GdnPrepRefIdeal.nD Cert.GdnPrepRefIdeal.τ).loc Cert.GdnPrepRefIdeal.main_arg3)) (m ((c.tc : Thread Cert.GdnPrepRefIdeal.nD Cert.GdnPrepRefIdeal.τ).loc Cert.GdnPrepRefIdeal.main_arg4)) (m ((c.tc : Thread Cert.GdnPrepRefIdeal.nD Cert.GdnPrepRefIdeal.τ).loc Cert.GdnPrepRefIdeal.main_arg5)) (m ((c.tc : Thread Cert.GdnPrepRefIdeal.nD Cert.GdnPrepRefIdeal.τ).loc Cert.GdnPrepRefIdeal.main_arg6)) (m ((c.tc : Thread Cert.GdnPrepRefIdeal.nD Cert.GdnPrepRefIdeal.τ).loc Cert.GdnPrepRefIdeal.main_arg7))).2.2.2.2.1 = (fun _ => 1#1)
    ∧ (Cert.Pre_gdn_prep_finite.fn (F := Ideal) (m ((c.tc : Thread Cert.GdnPrepRefIdeal.nD Cert.GdnPrepRefIdeal.τ).loc Cert.GdnPrepRefIdeal.main_arg0)) (m ((c.tc : Thread Cert.GdnPrepRefIdeal.nD Cert.GdnPrepRefIdeal.τ).loc Cert.GdnPrepRefIdeal.main_arg1)) (m ((c.tc : Thread Cert.GdnPrepRefIdeal.nD Cert.GdnPrepRefIdeal.τ).loc Cert.GdnPrepRefIdeal.main_arg2)) (m ((c.tc : Thread Cert.GdnPrepRefIdeal.nD Cert.GdnPrepRefIdeal.τ).loc Cert.GdnPrepRefIdeal.main_arg3)) (m ((c.tc : Thread Cert.GdnPrepRefIdeal.nD Cert.GdnPrepRefIdeal.τ).loc Cert.GdnPrepRefIdeal.main_arg4)) (m ((c.tc : Thread Cert.GdnPrepRefIdeal.nD Cert.GdnPrepRefIdeal.τ).loc Cert.GdnPrepRefIdeal.main_arg5)) (m ((c.tc : Thread Cert.GdnPrepRefIdeal.nD Cert.GdnPrepRefIdeal.τ).loc Cert.GdnPrepRefIdeal.main_arg6)) (m ((c.tc : Thread Cert.GdnPrepRefIdeal.nD Cert.GdnPrepRefIdeal.τ).loc Cert.GdnPrepRefIdeal.main_arg7))).2.2.2.2.2.1 = (fun _ => 1#1)
    ∧ (Cert.Pre_gdn_prep_finite.fn (F := Ideal) (m ((c.tc : Thread Cert.GdnPrepRefIdeal.nD Cert.GdnPrepRefIdeal.τ).loc Cert.GdnPrepRefIdeal.main_arg0)) (m ((c.tc : Thread Cert.GdnPrepRefIdeal.nD Cert.GdnPrepRefIdeal.τ).loc Cert.GdnPrepRefIdeal.main_arg1)) (m ((c.tc : Thread Cert.GdnPrepRefIdeal.nD Cert.GdnPrepRefIdeal.τ).loc Cert.GdnPrepRefIdeal.main_arg2)) (m ((c.tc : Thread Cert.GdnPrepRefIdeal.nD Cert.GdnPrepRefIdeal.τ).loc Cert.GdnPrepRefIdeal.main_arg3)) (m ((c.tc : Thread Cert.GdnPrepRefIdeal.nD Cert.GdnPrepRefIdeal.τ).loc Cert.GdnPrepRefIdeal.main_arg4)) (m ((c.tc : Thread Cert.GdnPrepRefIdeal.nD Cert.GdnPrepRefIdeal.τ).loc Cert.GdnPrepRefIdeal.main_arg5)) (m ((c.tc : Thread Cert.GdnPrepRefIdeal.nD Cert.GdnPrepRefIdeal.τ).loc Cert.GdnPrepRefIdeal.main_arg6)) (m ((c.tc : Thread Cert.GdnPrepRefIdeal.nD Cert.GdnPrepRefIdeal.τ).loc Cert.GdnPrepRefIdeal.main_arg7))).2.2.2.2.2.2.1 = (fun _ => 1#1)
    ∧ (Cert.Pre_gdn_prep_finite.fn (F := Ideal) (m ((c.tc : Thread Cert.GdnPrepRefIdeal.nD Cert.GdnPrepRefIdeal.τ).loc Cert.GdnPrepRefIdeal.main_arg0)) (m ((c.tc : Thread Cert.GdnPrepRefIdeal.nD Cert.GdnPrepRefIdeal.τ).loc Cert.GdnPrepRefIdeal.main_arg1)) (m ((c.tc : Thread Cert.GdnPrepRefIdeal.nD Cert.GdnPrepRefIdeal.τ).loc Cert.GdnPrepRefIdeal.main_arg2)) (m ((c.tc : Thread Cert.GdnPrepRefIdeal.nD Cert.GdnPrepRefIdeal.τ).loc Cert.GdnPrepRefIdeal.main_arg3)) (m ((c.tc : Thread Cert.GdnPrepRefIdeal.nD Cert.GdnPrepRefIdeal.τ).loc Cert.GdnPrepRefIdeal.main_arg4)) (m ((c.tc : Thread Cert.GdnPrepRefIdeal.nD Cert.GdnPrepRefIdeal.τ).loc Cert.GdnPrepRefIdeal.main_arg5)) (m ((c.tc : Thread Cert.GdnPrepRefIdeal.nD Cert.GdnPrepRefIdeal.τ).loc Cert.GdnPrepRefIdeal.main_arg6)) (m ((c.tc : Thread Cert.GdnPrepRefIdeal.nD Cert.GdnPrepRefIdeal.τ).loc Cert.GdnPrepRefIdeal.main_arg7))).2.2.2.2.2.2.2 = (fun _ => 1#1)

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_in_proj_finite [hPre_in_proj_finite : Cert.Pre_in_proj_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8))).1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8))).2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8))).2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8))).2.2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8))).2.2.2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8))).2.2.2.2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8))).2.2.2.2.2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8))).2.2.2.2.2.2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8))).2.2.2.2.2.2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_proj_finite [hPre_in_proj_finite : Cert.Pre_in_proj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.2.2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.2.2.2.2 = (fun _ => 1#1)

def Pre_OutProjBwd (m : (ℓ : Loc Cert.OutProjBwd.nD Cert.OutProjBwd.τ Cert.OutProjBwd.sig) → Buf (Elt Bits) ℓ) : Prop :=
  True

def Pre_OutProjBwdIdeal (m : (ℓ : Loc Cert.OutProjBwdIdeal.nD Cert.OutProjBwdIdeal.τ Cert.OutProjBwdIdeal.sig) → Buf (Elt Ideal) ℓ) : Prop :=
  True

def Pre_OutProjBwdIdeal_out_proj_finite [hPre_out_proj_finite : Cert.Pre_out_proj_finite.Facts] (m : (ℓ : Loc Cert.OutProjBwdIdeal.nD Cert.OutProjBwdIdeal.τ Cert.OutProjBwdIdeal.sig) → Buf (Elt Ideal) ℓ) : Prop :=
  ∀ c : Dev Cert.OutProjBwdIdeal.nD,
    (Cert.Pre_out_proj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5)) (m ((c.tc : Thread Cert.OutProjBwdIdeal.nD Cert.OutProjBwdIdeal.τ).loc Cert.OutProjBwdIdeal.main_arg6)) (m ((c.tc : Thread Cert.OutProjBwdIdeal.nD Cert.OutProjBwdIdeal.τ).loc Cert.OutProjBwdIdeal.main_arg7)) (m ((c.tc : Thread Cert.OutProjBwdIdeal.nD Cert.OutProjBwdIdeal.τ).loc Cert.OutProjBwdIdeal.main_arg8))).1 = (fun _ => 1#1)
    ∧ (Cert.Pre_out_proj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5)) (m ((c.tc : Thread Cert.OutProjBwdIdeal.nD Cert.OutProjBwdIdeal.τ).loc Cert.OutProjBwdIdeal.main_arg6)) (m ((c.tc : Thread Cert.OutProjBwdIdeal.nD Cert.OutProjBwdIdeal.τ).loc Cert.OutProjBwdIdeal.main_arg7)) (m ((c.tc : Thread Cert.OutProjBwdIdeal.nD Cert.OutProjBwdIdeal.τ).loc Cert.OutProjBwdIdeal.main_arg8))).2.1 = (fun _ => 1#1)
    ∧ (Cert.Pre_out_proj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5)) (m ((c.tc : Thread Cert.OutProjBwdIdeal.nD Cert.OutProjBwdIdeal.τ).loc Cert.OutProjBwdIdeal.main_arg6)) (m ((c.tc : Thread Cert.OutProjBwdIdeal.nD Cert.OutProjBwdIdeal.τ).loc Cert.OutProjBwdIdeal.main_arg7)) (m ((c.tc : Thread Cert.OutProjBwdIdeal.nD Cert.OutProjBwdIdeal.τ).loc Cert.OutProjBwdIdeal.main_arg8))).2.2.1 = (fun _ => 1#1)
    ∧ (Cert.Pre_out_proj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5)) (m ((c.tc : Thread Cert.OutProjBwdIdeal.nD Cert.OutProjBwdIdeal.τ).loc Cert.OutProjBwdIdeal.main_arg6)) (m ((c.tc : Thread Cert.OutProjBwdIdeal.nD Cert.OutProjBwdIdeal.τ).loc Cert.OutProjBwdIdeal.main_arg7)) (m ((c.tc : Thread Cert.OutProjBwdIdeal.nD Cert.OutProjBwdIdeal.τ).loc Cert.OutProjBwdIdeal.main_arg8))).2.2.2.1 = (fun _ => 1#1)
    ∧ (Cert.Pre_out_proj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5)) (m ((c.tc : Thread Cert.OutProjBwdIdeal.nD Cert.OutProjBwdIdeal.τ).loc Cert.OutProjBwdIdeal.main_arg6)) (m ((c.tc : Thread Cert.OutProjBwdIdeal.nD Cert.OutProjBwdIdeal.τ).loc Cert.OutProjBwdIdeal.main_arg7)) (m ((c.tc : Thread Cert.OutProjBwdIdeal.nD Cert.OutProjBwdIdeal.τ).loc Cert.OutProjBwdIdeal.main_arg8))).2.2.2.2.1 = (fun _ => 1#1)
    ∧ (Cert.Pre_out_proj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5)) (m ((c.tc : Thread Cert.OutProjBwdIdeal.nD Cert.OutProjBwdIdeal.τ).loc Cert.OutProjBwdIdeal.main_arg6)) (m ((c.tc : Thread Cert.OutProjBwdIdeal.nD Cert.OutProjBwdIdeal.τ).loc Cert.OutProjBwdIdeal.main_arg7)) (m ((c.tc : Thread Cert.OutProjBwdIdeal.nD Cert.OutProjBwdIdeal.τ).loc Cert.OutProjBwdIdeal.main_arg8))).2.2.2.2.2.1 = (fun _ => 1#1)
    ∧ (Cert.Pre_out_proj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5)) (m ((c.tc : Thread Cert.OutProjBwdIdeal.nD Cert.OutProjBwdIdeal.τ).loc Cert.OutProjBwdIdeal.main_arg6)) (m ((c.tc : Thread Cert.OutProjBwdIdeal.nD Cert.OutProjBwdIdeal.τ).loc Cert.OutProjBwdIdeal.main_arg7)) (m ((c.tc : Thread Cert.OutProjBwdIdeal.nD Cert.OutProjBwdIdeal.τ).loc Cert.OutProjBwdIdeal.main_arg8))).2.2.2.2.2.2.1 = (fun _ => 1#1)
    ∧ (Cert.Pre_out_proj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5)) (m ((c.tc : Thread Cert.OutProjBwdIdeal.nD Cert.OutProjBwdIdeal.τ).loc Cert.OutProjBwdIdeal.main_arg6)) (m ((c.tc : Thread Cert.OutProjBwdIdeal.nD Cert.OutProjBwdIdeal.τ).loc Cert.OutProjBwdIdeal.main_arg7)) (m ((c.tc : Thread Cert.OutProjBwdIdeal.nD Cert.OutProjBwdIdeal.τ).loc Cert.OutProjBwdIdeal.main_arg8))).2.2.2.2.2.2.2.1 = (fun _ => 1#1)
    ∧ (Cert.Pre_out_proj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5)) (m ((c.tc : Thread Cert.OutProjBwdIdeal.nD Cert.OutProjBwdIdeal.τ).loc Cert.OutProjBwdIdeal.main_arg6)) (m ((c.tc : Thread Cert.OutProjBwdIdeal.nD Cert.OutProjBwdIdeal.τ).loc Cert.OutProjBwdIdeal.main_arg7)) (m ((c.tc : Thread Cert.OutProjBwdIdeal.nD Cert.OutProjBwdIdeal.τ).loc Cert.OutProjBwdIdeal.main_arg8))).2.2.2.2.2.2.2.2 = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_out_proj_finite [hPre_out_proj_finite : Cert.Pre_out_proj_finite.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8))).1 = (fun _ => 1#1)
    ∧ (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8))).2.1 = (fun _ => 1#1)
    ∧ (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8))).2.2.1 = (fun _ => 1#1)
    ∧ (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8))).2.2.2.1 = (fun _ => 1#1)
    ∧ (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8))).2.2.2.2.1 = (fun _ => 1#1)
    ∧ (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8))).2.2.2.2.2.1 = (fun _ => 1#1)
    ∧ (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8))).2.2.2.2.2.2.1 = (fun _ => 1#1)
    ∧ (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8))).2.2.2.2.2.2.2.1 = (fun _ => 1#1)
    ∧ (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8))).2.2.2.2.2.2.2.2 = (fun _ => 1#1)

def Pre_FfnInBwd (m : (ℓ : Loc Cert.FfnInBwd.nD Cert.FfnInBwd.τ Cert.FfnInBwd.sig) → Buf (Elt Bits) ℓ) : Prop :=
  True

def Pre_FfnInBwdIdeal (m : (ℓ : Loc Cert.FfnInBwdIdeal.nD Cert.FfnInBwdIdeal.τ Cert.FfnInBwdIdeal.sig) → Buf (Elt Ideal) ℓ) : Prop :=
  True

def Pre_FfnInBwdIdeal_ffn_in_finite [hPre_ffn_in_finite : Cert.Pre_ffn_in_finite.Facts] (m : (ℓ : Loc Cert.FfnInBwdIdeal.nD Cert.FfnInBwdIdeal.τ Cert.FfnInBwdIdeal.sig) → Buf (Elt Ideal) ℓ) : Prop :=
  ∀ c : Dev Cert.FfnInBwdIdeal.nD,
    (Cert.Pre_ffn_in_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6))).1 = (fun _ => 1#1)
    ∧ (Cert.Pre_ffn_in_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6))).2.1 = (fun _ => 1#1)
    ∧ (Cert.Pre_ffn_in_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6))).2.2.1 = (fun _ => 1#1)
    ∧ (Cert.Pre_ffn_in_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6))).2.2.2.1 = (fun _ => 1#1)
    ∧ (Cert.Pre_ffn_in_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6))).2.2.2.2.1 = (fun _ => 1#1)
    ∧ (Cert.Pre_ffn_in_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6))).2.2.2.2.2.1 = (fun _ => 1#1)
    ∧ (Cert.Pre_ffn_in_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6))).2.2.2.2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.2.2 = (fun _ => 1#1)

def Pre_FfnHiddenBwd (m : (ℓ : Loc Cert.FfnHiddenBwd.nD Cert.FfnHiddenBwd.τ Cert.FfnHiddenBwd.sig) → Buf (Elt Bits) ℓ) : Prop :=
  True

def Pre_FfnHiddenBwdIdeal (m : (ℓ : Loc Cert.FfnHiddenBwdIdeal.nD Cert.FfnHiddenBwdIdeal.τ Cert.FfnHiddenBwdIdeal.sig) → Buf (Elt Ideal) ℓ) : Prop :=
  True

def Pre_FfnHiddenBwdIdeal_ffn_hidden_finite [hPre_ffn_hidden_finite : Cert.Pre_ffn_hidden_finite.Facts] (m : (ℓ : Loc Cert.FfnHiddenBwdIdeal.nD Cert.FfnHiddenBwdIdeal.τ Cert.FfnHiddenBwdIdeal.sig) → Buf (Elt Ideal) ℓ) : Prop :=
  ∀ c : Dev Cert.FfnHiddenBwdIdeal.nD,
    (Cert.Pre_ffn_hidden_finite.fn (F := Ideal) (m ((c.tc : Thread Cert.FfnHiddenBwdIdeal.nD Cert.FfnHiddenBwdIdeal.τ).loc Cert.FfnHiddenBwdIdeal.main_arg0)) (m ((c.tc : Thread Cert.FfnHiddenBwdIdeal.nD Cert.FfnHiddenBwdIdeal.τ).loc Cert.FfnHiddenBwdIdeal.main_arg1)) (m ((c.tc : Thread Cert.FfnHiddenBwdIdeal.nD Cert.FfnHiddenBwdIdeal.τ).loc Cert.FfnHiddenBwdIdeal.main_arg2)) (m ((c.tc : Thread Cert.FfnHiddenBwdIdeal.nD Cert.FfnHiddenBwdIdeal.τ).loc Cert.FfnHiddenBwdIdeal.main_arg3)) (m ((c.tc : Thread Cert.FfnHiddenBwdIdeal.nD Cert.FfnHiddenBwdIdeal.τ).loc Cert.FfnHiddenBwdIdeal.main_arg4)) (m ((c.tc : Thread Cert.FfnHiddenBwdIdeal.nD Cert.FfnHiddenBwdIdeal.τ).loc Cert.FfnHiddenBwdIdeal.main_arg5))).1 = (fun _ => 1#1)
    ∧ (Cert.Pre_ffn_hidden_finite.fn (F := Ideal) (m ((c.tc : Thread Cert.FfnHiddenBwdIdeal.nD Cert.FfnHiddenBwdIdeal.τ).loc Cert.FfnHiddenBwdIdeal.main_arg0)) (m ((c.tc : Thread Cert.FfnHiddenBwdIdeal.nD Cert.FfnHiddenBwdIdeal.τ).loc Cert.FfnHiddenBwdIdeal.main_arg1)) (m ((c.tc : Thread Cert.FfnHiddenBwdIdeal.nD Cert.FfnHiddenBwdIdeal.τ).loc Cert.FfnHiddenBwdIdeal.main_arg2)) (m ((c.tc : Thread Cert.FfnHiddenBwdIdeal.nD Cert.FfnHiddenBwdIdeal.τ).loc Cert.FfnHiddenBwdIdeal.main_arg3)) (m ((c.tc : Thread Cert.FfnHiddenBwdIdeal.nD Cert.FfnHiddenBwdIdeal.τ).loc Cert.FfnHiddenBwdIdeal.main_arg4)) (m ((c.tc : Thread Cert.FfnHiddenBwdIdeal.nD Cert.FfnHiddenBwdIdeal.τ).loc Cert.FfnHiddenBwdIdeal.main_arg5))).2.1 = (fun _ => 1#1)
    ∧ (Cert.Pre_ffn_hidden_finite.fn (F := Ideal) (m ((c.tc : Thread Cert.FfnHiddenBwdIdeal.nD Cert.FfnHiddenBwdIdeal.τ).loc Cert.FfnHiddenBwdIdeal.main_arg0)) (m ((c.tc : Thread Cert.FfnHiddenBwdIdeal.nD Cert.FfnHiddenBwdIdeal.τ).loc Cert.FfnHiddenBwdIdeal.main_arg1)) (m ((c.tc : Thread Cert.FfnHiddenBwdIdeal.nD Cert.FfnHiddenBwdIdeal.τ).loc Cert.FfnHiddenBwdIdeal.main_arg2)) (m ((c.tc : Thread Cert.FfnHiddenBwdIdeal.nD Cert.FfnHiddenBwdIdeal.τ).loc Cert.FfnHiddenBwdIdeal.main_arg3)) (m ((c.tc : Thread Cert.FfnHiddenBwdIdeal.nD Cert.FfnHiddenBwdIdeal.τ).loc Cert.FfnHiddenBwdIdeal.main_arg4)) (m ((c.tc : Thread Cert.FfnHiddenBwdIdeal.nD Cert.FfnHiddenBwdIdeal.τ).loc Cert.FfnHiddenBwdIdeal.main_arg5))).2.2.1 = (fun _ => 1#1)
    ∧ (Cert.Pre_ffn_hidden_finite.fn (F := Ideal) (m ((c.tc : Thread Cert.FfnHiddenBwdIdeal.nD Cert.FfnHiddenBwdIdeal.τ).loc Cert.FfnHiddenBwdIdeal.main_arg0)) (m ((c.tc : Thread Cert.FfnHiddenBwdIdeal.nD Cert.FfnHiddenBwdIdeal.τ).loc Cert.FfnHiddenBwdIdeal.main_arg1)) (m ((c.tc : Thread Cert.FfnHiddenBwdIdeal.nD Cert.FfnHiddenBwdIdeal.τ).loc Cert.FfnHiddenBwdIdeal.main_arg2)) (m ((c.tc : Thread Cert.FfnHiddenBwdIdeal.nD Cert.FfnHiddenBwdIdeal.τ).loc Cert.FfnHiddenBwdIdeal.main_arg3)) (m ((c.tc : Thread Cert.FfnHiddenBwdIdeal.nD Cert.FfnHiddenBwdIdeal.τ).loc Cert.FfnHiddenBwdIdeal.main_arg4)) (m ((c.tc : Thread Cert.FfnHiddenBwdIdeal.nD Cert.FfnHiddenBwdIdeal.τ).loc Cert.FfnHiddenBwdIdeal.main_arg5))).2.2.2.1 = (fun _ => 1#1)
    ∧ (Cert.Pre_ffn_hidden_finite.fn (F := Ideal) (m ((c.tc : Thread Cert.FfnHiddenBwdIdeal.nD Cert.FfnHiddenBwdIdeal.τ).loc Cert.FfnHiddenBwdIdeal.main_arg0)) (m ((c.tc : Thread Cert.FfnHiddenBwdIdeal.nD Cert.FfnHiddenBwdIdeal.τ).loc Cert.FfnHiddenBwdIdeal.main_arg1)) (m ((c.tc : Thread Cert.FfnHiddenBwdIdeal.nD Cert.FfnHiddenBwdIdeal.τ).loc Cert.FfnHiddenBwdIdeal.main_arg2)) (m ((c.tc : Thread Cert.FfnHiddenBwdIdeal.nD Cert.FfnHiddenBwdIdeal.τ).loc Cert.FfnHiddenBwdIdeal.main_arg3)) (m ((c.tc : Thread Cert.FfnHiddenBwdIdeal.nD Cert.FfnHiddenBwdIdeal.τ).loc Cert.FfnHiddenBwdIdeal.main_arg4)) (m ((c.tc : Thread Cert.FfnHiddenBwdIdeal.nD Cert.FfnHiddenBwdIdeal.τ).loc Cert.FfnHiddenBwdIdeal.main_arg5))).2.2.2.2.1 = (fun _ => 1#1)
    ∧ (Cert.Pre_ffn_hidden_finite.fn (F := Ideal) (m ((c.tc : Thread Cert.FfnHiddenBwdIdeal.nD Cert.FfnHiddenBwdIdeal.τ).loc Cert.FfnHiddenBwdIdeal.main_arg0)) (m ((c.tc : Thread Cert.FfnHiddenBwdIdeal.nD Cert.FfnHiddenBwdIdeal.τ).loc Cert.FfnHiddenBwdIdeal.main_arg1)) (m ((c.tc : Thread Cert.FfnHiddenBwdIdeal.nD Cert.FfnHiddenBwdIdeal.τ).loc Cert.FfnHiddenBwdIdeal.main_arg2)) (m ((c.tc : Thread Cert.FfnHiddenBwdIdeal.nD Cert.FfnHiddenBwdIdeal.τ).loc Cert.FfnHiddenBwdIdeal.main_arg3)) (m ((c.tc : Thread Cert.FfnHiddenBwdIdeal.nD Cert.FfnHiddenBwdIdeal.τ).loc Cert.FfnHiddenBwdIdeal.main_arg4)) (m ((c.tc : Thread Cert.FfnHiddenBwdIdeal.nD Cert.FfnHiddenBwdIdeal.τ).loc Cert.FfnHiddenBwdIdeal.main_arg5))).2.2.2.2.2 = (fun _ => 1#1)

def Pre_FfnHiddenRefIdeal (m : (ℓ : Loc Cert.FfnHiddenRefIdeal.nD Cert.FfnHiddenRefIdeal.τ Cert.FfnHiddenRefIdeal.sig) → Buf (Elt Ideal) ℓ) : Prop :=
  True

def Pre_FfnHiddenRefIdeal_ffn_hidden_finite [hPre_ffn_hidden_finite : Cert.Pre_ffn_hidden_finite.Facts] (m : (ℓ : Loc Cert.FfnHiddenRefIdeal.nD Cert.FfnHiddenRefIdeal.τ Cert.FfnHiddenRefIdeal.sig) → Buf (Elt Ideal) ℓ) : Prop :=
  ∀ c : Dev Cert.FfnHiddenRefIdeal.nD,
    (Cert.Pre_ffn_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).1 = (fun _ => 1#1)
    ∧ (Cert.Pre_ffn_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).2.1 = (fun _ => 1#1)
    ∧ (Cert.Pre_ffn_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).2.2.1 = (fun _ => 1#1)
    ∧ (Cert.Pre_ffn_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).2.2.2.1 = (fun _ => 1#1)
    ∧ (Cert.Pre_ffn_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).2.2.2.2.1 = (fun _ => 1#1)
    ∧ (Cert.Pre_ffn_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).2.2.2.2.2 = (fun _ => 1#1)

def Pre_RgGatesBwd (m : (ℓ : Loc Cert.RgGatesBwd.nD Cert.RgGatesBwd.τ Cert.RgGatesBwd.sig) → Buf (Elt Bits) ℓ) : Prop :=
  True

def Pre_RgGatesBwdIdeal (m : (ℓ : Loc Cert.RgGatesBwdIdeal.nD Cert.RgGatesBwdIdeal.τ Cert.RgGatesBwdIdeal.sig) → Buf (Elt Ideal) ℓ) : Prop :=
  True

def Pre_RgConvFwd (m : (ℓ : Loc Cert.RgConvFwd.nD Cert.RgConvFwd.τ Cert.RgConvFwd.sig) → Buf (Elt Bits) ℓ) : Prop :=
  True

def Pre_RgConvFwdIdeal (m : (ℓ : Loc Cert.RgConvFwdIdeal.nD Cert.RgConvFwdIdeal.τ Cert.RgConvFwdIdeal.sig) → Buf (Elt Ideal) ℓ) : Prop :=
  True

def Pre_RgConvFwdRefIdeal (m : (ℓ : Loc Cert.RgConvFwdRefIdeal.nD Cert.RgConvFwdRefIdeal.τ Cert.RgConvFwdRefIdeal.sig) → Buf (Elt Ideal) ℓ) : Prop :=
  True

def Pre_GdnConvFwd (m : (ℓ : Loc Cert.GdnConvFwd.nD Cert.GdnConvFwd.τ Cert.GdnConvFwd.sig) → Buf (Elt Bits) ℓ) : Prop :=
  True

def Pre_GdnConvFwdIdeal (m : (ℓ : Loc Cert.GdnConvFwdIdeal.nD Cert.GdnConvFwdIdeal.τ Cert.GdnConvFwdIdeal.sig) → Buf (Elt Ideal) ℓ) : Prop :=
  True

def Pre_GdnConvFwdRefIdeal (m : (ℓ : Loc Cert.GdnConvFwdRefIdeal.nD Cert.GdnConvFwdRefIdeal.τ Cert.GdnConvFwdRefIdeal.sig) → Buf (Elt Ideal) ℓ) : Prop :=
  True

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdRefIdeal (m : (ℓ : Loc Cert.InProjFwdRefIdeal.nD Cert.InProjFwdRefIdeal.τ Cert.InProjFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_OutProjFwd (m : (ℓ : Loc Cert.OutProjFwd.nD Cert.OutProjFwd.τ Cert.OutProjFwd.sig) → Buf (Elt Bits) ℓ) : Prop :=
  True

def Pre_OutProjFwdIdeal (m : (ℓ : Loc Cert.OutProjFwdIdeal.nD Cert.OutProjFwdIdeal.τ Cert.OutProjFwdIdeal.sig) → Buf (Elt Ideal) ℓ) : Prop :=
  True

def Pre_OutProjFwdRefIdeal (m : (ℓ : Loc Cert.OutProjFwdRefIdeal.nD Cert.OutProjFwdRefIdeal.τ Cert.OutProjFwdRefIdeal.sig) → Buf (Elt Ideal) ℓ) : Prop :=
  True

def Pre_GdnSeqFwd (m : (ℓ : Loc Cert.GdnSeqFwd.nD Cert.GdnSeqFwd.τ Cert.GdnSeqFwd.sig) → Buf (Elt Bits) ℓ) : Prop :=
  True

def Pre_GdnSeqFwdIdeal (m : (ℓ : Loc Cert.GdnSeqFwdIdeal.nD Cert.GdnSeqFwdIdeal.τ Cert.GdnSeqFwdIdeal.sig) → Buf (Elt Ideal) ℓ) : Prop :=
  True

def Pre_MixPrep (m : (ℓ : Loc Cert.MixPrep.nD Cert.MixPrep.τ Cert.MixPrep.sig) → Buf (Elt Bits) ℓ) : Prop :=
  True

def Pre_MixPrepIdeal (m : (ℓ : Loc Cert.MixPrepIdeal.nD Cert.MixPrepIdeal.τ Cert.MixPrepIdeal.sig) → Buf (Elt Ideal) ℓ) : Prop :=
  True

def Pre_MixPrepRefIdeal (m : (ℓ : Loc Cert.MixPrepRefIdeal.nD Cert.MixPrepRefIdeal.τ Cert.MixPrepRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_TokenProduct (m : (ℓ : Loc Cert.TokenProduct.nD Cert.TokenProduct.τ Cert.TokenProduct.sig) → Buf (Elt Bits) ℓ) : Prop :=
  True

def Pre_TokenProductIdeal (m : (ℓ : Loc Cert.TokenProductIdeal.nD Cert.TokenProductIdeal.τ Cert.TokenProductIdeal.sig) → Buf (Elt Ideal) ℓ) : Prop :=
  True

def Pre_TokenProductRefIdeal (m : (ℓ : Loc Cert.TokenProductRefIdeal.nD Cert.TokenProductRefIdeal.τ Cert.TokenProductRefIdeal.sig) → Buf (Elt Ideal) ℓ) : Prop :=
  True

def Pre_SumChips (m : (ℓ : Loc Cert.SumChips.nD Cert.SumChips.τ Cert.SumChips.sig) → Buf (Elt Bits) ℓ) : Prop :=
  True

def Pre_SumChipsIdeal (m : (ℓ : Loc Cert.SumChipsIdeal.nD Cert.SumChipsIdeal.τ Cert.SumChipsIdeal.sig) → Buf (Elt Ideal) ℓ) : Prop :=
  True

def Pre_SumChipsRefIdeal (m : (ℓ : Loc Cert.SumChipsRefIdeal.nD Cert.SumChipsRefIdeal.τ Cert.SumChipsRefIdeal.sig) → Buf (Elt Ideal) ℓ) : Prop :=
  True

def Pre_GdnLocalFwd (m : (ℓ : Loc Cert.GdnLocalFwd.nD Cert.GdnLocalFwd.τ Cert.GdnLocalFwd.sig) → Buf (Elt Bits) ℓ) : Prop :=
  True

def Pre_GdnLocalFwdIdeal (m : (ℓ : Loc Cert.GdnLocalFwdIdeal.nD Cert.GdnLocalFwdIdeal.τ Cert.GdnLocalFwdIdeal.sig) → Buf (Elt Ideal) ℓ) : Prop :=
  True

def quiescent_RgConvBwd [hRgConvBwd : Cert.RgConvBwd.Facts] : Prop :=
  ∀ (m : (ℓ : Loc Cert.RgConvBwd.nD Cert.RgConvBwd.τ Cert.RgConvBwd.sig) → Buf (Elt Bits) ℓ) (g : Dev Cert.RgConvBwd.nD → PrngReg), Pre_RgConvBwd m →
    θ_run (Cert.RgConvBwd.defs (F := Bits)) (onTc (τ := Cert.RgConvBwd.τ) (Cert.RgConvBwd.main (F := Bits))) ⟨m, fun _ => 0, g⟩ (fun r => (∀ c : Dev Cert.RgConvBwd.nD,
      r.2.mem ((c.tc : Thread Cert.RgConvBwd.nD Cert.RgConvBwd.τ).loc Cert.RgConvBwd.main_arg0) = m ((c.tc : Thread Cert.RgConvBwd.nD Cert.RgConvBwd.τ).loc Cert.RgConvBwd.main_arg0)
      ∧ r.2.mem ((c.tc : Thread Cert.RgConvBwd.nD Cert.RgConvBwd.τ).loc Cert.RgConvBwd.main_arg1) = m ((c.tc : Thread Cert.RgConvBwd.nD Cert.RgConvBwd.τ).loc Cert.RgConvBwd.main_arg1)
      ∧ r.2.mem ((c.tc : Thread Cert.RgConvBwd.nD Cert.RgConvBwd.τ).loc Cert.RgConvBwd.main_arg2) = m ((c.tc : Thread Cert.RgConvBwd.nD Cert.RgConvBwd.τ).loc Cert.RgConvBwd.main_arg2))
      ∧ r.2.sem = fun _ => 0)

def quiescent_RgConvBwdIdeal [hRgConvBwdIdeal : Cert.RgConvBwdIdeal.Facts] : Prop :=
  ∀ (m : (ℓ : Loc Cert.RgConvBwdIdeal.nD Cert.RgConvBwdIdeal.τ Cert.RgConvBwdIdeal.sig) → Buf (Elt Ideal) ℓ) (g : Dev Cert.RgConvBwdIdeal.nD → PrngReg), Pre_RgConvBwdIdeal m →
    θ_run (Cert.RgConvBwdIdeal.defs (F := Ideal)) (onTc (τ := Cert.RgConvBwdIdeal.τ) (Cert.RgConvBwdIdeal.main (F := Ideal))) ⟨m, fun _ => 0, g⟩ (fun r => (∀ c : Dev Cert.RgConvBwdIdeal.nD,
      r.2.mem ((c.tc : Thread Cert.RgConvBwdIdeal.nD Cert.RgConvBwdIdeal.τ).loc Cert.RgConvBwdIdeal.main_arg0) = m ((c.tc : Thread Cert.RgConvBwdIdeal.nD Cert.RgConvBwdIdeal.τ).loc Cert.RgConvBwdIdeal.main_arg0)
      ∧ r.2.mem ((c.tc : Thread Cert.RgConvBwdIdeal.nD Cert.RgConvBwdIdeal.τ).loc Cert.RgConvBwdIdeal.main_arg1) = m ((c.tc : Thread Cert.RgConvBwdIdeal.nD Cert.RgConvBwdIdeal.τ).loc Cert.RgConvBwdIdeal.main_arg1)
      ∧ r.2.mem ((c.tc : Thread Cert.RgConvBwdIdeal.nD Cert.RgConvBwdIdeal.τ).loc Cert.RgConvBwdIdeal.main_arg2) = m ((c.tc : Thread Cert.RgConvBwdIdeal.nD Cert.RgConvBwdIdeal.τ).loc Cert.RgConvBwdIdeal.main_arg2))
      ∧ r.2.sem = fun _ => 0)

def quiescent_RgConvRefIdeal [hRgConvRefIdeal : Cert.RgConvRefIdeal.Facts] : Prop :=
  ∀ (m : (ℓ : Loc Cert.RgConvRefIdeal.nD Cert.RgConvRefIdeal.τ Cert.RgConvRefIdeal.sig) → Buf (Elt Ideal) ℓ) (g : Dev Cert.RgConvRefIdeal.nD → PrngReg), Pre_RgConvRefIdeal m →
    θ_run (Cert.RgConvRefIdeal.defs (F := Ideal)) (onTc (τ := Cert.RgConvRefIdeal.τ) (Cert.RgConvRefIdeal.main (F := Ideal))) ⟨m, fun _ => 0, g⟩ (fun r => (∀ c : Dev Cert.RgConvRefIdeal.nD,
      r.2.mem ((c.tc : Thread Cert.RgConvRefIdeal.nD Cert.RgConvRefIdeal.τ).loc Cert.RgConvRefIdeal.main_arg0) = m ((c.tc : Thread Cert.RgConvRefIdeal.nD Cert.RgConvRefIdeal.τ).loc Cert.RgConvRefIdeal.main_arg0)
      ∧ r.2.mem ((c.tc : Thread Cert.RgConvRefIdeal.nD Cert.RgConvRefIdeal.τ).loc Cert.RgConvRefIdeal.main_arg1) = m ((c.tc : Thread Cert.RgConvRefIdeal.nD Cert.RgConvRefIdeal.τ).loc Cert.RgConvRefIdeal.main_arg1)
      ∧ r.2.mem ((c.tc : Thread Cert.RgConvRefIdeal.nD Cert.RgConvRefIdeal.τ).loc Cert.RgConvRefIdeal.main_arg2) = m ((c.tc : Thread Cert.RgConvRefIdeal.nD Cert.RgConvRefIdeal.τ).loc Cert.RgConvRefIdeal.main_arg2))
      ∧ r.2.sem = fun _ => 0)

def quiescent_GdnConvBwd [hGdnConvBwd : Cert.GdnConvBwd.Facts] : Prop :=
  ∀ (m : (ℓ : Loc Cert.GdnConvBwd.nD Cert.GdnConvBwd.τ Cert.GdnConvBwd.sig) → Buf (Elt Bits) ℓ) (g : Dev Cert.GdnConvBwd.nD → PrngReg), Pre_GdnConvBwd m →
    θ_run (Cert.GdnConvBwd.defs (F := Bits)) (onTc (τ := Cert.GdnConvBwd.τ) (Cert.GdnConvBwd.main (F := Bits))) ⟨m, fun _ => 0, g⟩ (fun r => (∀ c : Dev Cert.GdnConvBwd.nD,
      r.2.mem ((c.tc : Thread Cert.GdnConvBwd.nD Cert.GdnConvBwd.τ).loc Cert.GdnConvBwd.main_arg0) = m ((c.tc : Thread Cert.GdnConvBwd.nD Cert.GdnConvBwd.τ).loc Cert.GdnConvBwd.main_arg0)
      ∧ r.2.mem ((c.tc : Thread Cert.GdnConvBwd.nD Cert.GdnConvBwd.τ).loc Cert.GdnConvBwd.main_arg1) = m ((c.tc : Thread Cert.GdnConvBwd.nD Cert.GdnConvBwd.τ).loc Cert.GdnConvBwd.main_arg1)
      ∧ r.2.mem ((c.tc : Thread Cert.GdnConvBwd.nD Cert.GdnConvBwd.τ).loc Cert.GdnConvBwd.main_arg2) = m ((c.tc : Thread Cert.GdnConvBwd.nD Cert.GdnConvBwd.τ).loc Cert.GdnConvBwd.main_arg2))
      ∧ r.2.sem = fun _ => 0)

def quiescent_GdnConvBwdIdeal [hGdnConvBwdIdeal : Cert.GdnConvBwdIdeal.Facts] : Prop :=
  ∀ (m : (ℓ : Loc Cert.GdnConvBwdIdeal.nD Cert.GdnConvBwdIdeal.τ Cert.GdnConvBwdIdeal.sig) → Buf (Elt Ideal) ℓ) (g : Dev Cert.GdnConvBwdIdeal.nD → PrngReg), Pre_GdnConvBwdIdeal m →
    θ_run (Cert.GdnConvBwdIdeal.defs (F := Ideal)) (onTc (τ := Cert.GdnConvBwdIdeal.τ) (Cert.GdnConvBwdIdeal.main (F := Ideal))) ⟨m, fun _ => 0, g⟩ (fun r => (∀ c : Dev Cert.GdnConvBwdIdeal.nD,
      r.2.mem ((c.tc : Thread Cert.GdnConvBwdIdeal.nD Cert.GdnConvBwdIdeal.τ).loc Cert.GdnConvBwdIdeal.main_arg0) = m ((c.tc : Thread Cert.GdnConvBwdIdeal.nD Cert.GdnConvBwdIdeal.τ).loc Cert.GdnConvBwdIdeal.main_arg0)
      ∧ r.2.mem ((c.tc : Thread Cert.GdnConvBwdIdeal.nD Cert.GdnConvBwdIdeal.τ).loc Cert.GdnConvBwdIdeal.main_arg1) = m ((c.tc : Thread Cert.GdnConvBwdIdeal.nD Cert.GdnConvBwdIdeal.τ).loc Cert.GdnConvBwdIdeal.main_arg1)
      ∧ r.2.mem ((c.tc : Thread Cert.GdnConvBwdIdeal.nD Cert.GdnConvBwdIdeal.τ).loc Cert.GdnConvBwdIdeal.main_arg2) = m ((c.tc : Thread Cert.GdnConvBwdIdeal.nD Cert.GdnConvBwdIdeal.τ).loc Cert.GdnConvBwdIdeal.main_arg2))
      ∧ r.2.sem = fun _ => 0)

def quiescent_GdnConvRefIdeal [hGdnConvRefIdeal : Cert.GdnConvRefIdeal.Facts] : Prop :=
  ∀ (m : (ℓ : Loc Cert.GdnConvRefIdeal.nD Cert.GdnConvRefIdeal.τ Cert.GdnConvRefIdeal.sig) → Buf (Elt Ideal) ℓ) (g : Dev Cert.GdnConvRefIdeal.nD → PrngReg), Pre_GdnConvRefIdeal m →
    θ_run (Cert.GdnConvRefIdeal.defs (F := Ideal)) (onTc (τ := Cert.GdnConvRefIdeal.τ) (Cert.GdnConvRefIdeal.main (F := Ideal))) ⟨m, fun _ => 0, g⟩ (fun r => (∀ c : Dev Cert.GdnConvRefIdeal.nD,
      r.2.mem ((c.tc : Thread Cert.GdnConvRefIdeal.nD Cert.GdnConvRefIdeal.τ).loc Cert.GdnConvRefIdeal.main_arg0) = m ((c.tc : Thread Cert.GdnConvRefIdeal.nD Cert.GdnConvRefIdeal.τ).loc Cert.GdnConvRefIdeal.main_arg0)
      ∧ r.2.mem ((c.tc : Thread Cert.GdnConvRefIdeal.nD Cert.GdnConvRefIdeal.τ).loc Cert.GdnConvRefIdeal.main_arg1) = m ((c.tc : Thread Cert.GdnConvRefIdeal.nD Cert.GdnConvRefIdeal.τ).loc Cert.GdnConvRefIdeal.main_arg1)
      ∧ r.2.mem ((c.tc : Thread Cert.GdnConvRefIdeal.nD Cert.GdnConvRefIdeal.τ).loc Cert.GdnConvRefIdeal.main_arg2) = m ((c.tc : Thread Cert.GdnConvRefIdeal.nD Cert.GdnConvRefIdeal.τ).loc Cert.GdnConvRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_GdnPrepBwd [hGdnPrepBwd : Cert.GdnPrepBwd.Facts] : Prop :=
  ∀ (m : (ℓ : Loc Cert.GdnPrepBwd.nD Cert.GdnPrepBwd.τ Cert.GdnPrepBwd.sig) → Buf (Elt Bits) ℓ) (g : Dev Cert.GdnPrepBwd.nD → PrngReg), Pre_GdnPrepBwd m →
    θ_run (Cert.GdnPrepBwd.defs (F := Bits)) (onTc (τ := Cert.GdnPrepBwd.τ) (Cert.GdnPrepBwd.main (F := Bits))) ⟨m, fun _ => 0, g⟩ (fun r => (∀ c : Dev Cert.GdnPrepBwd.nD,
      r.2.mem ((c.tc : Thread Cert.GdnPrepBwd.nD Cert.GdnPrepBwd.τ).loc Cert.GdnPrepBwd.main_arg0) = m ((c.tc : Thread Cert.GdnPrepBwd.nD Cert.GdnPrepBwd.τ).loc Cert.GdnPrepBwd.main_arg0)
      ∧ r.2.mem ((c.tc : Thread Cert.GdnPrepBwd.nD Cert.GdnPrepBwd.τ).loc Cert.GdnPrepBwd.main_arg1) = m ((c.tc : Thread Cert.GdnPrepBwd.nD Cert.GdnPrepBwd.τ).loc Cert.GdnPrepBwd.main_arg1)
      ∧ r.2.mem ((c.tc : Thread Cert.GdnPrepBwd.nD Cert.GdnPrepBwd.τ).loc Cert.GdnPrepBwd.main_arg2) = m ((c.tc : Thread Cert.GdnPrepBwd.nD Cert.GdnPrepBwd.τ).loc Cert.GdnPrepBwd.main_arg2)
      ∧ r.2.mem ((c.tc : Thread Cert.GdnPrepBwd.nD Cert.GdnPrepBwd.τ).loc Cert.GdnPrepBwd.main_arg3) = m ((c.tc : Thread Cert.GdnPrepBwd.nD Cert.GdnPrepBwd.τ).loc Cert.GdnPrepBwd.main_arg3)
      ∧ r.2.mem ((c.tc : Thread Cert.GdnPrepBwd.nD Cert.GdnPrepBwd.τ).loc Cert.GdnPrepBwd.main_arg4) = m ((c.tc : Thread Cert.GdnPrepBwd.nD Cert.GdnPrepBwd.τ).loc Cert.GdnPrepBwd.main_arg4)
      ∧ r.2.mem ((c.tc : Thread Cert.GdnPrepBwd.nD Cert.GdnPrepBwd.τ).loc Cert.GdnPrepBwd.main_arg5) = m ((c.tc : Thread Cert.GdnPrepBwd.nD Cert.GdnPrepBwd.τ).loc Cert.GdnPrepBwd.main_arg5)
      ∧ r.2.mem ((c.tc : Thread Cert.GdnPrepBwd.nD Cert.GdnPrepBwd.τ).loc Cert.GdnPrepBwd.main_arg6) = m ((c.tc : Thread Cert.GdnPrepBwd.nD Cert.GdnPrepBwd.τ).loc Cert.GdnPrepBwd.main_arg6)
      ∧ r.2.mem ((c.tc : Thread Cert.GdnPrepBwd.nD Cert.GdnPrepBwd.τ).loc Cert.GdnPrepBwd.main_arg7) = m ((c.tc : Thread Cert.GdnPrepBwd.nD Cert.GdnPrepBwd.τ).loc Cert.GdnPrepBwd.main_arg7))
      ∧ r.2.sem = fun _ => 0)

def quiescent_GdnPrepBwdIdeal [hGdnPrepBwdIdeal : Cert.GdnPrepBwdIdeal.Facts] : Prop :=
  ∀ (m : (ℓ : Loc Cert.GdnPrepBwdIdeal.nD Cert.GdnPrepBwdIdeal.τ Cert.GdnPrepBwdIdeal.sig) → Buf (Elt Ideal) ℓ) (g : Dev Cert.GdnPrepBwdIdeal.nD → PrngReg), Pre_GdnPrepBwdIdeal m →
    θ_run (Cert.GdnPrepBwdIdeal.defs (F := Ideal)) (onTc (τ := Cert.GdnPrepBwdIdeal.τ) (Cert.GdnPrepBwdIdeal.main (F := Ideal))) ⟨m, fun _ => 0, g⟩ (fun r => (∀ c : Dev Cert.GdnPrepBwdIdeal.nD,
      r.2.mem ((c.tc : Thread Cert.GdnPrepBwdIdeal.nD Cert.GdnPrepBwdIdeal.τ).loc Cert.GdnPrepBwdIdeal.main_arg0) = m ((c.tc : Thread Cert.GdnPrepBwdIdeal.nD Cert.GdnPrepBwdIdeal.τ).loc Cert.GdnPrepBwdIdeal.main_arg0)
      ∧ r.2.mem ((c.tc : Thread Cert.GdnPrepBwdIdeal.nD Cert.GdnPrepBwdIdeal.τ).loc Cert.GdnPrepBwdIdeal.main_arg1) = m ((c.tc : Thread Cert.GdnPrepBwdIdeal.nD Cert.GdnPrepBwdIdeal.τ).loc Cert.GdnPrepBwdIdeal.main_arg1)
      ∧ r.2.mem ((c.tc : Thread Cert.GdnPrepBwdIdeal.nD Cert.GdnPrepBwdIdeal.τ).loc Cert.GdnPrepBwdIdeal.main_arg2) = m ((c.tc : Thread Cert.GdnPrepBwdIdeal.nD Cert.GdnPrepBwdIdeal.τ).loc Cert.GdnPrepBwdIdeal.main_arg2)
      ∧ r.2.mem ((c.tc : Thread Cert.GdnPrepBwdIdeal.nD Cert.GdnPrepBwdIdeal.τ).loc Cert.GdnPrepBwdIdeal.main_arg3) = m ((c.tc : Thread Cert.GdnPrepBwdIdeal.nD Cert.GdnPrepBwdIdeal.τ).loc Cert.GdnPrepBwdIdeal.main_arg3)
      ∧ r.2.mem ((c.tc : Thread Cert.GdnPrepBwdIdeal.nD Cert.GdnPrepBwdIdeal.τ).loc Cert.GdnPrepBwdIdeal.main_arg4) = m ((c.tc : Thread Cert.GdnPrepBwdIdeal.nD Cert.GdnPrepBwdIdeal.τ).loc Cert.GdnPrepBwdIdeal.main_arg4)
      ∧ r.2.mem ((c.tc : Thread Cert.GdnPrepBwdIdeal.nD Cert.GdnPrepBwdIdeal.τ).loc Cert.GdnPrepBwdIdeal.main_arg5) = m ((c.tc : Thread Cert.GdnPrepBwdIdeal.nD Cert.GdnPrepBwdIdeal.τ).loc Cert.GdnPrepBwdIdeal.main_arg5)
      ∧ r.2.mem ((c.tc : Thread Cert.GdnPrepBwdIdeal.nD Cert.GdnPrepBwdIdeal.τ).loc Cert.GdnPrepBwdIdeal.main_arg6) = m ((c.tc : Thread Cert.GdnPrepBwdIdeal.nD Cert.GdnPrepBwdIdeal.τ).loc Cert.GdnPrepBwdIdeal.main_arg6)
      ∧ r.2.mem ((c.tc : Thread Cert.GdnPrepBwdIdeal.nD Cert.GdnPrepBwdIdeal.τ).loc Cert.GdnPrepBwdIdeal.main_arg7) = m ((c.tc : Thread Cert.GdnPrepBwdIdeal.nD Cert.GdnPrepBwdIdeal.τ).loc Cert.GdnPrepBwdIdeal.main_arg7))
      ∧ r.2.sem = fun _ => 0)

def quiescent_GdnPrepBwdIdeal_pre_gdn_prep_finite [hGdnPrepBwdIdeal : Cert.GdnPrepBwdIdeal.Facts] [hPre_gdn_prep_finite : Cert.Pre_gdn_prep_finite.Facts] : Prop :=
  ∀ (m : (ℓ : Loc Cert.GdnPrepBwdIdeal.nD Cert.GdnPrepBwdIdeal.τ Cert.GdnPrepBwdIdeal.sig) → Buf (Elt Ideal) ℓ) (g : Dev Cert.GdnPrepBwdIdeal.nD → PrngReg), Pre_GdnPrepBwdIdeal_gdn_prep_finite m →
    θ_run (Cert.GdnPrepBwdIdeal.defs (F := Ideal)) (onTc (τ := Cert.GdnPrepBwdIdeal.τ) (Cert.GdnPrepBwdIdeal.main (F := Ideal))) ⟨m, fun _ => 0, g⟩ (fun r => (∀ c : Dev Cert.GdnPrepBwdIdeal.nD,
      r.2.mem ((c.tc : Thread Cert.GdnPrepBwdIdeal.nD Cert.GdnPrepBwdIdeal.τ).loc Cert.GdnPrepBwdIdeal.main_arg0) = m ((c.tc : Thread Cert.GdnPrepBwdIdeal.nD Cert.GdnPrepBwdIdeal.τ).loc Cert.GdnPrepBwdIdeal.main_arg0)
      ∧ r.2.mem ((c.tc : Thread Cert.GdnPrepBwdIdeal.nD Cert.GdnPrepBwdIdeal.τ).loc Cert.GdnPrepBwdIdeal.main_arg1) = m ((c.tc : Thread Cert.GdnPrepBwdIdeal.nD Cert.GdnPrepBwdIdeal.τ).loc Cert.GdnPrepBwdIdeal.main_arg1)
      ∧ r.2.mem ((c.tc : Thread Cert.GdnPrepBwdIdeal.nD Cert.GdnPrepBwdIdeal.τ).loc Cert.GdnPrepBwdIdeal.main_arg2) = m ((c.tc : Thread Cert.GdnPrepBwdIdeal.nD Cert.GdnPrepBwdIdeal.τ).loc Cert.GdnPrepBwdIdeal.main_arg2)
      ∧ r.2.mem ((c.tc : Thread Cert.GdnPrepBwdIdeal.nD Cert.GdnPrepBwdIdeal.τ).loc Cert.GdnPrepBwdIdeal.main_arg3) = m ((c.tc : Thread Cert.GdnPrepBwdIdeal.nD Cert.GdnPrepBwdIdeal.τ).loc Cert.GdnPrepBwdIdeal.main_arg3)
      ∧ r.2.mem ((c.tc : Thread Cert.GdnPrepBwdIdeal.nD Cert.GdnPrepBwdIdeal.τ).loc Cert.GdnPrepBwdIdeal.main_arg4) = m ((c.tc : Thread Cert.GdnPrepBwdIdeal.nD Cert.GdnPrepBwdIdeal.τ).loc Cert.GdnPrepBwdIdeal.main_arg4)
      ∧ r.2.mem ((c.tc : Thread Cert.GdnPrepBwdIdeal.nD Cert.GdnPrepBwdIdeal.τ).loc Cert.GdnPrepBwdIdeal.main_arg5) = m ((c.tc : Thread Cert.GdnPrepBwdIdeal.nD Cert.GdnPrepBwdIdeal.τ).loc Cert.GdnPrepBwdIdeal.main_arg5)
      ∧ r.2.mem ((c.tc : Thread Cert.GdnPrepBwdIdeal.nD Cert.GdnPrepBwdIdeal.τ).loc Cert.GdnPrepBwdIdeal.main_arg6) = m ((c.tc : Thread Cert.GdnPrepBwdIdeal.nD Cert.GdnPrepBwdIdeal.τ).loc Cert.GdnPrepBwdIdeal.main_arg6)
      ∧ r.2.mem ((c.tc : Thread Cert.GdnPrepBwdIdeal.nD Cert.GdnPrepBwdIdeal.τ).loc Cert.GdnPrepBwdIdeal.main_arg7) = m ((c.tc : Thread Cert.GdnPrepBwdIdeal.nD Cert.GdnPrepBwdIdeal.τ).loc Cert.GdnPrepBwdIdeal.main_arg7))
      ∧ r.2.sem = fun _ => 0)

def quiescent_GdnPrepRefIdeal [hGdnPrepRefIdeal : Cert.GdnPrepRefIdeal.Facts] : Prop :=
  ∀ (m : (ℓ : Loc Cert.GdnPrepRefIdeal.nD Cert.GdnPrepRefIdeal.τ Cert.GdnPrepRefIdeal.sig) → Buf (Elt Ideal) ℓ) (g : Dev Cert.GdnPrepRefIdeal.nD → PrngReg), Pre_GdnPrepRefIdeal m →
    θ_run (Cert.GdnPrepRefIdeal.defs (F := Ideal)) (onTc (τ := Cert.GdnPrepRefIdeal.τ) (Cert.GdnPrepRefIdeal.main (F := Ideal))) ⟨m, fun _ => 0, g⟩ (fun r => (∀ c : Dev Cert.GdnPrepRefIdeal.nD,
      r.2.mem ((c.tc : Thread Cert.GdnPrepRefIdeal.nD Cert.GdnPrepRefIdeal.τ).loc Cert.GdnPrepRefIdeal.main_arg0) = m ((c.tc : Thread Cert.GdnPrepRefIdeal.nD Cert.GdnPrepRefIdeal.τ).loc Cert.GdnPrepRefIdeal.main_arg0)
      ∧ r.2.mem ((c.tc : Thread Cert.GdnPrepRefIdeal.nD Cert.GdnPrepRefIdeal.τ).loc Cert.GdnPrepRefIdeal.main_arg1) = m ((c.tc : Thread Cert.GdnPrepRefIdeal.nD Cert.GdnPrepRefIdeal.τ).loc Cert.GdnPrepRefIdeal.main_arg1)
      ∧ r.2.mem ((c.tc : Thread Cert.GdnPrepRefIdeal.nD Cert.GdnPrepRefIdeal.τ).loc Cert.GdnPrepRefIdeal.main_arg2) = m ((c.tc : Thread Cert.GdnPrepRefIdeal.nD Cert.GdnPrepRefIdeal.τ).loc Cert.GdnPrepRefIdeal.main_arg2)
      ∧ r.2.mem ((c.tc : Thread Cert.GdnPrepRefIdeal.nD Cert.GdnPrepRefIdeal.τ).loc Cert.GdnPrepRefIdeal.main_arg3) = m ((c.tc : Thread Cert.GdnPrepRefIdeal.nD Cert.GdnPrepRefIdeal.τ).loc Cert.GdnPrepRefIdeal.main_arg3)
      ∧ r.2.mem ((c.tc : Thread Cert.GdnPrepRefIdeal.nD Cert.GdnPrepRefIdeal.τ).loc Cert.GdnPrepRefIdeal.main_arg4) = m ((c.tc : Thread Cert.GdnPrepRefIdeal.nD Cert.GdnPrepRefIdeal.τ).loc Cert.GdnPrepRefIdeal.main_arg4)
      ∧ r.2.mem ((c.tc : Thread Cert.GdnPrepRefIdeal.nD Cert.GdnPrepRefIdeal.τ).loc Cert.GdnPrepRefIdeal.main_arg5) = m ((c.tc : Thread Cert.GdnPrepRefIdeal.nD Cert.GdnPrepRefIdeal.τ).loc Cert.GdnPrepRefIdeal.main_arg5)
      ∧ r.2.mem ((c.tc : Thread Cert.GdnPrepRefIdeal.nD Cert.GdnPrepRefIdeal.τ).loc Cert.GdnPrepRefIdeal.main_arg6) = m ((c.tc : Thread Cert.GdnPrepRefIdeal.nD Cert.GdnPrepRefIdeal.τ).loc Cert.GdnPrepRefIdeal.main_arg6)
      ∧ r.2.mem ((c.tc : Thread Cert.GdnPrepRefIdeal.nD Cert.GdnPrepRefIdeal.τ).loc Cert.GdnPrepRefIdeal.main_arg7) = m ((c.tc : Thread Cert.GdnPrepRefIdeal.nD Cert.GdnPrepRefIdeal.τ).loc Cert.GdnPrepRefIdeal.main_arg7))
      ∧ r.2.sem = fun _ => 0)

def quiescent_GdnPrepRefIdeal_pre_gdn_prep_finite [hGdnPrepRefIdeal : Cert.GdnPrepRefIdeal.Facts] [hPre_gdn_prep_finite : Cert.Pre_gdn_prep_finite.Facts] : Prop :=
  ∀ (m : (ℓ : Loc Cert.GdnPrepRefIdeal.nD Cert.GdnPrepRefIdeal.τ Cert.GdnPrepRefIdeal.sig) → Buf (Elt Ideal) ℓ) (g : Dev Cert.GdnPrepRefIdeal.nD → PrngReg), Pre_GdnPrepRefIdeal_gdn_prep_finite m →
    θ_run (Cert.GdnPrepRefIdeal.defs (F := Ideal)) (onTc (τ := Cert.GdnPrepRefIdeal.τ) (Cert.GdnPrepRefIdeal.main (F := Ideal))) ⟨m, fun _ => 0, g⟩ (fun r => (∀ c : Dev Cert.GdnPrepRefIdeal.nD,
      r.2.mem ((c.tc : Thread Cert.GdnPrepRefIdeal.nD Cert.GdnPrepRefIdeal.τ).loc Cert.GdnPrepRefIdeal.main_arg0) = m ((c.tc : Thread Cert.GdnPrepRefIdeal.nD Cert.GdnPrepRefIdeal.τ).loc Cert.GdnPrepRefIdeal.main_arg0)
      ∧ r.2.mem ((c.tc : Thread Cert.GdnPrepRefIdeal.nD Cert.GdnPrepRefIdeal.τ).loc Cert.GdnPrepRefIdeal.main_arg1) = m ((c.tc : Thread Cert.GdnPrepRefIdeal.nD Cert.GdnPrepRefIdeal.τ).loc Cert.GdnPrepRefIdeal.main_arg1)
      ∧ r.2.mem ((c.tc : Thread Cert.GdnPrepRefIdeal.nD Cert.GdnPrepRefIdeal.τ).loc Cert.GdnPrepRefIdeal.main_arg2) = m ((c.tc : Thread Cert.GdnPrepRefIdeal.nD Cert.GdnPrepRefIdeal.τ).loc Cert.GdnPrepRefIdeal.main_arg2)
      ∧ r.2.mem ((c.tc : Thread Cert.GdnPrepRefIdeal.nD Cert.GdnPrepRefIdeal.τ).loc Cert.GdnPrepRefIdeal.main_arg3) = m ((c.tc : Thread Cert.GdnPrepRefIdeal.nD Cert.GdnPrepRefIdeal.τ).loc Cert.GdnPrepRefIdeal.main_arg3)
      ∧ r.2.mem ((c.tc : Thread Cert.GdnPrepRefIdeal.nD Cert.GdnPrepRefIdeal.τ).loc Cert.GdnPrepRefIdeal.main_arg4) = m ((c.tc : Thread Cert.GdnPrepRefIdeal.nD Cert.GdnPrepRefIdeal.τ).loc Cert.GdnPrepRefIdeal.main_arg4)
      ∧ r.2.mem ((c.tc : Thread Cert.GdnPrepRefIdeal.nD Cert.GdnPrepRefIdeal.τ).loc Cert.GdnPrepRefIdeal.main_arg5) = m ((c.tc : Thread Cert.GdnPrepRefIdeal.nD Cert.GdnPrepRefIdeal.τ).loc Cert.GdnPrepRefIdeal.main_arg5)
      ∧ r.2.mem ((c.tc : Thread Cert.GdnPrepRefIdeal.nD Cert.GdnPrepRefIdeal.τ).loc Cert.GdnPrepRefIdeal.main_arg6) = m ((c.tc : Thread Cert.GdnPrepRefIdeal.nD Cert.GdnPrepRefIdeal.τ).loc Cert.GdnPrepRefIdeal.main_arg6)
      ∧ r.2.mem ((c.tc : Thread Cert.GdnPrepRefIdeal.nD Cert.GdnPrepRefIdeal.τ).loc Cert.GdnPrepRefIdeal.main_arg7) = m ((c.tc : Thread Cert.GdnPrepRefIdeal.nD Cert.GdnPrepRefIdeal.τ).loc Cert.GdnPrepRefIdeal.main_arg7))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8))
      ∧ r.2.sem = fun _ => 0)

def quiescent_InProjBwdIdeal_pre_in_proj_finite [hInProjBwdIdeal : Cert.InProjBwdIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_in_proj_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_InProjRefIdeal_pre_in_proj_finite [hInProjRefIdeal : Cert.InProjRefIdeal.Facts] [hPre_in_proj_finite : Cert.Pre_in_proj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_proj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_OutProjBwd [hOutProjBwd : Cert.OutProjBwd.Facts] : Prop :=
  ∀ (m : (ℓ : Loc Cert.OutProjBwd.nD Cert.OutProjBwd.τ Cert.OutProjBwd.sig) → Buf (Elt Bits) ℓ) (g : Dev Cert.OutProjBwd.nD → PrngReg), Pre_OutProjBwd m →
    θ_run (Cert.OutProjBwd.defs (F := Bits)) (onTc (τ := Cert.OutProjBwd.τ) (Cert.OutProjBwd.main (F := Bits))) ⟨m, fun _ => 0, g⟩ (fun r => (∀ c : Dev Cert.OutProjBwd.nD,
      r.2.mem ((c.tc : Thread Cert.OutProjBwd.nD Cert.OutProjBwd.τ).loc Cert.OutProjBwd.main_arg0) = m ((c.tc : Thread Cert.OutProjBwd.nD Cert.OutProjBwd.τ).loc Cert.OutProjBwd.main_arg0)
      ∧ r.2.mem ((c.tc : Thread Cert.OutProjBwd.nD Cert.OutProjBwd.τ).loc Cert.OutProjBwd.main_arg1) = m ((c.tc : Thread Cert.OutProjBwd.nD Cert.OutProjBwd.τ).loc Cert.OutProjBwd.main_arg1)
      ∧ r.2.mem ((c.tc : Thread Cert.OutProjBwd.nD Cert.OutProjBwd.τ).loc Cert.OutProjBwd.main_arg2) = m ((c.tc : Thread Cert.OutProjBwd.nD Cert.OutProjBwd.τ).loc Cert.OutProjBwd.main_arg2)
      ∧ r.2.mem ((c.tc : Thread Cert.OutProjBwd.nD Cert.OutProjBwd.τ).loc Cert.OutProjBwd.main_arg3) = m ((c.tc : Thread Cert.OutProjBwd.nD Cert.OutProjBwd.τ).loc Cert.OutProjBwd.main_arg3)
      ∧ r.2.mem ((c.tc : Thread Cert.OutProjBwd.nD Cert.OutProjBwd.τ).loc Cert.OutProjBwd.main_arg4) = m ((c.tc : Thread Cert.OutProjBwd.nD Cert.OutProjBwd.τ).loc Cert.OutProjBwd.main_arg4)
      ∧ r.2.mem ((c.tc : Thread Cert.OutProjBwd.nD Cert.OutProjBwd.τ).loc Cert.OutProjBwd.main_arg5) = m ((c.tc : Thread Cert.OutProjBwd.nD Cert.OutProjBwd.τ).loc Cert.OutProjBwd.main_arg5)
      ∧ r.2.mem ((c.tc : Thread Cert.OutProjBwd.nD Cert.OutProjBwd.τ).loc Cert.OutProjBwd.main_arg6) = m ((c.tc : Thread Cert.OutProjBwd.nD Cert.OutProjBwd.τ).loc Cert.OutProjBwd.main_arg6)
      ∧ r.2.mem ((c.tc : Thread Cert.OutProjBwd.nD Cert.OutProjBwd.τ).loc Cert.OutProjBwd.main_arg7) = m ((c.tc : Thread Cert.OutProjBwd.nD Cert.OutProjBwd.τ).loc Cert.OutProjBwd.main_arg7)
      ∧ r.2.mem ((c.tc : Thread Cert.OutProjBwd.nD Cert.OutProjBwd.τ).loc Cert.OutProjBwd.main_arg8) = m ((c.tc : Thread Cert.OutProjBwd.nD Cert.OutProjBwd.τ).loc Cert.OutProjBwd.main_arg8))
      ∧ r.2.sem = fun _ => 0)

def quiescent_OutProjBwdIdeal [hOutProjBwdIdeal : Cert.OutProjBwdIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
      ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
      ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
      ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4)
      ∧ r.2.mem ((c.tc : Thread Cert.OutProjBwdIdeal.nD Cert.OutProjBwdIdeal.τ).loc Cert.OutProjBwdIdeal.main_arg5) = m ((c.tc : Thread Cert.OutProjBwdIdeal.nD Cert.OutProjBwdIdeal.τ).loc Cert.OutProjBwdIdeal.main_arg5)
      ∧ r.2.mem ((c.tc : Thread Cert.OutProjBwdIdeal.nD Cert.OutProjBwdIdeal.τ).loc Cert.OutProjBwdIdeal.main_arg6) = m ((c.tc : Thread Cert.OutProjBwdIdeal.nD Cert.OutProjBwdIdeal.τ).loc Cert.OutProjBwdIdeal.main_arg6)
      ∧ r.2.mem ((c.tc : Thread Cert.OutProjBwdIdeal.nD Cert.OutProjBwdIdeal.τ).loc Cert.OutProjBwdIdeal.main_arg7) = m ((c.tc : Thread Cert.OutProjBwdIdeal.nD Cert.OutProjBwdIdeal.τ).loc Cert.OutProjBwdIdeal.main_arg7)
      ∧ r.2.mem ((c.tc : Thread Cert.OutProjBwdIdeal.nD Cert.OutProjBwdIdeal.τ).loc Cert.OutProjBwdIdeal.main_arg8) = m ((c.tc : Thread Cert.OutProjBwdIdeal.nD Cert.OutProjBwdIdeal.τ).loc Cert.OutProjBwdIdeal.main_arg8))
      ∧ r.2.sem = fun _ => 0)

def quiescent_OutProjBwdIdeal_pre_out_proj_finite [hOutProjBwdIdeal : Cert.OutProjBwdIdeal.Facts] [hPre_out_proj_finite : Cert.Pre_out_proj_finite.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal_out_proj_finite m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
      ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
      ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
      ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4)
      ∧ r.2.mem ((c.tc : Thread Cert.OutProjBwdIdeal.nD Cert.OutProjBwdIdeal.τ).loc Cert.OutProjBwdIdeal.main_arg5) = m ((c.tc : Thread Cert.OutProjBwdIdeal.nD Cert.OutProjBwdIdeal.τ).loc Cert.OutProjBwdIdeal.main_arg5)
      ∧ r.2.mem ((c.tc : Thread Cert.OutProjBwdIdeal.nD Cert.OutProjBwdIdeal.τ).loc Cert.OutProjBwdIdeal.main_arg6) = m ((c.tc : Thread Cert.OutProjBwdIdeal.nD Cert.OutProjBwdIdeal.τ).loc Cert.OutProjBwdIdeal.main_arg6)
      ∧ r.2.mem ((c.tc : Thread Cert.OutProjBwdIdeal.nD Cert.OutProjBwdIdeal.τ).loc Cert.OutProjBwdIdeal.main_arg7) = m ((c.tc : Thread Cert.OutProjBwdIdeal.nD Cert.OutProjBwdIdeal.τ).loc Cert.OutProjBwdIdeal.main_arg7)
      ∧ r.2.mem ((c.tc : Thread Cert.OutProjBwdIdeal.nD Cert.OutProjBwdIdeal.τ).loc Cert.OutProjBwdIdeal.main_arg8) = m ((c.tc : Thread Cert.OutProjBwdIdeal.nD Cert.OutProjBwdIdeal.τ).loc Cert.OutProjBwdIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_OutProjRefIdeal_pre_out_proj_finite [hOutProjRefIdeal : Cert.OutProjRefIdeal.Facts] [hPre_out_proj_finite : Cert.Pre_out_proj_finite.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_out_proj_finite m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_FfnInBwd [hFfnInBwd : Cert.FfnInBwd.Facts] : Prop :=
  ∀ (m : (ℓ : Loc Cert.FfnInBwd.nD Cert.FfnInBwd.τ Cert.FfnInBwd.sig) → Buf (Elt Bits) ℓ) (g : Dev Cert.FfnInBwd.nD → PrngReg), Pre_FfnInBwd m →
    θ_run (Cert.FfnInBwd.defs (F := Bits)) (onTc (τ := Cert.FfnInBwd.τ) (Cert.FfnInBwd.main (F := Bits))) ⟨m, fun _ => 0, g⟩ (fun r => (∀ c : Dev Cert.FfnInBwd.nD,
      r.2.mem ((c.tc : Thread Cert.FfnInBwd.nD Cert.FfnInBwd.τ).loc Cert.FfnInBwd.main_arg0) = m ((c.tc : Thread Cert.FfnInBwd.nD Cert.FfnInBwd.τ).loc Cert.FfnInBwd.main_arg0)
      ∧ r.2.mem ((c.tc : Thread Cert.FfnInBwd.nD Cert.FfnInBwd.τ).loc Cert.FfnInBwd.main_arg1) = m ((c.tc : Thread Cert.FfnInBwd.nD Cert.FfnInBwd.τ).loc Cert.FfnInBwd.main_arg1)
      ∧ r.2.mem ((c.tc : Thread Cert.FfnInBwd.nD Cert.FfnInBwd.τ).loc Cert.FfnInBwd.main_arg2) = m ((c.tc : Thread Cert.FfnInBwd.nD Cert.FfnInBwd.τ).loc Cert.FfnInBwd.main_arg2)
      ∧ r.2.mem ((c.tc : Thread Cert.FfnInBwd.nD Cert.FfnInBwd.τ).loc Cert.FfnInBwd.main_arg3) = m ((c.tc : Thread Cert.FfnInBwd.nD Cert.FfnInBwd.τ).loc Cert.FfnInBwd.main_arg3)
      ∧ r.2.mem ((c.tc : Thread Cert.FfnInBwd.nD Cert.FfnInBwd.τ).loc Cert.FfnInBwd.main_arg4) = m ((c.tc : Thread Cert.FfnInBwd.nD Cert.FfnInBwd.τ).loc Cert.FfnInBwd.main_arg4)
      ∧ r.2.mem ((c.tc : Thread Cert.FfnInBwd.nD Cert.FfnInBwd.τ).loc Cert.FfnInBwd.main_arg5) = m ((c.tc : Thread Cert.FfnInBwd.nD Cert.FfnInBwd.τ).loc Cert.FfnInBwd.main_arg5)
      ∧ r.2.mem ((c.tc : Thread Cert.FfnInBwd.nD Cert.FfnInBwd.τ).loc Cert.FfnInBwd.main_arg6) = m ((c.tc : Thread Cert.FfnInBwd.nD Cert.FfnInBwd.τ).loc Cert.FfnInBwd.main_arg6))
      ∧ r.2.sem = fun _ => 0)

def quiescent_FfnInBwdIdeal [hFfnInBwdIdeal : Cert.FfnInBwdIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
      ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5)
      ∧ r.2.mem ((c.tc : Thread Cert.FfnInBwdIdeal.nD Cert.FfnInBwdIdeal.τ).loc Cert.FfnInBwdIdeal.main_arg6) = m ((c.tc : Thread Cert.FfnInBwdIdeal.nD Cert.FfnInBwdIdeal.τ).loc Cert.FfnInBwdIdeal.main_arg6))
      ∧ r.2.sem = fun _ => 0)

def quiescent_FfnInBwdIdeal_pre_ffn_in_finite [hFfnInBwdIdeal : Cert.FfnInBwdIdeal.Facts] [hPre_ffn_in_finite : Cert.Pre_ffn_in_finite.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal_ffn_in_finite m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
      ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5)
      ∧ r.2.mem ((c.tc : Thread Cert.FfnInBwdIdeal.nD Cert.FfnInBwdIdeal.τ).loc Cert.FfnInBwdIdeal.main_arg6) = m ((c.tc : Thread Cert.FfnInBwdIdeal.nD Cert.FfnInBwdIdeal.τ).loc Cert.FfnInBwdIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnHiddenBwd [hFfnHiddenBwd : Cert.FfnHiddenBwd.Facts] : Prop :=
  ∀ (m : (ℓ : Loc Cert.FfnHiddenBwd.nD Cert.FfnHiddenBwd.τ Cert.FfnHiddenBwd.sig) → Buf (Elt Bits) ℓ) (g : Dev Cert.FfnHiddenBwd.nD → PrngReg), Pre_FfnHiddenBwd m →
    θ_run (Cert.FfnHiddenBwd.defs (F := Bits)) (onTc (τ := Cert.FfnHiddenBwd.τ) (Cert.FfnHiddenBwd.main (F := Bits))) ⟨m, fun _ => 0, g⟩ (fun r => (∀ c : Dev Cert.FfnHiddenBwd.nD,
      r.2.mem ((c.tc : Thread Cert.FfnHiddenBwd.nD Cert.FfnHiddenBwd.τ).loc Cert.FfnHiddenBwd.main_arg0) = m ((c.tc : Thread Cert.FfnHiddenBwd.nD Cert.FfnHiddenBwd.τ).loc Cert.FfnHiddenBwd.main_arg0)
      ∧ r.2.mem ((c.tc : Thread Cert.FfnHiddenBwd.nD Cert.FfnHiddenBwd.τ).loc Cert.FfnHiddenBwd.main_arg1) = m ((c.tc : Thread Cert.FfnHiddenBwd.nD Cert.FfnHiddenBwd.τ).loc Cert.FfnHiddenBwd.main_arg1)
      ∧ r.2.mem ((c.tc : Thread Cert.FfnHiddenBwd.nD Cert.FfnHiddenBwd.τ).loc Cert.FfnHiddenBwd.main_arg2) = m ((c.tc : Thread Cert.FfnHiddenBwd.nD Cert.FfnHiddenBwd.τ).loc Cert.FfnHiddenBwd.main_arg2)
      ∧ r.2.mem ((c.tc : Thread Cert.FfnHiddenBwd.nD Cert.FfnHiddenBwd.τ).loc Cert.FfnHiddenBwd.main_arg3) = m ((c.tc : Thread Cert.FfnHiddenBwd.nD Cert.FfnHiddenBwd.τ).loc Cert.FfnHiddenBwd.main_arg3)
      ∧ r.2.mem ((c.tc : Thread Cert.FfnHiddenBwd.nD Cert.FfnHiddenBwd.τ).loc Cert.FfnHiddenBwd.main_arg4) = m ((c.tc : Thread Cert.FfnHiddenBwd.nD Cert.FfnHiddenBwd.τ).loc Cert.FfnHiddenBwd.main_arg4)
      ∧ r.2.mem ((c.tc : Thread Cert.FfnHiddenBwd.nD Cert.FfnHiddenBwd.τ).loc Cert.FfnHiddenBwd.main_arg5) = m ((c.tc : Thread Cert.FfnHiddenBwd.nD Cert.FfnHiddenBwd.τ).loc Cert.FfnHiddenBwd.main_arg5))
      ∧ r.2.sem = fun _ => 0)

def quiescent_FfnHiddenBwdIdeal [hFfnHiddenBwdIdeal : Cert.FfnHiddenBwdIdeal.Facts] : Prop :=
  ∀ (m : (ℓ : Loc Cert.FfnHiddenBwdIdeal.nD Cert.FfnHiddenBwdIdeal.τ Cert.FfnHiddenBwdIdeal.sig) → Buf (Elt Ideal) ℓ) (g : Dev Cert.FfnHiddenBwdIdeal.nD → PrngReg), Pre_FfnHiddenBwdIdeal m →
    θ_run (Cert.FfnHiddenBwdIdeal.defs (F := Ideal)) (onTc (τ := Cert.FfnHiddenBwdIdeal.τ) (Cert.FfnHiddenBwdIdeal.main (F := Ideal))) ⟨m, fun _ => 0, g⟩ (fun r => (∀ c : Dev Cert.FfnHiddenBwdIdeal.nD,
      r.2.mem ((c.tc : Thread Cert.FfnHiddenBwdIdeal.nD Cert.FfnHiddenBwdIdeal.τ).loc Cert.FfnHiddenBwdIdeal.main_arg0) = m ((c.tc : Thread Cert.FfnHiddenBwdIdeal.nD Cert.FfnHiddenBwdIdeal.τ).loc Cert.FfnHiddenBwdIdeal.main_arg0)
      ∧ r.2.mem ((c.tc : Thread Cert.FfnHiddenBwdIdeal.nD Cert.FfnHiddenBwdIdeal.τ).loc Cert.FfnHiddenBwdIdeal.main_arg1) = m ((c.tc : Thread Cert.FfnHiddenBwdIdeal.nD Cert.FfnHiddenBwdIdeal.τ).loc Cert.FfnHiddenBwdIdeal.main_arg1)
      ∧ r.2.mem ((c.tc : Thread Cert.FfnHiddenBwdIdeal.nD Cert.FfnHiddenBwdIdeal.τ).loc Cert.FfnHiddenBwdIdeal.main_arg2) = m ((c.tc : Thread Cert.FfnHiddenBwdIdeal.nD Cert.FfnHiddenBwdIdeal.τ).loc Cert.FfnHiddenBwdIdeal.main_arg2)
      ∧ r.2.mem ((c.tc : Thread Cert.FfnHiddenBwdIdeal.nD Cert.FfnHiddenBwdIdeal.τ).loc Cert.FfnHiddenBwdIdeal.main_arg3) = m ((c.tc : Thread Cert.FfnHiddenBwdIdeal.nD Cert.FfnHiddenBwdIdeal.τ).loc Cert.FfnHiddenBwdIdeal.main_arg3)
      ∧ r.2.mem ((c.tc : Thread Cert.FfnHiddenBwdIdeal.nD Cert.FfnHiddenBwdIdeal.τ).loc Cert.FfnHiddenBwdIdeal.main_arg4) = m ((c.tc : Thread Cert.FfnHiddenBwdIdeal.nD Cert.FfnHiddenBwdIdeal.τ).loc Cert.FfnHiddenBwdIdeal.main_arg4)
      ∧ r.2.mem ((c.tc : Thread Cert.FfnHiddenBwdIdeal.nD Cert.FfnHiddenBwdIdeal.τ).loc Cert.FfnHiddenBwdIdeal.main_arg5) = m ((c.tc : Thread Cert.FfnHiddenBwdIdeal.nD Cert.FfnHiddenBwdIdeal.τ).loc Cert.FfnHiddenBwdIdeal.main_arg5))
      ∧ r.2.sem = fun _ => 0)

def quiescent_FfnHiddenBwdIdeal_pre_ffn_hidden_finite [hFfnHiddenBwdIdeal : Cert.FfnHiddenBwdIdeal.Facts] [hPre_ffn_hidden_finite : Cert.Pre_ffn_hidden_finite.Facts] : Prop :=
  ∀ (m : (ℓ : Loc Cert.FfnHiddenBwdIdeal.nD Cert.FfnHiddenBwdIdeal.τ Cert.FfnHiddenBwdIdeal.sig) → Buf (Elt Ideal) ℓ) (g : Dev Cert.FfnHiddenBwdIdeal.nD → PrngReg), Pre_FfnHiddenBwdIdeal_ffn_hidden_finite m →
    θ_run (Cert.FfnHiddenBwdIdeal.defs (F := Ideal)) (onTc (τ := Cert.FfnHiddenBwdIdeal.τ) (Cert.FfnHiddenBwdIdeal.main (F := Ideal))) ⟨m, fun _ => 0, g⟩ (fun r => (∀ c : Dev Cert.FfnHiddenBwdIdeal.nD,
      r.2.mem ((c.tc : Thread Cert.FfnHiddenBwdIdeal.nD Cert.FfnHiddenBwdIdeal.τ).loc Cert.FfnHiddenBwdIdeal.main_arg0) = m ((c.tc : Thread Cert.FfnHiddenBwdIdeal.nD Cert.FfnHiddenBwdIdeal.τ).loc Cert.FfnHiddenBwdIdeal.main_arg0)
      ∧ r.2.mem ((c.tc : Thread Cert.FfnHiddenBwdIdeal.nD Cert.FfnHiddenBwdIdeal.τ).loc Cert.FfnHiddenBwdIdeal.main_arg1) = m ((c.tc : Thread Cert.FfnHiddenBwdIdeal.nD Cert.FfnHiddenBwdIdeal.τ).loc Cert.FfnHiddenBwdIdeal.main_arg1)
      ∧ r.2.mem ((c.tc : Thread Cert.FfnHiddenBwdIdeal.nD Cert.FfnHiddenBwdIdeal.τ).loc Cert.FfnHiddenBwdIdeal.main_arg2) = m ((c.tc : Thread Cert.FfnHiddenBwdIdeal.nD Cert.FfnHiddenBwdIdeal.τ).loc Cert.FfnHiddenBwdIdeal.main_arg2)
      ∧ r.2.mem ((c.tc : Thread Cert.FfnHiddenBwdIdeal.nD Cert.FfnHiddenBwdIdeal.τ).loc Cert.FfnHiddenBwdIdeal.main_arg3) = m ((c.tc : Thread Cert.FfnHiddenBwdIdeal.nD Cert.FfnHiddenBwdIdeal.τ).loc Cert.FfnHiddenBwdIdeal.main_arg3)
      ∧ r.2.mem ((c.tc : Thread Cert.FfnHiddenBwdIdeal.nD Cert.FfnHiddenBwdIdeal.τ).loc Cert.FfnHiddenBwdIdeal.main_arg4) = m ((c.tc : Thread Cert.FfnHiddenBwdIdeal.nD Cert.FfnHiddenBwdIdeal.τ).loc Cert.FfnHiddenBwdIdeal.main_arg4)
      ∧ r.2.mem ((c.tc : Thread Cert.FfnHiddenBwdIdeal.nD Cert.FfnHiddenBwdIdeal.τ).loc Cert.FfnHiddenBwdIdeal.main_arg5) = m ((c.tc : Thread Cert.FfnHiddenBwdIdeal.nD Cert.FfnHiddenBwdIdeal.τ).loc Cert.FfnHiddenBwdIdeal.main_arg5))
      ∧ r.2.sem = fun _ => 0)

def quiescent_FfnHiddenRefIdeal [hFfnHiddenRefIdeal : Cert.FfnHiddenRefIdeal.Facts] : Prop :=
  ∀ (m : (ℓ : Loc Cert.FfnHiddenRefIdeal.nD Cert.FfnHiddenRefIdeal.τ Cert.FfnHiddenRefIdeal.sig) → Buf (Elt Ideal) ℓ) (g : Dev Cert.FfnHiddenRefIdeal.nD → PrngReg), Pre_FfnHiddenRefIdeal m →
    θ_run (Cert.FfnHiddenRefIdeal.defs (F := Ideal)) (onTc (τ := Cert.FfnHiddenRefIdeal.τ) (Cert.FfnHiddenRefIdeal.main (F := Ideal))) ⟨m, fun _ => 0, g⟩ (fun r => (∀ c : Dev Cert.FfnHiddenRefIdeal.nD,
      r.2.mem ((c.tc : Thread Cert.FfnHiddenRefIdeal.nD Cert.FfnHiddenRefIdeal.τ).loc Cert.FfnHiddenRefIdeal.main_arg0) = m ((c.tc : Thread Cert.FfnHiddenRefIdeal.nD Cert.FfnHiddenRefIdeal.τ).loc Cert.FfnHiddenRefIdeal.main_arg0)
      ∧ r.2.mem ((c.tc : Thread Cert.FfnHiddenRefIdeal.nD Cert.FfnHiddenRefIdeal.τ).loc Cert.FfnHiddenRefIdeal.main_arg1) = m ((c.tc : Thread Cert.FfnHiddenRefIdeal.nD Cert.FfnHiddenRefIdeal.τ).loc Cert.FfnHiddenRefIdeal.main_arg1)
      ∧ r.2.mem ((c.tc : Thread Cert.FfnHiddenRefIdeal.nD Cert.FfnHiddenRefIdeal.τ).loc Cert.FfnHiddenRefIdeal.main_arg2) = m ((c.tc : Thread Cert.FfnHiddenRefIdeal.nD Cert.FfnHiddenRefIdeal.τ).loc Cert.FfnHiddenRefIdeal.main_arg2)
      ∧ r.2.mem ((c.tc : Thread Cert.FfnHiddenRefIdeal.nD Cert.FfnHiddenRefIdeal.τ).loc Cert.FfnHiddenRefIdeal.main_arg3) = m ((c.tc : Thread Cert.FfnHiddenRefIdeal.nD Cert.FfnHiddenRefIdeal.τ).loc Cert.FfnHiddenRefIdeal.main_arg3)
      ∧ r.2.mem ((c.tc : Thread Cert.FfnHiddenRefIdeal.nD Cert.FfnHiddenRefIdeal.τ).loc Cert.FfnHiddenRefIdeal.main_arg4) = m ((c.tc : Thread Cert.FfnHiddenRefIdeal.nD Cert.FfnHiddenRefIdeal.τ).loc Cert.FfnHiddenRefIdeal.main_arg4)
      ∧ r.2.mem ((c.tc : Thread Cert.FfnHiddenRefIdeal.nD Cert.FfnHiddenRefIdeal.τ).loc Cert.FfnHiddenRefIdeal.main_arg5) = m ((c.tc : Thread Cert.FfnHiddenRefIdeal.nD Cert.FfnHiddenRefIdeal.τ).loc Cert.FfnHiddenRefIdeal.main_arg5))
      ∧ r.2.sem = fun _ => 0)

def quiescent_FfnHiddenRefIdeal_pre_ffn_hidden_finite [hFfnHiddenRefIdeal : Cert.FfnHiddenRefIdeal.Facts] [hPre_ffn_hidden_finite : Cert.Pre_ffn_hidden_finite.Facts] : Prop :=
  ∀ (m : (ℓ : Loc Cert.FfnHiddenRefIdeal.nD Cert.FfnHiddenRefIdeal.τ Cert.FfnHiddenRefIdeal.sig) → Buf (Elt Ideal) ℓ) (g : Dev Cert.FfnHiddenRefIdeal.nD → PrngReg), Pre_FfnHiddenRefIdeal_ffn_hidden_finite m →
    θ_run (Cert.FfnHiddenRefIdeal.defs (F := Ideal)) (onTc (τ := Cert.FfnHiddenRefIdeal.τ) (Cert.FfnHiddenRefIdeal.main (F := Ideal))) ⟨m, fun _ => 0, g⟩ (fun r => (∀ c : Dev Cert.FfnHiddenRefIdeal.nD,
      r.2.mem ((c.tc : Thread Cert.FfnHiddenRefIdeal.nD Cert.FfnHiddenRefIdeal.τ).loc Cert.FfnHiddenRefIdeal.main_arg0) = m ((c.tc : Thread Cert.FfnHiddenRefIdeal.nD Cert.FfnHiddenRefIdeal.τ).loc Cert.FfnHiddenRefIdeal.main_arg0)
      ∧ r.2.mem ((c.tc : Thread Cert.FfnHiddenRefIdeal.nD Cert.FfnHiddenRefIdeal.τ).loc Cert.FfnHiddenRefIdeal.main_arg1) = m ((c.tc : Thread Cert.FfnHiddenRefIdeal.nD Cert.FfnHiddenRefIdeal.τ).loc Cert.FfnHiddenRefIdeal.main_arg1)
      ∧ r.2.mem ((c.tc : Thread Cert.FfnHiddenRefIdeal.nD Cert.FfnHiddenRefIdeal.τ).loc Cert.FfnHiddenRefIdeal.main_arg2) = m ((c.tc : Thread Cert.FfnHiddenRefIdeal.nD Cert.FfnHiddenRefIdeal.τ).loc Cert.FfnHiddenRefIdeal.main_arg2)
      ∧ r.2.mem ((c.tc : Thread Cert.FfnHiddenRefIdeal.nD Cert.FfnHiddenRefIdeal.τ).loc Cert.FfnHiddenRefIdeal.main_arg3) = m ((c.tc : Thread Cert.FfnHiddenRefIdeal.nD Cert.FfnHiddenRefIdeal.τ).loc Cert.FfnHiddenRefIdeal.main_arg3)
      ∧ r.2.mem ((c.tc : Thread Cert.FfnHiddenRefIdeal.nD Cert.FfnHiddenRefIdeal.τ).loc Cert.FfnHiddenRefIdeal.main_arg4) = m ((c.tc : Thread Cert.FfnHiddenRefIdeal.nD Cert.FfnHiddenRefIdeal.τ).loc Cert.FfnHiddenRefIdeal.main_arg4)
      ∧ r.2.mem ((c.tc : Thread Cert.FfnHiddenRefIdeal.nD Cert.FfnHiddenRefIdeal.τ).loc Cert.FfnHiddenRefIdeal.main_arg5) = m ((c.tc : Thread Cert.FfnHiddenRefIdeal.nD Cert.FfnHiddenRefIdeal.τ).loc Cert.FfnHiddenRefIdeal.main_arg5))
      ∧ r.2.sem = fun _ => 0)

def quiescent_RgGatesBwd [hRgGatesBwd : Cert.RgGatesBwd.Facts] : Prop :=
  ∀ (m : (ℓ : Loc Cert.RgGatesBwd.nD Cert.RgGatesBwd.τ Cert.RgGatesBwd.sig) → Buf (Elt Bits) ℓ) (g : Dev Cert.RgGatesBwd.nD → PrngReg), Pre_RgGatesBwd m →
    θ_run (Cert.RgGatesBwd.defs (F := Bits)) (onTc (τ := Cert.RgGatesBwd.τ) (Cert.RgGatesBwd.main (F := Bits))) ⟨m, fun _ => 0, g⟩ (fun r => (∀ c : Dev Cert.RgGatesBwd.nD,
      r.2.mem ((c.tc : Thread Cert.RgGatesBwd.nD Cert.RgGatesBwd.τ).loc Cert.RgGatesBwd.main_arg0) = m ((c.tc : Thread Cert.RgGatesBwd.nD Cert.RgGatesBwd.τ).loc Cert.RgGatesBwd.main_arg0)
      ∧ r.2.mem ((c.tc : Thread Cert.RgGatesBwd.nD Cert.RgGatesBwd.τ).loc Cert.RgGatesBwd.main_arg1) = m ((c.tc : Thread Cert.RgGatesBwd.nD Cert.RgGatesBwd.τ).loc Cert.RgGatesBwd.main_arg1)
      ∧ r.2.mem ((c.tc : Thread Cert.RgGatesBwd.nD Cert.RgGatesBwd.τ).loc Cert.RgGatesBwd.main_arg2) = m ((c.tc : Thread Cert.RgGatesBwd.nD Cert.RgGatesBwd.τ).loc Cert.RgGatesBwd.main_arg2)
      ∧ r.2.mem ((c.tc : Thread Cert.RgGatesBwd.nD Cert.RgGatesBwd.τ).loc Cert.RgGatesBwd.main_arg3) = m ((c.tc : Thread Cert.RgGatesBwd.nD Cert.RgGatesBwd.τ).loc Cert.RgGatesBwd.main_arg3)
      ∧ r.2.mem ((c.tc : Thread Cert.RgGatesBwd.nD Cert.RgGatesBwd.τ).loc Cert.RgGatesBwd.main_arg4) = m ((c.tc : Thread Cert.RgGatesBwd.nD Cert.RgGatesBwd.τ).loc Cert.RgGatesBwd.main_arg4)
      ∧ r.2.mem ((c.tc : Thread Cert.RgGatesBwd.nD Cert.RgGatesBwd.τ).loc Cert.RgGatesBwd.main_arg5) = m ((c.tc : Thread Cert.RgGatesBwd.nD Cert.RgGatesBwd.τ).loc Cert.RgGatesBwd.main_arg5)
      ∧ r.2.mem ((c.tc : Thread Cert.RgGatesBwd.nD Cert.RgGatesBwd.τ).loc Cert.RgGatesBwd.main_arg6) = m ((c.tc : Thread Cert.RgGatesBwd.nD Cert.RgGatesBwd.τ).loc Cert.RgGatesBwd.main_arg6)
      ∧ r.2.mem ((c.tc : Thread Cert.RgGatesBwd.nD Cert.RgGatesBwd.τ).loc Cert.RgGatesBwd.main_arg7) = m ((c.tc : Thread Cert.RgGatesBwd.nD Cert.RgGatesBwd.τ).loc Cert.RgGatesBwd.main_arg7))
      ∧ r.2.sem = fun _ => 0)

def quiescent_RgGatesBwdIdeal [hRgGatesBwdIdeal : Cert.RgGatesBwdIdeal.Facts] : Prop :=
  ∀ (m : (ℓ : Loc Cert.RgGatesBwdIdeal.nD Cert.RgGatesBwdIdeal.τ Cert.RgGatesBwdIdeal.sig) → Buf (Elt Ideal) ℓ) (g : Dev Cert.RgGatesBwdIdeal.nD → PrngReg), Pre_RgGatesBwdIdeal m →
    θ_run (Cert.RgGatesBwdIdeal.defs (F := Ideal)) (onTc (τ := Cert.RgGatesBwdIdeal.τ) (Cert.RgGatesBwdIdeal.main (F := Ideal))) ⟨m, fun _ => 0, g⟩ (fun r => (∀ c : Dev Cert.RgGatesBwdIdeal.nD,
      r.2.mem ((c.tc : Thread Cert.RgGatesBwdIdeal.nD Cert.RgGatesBwdIdeal.τ).loc Cert.RgGatesBwdIdeal.main_arg0) = m ((c.tc : Thread Cert.RgGatesBwdIdeal.nD Cert.RgGatesBwdIdeal.τ).loc Cert.RgGatesBwdIdeal.main_arg0)
      ∧ r.2.mem ((c.tc : Thread Cert.RgGatesBwdIdeal.nD Cert.RgGatesBwdIdeal.τ).loc Cert.RgGatesBwdIdeal.main_arg1) = m ((c.tc : Thread Cert.RgGatesBwdIdeal.nD Cert.RgGatesBwdIdeal.τ).loc Cert.RgGatesBwdIdeal.main_arg1)
      ∧ r.2.mem ((c.tc : Thread Cert.RgGatesBwdIdeal.nD Cert.RgGatesBwdIdeal.τ).loc Cert.RgGatesBwdIdeal.main_arg2) = m ((c.tc : Thread Cert.RgGatesBwdIdeal.nD Cert.RgGatesBwdIdeal.τ).loc Cert.RgGatesBwdIdeal.main_arg2)
      ∧ r.2.mem ((c.tc : Thread Cert.RgGatesBwdIdeal.nD Cert.RgGatesBwdIdeal.τ).loc Cert.RgGatesBwdIdeal.main_arg3) = m ((c.tc : Thread Cert.RgGatesBwdIdeal.nD Cert.RgGatesBwdIdeal.τ).loc Cert.RgGatesBwdIdeal.main_arg3)
      ∧ r.2.mem ((c.tc : Thread Cert.RgGatesBwdIdeal.nD Cert.RgGatesBwdIdeal.τ).loc Cert.RgGatesBwdIdeal.main_arg4) = m ((c.tc : Thread Cert.RgGatesBwdIdeal.nD Cert.RgGatesBwdIdeal.τ).loc Cert.RgGatesBwdIdeal.main_arg4)
      ∧ r.2.mem ((c.tc : Thread Cert.RgGatesBwdIdeal.nD Cert.RgGatesBwdIdeal.τ).loc Cert.RgGatesBwdIdeal.main_arg5) = m ((c.tc : Thread Cert.RgGatesBwdIdeal.nD Cert.RgGatesBwdIdeal.τ).loc Cert.RgGatesBwdIdeal.main_arg5)
      ∧ r.2.mem ((c.tc : Thread Cert.RgGatesBwdIdeal.nD Cert.RgGatesBwdIdeal.τ).loc Cert.RgGatesBwdIdeal.main_arg6) = m ((c.tc : Thread Cert.RgGatesBwdIdeal.nD Cert.RgGatesBwdIdeal.τ).loc Cert.RgGatesBwdIdeal.main_arg6)
      ∧ r.2.mem ((c.tc : Thread Cert.RgGatesBwdIdeal.nD Cert.RgGatesBwdIdeal.τ).loc Cert.RgGatesBwdIdeal.main_arg7) = m ((c.tc : Thread Cert.RgGatesBwdIdeal.nD Cert.RgGatesBwdIdeal.τ).loc Cert.RgGatesBwdIdeal.main_arg7))
      ∧ r.2.sem = fun _ => 0)

def quiescent_RgConvFwd [hRgConvFwd : Cert.RgConvFwd.Facts] : Prop :=
  ∀ (m : (ℓ : Loc Cert.RgConvFwd.nD Cert.RgConvFwd.τ Cert.RgConvFwd.sig) → Buf (Elt Bits) ℓ) (g : Dev Cert.RgConvFwd.nD → PrngReg), Pre_RgConvFwd m →
    θ_run (Cert.RgConvFwd.defs (F := Bits)) (onTc (τ := Cert.RgConvFwd.τ) (Cert.RgConvFwd.main (F := Bits))) ⟨m, fun _ => 0, g⟩ (fun r => (∀ c : Dev Cert.RgConvFwd.nD,
      r.2.mem ((c.tc : Thread Cert.RgConvFwd.nD Cert.RgConvFwd.τ).loc Cert.RgConvFwd.main_arg0) = m ((c.tc : Thread Cert.RgConvFwd.nD Cert.RgConvFwd.τ).loc Cert.RgConvFwd.main_arg0)
      ∧ r.2.mem ((c.tc : Thread Cert.RgConvFwd.nD Cert.RgConvFwd.τ).loc Cert.RgConvFwd.main_arg1) = m ((c.tc : Thread Cert.RgConvFwd.nD Cert.RgConvFwd.τ).loc Cert.RgConvFwd.main_arg1)
      ∧ r.2.mem ((c.tc : Thread Cert.RgConvFwd.nD Cert.RgConvFwd.τ).loc Cert.RgConvFwd.main_arg2) = m ((c.tc : Thread Cert.RgConvFwd.nD Cert.RgConvFwd.τ).loc Cert.RgConvFwd.main_arg2))
      ∧ r.2.sem = fun _ => 0)

def quiescent_RgConvFwdIdeal [hRgConvFwdIdeal : Cert.RgConvFwdIdeal.Facts] : Prop :=
  ∀ (m : (ℓ : Loc Cert.RgConvFwdIdeal.nD Cert.RgConvFwdIdeal.τ Cert.RgConvFwdIdeal.sig) → Buf (Elt Ideal) ℓ) (g : Dev Cert.RgConvFwdIdeal.nD → PrngReg), Pre_RgConvFwdIdeal m →
    θ_run (Cert.RgConvFwdIdeal.defs (F := Ideal)) (onTc (τ := Cert.RgConvFwdIdeal.τ) (Cert.RgConvFwdIdeal.main (F := Ideal))) ⟨m, fun _ => 0, g⟩ (fun r => (∀ c : Dev Cert.RgConvFwdIdeal.nD,
      r.2.mem ((c.tc : Thread Cert.RgConvFwdIdeal.nD Cert.RgConvFwdIdeal.τ).loc Cert.RgConvFwdIdeal.main_arg0) = m ((c.tc : Thread Cert.RgConvFwdIdeal.nD Cert.RgConvFwdIdeal.τ).loc Cert.RgConvFwdIdeal.main_arg0)
      ∧ r.2.mem ((c.tc : Thread Cert.RgConvFwdIdeal.nD Cert.RgConvFwdIdeal.τ).loc Cert.RgConvFwdIdeal.main_arg1) = m ((c.tc : Thread Cert.RgConvFwdIdeal.nD Cert.RgConvFwdIdeal.τ).loc Cert.RgConvFwdIdeal.main_arg1)
      ∧ r.2.mem ((c.tc : Thread Cert.RgConvFwdIdeal.nD Cert.RgConvFwdIdeal.τ).loc Cert.RgConvFwdIdeal.main_arg2) = m ((c.tc : Thread Cert.RgConvFwdIdeal.nD Cert.RgConvFwdIdeal.τ).loc Cert.RgConvFwdIdeal.main_arg2))
      ∧ r.2.sem = fun _ => 0)

def quiescent_RgConvFwdRefIdeal [hRgConvFwdRefIdeal : Cert.RgConvFwdRefIdeal.Facts] : Prop :=
  ∀ (m : (ℓ : Loc Cert.RgConvFwdRefIdeal.nD Cert.RgConvFwdRefIdeal.τ Cert.RgConvFwdRefIdeal.sig) → Buf (Elt Ideal) ℓ) (g : Dev Cert.RgConvFwdRefIdeal.nD → PrngReg), Pre_RgConvFwdRefIdeal m →
    θ_run (Cert.RgConvFwdRefIdeal.defs (F := Ideal)) (onTc (τ := Cert.RgConvFwdRefIdeal.τ) (Cert.RgConvFwdRefIdeal.main (F := Ideal))) ⟨m, fun _ => 0, g⟩ (fun r => (∀ c : Dev Cert.RgConvFwdRefIdeal.nD,
      r.2.mem ((c.tc : Thread Cert.RgConvFwdRefIdeal.nD Cert.RgConvFwdRefIdeal.τ).loc Cert.RgConvFwdRefIdeal.main_arg0) = m ((c.tc : Thread Cert.RgConvFwdRefIdeal.nD Cert.RgConvFwdRefIdeal.τ).loc Cert.RgConvFwdRefIdeal.main_arg0)
      ∧ r.2.mem ((c.tc : Thread Cert.RgConvFwdRefIdeal.nD Cert.RgConvFwdRefIdeal.τ).loc Cert.RgConvFwdRefIdeal.main_arg1) = m ((c.tc : Thread Cert.RgConvFwdRefIdeal.nD Cert.RgConvFwdRefIdeal.τ).loc Cert.RgConvFwdRefIdeal.main_arg1)
      ∧ r.2.mem ((c.tc : Thread Cert.RgConvFwdRefIdeal.nD Cert.RgConvFwdRefIdeal.τ).loc Cert.RgConvFwdRefIdeal.main_arg2) = m ((c.tc : Thread Cert.RgConvFwdRefIdeal.nD Cert.RgConvFwdRefIdeal.τ).loc Cert.RgConvFwdRefIdeal.main_arg2))
      ∧ r.2.sem = fun _ => 0)

def quiescent_GdnConvFwd [hGdnConvFwd : Cert.GdnConvFwd.Facts] : Prop :=
  ∀ (m : (ℓ : Loc Cert.GdnConvFwd.nD Cert.GdnConvFwd.τ Cert.GdnConvFwd.sig) → Buf (Elt Bits) ℓ) (g : Dev Cert.GdnConvFwd.nD → PrngReg), Pre_GdnConvFwd m →
    θ_run (Cert.GdnConvFwd.defs (F := Bits)) (onTc (τ := Cert.GdnConvFwd.τ) (Cert.GdnConvFwd.main (F := Bits))) ⟨m, fun _ => 0, g⟩ (fun r => (∀ c : Dev Cert.GdnConvFwd.nD,
      r.2.mem ((c.tc : Thread Cert.GdnConvFwd.nD Cert.GdnConvFwd.τ).loc Cert.GdnConvFwd.main_arg0) = m ((c.tc : Thread Cert.GdnConvFwd.nD Cert.GdnConvFwd.τ).loc Cert.GdnConvFwd.main_arg0)
      ∧ r.2.mem ((c.tc : Thread Cert.GdnConvFwd.nD Cert.GdnConvFwd.τ).loc Cert.GdnConvFwd.main_arg1) = m ((c.tc : Thread Cert.GdnConvFwd.nD Cert.GdnConvFwd.τ).loc Cert.GdnConvFwd.main_arg1))
      ∧ r.2.sem = fun _ => 0)

def quiescent_GdnConvFwdIdeal [hGdnConvFwdIdeal : Cert.GdnConvFwdIdeal.Facts] : Prop :=
  ∀ (m : (ℓ : Loc Cert.GdnConvFwdIdeal.nD Cert.GdnConvFwdIdeal.τ Cert.GdnConvFwdIdeal.sig) → Buf (Elt Ideal) ℓ) (g : Dev Cert.GdnConvFwdIdeal.nD → PrngReg), Pre_GdnConvFwdIdeal m →
    θ_run (Cert.GdnConvFwdIdeal.defs (F := Ideal)) (onTc (τ := Cert.GdnConvFwdIdeal.τ) (Cert.GdnConvFwdIdeal.main (F := Ideal))) ⟨m, fun _ => 0, g⟩ (fun r => (∀ c : Dev Cert.GdnConvFwdIdeal.nD,
      r.2.mem ((c.tc : Thread Cert.GdnConvFwdIdeal.nD Cert.GdnConvFwdIdeal.τ).loc Cert.GdnConvFwdIdeal.main_arg0) = m ((c.tc : Thread Cert.GdnConvFwdIdeal.nD Cert.GdnConvFwdIdeal.τ).loc Cert.GdnConvFwdIdeal.main_arg0)
      ∧ r.2.mem ((c.tc : Thread Cert.GdnConvFwdIdeal.nD Cert.GdnConvFwdIdeal.τ).loc Cert.GdnConvFwdIdeal.main_arg1) = m ((c.tc : Thread Cert.GdnConvFwdIdeal.nD Cert.GdnConvFwdIdeal.τ).loc Cert.GdnConvFwdIdeal.main_arg1))
      ∧ r.2.sem = fun _ => 0)

def quiescent_GdnConvFwdRefIdeal [hGdnConvFwdRefIdeal : Cert.GdnConvFwdRefIdeal.Facts] : Prop :=
  ∀ (m : (ℓ : Loc Cert.GdnConvFwdRefIdeal.nD Cert.GdnConvFwdRefIdeal.τ Cert.GdnConvFwdRefIdeal.sig) → Buf (Elt Ideal) ℓ) (g : Dev Cert.GdnConvFwdRefIdeal.nD → PrngReg), Pre_GdnConvFwdRefIdeal m →
    θ_run (Cert.GdnConvFwdRefIdeal.defs (F := Ideal)) (onTc (τ := Cert.GdnConvFwdRefIdeal.τ) (Cert.GdnConvFwdRefIdeal.main (F := Ideal))) ⟨m, fun _ => 0, g⟩ (fun r => (∀ c : Dev Cert.GdnConvFwdRefIdeal.nD,
      r.2.mem ((c.tc : Thread Cert.GdnConvFwdRefIdeal.nD Cert.GdnConvFwdRefIdeal.τ).loc Cert.GdnConvFwdRefIdeal.main_arg0) = m ((c.tc : Thread Cert.GdnConvFwdRefIdeal.nD Cert.GdnConvFwdRefIdeal.τ).loc Cert.GdnConvFwdRefIdeal.main_arg0)
      ∧ r.2.mem ((c.tc : Thread Cert.GdnConvFwdRefIdeal.nD Cert.GdnConvFwdRefIdeal.τ).loc Cert.GdnConvFwdRefIdeal.main_arg1) = m ((c.tc : Thread Cert.GdnConvFwdRefIdeal.nD Cert.GdnConvFwdRefIdeal.τ).loc Cert.GdnConvFwdRefIdeal.main_arg1))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1)
      ∧ r.2.mem ((c.tc : Thread Cert.InProjFwd.nD Cert.InProjFwd.τ).loc Cert.InProjFwd.main_arg2) = m ((c.tc : Thread Cert.InProjFwd.nD Cert.InProjFwd.τ).loc Cert.InProjFwd.main_arg2))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
      ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1)
      ∧ r.2.mem ((c.tc : Thread Cert.InProjFwdRefIdeal.nD Cert.InProjFwdRefIdeal.τ).loc Cert.InProjFwdRefIdeal.main_arg2) = m ((c.tc : Thread Cert.InProjFwdRefIdeal.nD Cert.InProjFwdRefIdeal.τ).loc Cert.InProjFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_OutProjFwd [hOutProjFwd : Cert.OutProjFwd.Facts] : Prop :=
  ∀ (m : (ℓ : Loc Cert.OutProjFwd.nD Cert.OutProjFwd.τ Cert.OutProjFwd.sig) → Buf (Elt Bits) ℓ) (g : Dev Cert.OutProjFwd.nD → PrngReg), Pre_OutProjFwd m →
    θ_run (Cert.OutProjFwd.defs (F := Bits)) (onTc (τ := Cert.OutProjFwd.τ) (Cert.OutProjFwd.main (F := Bits))) ⟨m, fun _ => 0, g⟩ (fun r => (∀ c : Dev Cert.OutProjFwd.nD,
      r.2.mem ((c.tc : Thread Cert.OutProjFwd.nD Cert.OutProjFwd.τ).loc Cert.OutProjFwd.main_arg0) = m ((c.tc : Thread Cert.OutProjFwd.nD Cert.OutProjFwd.τ).loc Cert.OutProjFwd.main_arg0)
      ∧ r.2.mem ((c.tc : Thread Cert.OutProjFwd.nD Cert.OutProjFwd.τ).loc Cert.OutProjFwd.main_arg1) = m ((c.tc : Thread Cert.OutProjFwd.nD Cert.OutProjFwd.τ).loc Cert.OutProjFwd.main_arg1)
      ∧ r.2.mem ((c.tc : Thread Cert.OutProjFwd.nD Cert.OutProjFwd.τ).loc Cert.OutProjFwd.main_arg2) = m ((c.tc : Thread Cert.OutProjFwd.nD Cert.OutProjFwd.τ).loc Cert.OutProjFwd.main_arg2)
      ∧ r.2.mem ((c.tc : Thread Cert.OutProjFwd.nD Cert.OutProjFwd.τ).loc Cert.OutProjFwd.main_arg3) = m ((c.tc : Thread Cert.OutProjFwd.nD Cert.OutProjFwd.τ).loc Cert.OutProjFwd.main_arg3)
      ∧ r.2.mem ((c.tc : Thread Cert.OutProjFwd.nD Cert.OutProjFwd.τ).loc Cert.OutProjFwd.main_arg4) = m ((c.tc : Thread Cert.OutProjFwd.nD Cert.OutProjFwd.τ).loc Cert.OutProjFwd.main_arg4)
      ∧ r.2.mem ((c.tc : Thread Cert.OutProjFwd.nD Cert.OutProjFwd.τ).loc Cert.OutProjFwd.main_arg5) = m ((c.tc : Thread Cert.OutProjFwd.nD Cert.OutProjFwd.τ).loc Cert.OutProjFwd.main_arg5)
      ∧ r.2.mem ((c.tc : Thread Cert.OutProjFwd.nD Cert.OutProjFwd.τ).loc Cert.OutProjFwd.main_arg6) = m ((c.tc : Thread Cert.OutProjFwd.nD Cert.OutProjFwd.τ).loc Cert.OutProjFwd.main_arg6)
      ∧ r.2.mem ((c.tc : Thread Cert.OutProjFwd.nD Cert.OutProjFwd.τ).loc Cert.OutProjFwd.main_arg7) = m ((c.tc : Thread Cert.OutProjFwd.nD Cert.OutProjFwd.τ).loc Cert.OutProjFwd.main_arg7)
      ∧ r.2.mem ((c.tc : Thread Cert.OutProjFwd.nD Cert.OutProjFwd.τ).loc Cert.OutProjFwd.main_arg8) = m ((c.tc : Thread Cert.OutProjFwd.nD Cert.OutProjFwd.τ).loc Cert.OutProjFwd.main_arg8))
      ∧ r.2.sem = fun _ => 0)

def quiescent_OutProjFwdIdeal [hOutProjFwdIdeal : Cert.OutProjFwdIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg), Pre_OutProjFwdIdeal m →
    θ_run (Cert.OutProjFwdIdeal.defs (F := Ideal)) (onTc (τ := Cert.OutProjFwdIdeal.τ) (Cert.OutProjFwdIdeal.main (F := Ideal))) ⟨m, fun _ => 0, g⟩ (fun r => (∀ c : Dev Cert.OutProjFwdIdeal.nD,
      r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
      ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
      ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
      ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3)
      ∧ r.2.mem ((c.tc : Thread Cert.OutProjFwdIdeal.nD Cert.OutProjFwdIdeal.τ).loc Cert.OutProjFwdIdeal.main_arg4) = m ((c.tc : Thread Cert.OutProjFwdIdeal.nD Cert.OutProjFwdIdeal.τ).loc Cert.OutProjFwdIdeal.main_arg4)
      ∧ r.2.mem ((c.tc : Thread Cert.OutProjFwdIdeal.nD Cert.OutProjFwdIdeal.τ).loc Cert.OutProjFwdIdeal.main_arg5) = m ((c.tc : Thread Cert.OutProjFwdIdeal.nD Cert.OutProjFwdIdeal.τ).loc Cert.OutProjFwdIdeal.main_arg5)
      ∧ r.2.mem ((c.tc : Thread Cert.OutProjFwdIdeal.nD Cert.OutProjFwdIdeal.τ).loc Cert.OutProjFwdIdeal.main_arg6) = m ((c.tc : Thread Cert.OutProjFwdIdeal.nD Cert.OutProjFwdIdeal.τ).loc Cert.OutProjFwdIdeal.main_arg6)
      ∧ r.2.mem ((c.tc : Thread Cert.OutProjFwdIdeal.nD Cert.OutProjFwdIdeal.τ).loc Cert.OutProjFwdIdeal.main_arg7) = m ((c.tc : Thread Cert.OutProjFwdIdeal.nD Cert.OutProjFwdIdeal.τ).loc Cert.OutProjFwdIdeal.main_arg7)
      ∧ r.2.mem ((c.tc : Thread Cert.OutProjFwdIdeal.nD Cert.OutProjFwdIdeal.τ).loc Cert.OutProjFwdIdeal.main_arg8) = m ((c.tc : Thread Cert.OutProjFwdIdeal.nD Cert.OutProjFwdIdeal.τ).loc Cert.OutProjFwdIdeal.main_arg8))
      ∧ r.2.sem = fun _ => 0)

def quiescent_OutProjFwdRefIdeal [hOutProjFwdRefIdeal : Cert.OutProjFwdRefIdeal.Facts] : Prop :=
  ∀ (m : (ℓ : Loc Cert.OutProjFwdRefIdeal.nD Cert.OutProjFwdRefIdeal.τ Cert.OutProjFwdRefIdeal.sig) → Buf (Elt Ideal) ℓ) (g : Dev Cert.OutProjFwdRefIdeal.nD → PrngReg), Pre_OutProjFwdRefIdeal m →
    θ_run (Cert.OutProjFwdRefIdeal.defs (F := Ideal)) (onTc (τ := Cert.OutProjFwdRefIdeal.τ) (Cert.OutProjFwdRefIdeal.main (F := Ideal))) ⟨m, fun _ => 0, g⟩ (fun r => (∀ c : Dev Cert.OutProjFwdRefIdeal.nD,
      r.2.mem ((c.tc : Thread Cert.OutProjFwdRefIdeal.nD Cert.OutProjFwdRefIdeal.τ).loc Cert.OutProjFwdRefIdeal.main_arg0) = m ((c.tc : Thread Cert.OutProjFwdRefIdeal.nD Cert.OutProjFwdRefIdeal.τ).loc Cert.OutProjFwdRefIdeal.main_arg0)
      ∧ r.2.mem ((c.tc : Thread Cert.OutProjFwdRefIdeal.nD Cert.OutProjFwdRefIdeal.τ).loc Cert.OutProjFwdRefIdeal.main_arg1) = m ((c.tc : Thread Cert.OutProjFwdRefIdeal.nD Cert.OutProjFwdRefIdeal.τ).loc Cert.OutProjFwdRefIdeal.main_arg1)
      ∧ r.2.mem ((c.tc : Thread Cert.OutProjFwdRefIdeal.nD Cert.OutProjFwdRefIdeal.τ).loc Cert.OutProjFwdRefIdeal.main_arg2) = m ((c.tc : Thread Cert.OutProjFwdRefIdeal.nD Cert.OutProjFwdRefIdeal.τ).loc Cert.OutProjFwdRefIdeal.main_arg2)
      ∧ r.2.mem ((c.tc : Thread Cert.OutProjFwdRefIdeal.nD Cert.OutProjFwdRefIdeal.τ).loc Cert.OutProjFwdRefIdeal.main_arg3) = m ((c.tc : Thread Cert.OutProjFwdRefIdeal.nD Cert.OutProjFwdRefIdeal.τ).loc Cert.OutProjFwdRefIdeal.main_arg3)
      ∧ r.2.mem ((c.tc : Thread Cert.OutProjFwdRefIdeal.nD Cert.OutProjFwdRefIdeal.τ).loc Cert.OutProjFwdRefIdeal.main_arg4) = m ((c.tc : Thread Cert.OutProjFwdRefIdeal.nD Cert.OutProjFwdRefIdeal.τ).loc Cert.OutProjFwdRefIdeal.main_arg4)
      ∧ r.2.mem ((c.tc : Thread Cert.OutProjFwdRefIdeal.nD Cert.OutProjFwdRefIdeal.τ).loc Cert.OutProjFwdRefIdeal.main_arg5) = m ((c.tc : Thread Cert.OutProjFwdRefIdeal.nD Cert.OutProjFwdRefIdeal.τ).loc Cert.OutProjFwdRefIdeal.main_arg5)
      ∧ r.2.mem ((c.tc : Thread Cert.OutProjFwdRefIdeal.nD Cert.OutProjFwdRefIdeal.τ).loc Cert.OutProjFwdRefIdeal.main_arg6) = m ((c.tc : Thread Cert.OutProjFwdRefIdeal.nD Cert.OutProjFwdRefIdeal.τ).loc Cert.OutProjFwdRefIdeal.main_arg6)
      ∧ r.2.mem ((c.tc : Thread Cert.OutProjFwdRefIdeal.nD Cert.OutProjFwdRefIdeal.τ).loc Cert.OutProjFwdRefIdeal.main_arg7) = m ((c.tc : Thread Cert.OutProjFwdRefIdeal.nD Cert.OutProjFwdRefIdeal.τ).loc Cert.OutProjFwdRefIdeal.main_arg7)
      ∧ r.2.mem ((c.tc : Thread Cert.OutProjFwdRefIdeal.nD Cert.OutProjFwdRefIdeal.τ).loc Cert.OutProjFwdRefIdeal.main_arg8) = m ((c.tc : Thread Cert.OutProjFwdRefIdeal.nD Cert.OutProjFwdRefIdeal.τ).loc Cert.OutProjFwdRefIdeal.main_arg8))
      ∧ r.2.sem = fun _ => 0)

def quiescent_GdnSeqFwd [hGdnSeqFwd : Cert.GdnSeqFwd.Facts] : Prop :=
  ∀ (m : (ℓ : Loc Cert.GdnSeqFwd.nD Cert.GdnSeqFwd.τ Cert.GdnSeqFwd.sig) → Buf (Elt Bits) ℓ) (g : Dev Cert.GdnSeqFwd.nD → PrngReg), Pre_GdnSeqFwd m →
    θ_run (Cert.GdnSeqFwd.defs (F := Bits)) (onTc (τ := Cert.GdnSeqFwd.τ) (Cert.GdnSeqFwd.main (F := Bits))) ⟨m, fun _ => 0, g⟩ (fun r => (∀ c : Dev Cert.GdnSeqFwd.nD,
      r.2.mem ((c.tc : Thread Cert.GdnSeqFwd.nD Cert.GdnSeqFwd.τ).loc Cert.GdnSeqFwd.main_arg0) = m ((c.tc : Thread Cert.GdnSeqFwd.nD Cert.GdnSeqFwd.τ).loc Cert.GdnSeqFwd.main_arg0)
      ∧ r.2.mem ((c.tc : Thread Cert.GdnSeqFwd.nD Cert.GdnSeqFwd.τ).loc Cert.GdnSeqFwd.main_arg1) = m ((c.tc : Thread Cert.GdnSeqFwd.nD Cert.GdnSeqFwd.τ).loc Cert.GdnSeqFwd.main_arg1)
      ∧ r.2.mem ((c.tc : Thread Cert.GdnSeqFwd.nD Cert.GdnSeqFwd.τ).loc Cert.GdnSeqFwd.main_arg2) = m ((c.tc : Thread Cert.GdnSeqFwd.nD Cert.GdnSeqFwd.τ).loc Cert.GdnSeqFwd.main_arg2)
      ∧ r.2.mem ((c.tc : Thread Cert.GdnSeqFwd.nD Cert.GdnSeqFwd.τ).loc Cert.GdnSeqFwd.main_arg3) = m ((c.tc : Thread Cert.GdnSeqFwd.nD Cert.GdnSeqFwd.τ).loc Cert.GdnSeqFwd.main_arg3)
      ∧ r.2.mem ((c.tc : Thread Cert.GdnSeqFwd.nD Cert.GdnSeqFwd.τ).loc Cert.GdnSeqFwd.main_arg4) = m ((c.tc : Thread Cert.GdnSeqFwd.nD Cert.GdnSeqFwd.τ).loc Cert.GdnSeqFwd.main_arg4)
      ∧ r.2.mem ((c.tc : Thread Cert.GdnSeqFwd.nD Cert.GdnSeqFwd.τ).loc Cert.GdnSeqFwd.main_arg5) = m ((c.tc : Thread Cert.GdnSeqFwd.nD Cert.GdnSeqFwd.τ).loc Cert.GdnSeqFwd.main_arg5))
      ∧ r.2.sem = fun _ => 0)

def quiescent_GdnSeqFwdIdeal [hGdnSeqFwdIdeal : Cert.GdnSeqFwdIdeal.Facts] : Prop :=
  ∀ (m : (ℓ : Loc Cert.GdnSeqFwdIdeal.nD Cert.GdnSeqFwdIdeal.τ Cert.GdnSeqFwdIdeal.sig) → Buf (Elt Ideal) ℓ) (g : Dev Cert.GdnSeqFwdIdeal.nD → PrngReg), Pre_GdnSeqFwdIdeal m →
    θ_run (Cert.GdnSeqFwdIdeal.defs (F := Ideal)) (onTc (τ := Cert.GdnSeqFwdIdeal.τ) (Cert.GdnSeqFwdIdeal.main (F := Ideal))) ⟨m, fun _ => 0, g⟩ (fun r => (∀ c : Dev Cert.GdnSeqFwdIdeal.nD,
      r.2.mem ((c.tc : Thread Cert.GdnSeqFwdIdeal.nD Cert.GdnSeqFwdIdeal.τ).loc Cert.GdnSeqFwdIdeal.main_arg0) = m ((c.tc : Thread Cert.GdnSeqFwdIdeal.nD Cert.GdnSeqFwdIdeal.τ).loc Cert.GdnSeqFwdIdeal.main_arg0)
      ∧ r.2.mem ((c.tc : Thread Cert.GdnSeqFwdIdeal.nD Cert.GdnSeqFwdIdeal.τ).loc Cert.GdnSeqFwdIdeal.main_arg1) = m ((c.tc : Thread Cert.GdnSeqFwdIdeal.nD Cert.GdnSeqFwdIdeal.τ).loc Cert.GdnSeqFwdIdeal.main_arg1)
      ∧ r.2.mem ((c.tc : Thread Cert.GdnSeqFwdIdeal.nD Cert.GdnSeqFwdIdeal.τ).loc Cert.GdnSeqFwdIdeal.main_arg2) = m ((c.tc : Thread Cert.GdnSeqFwdIdeal.nD Cert.GdnSeqFwdIdeal.τ).loc Cert.GdnSeqFwdIdeal.main_arg2)
      ∧ r.2.mem ((c.tc : Thread Cert.GdnSeqFwdIdeal.nD Cert.GdnSeqFwdIdeal.τ).loc Cert.GdnSeqFwdIdeal.main_arg3) = m ((c.tc : Thread Cert.GdnSeqFwdIdeal.nD Cert.GdnSeqFwdIdeal.τ).loc Cert.GdnSeqFwdIdeal.main_arg3)
      ∧ r.2.mem ((c.tc : Thread Cert.GdnSeqFwdIdeal.nD Cert.GdnSeqFwdIdeal.τ).loc Cert.GdnSeqFwdIdeal.main_arg4) = m ((c.tc : Thread Cert.GdnSeqFwdIdeal.nD Cert.GdnSeqFwdIdeal.τ).loc Cert.GdnSeqFwdIdeal.main_arg4)
      ∧ r.2.mem ((c.tc : Thread Cert.GdnSeqFwdIdeal.nD Cert.GdnSeqFwdIdeal.τ).loc Cert.GdnSeqFwdIdeal.main_arg5) = m ((c.tc : Thread Cert.GdnSeqFwdIdeal.nD Cert.GdnSeqFwdIdeal.τ).loc Cert.GdnSeqFwdIdeal.main_arg5))
      ∧ r.2.sem = fun _ => 0)

def quiescent_MixPrep [hMixPrep : Cert.MixPrep.Facts] : Prop :=
  ∀ (m : (ℓ : Loc Cert.MixPrep.nD Cert.MixPrep.τ Cert.MixPrep.sig) → Buf (Elt Bits) ℓ) (g : Dev Cert.MixPrep.nD → PrngReg), Pre_MixPrep m →
    θ_run (Cert.MixPrep.defs (F := Bits)) (onTc (τ := Cert.MixPrep.τ) (Cert.MixPrep.main (F := Bits))) ⟨m, fun _ => 0, g⟩ (fun r => (∀ c : Dev Cert.MixPrep.nD,
      r.2.mem ((c.tc : Thread Cert.MixPrep.nD Cert.MixPrep.τ).loc Cert.MixPrep.main_arg0) = m ((c.tc : Thread Cert.MixPrep.nD Cert.MixPrep.τ).loc Cert.MixPrep.main_arg0)
      ∧ r.2.mem ((c.tc : Thread Cert.MixPrep.nD Cert.MixPrep.τ).loc Cert.MixPrep.main_arg1) = m ((c.tc : Thread Cert.MixPrep.nD Cert.MixPrep.τ).loc Cert.MixPrep.main_arg1)
      ∧ r.2.mem ((c.tc : Thread Cert.MixPrep.nD Cert.MixPrep.τ).loc Cert.MixPrep.main_arg2) = m ((c.tc : Thread Cert.MixPrep.nD Cert.MixPrep.τ).loc Cert.MixPrep.main_arg2)
      ∧ r.2.mem ((c.tc : Thread Cert.MixPrep.nD Cert.MixPrep.τ).loc Cert.MixPrep.main_arg3) = m ((c.tc : Thread Cert.MixPrep.nD Cert.MixPrep.τ).loc Cert.MixPrep.main_arg3)
      ∧ r.2.mem ((c.tc : Thread Cert.MixPrep.nD Cert.MixPrep.τ).loc Cert.MixPrep.main_arg4) = m ((c.tc : Thread Cert.MixPrep.nD Cert.MixPrep.τ).loc Cert.MixPrep.main_arg4)
      ∧ r.2.mem ((c.tc : Thread Cert.MixPrep.nD Cert.MixPrep.τ).loc Cert.MixPrep.main_arg5) = m ((c.tc : Thread Cert.MixPrep.nD Cert.MixPrep.τ).loc Cert.MixPrep.main_arg5)
      ∧ r.2.mem ((c.tc : Thread Cert.MixPrep.nD Cert.MixPrep.τ).loc Cert.MixPrep.main_arg6) = m ((c.tc : Thread Cert.MixPrep.nD Cert.MixPrep.τ).loc Cert.MixPrep.main_arg6)
      ∧ r.2.mem ((c.tc : Thread Cert.MixPrep.nD Cert.MixPrep.τ).loc Cert.MixPrep.main_arg7) = m ((c.tc : Thread Cert.MixPrep.nD Cert.MixPrep.τ).loc Cert.MixPrep.main_arg7)
      ∧ r.2.mem ((c.tc : Thread Cert.MixPrep.nD Cert.MixPrep.τ).loc Cert.MixPrep.main_arg8) = m ((c.tc : Thread Cert.MixPrep.nD Cert.MixPrep.τ).loc Cert.MixPrep.main_arg8)
      ∧ r.2.mem ((c.tc : Thread Cert.MixPrep.nD Cert.MixPrep.τ).loc Cert.MixPrep.main_arg9) = m ((c.tc : Thread Cert.MixPrep.nD Cert.MixPrep.τ).loc Cert.MixPrep.main_arg9))
      ∧ r.2.sem = fun _ => 0)

def quiescent_MixPrepIdeal [hMixPrepIdeal : Cert.MixPrepIdeal.Facts] : Prop :=
  ∀ (m : (ℓ : Loc Cert.MixPrepIdeal.nD Cert.MixPrepIdeal.τ Cert.MixPrepIdeal.sig) → Buf (Elt Ideal) ℓ) (g : Dev Cert.MixPrepIdeal.nD → PrngReg), Pre_MixPrepIdeal m →
    θ_run (Cert.MixPrepIdeal.defs (F := Ideal)) (onTc (τ := Cert.MixPrepIdeal.τ) (Cert.MixPrepIdeal.main (F := Ideal))) ⟨m, fun _ => 0, g⟩ (fun r => (∀ c : Dev Cert.MixPrepIdeal.nD,
      r.2.mem ((c.tc : Thread Cert.MixPrepIdeal.nD Cert.MixPrepIdeal.τ).loc Cert.MixPrepIdeal.main_arg0) = m ((c.tc : Thread Cert.MixPrepIdeal.nD Cert.MixPrepIdeal.τ).loc Cert.MixPrepIdeal.main_arg0)
      ∧ r.2.mem ((c.tc : Thread Cert.MixPrepIdeal.nD Cert.MixPrepIdeal.τ).loc Cert.MixPrepIdeal.main_arg1) = m ((c.tc : Thread Cert.MixPrepIdeal.nD Cert.MixPrepIdeal.τ).loc Cert.MixPrepIdeal.main_arg1)
      ∧ r.2.mem ((c.tc : Thread Cert.MixPrepIdeal.nD Cert.MixPrepIdeal.τ).loc Cert.MixPrepIdeal.main_arg2) = m ((c.tc : Thread Cert.MixPrepIdeal.nD Cert.MixPrepIdeal.τ).loc Cert.MixPrepIdeal.main_arg2)
      ∧ r.2.mem ((c.tc : Thread Cert.MixPrepIdeal.nD Cert.MixPrepIdeal.τ).loc Cert.MixPrepIdeal.main_arg3) = m ((c.tc : Thread Cert.MixPrepIdeal.nD Cert.MixPrepIdeal.τ).loc Cert.MixPrepIdeal.main_arg3)
      ∧ r.2.mem ((c.tc : Thread Cert.MixPrepIdeal.nD Cert.MixPrepIdeal.τ).loc Cert.MixPrepIdeal.main_arg4) = m ((c.tc : Thread Cert.MixPrepIdeal.nD Cert.MixPrepIdeal.τ).loc Cert.MixPrepIdeal.main_arg4)
      ∧ r.2.mem ((c.tc : Thread Cert.MixPrepIdeal.nD Cert.MixPrepIdeal.τ).loc Cert.MixPrepIdeal.main_arg5) = m ((c.tc : Thread Cert.MixPrepIdeal.nD Cert.MixPrepIdeal.τ).loc Cert.MixPrepIdeal.main_arg5)
      ∧ r.2.mem ((c.tc : Thread Cert.MixPrepIdeal.nD Cert.MixPrepIdeal.τ).loc Cert.MixPrepIdeal.main_arg6) = m ((c.tc : Thread Cert.MixPrepIdeal.nD Cert.MixPrepIdeal.τ).loc Cert.MixPrepIdeal.main_arg6)
      ∧ r.2.mem ((c.tc : Thread Cert.MixPrepIdeal.nD Cert.MixPrepIdeal.τ).loc Cert.MixPrepIdeal.main_arg7) = m ((c.tc : Thread Cert.MixPrepIdeal.nD Cert.MixPrepIdeal.τ).loc Cert.MixPrepIdeal.main_arg7)
      ∧ r.2.mem ((c.tc : Thread Cert.MixPrepIdeal.nD Cert.MixPrepIdeal.τ).loc Cert.MixPrepIdeal.main_arg8) = m ((c.tc : Thread Cert.MixPrepIdeal.nD Cert.MixPrepIdeal.τ).loc Cert.MixPrepIdeal.main_arg8)
      ∧ r.2.mem ((c.tc : Thread Cert.MixPrepIdeal.nD Cert.MixPrepIdeal.τ).loc Cert.MixPrepIdeal.main_arg9) = m ((c.tc : Thread Cert.MixPrepIdeal.nD Cert.MixPrepIdeal.τ).loc Cert.MixPrepIdeal.main_arg9))
      ∧ r.2.sem = fun _ => 0)

def quiescent_MixPrepRefIdeal [hMixPrepRefIdeal : Cert.MixPrepRefIdeal.Facts] : Prop :=
  ∀ (m : (ℓ : Loc Cert.MixPrepRefIdeal.nD Cert.MixPrepRefIdeal.τ Cert.MixPrepRefIdeal.sig) → Buf (Elt Ideal) ℓ) (g : Dev Cert.MixPrepRefIdeal.nD → PrngReg), Pre_MixPrepRefIdeal m →
    θ_run (Cert.MixPrepRefIdeal.defs (F := Ideal)) (onTc (τ := Cert.MixPrepRefIdeal.τ) (Cert.MixPrepRefIdeal.main (F := Ideal))) ⟨m, fun _ => 0, g⟩ (fun r => (∀ c : Dev Cert.MixPrepRefIdeal.nD,
      r.2.mem ((c.tc : Thread Cert.MixPrepRefIdeal.nD Cert.MixPrepRefIdeal.τ).loc Cert.MixPrepRefIdeal.main_arg0) = m ((c.tc : Thread Cert.MixPrepRefIdeal.nD Cert.MixPrepRefIdeal.τ).loc Cert.MixPrepRefIdeal.main_arg0)
      ∧ r.2.mem ((c.tc : Thread Cert.MixPrepRefIdeal.nD Cert.MixPrepRefIdeal.τ).loc Cert.MixPrepRefIdeal.main_arg1) = m ((c.tc : Thread Cert.MixPrepRefIdeal.nD Cert.MixPrepRefIdeal.τ).loc Cert.MixPrepRefIdeal.main_arg1)
      ∧ r.2.mem ((c.tc : Thread Cert.MixPrepRefIdeal.nD Cert.MixPrepRefIdeal.τ).loc Cert.MixPrepRefIdeal.main_arg2) = m ((c.tc : Thread Cert.MixPrepRefIdeal.nD Cert.MixPrepRefIdeal.τ).loc Cert.MixPrepRefIdeal.main_arg2)
      ∧ r.2.mem ((c.tc : Thread Cert.MixPrepRefIdeal.nD Cert.MixPrepRefIdeal.τ).loc Cert.MixPrepRefIdeal.main_arg3) = m ((c.tc : Thread Cert.MixPrepRefIdeal.nD Cert.MixPrepRefIdeal.τ).loc Cert.MixPrepRefIdeal.main_arg3)
      ∧ r.2.mem ((c.tc : Thread Cert.MixPrepRefIdeal.nD Cert.MixPrepRefIdeal.τ).loc Cert.MixPrepRefIdeal.main_arg4) = m ((c.tc : Thread Cert.MixPrepRefIdeal.nD Cert.MixPrepRefIdeal.τ).loc Cert.MixPrepRefIdeal.main_arg4)
      ∧ r.2.mem ((c.tc : Thread Cert.MixPrepRefIdeal.nD Cert.MixPrepRefIdeal.τ).loc Cert.MixPrepRefIdeal.main_arg5) = m ((c.tc : Thread Cert.MixPrepRefIdeal.nD Cert.MixPrepRefIdeal.τ).loc Cert.MixPrepRefIdeal.main_arg5)
      ∧ r.2.mem ((c.tc : Thread Cert.MixPrepRefIdeal.nD Cert.MixPrepRefIdeal.τ).loc Cert.MixPrepRefIdeal.main_arg6) = m ((c.tc : Thread Cert.MixPrepRefIdeal.nD Cert.MixPrepRefIdeal.τ).loc Cert.MixPrepRefIdeal.main_arg6)
      ∧ r.2.mem ((c.tc : Thread Cert.MixPrepRefIdeal.nD Cert.MixPrepRefIdeal.τ).loc Cert.MixPrepRefIdeal.main_arg7) = m ((c.tc : Thread Cert.MixPrepRefIdeal.nD Cert.MixPrepRefIdeal.τ).loc Cert.MixPrepRefIdeal.main_arg7)
      ∧ r.2.mem ((c.tc : Thread Cert.MixPrepRefIdeal.nD Cert.MixPrepRefIdeal.τ).loc Cert.MixPrepRefIdeal.main_arg8) = m ((c.tc : Thread Cert.MixPrepRefIdeal.nD Cert.MixPrepRefIdeal.τ).loc Cert.MixPrepRefIdeal.main_arg8)
      ∧ r.2.mem ((c.tc : Thread Cert.MixPrepRefIdeal.nD Cert.MixPrepRefIdeal.τ).loc Cert.MixPrepRefIdeal.main_arg9) = m ((c.tc : Thread Cert.MixPrepRefIdeal.nD Cert.MixPrepRefIdeal.τ).loc Cert.MixPrepRefIdeal.main_arg9))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_TokenProduct [hTokenProduct : Cert.TokenProduct.Facts] : Prop :=
  ∀ (m : (ℓ : Loc Cert.TokenProduct.nD Cert.TokenProduct.τ Cert.TokenProduct.sig) → Buf (Elt Bits) ℓ) (g : Dev Cert.TokenProduct.nD → PrngReg), Pre_TokenProduct m →
    θ_run (Cert.TokenProduct.defs (F := Bits)) (onTc (τ := Cert.TokenProduct.τ) (Cert.TokenProduct.main (F := Bits))) ⟨m, fun _ => 0, g⟩ (fun r => (∀ c : Dev Cert.TokenProduct.nD,
      r.2.mem ((c.tc : Thread Cert.TokenProduct.nD Cert.TokenProduct.τ).loc Cert.TokenProduct.main_arg0) = m ((c.tc : Thread Cert.TokenProduct.nD Cert.TokenProduct.τ).loc Cert.TokenProduct.main_arg0)
      ∧ r.2.mem ((c.tc : Thread Cert.TokenProduct.nD Cert.TokenProduct.τ).loc Cert.TokenProduct.main_arg1) = m ((c.tc : Thread Cert.TokenProduct.nD Cert.TokenProduct.τ).loc Cert.TokenProduct.main_arg1))
      ∧ r.2.sem = fun _ => 0)

def quiescent_TokenProductIdeal [hTokenProductIdeal : Cert.TokenProductIdeal.Facts] : Prop :=
  ∀ (m : (ℓ : Loc Cert.TokenProductIdeal.nD Cert.TokenProductIdeal.τ Cert.TokenProductIdeal.sig) → Buf (Elt Ideal) ℓ) (g : Dev Cert.TokenProductIdeal.nD → PrngReg), Pre_TokenProductIdeal m →
    θ_run (Cert.TokenProductIdeal.defs (F := Ideal)) (onTc (τ := Cert.TokenProductIdeal.τ) (Cert.TokenProductIdeal.main (F := Ideal))) ⟨m, fun _ => 0, g⟩ (fun r => (∀ c : Dev Cert.TokenProductIdeal.nD,
      r.2.mem ((c.tc : Thread Cert.TokenProductIdeal.nD Cert.TokenProductIdeal.τ).loc Cert.TokenProductIdeal.main_arg0) = m ((c.tc : Thread Cert.TokenProductIdeal.nD Cert.TokenProductIdeal.τ).loc Cert.TokenProductIdeal.main_arg0)
      ∧ r.2.mem ((c.tc : Thread Cert.TokenProductIdeal.nD Cert.TokenProductIdeal.τ).loc Cert.TokenProductIdeal.main_arg1) = m ((c.tc : Thread Cert.TokenProductIdeal.nD Cert.TokenProductIdeal.τ).loc Cert.TokenProductIdeal.main_arg1))
      ∧ r.2.sem = fun _ => 0)

def quiescent_TokenProductRefIdeal [hTokenProductRefIdeal : Cert.TokenProductRefIdeal.Facts] : Prop :=
  ∀ (m : (ℓ : Loc Cert.TokenProductRefIdeal.nD Cert.TokenProductRefIdeal.τ Cert.TokenProductRefIdeal.sig) → Buf (Elt Ideal) ℓ) (g : Dev Cert.TokenProductRefIdeal.nD → PrngReg), Pre_TokenProductRefIdeal m →
    θ_run (Cert.TokenProductRefIdeal.defs (F := Ideal)) (onTc (τ := Cert.TokenProductRefIdeal.τ) (Cert.TokenProductRefIdeal.main (F := Ideal))) ⟨m, fun _ => 0, g⟩ (fun r => (∀ c : Dev Cert.TokenProductRefIdeal.nD,
      r.2.mem ((c.tc : Thread Cert.TokenProductRefIdeal.nD Cert.TokenProductRefIdeal.τ).loc Cert.TokenProductRefIdeal.main_arg0) = m ((c.tc : Thread Cert.TokenProductRefIdeal.nD Cert.TokenProductRefIdeal.τ).loc Cert.TokenProductRefIdeal.main_arg0)
      ∧ r.2.mem ((c.tc : Thread Cert.TokenProductRefIdeal.nD Cert.TokenProductRefIdeal.τ).loc Cert.TokenProductRefIdeal.main_arg1) = m ((c.tc : Thread Cert.TokenProductRefIdeal.nD Cert.TokenProductRefIdeal.τ).loc Cert.TokenProductRefIdeal.main_arg1))
      ∧ r.2.sem = fun _ => 0)

def quiescent_SumChips [hSumChips : Cert.SumChips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0))
      ∧ r.2.sem = fun _ => 0)

def quiescent_SumChipsIdeal [hSumChipsIdeal : Cert.SumChipsIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ r.2.sem = fun _ => 0)

def quiescent_SumChipsRefIdeal [hSumChipsRefIdeal : Cert.SumChipsRefIdeal.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0))
      ∧ r.2.sem = fun _ => 0)

def quiescent_GdnLocalFwd [hGdnLocalFwd : Cert.GdnLocalFwd.Facts] : Prop :=
  ∀ (m : (ℓ : Loc Cert.GdnLocalFwd.nD Cert.GdnLocalFwd.τ Cert.GdnLocalFwd.sig) → Buf (Elt Bits) ℓ) (g : Dev Cert.GdnLocalFwd.nD → PrngReg), Pre_GdnLocalFwd m →
    θ_run (Cert.GdnLocalFwd.defs (F := Bits)) (onTc (τ := Cert.GdnLocalFwd.τ) (Cert.GdnLocalFwd.main (F := Bits))) ⟨m, fun _ => 0, g⟩ (fun r => (∀ c : Dev Cert.GdnLocalFwd.nD,
      r.2.mem ((c.tc : Thread Cert.GdnLocalFwd.nD Cert.GdnLocalFwd.τ).loc Cert.GdnLocalFwd.main_arg0) = m ((c.tc : Thread Cert.GdnLocalFwd.nD Cert.GdnLocalFwd.τ).loc Cert.GdnLocalFwd.main_arg0)
      ∧ r.2.mem ((c.tc : Thread Cert.GdnLocalFwd.nD Cert.GdnLocalFwd.τ).loc Cert.GdnLocalFwd.main_arg1) = m ((c.tc : Thread Cert.GdnLocalFwd.nD Cert.GdnLocalFwd.τ).loc Cert.GdnLocalFwd.main_arg1)
      ∧ r.2.mem ((c.tc : Thread Cert.GdnLocalFwd.nD Cert.GdnLocalFwd.τ).loc Cert.GdnLocalFwd.main_arg2) = m ((c.tc : Thread Cert.GdnLocalFwd.nD Cert.GdnLocalFwd.τ).loc Cert.GdnLocalFwd.main_arg2)
      ∧ r.2.mem ((c.tc : Thread Cert.GdnLocalFwd.nD Cert.GdnLocalFwd.τ).loc Cert.GdnLocalFwd.main_arg3) = m ((c.tc : Thread Cert.GdnLocalFwd.nD Cert.GdnLocalFwd.τ).loc Cert.GdnLocalFwd.main_arg3))
      ∧ r.2.sem = fun _ => 0)

def quiescent_GdnLocalFwdIdeal [hGdnLocalFwdIdeal : Cert.GdnLocalFwdIdeal.Facts] : Prop :=
  ∀ (m : (ℓ : Loc Cert.GdnLocalFwdIdeal.nD Cert.GdnLocalFwdIdeal.τ Cert.GdnLocalFwdIdeal.sig) → Buf (Elt Ideal) ℓ) (g : Dev Cert.GdnLocalFwdIdeal.nD → PrngReg), Pre_GdnLocalFwdIdeal m →
    θ_run (Cert.GdnLocalFwdIdeal.defs (F := Ideal)) (onTc (τ := Cert.GdnLocalFwdIdeal.τ) (Cert.GdnLocalFwdIdeal.main (F := Ideal))) ⟨m, fun _ => 0, g⟩ (fun r => (∀ c : Dev Cert.GdnLocalFwdIdeal.nD,
      r.2.mem ((c.tc : Thread Cert.GdnLocalFwdIdeal.nD Cert.GdnLocalFwdIdeal.τ).loc Cert.GdnLocalFwdIdeal.main_arg0) = m ((c.tc : Thread Cert.GdnLocalFwdIdeal.nD Cert.GdnLocalFwdIdeal.τ).loc Cert.GdnLocalFwdIdeal.main_arg0)
      ∧ r.2.mem ((c.tc : Thread Cert.GdnLocalFwdIdeal.nD Cert.GdnLocalFwdIdeal.τ).loc Cert.GdnLocalFwdIdeal.main_arg1) = m ((c.tc : Thread Cert.GdnLocalFwdIdeal.nD Cert.GdnLocalFwdIdeal.τ).loc Cert.GdnLocalFwdIdeal.main_arg1)
      ∧ r.2.mem ((c.tc : Thread Cert.GdnLocalFwdIdeal.nD Cert.GdnLocalFwdIdeal.τ).loc Cert.GdnLocalFwdIdeal.main_arg2) = m ((c.tc : Thread Cert.GdnLocalFwdIdeal.nD Cert.GdnLocalFwdIdeal.τ).loc Cert.GdnLocalFwdIdeal.main_arg2)
      ∧ r.2.mem ((c.tc : Thread Cert.GdnLocalFwdIdeal.nD Cert.GdnLocalFwdIdeal.τ).loc Cert.GdnLocalFwdIdeal.main_arg3) = m ((c.tc : Thread Cert.GdnLocalFwdIdeal.nD Cert.GdnLocalFwdIdeal.τ).loc Cert.GdnLocalFwdIdeal.main_arg3))
      ∧ r.2.sem = fun _ => 0)

def preserves_RgConvBwd_RgConvBwdIdeal : Prop :=
  True

def algebraic_RgConvBwdIdeal_RgConvRefIdeal [hRgConvBwdIdeal : Cert.RgConvBwdIdeal.Facts] [hRgConvRefIdeal : Cert.RgConvRefIdeal.Facts] : Prop :=
  ∀ (m : (ℓ : Loc Cert.RgConvBwdIdeal.nD Cert.RgConvBwdIdeal.τ Cert.RgConvBwdIdeal.sig) → Buf (Elt Ideal) ℓ) (g : Dev Cert.RgConvBwdIdeal.nD → PrngReg)
    (m' : (ℓ : Loc Cert.RgConvRefIdeal.nD Cert.RgConvRefIdeal.τ Cert.RgConvRefIdeal.sig) → Buf (Elt Ideal) ℓ) (g' : Dev Cert.RgConvRefIdeal.nD → PrngReg), Pre_RgConvBwdIdeal m →
    (∀ c : Dev Cert.RgConvBwdIdeal.nD,
      m' ((c.tc : Thread Cert.RgConvRefIdeal.nD Cert.RgConvRefIdeal.τ).loc Cert.RgConvRefIdeal.main_arg0) = m ((c.tc : Thread Cert.RgConvBwdIdeal.nD Cert.RgConvBwdIdeal.τ).loc Cert.RgConvBwdIdeal.main_arg0)
      ∧ m' ((c.tc : Thread Cert.RgConvRefIdeal.nD Cert.RgConvRefIdeal.τ).loc Cert.RgConvRefIdeal.main_arg1) = m ((c.tc : Thread Cert.RgConvBwdIdeal.nD Cert.RgConvBwdIdeal.τ).loc Cert.RgConvBwdIdeal.main_arg1)
      ∧ m' ((c.tc : Thread Cert.RgConvRefIdeal.nD Cert.RgConvRefIdeal.τ).loc Cert.RgConvRefIdeal.main_arg2) = m ((c.tc : Thread Cert.RgConvBwdIdeal.nD Cert.RgConvBwdIdeal.τ).loc Cert.RgConvBwdIdeal.main_arg2)) →
    ∃ (v0 : (c : Dev Cert.RgConvBwdIdeal.nD) → Buf (Elt Ideal) ((c.tc : Thread Cert.RgConvBwdIdeal.nD Cert.RgConvBwdIdeal.τ).loc Cert.RgConvBwdIdeal.main_v1_0)) (v1 : (c : Dev Cert.RgConvBwdIdeal.nD) → Buf (Elt Ideal) ((c.tc : Thread Cert.RgConvBwdIdeal.nD Cert.RgConvBwdIdeal.τ).loc Cert.RgConvBwdIdeal.main_v1_1)) (v2 : (c : Dev Cert.RgConvBwdIdeal.nD) → Buf (Elt Ideal) ((c.tc : Thread Cert.RgConvBwdIdeal.nD Cert.RgConvBwdIdeal.τ).loc Cert.RgConvBwdIdeal.main_v1_2)),
      θ_run (Cert.RgConvBwdIdeal.defs (F := Ideal)) (onTc (τ := Cert.RgConvBwdIdeal.τ) (Cert.RgConvBwdIdeal.main (F := Ideal))) ⟨m, fun _ => 0, g⟩ (fun r => ∀ c : Dev Cert.RgConvBwdIdeal.nD,
          r.2.mem ((c.tc : Thread Cert.RgConvBwdIdeal.nD Cert.RgConvBwdIdeal.τ).loc Cert.RgConvBwdIdeal.main_v1_0) = v0 c
          ∧ r.2.mem ((c.tc : Thread Cert.RgConvBwdIdeal.nD Cert.RgConvBwdIdeal.τ).loc Cert.RgConvBwdIdeal.main_v1_1) = v1 c
          ∧ r.2.mem ((c.tc : Thread Cert.RgConvBwdIdeal.nD Cert.RgConvBwdIdeal.τ).loc Cert.RgConvBwdIdeal.main_v1_2) = v2 c
          ∧ r.2.mem ((c.tc : Thread Cert.RgConvBwdIdeal.nD Cert.RgConvBwdIdeal.τ).loc Cert.RgConvBwdIdeal.main_arg0) = m ((c.tc : Thread Cert.RgConvBwdIdeal.nD Cert.RgConvBwdIdeal.τ).loc Cert.RgConvBwdIdeal.main_arg0)
          ∧ r.2.mem ((c.tc : Thread Cert.RgConvBwdIdeal.nD Cert.RgConvBwdIdeal.τ).loc Cert.RgConvBwdIdeal.main_arg1) = m ((c.tc : Thread Cert.RgConvBwdIdeal.nD Cert.RgConvBwdIdeal.τ).loc Cert.RgConvBwdIdeal.main_arg1)
          ∧ r.2.mem ((c.tc : Thread Cert.RgConvBwdIdeal.nD Cert.RgConvBwdIdeal.τ).loc Cert.RgConvBwdIdeal.main_arg2) = m ((c.tc : Thread Cert.RgConvBwdIdeal.nD Cert.RgConvBwdIdeal.τ).loc Cert.RgConvBwdIdeal.main_arg2))
      ∧ θ_run (Cert.RgConvRefIdeal.defs (F := Ideal)) (onTc (τ := Cert.RgConvRefIdeal.τ) (Cert.RgConvRefIdeal.main (F := Ideal))) ⟨m', fun _ => 0, g'⟩ (fun r => ∀ c : Dev Cert.RgConvRefIdeal.nD,
          r.2.mem ((c.tc : Thread Cert.RgConvRefIdeal.nD Cert.RgConvRefIdeal.τ).loc Cert.RgConvRefIdeal.main_v85) = v0 c
          ∧ r.2.mem ((c.tc : Thread Cert.RgConvRefIdeal.nD Cert.RgConvRefIdeal.τ).loc Cert.RgConvRefIdeal.main_v86) = v1 c
          ∧ r.2.mem ((c.tc : Thread Cert.RgConvRefIdeal.nD Cert.RgConvRefIdeal.τ).loc Cert.RgConvRefIdeal.main_v39) = v2 c
          ∧ r.2.mem ((c.tc : Thread Cert.RgConvRefIdeal.nD Cert.RgConvRefIdeal.τ).loc Cert.RgConvRefIdeal.main_arg0) = m' ((c.tc : Thread Cert.RgConvRefIdeal.nD Cert.RgConvRefIdeal.τ).loc Cert.RgConvRefIdeal.main_arg0)
          ∧ r.2.mem ((c.tc : Thread Cert.RgConvRefIdeal.nD Cert.RgConvRefIdeal.τ).loc Cert.RgConvRefIdeal.main_arg1) = m' ((c.tc : Thread Cert.RgConvRefIdeal.nD Cert.RgConvRefIdeal.τ).loc Cert.RgConvRefIdeal.main_arg1)
          ∧ r.2.mem ((c.tc : Thread Cert.RgConvRefIdeal.nD Cert.RgConvRefIdeal.τ).loc Cert.RgConvRefIdeal.main_arg2) = m' ((c.tc : Thread Cert.RgConvRefIdeal.nD Cert.RgConvRefIdeal.τ).loc Cert.RgConvRefIdeal.main_arg2))

def preserves_GdnConvBwd_GdnConvBwdIdeal : Prop :=
  True

def algebraic_GdnConvBwdIdeal_GdnConvRefIdeal [hGdnConvBwdIdeal : Cert.GdnConvBwdIdeal.Facts] [hGdnConvRefIdeal : Cert.GdnConvRefIdeal.Facts] : Prop :=
  ∀ (m : (ℓ : Loc Cert.GdnConvBwdIdeal.nD Cert.GdnConvBwdIdeal.τ Cert.GdnConvBwdIdeal.sig) → Buf (Elt Ideal) ℓ) (g : Dev Cert.GdnConvBwdIdeal.nD → PrngReg)
    (m' : (ℓ : Loc Cert.GdnConvRefIdeal.nD Cert.GdnConvRefIdeal.τ Cert.GdnConvRefIdeal.sig) → Buf (Elt Ideal) ℓ) (g' : Dev Cert.GdnConvRefIdeal.nD → PrngReg), Pre_GdnConvBwdIdeal m →
    (∀ c : Dev Cert.GdnConvBwdIdeal.nD,
      m' ((c.tc : Thread Cert.GdnConvRefIdeal.nD Cert.GdnConvRefIdeal.τ).loc Cert.GdnConvRefIdeal.main_arg0) = m ((c.tc : Thread Cert.GdnConvBwdIdeal.nD Cert.GdnConvBwdIdeal.τ).loc Cert.GdnConvBwdIdeal.main_arg0)
      ∧ m' ((c.tc : Thread Cert.GdnConvRefIdeal.nD Cert.GdnConvRefIdeal.τ).loc Cert.GdnConvRefIdeal.main_arg1) = m ((c.tc : Thread Cert.GdnConvBwdIdeal.nD Cert.GdnConvBwdIdeal.τ).loc Cert.GdnConvBwdIdeal.main_arg1)
      ∧ m' ((c.tc : Thread Cert.GdnConvRefIdeal.nD Cert.GdnConvRefIdeal.τ).loc Cert.GdnConvRefIdeal.main_arg2) = m ((c.tc : Thread Cert.GdnConvBwdIdeal.nD Cert.GdnConvBwdIdeal.τ).loc Cert.GdnConvBwdIdeal.main_arg2)) →
    ∃ (v0 : (c : Dev Cert.GdnConvBwdIdeal.nD) → Buf (Elt Ideal) ((c.tc : Thread Cert.GdnConvBwdIdeal.nD Cert.GdnConvBwdIdeal.τ).loc Cert.GdnConvBwdIdeal.main_v1_0)) (v1 : (c : Dev Cert.GdnConvBwdIdeal.nD) → Buf (Elt Ideal) ((c.tc : Thread Cert.GdnConvBwdIdeal.nD Cert.GdnConvBwdIdeal.τ).loc Cert.GdnConvBwdIdeal.main_v1_1)),
      θ_run (Cert.GdnConvBwdIdeal.defs (F := Ideal)) (onTc (τ := Cert.GdnConvBwdIdeal.τ) (Cert.GdnConvBwdIdeal.main (F := Ideal))) ⟨m, fun _ => 0, g⟩ (fun r => ∀ c : Dev Cert.GdnConvBwdIdeal.nD,
          r.2.mem ((c.tc : Thread Cert.GdnConvBwdIdeal.nD Cert.GdnConvBwdIdeal.τ).loc Cert.GdnConvBwdIdeal.main_v1_0) = v0 c
          ∧ r.2.mem ((c.tc : Thread Cert.GdnConvBwdIdeal.nD Cert.GdnConvBwdIdeal.τ).loc Cert.GdnConvBwdIdeal.main_v1_1) = v1 c
          ∧ r.2.mem ((c.tc : Thread Cert.GdnConvBwdIdeal.nD Cert.GdnConvBwdIdeal.τ).loc Cert.GdnConvBwdIdeal.main_arg0) = m ((c.tc : Thread Cert.GdnConvBwdIdeal.nD Cert.GdnConvBwdIdeal.τ).loc Cert.GdnConvBwdIdeal.main_arg0)
          ∧ r.2.mem ((c.tc : Thread Cert.GdnConvBwdIdeal.nD Cert.GdnConvBwdIdeal.τ).loc Cert.GdnConvBwdIdeal.main_arg1) = m ((c.tc : Thread Cert.GdnConvBwdIdeal.nD Cert.GdnConvBwdIdeal.τ).loc Cert.GdnConvBwdIdeal.main_arg1)
          ∧ r.2.mem ((c.tc : Thread Cert.GdnConvBwdIdeal.nD Cert.GdnConvBwdIdeal.τ).loc Cert.GdnConvBwdIdeal.main_arg2) = m ((c.tc : Thread Cert.GdnConvBwdIdeal.nD Cert.GdnConvBwdIdeal.τ).loc Cert.GdnConvBwdIdeal.main_arg2))
      ∧ θ_run (Cert.GdnConvRefIdeal.defs (F := Ideal)) (onTc (τ := Cert.GdnConvRefIdeal.τ) (Cert.GdnConvRefIdeal.main (F := Ideal))) ⟨m', fun _ => 0, g'⟩ (fun r => ∀ c : Dev Cert.GdnConvRefIdeal.nD,
          r.2.mem ((c.tc : Thread Cert.GdnConvRefIdeal.nD Cert.GdnConvRefIdeal.τ).loc Cert.GdnConvRefIdeal.main_v81) = v0 c
          ∧ r.2.mem ((c.tc : Thread Cert.GdnConvRefIdeal.nD Cert.GdnConvRefIdeal.τ).loc Cert.GdnConvRefIdeal.main_v82) = v1 c
          ∧ r.2.mem ((c.tc : Thread Cert.GdnConvRefIdeal.nD Cert.GdnConvRefIdeal.τ).loc Cert.GdnConvRefIdeal.main_arg0) = m' ((c.tc : Thread Cert.GdnConvRefIdeal.nD Cert.GdnConvRefIdeal.τ).loc Cert.GdnConvRefIdeal.main_arg0)
          ∧ r.2.mem ((c.tc : Thread Cert.GdnConvRefIdeal.nD Cert.GdnConvRefIdeal.τ).loc Cert.GdnConvRefIdeal.main_arg1) = m' ((c.tc : Thread Cert.GdnConvRefIdeal.nD Cert.GdnConvRefIdeal.τ).loc Cert.GdnConvRefIdeal.main_arg1)
          ∧ r.2.mem ((c.tc : Thread Cert.GdnConvRefIdeal.nD Cert.GdnConvRefIdeal.τ).loc Cert.GdnConvRefIdeal.main_arg2) = m' ((c.tc : Thread Cert.GdnConvRefIdeal.nD Cert.GdnConvRefIdeal.τ).loc Cert.GdnConvRefIdeal.main_arg2))

def preserves_LossHead_LossHeadIdeal : Prop :=
  True

def algebraic_LossHeadIdeal_LossRefIdeal_pre_loss_finite [hLossHeadIdeal : Cert.LossHeadIdeal.Facts] [hLossRefIdeal : Cert.LossRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal_loss_finite m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)
      ∧ m' ((c.tc : Thread Cert.LossRefIdeal.nD Cert.LossRefIdeal.τ).loc Cert.LossRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_GdnPrepBwd_GdnPrepBwdIdeal : Prop :=
  True

def algebraic_GdnPrepBwdIdeal_GdnPrepRefIdeal_pre_gdn_prep_finite [hGdnPrepBwdIdeal : Cert.GdnPrepBwdIdeal.Facts] [hGdnPrepRefIdeal : Cert.GdnPrepRefIdeal.Facts] [hPre_gdn_prep_finite : Cert.Pre_gdn_prep_finite.Facts] : Prop :=
  ∀ (m : (ℓ : Loc Cert.GdnPrepBwdIdeal.nD Cert.GdnPrepBwdIdeal.τ Cert.GdnPrepBwdIdeal.sig) → Buf (Elt Ideal) ℓ) (g : Dev Cert.GdnPrepBwdIdeal.nD → PrngReg)
    (m' : (ℓ : Loc Cert.GdnPrepRefIdeal.nD Cert.GdnPrepRefIdeal.τ Cert.GdnPrepRefIdeal.sig) → Buf (Elt Ideal) ℓ) (g' : Dev Cert.GdnPrepRefIdeal.nD → PrngReg), Pre_GdnPrepBwdIdeal_gdn_prep_finite m →
    (∀ c : Dev Cert.GdnPrepBwdIdeal.nD,
      m' ((c.tc : Thread Cert.GdnPrepRefIdeal.nD Cert.GdnPrepRefIdeal.τ).loc Cert.GdnPrepRefIdeal.main_arg0) = m ((c.tc : Thread Cert.GdnPrepBwdIdeal.nD Cert.GdnPrepBwdIdeal.τ).loc Cert.GdnPrepBwdIdeal.main_arg0)
      ∧ m' ((c.tc : Thread Cert.GdnPrepRefIdeal.nD Cert.GdnPrepRefIdeal.τ).loc Cert.GdnPrepRefIdeal.main_arg1) = m ((c.tc : Thread Cert.GdnPrepBwdIdeal.nD Cert.GdnPrepBwdIdeal.τ).loc Cert.GdnPrepBwdIdeal.main_arg1)
      ∧ m' ((c.tc : Thread Cert.GdnPrepRefIdeal.nD Cert.GdnPrepRefIdeal.τ).loc Cert.GdnPrepRefIdeal.main_arg2) = m ((c.tc : Thread Cert.GdnPrepBwdIdeal.nD Cert.GdnPrepBwdIdeal.τ).loc Cert.GdnPrepBwdIdeal.main_arg2)
      ∧ m' ((c.tc : Thread Cert.GdnPrepRefIdeal.nD Cert.GdnPrepRefIdeal.τ).loc Cert.GdnPrepRefIdeal.main_arg3) = m ((c.tc : Thread Cert.GdnPrepBwdIdeal.nD Cert.GdnPrepBwdIdeal.τ).loc Cert.GdnPrepBwdIdeal.main_arg3)
      ∧ m' ((c.tc : Thread Cert.GdnPrepRefIdeal.nD Cert.GdnPrepRefIdeal.τ).loc Cert.GdnPrepRefIdeal.main_arg4) = m ((c.tc : Thread Cert.GdnPrepBwdIdeal.nD Cert.GdnPrepBwdIdeal.τ).loc Cert.GdnPrepBwdIdeal.main_arg4)
      ∧ m' ((c.tc : Thread Cert.GdnPrepRefIdeal.nD Cert.GdnPrepRefIdeal.τ).loc Cert.GdnPrepRefIdeal.main_arg5) = m ((c.tc : Thread Cert.GdnPrepBwdIdeal.nD Cert.GdnPrepBwdIdeal.τ).loc Cert.GdnPrepBwdIdeal.main_arg5)
      ∧ m' ((c.tc : Thread Cert.GdnPrepRefIdeal.nD Cert.GdnPrepRefIdeal.τ).loc Cert.GdnPrepRefIdeal.main_arg6) = m ((c.tc : Thread Cert.GdnPrepBwdIdeal.nD Cert.GdnPrepBwdIdeal.τ).loc Cert.GdnPrepBwdIdeal.main_arg6)
      ∧ m' ((c.tc : Thread Cert.GdnPrepRefIdeal.nD Cert.GdnPrepRefIdeal.τ).loc Cert.GdnPrepRefIdeal.main_arg7) = m ((c.tc : Thread Cert.GdnPrepBwdIdeal.nD Cert.GdnPrepBwdIdeal.τ).loc Cert.GdnPrepBwdIdeal.main_arg7)) →
    ∃ (v0 : (c : Dev Cert.GdnPrepBwdIdeal.nD) → Buf (Elt Ideal) ((c.tc : Thread Cert.GdnPrepBwdIdeal.nD Cert.GdnPrepBwdIdeal.τ).loc Cert.GdnPrepBwdIdeal.main_v14_0)) (v1 : (c : Dev Cert.GdnPrepBwdIdeal.nD) → Buf (Elt Ideal) ((c.tc : Thread Cert.GdnPrepBwdIdeal.nD Cert.GdnPrepBwdIdeal.τ).loc Cert.GdnPrepBwdIdeal.main_v14_1)) (v2 : (c : Dev Cert.GdnPrepBwdIdeal.nD) → Buf (Elt Ideal) ((c.tc : Thread Cert.GdnPrepBwdIdeal.nD Cert.GdnPrepBwdIdeal.τ).loc Cert.GdnPrepBwdIdeal.main_v14_2)) (v3 : (c : Dev Cert.GdnPrepBwdIdeal.nD) → Buf (Elt Ideal) ((c.tc : Thread Cert.GdnPrepBwdIdeal.nD Cert.GdnPrepBwdIdeal.τ).loc Cert.GdnPrepBwdIdeal.main_v14_3)),
      θ_run (Cert.GdnPrepBwdIdeal.defs (F := Ideal)) (onTc (τ := Cert.GdnPrepBwdIdeal.τ) (Cert.GdnPrepBwdIdeal.main (F := Ideal))) ⟨m, fun _ => 0, g⟩ (fun r => ∀ c : Dev Cert.GdnPrepBwdIdeal.nD,
          r.2.mem ((c.tc : Thread Cert.GdnPrepBwdIdeal.nD Cert.GdnPrepBwdIdeal.τ).loc Cert.GdnPrepBwdIdeal.main_v14_0) = v0 c
          ∧ r.2.mem ((c.tc : Thread Cert.GdnPrepBwdIdeal.nD Cert.GdnPrepBwdIdeal.τ).loc Cert.GdnPrepBwdIdeal.main_v14_1) = v1 c
          ∧ r.2.mem ((c.tc : Thread Cert.GdnPrepBwdIdeal.nD Cert.GdnPrepBwdIdeal.τ).loc Cert.GdnPrepBwdIdeal.main_v14_2) = v2 c
          ∧ r.2.mem ((c.tc : Thread Cert.GdnPrepBwdIdeal.nD Cert.GdnPrepBwdIdeal.τ).loc Cert.GdnPrepBwdIdeal.main_v14_3) = v3 c
          ∧ r.2.mem ((c.tc : Thread Cert.GdnPrepBwdIdeal.nD Cert.GdnPrepBwdIdeal.τ).loc Cert.GdnPrepBwdIdeal.main_arg0) = m ((c.tc : Thread Cert.GdnPrepBwdIdeal.nD Cert.GdnPrepBwdIdeal.τ).loc Cert.GdnPrepBwdIdeal.main_arg0)
          ∧ r.2.mem ((c.tc : Thread Cert.GdnPrepBwdIdeal.nD Cert.GdnPrepBwdIdeal.τ).loc Cert.GdnPrepBwdIdeal.main_arg1) = m ((c.tc : Thread Cert.GdnPrepBwdIdeal.nD Cert.GdnPrepBwdIdeal.τ).loc Cert.GdnPrepBwdIdeal.main_arg1)
          ∧ r.2.mem ((c.tc : Thread Cert.GdnPrepBwdIdeal.nD Cert.GdnPrepBwdIdeal.τ).loc Cert.GdnPrepBwdIdeal.main_arg2) = m ((c.tc : Thread Cert.GdnPrepBwdIdeal.nD Cert.GdnPrepBwdIdeal.τ).loc Cert.GdnPrepBwdIdeal.main_arg2)
          ∧ r.2.mem ((c.tc : Thread Cert.GdnPrepBwdIdeal.nD Cert.GdnPrepBwdIdeal.τ).loc Cert.GdnPrepBwdIdeal.main_arg3) = m ((c.tc : Thread Cert.GdnPrepBwdIdeal.nD Cert.GdnPrepBwdIdeal.τ).loc Cert.GdnPrepBwdIdeal.main_arg3)
          ∧ r.2.mem ((c.tc : Thread Cert.GdnPrepBwdIdeal.nD Cert.GdnPrepBwdIdeal.τ).loc Cert.GdnPrepBwdIdeal.main_arg4) = m ((c.tc : Thread Cert.GdnPrepBwdIdeal.nD Cert.GdnPrepBwdIdeal.τ).loc Cert.GdnPrepBwdIdeal.main_arg4)
          ∧ r.2.mem ((c.tc : Thread Cert.GdnPrepBwdIdeal.nD Cert.GdnPrepBwdIdeal.τ).loc Cert.GdnPrepBwdIdeal.main_arg5) = m ((c.tc : Thread Cert.GdnPrepBwdIdeal.nD Cert.GdnPrepBwdIdeal.τ).loc Cert.GdnPrepBwdIdeal.main_arg5)
          ∧ r.2.mem ((c.tc : Thread Cert.GdnPrepBwdIdeal.nD Cert.GdnPrepBwdIdeal.τ).loc Cert.GdnPrepBwdIdeal.main_arg6) = m ((c.tc : Thread Cert.GdnPrepBwdIdeal.nD Cert.GdnPrepBwdIdeal.τ).loc Cert.GdnPrepBwdIdeal.main_arg6)
          ∧ r.2.mem ((c.tc : Thread Cert.GdnPrepBwdIdeal.nD Cert.GdnPrepBwdIdeal.τ).loc Cert.GdnPrepBwdIdeal.main_arg7) = m ((c.tc : Thread Cert.GdnPrepBwdIdeal.nD Cert.GdnPrepBwdIdeal.τ).loc Cert.GdnPrepBwdIdeal.main_arg7))
      ∧ θ_run (Cert.GdnPrepRefIdeal.defs (F := Ideal)) (onTc (τ := Cert.GdnPrepRefIdeal.τ) (Cert.GdnPrepRefIdeal.main (F := Ideal))) ⟨m', fun _ => 0, g'⟩ (fun r => ∀ c : Dev Cert.GdnPrepRefIdeal.nD,
          r.2.mem ((c.tc : Thread Cert.GdnPrepRefIdeal.nD Cert.GdnPrepRefIdeal.τ).loc Cert.GdnPrepRefIdeal.main_v111) = v0 c
          ∧ r.2.mem ((c.tc : Thread Cert.GdnPrepRefIdeal.nD Cert.GdnPrepRefIdeal.τ).loc Cert.GdnPrepRefIdeal.main_v113) = v1 c
          ∧ r.2.mem ((c.tc : Thread Cert.GdnPrepRefIdeal.nD Cert.GdnPrepRefIdeal.τ).loc Cert.GdnPrepRefIdeal.main_v115) = v2 c
          ∧ r.2.mem ((c.tc : Thread Cert.GdnPrepRefIdeal.nD Cert.GdnPrepRefIdeal.τ).loc Cert.GdnPrepRefIdeal.main_v117) = v3 c
          ∧ r.2.mem ((c.tc : Thread Cert.GdnPrepRefIdeal.nD Cert.GdnPrepRefIdeal.τ).loc Cert.GdnPrepRefIdeal.main_arg0) = m' ((c.tc : Thread Cert.GdnPrepRefIdeal.nD Cert.GdnPrepRefIdeal.τ).loc Cert.GdnPrepRefIdeal.main_arg0)
          ∧ r.2.mem ((c.tc : Thread Cert.GdnPrepRefIdeal.nD Cert.GdnPrepRefIdeal.τ).loc Cert.GdnPrepRefIdeal.main_arg1) = m' ((c.tc : Thread Cert.GdnPrepRefIdeal.nD Cert.GdnPrepRefIdeal.τ).loc Cert.GdnPrepRefIdeal.main_arg1)
          ∧ r.2.mem ((c.tc : Thread Cert.GdnPrepRefIdeal.nD Cert.GdnPrepRefIdeal.τ).loc Cert.GdnPrepRefIdeal.main_arg2) = m' ((c.tc : Thread Cert.GdnPrepRefIdeal.nD Cert.GdnPrepRefIdeal.τ).loc Cert.GdnPrepRefIdeal.main_arg2)
          ∧ r.2.mem ((c.tc : Thread Cert.GdnPrepRefIdeal.nD Cert.GdnPrepRefIdeal.τ).loc Cert.GdnPrepRefIdeal.main_arg3) = m' ((c.tc : Thread Cert.GdnPrepRefIdeal.nD Cert.GdnPrepRefIdeal.τ).loc Cert.GdnPrepRefIdeal.main_arg3)
          ∧ r.2.mem ((c.tc : Thread Cert.GdnPrepRefIdeal.nD Cert.GdnPrepRefIdeal.τ).loc Cert.GdnPrepRefIdeal.main_arg4) = m' ((c.tc : Thread Cert.GdnPrepRefIdeal.nD Cert.GdnPrepRefIdeal.τ).loc Cert.GdnPrepRefIdeal.main_arg4)
          ∧ r.2.mem ((c.tc : Thread Cert.GdnPrepRefIdeal.nD Cert.GdnPrepRefIdeal.τ).loc Cert.GdnPrepRefIdeal.main_arg5) = m' ((c.tc : Thread Cert.GdnPrepRefIdeal.nD Cert.GdnPrepRefIdeal.τ).loc Cert.GdnPrepRefIdeal.main_arg5)
          ∧ r.2.mem ((c.tc : Thread Cert.GdnPrepRefIdeal.nD Cert.GdnPrepRefIdeal.τ).loc Cert.GdnPrepRefIdeal.main_arg6) = m' ((c.tc : Thread Cert.GdnPrepRefIdeal.nD Cert.GdnPrepRefIdeal.τ).loc Cert.GdnPrepRefIdeal.main_arg6)
          ∧ r.2.mem ((c.tc : Thread Cert.GdnPrepRefIdeal.nD Cert.GdnPrepRefIdeal.τ).loc Cert.GdnPrepRefIdeal.main_arg7) = m' ((c.tc : Thread Cert.GdnPrepRefIdeal.nD Cert.GdnPrepRefIdeal.τ).loc Cert.GdnPrepRefIdeal.main_arg7))

def preserves_InProjBwd_InProjBwdIdeal : Prop :=
  True

def algebraic_InProjBwdIdeal_InProjRefIdeal_pre_in_proj_finite [hInProjBwdIdeal : Cert.InProjBwdIdeal.Facts] [hInProjRefIdeal : Cert.InProjRefIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjBwdIdeal_in_proj_finite m →
    (∀ c : Dev Cert.InProjBwdIdeal.nD,
      m' ((c.tc : Thread Cert.InProjRefIdeal.nD Cert.InProjRefIdeal.τ).loc Cert.InProjRefIdeal.main_arg0) = m ((c.tc : Thread Cert.InProjBwdIdeal.nD Cert.InProjBwdIdeal.τ).loc Cert.InProjBwdIdeal.main_arg0)
      ∧ m' ((c.tc : Thread Cert.InProjRefIdeal.nD Cert.InProjRefIdeal.τ).loc Cert.InProjRefIdeal.main_arg1) = m ((c.tc : Thread Cert.InProjBwdIdeal.nD Cert.InProjBwdIdeal.τ).loc Cert.InProjBwdIdeal.main_arg1)
      ∧ m' ((c.tc : Thread Cert.InProjRefIdeal.nD Cert.InProjRefIdeal.τ).loc Cert.InProjRefIdeal.main_arg2) = m ((c.tc : Thread Cert.InProjBwdIdeal.nD Cert.InProjBwdIdeal.τ).loc Cert.InProjBwdIdeal.main_arg2)
      ∧ m' ((c.tc : Thread Cert.InProjRefIdeal.nD Cert.InProjRefIdeal.τ).loc Cert.InProjRefIdeal.main_arg3) = m ((c.tc : Thread Cert.InProjBwdIdeal.nD Cert.InProjBwdIdeal.τ).loc Cert.InProjBwdIdeal.main_arg3)
      ∧ m' ((c.tc : Thread Cert.InProjRefIdeal.nD Cert.InProjRefIdeal.τ).loc Cert.InProjRefIdeal.main_arg4) = m ((c.tc : Thread Cert.InProjBwdIdeal.nD Cert.InProjBwdIdeal.τ).loc Cert.InProjBwdIdeal.main_arg4)
      ∧ m' ((c.tc : Thread Cert.InProjRefIdeal.nD Cert.InProjRefIdeal.τ).loc Cert.InProjRefIdeal.main_arg5) = m ((c.tc : Thread Cert.InProjBwdIdeal.nD Cert.InProjBwdIdeal.τ).loc Cert.InProjBwdIdeal.main_arg5)
      ∧ m' ((c.tc : Thread Cert.InProjRefIdeal.nD Cert.InProjRefIdeal.τ).loc Cert.InProjRefIdeal.main_arg6) = m ((c.tc : Thread Cert.InProjBwdIdeal.nD Cert.InProjBwdIdeal.τ).loc Cert.InProjBwdIdeal.main_arg6)
      ∧ m' ((c.tc : Thread Cert.InProjRefIdeal.nD Cert.InProjRefIdeal.τ).loc Cert.InProjRefIdeal.main_arg7) = m ((c.tc : Thread Cert.InProjBwdIdeal.nD Cert.InProjBwdIdeal.τ).loc Cert.InProjBwdIdeal.main_arg7)
      ∧ m' ((c.tc : Thread Cert.InProjRefIdeal.nD Cert.InProjRefIdeal.τ).loc Cert.InProjRefIdeal.main_arg8) = m ((c.tc : Thread Cert.InProjBwdIdeal.nD Cert.InProjBwdIdeal.τ).loc Cert.InProjBwdIdeal.main_arg8)) →
    ∃ (v0 : (c : Dev Cert.InProjBwdIdeal.nD) → Buf (Elt Ideal) ((c.tc : Thread Cert.InProjBwdIdeal.nD Cert.InProjBwdIdeal.τ).loc Cert.InProjBwdIdeal.main_v13_0)) (v1 : (c : Dev Cert.InProjBwdIdeal.nD) → Buf (Elt Ideal) ((c.tc : Thread Cert.InProjBwdIdeal.nD Cert.InProjBwdIdeal.τ).loc Cert.InProjBwdIdeal.main_v13_1)) (v2 : (c : Dev Cert.InProjBwdIdeal.nD) → Buf (Elt Ideal) ((c.tc : Thread Cert.InProjBwdIdeal.nD Cert.InProjBwdIdeal.τ).loc Cert.InProjBwdIdeal.main_v13_2)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v13_0) = v0 c
          ∧ r.2.mem ((c.tc : Thread Cert.InProjBwdIdeal.nD Cert.InProjBwdIdeal.τ).loc Cert.InProjBwdIdeal.main_v13_1) = v1 c
          ∧ r.2.mem ((c.tc : Thread Cert.InProjBwdIdeal.nD Cert.InProjBwdIdeal.τ).loc Cert.InProjBwdIdeal.main_v13_2) = v2 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v37) = v0 c
          ∧ r.2.mem ((c.tc : Thread Cert.InProjRefIdeal.nD Cert.InProjRefIdeal.τ).loc Cert.InProjRefIdeal.main_v40) = v1 c
          ∧ r.2.mem ((c.tc : Thread Cert.InProjRefIdeal.nD Cert.InProjRefIdeal.τ).loc Cert.InProjRefIdeal.main_v20) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_OutProjBwd_OutProjBwdIdeal : Prop :=
  IdealRules.named_const.Statement Cert.OutProjBwdIdeal.κ "cube" .f32 0x3D372713#32 ((8943 / 200000 : ℝ) : EReal)
  ∧ IdealRules.named_const.Statement Cert.OutProjBwdIdeal.κ "cube3" .f32 0x3E095D4F#32 ((26829 / 200000 : ℝ) : EReal)

def algebraic_OutProjBwdIdeal_OutProjRefIdeal_pre_out_proj_finite [hOutProjBwdIdeal : Cert.OutProjBwdIdeal.Facts] [hOutProjRefIdeal : Cert.OutProjRefIdeal.Facts] [hPre_out_proj_finite : Cert.Pre_out_proj_finite.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjBwdIdeal_out_proj_finite m →
    (∀ c : Dev Cert.OutProjBwdIdeal.nD,
      m' ((c.tc : Thread Cert.OutProjRefIdeal.nD Cert.OutProjRefIdeal.τ).loc Cert.OutProjRefIdeal.main_arg0) = m ((c.tc : Thread Cert.OutProjBwdIdeal.nD Cert.OutProjBwdIdeal.τ).loc Cert.OutProjBwdIdeal.main_arg0)
      ∧ m' ((c.tc : Thread Cert.OutProjRefIdeal.nD Cert.OutProjRefIdeal.τ).loc Cert.OutProjRefIdeal.main_arg1) = m ((c.tc : Thread Cert.OutProjBwdIdeal.nD Cert.OutProjBwdIdeal.τ).loc Cert.OutProjBwdIdeal.main_arg1)
      ∧ m' ((c.tc : Thread Cert.OutProjRefIdeal.nD Cert.OutProjRefIdeal.τ).loc Cert.OutProjRefIdeal.main_arg2) = m ((c.tc : Thread Cert.OutProjBwdIdeal.nD Cert.OutProjBwdIdeal.τ).loc Cert.OutProjBwdIdeal.main_arg2)
      ∧ m' ((c.tc : Thread Cert.OutProjRefIdeal.nD Cert.OutProjRefIdeal.τ).loc Cert.OutProjRefIdeal.main_arg3) = m ((c.tc : Thread Cert.OutProjBwdIdeal.nD Cert.OutProjBwdIdeal.τ).loc Cert.OutProjBwdIdeal.main_arg3)
      ∧ m' ((c.tc : Thread Cert.OutProjRefIdeal.nD Cert.OutProjRefIdeal.τ).loc Cert.OutProjRefIdeal.main_arg4) = m ((c.tc : Thread Cert.OutProjBwdIdeal.nD Cert.OutProjBwdIdeal.τ).loc Cert.OutProjBwdIdeal.main_arg4)
      ∧ m' ((c.tc : Thread Cert.OutProjRefIdeal.nD Cert.OutProjRefIdeal.τ).loc Cert.OutProjRefIdeal.main_arg5) = m ((c.tc : Thread Cert.OutProjBwdIdeal.nD Cert.OutProjBwdIdeal.τ).loc Cert.OutProjBwdIdeal.main_arg5)
      ∧ m' ((c.tc : Thread Cert.OutProjRefIdeal.nD Cert.OutProjRefIdeal.τ).loc Cert.OutProjRefIdeal.main_arg6) = m ((c.tc : Thread Cert.OutProjBwdIdeal.nD Cert.OutProjBwdIdeal.τ).loc Cert.OutProjBwdIdeal.main_arg6)
      ∧ m' ((c.tc : Thread Cert.OutProjRefIdeal.nD Cert.OutProjRefIdeal.τ).loc Cert.OutProjRefIdeal.main_arg7) = m ((c.tc : Thread Cert.OutProjBwdIdeal.nD Cert.OutProjBwdIdeal.τ).loc Cert.OutProjBwdIdeal.main_arg7)
      ∧ m' ((c.tc : Thread Cert.OutProjRefIdeal.nD Cert.OutProjRefIdeal.τ).loc Cert.OutProjRefIdeal.main_arg8) = m ((c.tc : Thread Cert.OutProjBwdIdeal.nD Cert.OutProjBwdIdeal.τ).loc Cert.OutProjBwdIdeal.main_arg8)) →
    ∃ (v0 : (c : Dev Cert.OutProjBwdIdeal.nD) → Buf (Elt Ideal) ((c.tc : Thread Cert.OutProjBwdIdeal.nD Cert.OutProjBwdIdeal.τ).loc Cert.OutProjBwdIdeal.main_v1_0)) (v1 : (c : Dev Cert.OutProjBwdIdeal.nD) → Buf (Elt Ideal) ((c.tc : Thread Cert.OutProjBwdIdeal.nD Cert.OutProjBwdIdeal.τ).loc Cert.OutProjBwdIdeal.main_v1_1)) (v2 : (c : Dev Cert.OutProjBwdIdeal.nD) → Buf (Elt Ideal) ((c.tc : Thread Cert.OutProjBwdIdeal.nD Cert.OutProjBwdIdeal.τ).loc Cert.OutProjBwdIdeal.main_v1_2)) (v3 : (c : Dev Cert.OutProjBwdIdeal.nD) → Buf (Elt Ideal) ((c.tc : Thread Cert.OutProjBwdIdeal.nD Cert.OutProjBwdIdeal.τ).loc Cert.OutProjBwdIdeal.main_v1_3)) (v4 : (c : Dev Cert.OutProjBwdIdeal.nD) → Buf (Elt Ideal) ((c.tc : Thread Cert.OutProjBwdIdeal.nD Cert.OutProjBwdIdeal.τ).loc Cert.OutProjBwdIdeal.main_v1_4)) (v5 : (c : Dev Cert.OutProjBwdIdeal.nD) → Buf (Elt Ideal) ((c.tc : Thread Cert.OutProjBwdIdeal.nD Cert.OutProjBwdIdeal.τ).loc Cert.OutProjBwdIdeal.main_v1_5)),
      θ_run (Cert.OutProjBwdIdeal.defs (F := Ideal)) (onTc (τ := Cert.OutProjBwdIdeal.τ) (Cert.OutProjBwdIdeal.main (F := Ideal))) ⟨m, fun _ => 0, g⟩ (fun r => ∀ c : Dev Cert.OutProjBwdIdeal.nD,
          r.2.mem ((c.tc : Thread Cert.OutProjBwdIdeal.nD Cert.OutProjBwdIdeal.τ).loc Cert.OutProjBwdIdeal.main_v1_0) = v0 c
          ∧ r.2.mem ((c.tc : Thread Cert.OutProjBwdIdeal.nD Cert.OutProjBwdIdeal.τ).loc Cert.OutProjBwdIdeal.main_v1_1) = v1 c
          ∧ r.2.mem ((c.tc : Thread Cert.OutProjBwdIdeal.nD Cert.OutProjBwdIdeal.τ).loc Cert.OutProjBwdIdeal.main_v1_2) = v2 c
          ∧ r.2.mem ((c.tc : Thread Cert.OutProjBwdIdeal.nD Cert.OutProjBwdIdeal.τ).loc Cert.OutProjBwdIdeal.main_v1_3) = v3 c
          ∧ r.2.mem ((c.tc : Thread Cert.OutProjBwdIdeal.nD Cert.OutProjBwdIdeal.τ).loc Cert.OutProjBwdIdeal.main_v1_4) = v4 c
          ∧ r.2.mem ((c.tc : Thread Cert.OutProjBwdIdeal.nD Cert.OutProjBwdIdeal.τ).loc Cert.OutProjBwdIdeal.main_v1_5) = v5 c
          ∧ r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
          ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
          ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
          ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
          ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4)
          ∧ r.2.mem ((c.tc : Thread Cert.OutProjBwdIdeal.nD Cert.OutProjBwdIdeal.τ).loc Cert.OutProjBwdIdeal.main_arg5) = m ((c.tc : Thread Cert.OutProjBwdIdeal.nD Cert.OutProjBwdIdeal.τ).loc Cert.OutProjBwdIdeal.main_arg5)
          ∧ r.2.mem ((c.tc : Thread Cert.OutProjBwdIdeal.nD Cert.OutProjBwdIdeal.τ).loc Cert.OutProjBwdIdeal.main_arg6) = m ((c.tc : Thread Cert.OutProjBwdIdeal.nD Cert.OutProjBwdIdeal.τ).loc Cert.OutProjBwdIdeal.main_arg6)
          ∧ r.2.mem ((c.tc : Thread Cert.OutProjBwdIdeal.nD Cert.OutProjBwdIdeal.τ).loc Cert.OutProjBwdIdeal.main_arg7) = m ((c.tc : Thread Cert.OutProjBwdIdeal.nD Cert.OutProjBwdIdeal.τ).loc Cert.OutProjBwdIdeal.main_arg7)
          ∧ r.2.mem ((c.tc : Thread Cert.OutProjBwdIdeal.nD Cert.OutProjBwdIdeal.τ).loc Cert.OutProjBwdIdeal.main_arg8) = m ((c.tc : Thread Cert.OutProjBwdIdeal.nD Cert.OutProjBwdIdeal.τ).loc Cert.OutProjBwdIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v79) = v0 c
          ∧ r.2.mem ((c.tc : Thread Cert.OutProjRefIdeal.nD Cert.OutProjRefIdeal.τ).loc Cert.OutProjRefIdeal.main_v99) = v1 c
          ∧ r.2.mem ((c.tc : Thread Cert.OutProjRefIdeal.nD Cert.OutProjRefIdeal.τ).loc Cert.OutProjRefIdeal.main_v100) = v2 c
          ∧ r.2.mem ((c.tc : Thread Cert.OutProjRefIdeal.nD Cert.OutProjRefIdeal.τ).loc Cert.OutProjRefIdeal.main_v101) = v3 c
          ∧ r.2.mem ((c.tc : Thread Cert.OutProjRefIdeal.nD Cert.OutProjRefIdeal.τ).loc Cert.OutProjRefIdeal.main_v76) = v4 c
          ∧ r.2.mem ((c.tc : Thread Cert.OutProjRefIdeal.nD Cert.OutProjRefIdeal.τ).loc Cert.OutProjRefIdeal.main_v102) = v5 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_FfnInBwd_FfnInBwdIdeal : Prop :=
  True

def algebraic_FfnInBwdIdeal_FfnInRefIdeal_pre_ffn_in_finite [hFfnInBwdIdeal : Cert.FfnInBwdIdeal.Facts] [hFfnInRefIdeal : Cert.FfnInRefIdeal.Facts] [hPre_ffn_in_finite : Cert.Pre_ffn_in_finite.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInBwdIdeal_ffn_in_finite m →
    (∀ c : Dev Cert.FfnInBwdIdeal.nD,
      m' ((c.tc : Thread Cert.FfnInRefIdeal.nD Cert.FfnInRefIdeal.τ).loc Cert.FfnInRefIdeal.main_arg0) = m ((c.tc : Thread Cert.FfnInBwdIdeal.nD Cert.FfnInBwdIdeal.τ).loc Cert.FfnInBwdIdeal.main_arg0)
      ∧ m' ((c.tc : Thread Cert.FfnInRefIdeal.nD Cert.FfnInRefIdeal.τ).loc Cert.FfnInRefIdeal.main_arg1) = m ((c.tc : Thread Cert.FfnInBwdIdeal.nD Cert.FfnInBwdIdeal.τ).loc Cert.FfnInBwdIdeal.main_arg1)
      ∧ m' ((c.tc : Thread Cert.FfnInRefIdeal.nD Cert.FfnInRefIdeal.τ).loc Cert.FfnInRefIdeal.main_arg2) = m ((c.tc : Thread Cert.FfnInBwdIdeal.nD Cert.FfnInBwdIdeal.τ).loc Cert.FfnInBwdIdeal.main_arg2)
      ∧ m' ((c.tc : Thread Cert.FfnInRefIdeal.nD Cert.FfnInRefIdeal.τ).loc Cert.FfnInRefIdeal.main_arg3) = m ((c.tc : Thread Cert.FfnInBwdIdeal.nD Cert.FfnInBwdIdeal.τ).loc Cert.FfnInBwdIdeal.main_arg3)
      ∧ m' ((c.tc : Thread Cert.FfnInRefIdeal.nD Cert.FfnInRefIdeal.τ).loc Cert.FfnInRefIdeal.main_arg4) = m ((c.tc : Thread Cert.FfnInBwdIdeal.nD Cert.FfnInBwdIdeal.τ).loc Cert.FfnInBwdIdeal.main_arg4)
      ∧ m' ((c.tc : Thread Cert.FfnInRefIdeal.nD Cert.FfnInRefIdeal.τ).loc Cert.FfnInRefIdeal.main_arg5) = m ((c.tc : Thread Cert.FfnInBwdIdeal.nD Cert.FfnInBwdIdeal.τ).loc Cert.FfnInBwdIdeal.main_arg5)
      ∧ m' ((c.tc : Thread Cert.FfnInRefIdeal.nD Cert.FfnInRefIdeal.τ).loc Cert.FfnInRefIdeal.main_arg6) = m ((c.tc : Thread Cert.FfnInBwdIdeal.nD Cert.FfnInBwdIdeal.τ).loc Cert.FfnInBwdIdeal.main_arg6)) →
    ∃ (v0 : (c : Dev Cert.FfnInBwdIdeal.nD) → Buf (Elt Ideal) ((c.tc : Thread Cert.FfnInBwdIdeal.nD Cert.FfnInBwdIdeal.τ).loc Cert.FfnInBwdIdeal.main_v12_0)) (v1 : (c : Dev Cert.FfnInBwdIdeal.nD) → Buf (Elt Ideal) ((c.tc : Thread Cert.FfnInBwdIdeal.nD Cert.FfnInBwdIdeal.τ).loc Cert.FfnInBwdIdeal.main_v12_1)) (v2 : (c : Dev Cert.FfnInBwdIdeal.nD) → Buf (Elt Ideal) ((c.tc : Thread Cert.FfnInBwdIdeal.nD Cert.FfnInBwdIdeal.τ).loc Cert.FfnInBwdIdeal.main_v12_2)),
      θ_run (Cert.FfnInBwdIdeal.defs (F := Ideal)) (onTc (τ := Cert.FfnInBwdIdeal.τ) (Cert.FfnInBwdIdeal.main (F := Ideal))) ⟨m, fun _ => 0, g⟩ (fun r => ∀ c : Dev Cert.FfnInBwdIdeal.nD,
          r.2.mem ((c.tc : Thread Cert.FfnInBwdIdeal.nD Cert.FfnInBwdIdeal.τ).loc Cert.FfnInBwdIdeal.main_v12_0) = v0 c
          ∧ r.2.mem ((c.tc : Thread Cert.FfnInBwdIdeal.nD Cert.FfnInBwdIdeal.τ).loc Cert.FfnInBwdIdeal.main_v12_1) = v1 c
          ∧ r.2.mem ((c.tc : Thread Cert.FfnInBwdIdeal.nD Cert.FfnInBwdIdeal.τ).loc Cert.FfnInBwdIdeal.main_v12_2) = v2 c
          ∧ r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
          ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
          ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
          ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
          ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
          ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5)
          ∧ r.2.mem ((c.tc : Thread Cert.FfnInBwdIdeal.nD Cert.FfnInBwdIdeal.τ).loc Cert.FfnInBwdIdeal.main_arg6) = m ((c.tc : Thread Cert.FfnInBwdIdeal.nD Cert.FfnInBwdIdeal.τ).loc Cert.FfnInBwdIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v39) = v0 c
          ∧ r.2.mem ((c.tc : Thread Cert.FfnInRefIdeal.nD Cert.FfnInRefIdeal.τ).loc Cert.FfnInRefIdeal.main_v22) = v1 c
          ∧ r.2.mem ((c.tc : Thread Cert.FfnInRefIdeal.nD Cert.FfnInRefIdeal.τ).loc Cert.FfnInRefIdeal.main_v52) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_FfnHiddenBwd_FfnHiddenBwdIdeal : Prop :=
  True

def algebraic_FfnHiddenBwdIdeal_FfnHiddenRefIdeal_pre_ffn_hidden_finite [hFfnHiddenBwdIdeal : Cert.FfnHiddenBwdIdeal.Facts] [hFfnHiddenRefIdeal : Cert.FfnHiddenRefIdeal.Facts] [hPre_ffn_hidden_finite : Cert.Pre_ffn_hidden_finite.Facts] : Prop :=
  ∀ (m : (ℓ : Loc Cert.FfnHiddenBwdIdeal.nD Cert.FfnHiddenBwdIdeal.τ Cert.FfnHiddenBwdIdeal.sig) → Buf (Elt Ideal) ℓ) (g : Dev Cert.FfnHiddenBwdIdeal.nD → PrngReg)
    (m' : (ℓ : Loc Cert.FfnHiddenRefIdeal.nD Cert.FfnHiddenRefIdeal.τ Cert.FfnHiddenRefIdeal.sig) → Buf (Elt Ideal) ℓ) (g' : Dev Cert.FfnHiddenRefIdeal.nD → PrngReg), Pre_FfnHiddenBwdIdeal_ffn_hidden_finite m →
    (∀ c : Dev Cert.FfnHiddenBwdIdeal.nD,
      m' ((c.tc : Thread Cert.FfnHiddenRefIdeal.nD Cert.FfnHiddenRefIdeal.τ).loc Cert.FfnHiddenRefIdeal.main_arg0) = m ((c.tc : Thread Cert.FfnHiddenBwdIdeal.nD Cert.FfnHiddenBwdIdeal.τ).loc Cert.FfnHiddenBwdIdeal.main_arg0)
      ∧ m' ((c.tc : Thread Cert.FfnHiddenRefIdeal.nD Cert.FfnHiddenRefIdeal.τ).loc Cert.FfnHiddenRefIdeal.main_arg1) = m ((c.tc : Thread Cert.FfnHiddenBwdIdeal.nD Cert.FfnHiddenBwdIdeal.τ).loc Cert.FfnHiddenBwdIdeal.main_arg1)
      ∧ m' ((c.tc : Thread Cert.FfnHiddenRefIdeal.nD Cert.FfnHiddenRefIdeal.τ).loc Cert.FfnHiddenRefIdeal.main_arg2) = m ((c.tc : Thread Cert.FfnHiddenBwdIdeal.nD Cert.FfnHiddenBwdIdeal.τ).loc Cert.FfnHiddenBwdIdeal.main_arg2)
      ∧ m' ((c.tc : Thread Cert.FfnHiddenRefIdeal.nD Cert.FfnHiddenRefIdeal.τ).loc Cert.FfnHiddenRefIdeal.main_arg3) = m ((c.tc : Thread Cert.FfnHiddenBwdIdeal.nD Cert.FfnHiddenBwdIdeal.τ).loc Cert.FfnHiddenBwdIdeal.main_arg3)
      ∧ m' ((c.tc : Thread Cert.FfnHiddenRefIdeal.nD Cert.FfnHiddenRefIdeal.τ).loc Cert.FfnHiddenRefIdeal.main_arg4) = m ((c.tc : Thread Cert.FfnHiddenBwdIdeal.nD Cert.FfnHiddenBwdIdeal.τ).loc Cert.FfnHiddenBwdIdeal.main_arg4)
      ∧ m' ((c.tc : Thread Cert.FfnHiddenRefIdeal.nD Cert.FfnHiddenRefIdeal.τ).loc Cert.FfnHiddenRefIdeal.main_arg5) = m ((c.tc : Thread Cert.FfnHiddenBwdIdeal.nD Cert.FfnHiddenBwdIdeal.τ).loc Cert.FfnHiddenBwdIdeal.main_arg5)) →
    ∃ (v0 : (c : Dev Cert.FfnHiddenBwdIdeal.nD) → Buf (Elt Ideal) ((c.tc : Thread Cert.FfnHiddenBwdIdeal.nD Cert.FfnHiddenBwdIdeal.τ).loc Cert.FfnHiddenBwdIdeal.main_v42_0)) (v1 : (c : Dev Cert.FfnHiddenBwdIdeal.nD) → Buf (Elt Ideal) ((c.tc : Thread Cert.FfnHiddenBwdIdeal.nD Cert.FfnHiddenBwdIdeal.τ).loc Cert.FfnHiddenBwdIdeal.main_v42_1)),
      θ_run (Cert.FfnHiddenBwdIdeal.defs (F := Ideal)) (onTc (τ := Cert.FfnHiddenBwdIdeal.τ) (Cert.FfnHiddenBwdIdeal.main (F := Ideal))) ⟨m, fun _ => 0, g⟩ (fun r => ∀ c : Dev Cert.FfnHiddenBwdIdeal.nD,
          r.2.mem ((c.tc : Thread Cert.FfnHiddenBwdIdeal.nD Cert.FfnHiddenBwdIdeal.τ).loc Cert.FfnHiddenBwdIdeal.main_v42_0) = v0 c
          ∧ r.2.mem ((c.tc : Thread Cert.FfnHiddenBwdIdeal.nD Cert.FfnHiddenBwdIdeal.τ).loc Cert.FfnHiddenBwdIdeal.main_v42_1) = v1 c
          ∧ r.2.mem ((c.tc : Thread Cert.FfnHiddenBwdIdeal.nD Cert.FfnHiddenBwdIdeal.τ).loc Cert.FfnHiddenBwdIdeal.main_arg0) = m ((c.tc : Thread Cert.FfnHiddenBwdIdeal.nD Cert.FfnHiddenBwdIdeal.τ).loc Cert.FfnHiddenBwdIdeal.main_arg0)
          ∧ r.2.mem ((c.tc : Thread Cert.FfnHiddenBwdIdeal.nD Cert.FfnHiddenBwdIdeal.τ).loc Cert.FfnHiddenBwdIdeal.main_arg1) = m ((c.tc : Thread Cert.FfnHiddenBwdIdeal.nD Cert.FfnHiddenBwdIdeal.τ).loc Cert.FfnHiddenBwdIdeal.main_arg1)
          ∧ r.2.mem ((c.tc : Thread Cert.FfnHiddenBwdIdeal.nD Cert.FfnHiddenBwdIdeal.τ).loc Cert.FfnHiddenBwdIdeal.main_arg2) = m ((c.tc : Thread Cert.FfnHiddenBwdIdeal.nD Cert.FfnHiddenBwdIdeal.τ).loc Cert.FfnHiddenBwdIdeal.main_arg2)
          ∧ r.2.mem ((c.tc : Thread Cert.FfnHiddenBwdIdeal.nD Cert.FfnHiddenBwdIdeal.τ).loc Cert.FfnHiddenBwdIdeal.main_arg3) = m ((c.tc : Thread Cert.FfnHiddenBwdIdeal.nD Cert.FfnHiddenBwdIdeal.τ).loc Cert.FfnHiddenBwdIdeal.main_arg3)
          ∧ r.2.mem ((c.tc : Thread Cert.FfnHiddenBwdIdeal.nD Cert.FfnHiddenBwdIdeal.τ).loc Cert.FfnHiddenBwdIdeal.main_arg4) = m ((c.tc : Thread Cert.FfnHiddenBwdIdeal.nD Cert.FfnHiddenBwdIdeal.τ).loc Cert.FfnHiddenBwdIdeal.main_arg4)
          ∧ r.2.mem ((c.tc : Thread Cert.FfnHiddenBwdIdeal.nD Cert.FfnHiddenBwdIdeal.τ).loc Cert.FfnHiddenBwdIdeal.main_arg5) = m ((c.tc : Thread Cert.FfnHiddenBwdIdeal.nD Cert.FfnHiddenBwdIdeal.τ).loc Cert.FfnHiddenBwdIdeal.main_arg5))
      ∧ θ_run (Cert.FfnHiddenRefIdeal.defs (F := Ideal)) (onTc (τ := Cert.FfnHiddenRefIdeal.τ) (Cert.FfnHiddenRefIdeal.main (F := Ideal))) ⟨m', fun _ => 0, g'⟩ (fun r => ∀ c : Dev Cert.FfnHiddenRefIdeal.nD,
          r.2.mem ((c.tc : Thread Cert.FfnHiddenRefIdeal.nD Cert.FfnHiddenRefIdeal.τ).loc Cert.FfnHiddenRefIdeal.main_v27) = v0 c
          ∧ r.2.mem ((c.tc : Thread Cert.FfnHiddenRefIdeal.nD Cert.FfnHiddenRefIdeal.τ).loc Cert.FfnHiddenRefIdeal.main_v30) = v1 c
          ∧ r.2.mem ((c.tc : Thread Cert.FfnHiddenRefIdeal.nD Cert.FfnHiddenRefIdeal.τ).loc Cert.FfnHiddenRefIdeal.main_arg0) = m' ((c.tc : Thread Cert.FfnHiddenRefIdeal.nD Cert.FfnHiddenRefIdeal.τ).loc Cert.FfnHiddenRefIdeal.main_arg0)
          ∧ r.2.mem ((c.tc : Thread Cert.FfnHiddenRefIdeal.nD Cert.FfnHiddenRefIdeal.τ).loc Cert.FfnHiddenRefIdeal.main_arg1) = m' ((c.tc : Thread Cert.FfnHiddenRefIdeal.nD Cert.FfnHiddenRefIdeal.τ).loc Cert.FfnHiddenRefIdeal.main_arg1)
          ∧ r.2.mem ((c.tc : Thread Cert.FfnHiddenRefIdeal.nD Cert.FfnHiddenRefIdeal.τ).loc Cert.FfnHiddenRefIdeal.main_arg2) = m' ((c.tc : Thread Cert.FfnHiddenRefIdeal.nD Cert.FfnHiddenRefIdeal.τ).loc Cert.FfnHiddenRefIdeal.main_arg2)
          ∧ r.2.mem ((c.tc : Thread Cert.FfnHiddenRefIdeal.nD Cert.FfnHiddenRefIdeal.τ).loc Cert.FfnHiddenRefIdeal.main_arg3) = m' ((c.tc : Thread Cert.FfnHiddenRefIdeal.nD Cert.FfnHiddenRefIdeal.τ).loc Cert.FfnHiddenRefIdeal.main_arg3)
          ∧ r.2.mem ((c.tc : Thread Cert.FfnHiddenRefIdeal.nD Cert.FfnHiddenRefIdeal.τ).loc Cert.FfnHiddenRefIdeal.main_arg4) = m' ((c.tc : Thread Cert.FfnHiddenRefIdeal.nD Cert.FfnHiddenRefIdeal.τ).loc Cert.FfnHiddenRefIdeal.main_arg4)
          ∧ r.2.mem ((c.tc : Thread Cert.FfnHiddenRefIdeal.nD Cert.FfnHiddenRefIdeal.τ).loc Cert.FfnHiddenRefIdeal.main_arg5) = m' ((c.tc : Thread Cert.FfnHiddenRefIdeal.nD Cert.FfnHiddenRefIdeal.τ).loc Cert.FfnHiddenRefIdeal.main_arg5))

def preserves_RgGatesBwd_RgGatesBwdIdeal : Prop :=
  True

def preserves_RgConvFwd_RgConvFwdIdeal : Prop :=
  True

def algebraic_RgConvFwdIdeal_RgConvFwdRefIdeal [hRgConvFwdIdeal : Cert.RgConvFwdIdeal.Facts] [hRgConvFwdRefIdeal : Cert.RgConvFwdRefIdeal.Facts] : Prop :=
  ∀ (m : (ℓ : Loc Cert.RgConvFwdIdeal.nD Cert.RgConvFwdIdeal.τ Cert.RgConvFwdIdeal.sig) → Buf (Elt Ideal) ℓ) (g : Dev Cert.RgConvFwdIdeal.nD → PrngReg)
    (m' : (ℓ : Loc Cert.RgConvFwdRefIdeal.nD Cert.RgConvFwdRefIdeal.τ Cert.RgConvFwdRefIdeal.sig) → Buf (Elt Ideal) ℓ) (g' : Dev Cert.RgConvFwdRefIdeal.nD → PrngReg), Pre_RgConvFwdIdeal m →
    (∀ c : Dev Cert.RgConvFwdIdeal.nD,
      m' ((c.tc : Thread Cert.RgConvFwdRefIdeal.nD Cert.RgConvFwdRefIdeal.τ).loc Cert.RgConvFwdRefIdeal.main_arg0) = m ((c.tc : Thread Cert.RgConvFwdIdeal.nD Cert.RgConvFwdIdeal.τ).loc Cert.RgConvFwdIdeal.main_arg0)
      ∧ m' ((c.tc : Thread Cert.RgConvFwdRefIdeal.nD Cert.RgConvFwdRefIdeal.τ).loc Cert.RgConvFwdRefIdeal.main_arg1) = m ((c.tc : Thread Cert.RgConvFwdIdeal.nD Cert.RgConvFwdIdeal.τ).loc Cert.RgConvFwdIdeal.main_arg1)
      ∧ m' ((c.tc : Thread Cert.RgConvFwdRefIdeal.nD Cert.RgConvFwdRefIdeal.τ).loc Cert.RgConvFwdRefIdeal.main_arg2) = m ((c.tc : Thread Cert.RgConvFwdIdeal.nD Cert.RgConvFwdIdeal.τ).loc Cert.RgConvFwdIdeal.main_arg2)) →
    ∃ (v0 : (c : Dev Cert.RgConvFwdIdeal.nD) → Buf (Elt Ideal) ((c.tc : Thread Cert.RgConvFwdIdeal.nD Cert.RgConvFwdIdeal.τ).loc Cert.RgConvFwdIdeal.main_v1)),
      θ_run (Cert.RgConvFwdIdeal.defs (F := Ideal)) (onTc (τ := Cert.RgConvFwdIdeal.τ) (Cert.RgConvFwdIdeal.main (F := Ideal))) ⟨m, fun _ => 0, g⟩ (fun r => ∀ c : Dev Cert.RgConvFwdIdeal.nD,
          r.2.mem ((c.tc : Thread Cert.RgConvFwdIdeal.nD Cert.RgConvFwdIdeal.τ).loc Cert.RgConvFwdIdeal.main_v1) = v0 c
          ∧ r.2.mem ((c.tc : Thread Cert.RgConvFwdIdeal.nD Cert.RgConvFwdIdeal.τ).loc Cert.RgConvFwdIdeal.main_arg0) = m ((c.tc : Thread Cert.RgConvFwdIdeal.nD Cert.RgConvFwdIdeal.τ).loc Cert.RgConvFwdIdeal.main_arg0)
          ∧ r.2.mem ((c.tc : Thread Cert.RgConvFwdIdeal.nD Cert.RgConvFwdIdeal.τ).loc Cert.RgConvFwdIdeal.main_arg1) = m ((c.tc : Thread Cert.RgConvFwdIdeal.nD Cert.RgConvFwdIdeal.τ).loc Cert.RgConvFwdIdeal.main_arg1)
          ∧ r.2.mem ((c.tc : Thread Cert.RgConvFwdIdeal.nD Cert.RgConvFwdIdeal.τ).loc Cert.RgConvFwdIdeal.main_arg2) = m ((c.tc : Thread Cert.RgConvFwdIdeal.nD Cert.RgConvFwdIdeal.τ).loc Cert.RgConvFwdIdeal.main_arg2))
      ∧ θ_run (Cert.RgConvFwdRefIdeal.defs (F := Ideal)) (onTc (τ := Cert.RgConvFwdRefIdeal.τ) (Cert.RgConvFwdRefIdeal.main (F := Ideal))) ⟨m', fun _ => 0, g'⟩ (fun r => ∀ c : Dev Cert.RgConvFwdRefIdeal.nD,
          r.2.mem ((c.tc : Thread Cert.RgConvFwdRefIdeal.nD Cert.RgConvFwdRefIdeal.τ).loc Cert.RgConvFwdRefIdeal.main_v33) = v0 c
          ∧ r.2.mem ((c.tc : Thread Cert.RgConvFwdRefIdeal.nD Cert.RgConvFwdRefIdeal.τ).loc Cert.RgConvFwdRefIdeal.main_arg0) = m' ((c.tc : Thread Cert.RgConvFwdRefIdeal.nD Cert.RgConvFwdRefIdeal.τ).loc Cert.RgConvFwdRefIdeal.main_arg0)
          ∧ r.2.mem ((c.tc : Thread Cert.RgConvFwdRefIdeal.nD Cert.RgConvFwdRefIdeal.τ).loc Cert.RgConvFwdRefIdeal.main_arg1) = m' ((c.tc : Thread Cert.RgConvFwdRefIdeal.nD Cert.RgConvFwdRefIdeal.τ).loc Cert.RgConvFwdRefIdeal.main_arg1)
          ∧ r.2.mem ((c.tc : Thread Cert.RgConvFwdRefIdeal.nD Cert.RgConvFwdRefIdeal.τ).loc Cert.RgConvFwdRefIdeal.main_arg2) = m' ((c.tc : Thread Cert.RgConvFwdRefIdeal.nD Cert.RgConvFwdRefIdeal.τ).loc Cert.RgConvFwdRefIdeal.main_arg2))

def preserves_GdnConvFwd_GdnConvFwdIdeal : Prop :=
  True

def algebraic_GdnConvFwdIdeal_GdnConvFwdRefIdeal [hGdnConvFwdIdeal : Cert.GdnConvFwdIdeal.Facts] [hGdnConvFwdRefIdeal : Cert.GdnConvFwdRefIdeal.Facts] : Prop :=
  ∀ (m : (ℓ : Loc Cert.GdnConvFwdIdeal.nD Cert.GdnConvFwdIdeal.τ Cert.GdnConvFwdIdeal.sig) → Buf (Elt Ideal) ℓ) (g : Dev Cert.GdnConvFwdIdeal.nD → PrngReg)
    (m' : (ℓ : Loc Cert.GdnConvFwdRefIdeal.nD Cert.GdnConvFwdRefIdeal.τ Cert.GdnConvFwdRefIdeal.sig) → Buf (Elt Ideal) ℓ) (g' : Dev Cert.GdnConvFwdRefIdeal.nD → PrngReg), Pre_GdnConvFwdIdeal m →
    (∀ c : Dev Cert.GdnConvFwdIdeal.nD,
      m' ((c.tc : Thread Cert.GdnConvFwdRefIdeal.nD Cert.GdnConvFwdRefIdeal.τ).loc Cert.GdnConvFwdRefIdeal.main_arg0) = m ((c.tc : Thread Cert.GdnConvFwdIdeal.nD Cert.GdnConvFwdIdeal.τ).loc Cert.GdnConvFwdIdeal.main_arg0)
      ∧ m' ((c.tc : Thread Cert.GdnConvFwdRefIdeal.nD Cert.GdnConvFwdRefIdeal.τ).loc Cert.GdnConvFwdRefIdeal.main_arg1) = m ((c.tc : Thread Cert.GdnConvFwdIdeal.nD Cert.GdnConvFwdIdeal.τ).loc Cert.GdnConvFwdIdeal.main_arg1)) →
    ∃ (v0 : (c : Dev Cert.GdnConvFwdIdeal.nD) → Buf (Elt Ideal) ((c.tc : Thread Cert.GdnConvFwdIdeal.nD Cert.GdnConvFwdIdeal.τ).loc Cert.GdnConvFwdIdeal.main_v2)),
      θ_run (Cert.GdnConvFwdIdeal.defs (F := Ideal)) (onTc (τ := Cert.GdnConvFwdIdeal.τ) (Cert.GdnConvFwdIdeal.main (F := Ideal))) ⟨m, fun _ => 0, g⟩ (fun r => ∀ c : Dev Cert.GdnConvFwdIdeal.nD,
          r.2.mem ((c.tc : Thread Cert.GdnConvFwdIdeal.nD Cert.GdnConvFwdIdeal.τ).loc Cert.GdnConvFwdIdeal.main_v2) = v0 c
          ∧ r.2.mem ((c.tc : Thread Cert.GdnConvFwdIdeal.nD Cert.GdnConvFwdIdeal.τ).loc Cert.GdnConvFwdIdeal.main_arg0) = m ((c.tc : Thread Cert.GdnConvFwdIdeal.nD Cert.GdnConvFwdIdeal.τ).loc Cert.GdnConvFwdIdeal.main_arg0)
          ∧ r.2.mem ((c.tc : Thread Cert.GdnConvFwdIdeal.nD Cert.GdnConvFwdIdeal.τ).loc Cert.GdnConvFwdIdeal.main_arg1) = m ((c.tc : Thread Cert.GdnConvFwdIdeal.nD Cert.GdnConvFwdIdeal.τ).loc Cert.GdnConvFwdIdeal.main_arg1))
      ∧ θ_run (Cert.GdnConvFwdRefIdeal.defs (F := Ideal)) (onTc (τ := Cert.GdnConvFwdRefIdeal.τ) (Cert.GdnConvFwdRefIdeal.main (F := Ideal))) ⟨m', fun _ => 0, g'⟩ (fun r => ∀ c : Dev Cert.GdnConvFwdRefIdeal.nD,
          r.2.mem ((c.tc : Thread Cert.GdnConvFwdRefIdeal.nD Cert.GdnConvFwdRefIdeal.τ).loc Cert.GdnConvFwdRefIdeal.main_v31) = v0 c
          ∧ r.2.mem ((c.tc : Thread Cert.GdnConvFwdRefIdeal.nD Cert.GdnConvFwdRefIdeal.τ).loc Cert.GdnConvFwdRefIdeal.main_arg0) = m' ((c.tc : Thread Cert.GdnConvFwdRefIdeal.nD Cert.GdnConvFwdRefIdeal.τ).loc Cert.GdnConvFwdRefIdeal.main_arg0)
          ∧ r.2.mem ((c.tc : Thread Cert.GdnConvFwdRefIdeal.nD Cert.GdnConvFwdRefIdeal.τ).loc Cert.GdnConvFwdRefIdeal.main_arg1) = m' ((c.tc : Thread Cert.GdnConvFwdRefIdeal.nD Cert.GdnConvFwdRefIdeal.τ).loc Cert.GdnConvFwdRefIdeal.main_arg1))

def preserves_InProjFwd_InProjFwdIdeal : Prop :=
  True

def algebraic_InProjFwdIdeal_InProjFwdRefIdeal [hInProjFwdIdeal : Cert.InProjFwdIdeal.Facts] [hInProjFwdRefIdeal : Cert.InProjFwdRefIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjFwdIdeal m →
    (∀ c : Dev Cert.InProjFwdIdeal.nD,
      m' ((c.tc : Thread Cert.InProjFwdRefIdeal.nD Cert.InProjFwdRefIdeal.τ).loc Cert.InProjFwdRefIdeal.main_arg0) = m ((c.tc : Thread Cert.InProjFwdIdeal.nD Cert.InProjFwdIdeal.τ).loc Cert.InProjFwdIdeal.main_arg0)
      ∧ m' ((c.tc : Thread Cert.InProjFwdRefIdeal.nD Cert.InProjFwdRefIdeal.τ).loc Cert.InProjFwdRefIdeal.main_arg1) = m ((c.tc : Thread Cert.InProjFwdIdeal.nD Cert.InProjFwdIdeal.τ).loc Cert.InProjFwdIdeal.main_arg1)
      ∧ m' ((c.tc : Thread Cert.InProjFwdRefIdeal.nD Cert.InProjFwdRefIdeal.τ).loc Cert.InProjFwdRefIdeal.main_arg2) = m ((c.tc : Thread Cert.InProjFwdIdeal.nD Cert.InProjFwdIdeal.τ).loc Cert.InProjFwdIdeal.main_arg2)) →
    ∃ (v0 : (c : Dev Cert.InProjFwdIdeal.nD) → Buf (Elt Ideal) ((c.tc : Thread Cert.InProjFwdIdeal.nD Cert.InProjFwdIdeal.τ).loc Cert.InProjFwdIdeal.main_v7_0)) (v1 : (c : Dev Cert.InProjFwdIdeal.nD) → Buf (Elt Ideal) ((c.tc : Thread Cert.InProjFwdIdeal.nD Cert.InProjFwdIdeal.τ).loc Cert.InProjFwdIdeal.main_v7_1)) (v2 : (c : Dev Cert.InProjFwdIdeal.nD) → Buf (Elt Ideal) ((c.tc : Thread Cert.InProjFwdIdeal.nD Cert.InProjFwdIdeal.τ).loc Cert.InProjFwdIdeal.main_v7_2)) (v3 : (c : Dev Cert.InProjFwdIdeal.nD) → Buf (Elt Ideal) ((c.tc : Thread Cert.InProjFwdIdeal.nD Cert.InProjFwdIdeal.τ).loc Cert.InProjFwdIdeal.main_v7_3)) (v4 : (c : Dev Cert.InProjFwdIdeal.nD) → Buf (Elt Ideal) ((c.tc : Thread Cert.InProjFwdIdeal.nD Cert.InProjFwdIdeal.τ).loc Cert.InProjFwdIdeal.main_v7_4)) (v5 : (c : Dev Cert.InProjFwdIdeal.nD) → Buf (Elt Ideal) ((c.tc : Thread Cert.InProjFwdIdeal.nD Cert.InProjFwdIdeal.τ).loc Cert.InProjFwdIdeal.main_v7_5)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v7_0) = v0 c
          ∧ r.2.mem ((c.tc : Thread Cert.InProjFwdIdeal.nD Cert.InProjFwdIdeal.τ).loc Cert.InProjFwdIdeal.main_v7_1) = v1 c
          ∧ r.2.mem ((c.tc : Thread Cert.InProjFwdIdeal.nD Cert.InProjFwdIdeal.τ).loc Cert.InProjFwdIdeal.main_v7_2) = v2 c
          ∧ r.2.mem ((c.tc : Thread Cert.InProjFwdIdeal.nD Cert.InProjFwdIdeal.τ).loc Cert.InProjFwdIdeal.main_v7_3) = v3 c
          ∧ r.2.mem ((c.tc : Thread Cert.InProjFwdIdeal.nD Cert.InProjFwdIdeal.τ).loc Cert.InProjFwdIdeal.main_v7_4) = v4 c
          ∧ r.2.mem ((c.tc : Thread Cert.InProjFwdIdeal.nD Cert.InProjFwdIdeal.τ).loc Cert.InProjFwdIdeal.main_v7_5) = v5 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
          ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v13) = v0 c
          ∧ r.2.mem ((c.tc : Thread Cert.InProjFwdRefIdeal.nD Cert.InProjFwdRefIdeal.τ).loc Cert.InProjFwdRefIdeal.main_v14) = v1 c
          ∧ r.2.mem ((c.tc : Thread Cert.InProjFwdRefIdeal.nD Cert.InProjFwdRefIdeal.τ).loc Cert.InProjFwdRefIdeal.main_v15) = v2 c
          ∧ r.2.mem ((c.tc : Thread Cert.InProjFwdRefIdeal.nD Cert.InProjFwdRefIdeal.τ).loc Cert.InProjFwdRefIdeal.main_v16) = v3 c
          ∧ r.2.mem ((c.tc : Thread Cert.InProjFwdRefIdeal.nD Cert.InProjFwdRefIdeal.τ).loc Cert.InProjFwdRefIdeal.main_v17) = v4 c
          ∧ r.2.mem ((c.tc : Thread Cert.InProjFwdRefIdeal.nD Cert.InProjFwdRefIdeal.τ).loc Cert.InProjFwdRefIdeal.main_v19) = v5 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1)
          ∧ r.2.mem ((c.tc : Thread Cert.InProjFwdRefIdeal.nD Cert.InProjFwdRefIdeal.τ).loc Cert.InProjFwdRefIdeal.main_arg2) = m' ((c.tc : Thread Cert.InProjFwdRefIdeal.nD Cert.InProjFwdRefIdeal.τ).loc Cert.InProjFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v8_0)) (v1 : (c : Dev Cert.FfnFwdIdeal.nD) → Buf (Elt Ideal) ((c.tc : Thread Cert.FfnFwdIdeal.nD Cert.FfnFwdIdeal.τ).loc Cert.FfnFwdIdeal.main_v8_1)) (v2 : (c : Dev Cert.FfnFwdIdeal.nD) → Buf (Elt Ideal) ((c.tc : Thread Cert.FfnFwdIdeal.nD Cert.FfnFwdIdeal.τ).loc Cert.FfnFwdIdeal.main_v8_2)) (v3 : (c : Dev Cert.FfnFwdIdeal.nD) → Buf (Elt Ideal) ((c.tc : Thread Cert.FfnFwdIdeal.nD Cert.FfnFwdIdeal.τ).loc Cert.FfnFwdIdeal.main_v8_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v8_0) = v0 c
          ∧ r.2.mem ((c.tc : Thread Cert.FfnFwdIdeal.nD Cert.FfnFwdIdeal.τ).loc Cert.FfnFwdIdeal.main_v8_1) = v1 c
          ∧ r.2.mem ((c.tc : Thread Cert.FfnFwdIdeal.nD Cert.FfnFwdIdeal.τ).loc Cert.FfnFwdIdeal.main_v8_2) = v2 c
          ∧ r.2.mem ((c.tc : Thread Cert.FfnFwdIdeal.nD Cert.FfnFwdIdeal.τ).loc Cert.FfnFwdIdeal.main_v8_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v23) = v0 c
          ∧ r.2.mem ((c.tc : Thread Cert.FfnFwdRefIdeal.nD Cert.FfnFwdRefIdeal.τ).loc Cert.FfnFwdRefIdeal.main_v26) = v1 c
          ∧ r.2.mem ((c.tc : Thread Cert.FfnFwdRefIdeal.nD Cert.FfnFwdRefIdeal.τ).loc Cert.FfnFwdRefIdeal.main_v29) = v2 c
          ∧ r.2.mem ((c.tc : Thread Cert.FfnFwdRefIdeal.nD Cert.FfnFwdRefIdeal.τ).loc Cert.FfnFwdRefIdeal.main_v32) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_OutProjFwd_OutProjFwdIdeal : Prop :=
  IdealRules.named_const.Statement Cert.OutProjFwdIdeal.κ "cube" .f32 0x3D372713#32 ((8943 / 200000 : ℝ) : EReal)

def algebraic_OutProjFwdIdeal_OutProjFwdRefIdeal [hOutProjFwdIdeal : Cert.OutProjFwdIdeal.Facts] [hOutProjFwdRefIdeal : Cert.OutProjFwdRefIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg)
    (m' : (ℓ : Loc Cert.OutProjFwdRefIdeal.nD Cert.OutProjFwdRefIdeal.τ Cert.OutProjFwdRefIdeal.sig) → Buf (Elt Ideal) ℓ) (g' : Dev Cert.OutProjFwdRefIdeal.nD → PrngReg), Pre_OutProjFwdIdeal m →
    (∀ c : Dev Cert.OutProjFwdIdeal.nD,
      m' ((c.tc : Thread Cert.OutProjFwdRefIdeal.nD Cert.OutProjFwdRefIdeal.τ).loc Cert.OutProjFwdRefIdeal.main_arg0) = m ((c.tc : Thread Cert.OutProjFwdIdeal.nD Cert.OutProjFwdIdeal.τ).loc Cert.OutProjFwdIdeal.main_arg0)
      ∧ m' ((c.tc : Thread Cert.OutProjFwdRefIdeal.nD Cert.OutProjFwdRefIdeal.τ).loc Cert.OutProjFwdRefIdeal.main_arg1) = m ((c.tc : Thread Cert.OutProjFwdIdeal.nD Cert.OutProjFwdIdeal.τ).loc Cert.OutProjFwdIdeal.main_arg1)
      ∧ m' ((c.tc : Thread Cert.OutProjFwdRefIdeal.nD Cert.OutProjFwdRefIdeal.τ).loc Cert.OutProjFwdRefIdeal.main_arg2) = m ((c.tc : Thread Cert.OutProjFwdIdeal.nD Cert.OutProjFwdIdeal.τ).loc Cert.OutProjFwdIdeal.main_arg2)
      ∧ m' ((c.tc : Thread Cert.OutProjFwdRefIdeal.nD Cert.OutProjFwdRefIdeal.τ).loc Cert.OutProjFwdRefIdeal.main_arg3) = m ((c.tc : Thread Cert.OutProjFwdIdeal.nD Cert.OutProjFwdIdeal.τ).loc Cert.OutProjFwdIdeal.main_arg3)
      ∧ m' ((c.tc : Thread Cert.OutProjFwdRefIdeal.nD Cert.OutProjFwdRefIdeal.τ).loc Cert.OutProjFwdRefIdeal.main_arg4) = m ((c.tc : Thread Cert.OutProjFwdIdeal.nD Cert.OutProjFwdIdeal.τ).loc Cert.OutProjFwdIdeal.main_arg4)
      ∧ m' ((c.tc : Thread Cert.OutProjFwdRefIdeal.nD Cert.OutProjFwdRefIdeal.τ).loc Cert.OutProjFwdRefIdeal.main_arg5) = m ((c.tc : Thread Cert.OutProjFwdIdeal.nD Cert.OutProjFwdIdeal.τ).loc Cert.OutProjFwdIdeal.main_arg5)
      ∧ m' ((c.tc : Thread Cert.OutProjFwdRefIdeal.nD Cert.OutProjFwdRefIdeal.τ).loc Cert.OutProjFwdRefIdeal.main_arg6) = m ((c.tc : Thread Cert.OutProjFwdIdeal.nD Cert.OutProjFwdIdeal.τ).loc Cert.OutProjFwdIdeal.main_arg6)
      ∧ m' ((c.tc : Thread Cert.OutProjFwdRefIdeal.nD Cert.OutProjFwdRefIdeal.τ).loc Cert.OutProjFwdRefIdeal.main_arg7) = m ((c.tc : Thread Cert.OutProjFwdIdeal.nD Cert.OutProjFwdIdeal.τ).loc Cert.OutProjFwdIdeal.main_arg7)
      ∧ m' ((c.tc : Thread Cert.OutProjFwdRefIdeal.nD Cert.OutProjFwdRefIdeal.τ).loc Cert.OutProjFwdRefIdeal.main_arg8) = m ((c.tc : Thread Cert.OutProjFwdIdeal.nD Cert.OutProjFwdIdeal.τ).loc Cert.OutProjFwdIdeal.main_arg8)) →
    ∃ (v0 : (c : Dev Cert.OutProjFwdIdeal.nD) → Buf (Elt Ideal) ((c.tc : Thread Cert.OutProjFwdIdeal.nD Cert.OutProjFwdIdeal.τ).loc Cert.OutProjFwdIdeal.main_v1_0)) (v1 : (c : Dev Cert.OutProjFwdIdeal.nD) → Buf (Elt Ideal) ((c.tc : Thread Cert.OutProjFwdIdeal.nD Cert.OutProjFwdIdeal.τ).loc Cert.OutProjFwdIdeal.main_v1_1)),
      θ_run (Cert.OutProjFwdIdeal.defs (F := Ideal)) (onTc (τ := Cert.OutProjFwdIdeal.τ) (Cert.OutProjFwdIdeal.main (F := Ideal))) ⟨m, fun _ => 0, g⟩ (fun r => ∀ c : Dev Cert.OutProjFwdIdeal.nD,
          r.2.mem ((c.tc : Thread Cert.OutProjFwdIdeal.nD Cert.OutProjFwdIdeal.τ).loc Cert.OutProjFwdIdeal.main_v1_0) = v0 c
          ∧ r.2.mem ((c.tc : Thread Cert.OutProjFwdIdeal.nD Cert.OutProjFwdIdeal.τ).loc Cert.OutProjFwdIdeal.main_v1_1) = v1 c
          ∧ r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
          ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
          ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
          ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3)
          ∧ r.2.mem ((c.tc : Thread Cert.OutProjFwdIdeal.nD Cert.OutProjFwdIdeal.τ).loc Cert.OutProjFwdIdeal.main_arg4) = m ((c.tc : Thread Cert.OutProjFwdIdeal.nD Cert.OutProjFwdIdeal.τ).loc Cert.OutProjFwdIdeal.main_arg4)
          ∧ r.2.mem ((c.tc : Thread Cert.OutProjFwdIdeal.nD Cert.OutProjFwdIdeal.τ).loc Cert.OutProjFwdIdeal.main_arg5) = m ((c.tc : Thread Cert.OutProjFwdIdeal.nD Cert.OutProjFwdIdeal.τ).loc Cert.OutProjFwdIdeal.main_arg5)
          ∧ r.2.mem ((c.tc : Thread Cert.OutProjFwdIdeal.nD Cert.OutProjFwdIdeal.τ).loc Cert.OutProjFwdIdeal.main_arg6) = m ((c.tc : Thread Cert.OutProjFwdIdeal.nD Cert.OutProjFwdIdeal.τ).loc Cert.OutProjFwdIdeal.main_arg6)
          ∧ r.2.mem ((c.tc : Thread Cert.OutProjFwdIdeal.nD Cert.OutProjFwdIdeal.τ).loc Cert.OutProjFwdIdeal.main_arg7) = m ((c.tc : Thread Cert.OutProjFwdIdeal.nD Cert.OutProjFwdIdeal.τ).loc Cert.OutProjFwdIdeal.main_arg7)
          ∧ r.2.mem ((c.tc : Thread Cert.OutProjFwdIdeal.nD Cert.OutProjFwdIdeal.τ).loc Cert.OutProjFwdIdeal.main_arg8) = m ((c.tc : Thread Cert.OutProjFwdIdeal.nD Cert.OutProjFwdIdeal.τ).loc Cert.OutProjFwdIdeal.main_arg8))
      ∧ θ_run (Cert.OutProjFwdRefIdeal.defs (F := Ideal)) (onTc (τ := Cert.OutProjFwdRefIdeal.τ) (Cert.OutProjFwdRefIdeal.main (F := Ideal))) ⟨m', fun _ => 0, g'⟩ (fun r => ∀ c : Dev Cert.OutProjFwdRefIdeal.nD,
          r.2.mem ((c.tc : Thread Cert.OutProjFwdRefIdeal.nD Cert.OutProjFwdRefIdeal.τ).loc Cert.OutProjFwdRefIdeal.main_v39) = v0 c
          ∧ r.2.mem ((c.tc : Thread Cert.OutProjFwdRefIdeal.nD Cert.OutProjFwdRefIdeal.τ).loc Cert.OutProjFwdRefIdeal.main_v40) = v1 c
          ∧ r.2.mem ((c.tc : Thread Cert.OutProjFwdRefIdeal.nD Cert.OutProjFwdRefIdeal.τ).loc Cert.OutProjFwdRefIdeal.main_arg0) = m' ((c.tc : Thread Cert.OutProjFwdRefIdeal.nD Cert.OutProjFwdRefIdeal.τ).loc Cert.OutProjFwdRefIdeal.main_arg0)
          ∧ r.2.mem ((c.tc : Thread Cert.OutProjFwdRefIdeal.nD Cert.OutProjFwdRefIdeal.τ).loc Cert.OutProjFwdRefIdeal.main_arg1) = m' ((c.tc : Thread Cert.OutProjFwdRefIdeal.nD Cert.OutProjFwdRefIdeal.τ).loc Cert.OutProjFwdRefIdeal.main_arg1)
          ∧ r.2.mem ((c.tc : Thread Cert.OutProjFwdRefIdeal.nD Cert.OutProjFwdRefIdeal.τ).loc Cert.OutProjFwdRefIdeal.main_arg2) = m' ((c.tc : Thread Cert.OutProjFwdRefIdeal.nD Cert.OutProjFwdRefIdeal.τ).loc Cert.OutProjFwdRefIdeal.main_arg2)
          ∧ r.2.mem ((c.tc : Thread Cert.OutProjFwdRefIdeal.nD Cert.OutProjFwdRefIdeal.τ).loc Cert.OutProjFwdRefIdeal.main_arg3) = m' ((c.tc : Thread Cert.OutProjFwdRefIdeal.nD Cert.OutProjFwdRefIdeal.τ).loc Cert.OutProjFwdRefIdeal.main_arg3)
          ∧ r.2.mem ((c.tc : Thread Cert.OutProjFwdRefIdeal.nD Cert.OutProjFwdRefIdeal.τ).loc Cert.OutProjFwdRefIdeal.main_arg4) = m' ((c.tc : Thread Cert.OutProjFwdRefIdeal.nD Cert.OutProjFwdRefIdeal.τ).loc Cert.OutProjFwdRefIdeal.main_arg4)
          ∧ r.2.mem ((c.tc : Thread Cert.OutProjFwdRefIdeal.nD Cert.OutProjFwdRefIdeal.τ).loc Cert.OutProjFwdRefIdeal.main_arg5) = m' ((c.tc : Thread Cert.OutProjFwdRefIdeal.nD Cert.OutProjFwdRefIdeal.τ).loc Cert.OutProjFwdRefIdeal.main_arg5)
          ∧ r.2.mem ((c.tc : Thread Cert.OutProjFwdRefIdeal.nD Cert.OutProjFwdRefIdeal.τ).loc Cert.OutProjFwdRefIdeal.main_arg6) = m' ((c.tc : Thread Cert.OutProjFwdRefIdeal.nD Cert.OutProjFwdRefIdeal.τ).loc Cert.OutProjFwdRefIdeal.main_arg6)
          ∧ r.2.mem ((c.tc : Thread Cert.OutProjFwdRefIdeal.nD Cert.OutProjFwdRefIdeal.τ).loc Cert.OutProjFwdRefIdeal.main_arg7) = m' ((c.tc : Thread Cert.OutProjFwdRefIdeal.nD Cert.OutProjFwdRefIdeal.τ).loc Cert.OutProjFwdRefIdeal.main_arg7)
          ∧ r.2.mem ((c.tc : Thread Cert.OutProjFwdRefIdeal.nD Cert.OutProjFwdRefIdeal.τ).loc Cert.OutProjFwdRefIdeal.main_arg8) = m' ((c.tc : Thread Cert.OutProjFwdRefIdeal.nD Cert.OutProjFwdRefIdeal.τ).loc Cert.OutProjFwdRefIdeal.main_arg8))

def preserves_GdnSeqFwd_GdnSeqFwdIdeal : Prop :=
  True

def preserves_MixPrep_MixPrepIdeal : Prop :=
  True

def algebraic_MixPrepIdeal_MixPrepRefIdeal [hMixPrepIdeal : Cert.MixPrepIdeal.Facts] [hMixPrepRefIdeal : Cert.MixPrepRefIdeal.Facts] : Prop :=
  ∀ (m : (ℓ : Loc Cert.MixPrepIdeal.nD Cert.MixPrepIdeal.τ Cert.MixPrepIdeal.sig) → Buf (Elt Ideal) ℓ) (g : Dev Cert.MixPrepIdeal.nD → PrngReg)
    (m' : (ℓ : Loc Cert.MixPrepRefIdeal.nD Cert.MixPrepRefIdeal.τ Cert.MixPrepRefIdeal.sig) → Buf (Elt Ideal) ℓ) (g' : Dev Cert.MixPrepRefIdeal.nD → PrngReg), Pre_MixPrepIdeal m →
    (∀ c : Dev Cert.MixPrepIdeal.nD,
      m' ((c.tc : Thread Cert.MixPrepRefIdeal.nD Cert.MixPrepRefIdeal.τ).loc Cert.MixPrepRefIdeal.main_arg0) = m ((c.tc : Thread Cert.MixPrepIdeal.nD Cert.MixPrepIdeal.τ).loc Cert.MixPrepIdeal.main_arg0)
      ∧ m' ((c.tc : Thread Cert.MixPrepRefIdeal.nD Cert.MixPrepRefIdeal.τ).loc Cert.MixPrepRefIdeal.main_arg1) = m ((c.tc : Thread Cert.MixPrepIdeal.nD Cert.MixPrepIdeal.τ).loc Cert.MixPrepIdeal.main_arg1)
      ∧ m' ((c.tc : Thread Cert.MixPrepRefIdeal.nD Cert.MixPrepRefIdeal.τ).loc Cert.MixPrepRefIdeal.main_arg2) = m ((c.tc : Thread Cert.MixPrepIdeal.nD Cert.MixPrepIdeal.τ).loc Cert.MixPrepIdeal.main_arg2)
      ∧ m' ((c.tc : Thread Cert.MixPrepRefIdeal.nD Cert.MixPrepRefIdeal.τ).loc Cert.MixPrepRefIdeal.main_arg3) = m ((c.tc : Thread Cert.MixPrepIdeal.nD Cert.MixPrepIdeal.τ).loc Cert.MixPrepIdeal.main_arg3)
      ∧ m' ((c.tc : Thread Cert.MixPrepRefIdeal.nD Cert.MixPrepRefIdeal.τ).loc Cert.MixPrepRefIdeal.main_arg4) = m ((c.tc : Thread Cert.MixPrepIdeal.nD Cert.MixPrepIdeal.τ).loc Cert.MixPrepIdeal.main_arg4)
      ∧ m' ((c.tc : Thread Cert.MixPrepRefIdeal.nD Cert.MixPrepRefIdeal.τ).loc Cert.MixPrepRefIdeal.main_arg5) = m ((c.tc : Thread Cert.MixPrepIdeal.nD Cert.MixPrepIdeal.τ).loc Cert.MixPrepIdeal.main_arg5)
      ∧ m' ((c.tc : Thread Cert.MixPrepRefIdeal.nD Cert.MixPrepRefIdeal.τ).loc Cert.MixPrepRefIdeal.main_arg6) = m ((c.tc : Thread Cert.MixPrepIdeal.nD Cert.MixPrepIdeal.τ).loc Cert.MixPrepIdeal.main_arg6)
      ∧ m' ((c.tc : Thread Cert.MixPrepRefIdeal.nD Cert.MixPrepRefIdeal.τ).loc Cert.MixPrepRefIdeal.main_arg7) = m ((c.tc : Thread Cert.MixPrepIdeal.nD Cert.MixPrepIdeal.τ).loc Cert.MixPrepIdeal.main_arg7)
      ∧ m' ((c.tc : Thread Cert.MixPrepRefIdeal.nD Cert.MixPrepRefIdeal.τ).loc Cert.MixPrepRefIdeal.main_arg8) = m ((c.tc : Thread Cert.MixPrepIdeal.nD Cert.MixPrepIdeal.τ).loc Cert.MixPrepIdeal.main_arg8)
      ∧ m' ((c.tc : Thread Cert.MixPrepRefIdeal.nD Cert.MixPrepRefIdeal.τ).loc Cert.MixPrepRefIdeal.main_arg9) = m ((c.tc : Thread Cert.MixPrepIdeal.nD Cert.MixPrepIdeal.τ).loc Cert.MixPrepIdeal.main_arg9)) →
    ∃ (v0 : (c : Dev Cert.MixPrepIdeal.nD) → Buf (Elt Ideal) ((c.tc : Thread Cert.MixPrepIdeal.nD Cert.MixPrepIdeal.τ).loc Cert.MixPrepIdeal.main_v75_0)) (v1 : (c : Dev Cert.MixPrepIdeal.nD) → Buf (Elt Ideal) ((c.tc : Thread Cert.MixPrepIdeal.nD Cert.MixPrepIdeal.τ).loc Cert.MixPrepIdeal.main_v75_2)) (v2 : (c : Dev Cert.MixPrepIdeal.nD) → Buf (Elt Ideal) ((c.tc : Thread Cert.MixPrepIdeal.nD Cert.MixPrepIdeal.τ).loc Cert.MixPrepIdeal.main_v75_4)) (v3 : (c : Dev Cert.MixPrepIdeal.nD) → Buf (Elt Ideal) ((c.tc : Thread Cert.MixPrepIdeal.nD Cert.MixPrepIdeal.τ).loc Cert.MixPrepIdeal.main_v75_5)) (v4 : (c : Dev Cert.MixPrepIdeal.nD) → Buf (Elt Ideal) ((c.tc : Thread Cert.MixPrepIdeal.nD Cert.MixPrepIdeal.τ).loc Cert.MixPrepIdeal.main_v75_6)) (v5 : (c : Dev Cert.MixPrepIdeal.nD) → Buf (Elt Ideal) ((c.tc : Thread Cert.MixPrepIdeal.nD Cert.MixPrepIdeal.τ).loc Cert.MixPrepIdeal.main_v75_7)),
      θ_run (Cert.MixPrepIdeal.defs (F := Ideal)) (onTc (τ := Cert.MixPrepIdeal.τ) (Cert.MixPrepIdeal.main (F := Ideal))) ⟨m, fun _ => 0, g⟩ (fun r => ∀ c : Dev Cert.MixPrepIdeal.nD,
          r.2.mem ((c.tc : Thread Cert.MixPrepIdeal.nD Cert.MixPrepIdeal.τ).loc Cert.MixPrepIdeal.main_v75_0) = v0 c
          ∧ r.2.mem ((c.tc : Thread Cert.MixPrepIdeal.nD Cert.MixPrepIdeal.τ).loc Cert.MixPrepIdeal.main_v75_2) = v1 c
          ∧ r.2.mem ((c.tc : Thread Cert.MixPrepIdeal.nD Cert.MixPrepIdeal.τ).loc Cert.MixPrepIdeal.main_v75_4) = v2 c
          ∧ r.2.mem ((c.tc : Thread Cert.MixPrepIdeal.nD Cert.MixPrepIdeal.τ).loc Cert.MixPrepIdeal.main_v75_5) = v3 c
          ∧ r.2.mem ((c.tc : Thread Cert.MixPrepIdeal.nD Cert.MixPrepIdeal.τ).loc Cert.MixPrepIdeal.main_v75_6) = v4 c
          ∧ r.2.mem ((c.tc : Thread Cert.MixPrepIdeal.nD Cert.MixPrepIdeal.τ).loc Cert.MixPrepIdeal.main_v75_7) = v5 c
          ∧ r.2.mem ((c.tc : Thread Cert.MixPrepIdeal.nD Cert.MixPrepIdeal.τ).loc Cert.MixPrepIdeal.main_arg0) = m ((c.tc : Thread Cert.MixPrepIdeal.nD Cert.MixPrepIdeal.τ).loc Cert.MixPrepIdeal.main_arg0)
          ∧ r.2.mem ((c.tc : Thread Cert.MixPrepIdeal.nD Cert.MixPrepIdeal.τ).loc Cert.MixPrepIdeal.main_arg1) = m ((c.tc : Thread Cert.MixPrepIdeal.nD Cert.MixPrepIdeal.τ).loc Cert.MixPrepIdeal.main_arg1)
          ∧ r.2.mem ((c.tc : Thread Cert.MixPrepIdeal.nD Cert.MixPrepIdeal.τ).loc Cert.MixPrepIdeal.main_arg2) = m ((c.tc : Thread Cert.MixPrepIdeal.nD Cert.MixPrepIdeal.τ).loc Cert.MixPrepIdeal.main_arg2)
          ∧ r.2.mem ((c.tc : Thread Cert.MixPrepIdeal.nD Cert.MixPrepIdeal.τ).loc Cert.MixPrepIdeal.main_arg3) = m ((c.tc : Thread Cert.MixPrepIdeal.nD Cert.MixPrepIdeal.τ).loc Cert.MixPrepIdeal.main_arg3)
          ∧ r.2.mem ((c.tc : Thread Cert.MixPrepIdeal.nD Cert.MixPrepIdeal.τ).loc Cert.MixPrepIdeal.main_arg4) = m ((c.tc : Thread Cert.MixPrepIdeal.nD Cert.MixPrepIdeal.τ).loc Cert.MixPrepIdeal.main_arg4)
          ∧ r.2.mem ((c.tc : Thread Cert.MixPrepIdeal.nD Cert.MixPrepIdeal.τ).loc Cert.MixPrepIdeal.main_arg5) = m ((c.tc : Thread Cert.MixPrepIdeal.nD Cert.MixPrepIdeal.τ).loc Cert.MixPrepIdeal.main_arg5)
          ∧ r.2.mem ((c.tc : Thread Cert.MixPrepIdeal.nD Cert.MixPrepIdeal.τ).loc Cert.MixPrepIdeal.main_arg6) = m ((c.tc : Thread Cert.MixPrepIdeal.nD Cert.MixPrepIdeal.τ).loc Cert.MixPrepIdeal.main_arg6)
          ∧ r.2.mem ((c.tc : Thread Cert.MixPrepIdeal.nD Cert.MixPrepIdeal.τ).loc Cert.MixPrepIdeal.main_arg7) = m ((c.tc : Thread Cert.MixPrepIdeal.nD Cert.MixPrepIdeal.τ).loc Cert.MixPrepIdeal.main_arg7)
          ∧ r.2.mem ((c.tc : Thread Cert.MixPrepIdeal.nD Cert.MixPrepIdeal.τ).loc Cert.MixPrepIdeal.main_arg8) = m ((c.tc : Thread Cert.MixPrepIdeal.nD Cert.MixPrepIdeal.τ).loc Cert.MixPrepIdeal.main_arg8)
          ∧ r.2.mem ((c.tc : Thread Cert.MixPrepIdeal.nD Cert.MixPrepIdeal.τ).loc Cert.MixPrepIdeal.main_arg9) = m ((c.tc : Thread Cert.MixPrepIdeal.nD Cert.MixPrepIdeal.τ).loc Cert.MixPrepIdeal.main_arg9))
      ∧ θ_run (Cert.MixPrepRefIdeal.defs (F := Ideal)) (onTc (τ := Cert.MixPrepRefIdeal.τ) (Cert.MixPrepRefIdeal.main (F := Ideal))) ⟨m', fun _ => 0, g'⟩ (fun r => ∀ c : Dev Cert.MixPrepRefIdeal.nD,
          r.2.mem ((c.tc : Thread Cert.MixPrepRefIdeal.nD Cert.MixPrepRefIdeal.τ).loc Cert.MixPrepRefIdeal.main_v66) = v0 c
          ∧ r.2.mem ((c.tc : Thread Cert.MixPrepRefIdeal.nD Cert.MixPrepRefIdeal.τ).loc Cert.MixPrepRefIdeal.main_v68) = v1 c
          ∧ r.2.mem ((c.tc : Thread Cert.MixPrepRefIdeal.nD Cert.MixPrepRefIdeal.τ).loc Cert.MixPrepRefIdeal.main_v34) = v2 c
          ∧ r.2.mem ((c.tc : Thread Cert.MixPrepRefIdeal.nD Cert.MixPrepRefIdeal.τ).loc Cert.MixPrepRefIdeal.main_v45) = v3 c
          ∧ r.2.mem ((c.tc : Thread Cert.MixPrepRefIdeal.nD Cert.MixPrepRefIdeal.τ).loc Cert.MixPrepRefIdeal.main_v69) = v4 c
          ∧ r.2.mem ((c.tc : Thread Cert.MixPrepRefIdeal.nD Cert.MixPrepRefIdeal.τ).loc Cert.MixPrepRefIdeal.main_v64) = v5 c
          ∧ r.2.mem ((c.tc : Thread Cert.MixPrepRefIdeal.nD Cert.MixPrepRefIdeal.τ).loc Cert.MixPrepRefIdeal.main_arg0) = m' ((c.tc : Thread Cert.MixPrepRefIdeal.nD Cert.MixPrepRefIdeal.τ).loc Cert.MixPrepRefIdeal.main_arg0)
          ∧ r.2.mem ((c.tc : Thread Cert.MixPrepRefIdeal.nD Cert.MixPrepRefIdeal.τ).loc Cert.MixPrepRefIdeal.main_arg1) = m' ((c.tc : Thread Cert.MixPrepRefIdeal.nD Cert.MixPrepRefIdeal.τ).loc Cert.MixPrepRefIdeal.main_arg1)
          ∧ r.2.mem ((c.tc : Thread Cert.MixPrepRefIdeal.nD Cert.MixPrepRefIdeal.τ).loc Cert.MixPrepRefIdeal.main_arg2) = m' ((c.tc : Thread Cert.MixPrepRefIdeal.nD Cert.MixPrepRefIdeal.τ).loc Cert.MixPrepRefIdeal.main_arg2)
          ∧ r.2.mem ((c.tc : Thread Cert.MixPrepRefIdeal.nD Cert.MixPrepRefIdeal.τ).loc Cert.MixPrepRefIdeal.main_arg3) = m' ((c.tc : Thread Cert.MixPrepRefIdeal.nD Cert.MixPrepRefIdeal.τ).loc Cert.MixPrepRefIdeal.main_arg3)
          ∧ r.2.mem ((c.tc : Thread Cert.MixPrepRefIdeal.nD Cert.MixPrepRefIdeal.τ).loc Cert.MixPrepRefIdeal.main_arg4) = m' ((c.tc : Thread Cert.MixPrepRefIdeal.nD Cert.MixPrepRefIdeal.τ).loc Cert.MixPrepRefIdeal.main_arg4)
          ∧ r.2.mem ((c.tc : Thread Cert.MixPrepRefIdeal.nD Cert.MixPrepRefIdeal.τ).loc Cert.MixPrepRefIdeal.main_arg5) = m' ((c.tc : Thread Cert.MixPrepRefIdeal.nD Cert.MixPrepRefIdeal.τ).loc Cert.MixPrepRefIdeal.main_arg5)
          ∧ r.2.mem ((c.tc : Thread Cert.MixPrepRefIdeal.nD Cert.MixPrepRefIdeal.τ).loc Cert.MixPrepRefIdeal.main_arg6) = m' ((c.tc : Thread Cert.MixPrepRefIdeal.nD Cert.MixPrepRefIdeal.τ).loc Cert.MixPrepRefIdeal.main_arg6)
          ∧ r.2.mem ((c.tc : Thread Cert.MixPrepRefIdeal.nD Cert.MixPrepRefIdeal.τ).loc Cert.MixPrepRefIdeal.main_arg7) = m' ((c.tc : Thread Cert.MixPrepRefIdeal.nD Cert.MixPrepRefIdeal.τ).loc Cert.MixPrepRefIdeal.main_arg7)
          ∧ r.2.mem ((c.tc : Thread Cert.MixPrepRefIdeal.nD Cert.MixPrepRefIdeal.τ).loc Cert.MixPrepRefIdeal.main_arg8) = m' ((c.tc : Thread Cert.MixPrepRefIdeal.nD Cert.MixPrepRefIdeal.τ).loc Cert.MixPrepRefIdeal.main_arg8)
          ∧ r.2.mem ((c.tc : Thread Cert.MixPrepRefIdeal.nD Cert.MixPrepRefIdeal.τ).loc Cert.MixPrepRefIdeal.main_arg9) = m' ((c.tc : Thread Cert.MixPrepRefIdeal.nD Cert.MixPrepRefIdeal.τ).loc Cert.MixPrepRefIdeal.main_arg9))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_TokenProduct_TokenProductIdeal : Prop :=
  True

def algebraic_TokenProductIdeal_TokenProductRefIdeal [hTokenProductIdeal : Cert.TokenProductIdeal.Facts] [hTokenProductRefIdeal : Cert.TokenProductRefIdeal.Facts] : Prop :=
  ∀ (m : (ℓ : Loc Cert.TokenProductIdeal.nD Cert.TokenProductIdeal.τ Cert.TokenProductIdeal.sig) → Buf (Elt Ideal) ℓ) (g : Dev Cert.TokenProductIdeal.nD → PrngReg)
    (m' : (ℓ : Loc Cert.TokenProductRefIdeal.nD Cert.TokenProductRefIdeal.τ Cert.TokenProductRefIdeal.sig) → Buf (Elt Ideal) ℓ) (g' : Dev Cert.TokenProductRefIdeal.nD → PrngReg), Pre_TokenProductIdeal m →
    (∀ c : Dev Cert.TokenProductIdeal.nD,
      m' ((c.tc : Thread Cert.TokenProductRefIdeal.nD Cert.TokenProductRefIdeal.τ).loc Cert.TokenProductRefIdeal.main_arg0) = m ((c.tc : Thread Cert.TokenProductIdeal.nD Cert.TokenProductIdeal.τ).loc Cert.TokenProductIdeal.main_arg0)
      ∧ m' ((c.tc : Thread Cert.TokenProductRefIdeal.nD Cert.TokenProductRefIdeal.τ).loc Cert.TokenProductRefIdeal.main_arg1) = m ((c.tc : Thread Cert.TokenProductIdeal.nD Cert.TokenProductIdeal.τ).loc Cert.TokenProductIdeal.main_arg1)) →
    ∃ (v0 : (c : Dev Cert.TokenProductIdeal.nD) → Buf (Elt Ideal) ((c.tc : Thread Cert.TokenProductIdeal.nD Cert.TokenProductIdeal.τ).loc Cert.TokenProductIdeal.main_v0)),
      θ_run (Cert.TokenProductIdeal.defs (F := Ideal)) (onTc (τ := Cert.TokenProductIdeal.τ) (Cert.TokenProductIdeal.main (F := Ideal))) ⟨m, fun _ => 0, g⟩ (fun r => ∀ c : Dev Cert.TokenProductIdeal.nD,
          r.2.mem ((c.tc : Thread Cert.TokenProductIdeal.nD Cert.TokenProductIdeal.τ).loc Cert.TokenProductIdeal.main_v0) = v0 c
          ∧ r.2.mem ((c.tc : Thread Cert.TokenProductIdeal.nD Cert.TokenProductIdeal.τ).loc Cert.TokenProductIdeal.main_arg0) = m ((c.tc : Thread Cert.TokenProductIdeal.nD Cert.TokenProductIdeal.τ).loc Cert.TokenProductIdeal.main_arg0)
          ∧ r.2.mem ((c.tc : Thread Cert.TokenProductIdeal.nD Cert.TokenProductIdeal.τ).loc Cert.TokenProductIdeal.main_arg1) = m ((c.tc : Thread Cert.TokenProductIdeal.nD Cert.TokenProductIdeal.τ).loc Cert.TokenProductIdeal.main_arg1))
      ∧ θ_run (Cert.TokenProductRefIdeal.defs (F := Ideal)) (onTc (τ := Cert.TokenProductRefIdeal.τ) (Cert.TokenProductRefIdeal.main (F := Ideal))) ⟨m', fun _ => 0, g'⟩ (fun r => ∀ c : Dev Cert.TokenProductRefIdeal.nD,
          r.2.mem ((c.tc : Thread Cert.TokenProductRefIdeal.nD Cert.TokenProductRefIdeal.τ).loc Cert.TokenProductRefIdeal.main_v3) = v0 c
          ∧ r.2.mem ((c.tc : Thread Cert.TokenProductRefIdeal.nD Cert.TokenProductRefIdeal.τ).loc Cert.TokenProductRefIdeal.main_arg0) = m' ((c.tc : Thread Cert.TokenProductRefIdeal.nD Cert.TokenProductRefIdeal.τ).loc Cert.TokenProductRefIdeal.main_arg0)
          ∧ r.2.mem ((c.tc : Thread Cert.TokenProductRefIdeal.nD Cert.TokenProductRefIdeal.τ).loc Cert.TokenProductRefIdeal.main_arg1) = m' ((c.tc : Thread Cert.TokenProductRefIdeal.nD Cert.TokenProductRefIdeal.τ).loc Cert.TokenProductRefIdeal.main_arg1))

def preserves_SumChips_SumChipsIdeal : Prop :=
  True

def algebraic_SumChipsIdeal_SumChipsRefIdeal [hSumChipsIdeal : Cert.SumChipsIdeal.Facts] [hSumChipsRefIdeal : Cert.SumChipsRefIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsRefIdeal.nD Cert.SumChipsRefIdeal.τ Cert.SumChipsRefIdeal.sig) → Buf (Elt Ideal) ℓ) (g' : Dev Cert.SumChipsRefIdeal.nD → PrngReg), Pre_SumChipsIdeal m →
    (∀ c : Dev Cert.SumChipsIdeal.nD,
      m' ((c.tc : Thread Cert.SumChipsRefIdeal.nD Cert.SumChipsRefIdeal.τ).loc Cert.SumChipsRefIdeal.main_arg0) = m ((c.tc : Thread Cert.SumChipsIdeal.nD Cert.SumChipsIdeal.τ).loc Cert.SumChipsIdeal.main_arg0)) →
    ∃ (v0 : (c : Dev Cert.SumChipsIdeal.nD) → Buf (Elt Ideal) ((c.tc : Thread Cert.SumChipsIdeal.nD Cert.SumChipsIdeal.τ).loc Cert.SumChipsIdeal.main_v0)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v0) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ θ_run (Cert.SumChipsRefIdeal.defs (F := Ideal)) (onTc (τ := Cert.SumChipsRefIdeal.τ) (Cert.SumChipsRefIdeal.main (F := Ideal))) ⟨m', fun _ => 0, g'⟩ (fun r => ∀ c : Dev Cert.SumChipsRefIdeal.nD,
          r.2.mem ((c.tc : Thread Cert.SumChipsRefIdeal.nD Cert.SumChipsRefIdeal.τ).loc Cert.SumChipsRefIdeal.main_v1) = v0 c
          ∧ r.2.mem ((c.tc : Thread Cert.SumChipsRefIdeal.nD Cert.SumChipsRefIdeal.τ).loc Cert.SumChipsRefIdeal.main_arg0) = m' ((c.tc : Thread Cert.SumChipsRefIdeal.nD Cert.SumChipsRefIdeal.τ).loc Cert.SumChipsRefIdeal.main_arg0))

def preserves_GdnLocalFwd_GdnLocalFwdIdeal : Prop :=
  True

def Claim : Prop :=
  ∃ (hRgConvBwd : Cert.RgConvBwd.Facts) (hRgConvBwdIdeal : Cert.RgConvBwdIdeal.Facts) (hRgConvRefIdeal : Cert.RgConvRefIdeal.Facts) (hGdnConvBwd : Cert.GdnConvBwd.Facts) (hGdnConvBwdIdeal : Cert.GdnConvBwdIdeal.Facts) (hGdnConvRefIdeal : Cert.GdnConvRefIdeal.Facts) (hLossHead : Cert.LossHead.Facts) (hLossHeadIdeal : Cert.LossHeadIdeal.Facts) (hLossRefIdeal : Cert.LossRefIdeal.Facts) (hGdnPrepBwd : Cert.GdnPrepBwd.Facts) (hGdnPrepBwdIdeal : Cert.GdnPrepBwdIdeal.Facts) (hGdnPrepRefIdeal : Cert.GdnPrepRefIdeal.Facts) (hInProjBwd : Cert.InProjBwd.Facts) (hInProjBwdIdeal : Cert.InProjBwdIdeal.Facts) (hInProjRefIdeal : Cert.InProjRefIdeal.Facts) (hOutProjBwd : Cert.OutProjBwd.Facts) (hOutProjBwdIdeal : Cert.OutProjBwdIdeal.Facts) (hOutProjRefIdeal : Cert.OutProjRefIdeal.Facts) (hFfnInBwd : Cert.FfnInBwd.Facts) (hFfnInBwdIdeal : Cert.FfnInBwdIdeal.Facts) (hFfnInRefIdeal : Cert.FfnInRefIdeal.Facts) (hFfnHiddenBwd : Cert.FfnHiddenBwd.Facts) (hFfnHiddenBwdIdeal : Cert.FfnHiddenBwdIdeal.Facts) (hFfnHiddenRefIdeal : Cert.FfnHiddenRefIdeal.Facts) (hRgGatesBwd : Cert.RgGatesBwd.Facts) (hRgGatesBwdIdeal : Cert.RgGatesBwdIdeal.Facts) (hRgConvFwd : Cert.RgConvFwd.Facts) (hRgConvFwdIdeal : Cert.RgConvFwdIdeal.Facts) (hRgConvFwdRefIdeal : Cert.RgConvFwdRefIdeal.Facts) (hGdnConvFwd : Cert.GdnConvFwd.Facts) (hGdnConvFwdIdeal : Cert.GdnConvFwdIdeal.Facts) (hGdnConvFwdRefIdeal : Cert.GdnConvFwdRefIdeal.Facts) (hInProjFwd : Cert.InProjFwd.Facts) (hInProjFwdIdeal : Cert.InProjFwdIdeal.Facts) (hInProjFwdRefIdeal : Cert.InProjFwdRefIdeal.Facts) (hFfnFwd : Cert.FfnFwd.Facts) (hFfnFwdIdeal : Cert.FfnFwdIdeal.Facts) (hFfnFwdRefIdeal : Cert.FfnFwdRefIdeal.Facts) (hOutProjFwd : Cert.OutProjFwd.Facts) (hOutProjFwdIdeal : Cert.OutProjFwdIdeal.Facts) (hOutProjFwdRefIdeal : Cert.OutProjFwdRefIdeal.Facts) (hGdnSeqFwd : Cert.GdnSeqFwd.Facts) (hGdnSeqFwdIdeal : Cert.GdnSeqFwdIdeal.Facts) (hMixPrep : Cert.MixPrep.Facts) (hMixPrepIdeal : Cert.MixPrepIdeal.Facts) (hMixPrepRefIdeal : Cert.MixPrepRefIdeal.Facts) (hAdamw : Cert.Adamw.Facts) (hAdamwIdeal : Cert.AdamwIdeal.Facts) (hAdamwRefIdeal : Cert.AdamwRefIdeal.Facts) (hTokenProduct : Cert.TokenProduct.Facts) (hTokenProductIdeal : Cert.TokenProductIdeal.Facts) (hTokenProductRefIdeal : Cert.TokenProductRefIdeal.Facts) (hSumChips : Cert.SumChips.Facts) (hSumChipsIdeal : Cert.SumChipsIdeal.Facts) (hSumChipsRefIdeal : Cert.SumChipsRefIdeal.Facts) (hGdnLocalFwd : Cert.GdnLocalFwd.Facts) (hGdnLocalFwdIdeal : Cert.GdnLocalFwdIdeal.Facts) (hPre_loss_finite : Cert.Pre_loss_finite.Facts) (hPre_gdn_prep_finite : Cert.Pre_gdn_prep_finite.Facts) (hPre_in_proj_finite : Cert.Pre_in_proj_finite.Facts) (hPre_out_proj_finite : Cert.Pre_out_proj_finite.Facts) (hPre_ffn_in_finite : Cert.Pre_ffn_in_finite.Facts) (hPre_ffn_hidden_finite : Cert.Pre_ffn_hidden_finite.Facts),
    quiescent_RgConvBwd (hRgConvBwd := hRgConvBwd)
    ∧ quiescent_RgConvBwdIdeal (hRgConvBwdIdeal := hRgConvBwdIdeal)
    ∧ quiescent_RgConvRefIdeal (hRgConvRefIdeal := hRgConvRefIdeal)
    ∧ quiescent_GdnConvBwd (hGdnConvBwd := hGdnConvBwd)
    ∧ quiescent_GdnConvBwdIdeal (hGdnConvBwdIdeal := hGdnConvBwdIdeal)
    ∧ quiescent_GdnConvRefIdeal (hGdnConvRefIdeal := hGdnConvRefIdeal)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_GdnPrepBwd (hGdnPrepBwd := hGdnPrepBwd)
    ∧ quiescent_GdnPrepBwdIdeal (hGdnPrepBwdIdeal := hGdnPrepBwdIdeal)
    ∧ quiescent_GdnPrepBwdIdeal_pre_gdn_prep_finite (hGdnPrepBwdIdeal := hGdnPrepBwdIdeal) (hPre_gdn_prep_finite := hPre_gdn_prep_finite)
    ∧ quiescent_GdnPrepRefIdeal (hGdnPrepRefIdeal := hGdnPrepRefIdeal)
    ∧ quiescent_GdnPrepRefIdeal_pre_gdn_prep_finite (hGdnPrepRefIdeal := hGdnPrepRefIdeal) (hPre_gdn_prep_finite := hPre_gdn_prep_finite)
    ∧ quiescent_InProjBwd (hInProjBwd := hInProjBwd)
    ∧ quiescent_InProjBwdIdeal (hInProjBwdIdeal := hInProjBwdIdeal)
    ∧ quiescent_InProjBwdIdeal_pre_in_proj_finite (hInProjBwdIdeal := hInProjBwdIdeal) (hPre_in_proj_finite := hPre_in_proj_finite)
    ∧ quiescent_InProjRefIdeal (hInProjRefIdeal := hInProjRefIdeal)
    ∧ quiescent_InProjRefIdeal_pre_in_proj_finite (hInProjRefIdeal := hInProjRefIdeal) (hPre_in_proj_finite := hPre_in_proj_finite)
    ∧ quiescent_OutProjBwd (hOutProjBwd := hOutProjBwd)
    ∧ quiescent_OutProjBwdIdeal (hOutProjBwdIdeal := hOutProjBwdIdeal)
    ∧ quiescent_OutProjBwdIdeal_pre_out_proj_finite (hOutProjBwdIdeal := hOutProjBwdIdeal) (hPre_out_proj_finite := hPre_out_proj_finite)
    ∧ quiescent_OutProjRefIdeal (hOutProjRefIdeal := hOutProjRefIdeal)
    ∧ quiescent_OutProjRefIdeal_pre_out_proj_finite (hOutProjRefIdeal := hOutProjRefIdeal) (hPre_out_proj_finite := hPre_out_proj_finite)
    ∧ quiescent_FfnInBwd (hFfnInBwd := hFfnInBwd)
    ∧ quiescent_FfnInBwdIdeal (hFfnInBwdIdeal := hFfnInBwdIdeal)
    ∧ quiescent_FfnInBwdIdeal_pre_ffn_in_finite (hFfnInBwdIdeal := hFfnInBwdIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_FfnHiddenBwd (hFfnHiddenBwd := hFfnHiddenBwd)
    ∧ quiescent_FfnHiddenBwdIdeal (hFfnHiddenBwdIdeal := hFfnHiddenBwdIdeal)
    ∧ quiescent_FfnHiddenBwdIdeal_pre_ffn_hidden_finite (hFfnHiddenBwdIdeal := hFfnHiddenBwdIdeal) (hPre_ffn_hidden_finite := hPre_ffn_hidden_finite)
    ∧ quiescent_FfnHiddenRefIdeal (hFfnHiddenRefIdeal := hFfnHiddenRefIdeal)
    ∧ quiescent_FfnHiddenRefIdeal_pre_ffn_hidden_finite (hFfnHiddenRefIdeal := hFfnHiddenRefIdeal) (hPre_ffn_hidden_finite := hPre_ffn_hidden_finite)
    ∧ quiescent_RgGatesBwd (hRgGatesBwd := hRgGatesBwd)
    ∧ quiescent_RgGatesBwdIdeal (hRgGatesBwdIdeal := hRgGatesBwdIdeal)
    ∧ quiescent_RgConvFwd (hRgConvFwd := hRgConvFwd)
    ∧ quiescent_RgConvFwdIdeal (hRgConvFwdIdeal := hRgConvFwdIdeal)
    ∧ quiescent_RgConvFwdRefIdeal (hRgConvFwdRefIdeal := hRgConvFwdRefIdeal)
    ∧ quiescent_GdnConvFwd (hGdnConvFwd := hGdnConvFwd)
    ∧ quiescent_GdnConvFwdIdeal (hGdnConvFwdIdeal := hGdnConvFwdIdeal)
    ∧ quiescent_GdnConvFwdRefIdeal (hGdnConvFwdRefIdeal := hGdnConvFwdRefIdeal)
    ∧ quiescent_InProjFwd (hInProjFwd := hInProjFwd)
    ∧ quiescent_InProjFwdIdeal (hInProjFwdIdeal := hInProjFwdIdeal)
    ∧ quiescent_InProjFwdRefIdeal (hInProjFwdRefIdeal := hInProjFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_OutProjFwd (hOutProjFwd := hOutProjFwd)
    ∧ quiescent_OutProjFwdIdeal (hOutProjFwdIdeal := hOutProjFwdIdeal)
    ∧ quiescent_OutProjFwdRefIdeal (hOutProjFwdRefIdeal := hOutProjFwdRefIdeal)
    ∧ quiescent_GdnSeqFwd (hGdnSeqFwd := hGdnSeqFwd)
    ∧ quiescent_GdnSeqFwdIdeal (hGdnSeqFwdIdeal := hGdnSeqFwdIdeal)
    ∧ quiescent_MixPrep (hMixPrep := hMixPrep)
    ∧ quiescent_MixPrepIdeal (hMixPrepIdeal := hMixPrepIdeal)
    ∧ quiescent_MixPrepRefIdeal (hMixPrepRefIdeal := hMixPrepRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_TokenProduct (hTokenProduct := hTokenProduct)
    ∧ quiescent_TokenProductIdeal (hTokenProductIdeal := hTokenProductIdeal)
    ∧ quiescent_TokenProductRefIdeal (hTokenProductRefIdeal := hTokenProductRefIdeal)
    ∧ quiescent_SumChips (hSumChips := hSumChips)
    ∧ quiescent_SumChipsIdeal (hSumChipsIdeal := hSumChipsIdeal)
    ∧ quiescent_SumChipsRefIdeal (hSumChipsRefIdeal := hSumChipsRefIdeal)
    ∧ quiescent_GdnLocalFwd (hGdnLocalFwd := hGdnLocalFwd)
    ∧ quiescent_GdnLocalFwdIdeal (hGdnLocalFwdIdeal := hGdnLocalFwdIdeal)
    ∧ preserves_RgConvBwd_RgConvBwdIdeal
    ∧ algebraic_RgConvBwdIdeal_RgConvRefIdeal (hRgConvBwdIdeal := hRgConvBwdIdeal) (hRgConvRefIdeal := hRgConvRefIdeal)
    ∧ preserves_GdnConvBwd_GdnConvBwdIdeal
    ∧ algebraic_GdnConvBwdIdeal_GdnConvRefIdeal (hGdnConvBwdIdeal := hGdnConvBwdIdeal) (hGdnConvRefIdeal := hGdnConvRefIdeal)
    ∧ preserves_LossHead_LossHeadIdeal
    ∧ algebraic_LossHeadIdeal_LossRefIdeal_pre_loss_finite (hLossHeadIdeal := hLossHeadIdeal) (hLossRefIdeal := hLossRefIdeal) (hPre_loss_finite := hPre_loss_finite)
    ∧ preserves_GdnPrepBwd_GdnPrepBwdIdeal
    ∧ algebraic_GdnPrepBwdIdeal_GdnPrepRefIdeal_pre_gdn_prep_finite (hGdnPrepBwdIdeal := hGdnPrepBwdIdeal) (hGdnPrepRefIdeal := hGdnPrepRefIdeal) (hPre_gdn_prep_finite := hPre_gdn_prep_finite)
    ∧ preserves_InProjBwd_InProjBwdIdeal
    ∧ algebraic_InProjBwdIdeal_InProjRefIdeal_pre_in_proj_finite (hInProjBwdIdeal := hInProjBwdIdeal) (hInProjRefIdeal := hInProjRefIdeal) (hPre_in_proj_finite := hPre_in_proj_finite)
    ∧ preserves_OutProjBwd_OutProjBwdIdeal
    ∧ algebraic_OutProjBwdIdeal_OutProjRefIdeal_pre_out_proj_finite (hOutProjBwdIdeal := hOutProjBwdIdeal) (hOutProjRefIdeal := hOutProjRefIdeal) (hPre_out_proj_finite := hPre_out_proj_finite)
    ∧ preserves_FfnInBwd_FfnInBwdIdeal
    ∧ algebraic_FfnInBwdIdeal_FfnInRefIdeal_pre_ffn_in_finite (hFfnInBwdIdeal := hFfnInBwdIdeal) (hFfnInRefIdeal := hFfnInRefIdeal) (hPre_ffn_in_finite := hPre_ffn_in_finite)
    ∧ preserves_FfnHiddenBwd_FfnHiddenBwdIdeal
    ∧ algebraic_FfnHiddenBwdIdeal_FfnHiddenRefIdeal_pre_ffn_hidden_finite (hFfnHiddenBwdIdeal := hFfnHiddenBwdIdeal) (hFfnHiddenRefIdeal := hFfnHiddenRefIdeal) (hPre_ffn_hidden_finite := hPre_ffn_hidden_finite)
    ∧ preserves_RgGatesBwd_RgGatesBwdIdeal
    ∧ preserves_RgConvFwd_RgConvFwdIdeal
    ∧ algebraic_RgConvFwdIdeal_RgConvFwdRefIdeal (hRgConvFwdIdeal := hRgConvFwdIdeal) (hRgConvFwdRefIdeal := hRgConvFwdRefIdeal)
    ∧ preserves_GdnConvFwd_GdnConvFwdIdeal
    ∧ algebraic_GdnConvFwdIdeal_GdnConvFwdRefIdeal (hGdnConvFwdIdeal := hGdnConvFwdIdeal) (hGdnConvFwdRefIdeal := hGdnConvFwdRefIdeal)
    ∧ preserves_InProjFwd_InProjFwdIdeal
    ∧ algebraic_InProjFwdIdeal_InProjFwdRefIdeal (hInProjFwdIdeal := hInProjFwdIdeal) (hInProjFwdRefIdeal := hInProjFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_OutProjFwd_OutProjFwdIdeal
    ∧ algebraic_OutProjFwdIdeal_OutProjFwdRefIdeal (hOutProjFwdIdeal := hOutProjFwdIdeal) (hOutProjFwdRefIdeal := hOutProjFwdRefIdeal)
    ∧ preserves_GdnSeqFwd_GdnSeqFwdIdeal
    ∧ preserves_MixPrep_MixPrepIdeal
    ∧ algebraic_MixPrepIdeal_MixPrepRefIdeal (hMixPrepIdeal := hMixPrepIdeal) (hMixPrepRefIdeal := hMixPrepRefIdeal)
    ∧ preserves_Adamw_AdamwIdeal
    ∧ algebraic_AdamwIdeal_AdamwRefIdeal (hAdamwIdeal := hAdamwIdeal) (hAdamwRefIdeal := hAdamwRefIdeal)
    ∧ preserves_TokenProduct_TokenProductIdeal
    ∧ algebraic_TokenProductIdeal_TokenProductRefIdeal (hTokenProductIdeal := hTokenProductIdeal) (hTokenProductRefIdeal := hTokenProductRefIdeal)
    ∧ preserves_SumChips_SumChipsIdeal
    ∧ algebraic_SumChipsIdeal_SumChipsRefIdeal (hSumChipsIdeal := hSumChipsIdeal) (hSumChipsRefIdeal := hSumChipsRefIdeal)
    ∧ preserves_GdnLocalFwd_GdnLocalFwdIdeal
-- ==== Pre_ffn_hidden_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) : IVec S8192x1024 1 × IVec S1x1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_ffn_in_finite.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S8192x2816 : S_.BroadcastsInDim S8192x2816 (![] : Fin 0 → Fin S8192x2816.rank)

variable [Facts]

def fn_part1 {F : FTy → Type} [FloatOps F] (main_arg6 : FVec F S8192x2816 .f32) (main_v2 : IVec S8192x1024 1) (main_v5 : IVec S8192x1024 1) (main_v8 : IVec S1x1024 1) (main_v11 : IVec S1024x2816 1) (main_v14 : IVec S1024x2816 1) (main_v17 : IVec S8192x2816 1) : IVec S8192x1024 1 × IVec S8192x1024 1 × IVec S1x1024 1 × IVec S1024x2816 1 × IVec S1024x2816 1 × IVec S8192x2816 1 × IVec S8192x2816 1 :=
  let main_v18 : FVec F S8192x2816 .f32 := Host.absf main_arg6
  let main_cst_5 : FVec F S_ .f32 := constant S_ .f32 0x7F800000#32
  let main_v19 : FVec F S8192x2816 .f32 := broadcastInDim S8192x2816 ![] bcast_S_S8192x2816 main_cst_5
  let main_v20 : IVec S8192x2816 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S8192x2816 .f32) (main_arg6 : FVec F S8192x2816 .f32) : IVec S8192x1024 1 × IVec S8192x1024 1 × IVec S1x1024 1 × IVec S1024x2816 1 × IVec S1024x2816 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S8192x2816 .f32 := Host.absf main_arg5
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  fn_part1 (F := F) main_arg6 main_v2 main_v5 main_v8 main_v11 main_v14 main_v17
-- ==== Pre_gdn_prep_finite.lean ====
abbrev S8192x1536 : Shape := ⟨2, ![8192, 1536]⟩
abbrev S8192x16 : Shape := ⟨2, ![8192, 16]⟩
abbrev S2x4 : Shape := ⟨2, ![2, 4]⟩
abbrev S8192x512 : Shape := ⟨2, ![8192, 512]⟩
abbrev S_ : Shape := ⟨0, ![]⟩

class Facts : Prop where
  bcast_S_S8192x1536 : S_.BroadcastsInDim S8192x1536 (![] : Fin 0 → Fin S8192x1536.rank)
  bcast_S_S8192x16 : S_.BroadcastsInDim S8192x16 (![] : Fin 0 → Fin S8192x16.rank)
  bcast_S_S2x4 : S_.BroadcastsInDim S2x4 (![] : Fin 0 → Fin S2x4.rank)
  bcast_S_S8192x512 : S_.BroadcastsInDim S8192x512 (![] : Fin 0 → Fin S8192x512.rank)

variable [Facts]

def fn_part1 {F : FTy → Type} [FloatOps F] (main_arg6 : FVec F S8192x512 .f32) (main_arg7 : FVec F S8192x16 .f32) (main_v2 : IVec S8192x1536 1) (main_v5 : IVec S8192x16 1) (main_v8 : IVec S2x4 1) (main_v11 : IVec S2x4 1) (main_v14 : IVec S8192x512 1) (main_v17 : IVec S8192x512 1) : IVec S8192x1536 1 × IVec S8192x16 1 × IVec S2x4 1 × IVec S2x4 1 × IVec S8192x512 1 × IVec S8192x512 1 × IVec S8192x512 1 × IVec S8192x16 1 :=
  let main_v18 : FVec F S8192x512 .f32 := Host.absf main_arg6
  let main_cst_5 : FVec F S_ .f32 := constant S_ .f32 0x7F800000#32
  let main_v19 : FVec F S8192x512 .f32 := broadcastInDim S8192x512 ![] bcast_S_S8192x512 main_cst_5
  let main_v20 : IVec S8192x512 1 := cmpf .olt main_v18 main_v19
  let main_v21 : FVec F S8192x16 .f32 := Host.absf main_arg7
  let main_cst_6 : FVec F S_ .f32 := constant S_ .f32 0x7F800000#32
  let main_v22 : FVec F S8192x16 .f32 := broadcastInDim S8192x16 ![] bcast_S_S8192x16 main_cst_6
  let main_v23 : IVec S8192x16 1 := cmpf .olt main_v21 main_v22
  (main_v2, main_v5, main_v8, main_v11, main_v14, main_v17, main_v20, main_v23)

def fn {F : FTy → Type} [FloatOps F] (main_arg0 : FVec F S8192x1536 .f32) (main_arg1 : FVec F S8192x16 .f32) (main_arg2 : FVec F S2x4 .f32) (main_arg3 : FVec F S2x4 .f32) (main_arg4 : FVec F S8192x512 .f32) (main_arg5 : FVec F S8192x512 .f32) (main_arg6 : FVec F S8192x512 .f32) (main_arg7 : FVec F S8192x16 .f32) : IVec S8192x1536 1 × IVec S8192x16 1 × IVec S2x4 1 × IVec S2x4 1 × IVec S8192x512 1 × IVec S8192x512 1 × IVec S8192x512 1 × IVec S8192x16 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S8192x16 .f32 := Host.absf main_arg1
  let main_cst_0 : FVec F S_ .f32 := constant S_ .f32 0x7F800000#32
  let main_v4 : FVec F S8192x16 .f32 := broadcastInDim S8192x16 ![] bcast_S_S8192x16 main_cst_0
  let main_v5 : IVec S8192x16 1 := cmpf .olt main_v3 main_v4
  let main_v6 : FVec F S2x4 .f32 := Host.absf main_arg2
  let main_cst_1 : FVec F S_ .f32 := constant S_ .f32 0x7F800000#32
  let main_v7 : FVec F S2x4 .f32 := broadcastInDim S2x4 ![] bcast_S_S2x4 main_cst_1
  let main_v8 : IVec S2x4 1 := cmpf .olt main_v6 main_v7
  let main_v9 : FVec F S2x4 .f32 := Host.absf main_arg3
  let main_cst_2 : FVec F S_ .f32 := constant S_ .f32 0x7F800000#32
  let main_v10 : FVec F S2x4 .f32 := broadcastInDim S2x4 ![] bcast_S_S2x4 main_cst_2
  let main_v11 : IVec S2x4 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_v2 main_v5 main_v8 main_v11 main_v14 main_v17
-- ==== Pre_in_proj_finite.lean ====
abbrev S8192x1024 : Shape := ⟨2, ![8192, 1024]⟩
abbrev S1x1024 : Shape := ⟨2, ![1, 1024]⟩
abbrev S1024x3088 : Shape := ⟨2, ![1024, 3088]⟩
abbrev S8192x512 : Shape := ⟨2, ![8192, 512]⟩
abbrev S8192x1536 : Shape := ⟨2, ![8192, 1536]⟩
abbrev S8192x16 : Shape := ⟨2, ![8192, 16]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x3088 : S_.BroadcastsInDim S1024x3088 (![] : Fin 0 → Fin S1024x3088.rank)
  bcast_S_S8192x512 : S_.BroadcastsInDim S8192x512 (![] : Fin 0 → Fin S8192x512.rank)
  bcast_S_S8192x1536 : S_.BroadcastsInDim S8192x1536 (![] : Fin 0 → Fin S8192x1536.rank)
  bcast_S_S8192x16 : S_.BroadcastsInDim S8192x16 (![] : Fin 0 → Fin S8192x16.rank)

variable [Facts]

def fn_part1 {F : FTy → Type} [FloatOps F] (main_arg6 : FVec F S8192x1536 .f32) (main_arg7 : FVec F S8192x512 .f32) (main_arg8 : FVec F S8192x16 .f32) (main_v2 : IVec S8192x1024 1) (main_v5 : IVec S8192x1024 1) (main_v8 : IVec S1x1024 1) (main_v11 : IVec S1024x3088 1) (main_v14 : IVec S8192x512 1) (main_v17 : IVec S8192x512 1) : IVec S8192x1024 1 × IVec S8192x1024 1 × IVec S1x1024 1 × IVec S1024x3088 1 × IVec S8192x512 1 × IVec S8192x512 1 × IVec S8192x1536 1 × IVec S8192x512 1 × IVec S8192x16 1 :=
  let main_v18 : FVec F S8192x1536 .f32 := Host.absf main_arg6
  let main_cst_5 : FVec F S_ .f32 := constant S_ .f32 0x7F800000#32
  let main_v19 : FVec F S8192x1536 .f32 := broadcastInDim S8192x1536 ![] bcast_S_S8192x1536 main_cst_5
  let main_v20 : IVec S8192x1536 1 := cmpf .olt main_v18 main_v19
  let main_v21 : FVec F S8192x512 .f32 := Host.absf main_arg7
  let main_cst_6 : FVec F S_ .f32 := constant S_ .f32 0x7F800000#32
  let main_v22 : FVec F S8192x512 .f32 := broadcastInDim S8192x512 ![] bcast_S_S8192x512 main_cst_6
  let main_v23 : IVec S8192x512 1 := cmpf .olt main_v21 main_v22
  let main_v24 : FVec F S8192x16 .f32 := Host.absf main_arg8
  let main_cst_7 : FVec F S_ .f32 := constant S_ .f32 0x7F800000#32
  let main_v25 : FVec F S8192x16 .f32 := broadcastInDim S8192x16 ![] bcast_S_S8192x16 main_cst_7
  let main_v26 : IVec S8192x16 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x1024 .f32) (main_arg2 : FVec F S1x1024 .f32) (main_arg3 : FVec F S1024x3088 .f32) (main_arg4 : FVec F S8192x512 .f32) (main_arg5 : FVec F S8192x512 .f32) (main_arg6 : FVec F S8192x1536 .f32) (main_arg7 : FVec F S8192x512 .f32) (main_arg8 : FVec F S8192x16 .f32) : IVec S8192x1024 1 × IVec S8192x1024 1 × IVec S1x1024 1 × IVec S1024x3088 1 × IVec S8192x512 1 × IVec S8192x512 1 × IVec S8192x1536 1 × IVec S8192x512 1 × IVec S8192x16 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x3088 .f32 := Host.absf main_arg3
  let main_cst_2 : FVec F S_ .f32 := constant S_ .f32 0x7F800000#32
  let main_v10 : FVec F S1024x3088 .f32 := broadcastInDim S1024x3088 ![] bcast_S_S1024x3088 main_cst_2
  let main_v11 : IVec S1024x3088 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_v2 main_v5 main_v8 main_v11 main_v14 main_v17
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024 .f32) : IVec S8192x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_out_proj_finite.lean ====
abbrev S8192x1024 : Shape := ⟨2, ![8192, 1024]⟩
abbrev S8192x512 : Shape := ⟨2, ![8192, 512]⟩
abbrev S1x128 : Shape := ⟨2, ![1, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1x128 : S_.BroadcastsInDim S1x128 (![] : Fin 0 → Fin S1x128.rank)
  bcast_S_S1024x1024 : S_.BroadcastsInDim S1024x1024 (![] : Fin 0 → Fin S1024x1024.rank)

variable [Facts]

def fn_part1 {F : FTy → Type} [FloatOps F] (main_arg6 : FVec F S8192x512 .f32) (main_arg7 : FVec F S1x128 .f32) (main_arg8 : FVec F S1024x1024 .f32) (main_v2 : IVec S8192x1024 1) (main_v5 : IVec S8192x512 1) (main_v8 : IVec S8192x512 1) (main_v11 : IVec S8192x512 1) (main_v14 : IVec S8192x512 1) (main_v17 : IVec S8192x512 1) : IVec S8192x1024 1 × IVec S8192x512 1 × IVec S8192x512 1 × IVec S8192x512 1 × IVec S8192x512 1 × IVec S8192x512 1 × IVec S8192x512 1 × IVec S1x128 1 × IVec S1024x1024 1 :=
  let main_v18 : FVec F S8192x512 .f32 := Host.absf main_arg6
  let main_cst_5 : FVec F S_ .f32 := constant S_ .f32 0x7F800000#32
  let main_v19 : FVec F S8192x512 .f32 := broadcastInDim S8192x512 ![] bcast_S_S8192x512 main_cst_5
  let main_v20 : IVec S8192x512 1 := cmpf .olt main_v18 main_v19
  let main_v21 : FVec F S1x128 .f32 := Host.absf main_arg7
  let main_cst_6 : FVec F S_ .f32 := constant S_ .f32 0x7F800000#32
  let main_v22 : FVec F S1x128 .f32 := broadcastInDim S1x128 ![] bcast_S_S1x128 main_cst_6
  let main_v23 : IVec S1x128 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S8192x512 .f32) (main_arg7 : FVec F S1x128 .f32) (main_arg8 : FVec F S1024x1024 .f32) : IVec S8192x1024 1 × IVec S8192x512 1 × IVec S8192x512 1 × IVec S8192x512 1 × IVec S8192x512 1 × IVec S8192x512 1 × IVec S8192x512 1 × IVec S1x128 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_v2 main_v5 main_v8 main_v11 main_v14 main_v17
-- ==== RgConvBwd.lean ====
abbrev S8192x512 : Shape := ⟨2, ![8192, 512]⟩
abbrev S4x512 : Shape := ⟨2, ![4, 512]⟩
abbrev S_ : Shape := ⟨0, ![]⟩
abbrev S8x512 : Shape := ⟨2, ![8, 512]⟩
abbrev S1x512 : Shape := ⟨2, ![1, 512]⟩
abbrev S512x512 : Shape := ⟨2, ![512, 512]⟩
abbrev S528x512 : Shape := ⟨2, ![528, 512]⟩
abbrev S512 : Shape := ⟨1, ![512]⟩

abbrev nBuf : Space → Nat
  | .hbm => 9
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S4x512, .f32⟩
  | .hbm, ⟨2, _⟩ => ⟨S8192x512, .f32⟩
  | .hbm, ⟨3, _⟩ => ⟨S_, .i32⟩
  | .hbm, ⟨4, _⟩ => ⟨S_, .f32⟩
  | .hbm, ⟨5, _⟩ => ⟨S8x512, .f32⟩
  | .hbm, ⟨6, _⟩ => ⟨S8192x512, .bf16⟩
  | .hbm, ⟨7, _⟩ => ⟨S8x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S512x512, .bf16⟩
  | .local _ .vmem, ⟨10, _⟩ => ⟨S512x512, .bf16⟩
  | .local _ .vmem, ⟨11, _⟩ => ⟨S8x512, .f32⟩
  | .local _ .vmem, ⟨12, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RgConvRefIdeal.lean ====
abbrev S8192x512 : Shape := ⟨2, ![8192, 512]⟩
abbrev S4x512 : Shape := ⟨2, ![4, 512]⟩
abbrev S_ : Shape := ⟨0, ![]⟩
abbrev S1x512 : Shape := ⟨2, ![1, 512]⟩
abbrev S2x512 : Shape := ⟨2, ![2, 512]⟩
abbrev S8195x512 : Shape := ⟨2, ![8195, 512]⟩
abbrev S512 : Shape := ⟨1, ![512]⟩
abbrev S8x512 : Shape := ⟨2, ![8, 512]⟩

abbrev nBuf : Space → Nat
  | .hbm => 115
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x512, .f32⟩
  | .hbm, ⟨2, _⟩ => ⟨S8192x512, .f32⟩
  | .hbm, ⟨3, _⟩ => ⟨S_, .f32⟩
  | .hbm, ⟨4, _⟩ => ⟨S1x512, .f32⟩
  | .hbm, ⟨5, _⟩ => ⟨S_, .f32⟩
  | .hbm, ⟨6, _⟩ => ⟨S2x512, .f32⟩
  | .hbm, ⟨7, _⟩ => ⟨S_, .f32⟩
  | .hbm, ⟨8, _⟩ => ⟨S1x512, .f32⟩
  | .hbm, ⟨9, _⟩ => ⟨S8195x512, .f32⟩
  | .hbm, ⟨10, _⟩ => ⟨S_, .f32⟩
  | .hbm, ⟨11, _⟩ => ⟨S2x512, .f32⟩
  | .hbm, ⟨12, _⟩ => ⟨S_, .f32⟩
  | .hbm, ⟨13, _⟩ => ⟨S1x512, .f32⟩
  | .hbm, ⟨14, _⟩ => ⟨S8192x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S8192x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S_, .f32⟩
  | .hbm, ⟨60, _⟩ => ⟨S4x512, .f32⟩
  | .hbm, ⟨61, _⟩ => ⟨S_, .f32⟩
  | .hbm, ⟨62, _⟩ => ⟨S8195x512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S4x512, .f32⟩
  | .hbm, ⟨74, _⟩ => ⟨S4x512, .f32⟩
  | .hbm, ⟨75, _⟩ => ⟨S_, .f32⟩
  | .hbm, ⟨76, _⟩ => ⟨S8195x512, .f32⟩
  | .hbm, ⟨77, _⟩ => ⟨S8195x512, .f32⟩
  | .hbm, ⟨78, _⟩ => ⟨S8192x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S512, .f32⟩
  | .hbm, ⟨86, _⟩ => ⟨S1x512, .f32⟩
  | .hbm, ⟨87, _⟩ => ⟨S_, .f32⟩
  | .hbm, ⟨88, _⟩ => ⟨S4x512, .f32⟩
  | .hbm, ⟨89, _⟩ => ⟨S4x512, .f32⟩
  | .hbm, ⟨90, _⟩ => ⟨S_, .f32⟩
  | .hbm, ⟨91, _⟩ => ⟨S8195x512, .f32⟩
  | .hbm, ⟨92, _⟩ => ⟨S8195x512, .f32⟩
  | .hbm, ⟨93, _⟩ => ⟨S8192x512, .f32⟩
  | .hbm, ⟨94, _⟩ => ⟨S_, .f32⟩
  | .hbm, ⟨95, _⟩ => ⟨S512, .f32⟩
  | .hbm, ⟨96, _⟩ => ⟨S1x512, .f32⟩
  | .hbm, ⟨97, _⟩ => ⟨S8192x512, .f32⟩
  | .hbm, ⟨98, _⟩ => ⟨S8192x512, .f32⟩
  | .hbm, ⟨99, _⟩ => ⟨S_, .f32⟩
  | .hbm, ⟨100, _⟩ => ⟨S512, .f32⟩
  | .hbm, ⟨101, _⟩ => ⟨S1x512, .f32⟩
  | .hbm, ⟨102, _⟩ => ⟨S_, .f32⟩
  | .hbm, ⟨103, _⟩ => ⟨S4x512, .f32⟩
  | .hbm, ⟨104, _⟩ => ⟨S4x512, .f32⟩
  | .hbm, ⟨105, _⟩ => ⟨S_, .f32⟩
  | .hbm, ⟨106, _⟩ => ⟨S8195x512, .f32⟩
  | .hbm, ⟨107, _⟩ => ⟨S8195x512, .f32⟩
  | .hbm, ⟨108, _⟩ => ⟨S2x512, .f32⟩
  | .hbm, ⟨109, _⟩ => ⟨S8192x512, .f32⟩
  | .hbm, ⟨110, _⟩ => ⟨S1x512, .f32⟩
  | .hbm, ⟨111, _⟩ => ⟨S8192x512, .bf16⟩
  | .hbm, ⟨112, _⟩ => ⟨S_, .i32⟩
  | .hbm, ⟨113, _⟩ => ⟨S_, .f32⟩
  | .hbm, ⟨114, _⟩ => ⟨S8x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_18 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_19 : Ref sig .tc := ⟨.hbm, 99, rfl⟩
abbrev main_v76 : Ref sig .tc := ⟨.hbm, 100, rfl⟩
abbrev main_v77 : Ref sig .tc := ⟨.hbm, 101, rfl⟩
abbrev main_cst_20 : Ref sig .tc := ⟨.hbm, 102, rfl⟩
abbrev main_v78 : Ref sig .tc := ⟨.hbm, 103, rfl⟩
abbrev main_v79 : Ref sig .tc := ⟨.hbm, 104, rfl⟩
abbrev main_cst_21 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c : Ref sig .tc := ⟨.hbm, 112, rfl⟩
abbrev main_call0_v0 : Ref sig .tc := ⟨.hbm, 113, rfl⟩
abbrev main_v86 : Ref sig .tc := ⟨.hbm, 114, rfl⟩

abbrev nD : Nat := 1
abbrev τ : Topo := Topo.v7x

variable {F : FTy → Type} [FloatOps F]
-- ==== GdnConvBwd.lean ====
abbrev S8192x1536 : Shape := ⟨2, ![8192, 1536]⟩
abbrev S4x1536 : Shape := ⟨2, ![4, 1536]⟩
abbrev S_ : Shape := ⟨0, ![]⟩
abbrev S8x1536 : Shape := ⟨2, ![8, 1536]⟩
abbrev S1x1536 : Shape := ⟨2, ![1, 1536]⟩
abbrev S512x1536 : Shape := ⟨2, ![512, 1536]⟩
abbrev S8x512 : Shape := ⟨2, ![8, 512]⟩
abbrev S512x512 : Shape := ⟨2, ![512, 512]⟩
abbrev S528x512 : Shape := ⟨2, ![528, 512]⟩
abbrev S1x512 : Shape := ⟨2, ![1, 512]⟩
abbrev S512 : Shape := ⟨1, ![512]⟩

abbrev nBuf : Space → Nat
  | .hbm => 9
  | .vmem => 13
  | .smem => 0
  | _ => 0

abbrev bufTy : (tb : Table) → Fin (tcTables nBuf tb) → BufTy
  | .hbm, ⟨0, _⟩ => ⟨S8192x1536, .f32⟩
  | .hbm, ⟨1, _⟩ => ⟨S4x1536, .f32⟩
  | .hbm, ⟨2, _⟩ => ⟨S8192x1536, .f32⟩
  | .hbm, ⟨3, _⟩ => ⟨S_, .i32⟩
  | .hbm, ⟨4, _⟩ => ⟨S_, .f32⟩
  | .hbm, ⟨5, _⟩ => ⟨S8x1536, .f32⟩
  | .hbm, ⟨6, _⟩ => ⟨S8192x1536, .bf16⟩
  | .hbm, ⟨7, _⟩ => ⟨S8x1536, .f32⟩
  | .hbm, ⟨8, _⟩ => ⟨S1x1536, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S8x1536, .f32⟩
  | .local _ .vmem, ⟨5, _⟩ => ⟨S8x1536, .f32⟩
  | .local _ .vmem, ⟨6, _⟩ => ⟨S8x1536, .f32⟩
  | .local _ .vmem, ⟨7, _⟩ => ⟨S8x1536, .f32⟩
  | .local _ .vmem, ⟨8, _⟩ => ⟨S8x1536, .f32⟩
  | .local _ .vmem, ⟨9, _⟩ => ⟨S512x1536, .bf16⟩
  | .local _ .vmem, ⟨10, _⟩ => ⟨S512x1536, .bf16⟩
  | .local _ .vmem, ⟨11, _⟩ => ⟨S8x1536, .f32⟩
  | .local _ .vmem, ⟨12, _⟩ => ⟨S1x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GdnConvRefIdeal.lean ====
abbrev S8192x1536 : Shape := ⟨2, ![8192, 1536]⟩
abbrev S4x1536 : Shape := ⟨2, ![4, 1536]⟩
abbrev S_ : Shape := ⟨0, ![]⟩
abbrev S2x1536 : Shape := ⟨2, ![2, 1536]⟩
abbrev S1x1536 : Shape := ⟨2, ![1, 1536]⟩
abbrev S8195x1536 : Shape := ⟨2, ![8195, 1536]⟩
abbrev S1536 : Shape := ⟨1, ![1536]⟩
abbrev S8x1536 : Shape := ⟨2, ![8, 1536]⟩

abbrev nBuf : Space → Nat
  | .hbm => 109
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S4x1536, .f32⟩
  | .hbm, ⟨2, _⟩ => ⟨S8192x1536, .f32⟩
  | .hbm, ⟨3, _⟩ => ⟨S_, .f32⟩
  | .hbm, ⟨4, _⟩ => ⟨S2x1536, .f32⟩
  | .hbm, ⟨5, _⟩ => ⟨S_, .f32⟩
  | .hbm, ⟨6, _⟩ => ⟨S1x1536, .f32⟩
  | .hbm, ⟨7, _⟩ => ⟨S8195x1536, .f32⟩
  | .hbm, ⟨8, _⟩ => ⟨S_, .f32⟩
  | .hbm, ⟨9, _⟩ => ⟨S2x1536, .f32⟩
  | .hbm, ⟨10, _⟩ => ⟨S_, .f32⟩
  | .hbm, ⟨11, _⟩ => ⟨S1x1536, .f32⟩
  | .hbm, ⟨12, _⟩ => ⟨S8192x1536, .f32⟩
  | .hbm, ⟨13, _⟩ => ⟨S1x1536, .f32⟩
  | .hbm, ⟨14, _⟩ => ⟨S1536, .f32⟩
  | .hbm, ⟨15, _⟩ => ⟨S1x1536, .f32⟩
  | .hbm, ⟨16, _⟩ => ⟨S8192x1536, .f32⟩
  | .hbm, ⟨17, _⟩ => ⟨S8192x1536, .f32⟩
  | .hbm, ⟨18, _⟩ => ⟨S_, .f32⟩
  | .hbm, ⟨19, _⟩ => ⟨S8192x1536, .f32⟩
  | .hbm, ⟨20, _⟩ => ⟨S8192x1536, .f32⟩
  | .hbm, ⟨21, _⟩ => ⟨S8192x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S8192x1536, .f32⟩
  | .hbm, ⟨26, _⟩ => ⟨S8192x1536, .f32⟩
  | .hbm, ⟨27, _⟩ => ⟨S8192x1536, .f32⟩
  | .hbm, ⟨28, _⟩ => ⟨S8192x1536, .f32⟩
  | .hbm, ⟨29, _⟩ => ⟨S1x1536, .f32⟩
  | .hbm, ⟨30, _⟩ => ⟨S1536, .f32⟩
  | .hbm, ⟨31, _⟩ => ⟨S1x1536, .f32⟩
  | .hbm, ⟨32, _⟩ => ⟨S8192x1536, .f32⟩
  | .hbm, ⟨33, _⟩ => ⟨S8192x1536, .f32⟩
  | .hbm, ⟨34, _⟩ => ⟨S8192x1536, .f32⟩
  | .hbm, ⟨35, _⟩ => ⟨S8192x1536, .f32⟩
  | .hbm, ⟨36, _⟩ => ⟨S1x1536, .f32⟩
  | .hbm, ⟨37, _⟩ => ⟨S1536, .f32⟩
  | .hbm, ⟨38, _⟩ => ⟨S1x1536, .f32⟩
  | .hbm, ⟨39, _⟩ => ⟨S8192x1536, .f32⟩
  | .hbm, ⟨40, _⟩ => ⟨S8192x1536, .f32⟩
  | .hbm, ⟨41, _⟩ => ⟨S8192x1536, .f32⟩
  | .hbm, ⟨42, _⟩ => ⟨S8192x1536, .f32⟩
  | .hbm, ⟨43, _⟩ => ⟨S8192x1536, .f32⟩
  | .hbm, ⟨44, _⟩ => ⟨S8192x1536, .f32⟩
  | .hbm, ⟨45, _⟩ => ⟨S_, .f32⟩
  | .hbm, ⟨46, _⟩ => ⟨S1536, .f32⟩
  | .hbm, ⟨47, _⟩ => ⟨S1x1536, .f32⟩
  | .hbm, ⟨48, _⟩ => ⟨S8192x1536, .f32⟩
  | .hbm, ⟨49, _⟩ => ⟨S8192x1536, .f32⟩
  | .hbm, ⟨50, _⟩ => ⟨S_, .f32⟩
  | .hbm, ⟨51, _⟩ => ⟨S1536, .f32⟩
  | .hbm, ⟨52, _⟩ => ⟨S1x1536, .f32⟩
  | .hbm, ⟨53, _⟩ => ⟨S_, .f32⟩
  | .hbm, ⟨54, _⟩ => ⟨S4x1536, .f32⟩
  | .hbm, ⟨55, _⟩ => ⟨S_, .f32⟩
  | .hbm, ⟨56, _⟩ => ⟨S8195x1536, .f32⟩
  | .hbm, ⟨57, _⟩ => ⟨S8192x1536, .f32⟩
  | .hbm, ⟨58, _⟩ => ⟨S_, .f32⟩
  | .hbm, ⟨59, _⟩ => ⟨S1536, .f32⟩
  | .hbm, ⟨60, _⟩ => ⟨S1x1536, .f32⟩
  | .hbm, ⟨61, _⟩ => ⟨S8192x1536, .f32⟩
  | .hbm, ⟨62, _⟩ => ⟨S8192x1536, .f32⟩
  | .hbm, ⟨63, _⟩ => ⟨S_, .f32⟩
  | .hbm, ⟨64, _⟩ => ⟨S1536, .f32⟩
  | .hbm, ⟨65, _⟩ => ⟨S1x1536, .f32⟩
  | .hbm, ⟨66, _⟩ => ⟨S_, .f32⟩
  | .hbm, ⟨67, _⟩ => ⟨S4x1536, .f32⟩
  | .hbm, ⟨68, _⟩ => ⟨S4x1536, .f32⟩
  | .hbm, ⟨69, _⟩ => ⟨S_, .f32⟩
  | .hbm, ⟨70, _⟩ => ⟨S8195x1536, .f32⟩
  | .hbm, ⟨71, _⟩ => ⟨S8195x1536, .f32⟩
  | .hbm, ⟨72, _⟩ => ⟨S8192x1536, .f32⟩
  | .hbm, ⟨73, _⟩ => ⟨S_, .f32⟩
  | .hbm, ⟨74, _⟩ => ⟨S1536, .f32⟩
  | .hbm, ⟨75, _⟩ => ⟨S1x1536, .f32⟩
  | .hbm, ⟨76, _⟩ => ⟨S8192x1536, .f32⟩
  | .hbm, ⟨77, _⟩ => ⟨S8192x1536, .f32⟩
  | .hbm, ⟨78, _⟩ => ⟨S_, .f32⟩
  | .hbm, ⟨79, _⟩ => ⟨S1536, .f32⟩
  | .hbm, ⟨80, _⟩ => ⟨S1x1536, .f32⟩
  | .hbm, ⟨81, _⟩ => ⟨S_, .f32⟩
  | .hbm, ⟨82, _⟩ => ⟨S4x1536, .f32⟩
  | .hbm, ⟨83, _⟩ => ⟨S4x1536, .f32⟩
  | .hbm, ⟨84, _⟩ => ⟨S_, .f32⟩
  | .hbm, ⟨85, _⟩ => ⟨S8195x1536, .f32⟩
  | .hbm, ⟨86, _⟩ => ⟨S8195x1536, .f32⟩
  | .hbm, ⟨87, _⟩ => ⟨S8192x1536, .f32⟩
  | .hbm, ⟨88, _⟩ => ⟨S_, .f32⟩
  | .hbm, ⟨89, _⟩ => ⟨S1536, .f32⟩
  | .hbm, ⟨90, _⟩ => ⟨S1x1536, .f32⟩
  | .hbm, ⟨91, _⟩ => ⟨S8192x1536, .f32⟩
  | .hbm, ⟨92, _⟩ => ⟨S8192x1536, .f32⟩
  | .hbm, ⟨93, _⟩ => ⟨S_, .f32⟩
  | .hbm, ⟨94, _⟩ => ⟨S1536, .f32⟩
  | .hbm, ⟨95, _⟩ => ⟨S1x1536, .f32⟩
  | .hbm, ⟨96, _⟩ => ⟨S_, .f32⟩
  | .hbm, ⟨97, _⟩ => ⟨S4x1536, .f32⟩
  | .hbm, ⟨98, _⟩ => ⟨S4x1536, .f32⟩
  | .hbm, ⟨99, _⟩ => ⟨S_, .f32⟩
  | .hbm, ⟨100, _⟩ => ⟨S8195x1536, .f32⟩
  | .hbm, ⟨101, _⟩ => ⟨S8195x1536, .f32⟩
  | .hbm, ⟨102, _⟩ => ⟨S2x1536, .f32⟩
  | .hbm, ⟨103, _⟩ => ⟨S8192x1536, .f32⟩
  | .hbm, ⟨104, _⟩ => ⟨S1x1536, .f32⟩
  | .hbm, ⟨105, _⟩ => ⟨S8192x1536, .bf16⟩
  | .hbm, ⟨106, _⟩ => ⟨S_, .i32⟩
  | .hbm, ⟨107, _⟩ => ⟨S_, .f32⟩
  | .hbm, ⟨108, _⟩ => ⟨S8x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_16 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_v73 : Ref sig .tc := ⟨.hbm, 95, rfl⟩
abbrev main_cst_18 : Ref sig .tc := ⟨.hbm, 96, rfl⟩
abbrev main_v74 : Ref sig .tc := ⟨.hbm, 97, rfl⟩
abbrev main_v75 : Ref sig .tc := ⟨.hbm, 98, rfl⟩
abbrev main_cst_19 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c : Ref sig .tc := ⟨.hbm, 106, rfl⟩
abbrev main_call0_v0 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S8x128, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x128, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S8192x1024, .bf16⟩
  | .hbm, ⟨75, _⟩ => ⟨S8x128, .f32⟩
  | .hbm, ⟨76, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== GdnPrepBwd.lean ====
abbrev S8192x1536 : Shape := ⟨2, ![8192, 1536]⟩
abbrev S8192x16 : Shape := ⟨2, ![8192, 16]⟩
abbrev S2x4 : Shape := ⟨2, ![2, 4]⟩
abbrev S8192x512 : Shape := ⟨2, ![8192, 512]⟩
abbrev S_ : Shape := ⟨0, ![]⟩
abbrev S8192x128 : Shape := ⟨2, ![8192, 128]⟩
abbrev S1x128 : Shape := ⟨2, ![1, 128]⟩
abbrev S8 : Shape := ⟨1, ![8]⟩
abbrev S1 : Shape := ⟨1, ![1]⟩
abbrev S2 : Shape := ⟨1, ![2]⟩
abbrev S512x1536 : Shape := ⟨2, ![512, 1536]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S128 : Shape := ⟨1, ![128]⟩

abbrev nBuf : Space → Nat
  | .hbm => 36
  | .vmem => 20
  | .smem => 0
  | _ => 0

abbrev bufTy : (tb : Table) → Fin (tcTables nBuf tb) → BufTy
  | .hbm, ⟨0, _⟩ => ⟨S8192x1536, .f32⟩
  | .hbm, ⟨1, _⟩ => ⟨S8192x16, .f32⟩
  | .hbm, ⟨2, _⟩ => ⟨S2x4, .f32⟩
  | .hbm, ⟨3, _⟩ => ⟨S2x4, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x16, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S_, .f32⟩
  | .hbm, ⟨12, _⟩ => ⟨S1x128, .f32⟩
  | .hbm, ⟨13, _⟩ => ⟨S8, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S8, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S_, .i32⟩
  | .hbm, ⟨30, _⟩ => ⟨S_, .f32⟩
  | .hbm, ⟨31, _⟩ => ⟨S8192x128, .f32⟩
  | .hbm, ⟨32, _⟩ => ⟨S8192x1536, .f32⟩
  | .hbm, ⟨33, _⟩ => ⟨S8192x128, .bf16⟩
  | .hbm, ⟨34, _⟩ => ⟨S1x128, .f32⟩
  | .hbm, ⟨35, _⟩ => ⟨S1x128, .f32⟩
  | .local _ .vmem, ⟨0, _⟩ => ⟨S512x1536, .f32⟩
  | .local _ .vmem, ⟨1, _⟩ => ⟨S512x1536, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x1536, .f32⟩
  | .local _ .vmem, ⟨15, _⟩ => ⟨S512x1536, .f32⟩
  | .local _ .vmem, ⟨16, _⟩ => ⟨S512x128, .bf16⟩
  | .local _ .vmem, ⟨17, _⟩ => ⟨S512x128, .bf16⟩
  | .local _ .vmem, ⟨18, _⟩ => ⟨S1x128, .f32⟩
  | .local _ .vmem, ⟨19, _⟩ => ⟨S1x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_call1_v0 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GdnPrepRefIdeal.lean ====
abbrev S8192x1536 : Shape := ⟨2, ![8192, 1536]⟩
abbrev S8192x16 : Shape := ⟨2, ![8192, 16]⟩
abbrev S2x4 : Shape := ⟨2, ![2, 4]⟩
abbrev S8192x512 : Shape := ⟨2, ![8192, 512]⟩
abbrev S8192x8 : Shape := ⟨2, ![8192, 8]⟩
abbrev S8192x2x4 : Shape := ⟨3, ![8192, 2, 4]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x2x4 : Shape := ⟨3, ![1, 2, 4]⟩
abbrev S8192x128 : Shape := ⟨2, ![8192, 128]⟩
abbrev S1x8 : Shape := ⟨2, ![1, 8]⟩
abbrev S1x128 : Shape := ⟨2, ![1, 128]⟩

abbrev nBuf : Space → Nat
  | .hbm => 216
  | .vmem => 0
  | .smem => 0
  | _ => 0

abbrev hbmTy0_0 (i : Nat) : BufTy := match i % 128 with
  | 0 => ⟨S8192x1536, .f32⟩
  | 1 => ⟨S8192x16, .f32⟩
  | 2 => ⟨S2x4, .f32⟩
  | 3 => ⟨S2x4, .f32⟩
  | 4 => ⟨S8192x512, .f32⟩
  | 5 => ⟨S8192x512, .f32⟩
  | 6 => ⟨S8192x512, .f32⟩
  | 7 => ⟨S8192x16, .f32⟩
  | 8 => ⟨S8192x8, .f32⟩
  | 9 => ⟨S8192x2x4, .f32⟩
  | 10 => ⟨S8192x8, .f32⟩
  | 11 => ⟨S8192x2x4, .f32⟩
  | 12 => ⟨S8192x1536, .f32⟩
  | 13 => ⟨S8192x1536, .f32⟩
  | 14 => ⟨S_, .f32⟩
  | 15 => ⟨S8192x1536, .f32⟩
  | 16 => ⟨S8192x1536, .f32⟩
  | 17 => ⟨S_, .f32⟩
  | 18 => ⟨S8192x1536, .f32⟩
  | 19 => ⟨S8192x1536, .f32⟩
  | 20 => ⟨S_, .f32⟩
  | 21 => ⟨S8192x1536, .f32⟩
  | 22 => ⟨S8192x1536, .f32⟩
  | 23 => ⟨S8192x1536, .f32⟩
  | 24 => ⟨S8192x1536, .f32⟩
  | 25 => ⟨S8192x512, .f32⟩
  | 26 => ⟨S8192x4x128, .f32⟩
  | 27 => ⟨S8192x4x128, .f32⟩
  | 28 => ⟨S_, .f32⟩
  | 29 => ⟨S8192x4, .f32⟩
  | 30 => ⟨S8192x4x1, .f32⟩
  | 31 => ⟨S_, .f32⟩
  | 32 => ⟨S8192x4x1, .f32⟩
  | 33 => ⟨S8192x4x1, .f32⟩
  | 34 => ⟨S8192x4x1, .f32⟩
  | 35 => ⟨S8192x4x1, .f32⟩
  | 36 => ⟨S_, .f32⟩
  | 37 => ⟨S8192x4x1, .f32⟩
  | 38 => ⟨S8192x4x1, .f32⟩
  | 39 => ⟨S8192x4x128, .f32⟩
  | 40 => ⟨S8192x4x128, .f32⟩
  | 41 => ⟨S_, .f32⟩
  | 42 => ⟨S8192x4x128, .f32⟩
  | 43 => ⟨S8192x4x128, .f32⟩
  | 44 => ⟨S8192x512, .f32⟩
  | 45 => ⟨S8192x4x128, .f32⟩
  | 46 => ⟨S8192x4x128, .f32⟩
  | 47 => ⟨S_, .f32⟩
  | 48 => ⟨S8192x4, .f32⟩
  | 49 => ⟨S8192x4x1, .f32⟩
  | 50 => ⟨S_, .f32⟩
  | 51 => ⟨S8192x4x1, .f32⟩
  | 52 => ⟨S8192x4x1, .f32⟩
  | 53 => ⟨S8192x4x1, .f32⟩
  | 54 => ⟨S8192x4x1, .f32⟩
  | 55 => ⟨S_, .f32⟩
  | 56 => ⟨S8192x4x1, .f32⟩
  | 57 => ⟨S8192x4x1, .f32⟩
  | 58 => ⟨S8192x4x128, .f32⟩
  | 59 => ⟨S8192x4x128, .f32⟩
  | 60 => ⟨S8192x512, .f32⟩
  | 61 => ⟨S8192x8, .f32⟩
  | 62 => ⟨S8192x2x4, .f32⟩
  | 63 => ⟨S8192x8, .f32⟩
  | 64 => ⟨S8192x2x4, .f32⟩
  | 65 => ⟨S8192x2x4, .f32⟩
  | 66 => ⟨S8192x2x4, .f32⟩
  | 67 => ⟨S_, .f32⟩
  | 68 => ⟨S8192x2x4, .f32⟩
  | 69 => ⟨S8192x2x4, .f32⟩
  | 70 => ⟨S_, .f32⟩
  | 71 => ⟨S8192x2x4, .f32⟩
  | 72 => ⟨S8192x2x4, .f32⟩
  | 73 => ⟨S_, .f32⟩
  | 74 => ⟨S8192x2x4, .f32⟩
  | 75 => ⟨S8192x2x4, .f32⟩
  | 76 => ⟨S8192x2x4, .f32⟩
  | 77 => ⟨S2x4, .f32⟩
  | 78 => ⟨S2x4, .f32⟩
  | 79 => ⟨S1x2x4, .f32⟩
  | 80 => ⟨S8192x2x4, .f32⟩
  | 81 => ⟨S8192x2x4, .f32⟩
  | 82 => ⟨S_, .f32⟩
  | 83 => ⟨S8192x2x4, .f32⟩
  | 84 => ⟨S8192x2x4, .f32⟩
  | 85 => ⟨S8192x2x4, .f32⟩
  | 86 => ⟨S8192x2x4, .f32⟩
  | 87 => ⟨S8192x2x4, .i1⟩
  | 88 => ⟨S8192x2x4, .f32⟩
  | 89 => ⟨S8192x2x4, .f32⟩
  | 90 => ⟨S8192x2x4, .f32⟩
  | 91 => ⟨S8192x2x4, .f32⟩
  | 92 => ⟨S8192x2x4, .f32⟩
  | 93 => ⟨S8192x2x4, .f32⟩
  | 94 => ⟨S8192x2x4, .f32⟩
  | 95 => ⟨S8192x2x4, .f32⟩
  | 96 => ⟨S_, .f32⟩
  | 97 => ⟨S8192x2x4, .f32⟩
  | 98 => ⟨S8192x2x4, .i1⟩
  | 99 => ⟨S_, .f32⟩
  | 100 => ⟨S8192x2x4, .f32⟩
  | 101 => ⟨S8192x2x4, .f32⟩
  | 102 => ⟨S_, .f32⟩
  | 103 => ⟨S8192x2x4, .f32⟩
  | 104 => ⟨S8192x2x4, .i1⟩
  | 105 => ⟨S_, .f32⟩
  | 106 => ⟨S8192x2x4, .f32⟩
  | 107 => ⟨S8192x2x4, .f32⟩
  | 108 => ⟨S8192x2x4, .f32⟩
  | 109 => ⟨S8192x2x4, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S8192x2x4, .f32⟩
  | 118 => ⟨S8192x2x4, .i1⟩
  | 119 => ⟨S_, .f32⟩
  | 120 => ⟨S8192x2x4, .f32⟩
  | 121 => ⟨S8192x2x4, .f32⟩
  | 122 => ⟨S8192x2x4, .f32⟩
  | 123 => ⟨S8192x2x4, .f32⟩
  | 124 => ⟨S8192x2x4, .f32⟩
  | 125 => ⟨S_, .f32⟩
  | 126 => ⟨S8192x2x4, .f32⟩
  | 127 => ⟨S8192x2x4, .f32⟩
  | _ => ⟨S8192x1536, .f32⟩

abbrev hbmTy0_1 (i : Nat) : BufTy := match i % 128 with
  | 0 => ⟨S1x2x4, .f32⟩
  | 1 => ⟨S8192x2x4, .f32⟩
  | 2 => ⟨S8192x2x4, .f32⟩
  | 3 => ⟨S8192x512, .f32⟩
  | 4 => ⟨S8192x512, .f32⟩
  | 5 => ⟨S8192x4x128, .f32⟩
  | 6 => ⟨S8192x4x128, .f32⟩
  | 7 => ⟨S8192x2x4, .f32⟩
  | 8 => ⟨S8192x2x4, .f32⟩
  | 9 => ⟨S8192x2x4, .f32⟩
  | 10 => ⟨S_, .f32⟩
  | 11 => ⟨S2x4, .f32⟩
  | 12 => ⟨S1x2x4, .f32⟩
  | 13 => ⟨S_, .f32⟩
  | 14 => ⟨S2x4, .f32⟩
  | 15 => ⟨S8192x2x4, .f32⟩
  | 16 => ⟨S_, .f32⟩
  | 17 => ⟨S2x4, .f32⟩
  | 18 => ⟨S1x2x4, .f32⟩
  | 19 => ⟨S_, .f32⟩
  | 20 => ⟨S2x4, .f32⟩
  | 21 => ⟨S2x4, .f32⟩
  | 22 => ⟨S2x4, .f32⟩
  | 23 => ⟨S8192x2x4, .f32⟩
  | 24 => ⟨S8192x8, .f32⟩
  | 25 => ⟨S_, .f32⟩
  | 26 => ⟨S8192x16, .f32⟩
  | 27 => ⟨S8192x8, .f32⟩
  | 28 => ⟨S_, .f32⟩
  | 29 => ⟨S8192x16, .f32⟩
  | 30 => ⟨S8192x16, .f32⟩
  | 31 => ⟨S_, .f32⟩
  | 32 => ⟨S8192x1536, .f32⟩
  | 33 => ⟨S8192x4x128, .f32⟩
  | 34 => ⟨S_, .f32⟩
  | 35 => ⟨S8192x4, .f32⟩
  | 36 => ⟨S8192x4x1, .f32⟩
  | 37 => ⟨S8192x4x128, .f32⟩
  | 38 => ⟨S8192x4x128, .f32⟩
  | 39 => ⟨S8192x4x1, .f32⟩
  | 40 => ⟨S_, .f32⟩
  | 41 => ⟨S8192x4, .f32⟩
  | 42 => ⟨S8192x4x128, .f32⟩
  | 43 => ⟨S8192x4x128, .f32⟩
  | 44 => ⟨S8192x4x128, .f32⟩
  | 45 => ⟨S8192x4x128, .f32⟩
  | 46 => ⟨S8192x4x128, .f32⟩
  | 47 => ⟨S8192x512, .f32⟩
  | 48 => ⟨S_, .f32⟩
  | 49 => ⟨S8192x1536, .f32⟩
  | 50 => ⟨S8192x1536, .f32⟩
  | 51 => ⟨S_, .f32⟩
  | 52 => ⟨S8192x4x128, .f32⟩
  | 53 => ⟨S8192x4x128, .f32⟩
  | 54 => ⟨S8192x4x128, .f32⟩
  | 55 => ⟨S_, .f32⟩
  | 56 => ⟨S8192x4, .f32⟩
  | 57 => ⟨S8192x4x1, .f32⟩
  | 58 => ⟨S8192x4x128, .f32⟩
  | 59 => ⟨S8192x4x128, .f32⟩
  | 60 => ⟨S8192x4x1, .f32⟩
  | 61 => ⟨S_, .f32⟩
  | 62 => ⟨S8192x4, .f32⟩
  | 63 => ⟨S8192x4x128, .f32⟩
  | 64 => ⟨S8192x4x128, .f32⟩
  | 65 => ⟨S8192x4x128, .f32⟩
  | 66 => ⟨S8192x4x128, .f32⟩
  | 67 => ⟨S8192x4x128, .f32⟩
  | 68 => ⟨S8192x512, .f32⟩
  | 69 => ⟨S_, .f32⟩
  | 70 => ⟨S8192x1536, .f32⟩
  | 71 => ⟨S8192x1536, .f32⟩
  | 72 => ⟨S8192x1536, .f32⟩
  | 73 => ⟨S8192x1536, .f32⟩
  | 74 => ⟨S8192x1536, .f32⟩
  | 75 => ⟨S8192x1536, .f32⟩
  | 76 => ⟨S_, .i32⟩
  | 77 => ⟨S_, .f32⟩
  | 78 => ⟨S8192x128, .f32⟩
  | 79 => ⟨S8192x128, .bf16⟩
  | 80 => ⟨S1x8, .f32⟩
  | 81 => ⟨S_, .i32⟩
  | 82 => ⟨S_, .f32⟩
  | 83 => ⟨S1x128, .f32⟩
  | 84 => ⟨S1x8, .f32⟩
  | 85 => ⟨S_, .i32⟩
  | 86 => ⟨S_, .f32⟩
  | 87 => ⟨S1x128, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v4_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v4_1 : Ref sig .tc := ⟨.hbm, 23, rfl⟩
abbrev main_v4_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_v52_0 : Ref sig .tc := ⟨.hbm, 95, rfl⟩
abbrev main_call1_cst_0 : Ref sig .tc := ⟨.hbm, 96, rfl⟩
abbrev main_call1_v13 : Ref sig .tc := ⟨.hbm, 97, rfl⟩
abbrev main_call1_v14 : Ref sig .tc := ⟨.hbm, 98, rfl⟩
abbrev main_call1_cst_1 : Ref sig .tc := ⟨.hbm, 99, rfl⟩
abbrev main_call1_v15 : Ref sig .tc := ⟨.hbm, 100, rfl⟩
abbrev main_call1_v16 : Ref sig .tc := ⟨.hbm, 101, rfl⟩
abbrev main_call1_cst_2 : Ref sig .tc := ⟨.hbm, 102, rfl⟩
abbrev main_call1_v17 : Ref sig .tc := ⟨.hbm, 103, rfl⟩
abbrev main_call1_v18 : Ref sig .tc := ⟨.hbm, 104, rfl⟩
abbrev main_call1_cst_3 : Ref sig .tc := ⟨.hbm, 105, rfl⟩
abbrev main_call1_v19 : Ref sig .tc := ⟨.hbm, 106, rfl⟩
abbrev main_call1_v20 : Ref sig .tc := ⟨.hbm, 107, rfl⟩
abbrev main_call1_v21 : Ref sig .tc := ⟨.hbm, 108, rfl⟩
abbrev main_v52_1 : Ref sig .tc := ⟨.hbm, 109, rfl⟩
abbrev main_call1_cst_4 : Ref sig .tc := ⟨.hbm, 110, rfl⟩
abbrev main_call1_cst_5 : Ref sig .tc := ⟨.hbm, 111, rfl⟩
abbrev main_call1_v23 : Ref sig .tc := ⟨.hbm, 112, rfl⟩
abbrev main_call1_cst_6 : Ref sig .tc := ⟨.hbm, 113, rfl⟩
abbrev main_call1_cst_7 : Ref sig .tc := ⟨.hbm, 114, rfl⟩
abbrev main_call1_v24 : Ref sig .tc := ⟨.hbm, 115, rfl⟩
abbrev main_call1_cst_8 : Ref sig .tc := ⟨.hbm, 116, rfl⟩
abbrev main_call1_v25 : Ref sig .tc := ⟨.hbm, 117, rfl⟩
abbrev main_call1_v26 : Ref sig .tc := ⟨.hbm, 118, rfl⟩
abbrev main_call1_cst_9 : Ref sig .tc := ⟨.hbm, 119, rfl⟩
abbrev main_call1_v27 : Ref sig .tc := ⟨.hbm, 120, rfl⟩
abbrev main_call1_v28 : Ref sig .tc := ⟨.hbm, 121, rfl⟩
abbrev main_call1_v29 : Ref sig .tc := ⟨.hbm, 122, rfl⟩
abbrev main_call1_v30 : Ref sig .tc := ⟨.hbm, 123, rfl⟩
abbrev main_call1_v31 : Ref sig .tc := ⟨.hbm, 124, rfl⟩
abbrev main_call1_cst_10 : Ref sig .tc := ⟨.hbm, 125, rfl⟩
abbrev main_call1_v32 : Ref sig .tc := ⟨.hbm, 126, rfl⟩
abbrev main_v52_2 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_cst_9 : Ref sig .tc := ⟨.hbm, 138, rfl⟩
abbrev main_v63 : Ref sig .tc := ⟨.hbm, 139, rfl⟩
abbrev main_v64 : Ref sig .tc := ⟨.hbm, 140, rfl⟩
abbrev main_cst_10 : Ref sig .tc := ⟨.hbm, 141, rfl⟩
abbrev main_v65 : Ref sig .tc := ⟨.hbm, 142, rfl⟩
abbrev main_v66 : Ref sig .tc := ⟨.hbm, 143, rfl⟩
abbrev main_cst_11 : Ref sig .tc := ⟨.hbm, 144, rfl⟩
abbrev main_v67 : Ref sig .tc := ⟨.hbm, 145, rfl⟩
abbrev main_v68 : Ref sig .tc := ⟨.hbm, 146, rfl⟩
abbrev main_cst_12 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_cst_13 : Ref sig .tc := ⟨.hbm, 153, rfl⟩
abbrev main_v74 : Ref sig .tc := ⟨.hbm, 154, rfl⟩
abbrev main_v75 : Ref sig .tc := ⟨.hbm, 155, rfl⟩
abbrev main_cst_14 : Ref sig .tc := ⟨.hbm, 156, rfl⟩
abbrev main_v76 : Ref sig .tc := ⟨.hbm, 157, rfl⟩
abbrev main_v77 : Ref sig .tc := ⟨.hbm, 158, rfl⟩
abbrev main_cst_15 : Ref sig .tc := ⟨.hbm, 159, rfl⟩
abbrev main_v78 : Ref sig .tc := ⟨.hbm, 160, rfl⟩
abbrev main_v79 : Ref sig .tc := ⟨.hbm, 161, rfl⟩
abbrev main_cst_16 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_cst_17 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_cst_18 : Ref sig .tc := ⟨.hbm, 176, rfl⟩
abbrev main_v92 : Ref sig .tc := ⟨.hbm, 177, rfl⟩
abbrev main_v93 : Ref sig .tc := ⟨.hbm, 178, rfl⟩
abbrev main_cst_19 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_cst_20 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_cst_21 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_cst_22 : Ref sig .tc := ⟨.hbm, 197, rfl⟩
abbrev main_v109 : Ref sig .tc := ⟨.hbm, 198, rfl⟩
abbrev main_v110 : Ref sig .tc := ⟨.hbm, 199, rfl⟩
abbrev main_call3_v0 : Ref sig .tc := ⟨.hbm, 200, rfl⟩
abbrev main_call3_v1 : Ref sig .tc := ⟨.hbm, 201, rfl⟩
abbrev main_call3_v2 : Ref sig .tc := ⟨.hbm, 202, rfl⟩
abbrev main_v111 : Ref sig .tc := ⟨.hbm, 203, rfl⟩
abbrev main_c : Ref sig .tc := ⟨.hbm, 204, rfl⟩
abbrev main_call4_v0 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_c_23 : Ref sig .tc := ⟨.hbm, 209, rfl⟩
abbrev main_call5_v0 : Ref sig .tc := ⟨.hbm, 210, rfl⟩
abbrev main_v115 : Ref sig .tc := ⟨.hbm, 211, rfl⟩
abbrev main_v116 : Ref sig .tc := ⟨.hbm, 212, rfl⟩
abbrev main_c_24 : Ref sig .tc := ⟨.hbm, 213, rfl⟩
abbrev main_call6_v0 : Ref sig .tc := ⟨.hbm, 214, rfl⟩
abbrev main_v117 : Ref sig .tc := ⟨.hbm, 215, rfl⟩

abbrev nD : Nat := 1
abbrev τ : Topo := Topo.v7x

variable {F : FTy → Type} [FloatOps F]
-- ==== InProjBwd.lean ====
abbrev S8192x1024 : Shape := ⟨2, ![8192, 1024]⟩
abbrev S1x1024 : Shape := ⟨2, ![1, 1024]⟩
abbrev S1024x3088 : Shape := ⟨2, ![1024, 3088]⟩
abbrev S8192x512 : Shape := ⟨2, ![8192, 512]⟩
abbrev S8192x1536 : Shape := ⟨2, ![8192, 1536]⟩
abbrev S8192x16 : Shape := ⟨2, ![8192, 16]⟩
abbrev S1024x512 : Shape := ⟨2, ![1024, 512]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S8192x128 : Shape := ⟨2, ![8192, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 29
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x3088, .f32⟩
  | .hbm, ⟨4, _⟩ => ⟨S8192x512, .f32⟩
  | .hbm, ⟨5, _⟩ => ⟨S8192x512, .f32⟩
  | .hbm, ⟨6, _⟩ => ⟨S8192x1536, .f32⟩
  | .hbm, ⟨7, _⟩ => ⟨S8192x512, .f32⟩
  | .hbm, ⟨8, _⟩ => ⟨S8192x16, .f32⟩
  | .hbm, ⟨9, _⟩ => ⟨S1024x3088, .bf16⟩
  | .hbm, ⟨10, _⟩ => ⟨S1024x512, .bf16⟩
  | .hbm, ⟨11, _⟩ => ⟨S1024x512, .bf16⟩
  | .hbm, ⟨12, _⟩ => ⟨S1024x1536, .bf16⟩
  | .hbm, ⟨13, _⟩ => ⟨S1024x512, .bf16⟩
  | .hbm, ⟨14, _⟩ => ⟨S1024x16, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S8192x512, .bf16⟩
  | .hbm, ⟨19, _⟩ => ⟨S8192x512, .bf16⟩
  | .hbm, ⟨20, _⟩ => ⟨S8192x1536, .bf16⟩
  | .hbm, ⟨21, _⟩ => ⟨S8192x512, .bf16⟩
  | .hbm, ⟨22, _⟩ => ⟨S_, .i32⟩
  | .hbm, ⟨23, _⟩ => ⟨S_, .f32⟩
  | .hbm, ⟨24, _⟩ => ⟨S8192x128, .f32⟩
  | .hbm, ⟨25, _⟩ => ⟨S8192x128, .bf16⟩
  | .hbm, ⟨26, _⟩ => ⟨S8192x1024, .f32⟩
  | .hbm, ⟨27, _⟩ => ⟨S8192x1024, .bf16⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1536, .bf16⟩
  | .local _ .vmem, ⟨10, _⟩ => ⟨S512x1536, .bf16⟩
  | .local _ .vmem, ⟨11, _⟩ => ⟨S512x512, .bf16⟩
  | .local _ .vmem, ⟨12, _⟩ => ⟨S512x512, .bf16⟩
  | .local _ .vmem, ⟨13, _⟩ => ⟨S512x128, .bf16⟩
  | .local _ .vmem, ⟨14, _⟩ => ⟨S512x128, .bf16⟩
  | .local _ .vmem, ⟨15, _⟩ => ⟨S1024x512, .bf16⟩
  | .local _ .vmem, ⟨16, _⟩ => ⟨S1024x512, .bf16⟩
  | .local _ .vmem, ⟨17, _⟩ => ⟨S1024x1536, .bf16⟩
  | .local _ .vmem, ⟨18, _⟩ => ⟨S1024x512, .bf16⟩
  | .local _ .vmem, ⟨19, _⟩ => ⟨S1024x128, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== InProjRefIdeal.lean ====
abbrev S8192x1024 : Shape := ⟨2, ![8192, 1024]⟩
abbrev S1x1024 : Shape := ⟨2, ![1, 1024]⟩
abbrev S1024x3088 : Shape := ⟨2, ![1024, 3088]⟩
abbrev S8192x512 : Shape := ⟨2, ![8192, 512]⟩
abbrev S8192x1536 : Shape := ⟨2, ![8192, 1536]⟩
abbrev S8192x16 : Shape := ⟨2, ![8192, 16]⟩
abbrev S8192x3088 : Shape := ⟨2, ![8192, 3088]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x3088, .f32⟩
  | .hbm, ⟨4, _⟩ => ⟨S8192x512, .f32⟩
  | .hbm, ⟨5, _⟩ => ⟨S8192x512, .f32⟩
  | .hbm, ⟨6, _⟩ => ⟨S8192x1536, .f32⟩
  | .hbm, ⟨7, _⟩ => ⟨S8192x512, .f32⟩
  | .hbm, ⟨8, _⟩ => ⟨S8192x16, .f32⟩
  | .hbm, ⟨9, _⟩ => ⟨S8192x3088, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x3088, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== OutProjBwd.lean ====
abbrev S8192x1024 : Shape := ⟨2, ![8192, 1024]⟩
abbrev S8192x512 : Shape := ⟨2, ![8192, 512]⟩
abbrev S1x128 : Shape := ⟨2, ![1, 128]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 16
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1x128, .f32⟩
  | .hbm, ⟨8, _⟩ => ⟨S1024x1024, .f32⟩
  | .hbm, ⟨9, _⟩ => ⟨S1024x1024, .bf16⟩
  | .hbm, ⟨10, _⟩ => ⟨S8192x512, .f32⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S1x128, .f32⟩
  | .hbm, ⟨15, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x128, .f32⟩
  | .local _ .vmem, ⟨15, _⟩ => ⟨S1024x1024, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S1x128, .f32⟩
  | .local _ .vmem, ⟨25, _⟩ => ⟨S512x1024, .bf16⟩
  | .local _ .vmem, ⟨26, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutProjBwdIdeal.lean ====
variable {F : FTy → Type} [FloatOps F] [Named F]
def κ : String → Option EReal := fun
  | "cube" => some ((8943 / 200000 : ℝ) : EReal)
  | "cube3" => some ((26829 / 200000 : ℝ) : EReal)
  | _ => none
-- ==== OutProjRefIdeal.lean ====
abbrev S8192x1024 : Shape := ⟨2, ![8192, 1024]⟩
abbrev S8192x512 : Shape := ⟨2, ![8192, 512]⟩
abbrev S1x128 : Shape := ⟨2, ![1, 128]⟩
abbrev S1024x1024 : Shape := ⟨2, ![1024, 1024]⟩
abbrev S_ : Shape := ⟨0, ![]⟩
abbrev S8192x4x128 : Shape := ⟨3, ![8192, 4, 128]⟩
abbrev S4x128 : Shape := ⟨2, ![4, 128]⟩
abbrev S8192x4 : Shape := ⟨2, ![8192, 4]⟩
abbrev S8192x4x1 : Shape := ⟨3, ![8192, 4, 1]⟩
abbrev S1x4x128 : Shape := ⟨3, ![1, 4, 128]⟩
abbrev S128 : Shape := ⟨1, ![128]⟩

abbrev nBuf : Space → Nat
  | .hbm => 148
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S1x128, .f32⟩
  | 8 => ⟨S1024x1024, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S8192x4x128, .f32⟩
  | 40 => ⟨S4x128, .f32⟩
  | 41 => ⟨S8192x4x128, .f32⟩
  | 42 => ⟨S_, .f32⟩
  | 43 => ⟨S8192x4, .f32⟩
  | 44 => ⟨S8192x4x1, .f32⟩
  | 45 => ⟨S_, .f32⟩
  | 46 => ⟨S8192x4x1, .f32⟩
  | 47 => ⟨S8192x4x1, .f32⟩
  | 48 => ⟨S_, .f32⟩
  | 49 => ⟨S8192x4x1, .f32⟩
  | 50 => ⟨S8192x4x1, .f32⟩
  | 51 => ⟨S8192x4x1, .f32⟩
  | 52 => ⟨S8192x4x1, .f32⟩
  | 53 => ⟨S_, .f32⟩
  | 54 => ⟨S8192x4x1, .f32⟩
  | 55 => ⟨S8192x4x1, .f32⟩
  | 56 => ⟨S8192x4x128, .f32⟩
  | 57 => ⟨S8192x4x128, .f32⟩
  | 58 => ⟨S1x4x128, .f32⟩
  | 59 => ⟨S8192x4x128, .f32⟩
  | 60 => ⟨S8192x4x128, .f32⟩
  | 61 => ⟨S8192x4x128, .f32⟩
  | 62 => ⟨S8192x4x128, .f32⟩
  | 63 => ⟨S8192x4x128, .f32⟩
  | 64 => ⟨S_, .f32⟩
  | 65 => ⟨S8192x4x128, .f32⟩
  | 66 => ⟨S8192x4x128, .f32⟩
  | 67 => ⟨S_, .f32⟩
  | 68 => ⟨S8192x4x128, .f32⟩
  | 69 => ⟨S8192x4x128, .f32⟩
  | 70 => ⟨S_, .f32⟩
  | 71 => ⟨S8192x4x128, .f32⟩
  | 72 => ⟨S8192x4x128, .f32⟩
  | 73 => ⟨S8192x4x128, .f32⟩
  | 74 => ⟨S8192x4x128, .f32⟩
  | 75 => ⟨S8192x4x128, .f32⟩
  | 76 => ⟨S8192x512, .f32⟩
  | 77 => ⟨S8192x1024, .f32⟩
  | 78 => ⟨S8192x1024, .f32⟩
  | 79 => ⟨S8192x1024, .f32⟩
  | 80 => ⟨S8192x512, .f32⟩
  | 81 => ⟨S8192x512, .f32⟩
  | 82 => ⟨S8192x4x128, .f32⟩
  | 83 => ⟨S8192x4x128, .f32⟩
  | 84 => ⟨S8192x4x128, .f32⟩
  | 85 => ⟨S8192x4x128, .f32⟩
  | 86 => ⟨S8192x4x128, .f32⟩
  | 87 => ⟨S8192x4x128, .f32⟩
  | 88 => ⟨S8192x4x128, .f32⟩
  | 89 => ⟨S8192x512, .f32⟩
  | 90 => ⟨S8192x4x128, .f32⟩
  | 91 => ⟨S_, .f32⟩
  | 92 => ⟨S4x128, .f32⟩
  | 93 => ⟨S1x4x128, .f32⟩
  | 94 => ⟨S8192x4x128, .f32⟩
  | 95 => ⟨S8192x4x128, .f32⟩
  | 96 => ⟨S_, .f32⟩
  | 97 => ⟨S4x128, .f32⟩
  | 98 => ⟨S8192x4x128, .f32⟩
  | 99 => ⟨S_, .f32⟩
  | 100 => ⟨S8192x4, .f32⟩
  | 101 => ⟨S8192x4x1, .f32⟩
  | 102 => ⟨S8192x4x128, .f32⟩
  | 103 => ⟨S8192x4x128, .f32⟩
  | 104 => ⟨S8192x4x1, .f32⟩
  | 105 => ⟨S_, .f32⟩
  | 106 => ⟨S8192x4x1, .f32⟩
  | 107 => ⟨S8192x4x1, .f32⟩
  | 108 => ⟨S_, .f32⟩
  | 109 => ⟨S8192x4, .f32⟩
  | 110 => ⟨S8192x4x128, .f32⟩
  | 111 => ⟨S8192x4x128, .f32⟩
  | 112 => ⟨S8192x4x128, .f32⟩
  | 113 => ⟨S8192x4x128, .f32⟩
  | 114 => ⟨S8192x4x128, .f32⟩
  | 115 => ⟨S_, .f32⟩
  | 116 => ⟨S128, .f32⟩
  | 117 => ⟨S1x128, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S8192x512, .f32⟩
  | 127 => ⟨S_, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S_, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S8192x512, .bf16⟩
  | 17 => ⟨S8192x512, .bf16⟩
  | 18 => ⟨S8192x512, .bf16⟩
  | 19 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v42_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v42_1 : Ref sig .tc := ⟨.hbm, 73, rfl⟩
abbrev main_v42_0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_11 : Ref sig .tc := ⟨.hbm, 96, rfl⟩
abbrev main_v60 : Ref sig .tc := ⟨.hbm, 97, rfl⟩
abbrev main_v61 : Ref sig .tc := ⟨.hbm, 98, rfl⟩
abbrev main_cst_12 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_13 : Ref sig .tc := ⟨.hbm, 105, rfl⟩
abbrev main_v67 : Ref sig .tc := ⟨.hbm, 106, rfl⟩
abbrev main_v68 : Ref sig .tc := ⟨.hbm, 107, rfl⟩
abbrev main_cst_14 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_15 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_16 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_17 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_18 : Ref sig .tc := ⟨.hbm, 131, rfl⟩
abbrev main_v88 : Ref sig .tc := ⟨.hbm, 132, rfl⟩
abbrev main_v89 : Ref sig .tc := ⟨.hbm, 133, rfl⟩
abbrev main_cst_19 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩

abbrev nD : Nat := 1
abbrev τ : Topo := Topo.v7x

variable {F : FTy → Type} [FloatOps F]
-- ==== FfnInBwd.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S1024x4x704 : Shape := ⟨3, ![1024, 4, 704]⟩
abbrev S4x1024x704 : Shape := ⟨3, ![4, 1024, 704]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 22
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x4x704, .f32⟩
  | .hbm, ⟨8, _⟩ => ⟨S4x8192x704, .f32⟩
  | .hbm, ⟨9, _⟩ => ⟨S4x8192x704, .bf16⟩
  | .hbm, ⟨10, _⟩ => ⟨S8192x4x704, .f32⟩
  | .hbm, ⟨11, _⟩ => ⟨S4x8192x704, .f32⟩
  | .hbm, ⟨12, _⟩ => ⟨S4x8192x704, .bf16⟩
  | .hbm, ⟨13, _⟩ => ⟨S1024x4x704, .f32⟩
  | .hbm, ⟨14, _⟩ => ⟨S4x1024x704, .f32⟩
  | .hbm, ⟨15, _⟩ => ⟨S4x1024x704, .bf16⟩
  | .hbm, ⟨16, _⟩ => ⟨S1024x4x704, .f32⟩
  | .hbm, ⟨17, _⟩ => ⟨S4x1024x704, .f32⟩
  | .hbm, ⟨18, _⟩ => ⟨S4x1024x704, .bf16⟩
  | .hbm, ⟨19, _⟩ => ⟨S8192x1024, .f32⟩
  | .hbm, ⟨20, _⟩ => ⟨S1x1024, .f32⟩
  | .hbm, ⟨21, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x1024x704, .bf16⟩
  | .local _ .vmem, ⟨10, _⟩ => ⟨S4x1024x704, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnInRefIdeal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== FfnHiddenBwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S512x1024 : Shape := ⟨2, ![512, 1024]⟩
abbrev S4x512x704 : Shape := ⟨3, ![4, 512, 704]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 58
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1024x2816, .bf16⟩
  | .hbm, ⟨23, _⟩ => ⟨S8192x2816, .f32⟩
  | .hbm, ⟨24, _⟩ => ⟨S1024x2816, .bf16⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x4x704, .f32⟩
  | .hbm, ⟨45, _⟩ => ⟨S4x8192x704, .f32⟩
  | .hbm, ⟨46, _⟩ => ⟨S4x8192x704, .bf16⟩
  | .hbm, ⟨47, _⟩ => ⟨S8192x4x704, .f32⟩
  | .hbm, ⟨48, _⟩ => ⟨S4x8192x704, .f32⟩
  | .hbm, ⟨49, _⟩ => ⟨S4x8192x704, .bf16⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S4x704x1024, .f32⟩
  | .hbm, ⟨55, _⟩ => ⟨S4x704x1024, .bf16⟩
  | .hbm, ⟨56, _⟩ => ⟨S4x8192x704, .bf16⟩
  | .hbm, ⟨57, _⟩ => ⟨S4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x704x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnHiddenRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x4x704, .f32⟩
  | .hbm, ⟨52, _⟩ => ⟨S4x8192x704, .f32⟩
  | .hbm, ⟨53, _⟩ => ⟨S4x8192x704, .bf16⟩
  | .hbm, ⟨54, _⟩ => ⟨S8192x4x704, .f32⟩
  | .hbm, ⟨55, _⟩ => ⟨S4x8192x704, .f32⟩
  | .hbm, ⟨56, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩

abbrev nD : Nat := 1
abbrev τ : Topo := Topo.v7x

variable {F : FTy → Type} [FloatOps F]
-- ==== RgGatesBwd.lean ====
abbrev S8192x512 : Shape := ⟨2, ![8192, 512]⟩
abbrev S512x2048 : Shape := ⟨2, ![512, 2048]⟩
abbrev S1x2048 : Shape := ⟨2, ![1, 2048]⟩
abbrev S1x1024 : Shape := ⟨2, ![1, 1024]⟩
abbrev S8192x2048 : Shape := ⟨2, ![8192, 2048]⟩
abbrev S512x512 : Shape := ⟨2, ![512, 512]⟩
abbrev S8x512 : Shape := ⟨2, ![8, 512]⟩
abbrev S528x512 : Shape := ⟨2, ![528, 512]⟩
abbrev S1x512 : Shape := ⟨2, ![1, 512]⟩
abbrev S512 : Shape := ⟨1, ![512]⟩
abbrev S2048 : Shape := ⟨1, ![2048]⟩

abbrev nBuf : Space → Nat
  | .hbm => 13
  | .vmem => 29
  | .smem => 0
  | _ => 0

abbrev bufTy : (tb : Table) → Fin (tcTables nBuf tb) → BufTy
  | .hbm, ⟨0, _⟩ => ⟨S8192x512, .f32⟩
  | .hbm, ⟨1, _⟩ => ⟨S512x2048, .bf16⟩
  | .hbm, ⟨2, _⟩ => ⟨S1x2048, .f32⟩
  | .hbm, ⟨3, _⟩ => ⟨S1x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x2048, .bf16⟩
  | .hbm, ⟨10, _⟩ => ⟨S8192x512, .bf16⟩
  | .hbm, ⟨11, _⟩ => ⟨S1x2048, .f32⟩
  | .hbm, ⟨12, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S1x2048, .f32⟩
  | .local _ .vmem, ⟨4, _⟩ => ⟨S1x1024, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S512x512, .f32⟩
  | .local _ .vmem, ⟨16, _⟩ => ⟨S512x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S512x512, .f32⟩
  | .local _ .vmem, ⟨22, _⟩ => ⟨S512x512, .f32⟩
  | .local _ .vmem, ⟨23, _⟩ => ⟨S512x2048, .bf16⟩
  | .local _ .vmem, ⟨24, _⟩ => ⟨S512x2048, .bf16⟩
  | .local _ .vmem, ⟨25, _⟩ => ⟨S512x512, .bf16⟩
  | .local _ .vmem, ⟨26, _⟩ => ⟨S512x512, .bf16⟩
  | .local _ .vmem, ⟨27, _⟩ => ⟨S1x2048, .f32⟩
  | .local _ .vmem, ⟨28, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== RgConvFwd.lean ====
abbrev S8192x512 : Shape := ⟨2, ![8192, 512]⟩
abbrev S4x512 : Shape := ⟨2, ![4, 512]⟩
abbrev S1x512 : Shape := ⟨2, ![1, 512]⟩
abbrev S_ : Shape := ⟨0, ![]⟩
abbrev S8x512 : Shape := ⟨2, ![8, 512]⟩
abbrev S512x512 : Shape := ⟨2, ![512, 512]⟩
abbrev S528x512 : Shape := ⟨2, ![528, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S4x512, .f32⟩
  | .hbm, ⟨2, _⟩ => ⟨S1x512, .f32⟩
  | .hbm, ⟨3, _⟩ => ⟨S_, .i32⟩
  | .hbm, ⟨4, _⟩ => ⟨S_, .f32⟩
  | .hbm, ⟨5, _⟩ => ⟨S8x512, .f32⟩
  | .hbm, ⟨6, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RgConvFwdRefIdeal.lean ====
abbrev S8192x512 : Shape := ⟨2, ![8192, 512]⟩
abbrev S4x512 : Shape := ⟨2, ![4, 512]⟩
abbrev S1x512 : Shape := ⟨2, ![1, 512]⟩
abbrev S_ : Shape := ⟨0, ![]⟩
abbrev S2x512 : Shape := ⟨2, ![2, 512]⟩
abbrev S8195x512 : Shape := ⟨2, ![8195, 512]⟩
abbrev S512 : Shape := ⟨1, ![512]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x512, .f32⟩
  | .hbm, ⟨2, _⟩ => ⟨S1x512, .f32⟩
  | .hbm, ⟨3, _⟩ => ⟨S_, .f32⟩
  | .hbm, ⟨4, _⟩ => ⟨S2x512, .f32⟩
  | .hbm, ⟨5, _⟩ => ⟨S_, .f32⟩
  | .hbm, ⟨6, _⟩ => ⟨S1x512, .f32⟩
  | .hbm, ⟨7, _⟩ => ⟨S8195x512, .f32⟩
  | .hbm, ⟨8, _⟩ => ⟨S8192x512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== GdnConvFwd.lean ====
abbrev S8192x1536 : Shape := ⟨2, ![8192, 1536]⟩
abbrev S4x1536 : Shape := ⟨2, ![4, 1536]⟩
abbrev S_ : Shape := ⟨0, ![]⟩
abbrev S8x1536 : Shape := ⟨2, ![8, 1536]⟩
abbrev S1x1536 : Shape := ⟨2, ![1, 1536]⟩
abbrev S512x1536 : Shape := ⟨2, ![512, 1536]⟩
abbrev S8x512 : Shape := ⟨2, ![8, 512]⟩
abbrev S512x512 : Shape := ⟨2, ![512, 512]⟩
abbrev S528x512 : Shape := ⟨2, ![528, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x1536, .f32⟩
  | .hbm, ⟨1, _⟩ => ⟨S4x1536, .f32⟩
  | .hbm, ⟨2, _⟩ => ⟨S_, .i32⟩
  | .hbm, ⟨3, _⟩ => ⟨S_, .f32⟩
  | .hbm, ⟨4, _⟩ => ⟨S8x1536, .f32⟩
  | .hbm, ⟨5, _⟩ => ⟨S_, .f32⟩
  | .hbm, ⟨6, _⟩ => ⟨S1x1536, .f32⟩
  | .hbm, ⟨7, _⟩ => ⟨S8192x1536, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S8x1536, .f32⟩
  | .local _ .vmem, ⟨7, _⟩ => ⟨S1x1536, .f32⟩
  | .local _ .vmem, ⟨8, _⟩ => ⟨S512x1536, .f32⟩
  | .local _ .vmem, ⟨9, _⟩ => ⟨S512x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GdnConvFwdRefIdeal.lean ====
abbrev S8192x1536 : Shape := ⟨2, ![8192, 1536]⟩
abbrev S4x1536 : Shape := ⟨2, ![4, 1536]⟩
abbrev S_ : Shape := ⟨0, ![]⟩
abbrev S2x1536 : Shape := ⟨2, ![2, 1536]⟩
abbrev S1x1536 : Shape := ⟨2, ![1, 1536]⟩
abbrev S8195x1536 : Shape := ⟨2, ![8195, 1536]⟩
abbrev S1536 : Shape := ⟨1, ![1536]⟩

abbrev nBuf : Space → Nat
  | .hbm => 37
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S4x1536, .f32⟩
  | .hbm, ⟨2, _⟩ => ⟨S_, .f32⟩
  | .hbm, ⟨3, _⟩ => ⟨S2x1536, .f32⟩
  | .hbm, ⟨4, _⟩ => ⟨S_, .f32⟩
  | .hbm, ⟨5, _⟩ => ⟨S1x1536, .f32⟩
  | .hbm, ⟨6, _⟩ => ⟨S8195x1536, .f32⟩
  | .hbm, ⟨7, _⟩ => ⟨S8192x1536, .f32⟩
  | .hbm, ⟨8, _⟩ => ⟨S1x1536, .f32⟩
  | .hbm, ⟨9, _⟩ => ⟨S1536, .f32⟩
  | .hbm, ⟨10, _⟩ => ⟨S1x1536, .f32⟩
  | .hbm, ⟨11, _⟩ => ⟨S8192x1536, .f32⟩
  | .hbm, ⟨12, _⟩ => ⟨S8192x1536, .f32⟩
  | .hbm, ⟨13, _⟩ => ⟨S_, .f32⟩
  | .hbm, ⟨14, _⟩ => ⟨S8192x1536, .f32⟩
  | .hbm, ⟨15, _⟩ => ⟨S8192x1536, .f32⟩
  | .hbm, ⟨16, _⟩ => ⟨S8192x1536, .f32⟩
  | .hbm, ⟨17, _⟩ => ⟨S1x1536, .f32⟩
  | .hbm, ⟨18, _⟩ => ⟨S1536, .f32⟩
  | .hbm, ⟨19, _⟩ => ⟨S1x1536, .f32⟩
  | .hbm, ⟨20, _⟩ => ⟨S8192x1536, .f32⟩
  | .hbm, ⟨21, _⟩ => ⟨S8192x1536, .f32⟩
  | .hbm, ⟨22, _⟩ => ⟨S8192x1536, .f32⟩
  | .hbm, ⟨23, _⟩ => ⟨S8192x1536, .f32⟩
  | .hbm, ⟨24, _⟩ => ⟨S1x1536, .f32⟩
  | .hbm, ⟨25, _⟩ => ⟨S1536, .f32⟩
  | .hbm, ⟨26, _⟩ => ⟨S1x1536, .f32⟩
  | .hbm, ⟨27, _⟩ => ⟨S8192x1536, .f32⟩
  | .hbm, ⟨28, _⟩ => ⟨S8192x1536, .f32⟩
  | .hbm, ⟨29, _⟩ => ⟨S8192x1536, .f32⟩
  | .hbm, ⟨30, _⟩ => ⟨S8192x1536, .f32⟩
  | .hbm, ⟨31, _⟩ => ⟨S1x1536, .f32⟩
  | .hbm, ⟨32, _⟩ => ⟨S1536, .f32⟩
  | .hbm, ⟨33, _⟩ => ⟨S1x1536, .f32⟩
  | .hbm, ⟨34, _⟩ => ⟨S8192x1536, .f32⟩
  | .hbm, ⟨35, _⟩ => ⟨S8192x1536, .f32⟩
  | .hbm, ⟨36, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== InProjFwd.lean ====
abbrev S8192x1024 : Shape := ⟨2, ![8192, 1024]⟩
abbrev S1x1024 : Shape := ⟨2, ![1, 1024]⟩
abbrev S1024x3088 : Shape := ⟨2, ![1024, 3088]⟩
abbrev S1024x512 : Shape := ⟨2, ![1024, 512]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S8192x512 : Shape := ⟨2, ![8192, 512]⟩
abbrev S8192x1536 : Shape := ⟨2, ![8192, 1536]⟩
abbrev S8192x128 : Shape := ⟨2, ![8192, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S1024x3088, .bf16⟩
  | .hbm, ⟨4, _⟩ => ⟨S1024x512, .bf16⟩
  | .hbm, ⟨5, _⟩ => ⟨S1024x512, .bf16⟩
  | .hbm, ⟨6, _⟩ => ⟨S1024x1536, .bf16⟩
  | .hbm, ⟨7, _⟩ => ⟨S1024x512, .bf16⟩
  | .hbm, ⟨8, _⟩ => ⟨S1024x16, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S8192x1024, .bf16⟩
  | .hbm, ⟨13, _⟩ => ⟨S8192x512, .f32⟩
  | .hbm, ⟨14, _⟩ => ⟨S8192x512, .f32⟩
  | .hbm, ⟨15, _⟩ => ⟨S8192x1536, .f32⟩
  | .hbm, ⟨16, _⟩ => ⟨S8192x512, .f32⟩
  | .hbm, ⟨17, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1536, .bf16⟩
  | .local _ .vmem, ⟨6, _⟩ => ⟨S1024x512, .bf16⟩
  | .local _ .vmem, ⟨7, _⟩ => ⟨S1024x128, .bf16⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1536, .f32⟩
  | .local _ .vmem, ⟨15, _⟩ => ⟨S512x1536, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InProjFwdRefIdeal.lean ====
abbrev S8192x1024 : Shape := ⟨2, ![8192, 1024]⟩
abbrev S1x1024 : Shape := ⟨2, ![1, 1024]⟩
abbrev S1024x3088 : Shape := ⟨2, ![1024, 3088]⟩
abbrev S_ : Shape := ⟨0, ![]⟩
abbrev S8192 : Shape := ⟨1, ![8192]⟩
abbrev S8192x1 : Shape := ⟨2, ![8192, 1]⟩
abbrev S8192x3088 : Shape := ⟨2, ![8192, 3088]⟩
abbrev S8192x512 : Shape := ⟨2, ![8192, 512]⟩
abbrev S8192x1536 : Shape := ⟨2, ![8192, 1536]⟩
abbrev S8192x16 : Shape := ⟨2, ![8192, 16]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x3088, .f32⟩
  | .hbm, ⟨19, _⟩ => ⟨S8192x1024, .bf16⟩
  | .hbm, ⟨20, _⟩ => ⟨S8192x512, .f32⟩
  | .hbm, ⟨21, _⟩ => ⟨S8192x512, .f32⟩
  | .hbm, ⟨22, _⟩ => ⟨S8192x1536, .f32⟩
  | .hbm, ⟨23, _⟩ => ⟨S8192x512, .f32⟩
  | .hbm, ⟨24, _⟩ => ⟨S8192x16, .f32⟩
  | .hbm, ⟨25, _⟩ => ⟨S_, .i32⟩
  | .hbm, ⟨26, _⟩ => ⟨S_, .f32⟩
  | .hbm, ⟨27, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x8192x704 : Shape := ⟨3, ![4, 8192, 704]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S1x704x1024 : Shape := ⟨3, ![1, 704, 1024]⟩
abbrev S704x1024 : Shape := ⟨2, ![704, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x4x704, .f32⟩
  | .hbm, ⟨6, _⟩ => ⟨S4x1024x704, .f32⟩
  | .hbm, ⟨7, _⟩ => ⟨S4x1024x704, .bf16⟩
  | .hbm, ⟨8, _⟩ => ⟨S1024x4x704, .f32⟩
  | .hbm, ⟨9, _⟩ => ⟨S4x1024x704, .f32⟩
  | .hbm, ⟨10, _⟩ => ⟨S4x1024x704, .bf16⟩
  | .hbm, ⟨11, _⟩ => ⟨S4x704x1024, .f32⟩
  | .hbm, ⟨12, _⟩ => ⟨S4x704x1024, .bf16⟩
  | .hbm, ⟨13, _⟩ => ⟨S8192x1024, .f32⟩
  | .hbm, ⟨14, _⟩ => ⟨S4x8192x704, .bf16⟩
  | .hbm, ⟨15, _⟩ => ⟨S4x8192x704, .bf16⟩
  | .hbm, ⟨16, _⟩ => ⟨S4x8192x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x704, .bf16⟩
  | .local _ .vmem, ⟨4, _⟩ => ⟨S4x1024x704, .bf16⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S4x256x704, .bf16⟩
  | .local _ .vmem, ⟨9, _⟩ => ⟨S4x256x704, .bf16⟩
  | .local _ .vmem, ⟨10, _⟩ => ⟨S4x256x704, .bf16⟩
  | .local _ .vmem, ⟨11, _⟩ => ⟨S4x256x704, .bf16⟩
  | .local _ .vmem, ⟨12, _⟩ => ⟨S4x256x704, .bf16⟩
  | .local _ .vmem, ⟨13, _⟩ => ⟨S4x256x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x4x704, .f32⟩
  | .hbm, ⟨50, _⟩ => ⟨S4x8192x704, .f32⟩
  | .hbm, ⟨51, _⟩ => ⟨S4x8192x704, .bf16⟩
  | .hbm, ⟨52, _⟩ => ⟨S8192x4x704, .f32⟩
  | .hbm, ⟨53, _⟩ => ⟨S4x8192x704, .f32⟩
  | .hbm, ⟨54, _⟩ => ⟨S4x8192x704, .bf16⟩
  | .hbm, ⟨55, _⟩ => ⟨S8192x4x704, .f32⟩
  | .hbm, ⟨56, _⟩ => ⟨S4x8192x704, .f32⟩
  | .hbm, ⟨57, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v14_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v14_1 : Ref sig .tc := ⟨.hbm, 33, rfl⟩
abbrev main_v14_0 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]
-- ==== OutProjFwd.lean ====
abbrev S8192x1024 : Shape := ⟨2, ![8192, 1024]⟩
abbrev S8192x512 : Shape := ⟨2, ![8192, 512]⟩
abbrev S1x128 : Shape := ⟨2, ![1, 128]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1x128, .f32⟩
  | .hbm, ⟨8, _⟩ => ⟨S1024x1024, .f32⟩
  | .hbm, ⟨9, _⟩ => ⟨S1024x1024, .bf16⟩
  | .hbm, ⟨10, _⟩ => ⟨S8192x1024, .f32⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x128, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjFwdIdeal.lean ====
variable {F : FTy → Type} [FloatOps F] [Named F]
def κ : String → Option EReal := fun
  | "cube" => some ((8943 / 200000 : ℝ) : EReal)
  | _ => none
-- ==== OutProjFwdRefIdeal.lean ====
abbrev S8192x1024 : Shape := ⟨2, ![8192, 1024]⟩
abbrev S8192x512 : Shape := ⟨2, ![8192, 512]⟩
abbrev S1x128 : Shape := ⟨2, ![1, 128]⟩
abbrev S1024x1024 : Shape := ⟨2, ![1024, 1024]⟩
abbrev S_ : Shape := ⟨0, ![]⟩
abbrev S8192x4x128 : Shape := ⟨3, ![8192, 4, 128]⟩
abbrev S4x128 : Shape := ⟨2, ![4, 128]⟩
abbrev S8192x4 : Shape := ⟨2, ![8192, 4]⟩
abbrev S8192x4x1 : Shape := ⟨3, ![8192, 4, 1]⟩
abbrev S1x4x128 : Shape := ⟨3, ![1, 4, 128]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1x128, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x4x128, .f32⟩
  | .hbm, ⟨33, _⟩ => ⟨S4x128, .f32⟩
  | .hbm, ⟨34, _⟩ => ⟨S8192x4x128, .f32⟩
  | .hbm, ⟨35, _⟩ => ⟨S_, .f32⟩
  | .hbm, ⟨36, _⟩ => ⟨S8192x4, .f32⟩
  | .hbm, ⟨37, _⟩ => ⟨S8192x4x1, .f32⟩
  | .hbm, ⟨38, _⟩ => ⟨S_, .f32⟩
  | .hbm, ⟨39, _⟩ => ⟨S8192x4x1, .f32⟩
  | .hbm, ⟨40, _⟩ => ⟨S8192x4x1, .f32⟩
  | .hbm, ⟨41, _⟩ => ⟨S_, .f32⟩
  | .hbm, ⟨42, _⟩ => ⟨S8192x4x1, .f32⟩
  | .hbm, ⟨43, _⟩ => ⟨S8192x4x1, .f32⟩
  | .hbm, ⟨44, _⟩ => ⟨S8192x4x1, .f32⟩
  | .hbm, ⟨45, _⟩ => ⟨S8192x4x128, .f32⟩
  | .hbm, ⟨46, _⟩ => ⟨S8192x4x128, .f32⟩
  | .hbm, ⟨47, _⟩ => ⟨S1x4x128, .f32⟩
  | .hbm, ⟨48, _⟩ => ⟨S8192x4x128, .f32⟩
  | .hbm, ⟨49, _⟩ => ⟨S8192x4x128, .f32⟩
  | .hbm, ⟨50, _⟩ => ⟨S8192x4x128, .f32⟩
  | .hbm, ⟨51, _⟩ => ⟨S8192x4x128, .f32⟩
  | .hbm, ⟨52, _⟩ => ⟨S8192x4x128, .f32⟩
  | .hbm, ⟨53, _⟩ => ⟨S_, .f32⟩
  | .hbm, ⟨54, _⟩ => ⟨S8192x4x128, .f32⟩
  | .hbm, ⟨55, _⟩ => ⟨S8192x4x128, .f32⟩
  | .hbm, ⟨56, _⟩ => ⟨S_, .f32⟩
  | .hbm, ⟨57, _⟩ => ⟨S8192x4x128, .f32⟩
  | .hbm, ⟨58, _⟩ => ⟨S8192x4x128, .f32⟩
  | .hbm, ⟨59, _⟩ => ⟨S8192x4x128, .f32⟩
  | .hbm, ⟨60, _⟩ => ⟨S8192x4x128, .f32⟩
  | .hbm, ⟨61, _⟩ => ⟨S8192x512, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== GdnSeqFwd.lean ====
abbrev S2x8192x512 : Shape := ⟨3, ![2, 8192, 512]⟩
abbrev S128x2x4x64x64 : Shape := ⟨5, ![128, 2, 4, 64, 64]⟩
abbrev S128x8 : Shape := ⟨2, ![128, 8]⟩
abbrev S128x8x1 : Shape := ⟨3, ![128, 8, 1]⟩
abbrev S128x8x128 : Shape := ⟨3, ![128, 8, 128]⟩
abbrev S8192x512 : Shape := ⟨2, ![8192, 512]⟩
abbrev S128x4x128x128 : Shape := ⟨4, ![128, 4, 128, 128]⟩
abbrev S1x256x512 : Shape := ⟨3, ![1, 256, 512]⟩
abbrev S4x1x4x64x64 : Shape := ⟨5, ![4, 1, 4, 64, 64]⟩
abbrev S4x8x128 : Shape := ⟨3, ![4, 8, 128]⟩
abbrev S256x512 : Shape := ⟨2, ![256, 512]⟩
abbrev S4x4x128x128 : Shape := ⟨4, ![4, 4, 128, 128]⟩
abbrev S2x4x128x128 : Shape := ⟨4, ![2, 4, 128, 128]⟩
abbrev S1x1x128x128 : Shape := ⟨4, ![1, 1, 128, 128]⟩
abbrev S128x128 : Shape := ⟨2, ![128, 128]⟩
abbrev S1x64x128 : Shape := ⟨3, ![1, 64, 128]⟩
abbrev S64x128 : Shape := ⟨2, ![64, 128]⟩
abbrev S1x1x128 : Shape := ⟨3, ![1, 1, 128]⟩
abbrev S1x128 : Shape := ⟨2, ![1, 128]⟩
abbrev S1x1x1x64x64 : Shape := ⟨5, ![1, 1, 1, 64, 64]⟩
abbrev S64x64 : Shape := ⟨2, ![64, 64]⟩

abbrev nBuf : Space → Nat
  | .hbm => 19
  | .vmem => 37
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S128x2x4x64x64, .f32⟩
  | .hbm, ⟨5, _⟩ => ⟨S128x8, .f32⟩
  | .hbm, ⟨6, _⟩ => ⟨S2x8192x512, .bf16⟩
  | .hbm, ⟨7, _⟩ => ⟨S2x8192x512, .bf16⟩
  | .hbm, ⟨8, _⟩ => ⟨S2x8192x512, .bf16⟩
  | .hbm, ⟨9, _⟩ => ⟨S2x8192x512, .bf16⟩
  | .hbm, ⟨10, _⟩ => ⟨S128x2x4x64x64, .bf16⟩
  | .hbm, ⟨11, _⟩ => ⟨S128x8x1, .f32⟩
  | .hbm, ⟨12, _⟩ => ⟨S128x8x128, .f32⟩
  | .hbm, ⟨13, _⟩ => ⟨S8192x512, .f32⟩
  | .hbm, ⟨14, _⟩ => ⟨S128x4x128x128, .bf16⟩
  | .hbm, ⟨15, _⟩ => ⟨S8192x512, .bf16⟩
  | .hbm, ⟨16, _⟩ => ⟨S8192x512, .f32⟩
  | .hbm, ⟨17, _⟩ => ⟨S128x4x128x128, .bf16⟩
  | .hbm, ⟨18, _⟩ => ⟨S8192x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S4x1x4x64x64, .bf16⟩
  | .local _ .vmem, ⟨9, _⟩ => ⟨S4x1x4x64x64, .bf16⟩
  | .local _ .vmem, ⟨10, _⟩ => ⟨S4x8x128, .f32⟩
  | .local _ .vmem, ⟨11, _⟩ => ⟨S4x8x128, .f32⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S4x1x4x64x64, .bf16⟩
  | .local _ .vmem, ⟨21, _⟩ => ⟨S4x1x4x64x64, .bf16⟩
  | .local _ .vmem, ⟨22, _⟩ => ⟨S4x8x128, .f32⟩
  | .local _ .vmem, ⟨23, _⟩ => ⟨S4x8x128, .f32⟩
  | .local _ .vmem, ⟨24, _⟩ => ⟨S256x512, .f32⟩
  | .local _ .vmem, ⟨25, _⟩ => ⟨S256x512, .f32⟩
  | .local _ .vmem, ⟨26, _⟩ => ⟨S4x4x128x128, .bf16⟩
  | .local _ .vmem, ⟨27, _⟩ => ⟨S4x4x128x128, .bf16⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S4x4x128x128, .bf16⟩
  | .local _ .vmem, ⟨33, _⟩ => ⟨S4x4x128x128, .bf16⟩
  | .local _ .vmem, ⟨34, _⟩ => ⟨S256x512, .bf16⟩
  | .local _ .vmem, ⟨35, _⟩ => ⟨S256x512, .bf16⟩
  | .local _ .vmem, ⟨36, _⟩ => ⟨S2x4x128x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  ![c1_i32.toNat, v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  ![c1_i32.toNat, v0.toNat, c0_i32.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  ![c1_i32.toNat, v0.toNat, c0_i32.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  ![c1_i32.toNat, v0.toNat, c0_i32.toNat]

def cc0_transform_10 (i : grid0.Coords) : Fin 5 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  let c0_i32_1 : BitVec 32 := 0#32
  let c0_i32_2 : BitVec 32 := 0#32
  ![v0.toNat, c1_i32.toNat, c0_i32.toNat, c0_i32_0.toNat, c0_i32_1.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x4x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x4x64x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x4x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x4x128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixPrep.lean ====
abbrev S8192x512 : Shape := ⟨2, ![8192, 512]⟩
abbrev S8192x1536 : Shape := ⟨2, ![8192, 1536]⟩
abbrev S8192x16 : Shape := ⟨2, ![8192, 16]⟩
abbrev S2x8x64x64 : Shape := ⟨4, ![2, 8, 64, 64]⟩
abbrev S2x512 : Shape := ⟨2, ![2, 512]⟩
abbrev S2x4 : Shape := ⟨2, ![2, 4]⟩
abbrev S1x8x64x64 : Shape := ⟨4, ![1, 8, 64, 64]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x2048 : Shape := ⟨2, ![512, 2048]⟩
abbrev S1x1024 : Shape := ⟨2, ![1, 1024]⟩
abbrev S1x2048 : Shape := ⟨2, ![1, 2048]⟩
abbrev S8192x128 : Shape := ⟨2, ![8192, 128]⟩
abbrev S1x128 : Shape := ⟨2, ![1, 128]⟩
abbrev S8 : Shape := ⟨1, ![8]⟩
abbrev S1 : Shape := ⟨1, ![1]⟩
abbrev S2 : Shape := ⟨1, ![2]⟩
abbrev S512x1536 : Shape := ⟨2, ![512, 1536]⟩
abbrev S512x128 : Shape := ⟨2, ![512, 128]⟩
abbrev S1x512 : Shape := ⟨2, ![1, 512]⟩
abbrev S512 : Shape := ⟨1, ![512]⟩
abbrev S512x1 : Shape := ⟨2, ![512, 1]⟩

abbrev nBuf : Space → Nat
  | .hbm => 105
  | .vmem => 27
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S8192x16, .f32⟩
  | .hbm, ⟨3, _⟩ => ⟨S2x8x64x64, .f32⟩
  | .hbm, ⟨4, _⟩ => ⟨S2x512, .f32⟩
  | .hbm, ⟨5, _⟩ => ⟨S2x8x64x64, .f32⟩
  | .hbm, ⟨6, _⟩ => ⟨S2x512, .f32⟩
  | .hbm, ⟨7, _⟩ => ⟨S2x512, .f32⟩
  | .hbm, ⟨8, _⟩ => ⟨S2x4, .f32⟩
  | .hbm, ⟨9, _⟩ => ⟨S2x4, .f32⟩
  | .hbm, ⟨10, _⟩ => ⟨S1x8x64x64, .f32⟩
  | .hbm, ⟨11, _⟩ => ⟨S8x64x64, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S8x64x1x64, .f32⟩
  | .hbm, ⟨20, _⟩ => ⟨S8x1x8x1, .f32⟩
  | .hbm, ⟨21, _⟩ => ⟨S8x64x8x64, .f32⟩
  | .hbm, ⟨22, _⟩ => ⟨S8x64x8x64, .f32⟩
  | .hbm, ⟨23, _⟩ => ⟨S8x64x8x64, .f32⟩
  | .hbm, ⟨24, _⟩ => ⟨S512x512, .f32⟩
  | .hbm, ⟨25, _⟩ => ⟨S1x8x64x64, .f32⟩
  | .hbm, ⟨26, _⟩ => ⟨S8x64x64, .f32⟩
  | .hbm, ⟨27, _⟩ => ⟨S8x8, .i32⟩
  | .hbm, ⟨28, _⟩ => ⟨S8x8, .i32⟩
  | .hbm, ⟨29, _⟩ => ⟨S_, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S8x8, .f32⟩
  | .hbm, ⟨34, _⟩ => ⟨S8x64x1x64, .f32⟩
  | .hbm, ⟨35, _⟩ => ⟨S8x1x8x1, .f32⟩
  | .hbm, ⟨36, _⟩ => ⟨S8x64x8x64, .f32⟩
  | .hbm, ⟨37, _⟩ => ⟨S8x64x8x64, .f32⟩
  | .hbm, ⟨38, _⟩ => ⟨S8x64x8x64, .f32⟩
  | .hbm, ⟨39, _⟩ => ⟨S512x512, .f32⟩
  | .hbm, ⟨40, _⟩ => ⟨S1x8x64x64, .f32⟩
  | .hbm, ⟨41, _⟩ => ⟨S8x64x64, .f32⟩
  | .hbm, ⟨42, _⟩ => ⟨S8x8, .i32⟩
  | .hbm, ⟨43, _⟩ => ⟨S8x8, .i32⟩
  | .hbm, ⟨44, _⟩ => ⟨S_, .i32⟩
  | .hbm, ⟨45, _⟩ => ⟨S8x8, .i32⟩
  | .hbm, ⟨46, _⟩ => ⟨S8x8, .i32⟩
  | .hbm, ⟨47, _⟩ => ⟨S8x8, .i1⟩
  | .hbm, ⟨48, _⟩ => ⟨S8x8, .f32⟩
  | .hbm, ⟨49, _⟩ => ⟨S8x64x1x64, .f32⟩
  | .hbm, ⟨50, _⟩ => ⟨S8x1x8x1, .f32⟩
  | .hbm, ⟨51, _⟩ => ⟨S8x64x8x64, .f32⟩
  | .hbm, ⟨52, _⟩ => ⟨S8x64x8x64, .f32⟩
  | .hbm, ⟨53, _⟩ => ⟨S8x64x8x64, .f32⟩
  | .hbm, ⟨54, _⟩ => ⟨S512x512, .f32⟩
  | .hbm, ⟨55, _⟩ => ⟨S1x8x64x64, .f32⟩
  | .hbm, ⟨56, _⟩ => ⟨S8x64x64, .f32⟩
  | .hbm, ⟨57, _⟩ => ⟨S8x8, .i32⟩
  | .hbm, ⟨58, _⟩ => ⟨S8x8, .i32⟩
  | .hbm, ⟨59, _⟩ => ⟨S_, .i32⟩
  | .hbm, ⟨60, _⟩ => ⟨S8x8, .i32⟩
  | .hbm, ⟨61, _⟩ => ⟨S8x8, .i32⟩
  | .hbm, ⟨62, _⟩ => ⟨S8x8, .i1⟩
  | .hbm, ⟨63, _⟩ => ⟨S8x8, .f32⟩
  | .hbm, ⟨64, _⟩ => ⟨S8x64x1x64, .f32⟩
  | .hbm, ⟨65, _⟩ => ⟨S8x1x8x1, .f32⟩
  | .hbm, ⟨66, _⟩ => ⟨S8x64x8x64, .f32⟩
  | .hbm, ⟨67, _⟩ => ⟨S8x64x8x64, .f32⟩
  | .hbm, ⟨68, _⟩ => ⟨S8x64x8x64, .f32⟩
  | .hbm, ⟨69, _⟩ => ⟨S512x512, .f32⟩
  | .hbm, ⟨70, _⟩ => ⟨S512x2048, .f32⟩
  | .hbm, ⟨71, _⟩ => ⟨S512x2048, .bf16⟩
  | .hbm, ⟨72, _⟩ => ⟨S1x1024, .f32⟩
  | .hbm, ⟨73, _⟩ => ⟨S1x1024, .f32⟩
  | .hbm, ⟨74, _⟩ => ⟨S1x2048, .f32⟩
  | .hbm, ⟨75, _⟩ => ⟨S_, .i32⟩
  | .hbm, ⟨76, _⟩ => ⟨S_, .f32⟩
  | .hbm, ⟨77, _⟩ => ⟨S8192x128, .f32⟩
  | .hbm, ⟨78, _⟩ => ⟨S1x1024, .f32⟩
  | .hbm, ⟨79, _⟩ => ⟨S_, .f32⟩
  | .hbm, ⟨80, _⟩ => ⟨S1x128, .f32⟩
  | .hbm, ⟨81, _⟩ => ⟨S8, .f32⟩
  | .hbm, ⟨82, _⟩ => ⟨S_, .i32⟩
  | .hbm, ⟨83, _⟩ => ⟨S1, .i32⟩
  | .hbm, ⟨84, _⟩ => ⟨S_, .i32⟩
  | .hbm, ⟨85, _⟩ => ⟨S1, .i32⟩
  | .hbm, ⟨86, _⟩ => ⟨S2, .i32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S8, .f32⟩
  | .hbm, ⟨91, _⟩ => ⟨S_, .i32⟩
  | .hbm, ⟨92, _⟩ => ⟨S1, .i32⟩
  | .hbm, ⟨93, _⟩ => ⟨S_, .i32⟩
  | .hbm, ⟨94, _⟩ => ⟨S1, .i32⟩
  | .hbm, ⟨95, _⟩ => ⟨S2, .i32⟩
  | .hbm, ⟨96, _⟩ => ⟨S1x128, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S8192x128, .f32⟩
  | .local _ .vmem, ⟨0, _⟩ => ⟨S512x512, .f32⟩
  | .local _ .vmem, ⟨1, _⟩ => ⟨S512x512, .f32⟩
  | .local _ .vmem, ⟨2, _⟩ => ⟨S512x1536, .f32⟩
  | .local _ .vmem, ⟨3, _⟩ => ⟨S512x1536, .f32⟩
  | .local _ .vmem, ⟨4, _⟩ => ⟨S512x128, .f32⟩
  | .local _ .vmem, ⟨5, _⟩ => ⟨S512x128, .f32⟩
  | .local _ .vmem, ⟨6, _⟩ => ⟨S512x2048, .bf16⟩
  | .local _ .vmem, ⟨7, _⟩ => ⟨S1x2048, .f32⟩
  | .local _ .vmem, ⟨8, _⟩ => ⟨S1x1024, .f32⟩
  | .local _ .vmem, ⟨9, _⟩ => ⟨S1x128, .f32⟩
  | .local _ .vmem, ⟨10, _⟩ => ⟨S1x128, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x128, .f32⟩
  | .local _ .vmem, ⟨26, _⟩ => ⟨S512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_c_3 : Ref sig .tc := ⟨.hbm, 75, rfl⟩
abbrev main_call0_v0 : Ref sig .tc := ⟨.hbm, 76, rfl⟩
abbrev main_v61 : Ref sig .tc := ⟨.hbm, 77, rfl⟩
abbrev main_v62 : Ref sig .tc := ⟨.hbm, 78, rfl⟩
abbrev main_cst : Ref sig .tc := ⟨.hbm, 79, rfl⟩
abbrev main_v63 : Ref sig .tc := ⟨.hbm, 80, rfl⟩
abbrev main_v64 : Ref sig .tc := ⟨.hbm, 81, rfl⟩
abbrev main_c_4 : Ref sig .tc := ⟨.hbm, 82, rfl⟩
abbrev main_v65 : Ref sig .tc := ⟨.hbm, 83, rfl⟩
abbrev main_c_5 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_c_7 : Ref sig .tc := ⟨.hbm, 91, rfl⟩
abbrev main_v71 : Ref sig .tc := ⟨.hbm, 92, rfl⟩
abbrev main_c_8 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75_0 : Ref sig .tc := ⟨.hbm, 97, rfl⟩
abbrev main_v75_1 : Ref sig .tc := ⟨.hbm, 98, rfl⟩
abbrev main_v75_2 : Ref sig .tc := ⟨.hbm, 99, rfl⟩
abbrev main_v75_3 : Ref sig .tc := ⟨.hbm, 100, rfl⟩
abbrev main_v75_4 : Ref sig .tc := ⟨.hbm, 101, rfl⟩
abbrev main_v75_5 : Ref sig .tc := ⟨.hbm, 102, rfl⟩
abbrev main_v75_6 : Ref sig .tc := ⟨.hbm, 103, rfl⟩
abbrev main_v75_7 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixPrepRefIdeal.lean ====
abbrev S8192x512 : Shape := ⟨2, ![8192, 512]⟩
abbrev S8192x1536 : Shape := ⟨2, ![8192, 1536]⟩
abbrev S8192x16 : Shape := ⟨2, ![8192, 16]⟩
abbrev S2x8x64x64 : Shape := ⟨4, ![2, 8, 64, 64]⟩
abbrev S2x512 : Shape := ⟨2, ![2, 512]⟩
abbrev S2x4 : Shape := ⟨2, ![2, 4]⟩
abbrev S8192x8x64 : Shape := ⟨3, ![8192, 8, 64]⟩
abbrev S8x2x64x8192 : Shape := ⟨4, ![8, 2, 64, 8192]⟩
abbrev S2x8192x8x64 : Shape := ⟨4, ![2, 8192, 8, 64]⟩
abbrev S2x8192x512 : Shape := ⟨3, ![2, 8192, 512]⟩
abbrev S2x1x512 : Shape := ⟨3, ![2, 1, 512]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S8192x8 : Shape := ⟨2, ![8192, 8]⟩
abbrev S1x8 : Shape := ⟨2, ![1, 8]⟩
abbrev S8192x112 : Shape := ⟨2, ![8192, 112]⟩
abbrev S8192x128 : Shape := ⟨2, ![8192, 128]⟩
abbrev S1x8192x512 : Shape := ⟨3, ![1, 8192, 512]⟩

abbrev nBuf : Space → Nat
  | .hbm => 125
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S8192x16, .f32⟩
  | .hbm, ⟨3, _⟩ => ⟨S2x8x64x64, .f32⟩
  | .hbm, ⟨4, _⟩ => ⟨S2x512, .f32⟩
  | .hbm, ⟨5, _⟩ => ⟨S2x8x64x64, .f32⟩
  | .hbm, ⟨6, _⟩ => ⟨S2x512, .f32⟩
  | .hbm, ⟨7, _⟩ => ⟨S2x512, .f32⟩
  | .hbm, ⟨8, _⟩ => ⟨S2x4, .f32⟩
  | .hbm, ⟨9, _⟩ => ⟨S2x4, .f32⟩
  | .hbm, ⟨10, _⟩ => ⟨S8192x8x64, .f32⟩
  | .hbm, ⟨11, _⟩ => ⟨S8x2x64x8192, .f32⟩
  | .hbm, ⟨12, _⟩ => ⟨S2x8192x8x64, .f32⟩
  | .hbm, ⟨13, _⟩ => ⟨S2x8192x512, .f32⟩
  | .hbm, ⟨14, _⟩ => ⟨S2x1x512, .f32⟩
  | .hbm, ⟨15, _⟩ => ⟨S2x8192x512, .f32⟩
  | .hbm, ⟨16, _⟩ => ⟨S2x8192x512, .f32⟩
  | .hbm, ⟨17, _⟩ => ⟨S2x8192x512, .f32⟩
  | .hbm, ⟨18, _⟩ => ⟨S2x8192x512, .f32⟩
  | .hbm, ⟨19, _⟩ => ⟨S_, .f32⟩
  | .hbm, ⟨20, _⟩ => ⟨S2x8192x512, .f32⟩
  | .hbm, ⟨21, _⟩ => ⟨S2x8192x512, .f32⟩
  | .hbm, ⟨22, _⟩ => ⟨S_, .f32⟩
  | .hbm, ⟨23, _⟩ => ⟨S2x8192x512, .f32⟩
  | .hbm, ⟨24, _⟩ => ⟨S2x8192x512, .f32⟩
  | .hbm, ⟨25, _⟩ => ⟨S_, .f32⟩
  | .hbm, ⟨26, _⟩ => ⟨S2x8192x512, .f32⟩
  | .hbm, ⟨27, _⟩ => ⟨S2x8192x512, .f32⟩
  | .hbm, ⟨28, _⟩ => ⟨S2x512, .f32⟩
  | .hbm, ⟨29, _⟩ => ⟨S_, .f32⟩
  | .hbm, ⟨30, _⟩ => ⟨S2x512, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S2x512, .i1⟩
  | .hbm, ⟨35, _⟩ => ⟨S2x512, .f32⟩
  | .hbm, ⟨36, _⟩ => ⟨S2x512, .f32⟩
  | .hbm, ⟨37, _⟩ => ⟨S2x512, .f32⟩
  | .hbm, ⟨38, _⟩ => ⟨S2x512, .f32⟩
  | .hbm, ⟨39, _⟩ => ⟨S2x512, .f32⟩
  | .hbm, ⟨40, _⟩ => ⟨S2x512, .f32⟩
  | .hbm, ⟨41, _⟩ => ⟨S2x512, .f32⟩
  | .hbm, ⟨42, _⟩ => ⟨S2x512, .f32⟩
  | .hbm, ⟨43, _⟩ => ⟨S2x1x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S8192x1536, .f32⟩
  | .hbm, ⟨48, _⟩ => ⟨S8192x1536, .f32⟩
  | .hbm, ⟨49, _⟩ => ⟨S_, .f32⟩
  | .hbm, ⟨50, _⟩ => ⟨S8192x1536, .f32⟩
  | .hbm, ⟨51, _⟩ => ⟨S8192x1536, .f32⟩
  | .hbm, ⟨52, _⟩ => ⟨S_, .f32⟩
  | .hbm, ⟨53, _⟩ => ⟨S8192x1536, .f32⟩
  | .hbm, ⟨54, _⟩ => ⟨S8192x1536, .f32⟩
  | .hbm, ⟨55, _⟩ => ⟨S8192x1536, .f32⟩
  | .hbm, ⟨56, _⟩ => ⟨S8192x512, .f32⟩
  | .hbm, ⟨57, _⟩ => ⟨S8192x4x128, .f32⟩
  | .hbm, ⟨58, _⟩ => ⟨S8192x4x128, .f32⟩
  | .hbm, ⟨59, _⟩ => ⟨S_, .f32⟩
  | .hbm, ⟨60, _⟩ => ⟨S8192x4, .f32⟩
  | .hbm, ⟨61, _⟩ => ⟨S8192x4x1, .f32⟩
  | .hbm, ⟨62, _⟩ => ⟨S_, .f32⟩
  | .hbm, ⟨63, _⟩ => ⟨S8192x4x1, .f32⟩
  | .hbm, ⟨64, _⟩ => ⟨S8192x4x1, .f32⟩
  | .hbm, ⟨65, _⟩ => ⟨S8192x4x1, .f32⟩
  | .hbm, ⟨66, _⟩ => ⟨S8192x4x128, .f32⟩
  | .hbm, ⟨67, _⟩ => ⟨S8192x4x128, .f32⟩
  | .hbm, ⟨68, _⟩ => ⟨S_, .f32⟩
  | .hbm, ⟨69, _⟩ => ⟨S8192x4x128, .f32⟩
  | .hbm, ⟨70, _⟩ => ⟨S8192x4x128, .f32⟩
  | .hbm, ⟨71, _⟩ => ⟨S8192x512, .f32⟩
  | .hbm, ⟨72, _⟩ => ⟨S8192x512, .f32⟩
  | .hbm, ⟨73, _⟩ => ⟨S8192x4x128, .f32⟩
  | .hbm, ⟨74, _⟩ => ⟨S8192x4x128, .f32⟩
  | .hbm, ⟨75, _⟩ => ⟨S_, .f32⟩
  | .hbm, ⟨76, _⟩ => ⟨S8192x4, .f32⟩
  | .hbm, ⟨77, _⟩ => ⟨S8192x4x1, .f32⟩
  | .hbm, ⟨78, _⟩ => ⟨S_, .f32⟩
  | .hbm, ⟨79, _⟩ => ⟨S8192x4x1, .f32⟩
  | .hbm, ⟨80, _⟩ => ⟨S8192x4x1, .f32⟩
  | .hbm, ⟨81, _⟩ => ⟨S8192x4x1, .f32⟩
  | .hbm, ⟨82, _⟩ => ⟨S8192x4x128, .f32⟩
  | .hbm, ⟨83, _⟩ => ⟨S8192x4x128, .f32⟩
  | .hbm, ⟨84, _⟩ => ⟨S8192x512, .f32⟩
  | .hbm, ⟨85, _⟩ => ⟨S8192x8, .f32⟩
  | .hbm, ⟨86, _⟩ => ⟨S8192x8, .f32⟩
  | .hbm, ⟨87, _⟩ => ⟨S8192x8, .f32⟩
  | .hbm, ⟨88, _⟩ => ⟨S_, .f32⟩
  | .hbm, ⟨89, _⟩ => ⟨S8192x8, .f32⟩
  | .hbm, ⟨90, _⟩ => ⟨S8192x8, .f32⟩
  | .hbm, ⟨91, _⟩ => ⟨S_, .f32⟩
  | .hbm, ⟨92, _⟩ => ⟨S8192x8, .f32⟩
  | .hbm, ⟨93, _⟩ => ⟨S8192x8, .f32⟩
  | .hbm, ⟨94, _⟩ => ⟨S1x8, .f32⟩
  | .hbm, ⟨95, _⟩ => ⟨S1x8, .f32⟩
  | .hbm, ⟨96, _⟩ => ⟨S1x8, .f32⟩
  | .hbm, ⟨97, _⟩ => ⟨S8192x8, .f32⟩
  | .hbm, ⟨98, _⟩ => ⟨S1x8, .f32⟩
  | .hbm, ⟨99, _⟩ => ⟨S8192x8, .f32⟩
  | .hbm, ⟨100, _⟩ => ⟨S8192x8, .f32⟩
  | .hbm, ⟨101, _⟩ => ⟨S_, .f32⟩
  | .hbm, ⟨102, _⟩ => ⟨S8192x8, .f32⟩
  | .hbm, ⟨103, _⟩ => ⟨S8192x8, .f32⟩
  | .hbm, ⟨104, _⟩ => ⟨S8192x8, .f32⟩
  | .hbm, ⟨105, _⟩ => ⟨S8192x8, .f32⟩
  | .hbm, ⟨106, _⟩ => ⟨S8192x8, .i1⟩
  | .hbm, ⟨107, _⟩ => ⟨S8192x8, .f32⟩
  | .hbm, ⟨108, _⟩ => ⟨S8192x8, .f32⟩
  | .hbm, ⟨109, _⟩ => ⟨S8192x8, .f32⟩
  | .hbm, ⟨110, _⟩ => ⟨S8192x8, .f32⟩
  | .hbm, ⟨111, _⟩ => ⟨S8192x8, .f32⟩
  | .hbm, ⟨112, _⟩ => ⟨S8192x8, .f32⟩
  | .hbm, ⟨113, _⟩ => ⟨S8192x8, .f32⟩
  | .hbm, ⟨114, _⟩ => ⟨S8192x8, .f32⟩
  | .hbm, ⟨115, _⟩ => ⟨S8192x8, .f32⟩
  | .hbm, ⟨116, _⟩ => ⟨S8192x8, .f32⟩
  | .hbm, ⟨117, _⟩ => ⟨S_, .f32⟩
  | .hbm, ⟨118, _⟩ => ⟨S8192x112, .f32⟩
  | .hbm, ⟨119, _⟩ => ⟨S8192x128, .f32⟩
  | .hbm, ⟨120, _⟩ => ⟨S1x8192x512, .f32⟩
  | .hbm, ⟨121, _⟩ => ⟨S8192x512, .f32⟩
  | .hbm, ⟨122, _⟩ => ⟨S1x8192x512, .f32⟩
  | .hbm, ⟨123, _⟩ => ⟨S8192x512, .f32⟩
  | .hbm, ⟨124, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_5 : Ref sig .tc := ⟨.hbm, 75, rfl⟩
abbrev main_v38 : Ref sig .tc := ⟨.hbm, 76, rfl⟩
abbrev main_v39 : Ref sig .tc := ⟨.hbm, 77, rfl⟩
abbrev main_cst_6 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_7 : Ref sig .tc := ⟨.hbm, 88, rfl⟩
abbrev main_v49 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_9 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩

abbrev nD : Nat := 1
abbrev τ : Topo := Topo.v7x

variable {F : FTy → Type} [FloatOps F]
-- ==== Adamw.lean ====
abbrev S144x1024 : Shape := ⟨2, ![144, 1024]⟩

abbrev nBuf : Space → Nat
  | .hbm => 7
  | .vmem => 7
  | .smem => 0
  | _ => 0

abbrev bufTy : (tb : Table) → Fin (tcTables nBuf tb) → BufTy
  | .hbm, ⟨0, _⟩ => ⟨S144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .local _ .vmem, ⟨0, _⟩ => ⟨S144x1024, .f32⟩
  | .local _ .vmem, ⟨1, _⟩ => ⟨S144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | _, _ => ⟨S144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRefIdeal.lean ====
abbrev S144x1024 : Shape := ⟨2, ![144, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S144x1024, .f32⟩
  | .hbm, ⟨7, _⟩ => ⟨S_, .f32⟩
  | .hbm, ⟨8, _⟩ => ⟨S144x1024, .f32⟩
  | .hbm, ⟨9, _⟩ => ⟨S144x1024, .f32⟩
  | .hbm, ⟨10, _⟩ => ⟨S144x1024, .f32⟩
  | .hbm, ⟨11, _⟩ => ⟨S_, .f32⟩
  | .hbm, ⟨12, _⟩ => ⟨S144x1024, .f32⟩
  | .hbm, ⟨13, _⟩ => ⟨S144x1024, .f32⟩
  | .hbm, ⟨14, _⟩ => ⟨S144x1024, .f32⟩
  | .hbm, ⟨15, _⟩ => ⟨S_, .f32⟩
  | .hbm, ⟨16, _⟩ => ⟨S144x1024, .f32⟩
  | .hbm, ⟨17, _⟩ => ⟨S144x1024, .f32⟩
  | .hbm, ⟨18, _⟩ => ⟨S144x1024, .f32⟩
  | .hbm, ⟨19, _⟩ => ⟨S_, .f32⟩
  | .hbm, ⟨20, _⟩ => ⟨S144x1024, .f32⟩
  | .hbm, ⟨21, _⟩ => ⟨S144x1024, .f32⟩
  | .hbm, ⟨22, _⟩ => ⟨S_, .f32⟩
  | .hbm, ⟨23, _⟩ => ⟨S144x1024, .f32⟩
  | .hbm, ⟨24, _⟩ => ⟨S144x1024, .f32⟩
  | .hbm, ⟨25, _⟩ => ⟨S144x1024, .f32⟩
  | .hbm, ⟨26, _⟩ => ⟨S_, .f32⟩
  | .hbm, ⟨27, _⟩ => ⟨S144x1024, .f32⟩
  | .hbm, ⟨28, _⟩ => ⟨S144x1024, .f32⟩
  | .hbm, ⟨29, _⟩ => ⟨S144x1024, .f32⟩
  | .hbm, ⟨30, _⟩ => ⟨S_, .f32⟩
  | .hbm, ⟨31, _⟩ => ⟨S144x1024, .f32⟩
  | .hbm, ⟨32, _⟩ => ⟨S144x1024, .f32⟩
  | .hbm, ⟨33, _⟩ => ⟨S144x1024, .f32⟩
  | .hbm, ⟨34, _⟩ => ⟨S_, .f32⟩
  | .hbm, ⟨35, _⟩ => ⟨S144x1024, .f32⟩
  | .hbm, ⟨36, _⟩ => ⟨S144x1024, .f32⟩
  | _, _ => ⟨S144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== TokenProduct.lean ====
abbrev S8192x2816 : Shape := ⟨2, ![8192, 2816]⟩
abbrev S8192x1024 : Shape := ⟨2, ![8192, 1024]⟩
abbrev S1x2816x1024 : Shape := ⟨3, ![1, 2816, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S1x2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== TokenProductRefIdeal.lean ====
abbrev S8192x2816 : Shape := ⟨2, ![8192, 2816]⟩
abbrev S8192x1024 : Shape := ⟨2, ![8192, 1024]⟩
abbrev S2816x1024 : Shape := ⟨2, ![2816, 1024]⟩
abbrev S1x2816x1024 : Shape := ⟨3, ![1, 2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S2816x1024, .f32⟩
  | .hbm, ⟨5, _⟩ => ⟨S1x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SumChips.lean ====
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumChipsRefIdeal.lean ====
abbrev S4x352x1024 : Shape := ⟨3, ![4, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .f32⟩
  | .hbm, ⟨2, _⟩ => ⟨S_, .f32⟩
  | .hbm, ⟨3, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnLocalFwd.lean ====
abbrev S8192x512 : Shape := ⟨2, ![8192, 512]⟩
abbrev S8192x128 : Shape := ⟨2, ![8192, 128]⟩
abbrev S128x2x4x64x64 : Shape := ⟨5, ![128, 2, 4, 64, 64]⟩
abbrev S2x8192x512 : Shape := ⟨3, ![2, 8192, 512]⟩
abbrev S128x8x128 : Shape := ⟨3, ![128, 8, 128]⟩
abbrev S256x512 : Shape := ⟨2, ![256, 512]⟩
abbrev S256x128 : Shape := ⟨2, ![256, 128]⟩
abbrev S4x2x4x64x64 : Shape := ⟨5, ![4, 2, 4, 64, 64]⟩
abbrev S2x256x512 : Shape := ⟨3, ![2, 256, 512]⟩
abbrev S4x8x128 : Shape := ⟨3, ![4, 8, 128]⟩
abbrev S64x64 : Shape := ⟨2, ![64, 64]⟩
abbrev S64x128 : Shape := ⟨2, ![64, 128]⟩
abbrev S128x64 : Shape := ⟨2, ![128, 64]⟩
abbrev S64x1 : Shape := ⟨2, ![64, 1]⟩
abbrev S1x64 : Shape := ⟨2, ![1, 64]⟩
abbrev S1x1 : Shape := ⟨2, ![1, 1]⟩
abbrev S1x1x1x64x64 : Shape := ⟨5, ![1, 1, 1, 64, 64]⟩
abbrev S1x64x128 : Shape := ⟨3, ![1, 64, 128]⟩
abbrev S1x128 : Shape := ⟨2, ![1, 128]⟩
abbrev S1x1x128 : Shape := ⟨3, ![1, 1, 128]⟩

abbrev nBuf : Space → Nat
  | .hbm => 11
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x128, .f32⟩
  | .hbm, ⟨4, _⟩ => ⟨S128x2x4x64x64, .f32⟩
  | .hbm, ⟨5, _⟩ => ⟨S2x8192x512, .bf16⟩
  | .hbm, ⟨6, _⟩ => ⟨S2x8192x512, .bf16⟩
  | .hbm, ⟨7, _⟩ => ⟨S2x8192x512, .bf16⟩
  | .hbm, ⟨8, _⟩ => ⟨S2x8192x512, .bf16⟩
  | .hbm, ⟨9, _⟩ => ⟨S128x2x4x64x64, .bf16⟩
  | .hbm, ⟨10, _⟩ => ⟨S128x8x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S4x2x4x64x64, .f32⟩
  | .local _ .vmem, ⟨9, _⟩ => ⟨S4x2x4x64x64, .f32⟩
  | .local _ .vmem, ⟨10, _⟩ => ⟨S2x256x512, .bf16⟩
  | .local _ .vmem, ⟨11, _⟩ => ⟨S2x256x512, .bf16⟩
  | .local _ .vmem, ⟨12, _⟩ => ⟨S2x256x512, .bf16⟩
  | .local _ .vmem, ⟨13, _⟩ => ⟨S2x256x512, .bf16⟩
  | .local _ .vmem, ⟨14, _⟩ => ⟨S2x256x512, .bf16⟩
  | .local _ .vmem, ⟨15, _⟩ => ⟨S2x256x512, .bf16⟩
  | .local _ .vmem, ⟨16, _⟩ => ⟨S2x256x512, .bf16⟩
  | .local _ .vmem, ⟨17, _⟩ => ⟨S2x256x512, .bf16⟩
  | .local _ .vmem, ⟨18, _⟩ => ⟨S4x2x4x64x64, .bf16⟩
  | .local _ .vmem, ⟨19, _⟩ => ⟨S4x2x4x64x64, .bf16⟩
  | .local _ .vmem, ⟨20, _⟩ => ⟨S4x8x128, .f32⟩
  | .local _ .vmem, ⟨21, _⟩ => ⟨S4x8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x2x4x64x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Proof.RgConv.Taps.lean ====
/- The mathematics of a four-tap convolution along the rows: shifted reads with zero outside the sequence, and the two
   ways of writing the filter's gradient. -/
module
public import Idealize.ShloMosaic.Lib.Pointwise

@[expose] public section

noncomputable section

namespace Cert.RgConv

/-- Row `n - 8` of `v`, zero outside the sequence: the sequence with eight zero rows before it and zeros after it. -/
def tap {C : ℕ} (v : Fin 8192 → Fin C → EReal) (n : ℕ) (l : Fin C) : EReal :=
  if h : 8 ≤ n ∧ n < 8200 then v ⟨n - 8, by omega⟩ l else 0

/-- Inside the sequence the shifted read is the row itself. -/
theorem tap_row {C : ℕ} (v : Fin 8192 → Fin C → EReal) (s : Fin 8192) (l : Fin C) : tap v (s + 8) l = v s l := by
  have := s.isLt
  rw [tap, dif_pos (by omega)]
  exact congrArg (v · l) (Fin.ext (by simp))

/-- The gradient of the convolution's input: each tap's weight times the output's gradient, shifted the other way. -/
def dx {C : ℕ} (w : Fin 4 → Fin C → EReal) (ct : Fin 8192 → Fin C → EReal) (s : Fin 8192) (l : Fin C) : EReal :=
  w 0 l * tap ct (s + 10) l + w 1 l * tap ct (s + 9) l + w 2 l * tap ct (s + 8) l + w 3 l * tap ct (s + 7) l

/-- The gradient of tap `j` of the filter, with the output's gradient shifted against the input. -/
def dw {C : ℕ} (x ct : Fin 8192 → Fin C → EReal) (j : ℕ) (l : Fin C) : EReal :=
  ∑ s : Fin 8192, tap ct (s + (10 - j)) l * x s l

/-- A sum over 8192 consecutive numbers of a function that vanishes off them is its sum over a longer range. -/
theorem sum_window (f : ℕ → EReal) (a : ℕ) (ha : a ≤ 20) (h0 : ∀ n, n < a ∨ a + 8192 ≤ n → f n = 0) :
    ∑ s : Fin 8192, f (s + a) = ∑ n ∈ Finset.range 8220, f n := by
  rw [Fin.sum_univ_eq_sum_range (fun s => f (s + a)) 8192]
  rw [show ∑ s ∈ Finset.range 8192, f (s + a) = ∑ n ∈ Finset.Ico a (a + 8192), f n by
    rw [Finset.sum_Ico_eq_sum_range, Nat.add_sub_cancel_left]
    exact Finset.sum_congr rfl fun s _ => by rw [Nat.add_comm]]
  refine Finset.sum_subset ?_ ?_
  · intro n hn; rw [Finset.mem_Ico] at hn; rw [Finset.mem_range]; omega
  · intro n _ hn; rw [Finset.mem_Ico] at hn; exact h0 n (by omega)

/-- The same gradient with the input shifted against the output's gradient. -/
theorem dw_eq {C : ℕ} (x ct : Fin 8192 → Fin C → EReal) (j : ℕ) (hj : j < 4) (l : Fin C) :
    dw x ct j l = ∑ s : Fin 8192, tap x (s + (6 + j)) l * ct s l := by
  have h1 := sum_window (fun n => tap ct n l * tap x (n + j - 2) l) (10 - j) (by omega) (fun n hn => by
    show tap ct n l * tap x (n + j - 2) l = 0
    rw [tap.eq_def x, dif_neg (by omega), mul_zero])
  have h2 := sum_window (fun n => tap ct n l * tap x (n + j - 2) l) 8 (by omega) (fun n hn => by
    show tap ct n l * tap x (n + j - 2) l = 0
    rw [tap.eq_def ct, dif_neg (by omega), zero_mul])
  rw [← h2] at h1
  unfold dw
  refine Eq.trans (Finset.sum_congr rfl fun s _ => ?_) (h1.trans (Finset.sum_congr rfl fun s _ => ?_))
  · show _ = tap ct _ l * tap x (s + (10 - j) + j - 2) l
    rw [show (s : ℕ) + (10 - j) + j - 2 = s + 8 by omega, tap_row]
  · show tap ct _ l * tap x (s + 8 + j - 2) l = _
    rw [tap_row, show (s : ℕ) + 8 + j - 2 = s + (6 + j) by omega, mul_comm]

end Cert.RgConv
-- ==== Proof.RgConv.Block.lean ====
/- One grid point of the convolution's gradient: the block of the output's gradient with its two neighbours is the
   shifted read of the whole sequence, and what the point writes to each output. -/
module
public import proofs.«01_k».proof.Proof.RgConv.Taps
public import proofs.«01_k».proof.Proof.Gen.RgConvBwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.RgConvBwdIdeal.Hand

open Cert.RgConv Cert.RgConvBwdIdeal Cert.RgConvBwdIdeal.Gen Idealize.ShloMosaic Idealize.ShloMosaic.TcCoe Idealize.SL.Sem
open Idealize.ShloMosaic.Pipeline (Dat)

variable (m : (ℓ : Loc nD τ sig) → Buf (Elt Ideal) ℓ)

/-- The layer's input, the output's gradient and the filter as functions of row and lane. -/
abbrev X (c : Dev nD) (s : Fin 8192) (l : Fin 512) : EReal := m ((c.tc : Thread nD τ).loc main_arg0) (ix2 s l)
abbrev CT (c : Dev nD) (s : Fin 8192) (l : Fin 512) : EReal := m ((c.tc : Thread nD τ).loc main_arg2) (ix2 s l)
abbrev W (c : Dev nD) (j : Fin 4) (l : Fin 512) : EReal := m ((c.tc : Thread nD τ).loc main_arg1) (ix2 j l)

theorem idx0 : ∀ t, win0_0.index t = ![t.val, 0] := (by decide +kernel : ∀ t : Fin grid0.N, _)
theorem idx1 : ∀ t, win0_1.index t = ![t.val, 0] := (by decide +kernel : ∀ t : Fin grid0.N, _)
theorem idx2 : ∀ t, win0_2.index t = ![64 * t.val - 1, 0] := (by decide +kernel : ∀ t : Fin grid0.N, _)
theorem idx3 : ∀ t, win0_3.index t = ![min (64 * t.val + 64) 1023, 0] := (by decide +kernel : ∀ t : Fin grid0.N, _)
theorem idx4 : ∀ t, win0_4.index t = ![0, 0] := (by decide +kernel : ∀ t : Fin grid0.N, _)
theorem idx5 : ∀ t, win0_5.index t = ![t.val, 0] := (by decide +kernel : ∀ t : Fin grid0.N, _)
theorem coord : ∀ t : Fin cfg0.N, ((grid0.coords t) 0).val = t.val := (by decide +kernel : ∀ t : Fin grid0.N, _)

theorem mask_lo : ∀ t, Scalar.cmpi .sgt (BitVec.ofNat 32 ((grid0.coords t) 0).val) 0#32 = if t.val = 0 then 0#1 else 1#1 :=
  (by decide +kernel : ∀ t : Fin grid0.N, _)
theorem mask_hi : ∀ t, Scalar.cmpi .slt (BitVec.ofNat 32 ((grid0.coords t) 0).val) 15#32 = if t.val = 15 then 0#1 else 1#1 :=
  (by decide +kernel : ∀ t : Fin grid0.N, _)

/-- The blocks a grid point reads: rows of the output's gradient, the eight rows before and after them, rows of the input, the filter. -/
theorem blk1 (c : Dev nD) (t : Fin cfg0.N) (r : Fin 512) (l : Fin 512) (s : Fin 8192) (hs : (s : ℕ) = 512 * t + r) :
    iblk m c 1 t (ix2 r l) = CT m c s l := by
  blk_point [iblk, V, idx1 t]
theorem blk2 (c : Dev nD) (t : Fin cfg0.N) (r : Fin 8) (l : Fin 512) (s : Fin 8192) (hs : (s : ℕ) = 8 * (64 * t - 1) + r) :
    iblk m c 2 t (ix2 r l) = CT m c s l := by
  blk_point [iblk, V, idx2 t]
theorem blk3 (c : Dev nD) (t : Fin cfg0.N) (r : Fin 8) (l : Fin 512) (s : Fin 8192) (hs : (s : ℕ) = 8 * min (64 * t.val + 64) 1023 + r) :
    iblk m c 3 t (ix2 r l) = CT m c s l := by
  blk_point [iblk, V, idx3 t]
theorem blk0 (c : Dev nD) (t : Fin cfg0.N) (r : Fin 512) (l : Fin 512) (s : Fin 8192) (hs : (s : ℕ) = 512 * t + r) :
    iblk m c 0 t (ix2 r l) = X m c s l := by
  blk_point [iblk, V, idx0 t]

/-- The three gradient blocks laid end to end are rows of the shifted read. -/
theorem pay6_at (c : Dev nD) (t : Fin cfg0.N) (n : Fin 528) (l : Fin 512) :
    k0_pay6 (F := Ideal) (grid0.coords t) (iblk m c 2 t) (iblk m c 1 t) (iblk m c 3 t) (ix2 n l) = tap (CT m c) (512 * t + n) l := by
  have ht : t.val < 16 := lt_of_lt_of_eq t.isLt N_0
  have hn := n.isLt
  pointwise [k0_pay6]
  simp only [mask_lo t, mask_hi t]
  unfold tap
  by_cases h0 : (n : ℕ) < 8
  · rw [dif_pos h0]
    by_cases h1 : (t : ℕ) = 0
    · rw [if_pos h1, dif_neg (by omega)]; rfl
    · rw [if_neg h1, dif_pos (by omega)]
      exact blk2 m c t _ l _ (by show 512 * (t : ℕ) + n - 8 = 8 * (64 * t - 1) + n; omega)
  rw [dif_neg h0]
  by_cases h2 : (n : ℕ) - 8 < 512
  · rw [dif_pos h2, dif_pos (by omega)]
    exact blk1 m c t _ l _ (by show 512 * (t : ℕ) + n - 8 = 512 * t + (n - 8); omega)
  · rw [dif_neg h2]
    by_cases h1 : (t : ℕ) = 15
    · rw [if_pos h1, dif_neg (by omega)]; rfl
    · rw [if_neg h1, dif_pos (by omega)]
      exact blk3 m c t _ l _ (by show 512 * (t : ℕ) + n - 8 = 8 * min (64 * t.val + 64) 1023 + (n - 8 - 512); omega)

/-- What a grid point adds to row `j` of the filter's gradient. -/
def part (c : Dev nD) (t : ℕ) (j : ℕ) (l : Fin 512) : EReal :=
  ∑ k : Fin 512, tap (CT m c) (512 * t + k + (10 - j)) l * tap (X m c) (512 * t + k + 8) l

theorem row0 (c : Dev nD) (t : Fin cfg0.N) (a : Vec Ideal S1x512 .f32) (l : Fin 512) :
    k0_pay9 (F := Ideal) (grid0.coords t) (iblk m c 2 t) (iblk m c 1 t) (iblk m c 3 t) (iblk m c 0 t) a (ix2 0 l) = a (ix2 0 l) + part m c t 0 l := by
  have ht : t.val < 16 := lt_of_lt_of_eq t.isLt N_0
  pointwise [k0_pay9, k0_pay7]
  refine congrArg (a (ix2 0 l) + ·) (Finset.sum_congr rfl fun k _ => ?_)
  have hk := k.isLt
  rw [pay6_at, blk0 m c t k l ⟨512 * t + k, by omega⟩ rfl, ← tap_row (X m c)]
  refine congrArg (tap _ · l * _) ?_
  show 512 * (t : ℕ) + (8 + k + 528 - 526) % 528 = 512 * t + k + (10 - 0)
  omega

theorem row1 (c : Dev nD) (t : Fin cfg0.N) (a : Vec Ideal S1x512 .f32) (l : Fin 512) :
    k0_pay11 (F := Ideal) (k0_pay6 (grid0.coords t) (iblk m c 2 t) (iblk m c 1 t) (iblk m c 3 t)) (iblk m c 0 t) 527#32 a (ix2 0 l) = a (ix2 0 l) + part m c t 1 l := by
  have ht : t.val < 16 := lt_of_lt_of_eq t.isLt N_0
  pointwise [k0_pay11, k0_pay10]
  refine congrArg (a (ix2 0 l) + ·) (Finset.sum_congr rfl fun k _ => ?_)
  have hk := k.isLt
  rw [pay6_at, blk0 m c t k l ⟨512 * t + k, by omega⟩ rfl, ← tap_row (X m c)]
  refine congrArg (tap _ · l * _) ?_
  show 512 * (t : ℕ) + (8 + k + 528 - 527) % 528 = 512 * t + k + (10 - 1)
  omega

theorem row2 (c : Dev nD) (t : Fin cfg0.N) (a : Vec Ideal S1x512 .f32) (l : Fin 512) :
    k0_pay13 (F := Ideal) (k0_pay6 (grid0.coords t) (iblk m c 2 t) (iblk m c 1 t) (iblk m c 3 t)) (iblk m c 0 t) a (ix2 0 l) = a (ix2 0 l) + part m c t 2 l := by
  have ht : t.val < 16 := lt_of_lt_of_eq t.isLt N_0
  pointwise [k0_pay13, k0_pay12]
  refine congrArg (a (ix2 0 l) + ·) (Finset.sum_congr rfl fun k _ => ?_)
  have hk := k.isLt
  rw [pay6_at, blk0 m c t k l ⟨512 * t + k, by omega⟩ rfl, ← tap_row (X m c)]
  refine congrArg (tap _ · l * _) ?_
  show 512 * (t : ℕ) + (8 + k) = 512 * t + k + (10 - 2)
  omega

theorem row3 (c : Dev nD) (t : Fin cfg0.N) (a : Vec Ideal S1x512 .f32) (l : Fin 512) :
    k0_pay1 (F := Ideal) (k0_pay16 a) (k0_pay17 (k0_pay6 (grid0.coords t) (iblk m c 2 t) (iblk m c 1 t) (iblk m c 3 t)) (iblk m c 0 t)) (ix2 0 l) = a (ix2 0 l) + part m c t 3 l := by
  have ht : t.val < 16 := lt_of_lt_of_eq t.isLt N_0
  pointwise [k0_pay1, k0_pay16, k0_pay17, k0_pay14]
  refine congrArg (a (ix2 0 l) + ·) (Finset.sum_congr rfl fun k _ => ?_)
  have hk := k.isLt
  rw [pay6_at, blk0 m c t k l ⟨512 * t + k, by omega⟩ rfl, ← tap_row (X m c)]
  refine congrArg (tap _ · l * _) ?_
  show 512 * (t : ℕ) + (8 + k + 528 - 1) % 528 = 512 * t + k + (10 - 3)
  omega

/-- The four rows a grid point stores over contents `acc`: each row is the old one plus the point's part, the other rows stay. -/
theorem rows_at (c : Dev nD) (t : Fin cfg0.N) {κ : Kind} {sp : Space} (v : View sig κ sp S8x512 .f32) (f : v.ty.Contents (Elt Ideal)) (acc : Vec Ideal S8x512 .f32)
    (L : List (View.Piece (Elt Ideal) S8x512 .f32)) (hf : v.read (Elt Ideal) (v.writes (Elt Ideal) f L) = acc) (j0 : Fin 8) (j1 : Fin 512) :
    v.read (Elt Ideal) (v.writes (Elt Ideal) f
        (⟨Rect.unit ![3, 0] ![1, 512] inb_S8x512_S1x512_3_0,
            k0_pay1 (k0_pay16 (View.ld acc (Rect.unit ![3, 0] ![1, 512] inb_S8x512_S1x512_3_0)))
              (k0_pay17 (k0_pay6 (grid0.coords t) (iblk m c 2 t) (iblk m c 1 t) (iblk m c 3 t)) (iblk m c 0 t))⟩ ::
          ⟨Rect.unit ![2, 0] ![1, 512] inb_S8x512_S1x512_2_0,
            k0_pay13 (k0_pay6 (grid0.coords t) (iblk m c 2 t) (iblk m c 1 t) (iblk m c 3 t)) (iblk m c 0 t)
              (View.ld acc (Rect.unit ![2, 0] ![1, 512] inb_S8x512_S1x512_2_0))⟩ ::
          ⟨Rect.unit ![1, 0] ![1, 512] inb_S8x512_S1x512_1_0,
            k0_pay11 (k0_pay6 (grid0.coords t) (iblk m c 2 t) (iblk m c 1 t) (iblk m c 3 t)) (iblk m c 0 t) (527#32)
              (View.ld acc (Rect.unit ![1, 0] ![1, 512] inb_S8x512_S1x512_1_0))⟩ ::
          ⟨Rect.unit ![0, 0] ![1, 512] inb_S8x512_S1x512_0_0,
            k0_pay9 (grid0.coords t) (iblk m c 2 t) (iblk m c 1 t) (iblk m c 3 t) (iblk m c 0 t)
              (View.ld acc (Rect.unit ![0, 0] ![1, 512] inb_S8x512_S1x512_0_0))⟩ :: L)) (ix2 j0 j1)
      = acc (ix2 j0 j1) + if (j0 : ℕ) < 4 then part m c t j0 j1 else 0 := by
  have h8 := j0.isLt
  have hl : ∀ (o : ℕ) (ho : ∀ a, ![o, 0] a + ![1, 512] a ≤ S8x512.size a), (j0 : ℕ) = o →
      View.ld acc (Rect.unit ![o, 0] ![1, 512] ho) (ix2 (0 : Fin 1) j1) = acc (ix2 j0 j1) := by
    intro o ho h
    subst h
    refine congrArg acc (funext fun a => ?_)
    fin_cases a <;> exact Fin.ext (by simp [Rect.unit])
  by_cases h3 : (j0 : ℕ) = 3
  · rw [View.read_writes_cons_rows_of_mem v f inb_S8x512_S1x512_3_0 _ _ (ix2 j0 j1) (ix2 (0 : Fin 1) j1) rfl h3 rfl, row3 m c t, if_pos (by show (j0 : ℕ) < 4; omega), ← hl 3 inb_S8x512_S1x512_3_0 h3]
    exact congrArg (_ + part m c t · _) h3.symm
  rw [View.read_writes_cons_rows_of_not_mem v f inb_S8x512_S1x512_3_0 _ _ (ix2 j0 j1) rfl (W := 1) rfl (by show (j0 : ℕ) < 3 ∨ 3 + 1 ≤ (j0 : ℕ); omega)]
  by_cases h2 : (j0 : ℕ) = 2
  · rw [View.read_writes_cons_rows_of_mem v f inb_S8x512_S1x512_2_0 _ _ (ix2 j0 j1) (ix2 (0 : Fin 1) j1) rfl h2 rfl, row2 m c t, if_pos (by show (j0 : ℕ) < 4; omega), ← hl 2 inb_S8x512_S1x512_2_0 h2]
    exact congrArg (_ + part m c t · _) h2.symm
  rw [View.read_writes_cons_rows_of_not_mem v f inb_S8x512_S1x512_2_0 _ _ (ix2 j0 j1) rfl (W := 1) rfl (by show (j0 : ℕ) < 2 ∨ 2 + 1 ≤ (j0 : ℕ); omega)]
  by_cases h1 : (j0 : ℕ) = 1
  · rw [View.read_writes_cons_rows_of_mem v f inb_S8x512_S1x512_1_0 _ _ (ix2 j0 j1) (ix2 (0 : Fin 1) j1) rfl h1 rfl, row1 m c t, if_pos (by show (j0 : ℕ) < 4; omega), ← hl 1 inb_S8x512_S1x512_1_0 h1]
    exact congrArg (_ + part m c t · _) h1.symm
  rw [View.read_writes_cons_rows_of_not_mem v f inb_S8x512_S1x512_1_0 _ _ (ix2 j0 j1) rfl (W := 1) rfl (by show (j0 : ℕ) < 1 ∨ 1 + 1 ≤ (j0 : ℕ); omega)]
  by_cases h0 : (j0 : ℕ) = 0
  · rw [View.read_writes_cons_rows_of_mem v f inb_S8x512_S1x512_0_0 _ _ (ix2 j0 j1) (ix2 (0 : Fin 1) j1) rfl h0 rfl, row0 m c t, if_pos (by show (j0 : ℕ) < 4; omega), ← hl 0 inb_S8x512_S1x512_0_0 h0]
    exact congrArg (_ + part m c t · _) h0.symm
  rw [View.read_writes_cons_rows_of_not_mem v f inb_S8x512_S1x512_0_0 _ _ (ix2 j0 j1) rfl (W := 1) rfl (by show (j0 : ℕ) < 0 ∨ 0 + 1 ≤ (j0 : ℕ); omega)]
  rw [if_neg (by show ¬ (j0 : ℕ) < 4; omega), add_zero]
  exact congrFun hf _

/-- A grid point after the first adds its part to the filter's gradient. -/
theorem dw_step (c : Dev nD) (t : Fin cfg0.N) (h : ¬ t.val % 16 = 0) (j0 : Fin 8) (j1 : Fin 512) :
    (outsAt0 m c t.val t.isLt).2.1 (ix2 j0 j1)
      = (outsAt0 m c (t.val - 1) (Nat.lt_of_le_of_lt (Nat.sub_le _ _) t.isLt)).2.1 (ix2 j0 j1) + if (j0 : ℕ) < 4 then part m c t j0 j1 else 0 := by
  rw [outsAt0_B m c t h]
  frame_open
  simp (disch := decide) only [↓ View.readCov_skip, ↓ View.readCov_cons_toLoadRect, ↓ View.readCov_fill]
  frame_out
  exact rows_at m c t _ _ _ [] ((hs0_6 t).read_unread _) j0 j1

/-- The first grid point starts the filter's gradient from zero. -/
theorem dw_first (c : Dev nD) (t : Fin cfg0.N) (h : t.val % 16 = 0) (j0 : Fin 8) (j1 : Fin 512) :
    (outsAt0 m c t.val t.isLt).2.1 (ix2 j0 j1) = 0 + if (j0 : ℕ) < 4 then part m c t j0 j1 else 0 := by
  rw [outsAt0_A m c t h]
  frame_open
  simp (disch := decide) only [↓ View.readCov_skip, ↓ View.readCov_cons_toLoadRect, ↓ View.readCov_fill]
  frame_out
  rw [← View.read_writes_junk_eq_canon (ms0_6 t).view]
  have hz : View.read (Elt Ideal) (ms0_6 t).view ((ms0_6 t).view.writes (Elt Ideal) (ms0_6 t).view.junk
      [⟨Rect.unit ![0, 0] ![8, 512] inb_S8x512_S8x512_0_0, k0_pay4 (F := Ideal)⟩]) = k0_pay4 (F := Ideal) := by
    rw [View.read_writes_junk_eq_canon, View.canon_cons_unit_lit]
    decide
  rw [rows_at m c t (ms0_6 t).view (ms0_6 t).view.junk (k0_pay4 (F := Ideal)) [⟨Rect.unit ![0, 0] ![8, 512] inb_S8x512_S8x512_0_0, k0_pay4 (F := Ideal)⟩] hz j0 j1]
  refine congrArg (· + _) ?_
  pointwise [k0_pay4]

/-- The filter with four rows after it, at a row of the filter. -/
theorem pad_at (w : FVec Ideal S4x512 .f32) (z : FVec Ideal S_ .f32) (j : Fin 8) (h : (j : ℕ) < 4) (l : Fin 512) :
    pad S8x512 ![0, 0] ![4, 0] ![0, 0] w z pads_S4x512_S8x512_040_000 h_S_ (ix2 j l) = w (ix2 ⟨j, h⟩ l) := by
  pointwise []
  rw [dif_pos h]

/-- The padded filter the region is entered with. -/
theorem V_filter (c : Dev nD) (j : Fin 8) (h : (j : ℕ) < 4) (l : Fin 512) : V m c main_v0 (ix2 j l) = W m c ⟨j, h⟩ l := by
  simp only [V, hostOps0, hostOps0_1, List.flatten_cons, List.flatten_nil, List.append_nil, List.cons_append, List.nil_append]
  after_results
  exact pad_at (m (c, Proc.tc.devRef main_arg1)) _ j h l

/-- The filter block is the filter with four rows of zeros after it. -/
theorem blk4 (c : Dev nD) (t : Fin cfg0.N) (o : ℕ) (ho : ∀ a, ![o, 0] a + ![1, 512] a ≤ S8x512.size a) (j : Fin 4) (hj : (j : ℕ) = o) (l : Fin 512) :
    View.ld (iblk m c 4 t) (Rect.unit ![o, 0] ![1, 512] ho) (ix2 0 l) = W m c j l := by
  subst hj
  have hj := j.isLt
  have e : View.ld (iblk m c 4 t) (Rect.unit ![(j : ℕ), 0] ![1, 512] ho) (ix2 0 l) = V m c main_v0 (ix2 ⟨j, by omega⟩ l) := by
    blk_point [iblk, idx4 t]
  exact e.trans (V_filter m c _ hj l)

/-- The payload of the input's gradient, entry by entry. -/
theorem dx_pay (c : Dev nD) (t : Fin cfg0.N) (k l : Fin 512) (s : Fin 8192) (hs : (s : ℕ) = 512 * t + k) :
    k0_pay2
      (k0_pay15 (k0_pay6 (grid0.coords t) (iblk m c 2 t) (iblk m c 1 t) (iblk m c 3 t))
        (k0_pay8 (grid0.coords t) (iblk m c 2 t) (iblk m c 1 t) (iblk m c 3 t)
          (View.ld (iblk m c 4 t) (Rect.unit ![0, 0] ![1, 512] inb_S8x512_S1x512_0_0)))
        (527#32) (View.ld (iblk m c 4 t) (Rect.unit ![1, 0] ![1, 512] inb_S8x512_S1x512_1_0))
        (View.ld (iblk m c 4 t) (Rect.unit ![2, 0] ![1, 512] inb_S8x512_S1x512_2_0))
        (View.ld (iblk m c 4 t) (Rect.unit ![3, 0] ![1, 512] inb_S8x512_S1x512_3_0)))
      (ix2 k l) =
    dx (W m c) (CT m c) s l := by
  have hk := k.isLt
  have h0 := blk4 m c t 0 inb_S8x512_S1x512_0_0 0 rfl l
  have h1 := blk4 m c t 1 inb_S8x512_S1x512_1_0 1 rfl l
  have h2 := blk4 m c t 2 inb_S8x512_S1x512_2_0 2 rfl l
  have h3 := blk4 m c t 3 inb_S8x512_S1x512_3_0 3 rfl l
  revert h0 h1 h2 h3
  generalize View.ld (iblk m c 4 t) (Rect.unit ![0, 0] ![1, 512] inb_S8x512_S1x512_0_0) = a0
  generalize View.ld (iblk m c 4 t) (Rect.unit ![1, 0] ![1, 512] inb_S8x512_S1x512_1_0) = a1
  generalize View.ld (iblk m c 4 t) (Rect.unit ![2, 0] ![1, 512] inb_S8x512_S1x512_2_0) = a2
  generalize View.ld (iblk m c 4 t) (Rect.unit ![3, 0] ![1, 512] inb_S8x512_S1x512_3_0) = a3
  intro h0 h1 h2 h3
  pointwise [k0_pay2, k0_pay15, k0_pay8, k0_pay7, k0_pay10, k0_pay12, k0_pay14]
  simp only [pay6_at, h0, h1, h2, h3, dx]
  rw [show 512 * (t : ℕ) + (8 + k + 528 - 526) % 528 = s + 10 by omega, show 512 * (t : ℕ) + (8 + k + 528 - 527) % 528 = s + 9 by omega,
    show 512 * (t : ℕ) + (8 + k) = s + 8 by omega, show 512 * (t : ℕ) + (8 + k + 528 - 1) % 528 = s + 7 by omega]

/-- A grid point's rows of the input's gradient. -/
theorem dx_point (c : Dev nD) (t : Fin cfg0.N) (k l : Fin 512) (s : Fin 8192) (hs : (s : ℕ) = 512 * t + k) :
    (outsAt0 m c t.val t.isLt).1 (ix2 k l) = dx (W m c) (CT m c) s l := by
  by_cases h : t.val % 16 = 0
  · rw [outsAt0_A m c t h]
    frame_open
    simp (disch := decide) only [↓ View.readCov_skip, ↓ View.readCov_cons_toLoadRect, ↓ View.readCov_fill]
    frame_out
    exact dx_pay m c t k l s hs
  · rw [outsAt0_B m c t h]
    frame_open
    simp (disch := decide) only [↓ View.readCov_skip, ↓ View.readCov_cons_toLoadRect, ↓ View.readCov_fill]
    frame_out
    exact dx_pay m c t k l s hs

/-- A row of the gradient block, as a shifted read. -/
theorem ct_row (c : Dev nD) (t : Fin cfg0.N) (k l : Fin 512) : iblk m c 1 t (ix2 k l) = tap (CT m c) (512 * t + k + 8) l := by
  have ht : t.val < 16 := lt_of_lt_of_eq t.isLt N_0
  have hk := k.isLt
  rw [blk1 m c t k l ⟨512 * t + k, by omega⟩ rfl, ← tap_row (CT m c)]

/-- A grid point after the first adds its rows to the running sum. -/
theorem db_step (c : Dev nD) (t : Fin cfg0.N) (h : ¬ t.val % 16 = 0) (j : Fin 1) (l : Fin 512) :
    (outsAt0 m c t.val t.isLt).2.2 (ix2 j l)
      = (outsAt0 m c (t.val - 1) (Nat.lt_of_le_of_lt (Nat.sub_le _ _) t.isLt)).2.2 (ix2 j l) + ∑ k : Fin 512, tap (CT m c) (512 * t + k + 8) l := by
  obtain rfl : j = 0 := Subsingleton.elim _ _
  rw [outsAt0_B m c t h]
  frame_open
  simp (disch := decide) only [↓ View.readCov_skip, ↓ View.readCov_cons_toLoadRect, ↓ View.readCov_fill]
  frame_out
  pointwise [k0_pay3]
  exact congrArg (_ + ·) (Finset.sum_congr rfl fun k _ => ct_row m c t k l)

/-- The first grid point starts the sum from zero. -/
theorem db_first (c : Dev nD) (t : Fin cfg0.N) (h : t.val % 16 = 0) (j : Fin 1) (l : Fin 512) :
    (outsAt0 m c t.val t.isLt).2.2 (ix2 j l) = 0 + ∑ k : Fin 512, tap (CT m c) (512 * t + k + 8) l := by
  obtain rfl : j = 0 := Subsingleton.elim _ _
  rw [outsAt0_A m c t h]
  frame_open
  simp (disch := decide) only [↓ View.readCov_skip, ↓ View.readCov_cons_toLoadRect, ↓ View.readCov_fill]
  frame_out
  pointwise [k0_pay3, k0_pay5]
  exact Finset.sum_congr rfl fun k _ => ct_row m c t k l

end Cert.RgConvBwdIdeal.Hand
-- ==== Proof.RgConv.Array.lean ====
/- The three result arrays of the convolution's gradient kernel. -/
module
public import proofs.«01_k».proof.Proof.RgConv.Block

@[expose] public section

set_option maxRecDepth 16384

noncomputable section

namespace Cert.RgConvBwdIdeal.Hand

open Cert.RgConv Cert.RgConvBwdIdeal Cert.RgConvBwdIdeal.Gen Idealize.ShloMosaic Idealize.ShloMosaic.TcCoe Idealize.SL.Sem
open Idealize.ShloMosaic.Pipeline (Dat)

variable (m : (ℓ : Loc nD τ sig) → Buf (Elt Ideal) ℓ)

/-- The points' parts of a filter row are the whole sum. -/
theorem part_sum (c : Dev nD) (j : ℕ) (l : Fin 512) : ∑ t : Fin cfg0.N, part m c t j l = dw (X m c) (CT m c) j l := by
  unfold part dw
  refine Fin.sum_mul_add_congr fun t k hl => ?_
  have e : tap (X m c) (512 * t + k + 8) l = X m c ⟨t * 512 + k, hl⟩ l := by
    rw [← tap_row (X m c)]; exact congrArg (tap _ · l) (by show 512 * (t : ℕ) + k + 8 = t * 512 + k + 8; omega)
  rw [e]
  exact congrArg (tap (CT m c) · l * _) (by show 512 * (t : ℕ) + k + (10 - j) = t * 512 + k + (10 - j); omega)

/-- The array of the filter's gradient. -/
theorem final_dw (c : Dev nD) : (dats m 0 c).arrAt 6 (cfgs 0).N
    = fun i : S8x512.Idx => if (i 0 : ℕ) < 4 then dw (X m c) (CT m c) (i 0) (i 1) else 0 := by
  refine (dats m 0 c).arrAt_eq_of_after_last 6 t0_15 (by decide +kernel) _ fun j => ?_
  blk_simp
  idx_vars j
  rw [after0_6, Pipeline.eq_sum_fin_of_reset_step_apply_last (fun n h (i : Fin 8 × Fin 512) => (outsAt0 m c n h).2.1 (ix2 i.1 i.2)) 16 (fun _ => 0)
    (fun t i => if (i.1 : ℕ) < 4 then part m c t i.1 i.2 else 0)
    (fun t h i => dw_first m c t h i.1 i.2) (fun t h i => dw_step m c t h i.1 i.2) (le_of_eq N_0) t0_15 rfl (j0, j1), zero_add]
  by_cases h4 : (j0 : ℕ) < 4
  · simp only [if_pos h4]
    exact (part_sum m c j0 j1).trans (if_pos h4).symm
  · simp only [if_neg h4]
    exact (Finset.sum_const_zero (M := EReal)).trans (if_neg h4).symm

/-- The array of the gradient's sum over the rows. -/
theorem final_db (c : Dev nD) : (dats m 0 c).arrAt 7 (cfgs 0).N = fun i : S1x512.Idx => ∑ s : Fin 8192, CT m c s (i 1) := by
  refine (dats m 0 c).arrAt_eq_of_after_last 7 t0_15 (by decide +kernel) _ fun j => ?_
  blk_simp
  idx_vars j
  rw [after0_7, Pipeline.eq_sum_fin_of_reset_step_apply_last (fun n h (i : Fin 1 × Fin 512) => (outsAt0 m c n h).2.2 (ix2 i.1 i.2)) 16 (fun _ => 0)
    (fun t i => ∑ k : Fin 512, tap (CT m c) (512 * t + k + 8) i.2)
    (fun t h i => db_first m c t h i.1 i.2) (fun t h i => db_step m c t h i.1 i.2) (le_of_eq N_0) t0_15 rfl (j0, j1), zero_add]
  refine Fin.sum_mul_add_congr fun t k hl => ?_
  rw [← tap_row (CT m c)]
  exact congrArg (tap (CT m c) · j1) (by show 512 * (t : ℕ) + k + 8 = t * 512 + k + 8; omega)

/-- The array of the input's gradient. -/
theorem final_dx (c : Dev nD) : (dats m 0 c).arrAt 5 (cfgs 0).N = fun i : S8192x512.Idx => dx (W m c) (CT m c) (i 0) (i 1) := by
  refine (dats m 0 c).arrAt_eq_of_covers 5 _ (by decide +kernel) fun t hf y => ?_
  have ht : t.val < 16 := lt_of_lt_of_eq t.isLt N_0
  idx_vars y
  blk_simp
  rw [after0_5]
  have e1 : (win0_5.blk t).view.emb (ix2 y0 y1) 1 = y1 := Fin.ext (by blk_simp [idx5 t])
  rw [e1]
  exact dx_point m c t y0 y1 _ (by blk_simp [idx5 t]; omega)

end Cert.RgConvBwdIdeal.Hand
-- ==== Proof.RgConv.Ref.lean ====
/- The reference's three results, index by index: the convolution's input gradient, its filter gradient and the sum of
   the output's gradient over the rows. -/
module
public import proofs.«01_k».proof.Proof.RgConv.Taps
public import proofs.«01_k».proof.Proof.Gen.RgConvRefIdeal.Read
public import Idealize.ShloMosaic.Lib.Pipeline.ValueKit

@[expose] public section

set_option maxRecDepth 16384

noncomputable section

namespace Cert.RgConvRefIdeal.Hand

open Cert.RgConv Cert.RgConvRefIdeal Cert.RgConvRefIdeal.Gen Cert.RgConvRefIdeal.Read Idealize.ShloMosaic Idealize.ShloMosaic.TcCoe Idealize.SL.Sem

variable (x ct : (⟨S8192x512, .f32⟩ : BufTy).Contents (Elt Ideal)) (w : (⟨S4x512, .f32⟩ : BufTy).Contents (Elt Ideal))

/-- The input's gradient. -/
theorem dx_at (s : Fin 8192) (l : Fin 512) :
    val_main_v85 (F := Ideal) w ct (ix2 s l) = dx (fun j l => w (ix2 j l)) (fun s l => ct (ix2 s l)) s l := by
  rw [val_main_v85_apply, val_main_v83_apply, val_main_v81_apply, val_main_v70_apply, val_main_v59_apply]
  pointwise [val_main_v48, val_main_v58, val_main_v69, val_main_v80, val_main_v44, val_main_v53, val_main_v64, val_main_v75, val_main_v37,
    val_main_v43, val_main_v52, val_main_v63, val_main_v74, val_main_cst_9, val_main_cst_17, val_main_cst_21,
    val_main_v31, val_main_v24, val_main_v17, val_main_v10, val_main_v30, val_main_v23, val_main_v16, val_main_v9, val_main_v29, val_main_v22, val_main_v15, val_main_v8, val_main_v7]
  have hs := s.isLt
  have e0 : (if h : 2 + (s : ℕ) < 8192 then ct (ix2 ⟨2 + s, h⟩ l) * w (ix2 0 l) else 0) = w (ix2 0 l) * tap (fun s l => ct (ix2 s l)) (s + 10) l := by
    unfold tap
    by_cases h : 2 + (s : ℕ) < 8192
    · rw [dif_pos h, dif_pos (by omega), mul_comm]
      exact congrArg (fun a => w (ix2 0 l) * ct (ix2 a l)) (Fin.ext (by show 2 + (s : ℕ) = s + 10 - 8; omega))
    · rw [dif_neg h, dif_neg (by omega), mul_zero]
  have e1 : (if h : 1 ≤ 2 + (s : ℕ) ∧ 2 + (s : ℕ) - 1 < 8192 then ct (ix2 ⟨2 + s - 1, h.2⟩ l) * w (ix2 1 l) else 0) = w (ix2 1 l) * tap (fun s l => ct (ix2 s l)) (s + 9) l := by
    unfold tap
    by_cases h : 1 ≤ 2 + (s : ℕ) ∧ 2 + (s : ℕ) - 1 < 8192
    · rw [dif_pos h, dif_pos (by omega), mul_comm]
      exact congrArg (fun a => w (ix2 1 l) * ct (ix2 a l)) (Fin.ext (by show 2 + (s : ℕ) - 1 = s + 9 - 8; omega))
    · rw [dif_neg h, dif_neg (by omega), mul_zero]
  have e3 : (if h : 3 ≤ 2 + (s : ℕ) ∧ 2 + (s : ℕ) - 3 < 8192 then ct (ix2 ⟨2 + s - 3, h.2⟩ l) * w (ix2 3 l) else 0) = w (ix2 3 l) * tap (fun s l => ct (ix2 s l)) (s + 7) l := by
    unfold tap
    by_cases h : 3 ≤ 2 + (s : ℕ) ∧ 2 + (s : ℕ) - 3 < 8192
    · rw [dif_pos h, dif_pos (by omega), mul_comm]
      exact congrArg (fun a => w (ix2 3 l) * ct (ix2 a l)) (Fin.ext (by show 2 + (s : ℕ) - 3 = s + 7 - 8; omega))
    · rw [dif_neg h, dif_neg (by omega), mul_zero]
  have e2 : ct (ix2 s l) * w (ix2 2 l) = w (ix2 2 l) * tap (fun s l => ct (ix2 s l)) (s + 8) l := by rw [tap_row, mul_comm]
  simp only [dx]
  rw [← e0, ← e1, ← e2, ← e3]
  show (_ : EReal) = _
  abel

/-- The padded input of the reference is the shifted read. -/
theorem xp_at (n : Fin 8195) (l : Fin 512) : val_main_v3 (F := Ideal) x (ix2 n l) = tap (fun s l => x (ix2 s l)) (n + 6) l := by
  pointwise [val_main_v3, val_main_v1, val_main_v2, val_main_cst_0, val_main_cst_1]
  have hn := n.isLt
  unfold tap
  by_cases h0 : (n : ℕ) < 2
  · rw [dif_pos h0, dif_neg (by omega)]
  rw [dif_neg h0]
  by_cases h1 : (n : ℕ) - 2 < 8192
  · rw [dif_pos h1, dif_pos (by omega)]; congr 1
  · rw [dif_neg h1, dif_neg (by omega)]

/-- One row of the reference's filter gradient: the padded input, shifted by `j`, times the output's gradient. -/
theorem row_at (l : Fin 512) :
    val_main_v72 (F := Ideal) x ct (ix1 l) = dw (fun s l => x (ix2 s l)) (fun s l => ct (ix2 s l)) 0 l ∧
    val_main_v61 (F := Ideal) x ct (ix1 l) = dw (fun s l => x (ix2 s l)) (fun s l => ct (ix2 s l)) 1 l ∧
    val_main_v50 (F := Ideal) x ct (ix1 l) = dw (fun s l => x (ix2 s l)) (fun s l => ct (ix2 s l)) 2 l ∧
    val_main_v41 (F := Ideal) x ct (ix1 l) = dw (fun s l => x (ix2 s l)) (fun s l => ct (ix2 s l)) 3 l := by
  refine ⟨?_, ?_, ?_, ?_⟩
  all_goals
    rw [dw_eq _ _ _ (by omega)]
    pointwise [val_main_v72, val_main_v61, val_main_v50, val_main_v41, val_main_v71, val_main_v60, val_main_v49, val_main_v40,
      val_main_v6, val_main_v14, val_main_v21, val_main_v28, val_main_v37, xp_at, val_main_cst_18, val_main_cst_14, val_main_cst_10, val_main_cst_6]
    try exact Finset.sum_congr rfl fun s _ => by congr 2; omega

/-- The filter's gradient, four rows of zeros after it. -/
theorem dw_at (j : Fin 8) (l : Fin 512) :
    val_main_v86 (F := Ideal) x ct (ix2 j l) = if (j : ℕ) < 4 then dw (fun s l => x (ix2 s l)) (fun s l => ct (ix2 s l)) j l else 0 := by
  pointwise [val_main_v86, val_main_v79, val_main_v68, val_main_v57, val_main_v47, val_main_v56, val_main_v67, val_main_v78, val_main_v46,
    val_main_v45, val_main_v55, val_main_v66, val_main_v77, val_main_v54, val_main_v65, val_main_v76,
    val_main_v51, val_main_v62, val_main_v73, val_main_cst_11, val_main_cst_15, val_main_cst_19, val_main_cst_7,
    val_main_cst_8, val_main_cst_12, val_main_cst_16, val_main_cst_20, val_main_call0_v0, val_main_c, val_main_v42, row_at x ct]
  by_cases h4 : (j : ℕ) < 4
  · rw [dif_pos h4, if_pos h4]
    obtain h | h | h | h : (j : ℕ) = 0 ∨ (j : ℕ) = 1 ∨ (j : ℕ) = 2 ∨ (j : ℕ) = 3 := by omega
    all_goals simp [h]
  · rw [dif_neg h4, if_neg h4]
    rw [show FloatOps.sitofp (F := Ideal) FTy.f32 0#32 = ((((0#32 : BitVec 32).toInt : ℤ) : ℝ) : EReal) from rfl]
    simp

/-- The output's gradient summed over the rows. -/
theorem db_at (j : Fin 1) (l : Fin 512) : val_main_v39 (F := Ideal) ct (ix2 j l) = ∑ s : Fin 8192, ct (ix2 s l) := by
  pointwise [val_main_v39, val_main_v38, val_main_cst_5]

end Cert.RgConvRefIdeal.Hand
-- ==== Proof.RgConv.Claim.lean ====
/- The convolution's gradient: the kernel computes the derivative of the centred four-tap convolution. -/
module
public import proofs.«01_k».proof.Proof.RgConv.Array
public import proofs.«01_k».proof.Proof.RgConv.Ref
public import proofs.«01_k».proof.Proof.Gen.RgConvBwd.Frame
public import proofs.«01_k».proof.Defs

@[expose] public section

set_option maxRecDepth 16384

noncomputable section

namespace Cert.RgConv

open Idealize.ShloMosaic Idealize.ShloMosaic.TcCoe Idealize.SL.Sem

/-- The reference runs to the end and leaves its arguments unchanged. -/
theorem frame_ref : Cert.quiescent_RgConvRefIdeal := fun m ρ _ =>
  (θ_run Cert.RgConvRefIdeal.defs _ _).mono (fun r h => ⟨fun c => (h c).2.2.2, sem_eq_zero_of_no_sems (by decide) r.2⟩)
    (Cert.RgConvRefIdeal.Value.run m ρ)

/-- The kernel's three results are the reference's three results, on every input. -/
theorem algebraic : Cert.algebraic_RgConvBwdIdeal_RgConvRefIdeal := fun m ρ m' ρ' _ hag =>
  ⟨_, _, _, Cert.RgConvBwdIdeal.Value.run_blocks m ρ, (θ_run _ _ _).mono (fun r h c => by
    obtain ⟨h0, h1, h2, h3⟩ := h c
    obtain ⟨a0, a1, a2⟩ := hag c
    refine ⟨h0.trans ?_, h1.trans ?_, h2.trans ?_, h3⟩
    · rw [Cert.RgConvRefIdeal.Read.val_main_v85_eq, a1, a2]
      refine Eq.trans ?_ (Cert.RgConvBwdIdeal.Hand.final_dx m c).symm
      funext i
      idx_vars i
      exact Cert.RgConvRefIdeal.Hand.dx_at _ _ i0 i1
    · rw [Cert.RgConvRefIdeal.Read.val_main_v86_eq, a0, a2]
      refine Eq.trans ?_ (Cert.RgConvBwdIdeal.Hand.final_dw m c).symm
      funext i
      idx_vars i
      exact Cert.RgConvRefIdeal.Hand.dw_at _ _ i0 i1
    · rw [Cert.RgConvRefIdeal.Read.val_main_v39_eq, a2]
      refine Eq.trans ?_ (Cert.RgConvBwdIdeal.Hand.final_db m c).symm
      funext i
      idx_vars i
      exact Cert.RgConvRefIdeal.Hand.db_at _ i0 i1) (Cert.RgConvRefIdeal.Value.run m' ρ')⟩

end Cert.RgConv
-- ==== Proof.GdnConv.Pay.lean ====
/- The body of the wide convolution's gradient works on three pieces of the lanes, one after the other. The three runs
   compute the same terms; here each is written in one form. -/
module
public import proofs.«01_k».proof.Proof.Gen.GdnConvBwdIdeal.Value
public import Idealize.ShloMosaic.Lib.Pipeline.ValueKit

@[expose] public section

set_option maxRecDepth 16384

noncomputable section

namespace Cert.GdnConvBwdIdeal.Hand

open Cert.GdnConvBwdIdeal Cert.GdnConvBwdIdeal.Gen Idealize.ShloMosaic Idealize.ShloMosaic.TcCoe Idealize.SL.Sem

variable (i : grid0.Coords) (p q : Ideal .f32) (A C : Vec Ideal S8x512 .f32) (B x : Vec Ideal S512x512 .f32) (D : FVec Ideal S528x512 .f32)
  (a w0 w1 w2 w3 : Vec Ideal S1x512 .f32) (u : FVec Ideal S512x512 .f32)

/-- The gradient's rows between their neighbours. -/
theorem stack_first : k0_pay9 (F := Ideal) i A B C = k0_pay40 (k0_pay7 i) (k0_pay8 i) A B C := rfl
theorem stack_second : k0_pay24 (F := Ideal) p q A B C = k0_pay40 p q A B C := rfl

/-- Row 0 of the filter's gradient. -/
theorem row0_first : k0_pay12 (F := Ideal) i A B C x a = k0_pay43 x (k0_pay42 (k0_pay7 i) (k0_pay8 i) A B C) a := rfl
theorem row0_second : k0_pay29 (F := Ideal) (k0_pay27 a) (k0_pay28 p q A B C x) = k0_pay43 x (k0_pay42 p q A B C) a := rfl

/-- Row 1. -/
theorem row1_first : k0_pay14 (F := Ideal) D x 527#32 a = k0_pay45 D x a := rfl
theorem row1_second : k0_pay31 (F := Ideal) D x a = k0_pay45 D x a := rfl

/-- Row 2. -/
theorem row2_first : k0_pay16 (F := Ideal) D x a = k0_pay48 D x a := rfl
theorem row2_second : k0_pay34 (F := Ideal) D x a = k0_pay48 D x a := rfl

/-- Row 3. -/
theorem row3_first : k0_pay21 (F := Ideal) (k0_pay19 a) (k0_pay20 D x) = k0_pay2 D x a := rfl
theorem row3_second : k0_pay37 (F := Ideal) x (k0_pay35 D) a = k0_pay2 D x a := rfl

/-- The input's gradient. -/
theorem dx_first : k0_pay22 (F := Ideal) (k0_pay18 D (k0_pay11 i A B C w0) 527#32 w1 w2 w3)
    = k0_pay3 D (k0_pay47 D k0_pay41 (k0_pay42 (k0_pay7 i) (k0_pay8 i) A B C) w0 w1 w2) w3 := rfl
theorem dx_second : k0_pay38 (F := Ideal) (k0_pay33 D (k0_pay26 p q A B C w0) w1 w2) (k0_pay35 D) (k0_pay36 w3)
    = k0_pay3 D (k0_pay47 D k0_pay41 (k0_pay42 p q A B C) w0 w1 w2) w3 := rfl

end Cert.GdnConvBwdIdeal.Hand
-- ==== Proof.GdnConv.Cells.lean ====
/- An array stored in cells, each some columns of one row of it: what a place of the array reads. -/
module
public import Idealize.ShloMosaic.Lib.Pipeline.ValueKit
public import Idealize.ShloMosaic.Lib.WritesUnit

@[expose] public section

namespace Cert.Cells

open Idealize.ShloMosaic Idealize.ShloMosaic.TcCoe

variable {e : EltTy} {n W o w q : ℕ}

/-- A cell of a block read as a load. -/
theorem ld_cell (v : (⟨2, ![n, W]⟩ : Shape).Idx → Elt Ideal e) (inb : ∀ a, (![q, o] : Fin 2 → ℕ) a + (![1, w] : Fin 2 → ℕ) a ≤ (⟨2, ![n, W]⟩ : Shape).size a)
    (j : Fin n) (hj : (j : ℕ) = q) (l : Fin W) (k : Fin w) (hl : (l : ℕ) = o + k) :
    View.ld v (Rect.unit (s := ⟨2, ![n, W]⟩) ![q, o] ![1, w] inb) (ix2 (0 : Fin 1) k) = v (ix2 j l) := by
  refine congrArg v (funext fun a => Fin.ext ?_)
  match a with
  | 0 => show q + 1 * 0 = (j : ℕ); omega
  | 1 => show o + 1 * (k : ℕ) = l; omega

/-- Reading a place of the array over a stored cell: the cell's entry inside it, the older contents outside. -/
theorem read_cell {sg : RefSig} {κ : Kind} {sp : Space} (v : View sg κ sp ⟨2, ![n, W]⟩ e) (f : v.ty.Contents (Elt Ideal)) (L : List (View.Piece (Elt Ideal) ⟨2, ![n, W]⟩ e))
    (inb : ∀ a, (![q, o] : Fin 2 → ℕ) a + (![1, w] : Fin 2 → ℕ) a ≤ (⟨2, ![n, W]⟩ : Shape).size a)
    (p : (Rect.unit (s := ⟨2, ![n, W]⟩) ![q, o] ![1, w] inb).shape.Idx → Elt Ideal e) (j : Fin n) (l : Fin W) (y : Elt Ideal e)
    (hp : ∀ k : Fin w, (j : ℕ) = q → (l : ℕ) = o + k → p (ix2 (0 : Fin 1) k) = y)
    (hL : ¬ ((j : ℕ) = q ∧ o ≤ (l : ℕ) ∧ (l : ℕ) < o + w) → v.read (Elt Ideal) (v.writes (Elt Ideal) f L) (ix2 j l) = y) :
    v.read (Elt Ideal) (v.writes (Elt Ideal) f (⟨Rect.unit ![q, o] ![1, w] inb, p⟩ :: L)) (ix2 j l) = y := by
  by_cases h : (j : ℕ) = q ∧ o ≤ (l : ℕ) ∧ (l : ℕ) < o + w
  · obtain ⟨h1, h2, h3⟩ := h
    have e : ix2 j l = (Rect.unit (s := ⟨2, ![n, W]⟩) ![q, o] ![1, w] inb).emb (ix2 (0 : Fin 1) (⟨l - o, by omega⟩ : Fin w)) := by
      refine funext fun a => Fin.ext ?_
      match a with
      | 0 => show (j : ℕ) = q + 1 * 0; omega
      | 1 => show (l : ℕ) = o + 1 * (l - o); omega
    rw [e, View.read_writes_cons_emb]
    exact hp ⟨l - o, by omega⟩ h1 (by show (l : ℕ) = o + (l - o); omega)
  · rw [View.read_writes_cons_miss, hL h]
    rw [Rect.mem_set_unit]
    intro hall
    have h0 := hall 0
    have h1 := hall 1
    refine h ⟨?_, h1⟩
    have a0 : q ≤ (j : ℕ) := h0.1
    have a1 : (j : ℕ) < q + 1 := h0.2
    omega

end Cert.Cells
-- ==== Proof.Reals.lean ====
/- Extended reals that are real numbers: the operations of the idealized programs on them, the literals the programs
   use, and the identities between the kernels' and the reference's forms of the logistic function and of softplus. -/
module
public import Idealize.ShloMosaic.Lib.Pointwise
public import Idealize.ShloMosaic.Lib.IdealHost

@[expose] public section

namespace Cert.Reals

open Idealize.ShloMosaic

/-- An extended real of finite absolute value is a real number. -/
theorem exists_real {x : EReal} (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  refine EReal.coe_toReal ?_ ?_
  · rintro rfl
    revert h
    simp [Ideal.cmp]
  · rintro rfl
    revert h
    simp [Ideal.cmp]

variable (a b : ℝ)

theorem add : (a : EReal) + (b : EReal) = ((a + b : ℝ) : EReal) := (EReal.coe_add a b).symm
theorem sub : (a : EReal) - (b : EReal) = ((a - b : ℝ) : EReal) := (EReal.coe_sub a b).symm
theorem mul : (a : EReal) * (b : EReal) = ((a * b : ℝ) : EReal) := (EReal.coe_mul a b).symm
theorem neg : -(a : EReal) = ((-a : ℝ) : EReal) := (EReal.coe_neg a).symm
theorem max_ : max (a : EReal) (b : EReal) = ((max a b : ℝ) : EReal) :=
  (EReal.coe_strictMono.monotone.map_max).symm

theorem abs_ : FloatOps.absf (F := Ideal) (φ := .f32) (a : EReal) = ((|a| : ℝ) : EReal) := by
  show max (a : EReal) (-(a : EReal)) = _
  rw [neg, max_]
  rfl
theorem zero : (0 : EReal) = ((0 : ℝ) : EReal) := EReal.coe_zero.symm
theorem one : (1 : EReal) = ((1 : ℝ) : EReal) := EReal.coe_one.symm

/-- A finite sum of real numbers. -/
theorem sum {ι : Type} [Fintype ι] (f : ι → ℝ) : ∑ i, (f i : EReal) = ((∑ i, f i : ℝ) : EReal) := by
  classical
  refine Finset.induction_on (Finset.univ : Finset ι) (by simp) fun i s hi ih => ?_
  rw [Finset.sum_insert hi, Finset.sum_insert hi, ih, add]

theorem div {b : ℝ} (h : b ≠ 0) : Ideal.div (a : EReal) (b : EReal) = ((a / b : ℝ) : EReal) := by
  rw [Ideal.div_coe h, mul, mul_one_div]

theorem rsqrt {a : ℝ} (h : 0 < a) : Ideal.rsqrt (a : EReal) = (((√a)⁻¹ : ℝ) : EReal) := by
  rw [Ideal.rsqrt_coe, if_neg (not_lt.2 h.le), if_neg h.ne']

theorem log {a : ℝ} (h : 0 < a) : Ideal.log (a : EReal) = ((Real.log a : ℝ) : EReal) := by
  rw [Ideal.log_coe, if_neg (not_le.2 h)]

/-- The literals. -/
theorem log1p {a : ℝ} (h : 0 < 1 + a) : Ideal.log1p (a : EReal) = ((Real.log (1 + a) : ℝ) : EReal) := by
  show Ideal.log (1 + (a : EReal)) = _
  rw [one, add, log h]

theorem lit_inf : Ideal.ofBits .f32 0x7F800000#32 = ⊤ := by simp [Ideal.ofBits, Ideal.ieee]
/-- The integer zero. -/
theorem int_zero : FloatOps.sitofp (F := Ideal) .f32 (0#32) = ((0 : ℝ) : EReal) := by
  show (((0#32 : BitVec 32).toInt : ℝ) : EReal) = _
  simp

theorem lit_zero : Ideal.ofBits .f32 0x00000000#32 = ((0 : ℝ) : EReal) := by simp [Ideal.ofBits, Ideal.ieee]
theorem lit_one : Ideal.ofBits .f32 0x3F800000#32 = ((1 : ℝ) : EReal) := by simp [Ideal.ofBits, Ideal.ieee, -EReal.coe_mul]; norm_num
theorem lit_two : Ideal.ofBits .f32 0x40000000#32 = ((2 : ℝ) : EReal) := by simp [Ideal.ofBits, Ideal.ieee, -EReal.coe_mul]; norm_num
theorem lit_half : Ideal.ofBits .f32 0x3F000000#32 = ((1 / 2 : ℝ) : EReal) := by simp [Ideal.ofBits, Ideal.ieee, -EReal.coe_mul]; norm_num
theorem lit_neg_half : Ideal.ofBits .f32 0xBF000000#32 = ((-(1 / 2) : ℝ) : EReal) := by simp [Ideal.ofBits, Ideal.ieee, -EReal.coe_mul]; norm_num
theorem lit_1024 : Ideal.ofBits .f32 0x44800000#32 = ((1024 : ℝ) : EReal) := by simp [Ideal.ofBits, Ideal.ieee, -EReal.coe_mul]; norm_num
theorem lit_128 : Ideal.ofBits .f32 0x43000000#32 = ((128 : ℝ) : EReal) := by simp [Ideal.ofBits, Ideal.ieee, -EReal.coe_mul]; norm_num
theorem lit_inv_1024 : Ideal.ofBits .f32 0x3A800000#32 = ((1 / 1024 : ℝ) : EReal) := by simp [Ideal.ofBits, Ideal.ieee, -EReal.coe_mul]; norm_num

/-- The normalisations' epsilon: the rational number of the float nearest to a millionth. -/
noncomputable def eps : ℝ := 8796093 / 8796093022208
theorem eps_pos : 0 < eps := by unfold eps; norm_num
theorem lit_eps : Ideal.ofBits .f32 0x358637BD#32 = (eps : EReal) := by
  simp [Ideal.ofBits, Ideal.ieee, -EReal.coe_mul]; unfold eps; norm_num

/-- The logistic function by the hyperbolic tangent. -/
theorem sig_tanh (x : ℝ) : 1 / 2 + 1 / 2 * Real.tanh (1 / 2 * x) = 1 / (1 + Real.exp (-x)) := by
  have e : Real.exp (-x) = Real.exp (-(1 / 2 * x)) * Real.exp (-(1 / 2 * x)) := by rw [← Real.exp_add]; ring_nf
  have p := Real.exp_pos (1 / 2 * x)
  rw [Real.tanh_eq_sinh_div_cosh, Real.sinh_eq, Real.cosh_eq, e, Real.exp_neg]
  field_simp
  ring

/-- Softplus without overflow. -/
theorem softplus (x : ℝ) : max x 0 + Real.log (1 + Real.exp (-|x|)) = Real.log (1 + Real.exp x) := by
  have p := Real.exp_pos x
  rcases le_total 0 x with h | h
  · rw [max_eq_left h, abs_of_nonneg h]
    nth_rewrite 1 [← Real.log_exp x]
    rw [← Real.log_mul p.ne' (by positivity), mul_add, ← Real.exp_add]
    simp [add_comm]
  · rw [max_eq_right h, abs_of_nonpos h]; simp

/-- The derivative of softplus. -/
theorem softplus_grad (x : ℝ) : Real.exp (x - Real.log (1 + Real.exp x)) = 1 / (1 + Real.exp (-x)) := by
  have p := Real.exp_pos x
  rw [Real.exp_sub, Real.exp_log (by positivity), Real.exp_neg]
  field_simp
  ring

end Cert.Reals
-- ==== Proof.Columns.lean ====
/- An array stored in pieces, each some whole columns of it: what its places hold. -/
module
public import proofs.«01_k».proof.Proof.Reals
public import Idealize.ShloMosaic.Lib.Pipeline.ValueKit
public import Idealize.ShloMosaic.Lib.Pipeline.ReadBack
public import Idealize.ShloMosaic.Lib.WritesUnit

@[expose] public section

namespace Cert.Columns

open Idealize.ShloMosaic Idealize.ShloMosaic.TcCoe

/-- A place of a column piece. -/
theorem emb_cols {n W o w : ℕ} (hw : o + w ≤ W) (inb : ∀ a, (![0, o] : Fin 2 → ℕ) a + (![n, w] : Fin 2 → ℕ) a ≤ (⟨2, ![n, W]⟩ : Shape).size a) (r : Fin n) (k : Fin w) :
    (Rect.unit (s := ⟨2, ![n, W]⟩) ![0, o] ![n, w] inb).emb (ix2 r k) = ix2 r ⟨o + k, by omega⟩ := by
  funext a
  refine Fin.ext ?_
  match a with
  | 0 => show 0 + 1 * (r : ℕ) = r; omega
  | 1 => show o + 1 * (k : ℕ) = o + k; omega

/-- Reading a column piece off the newest store. -/
theorem canon_cols {e : EltTy} {n W o w : ℕ} (hw : o + w ≤ W) (inb : ∀ a, (![0, o] : Fin 2 → ℕ) a + (![n, w] : Fin 2 → ℕ) a ≤ (⟨2, ![n, W]⟩ : Shape).size a)
    (p : (Rect.unit (s := ⟨2, ![n, W]⟩) ![0, o] ![n, w] inb).shape.Idx → Elt Ideal e) (L : List (View.Piece (Elt Ideal) ⟨2, ![n, W]⟩ e)) (r : Fin n) (l : Fin W)
    {G : Fin W → Elt Ideal e} (hp : ∀ k : Fin w, p (ix2 r k) = G ⟨o + k, by omega⟩)
    (hL : ¬ (o ≤ (l : ℕ) ∧ (l : ℕ) < o + w) → View.canon L (ix2 r l) = G l) :
    View.canon (⟨Rect.unit ![0, o] ![n, w] inb, p⟩ :: L) (ix2 r l) = G l := by
  by_cases h : o ≤ (l : ℕ) ∧ (l : ℕ) < o + w
  · have e : ix2 r l = (Rect.unit (s := ⟨2, ![n, W]⟩) ![0, o] ![n, w] inb).emb (ix2 r (⟨l - o, by omega⟩ : Fin w)) := by
      refine Eq.trans ?_ (emb_cols hw inb r _).symm
      exact congrArg (ix2 r) (Fin.ext (by show (l : ℕ) = o + (l - o); omega))
    rw [e, View.canon_cons_emb, hp]
    exact congrArg G (Fin.ext (by show o + ((l : ℕ) - o) = l; omega))
  · rw [View.canon_cons_of_not_mem, hL h]
    rw [Rect.mem_set_unit]
    intro hall
    exact h (hall 1)

end Cert.Columns
-- ==== Proof.GdnConv.Block.lean ====
/- One grid point of the wide convolution's gradient: the blocks it reads, the stack of the gradient's rows between their
   neighbours, and what one piece of the lanes adds to the filter's gradient and writes of the input's. -/
module
public import proofs.«01_k».proof.Proof.RgConv.Taps
public import proofs.«01_k».proof.Proof.GdnConv.Pay
public import proofs.«01_k».proof.Proof.GdnConv.Cells
public import proofs.«01_k».proof.Proof.Columns

@[expose] public section

set_option maxRecDepth 16384

noncomputable section

namespace Cert.GdnConvBwdIdeal.Hand

open Cert.RgConv Cert.Cells Cert.GdnConvBwdIdeal Cert.GdnConvBwdIdeal.Gen Idealize.ShloMosaic Idealize.ShloMosaic.TcCoe Idealize.SL.Sem
open Idealize.ShloMosaic.Pipeline (Dat)

variable (m : (ℓ : Loc nD τ sig) → Buf (Elt Ideal) ℓ)

/-- The layer's input, the output's gradient and the filter as functions of row and lane. -/
abbrev X (c : Dev nD) (s : Fin 8192) (l : Fin 1536) : EReal := m ((c.tc : Thread nD τ).loc main_arg0) (ix2 s l)
abbrev CT (c : Dev nD) (s : Fin 8192) (l : Fin 1536) : EReal := m ((c.tc : Thread nD τ).loc main_arg2) (ix2 s l)
abbrev W (c : Dev nD) (j : Fin 4) (l : Fin 1536) : EReal := m ((c.tc : Thread nD τ).loc main_arg1) (ix2 j l)

theorem idx0 : ∀ t, win0_0.index t = ![t.val, 0] := (by decide +kernel : ∀ t : Fin grid0.N, _)
theorem idx1 : ∀ t, win0_1.index t = ![t.val, 0] := (by decide +kernel : ∀ t : Fin grid0.N, _)
theorem idx2 : ∀ t, win0_2.index t = ![64 * t.val - 1, 0] := (by decide +kernel : ∀ t : Fin grid0.N, _)
theorem idx3 : ∀ t, win0_3.index t = ![min (64 * t.val + 64) 1023, 0] := (by decide +kernel : ∀ t : Fin grid0.N, _)
theorem idx4 : ∀ t, win0_4.index t = ![0, 0] := (by decide +kernel : ∀ t : Fin grid0.N, _)
theorem idx5 : ∀ t, win0_5.index t = ![t.val, 0] := (by decide +kernel : ∀ t : Fin grid0.N, _)
theorem coord : ∀ t : Fin cfg0.N, ((grid0.coords t) 0).val = t.val := (by decide +kernel : ∀ t : Fin grid0.N, _)

theorem mask_lo : ∀ t, Scalar.cmpi .sgt (BitVec.ofNat 32 ((grid0.coords t) 0).val) 0#32 = if t.val = 0 then 0#1 else 1#1 :=
  (by decide +kernel : ∀ t : Fin grid0.N, _)
theorem mask_hi : ∀ t, Scalar.cmpi .slt (BitVec.ofNat 32 ((grid0.coords t) 0).val) 15#32 = if t.val = 15 then 0#1 else 1#1 :=
  (by decide +kernel : ∀ t : Fin grid0.N, _)

/-- A lane of the piece that begins at lane `o`. -/
abbrev lane {o : ℕ} (ho : o + 512 ≤ 1536) (k : Fin 512) : Fin 1536 := ⟨o + k, by omega⟩

variable (c : Dev nD) (t : Fin cfg0.N) {o : ℕ} (ho : o + 512 ≤ 1536) (iL : ∀ a, ![0, o] a + ![8, 512] a ≤ S8x1536.size a)
  (iM : ∀ a, ![0, o] a + ![512, 512] a ≤ S512x1536.size a)

/-- The blocks a grid point reads: rows of the output's gradient, the eight rows before and after them, rows of the input. -/
theorem blk1 (r : Fin 512) (l : Fin 1536) (s : Fin 8192) (hs : (s : ℕ) = 512 * t + r) :
    iblk m c 1 t (ix2 r l) = CT m c s l := by
  blk_point [iblk, V, idx1 t]
theorem blk2 (r : Fin 8) (l : Fin 1536) (s : Fin 8192) (hs : (s : ℕ) = 8 * (64 * t - 1) + r) :
    iblk m c 2 t (ix2 r l) = CT m c s l := by
  blk_point [iblk, V, idx2 t]
theorem blk3 (r : Fin 8) (l : Fin 1536) (s : Fin 8192) (hs : (s : ℕ) = 8 * min (64 * t.val + 64) 1023 + r) :
    iblk m c 3 t (ix2 r l) = CT m c s l := by
  blk_point [iblk, V, idx3 t]
theorem blk0 (r : Fin 512) (l : Fin 1536) (s : Fin 8192) (hs : (s : ℕ) = 512 * t + r) :
    iblk m c 0 t (ix2 r l) = X m c s l := by
  blk_point [iblk, V, idx0 t]

/-- The stack of a piece: the gradient's rows between their masked neighbours. -/
abbrev stack : FVec Ideal S528x512 .f32 :=
  k0_pay40 (F := Ideal) (k0_pay7 (grid0.coords t)) (k0_pay8 (grid0.coords t)) (View.ld (iblk m c 2 t) (Rect.unit ![0, o] ![8, 512] iL))
    (View.ld (iblk m c 1 t) (Rect.unit ![0, o] ![512, 512] iM)) (View.ld (iblk m c 3 t) (Rect.unit ![0, o] ![8, 512] iL))

/-- The same rows shifted by two, as the body first takes them. -/
abbrev shifted : FVec Ideal S512x512 .f32 :=
  k0_pay42 (F := Ideal) (k0_pay7 (grid0.coords t)) (k0_pay8 (grid0.coords t)) (View.ld (iblk m c 2 t) (Rect.unit ![0, o] ![8, 512] iL))
    (View.ld (iblk m c 1 t) (Rect.unit ![0, o] ![512, 512] iM)) (View.ld (iblk m c 3 t) (Rect.unit ![0, o] ![8, 512] iL))

/-- The stack holds rows of the shifted read. -/
theorem stack_at (n : Fin 528) (l : Fin 512) : stack m c t iL iM (ix2 n l) = tap (CT m c) (512 * t + n) (lane ho l) := by
  have ht : t.val < 16 := lt_of_lt_of_eq t.isLt N_0
  have hn := n.isLt
  pointwise [stack, k0_pay40, k0_pay7, k0_pay8]
  simp only [mask_lo t, mask_hi t]
  unfold tap
  by_cases h0 : (n : ℕ) < 8
  · rw [dif_pos h0]
    by_cases h1 : (t : ℕ) = 0
    · rw [if_pos h1, dif_neg (by omega)]; rfl
    · rw [if_neg h1, dif_pos (by omega)]
      exact blk2 m c t _ _ _ (by show 512 * (t : ℕ) + n - 8 = 8 * (64 * t - 1) + n; omega)
  rw [dif_neg h0]
  by_cases h2 : (n : ℕ) - 8 < 512
  · rw [dif_pos h2, dif_pos (by omega)]
    exact blk1 m c t _ _ _ (by show 512 * (t : ℕ) + n - 8 = 512 * t + (n - 8); omega)
  · rw [dif_neg h2]
    by_cases h1 : (t : ℕ) = 15
    · rw [if_pos h1, dif_neg (by omega)]; rfl
    · rw [if_neg h1, dif_pos (by omega)]
      exact blk3 m c t _ _ _ (by show 512 * (t : ℕ) + n - 8 = 8 * min (64 * t.val + 64) 1023 + (n - 8 - 512); omega)

/-- The shifted rows. -/
theorem shifted_at (k l : Fin 512) : shifted m c t iL iM (ix2 k l) = tap (CT m c) (512 * t + k + 10) (lane ho l) := by
  have ht : t.val < 16 := lt_of_lt_of_eq t.isLt N_0
  have hk := k.isLt
  pointwise [shifted, k0_pay42]
  refine (stack_at m c t ho iL iM _ l).trans ?_
  refine congrArg (tap _ · _) ?_
  show 512 * (t : ℕ) + (8 + k + 528 - 526) % 528 = 512 * t + k + 10
  omega

/-- What a grid point adds to row `j` of the filter's gradient. -/
def part (c : Dev nD) (t : ℕ) (j : ℕ) (l : Fin 1536) : EReal :=
  ∑ k : Fin 512, tap (CT m c) (512 * t + k + (10 - j)) l * tap (X m c) (512 * t + k + 8) l

variable (a : Vec Ideal S1x512 .f32) (l : Fin 512)

theorem row0 : k0_pay43 (F := Ideal) (View.ld (iblk m c 0 t) (Rect.unit ![0, o] ![512, 512] iM)) (shifted m c t iL iM) a (ix2 0 l) = a (ix2 0 l) + part m c t 0 (lane ho l) := by
  have ht : t.val < 16 := lt_of_lt_of_eq t.isLt N_0
  pointwise [k0_pay43]
  refine congrArg (a (ix2 0 l) + ·) (Finset.sum_congr rfl fun k _ => ?_)
  have hk := k.isLt
  rw [shifted_at m c t ho iL iM, blk0 m c t k _ ⟨512 * t + k, by omega⟩ rfl, ← tap_row (X m c)]

theorem row1 : k0_pay45 (F := Ideal) (stack m c t iL iM) (View.ld (iblk m c 0 t) (Rect.unit ![0, o] ![512, 512] iM)) a (ix2 0 l) = a (ix2 0 l) + part m c t 1 (lane ho l) := by
  have ht : t.val < 16 := lt_of_lt_of_eq t.isLt N_0
  pointwise [k0_pay45, k0_pay44]
  refine congrArg (a (ix2 0 l) + ·) (Finset.sum_congr rfl fun k _ => ?_)
  have hk := k.isLt
  rw [stack_at m c t ho iL iM, blk0 m c t k _ ⟨512 * t + k, by omega⟩ rfl, ← tap_row (X m c)]
  refine congrArg (tap _ · _ * _) ?_
  show 512 * (t : ℕ) + (8 + k + 528 - 527) % 528 = 512 * t + k + (10 - 1)
  omega

theorem row2 : k0_pay48 (F := Ideal) (stack m c t iL iM) (View.ld (iblk m c 0 t) (Rect.unit ![0, o] ![512, 512] iM)) a (ix2 0 l) = a (ix2 0 l) + part m c t 2 (lane ho l) := by
  have ht : t.val < 16 := lt_of_lt_of_eq t.isLt N_0
  pointwise [k0_pay48, k0_pay46]
  refine congrArg (a (ix2 0 l) + ·) (Finset.sum_congr rfl fun k _ => ?_)
  have hk := k.isLt
  rw [stack_at m c t ho iL iM, blk0 m c t k _ ⟨512 * t + k, by omega⟩ rfl, ← tap_row (X m c)]
  refine congrArg (tap _ · _ * _) ?_
  show 512 * (t : ℕ) + (8 + k) = 512 * t + k + (10 - 2)
  omega

theorem row3 : k0_pay2 (F := Ideal) (stack m c t iL iM) (View.ld (iblk m c 0 t) (Rect.unit ![0, o] ![512, 512] iM)) a (ix2 0 l) = a (ix2 0 l) + part m c t 3 (lane ho l) := by
  have ht : t.val < 16 := lt_of_lt_of_eq t.isLt N_0
  pointwise [k0_pay2, k0_pay1]
  refine congrArg (a (ix2 0 l) + ·) (Finset.sum_congr rfl fun k _ => ?_)
  have hk := k.isLt
  rw [stack_at m c t ho iL iM, blk0 m c t k _ ⟨512 * t + k, by omega⟩ rfl, ← tap_row (X m c)]
  refine congrArg (tap _ · _ * _) ?_
  show 512 * (t : ℕ) + (8 + k + 528 - 1) % 528 = 512 * t + k + (10 - 3)
  omega

/-- The filter with four rows after it, at a row of the filter. -/
theorem pad_at (w : FVec Ideal S4x1536 .f32) (z : FVec Ideal S_ .f32) (j : Fin 8) (h : (j : ℕ) < 4) (l : Fin 1536) :
    pad S8x1536 ![0, 0] ![4, 0] ![0, 0] w z pads_S4x1536_S8x1536_040_000 h_S_ (ix2 j l) = w (ix2 ⟨j, h⟩ l) := by
  pointwise []
  rw [dif_pos h]

/-- The padded filter the region is entered with. -/
theorem V_filter (j : Fin 8) (h : (j : ℕ) < 4) (l : Fin 1536) : V m c main_v0 (ix2 j l) = W m c ⟨j, h⟩ l := by
  simp only [V, hostOps0, hostOps0_1, List.flatten_cons, List.flatten_nil, List.append_nil, List.cons_append, List.nil_append]
  after_results
  exact pad_at (m (c, Proc.tc.devRef main_arg1)) _ j h l

/-- A piece of the filter block is the filter with four rows of zeros after it. -/
theorem blk4 (q : ℕ) (hq : ∀ a, ![q, o] a + ![1, 512] a ≤ S8x1536.size a) (j : Fin 4) (hj : (j : ℕ) = q) :
    View.ld (iblk m c 4 t) (Rect.unit ![q, o] ![1, 512] hq) (ix2 0 l) = W m c j (lane ho l) := by
  subst hj
  have hj := j.isLt
  have e : View.ld (iblk m c 4 t) (Rect.unit ![(j : ℕ), o] ![1, 512] hq) (ix2 0 l) = V m c main_v0 (ix2 ⟨j, by omega⟩ (lane ho l)) := by
    blk_point [iblk, idx4 t]
  exact e.trans (V_filter m c _ hj _)

/-- A piece of the input's gradient, entry by entry. -/
theorem dx_pay (k : Fin 512) (s : Fin 8192) (hs : (s : ℕ) = 512 * t + k)
    (q0 : ∀ a, ![0, o] a + ![1, 512] a ≤ S8x1536.size a) (q1 : ∀ a, ![1, o] a + ![1, 512] a ≤ S8x1536.size a)
    (q2 : ∀ a, ![2, o] a + ![1, 512] a ≤ S8x1536.size a) (q3 : ∀ a, ![3, o] a + ![1, 512] a ≤ S8x1536.size a) :
    k0_pay3 (F := Ideal) (stack m c t iL iM) (k0_pay47 (stack m c t iL iM) k0_pay41 (shifted m c t iL iM)
        (View.ld (iblk m c 4 t) (Rect.unit ![0, o] ![1, 512] q0)) (View.ld (iblk m c 4 t) (Rect.unit ![1, o] ![1, 512] q1))
        (View.ld (iblk m c 4 t) (Rect.unit ![2, o] ![1, 512] q2))) (View.ld (iblk m c 4 t) (Rect.unit ![3, o] ![1, 512] q3)) (ix2 k l)
      = dx (W m c) (CT m c) s (lane ho l) := by
  have hk := k.isLt
  have h0 := blk4 m c t ho l 0 q0 0 rfl
  have h1 := blk4 m c t ho l 1 q1 1 rfl
  have h2 := blk4 m c t ho l 2 q2 2 rfl
  have h3 := blk4 m c t ho l 3 q3 3 rfl
  revert h0 h1 h2 h3
  generalize View.ld (iblk m c 4 t) (Rect.unit ![0, o] ![1, 512] q0) = a0
  generalize View.ld (iblk m c 4 t) (Rect.unit ![1, o] ![1, 512] q1) = a1
  generalize View.ld (iblk m c 4 t) (Rect.unit ![2, o] ![1, 512] q2) = a2
  generalize View.ld (iblk m c 4 t) (Rect.unit ![3, o] ![1, 512] q3) = a3
  intro h0 h1 h2 h3
  pointwise [k0_pay3, k0_pay47, k0_pay41, k0_pay1, k0_pay44, k0_pay46]
  simp only [stack_at m c t ho iL iM, shifted_at m c t ho iL iM, h0, h1, h2, h3, dx]
  rw [show 512 * (t : ℕ) + k + 10 = s + 10 by omega, show 512 * (t : ℕ) + (8 + k + 528 - 527) % 528 = s + 9 by omega,
    show 512 * (t : ℕ) + (8 + k) = s + 8 by omega, show 512 * (t : ℕ) + (8 + k + 528 - 1) % 528 = s + 7 by omega]

end Cert.GdnConvBwdIdeal.Hand
-- ==== Proof.GdnConv.Point.lean ====
/- What a grid point of the wide convolution's gradient writes: its rows of the input's gradient, and the four rows of
   the filter's gradient with the point's parts added. -/
module
public import proofs.«01_k».proof.Proof.GdnConv.Block

@[expose] public section

set_option maxRecDepth 16384

noncomputable section

namespace Cert.GdnConvBwdIdeal.Hand

open Cert.RgConv Cert.Cells Cert.Columns Cert.GdnConvBwdIdeal Cert.GdnConvBwdIdeal.Gen Idealize.ShloMosaic Idealize.ShloMosaic.TcCoe Idealize.SL.Sem
open Idealize.ShloMosaic.Pipeline (Dat)

variable (m : (ℓ : Loc nD τ sig) → Buf (Elt Ideal) ℓ)

/-- A cell of the filter's gradient, stored over its old value: the old value plus the point's part. -/
theorem cell_value (c : Dev nD) (t : Fin cfg0.N) (acc : Vec Ideal S8x1536 .f32) {o q : ℕ} (ho : o + 512 ≤ 1536) (hq : q < 4)
    (inb : ∀ a, ![q, o] a + ![1, 512] a ≤ S8x1536.size a) (j : Fin 8) (l : Fin 1536) (k : Fin 512) (hj : (j : ℕ) = q) (hl : (l : ℕ) = o + k) (y : EReal)
    (hy : y = View.ld acc (Rect.unit ![q, o] ![1, 512] inb) (ix2 0 k) + part m c t q (lane ho k)) :
    y = acc (ix2 j l) + if (j : ℕ) < 4 then part m c t j l else 0 := by
  obtain rfl : l = lane ho k := Fin.ext hl
  rw [hy, if_pos (by omega), hj]
  exact congrArg (· + _) (ld_cell (e := .f32) acc inb j hj _ k hl)

/-- The four cells of one piece of the lanes, stored over contents `acc`. -/
theorem piece_rows (c : Dev nD) (t : Fin cfg0.N) {κ : Kind} {sp : Space} (v : View sig κ sp S8x1536 .f32) (f : v.ty.Contents (Elt Ideal)) (acc : Vec Ideal S8x1536 .f32)
    (L : List (View.Piece (Elt Ideal) S8x1536 .f32)) {o : ℕ} (ho : o + 512 ≤ 1536) (iL : ∀ a, ![0, o] a + ![8, 512] a ≤ S8x1536.size a)
    (iM : ∀ a, ![0, o] a + ![512, 512] a ≤ S512x1536.size a)
    (q0 : ∀ a, ![0, o] a + ![1, 512] a ≤ S8x1536.size a) (q1 : ∀ a, ![1, o] a + ![1, 512] a ≤ S8x1536.size a)
    (q2 : ∀ a, ![2, o] a + ![1, 512] a ≤ S8x1536.size a) (q3 : ∀ a, ![3, o] a + ![1, 512] a ≤ S8x1536.size a) (j : Fin 8) (l : Fin 1536)
    (hL : ¬ ((j : ℕ) < 4 ∧ o ≤ (l : ℕ) ∧ (l : ℕ) < o + 512) →
      v.read (Elt Ideal) (v.writes (Elt Ideal) f L) (ix2 j l) = acc (ix2 j l) + if (j : ℕ) < 4 then part m c t j l else 0) :
    v.read (Elt Ideal) (v.writes (Elt Ideal) f
        (⟨Rect.unit ![3, o] ![1, 512] q3, k0_pay2 (stack m c t iL iM) (View.ld (iblk m c 0 t) (Rect.unit ![0, o] ![512, 512] iM)) (View.ld acc (Rect.unit ![3, o] ![1, 512] q3))⟩ ::
          ⟨Rect.unit ![2, o] ![1, 512] q2, k0_pay48 (stack m c t iL iM) (View.ld (iblk m c 0 t) (Rect.unit ![0, o] ![512, 512] iM)) (View.ld acc (Rect.unit ![2, o] ![1, 512] q2))⟩ ::
          ⟨Rect.unit ![1, o] ![1, 512] q1, k0_pay45 (stack m c t iL iM) (View.ld (iblk m c 0 t) (Rect.unit ![0, o] ![512, 512] iM)) (View.ld acc (Rect.unit ![1, o] ![1, 512] q1))⟩ ::
          ⟨Rect.unit ![0, o] ![1, 512] q0, k0_pay43 (View.ld (iblk m c 0 t) (Rect.unit ![0, o] ![512, 512] iM)) (shifted m c t iL iM) (View.ld acc (Rect.unit ![0, o] ![1, 512] q0))⟩ :: L))
      (ix2 j l) = acc (ix2 j l) + if (j : ℕ) < 4 then part m c t j l else 0 := by
  refine read_cell v f _ q3 _ j l _ (fun k hj hl => cell_value m c t acc ho (by omega) q3 j l k hj hl _ (row3 m c t ho iL iM _ k)) fun h3 => ?_
  refine read_cell v f _ q2 _ j l _ (fun k hj hl => cell_value m c t acc ho (by omega) q2 j l k hj hl _ (row2 m c t ho iL iM _ k)) fun h2 => ?_
  refine read_cell v f _ q1 _ j l _ (fun k hj hl => cell_value m c t acc ho (by omega) q1 j l k hj hl _ (row1 m c t ho iL iM _ k)) fun h1 => ?_
  refine read_cell v f _ q0 _ j l _ (fun k hj hl => cell_value m c t acc ho (by omega) q0 j l k hj hl _ (row0 m c t ho iL iM _ k)) fun h0 => hL ?_
  omega

/-- Outside the three pieces only the last four rows are left, and they keep their value. -/
theorem rest (c : Dev nD) (t : Fin cfg0.N) (acc : Vec Ideal S8x1536 .f32) (j : Fin 8) (l : Fin 1536) (y : EReal) (hy : y = acc (ix2 j l))
    (h2 : ¬ ((j : ℕ) < 4 ∧ 1024 ≤ (l : ℕ) ∧ (l : ℕ) < 1024 + 512)) (h1 : ¬ ((j : ℕ) < 4 ∧ 512 ≤ (l : ℕ) ∧ (l : ℕ) < 512 + 512))
    (h0 : ¬ ((j : ℕ) < 4 ∧ 0 ≤ (l : ℕ) ∧ (l : ℕ) < 0 + 512)) : y = acc (ix2 j l) + if (j : ℕ) < 4 then part m c t j l else 0 := by
  have := l.isLt
  rw [if_neg (by omega), add_zero, hy]

/-- A grid point after the first adds its part to the filter's gradient. -/
theorem dw_step (c : Dev nD) (t : Fin cfg0.N) (h : ¬ t.val % 16 = 0) (j0 : Fin 8) (j1 : Fin 1536) :
    (outsAt0 m c t.val t.isLt).2.1 (ix2 j0 j1)
      = (outsAt0 m c (t.val - 1) (Nat.lt_of_le_of_lt (Nat.sub_le _ _) t.isLt)).2.1 (ix2 j0 j1) + if (j0 : ℕ) < 4 then part m c t j0 j1 else 0 := by
  rw [outsAt0_B m c t h]
  frame_open
  simp (disch := decide) only [↓ View.readCov_skip, ↓ View.readCov_cons_toLoadRect, ↓ View.readCov_fill]
  frame_out
  simp only [stack_first, stack_second, row0_first, row0_second, row1_first, row1_second, row2_first, row2_second, row3_first, row3_second]
  refine piece_rows m c t _ _ _ _ (o := 1024) (by decide) _ _ _ _ _ _ j0 j1 fun h2 => ?_
  refine piece_rows m c t _ _ _ _ (o := 512) (by decide) _ _ _ _ _ _ j0 j1 fun h1 => ?_
  refine piece_rows m c t _ _ _ _ (o := 0) (by decide) _ _ _ _ _ _ j0 j1 fun h0 => ?_
  exact rest m c t _ j0 j1 _ (congrFun ((hs0_6 t).read_unread _) _) h2 h1 h0

/-- The first grid point starts the filter's gradient from zero. -/
theorem dw_first (c : Dev nD) (t : Fin cfg0.N) (h : t.val % 16 = 0) (j0 : Fin 8) (j1 : Fin 1536) :
    (outsAt0 m c t.val t.isLt).2.1 (ix2 j0 j1) = 0 + if (j0 : ℕ) < 4 then part m c t j0 j1 else 0 := by
  have hz : k0_pay5 (F := Ideal) (ix2 j0 j1) = 0 := by pointwise [k0_pay5]
  refine Eq.trans ?_ (congrArg (· + if (j0 : ℕ) < 4 then part m c t j0 j1 else 0) hz)
  rw [outsAt0_A m c t h]
  frame_open
  simp (disch := decide) only [↓ View.readCov_skip, ↓ View.readCov_cons_toLoadRect, ↓ View.readCov_fill]
  frame_out
  rw [← View.read_writes_junk_eq_canon (ms0_6 t).view]
  simp only [stack_first, stack_second, row0_first, row0_second, row1_first, row1_second, row2_first, row2_second, row3_first, row3_second]
  refine piece_rows m c t _ _ _ _ (o := 1024) (by decide) _ _ _ _ _ _ j0 j1 fun h2 => ?_
  refine piece_rows m c t _ _ _ _ (o := 512) (by decide) _ _ _ _ _ _ j0 j1 fun h1 => ?_
  refine piece_rows m c t _ _ _ _ (o := 0) (by decide) _ _ _ _ _ _ j0 j1 fun h0 => ?_
  refine rest m c t _ j0 j1 _ ?_ h2 h1 h0
  rw [View.read_writes_junk_eq_canon, View.canon_cons_unit_lit]
  decide

/-- A grid point's rows of the input's gradient, piece by piece. -/
theorem dx_point (c : Dev nD) (t : Fin cfg0.N) (k : Fin 512) (l : Fin 1536) (s : Fin 8192) (hs : (s : ℕ) = 512 * t + k) :
    (outsAt0 m c t.val t.isLt).1 (ix2 k l) = dx (W m c) (CT m c) s l := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    simp only [stack_first, stack_second, dx_first, dx_second]
    refine canon_cols (e := .bf16) (n := 512) (W := 1536) (o := 1024) (w := 512) (by decide) _ _ _ k l (G := fun l => dx (W m c) (CT m c) s l) (fun i => dx_pay m c t (by decide) _ _ i k s hs _ _ _ _) fun h2 => ?_
    refine canon_cols (e := .bf16) (n := 512) (W := 1536) (o := 512) (w := 512) (by decide) _ _ _ k l (G := fun l => dx (W m c) (CT m c) s l) (fun i => dx_pay m c t (by decide) _ _ i k s hs _ _ _ _) fun h1 => ?_
    refine canon_cols (e := .bf16) (n := 512) (W := 1536) (o := 0) (w := 512) (by decide) _ _ _ k l (G := fun l => dx (W m c) (CT m c) s l) (fun i => dx_pay m c t (by decide) _ _ i k s hs _ _ _ _) fun h0 => ?_
    have := l.isLt
    omega

end Cert.GdnConvBwdIdeal.Hand
-- ==== Proof.GdnConv.Array.lean ====
/- The two result arrays of the wide convolution's gradient kernel. -/
module
public import proofs.«01_k».proof.Proof.GdnConv.Point

@[expose] public section

set_option maxRecDepth 16384

noncomputable section

namespace Cert.GdnConvBwdIdeal.Hand

open Cert.RgConv Cert.GdnConvBwdIdeal Cert.GdnConvBwdIdeal.Gen Idealize.ShloMosaic Idealize.ShloMosaic.TcCoe Idealize.SL.Sem
open Idealize.ShloMosaic.Pipeline (Dat)

variable (m : (ℓ : Loc nD τ sig) → Buf (Elt Ideal) ℓ)

/-- The points' parts of a filter row are the whole sum. -/
theorem part_sum (c : Dev nD) (j : ℕ) (l : Fin 1536) : ∑ t : Fin cfg0.N, part m c t j l = dw (X m c) (CT m c) j l := by
  unfold part dw
  refine Fin.sum_mul_add_congr fun t k hl => ?_
  have e : tap (X m c) (512 * t + k + 8) l = X m c ⟨t * 512 + k, hl⟩ l := by
    rw [← tap_row (X m c)]; exact congrArg (tap _ · l) (by show 512 * (t : ℕ) + k + 8 = t * 512 + k + 8; omega)
  rw [e]
  exact congrArg (tap (CT m c) · l * _) (by show 512 * (t : ℕ) + k + (10 - j) = t * 512 + k + (10 - j); omega)

/-- The array of the filter's gradient. -/
theorem final_dw (c : Dev nD) : (dats m 0 c).arrAt 6 (cfgs 0).N
    = fun i : S8x1536.Idx => if (i 0 : ℕ) < 4 then dw (X m c) (CT m c) (i 0) (i 1) else 0 := by
  refine (dats m 0 c).arrAt_eq_of_after_last 6 t0_15 (by decide +kernel) _ fun j => ?_
  blk_simp
  idx_vars j
  rw [after0_6, Pipeline.eq_sum_fin_of_reset_step_apply_last (fun n h (i : Fin 8 × Fin 1536) => (outsAt0 m c n h).2.1 (ix2 i.1 i.2)) 16 (fun _ => 0)
    (fun t i => if (i.1 : ℕ) < 4 then part m c t i.1 i.2 else 0)
    (fun t h i => dw_first m c t h i.1 i.2) (fun t h i => dw_step m c t h i.1 i.2) (le_of_eq N_0) t0_15 rfl (j0, j1), zero_add]
  by_cases h4 : (j0 : ℕ) < 4
  · simp only [if_pos h4]
    exact (part_sum m c j0 j1).trans (if_pos h4).symm
  · simp only [if_neg h4]
    exact (Finset.sum_const_zero (M := EReal)).trans (if_neg h4).symm

/-- The array of the input's gradient. -/
theorem final_dx (c : Dev nD) : (dats m 0 c).arrAt 5 (cfgs 0).N = fun i : S8192x1536.Idx => dx (W m c) (CT m c) (i 0) (i 1) := by
  refine (dats m 0 c).arrAt_eq_of_covers 5 _ (by decide +kernel) fun t hf y => ?_
  have ht : t.val < 16 := lt_of_lt_of_eq t.isLt N_0
  idx_vars y
  blk_simp
  rw [after0_5]
  have e1 : (win0_5.blk t).view.emb (ix2 y0 y1) 1 = y1 := Fin.ext (by blk_simp [idx5 t])
  rw [e1]
  exact dx_point m c t y0 y1 _ (by blk_simp [idx5 t]; omega)

end Cert.GdnConvBwdIdeal.Hand
-- ==== Proof.GdnConv.Ref.lean ====
/- The reference's two results, index by index: the convolution's input gradient and its filter
   gradient, at the wide lane count. -/
module
public import proofs.«01_k».proof.Proof.RgConv.Taps
public import proofs.«01_k».proof.Proof.Gen.GdnConvRefIdeal.Read
public import Idealize.ShloMosaic.Lib.Pipeline.ValueKit

@[expose] public section

set_option maxRecDepth 16384

noncomputable section

namespace Cert.GdnConvRefIdeal.Hand

open Cert.RgConv Cert.GdnConvRefIdeal Cert.GdnConvRefIdeal.Gen Cert.GdnConvRefIdeal.Read Idealize.ShloMosaic Idealize.ShloMosaic.TcCoe Idealize.SL.Sem

variable (x ct : (⟨S8192x1536, .f32⟩ : BufTy).Contents (Elt Ideal)) (w : (⟨S4x1536, .f32⟩ : BufTy).Contents (Elt Ideal))

/-- The input's gradient. -/
theorem dx_at (s : Fin 8192) (l : Fin 1536) :
    val_main_v81 (F := Ideal) w ct (ix2 s l) = dx (fun j l => w (ix2 j l)) (fun s l => ct (ix2 s l)) s l := by
  rw [val_main_v81_apply]
  pointwise [val_main_v79, val_main_v77, val_main_v66, val_main_v55, val_main_v76, val_main_v65, val_main_v54, val_main_v44, val_main_v71, val_main_v60, val_main_v49, val_main_v40, val_main_v70, val_main_v59, val_main_v48, val_main_v39, val_main_v8, val_main_v7, val_main_v6, val_main_v16, val_main_v15, val_main_v14, val_main_v23, val_main_v22, val_main_v21, val_main_v30, val_main_v29, val_main_v28, val_main_v34, val_main_v35, val_main_cst_19, val_main_cst_15, val_main_cst_11, val_main_cst_7]
  have hs := s.isLt
  have e0 : (if h : 2 + (s : ℕ) < 8192 then ct (ix2 ⟨2 + s, h⟩ l) * w (ix2 0 l) else 0) = w (ix2 0 l) * tap (fun s l => ct (ix2 s l)) (s + 10) l := by
    unfold tap
    by_cases h : 2 + (s : ℕ) < 8192
    · rw [dif_pos h, dif_pos (by omega), mul_comm]
      exact congrArg (fun a => w (ix2 0 l) * ct (ix2 a l)) (Fin.ext (by show 2 + (s : ℕ) = s + 10 - 8; omega))
    · rw [dif_neg h, dif_neg (by omega), mul_zero]
  have e1 : (if h : 1 ≤ 2 + (s : ℕ) ∧ 2 + (s : ℕ) - 1 < 8192 then ct (ix2 ⟨2 + s - 1, h.2⟩ l) * w (ix2 1 l) else 0) = w (ix2 1 l) * tap (fun s l => ct (ix2 s l)) (s + 9) l := by
    unfold tap
    by_cases h : 1 ≤ 2 + (s : ℕ) ∧ 2 + (s : ℕ) - 1 < 8192
    · rw [dif_pos h, dif_pos (by omega), mul_comm]
      exact congrArg (fun a => w (ix2 1 l) * ct (ix2 a l)) (Fin.ext (by show 2 + (s : ℕ) - 1 = s + 9 - 8; omega))
    · rw [dif_neg h, dif_neg (by omega), mul_zero]
  have e3 : (if h : 3 ≤ 2 + (s : ℕ) ∧ 2 + (s : ℕ) - 3 < 8192 then ct (ix2 ⟨2 + s - 3, h.2⟩ l) * w (ix2 3 l) else 0) = w (ix2 3 l) * tap (fun s l => ct (ix2 s l)) (s + 7) l := by
    unfold tap
    by_cases h : 3 ≤ 2 + (s : ℕ) ∧ 2 + (s : ℕ) - 3 < 8192
    · rw [dif_pos h, dif_pos (by omega), mul_comm]
      exact congrArg (fun a => w (ix2 3 l) * ct (ix2 a l)) (Fin.ext (by show 2 + (s : ℕ) - 3 = s + 7 - 8; omega))
    · rw [dif_neg h, dif_neg (by omega), mul_zero]
  have e2 : ct (ix2 s l) * w (ix2 2 l) = w (ix2 2 l) * tap (fun s l => ct (ix2 s l)) (s + 8) l := by rw [tap_row, mul_comm]
  simp only [dx]
  rw [← e0, ← e1, ← e2, ← e3]
  show (_ : EReal) = _
  abel

/-- The padded input of the reference is the shifted read. -/
theorem xp_at (n : Fin 8195) (l : Fin 1536) : val_main_v2 (F := Ideal) x (ix2 n l) = tap (fun s l => x (ix2 s l)) (n + 6) l := by
  pointwise [val_main_v2, val_main_v0, val_main_v1, val_main_cst, val_main_cst_0]
  have hn := n.isLt
  unfold tap
  by_cases h0 : (n : ℕ) < 2
  · rw [dif_pos h0, dif_neg (by omega)]
  rw [dif_neg h0]
  by_cases h1 : (n : ℕ) - 2 < 8192
  · rw [dif_pos h1, dif_pos (by omega)]; congr 1
  · rw [dif_neg h1, dif_neg (by omega)]

/-- The rows of the reference's filter gradient: the padded input, shifted by the row's number, times the output's gradient. -/
theorem row_at (l : Fin 1536) :
    val_main_v72 (F := Ideal) x ct (ix1 l) = dw (fun s l => x (ix2 s l)) (fun s l => ct (ix2 s l)) 0 l ∧
    val_main_v61 (F := Ideal) x ct (ix1 l) = dw (fun s l => x (ix2 s l)) (fun s l => ct (ix2 s l)) 1 l ∧
    val_main_v50 (F := Ideal) x ct (ix1 l) = dw (fun s l => x (ix2 s l)) (fun s l => ct (ix2 s l)) 2 l ∧
    val_main_v41 (F := Ideal) x ct (ix1 l) = dw (fun s l => x (ix2 s l)) (fun s l => ct (ix2 s l)) 3 l := by
  refine ⟨?_, ?_, ?_, ?_⟩
  all_goals
    rw [dw_eq _ _ _ (by omega)]
    pointwise [val_main_v72, val_main_v61, val_main_v50, val_main_v41, val_main_v69, val_main_v58, val_main_v47, val_main_v38, val_main_v68, val_main_v57, val_main_v46, val_main_v37, val_main_v67, val_main_v56, val_main_v45, val_main_v36, val_main_v5, val_main_v13, val_main_v20, val_main_v27, val_main_v34, val_main_v35, val_main_cst_17, val_main_cst_16, val_main_cst_13, val_main_cst_12, val_main_cst_9, val_main_cst_8, val_main_cst_5, val_main_cst_4, xp_at]
    rw [Finset.univ_unique, Finset.sum_singleton]
    try exact Finset.sum_congr rfl fun s _ => congrArg (tap _ · l * _) (by omega)

/-- The filter's gradient, four rows of zeros after it. -/
theorem dw_at (j : Fin 8) (l : Fin 1536) :
    val_main_v82 (F := Ideal) x ct (ix2 j l) = if (j : ℕ) < 4 then dw (fun s l => x (ix2 s l)) (fun s l => ct (ix2 s l)) j l else 0 := by
  pointwise [val_main_v82, val_main_v75, val_main_v64, val_main_v53, val_main_v74, val_main_v63, val_main_v52, val_main_v43, val_main_v73, val_main_v62, val_main_v51, val_main_v42, val_main_cst_18, val_main_cst_14, val_main_cst_10, val_main_cst_6, val_main_call0_v0, val_main_c, row_at x ct]
  by_cases h4 : (j : ℕ) < 4
  · rw [dif_pos h4, if_pos h4]
    obtain h | h | h | h : (j : ℕ) = 0 ∨ (j : ℕ) = 1 ∨ (j : ℕ) = 2 ∨ (j : ℕ) = 3 := by omega
    all_goals simp [h]
  · rw [dif_neg h4, if_neg h4]
    rw [show FloatOps.sitofp (F := Ideal) FTy.f32 0#32 = ((((0#32 : BitVec 32).toInt : ℤ) : ℝ) : EReal) from rfl]
    simp

end Cert.GdnConvRefIdeal.Hand
-- ==== Proof.GdnConv.Claim.lean ====
/- The wide convolution's gradient: the kernel computes the derivative of the centred four-tap convolution. -/
module
public import proofs.«01_k».proof.Proof.GdnConv.Array
public import proofs.«01_k».proof.Proof.GdnConv.Ref
public import proofs.«01_k».proof.Proof.Gen.GdnConvBwd.Frame
public import proofs.«01_k».proof.Defs

@[expose] public section

set_option maxRecDepth 16384

noncomputable section

namespace Cert.GdnConv

open Idealize.ShloMosaic Idealize.ShloMosaic.TcCoe Idealize.SL.Sem

/-- The reference runs to the end and leaves its arguments unchanged. -/
theorem frame_ref : Cert.quiescent_GdnConvRefIdeal := fun m ρ _ =>
  (θ_run Cert.GdnConvRefIdeal.defs _ _).mono (fun r h => ⟨fun c => (h c).2.2, sem_eq_zero_of_no_sems (by decide) r.2⟩)
    (Cert.GdnConvRefIdeal.Value.run m ρ)

/-- The kernel's two results are the reference's two results, on every input. -/
theorem algebraic : Cert.algebraic_GdnConvBwdIdeal_GdnConvRefIdeal := fun m ρ m' ρ' _ hag =>
  ⟨_, _, (θ_run _ _ _).mono (fun r h c => ⟨(h c).1, (h c).2.1, (h c).2.2.2⟩) (Cert.GdnConvBwdIdeal.Value.run_blocks m ρ), (θ_run _ _ _).mono (fun r h c => by
    obtain ⟨h0, h1, h2⟩ := h c
    obtain ⟨a0, a1, a2⟩ := hag c
    refine ⟨h0.trans ?_, h1.trans ?_, h2⟩
    · rw [Cert.GdnConvRefIdeal.Read.val_main_v81_eq, a1, a2]
      refine Eq.trans ?_ (Cert.GdnConvBwdIdeal.Hand.final_dx m c).symm
      funext i
      idx_vars i
      exact Cert.GdnConvRefIdeal.Hand.dx_at _ _ i0 i1
    · rw [Cert.GdnConvRefIdeal.Read.val_main_v82_eq, a0, a2]
      refine Eq.trans ?_ (Cert.GdnConvBwdIdeal.Hand.final_dw m c).symm
      funext i
      idx_vars i
      exact Cert.GdnConvRefIdeal.Hand.dw_at _ _ i0 i1) (Cert.GdnConvRefIdeal.Value.run m' ρ')⟩

end Cert.GdnConv
-- ==== Proof.Loss.Model.lean ====
/- The loss head over the real numbers: one row's normalisation, its error against the target, the error's mean square and
   the gradient of half of it. -/
module
public import proofs.«01_k».proof.Proof.Reals

@[expose] public section

noncomputable section

namespace Cert.Loss

open Cert.Reals

variable (x t g : Fin 1024 → ℝ)

/-- The reciprocal root mean square of a row. -/
def inv : ℝ := (√((∑ k, x k * x k) / 1024 + eps))⁻¹

theorem inv_def : (√((∑ k, x k * x k) / 1024 + eps))⁻¹ = inv x := rfl

/-- The error of the normalised row against the target. -/
def err (l : Fin 1024) : ℝ := x l * inv x * g l - t l

/-- The mean square of a row's error. -/
def msq : ℝ := (∑ k, err x t g k * err x t g k) / 1024

/-- A row's gradient. -/
def dx (l : Fin 1024) : ℝ :=
  inv x * (err x t g l * (1 / 1024) * g l - x l * inv x * ((∑ k, err x t g k * (1 / 1024) * g k * (x k * inv x)) / 1024))

/-- A row's part of the gain's gradient. -/
def dg (l : Fin 1024) : ℝ := err x t g l * (1 / 1024) * (x l * inv x)

/-- The root mean square's argument is positive. -/
theorem arg_pos : 0 < (∑ k, x k * x k) / 1024 + eps :=
  add_pos_of_nonneg_of_pos (div_nonneg (Finset.sum_nonneg fun k _ => mul_self_nonneg (x k)) (by norm_num)) eps_pos

/-- The square of the reciprocal root is the reciprocal of its argument. -/
theorem inv_sq : inv x * inv x = 1 / ((∑ k, x k * x k) / 1024 + eps) := by
  rw [inv, ← mul_inv, Real.mul_self_sqrt (arg_pos x).le, one_div]

/-- The derivative of a row's normalisation, at a cotangent `a` of the normalised row times the gain: the form the chain
    rule gives is the kernel's form. -/
theorem grad_eq (a : Fin 1024 → ℝ) (l : Fin 1024) :
    a l * inv x + x l * ((∑ k, x k * a k) * (-(1 / 2) * (inv x / ((∑ k, x k * x k) / 1024 + eps))) / 1024)
        + (∑ k, x k * a k) * (-(1 / 2) * (inv x / ((∑ k, x k * x k) / 1024 + eps))) / 1024 * x l
      = inv x * (a l - x l * inv x * ((∑ k, a k * (x k * inv x)) / 1024)) := by
  have e : ∑ k, a k * (x k * inv x) = (∑ k, x k * a k) * inv x := by
    rw [Finset.sum_mul]; exact Finset.sum_congr rfl fun k _ => by ring
  rw [e, div_eq_mul_one_div (inv x), ← inv_sq]
  ring

end Cert.Loss
-- ==== Proof.Loss.Block.lean ====
/- One grid point of the loss head: the rows it reads are real numbers, and what it writes to each output. -/
module
public import proofs.«01_k».proof.Proof.Loss.Model
public import proofs.«01_k».proof.Proof.Gen.LossHeadIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.LossHeadIdeal.Hand

open Cert.Loss Cert.LossHeadIdeal Cert.LossHeadIdeal.Gen Idealize.ShloMosaic Idealize.ShloMosaic.TcCoe Idealize.SL.Sem
open Idealize.ShloMosaic.Pipeline (Dat)

section Payloads

variable {x y : Vec Ideal S512x1024 .f32} {g : Vec Ideal S1x1024 .f32} {X T : Fin 512 → Fin 1024 → ℝ} {G : Fin 1024 → ℝ}
  (hx : ∀ r l, x (ix2 r l) = (X r l : EReal)) (hy : ∀ r l, y (ix2 r l) = (T r l : EReal)) (hg : ∀ l, g (ix2 0 l) = (G l : EReal))

include hx hy hg

/-- The gradient's payload at a row of real numbers. -/
theorem dx_pay (r : Fin 512) (l : Fin 1024) :
    k0_pay2 (F := Ideal) (k0_pay6 x) (k0_pay7 x) (k0_pay8 g) (k0_pay11 x g y) (ix2 r l) = (dx (X r) (T r) G l : EReal) := by
  pointwise [k0_pay2, k0_pay6, k0_pay7, k0_pay8, k0_pay11, k0_pay9]
  have p := arg_pos (X r)
  simp (disch := first | assumption | norm_num) only [hx, hy, hg, Reals.lit_1024, Reals.lit_eps, Reals.lit_inv_1024, Reals.mul, Reals.add, Reals.sub,
    Reals.sum, Reals.div, Reals.rsqrt]
  rfl

/-- Half of the gradient, the bf16 output's payload. -/
theorem dxh_pay (r : Fin 512) (l : Fin 1024) :
    k0_pay3 (F := Ideal) (k0_pay6 x) (k0_pay7 x) (k0_pay8 g) (k0_pay11 x g y) (ix2 r l) = ((1 / 2 * dx (X r) (T r) G l : ℝ) : EReal) := by
  pointwise [k0_pay3]
  rw [dx_pay hx hy hg, Reals.lit_half, Reals.mul]

/-- The loss's payload: half of the rows' mean squares is added to what was there. -/
theorem loss_pay (a : Vec Ideal S8x128 .f32) (i : Fin 8) (j : Fin 128) :
    k0_pay10 (F := Ideal) x g y a (ix2 i j) = a (ix2 i j) + ((1 / 2 * ∑ r, msq (X r) (T r) G : ℝ) : EReal) := by
  pointwise [k0_pay10, k0_pay6, k0_pay7, k0_pay8, k0_pay9]
  have p := fun r => arg_pos (X r)
  simp (disch := first | exact p _ | norm_num) only [hx, hy, hg, Reals.lit_1024, Reals.lit_eps, Reals.lit_half, Reals.mul, Reals.add, Reals.sub,
    Reals.sum, Reals.div, Reals.rsqrt]
  rfl

/-- The gain's gradient's payload: the rows' parts are added to what was there. -/
theorem dg_pay (a : Vec Ideal S1x1024 .f32) (l : Fin 1024) :
    k0_pay1 (F := Ideal) (k0_pay7 x) (k0_pay11 x g y) a (ix2 0 l) = a (ix2 0 l) + ((∑ r, dg (X r) (T r) G l : ℝ) : EReal) := by
  pointwise [k0_pay1, k0_pay6, k0_pay7, k0_pay8, k0_pay9, k0_pay11]
  have p := fun r => arg_pos (X r)
  simp (disch := first | exact p _ | norm_num) only [hx, hy, hg, Reals.lit_1024, Reals.lit_eps, Reals.lit_inv_1024, Reals.mul, Reals.add, Reals.sub,
    Reals.sum, Reals.div, Reals.rsqrt]
  rfl

end Payloads

variable (m : (ℓ : Loc nD τ sig) → Buf (Elt Ideal) ℓ)

/-- The layer's output, the target and the gain as real functions of row and lane. -/
abbrev X (c : Dev nD) (s : Fin 8192) (l : Fin 1024) : ℝ := (m ((c.tc : Thread nD τ).loc main_arg0) (ix2 s l) : EReal).toReal
abbrev T (c : Dev nD) (s : Fin 8192) (l : Fin 1024) : ℝ := (m ((c.tc : Thread nD τ).loc main_arg1) (ix2 s l) : EReal).toReal
abbrev G (c : Dev nD) (l : Fin 1024) : ℝ := (m ((c.tc : Thread nD τ).loc main_arg2) (ix1 l) : EReal).toReal

/-- The arguments hold real numbers. -/
def Finite : Prop := ∀ c, (∀ s l, ((X m c s l : ℝ) : EReal) = m ((c.tc : Thread nD τ).loc main_arg0) (ix2 s l))
  ∧ (∀ s l, ((T m c s l : ℝ) : EReal) = m ((c.tc : Thread nD τ).loc main_arg1) (ix2 s l))
  ∧ (∀ l, ((G m c l : ℝ) : EReal) = m ((c.tc : Thread nD τ).loc main_arg2) (ix1 l))

theorem idx0 : ∀ t, win0_0.index t = ![t.val, 0] := (by decide +kernel : ∀ t : Fin grid0.N, _)
theorem idx1 : ∀ t, win0_1.index t = ![t.val, 0] := (by decide +kernel : ∀ t : Fin grid0.N, _)
theorem idx2 : ∀ t, win0_2.index t = ![0, 0] := (by decide +kernel : ∀ t : Fin grid0.N, _)
theorem idx3 : ∀ t, win0_3.index t = ![t.val, 0] := (by decide +kernel : ∀ t : Fin grid0.N, _)
theorem idx4 : ∀ t, win0_4.index t = ![t.val, 0] := (by decide +kernel : ∀ t : Fin grid0.N, _)

/-- Row `r` of grid point `t`'s block. -/
abbrev row (t : Fin cfg0.N) (r : Fin 512) : Fin 8192 := ⟨t.val * 512 + r, by have := lt_of_lt_of_eq t.isLt N_0; omega⟩

variable {m} (hm : Finite m)
include hm

/-- The blocks a grid point reads. -/
theorem blk0 (c : Dev nD) (t : Fin cfg0.N) (r : Fin 512) (l : Fin 1024) : iblk m c 0 t (ix2 r l) = (X m c (row t r) l : EReal) := by
  rw [(hm c).1]
  blk_point [iblk, V, idx0 t]
theorem blk1 (c : Dev nD) (t : Fin cfg0.N) (r : Fin 512) (l : Fin 1024) : iblk m c 1 t (ix2 r l) = (T m c (row t r) l : EReal) := by
  rw [(hm c).2.1]
  blk_point [iblk, V, idx1 t]

omit hm in
/-- A row vector as a one-row matrix. -/
theorem row_at (w : FVec Ideal S1024 .f32) (l : Fin 1024) : shapeCast S1x1024 w shapeCasts_S1024_S1x1024 (ix2 0 l) = w (ix1 l) := by
  pointwise []

/-- The gain the region is entered with. -/
theorem V_gain (c : Dev nD) (l : Fin 1024) : V m c main_v0 (ix2 0 l) = (G m c l : EReal) := by
  rw [(hm c).2.2]
  simp only [V, hostOps0, List.cons_append, List.nil_append]
  after_results
  exact row_at (m (c, Proc.tc.devRef main_arg2)) l

theorem blk2 (c : Dev nD) (t : Fin cfg0.N) (l : Fin 1024) : iblk m c 2 t (ix2 0 l) = (G m c l : EReal) := by
  rw [← V_gain hm]
  blk_point [iblk, idx2 t]

/-- A grid point's rows of the gradient. -/
theorem dx_point (c : Dev nD) (t : Fin cfg0.N) (r : Fin 512) (l : Fin 1024) :
    (outsAt0 m c t.val t.isLt).1 (ix2 r l) = (dx (X m c (row t r)) (T m c (row t r)) (G m c) l : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dx_pay (blk0 hm c t) (blk1 hm c t) (blk2 hm c t) r l

/-- … and of half of it. -/
theorem dxh_point (c : Dev nD) (t : Fin cfg0.N) (r : Fin 512) (l : Fin 1024) :
    (outsAt0 m c t.val t.isLt).2.1 (ix2 r l) = ((1 / 2 * dx (X m c (row t r)) (T m c (row t r)) (G m c) l : ℝ) : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dxh_pay (blk0 hm c t) (blk1 hm c t) (blk2 hm c t) r l

/-- The loss a grid point after the first adds. -/
theorem loss_step (c : Dev nD) (t : Fin cfg0.N) (h : ¬ t.val % 16 = 0) (i : Fin 8) (j : Fin 128) :
    (outsAt0 m c t.val t.isLt).2.2.1 (ix2 i j)
      = (outsAt0 m c (t.val - 1) (Nat.lt_of_le_of_lt (Nat.sub_le _ _) t.isLt)).2.2.1 (ix2 i j)
        + ((1 / 2 * ∑ r, msq (X m c (row t r)) (T m c (row t r)) (G m c) : ℝ) : EReal) := by
  rw [outsAt0_B m c t h]
  frame_open
  simp (disch := decide) only [↓ View.readCov_skip, ↓ View.readCov_cons_toLoadRect, ↓ View.readCov_fill]
  frame_out
  exact loss_pay (blk0 hm c t) (blk1 hm c t) (blk2 hm c t) _ i j

/-- The first grid point starts the loss from zero. -/
theorem loss_first (c : Dev nD) (t : Fin cfg0.N) (h : t.val % 16 = 0) (i : Fin 8) (j : Fin 128) :
    (outsAt0 m c t.val t.isLt).2.2.1 (ix2 i j)
      = 0 + ((1 / 2 * ∑ r, msq (X m c (row t r)) (T m c (row t r)) (G m c) : ℝ) : EReal) := by
  rw [outsAt0_A m c t h]
  frame_open
  simp (disch := decide) only [↓ View.readCov_skip, ↓ View.readCov_cons_toLoadRect, ↓ View.readCov_fill]
  frame_out
  refine (loss_pay (blk0 hm c t) (blk1 hm c t) (blk2 hm c t) _ i j).trans (congrArg (· + _) ?_)
  pointwise [k0_pay4]

/-- The gain's gradient: a grid point after the first adds its rows' parts. -/
theorem dg_step (c : Dev nD) (t : Fin cfg0.N) (h : ¬ t.val % 16 = 0) (j : Fin 1) (l : Fin 1024) :
    (outsAt0 m c t.val t.isLt).2.2.2 (ix2 j l)
      = (outsAt0 m c (t.val - 1) (Nat.lt_of_le_of_lt (Nat.sub_le _ _) t.isLt)).2.2.2 (ix2 j l)
        + ((∑ r, dg (X m c (row t r)) (T m c (row t r)) (G m c) l : ℝ) : EReal) := by
  obtain rfl : j = 0 := Subsingleton.elim _ _
  rw [outsAt0_B m c t h]
  frame_open
  simp (disch := decide) only [↓ View.readCov_skip, ↓ View.readCov_cons_toLoadRect, ↓ View.readCov_fill]
  frame_out
  exact dg_pay (blk0 hm c t) (blk1 hm c t) (blk2 hm c t) _ l

/-- The first grid point starts it from zero. -/
theorem dg_first (c : Dev nD) (t : Fin cfg0.N) (h : t.val % 16 = 0) (j : Fin 1) (l : Fin 1024) :
    (outsAt0 m c t.val t.isLt).2.2.2 (ix2 j l) = 0 + ((∑ r, dg (X m c (row t r)) (T m c (row t r)) (G m c) l : ℝ) : EReal) := by
  obtain rfl : j = 0 := Subsingleton.elim _ _
  rw [outsAt0_A m c t h]
  frame_open
  simp (disch := decide) only [↓ View.readCov_skip, ↓ View.readCov_cons_toLoadRect, ↓ View.readCov_fill]
  frame_out
  refine (dg_pay (blk0 hm c t) (blk1 hm c t) (blk2 hm c t) _ l).trans (congrArg (· + _) ?_)
  pointwise [k0_pay5]

end Cert.LossHeadIdeal.Hand
-- ==== Proof.Loss.Array.lean ====
/- The arrays the loss head leaves: the points' blocks put together. -/
module
public import proofs.«01_k».proof.Proof.Loss.Block

@[expose] public section

set_option maxRecDepth 16384

noncomputable section

namespace Cert.LossHeadIdeal.Hand

open Cert.Loss Cert.LossHeadIdeal Cert.LossHeadIdeal.Gen Idealize.ShloMosaic Idealize.ShloMosaic.TcCoe Idealize.SL.Sem
open Idealize.ShloMosaic.Pipeline (Dat)

variable {m : (ℓ : Loc nD τ sig) → Buf (Elt Ideal) ℓ} (hm : Finite m)

/-- The points' rows are all rows. -/
theorem sum_rows (f : Fin 8192 → ℝ) : ∑ t : Fin cfg0.N, ∑ r, f (row t r) = ∑ s, f s :=
  Fin.sum_mul_add_congr fun t k hl => rfl

include hm

/-- The array of the gradient. -/
theorem final_dx (c : Dev nD) : (dats m 0 c).arrAt 3 (cfgs 0).N
    = fun i : S8192x1024.Idx => ((dx (X m c (i 0)) (T m c (i 0)) (G m c) (i 1) : ℝ) : EReal) := by
  refine (dats m 0 c).arrAt_eq_of_covers 3 _ (by decide +kernel) fun t hf y => ?_
  idx_vars y
  blk_simp
  rw [after0_3]
  have e0 : (win0_3.blk t).view.emb (ix2 y0 y1) 0 = row t y0 := Fin.ext (by blk_simp [idx3 t])
  have e1 : (win0_3.blk t).view.emb (ix2 y0 y1) 1 = y1 := Fin.ext (by blk_simp [idx3 t])
  rw [e0, e1]
  exact dx_point hm c t y0 y1

/-- The array of half of the gradient. -/
theorem final_dxh (c : Dev nD) : (dats m 0 c).arrAt 4 (cfgs 0).N
    = fun i : S8192x1024.Idx => ((1 / 2 * dx (X m c (i 0)) (T m c (i 0)) (G m c) (i 1) : ℝ) : EReal) := by
  refine (dats m 0 c).arrAt_eq_of_covers 4 _ (by decide +kernel) fun t hf y => ?_
  idx_vars y
  blk_simp
  rw [after0_4]
  have e0 : (win0_4.blk t).view.emb (ix2 y0 y1) 0 = row t y0 := Fin.ext (by blk_simp [idx4 t])
  have e1 : (win0_4.blk t).view.emb (ix2 y0 y1) 1 = y1 := Fin.ext (by blk_simp [idx4 t])
  rw [e0, e1]
  exact dxh_point hm c t y0 y1

/-- The loss's block: every entry is the whole loss. -/
theorem final_loss (c : Dev nD) : (dats m 0 c).arrAt 5 (cfgs 0).N
    = fun i : S8x128.Idx => ((1 / 2 * ∑ s, msq (X m c s) (T m c s) (G m c) : ℝ) : EReal) := by
  refine (dats m 0 c).arrAt_eq_of_after_last 5 t0_15 (by decide +kernel) _ fun j => ?_
  blk_simp
  idx_vars j
  rw [after0_5, Pipeline.eq_sum_fin_of_reset_step_apply_last (fun n h (i : Fin 8 × Fin 128) => (outsAt0 m c n h).2.2.1 (ix2 i.1 i.2)) 16 (fun _ => 0)
    (fun t i => ((1 / 2 * ∑ r, msq (X m c (row t r)) (T m c (row t r)) (G m c) : ℝ) : EReal))
    (fun t h i => loss_first hm c t h i.1 i.2) (fun t h i => loss_step hm c t h i.1 i.2) (le_of_eq N_0) t0_15 rfl (j0, j1), zero_add, Reals.sum,
    ← Finset.mul_sum, sum_rows fun s => msq (X m c s) (T m c s) (G m c)]

/-- The gain's gradient. -/
theorem final_dg (c : Dev nD) : (dats m 0 c).arrAt 6 (cfgs 0).N
    = fun i : S1x1024.Idx => ((∑ s, dg (X m c s) (T m c s) (G m c) (i 1) : ℝ) : EReal) := by
  refine (dats m 0 c).arrAt_eq_of_after_last 6 t0_15 (by decide +kernel) _ fun j => ?_
  blk_simp
  idx_vars j
  rw [after0_6, Pipeline.eq_sum_fin_of_reset_step_apply_last (fun n h (i : Fin 1 × Fin 1024) => (outsAt0 m c n h).2.2.2 (ix2 i.1 i.2)) 16 (fun _ => 0)
    (fun t i => ((∑ r, dg (X m c (row t r)) (T m c (row t r)) (G m c) i.2 : ℝ) : EReal))
    (fun t h i => dg_first hm c t h i.1 i.2) (fun t h i => dg_step hm c t h i.1 i.2) (le_of_eq N_0) t0_15 rfl (j0, j1), zero_add, Reals.sum,
    sum_rows fun s => dg (X m c s) (T m c s) (G m c) j1]

end Cert.LossHeadIdeal.Hand
-- ==== Proof.Loss.Ref.lean ====
/- The reference's four results at real arguments. -/
module
public import proofs.«01_k».proof.Proof.Loss.Model
public import proofs.«01_k».proof.Proof.Gen.LossRefIdeal.Read
public import Idealize.ShloMosaic.Lib.Pipeline.ValueKit

@[expose] public section

set_option maxRecDepth 16384

noncomputable section

namespace Cert.LossRefIdeal.Hand

open Cert.Loss Cert.LossRefIdeal Cert.LossRefIdeal.Gen Cert.LossRefIdeal.Read Idealize.ShloMosaic Idealize.ShloMosaic.TcCoe Idealize.SL.Sem

variable {x0 x1 : (⟨S8192x1024, .f32⟩ : BufTy).Contents (Elt Ideal)} {x2 : (⟨S1024, .f32⟩ : BufTy).Contents (Elt Ideal)}
  {X T : Fin 8192 → Fin 1024 → ℝ} {G : Fin 1024 → ℝ}
  (hx : ∀ s l, x0 (ix2 s l) = (X s l : EReal)) (ht : ∀ s l, x1 (ix2 s l) = (T s l : EReal)) (hg : ∀ l, x2 (ix1 l) = (G l : EReal))

include hx ht hg

/-- The gradient. -/
theorem dx_at (s : Fin 8192) (l : Fin 1024) : val_main_v50 (F := Ideal) x0 x1 x2 (ix2 s l) = (dx (X s) (T s) G l : EReal) := by
  pointwise [val_main_v50, val_main_v49, val_main_v48, val_main_v47, val_main_v46, val_main_v45, val_main_v44, val_main_v43, val_main_v42,
    val_main_v41, val_main_v40, val_main_v39, val_main_v38, val_main_v37, val_main_v35, val_main_v34, val_main_v30, val_main_v29, val_main_v28,
    val_main_v27, val_main_v26, val_main_v25, val_main_v19, val_main_v18, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_8, val_main_cst_9,
    val_main_cst_10, val_main_cst_13, val_main_cst_14, val_main_cst_15]
  have p := arg_pos (X s)
  simp (disch := first | assumption | exact p.ne' | norm_num) only [hx, ht, hg, Reals.lit_1024, Reals.lit_eps, Reals.lit_half, Reals.lit_two, Reals.lit_neg_half,
    Reals.mul, Reals.add, Reals.sub, Reals.sum, Reals.div, Reals.rsqrt, inv_def, Finset.univ_unique, Finset.sum_singleton]
  have e : ∀ k, 1 / 2 / 1024 * (2 * (X s k * inv (X s) * G k - T s k)) * G k = err (X s) (T s) G k * (1 / 1024) * G k := fun k => by
    simp only [err]; ring
  simp only [e]
  exact congrArg _ (grad_eq (X s) (fun k => err (X s) (T s) G k * (1 / 1024) * G k) l)

/-- Half of the gradient. -/
theorem dxh_at (s : Fin 8192) (l : Fin 1024) : val_main_v53 (F := Ideal) x0 x1 x2 (ix2 s l) = ((1 / 2 * dx (X s) (T s) G l : ℝ) : EReal) := by
  pointwise [val_main_v53, val_main_v52, val_main_v51, val_main_cst_16]
  rw [dx_at hx ht hg, Reals.lit_half, Reals.mul]

/-- The loss, at every entry of its block. -/
theorem loss_at (i : Fin 8) (j : Fin 128) : val_main_v54 (F := Ideal) x0 x1 x2 (ix2 i j) = ((1 / 2 * ∑ s, msq (X s) (T s) G : ℝ) : EReal) := by
  pointwise [val_main_v54, val_main_v24, val_main_v23, val_main_v22, val_main_v21, val_main_v20, val_main_v17, val_main_v16, val_main_v15,
    val_main_v14, val_main_v13, val_main_v12, val_main_v11, val_main_v7, val_main_v6, val_main_v5, val_main_v4, val_main_v3, val_main_v2,
    val_main_v1, val_main_v0, val_main_cst, val_main_cst_0, val_main_cst_1, val_main_cst_4, val_main_cst_5, val_main_cst_6, val_main_cst_7]
  have p := fun s => arg_pos (X s)
  simp (disch := first | exact p _ | norm_num) only [hx, ht, hg, Reals.lit_1024, Reals.lit_eps, Reals.lit_half,
    Reals.mul, Reals.add, Reals.sub, Reals.sum, Reals.div, Reals.rsqrt]
  rfl

/-- The gain's gradient. -/
theorem dg_at (j : Fin 1) (l : Fin 1024) : val_main_v55 (F := Ideal) x0 x1 x2 (ix2 j l) = ((∑ s, dg (X s) (T s) G l : ℝ) : EReal) := by
  pointwise [val_main_v55, val_main_v36, val_main_v33, val_main_v32, val_main_v31, val_main_v30, val_main_v29, val_main_v28,
    val_main_v27, val_main_v26, val_main_v25, val_main_v19, val_main_v18, val_main_v16, val_main_v15, val_main_v14, val_main_v13, val_main_v12,
    val_main_v11, val_main_v7, val_main_v6, val_main_v5, val_main_v4, val_main_v3, val_main_v2,
    val_main_v1, val_main_v0, val_main_cst, val_main_cst_0, val_main_cst_1, val_main_cst_3, val_main_cst_8, val_main_cst_9,
    val_main_cst_10, val_main_cst_11, val_main_cst_12]
  have p := fun s => arg_pos (X s)
  simp (disch := first | exact p _ | norm_num) only [hx, ht, hg, Reals.lit_1024, Reals.lit_eps, Reals.lit_half, Reals.lit_two,
    Reals.mul, Reals.add, Reals.sub, Reals.sum, Reals.div, Reals.rsqrt, inv_def, Finset.univ_unique, Finset.sum_singleton]
  refine congrArg _ (Finset.sum_congr rfl fun s _ => ?_)
  simp only [dg, err]
  ring

end Cert.LossRefIdeal.Hand
-- ==== Proof.Loss.Claim.lean ====
/- The loss head: the kernel computes the loss and its derivative. -/
module
public import proofs.«01_k».proof.Proof.Loss.Array
public import proofs.«01_k».proof.Proof.Loss.Ref
public import proofs.«01_k».proof.Proof.Gen.LossHead.Frame
public import proofs.«01_k».proof.Defs

@[expose] public section

set_option maxRecDepth 16384

noncomputable section

namespace Cert.Loss

open Idealize.ShloMosaic Idealize.ShloMosaic.TcCoe Idealize.SL.Sem

/-- The two shape facts the precondition states. -/
instance pre_facts : Cert.Pre_loss_finite.Facts := ⟨by decide, by decide⟩

/-- The precondition says that the arguments are real numbers. -/
theorem finite [Cert.Pre_loss_finite.Facts] {m : (ℓ : Loc Cert.LossHeadIdeal.nD Cert.LossHeadIdeal.τ Cert.LossHeadIdeal.sig) → Buf (Elt Ideal) ℓ}
    (h : Cert.Pre_LossHeadIdeal_loss_finite m) : Cert.LossHeadIdeal.Hand.Finite m := fun c =>
  ⟨fun s l => Reals.exists_real (congrFun (h c).1 (ix2 s l)), fun s l => Reals.exists_real (congrFun (h c).2.1 (ix2 s l)),
    fun l => Reals.exists_real (congrFun (h c).2.2 (ix1 l))⟩

/-- The reference runs to the end and leaves its arguments unchanged. -/
theorem frame_ref : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run m ρ)

/-- The kernel's four results are the reference's four results, on real arguments. -/
theorem algebraic [Cert.Pre_loss_finite.Facts] : Cert.algebraic_LossHeadIdeal_LossRefIdeal_pre_loss_finite := fun m ρ m' ρ' hp hag =>
  ⟨_, _, _, _, Cert.LossHeadIdeal.Value.run_blocks m ρ, (θ_run _ _ _).mono (fun r h c => by
    obtain ⟨h0, h1, h2, h3, h4⟩ := h c
    obtain ⟨a0, a1, a2⟩ := hag c
    have hm := finite hp
    obtain ⟨f0, f1, f2⟩ := hm c
    refine ⟨h0.trans ?_, h1.trans ?_, h2.trans ?_, h3.trans ?_, h4⟩
    · rw [Cert.LossRefIdeal.Read.val_main_v50_eq, a0, a1, a2]
      refine Eq.trans ?_ (Cert.LossHeadIdeal.Hand.final_dx hm c).symm
      funext i
      idx_vars i
      exact Cert.LossRefIdeal.Hand.dx_at (fun s l => (f0 s l).symm) (fun s l => (f1 s l).symm) (fun l => (f2 l).symm) i0 i1
    · rw [Cert.LossRefIdeal.Read.val_main_v53_eq, a0, a1, a2]
      refine Eq.trans ?_ (Cert.LossHeadIdeal.Hand.final_dxh hm c).symm
      funext i
      idx_vars i
      exact Cert.LossRefIdeal.Hand.dxh_at (fun s l => (f0 s l).symm) (fun s l => (f1 s l).symm) (fun l => (f2 l).symm) i0 i1
    · rw [Cert.LossRefIdeal.Read.val_main_v54_eq, a0, a1, a2]
      refine Eq.trans ?_ (Cert.LossHeadIdeal.Hand.final_loss hm c).symm
      funext i
      idx_vars i
      exact Cert.LossRefIdeal.Hand.loss_at (fun s l => (f0 s l).symm) (fun s l => (f1 s l).symm) (fun l => (f2 l).symm) i0 i1
    · rw [Cert.LossRefIdeal.Read.val_main_v55_eq, a0, a1, a2]
      refine Eq.trans ?_ (Cert.LossHeadIdeal.Hand.final_dg hm c).symm
      funext i
      idx_vars i
      exact Cert.LossRefIdeal.Hand.dg_at (fun s l => (f0 s l).symm) (fun s l => (f1 s l).symm) (fun l => (f2 l).symm) i0 i1)
    (Cert.LossRefIdeal.Value.run m' ρ')⟩

end Cert.Loss
-- ==== Proof.GdnPrep.Model.lean ====
/- The gradient of GDN's preparation over the real numbers: the activation x ↦ x·σ(x) and its derivative, the derivative
   of a head's normalisation, and the gradients of the two gates β and g. -/
module
public import proofs.«01_k».proof.Proof.Reals

@[expose] public section

noncomputable section

namespace Cert.GdnPrep

open Cert.Reals

/-- The logistic function, the activation, its derivative, and softplus. -/
def sig (x : ℝ) : ℝ := 1 / (1 + Real.exp (-x))
def act (x : ℝ) : ℝ := x * sig x
def act' (x : ℝ) : ℝ := sig x * (1 + x * (1 - sig x))
def sp (x : ℝ) : ℝ := Real.log (1 + Real.exp x)

/-- The kernel's logistic function is the logistic function. -/
theorem sig_eq (x : ℝ) : 1 / 2 + 1 / 2 * Real.tanh (1 / 2 * x) = sig x := sig_tanh x

theorem one_add_exp_pos (x : ℝ) : 0 < 1 + Real.exp x := add_pos one_pos (Real.exp_pos x)

section Head

variable (u d : Fin 128 → ℝ)

/-- The reciprocal norm of a head. -/
def nrm : ℝ := (√((∑ k, u k * u k) + eps))⁻¹

theorem nrm_def : (√((∑ k, u k * u k) + eps))⁻¹ = nrm u := rfl

/-- The gradient of a head's normalisation at a cotangent `d`. -/
def dnorm (l : Fin 128) : ℝ := nrm u * (d l - u l * nrm u * ∑ k, d k * (u k * nrm u))

/-- The norm's argument is positive. -/
theorem arg_pos : 0 < (∑ k, u k * u k) + eps :=
  add_pos_of_nonneg_of_pos (Finset.sum_nonneg fun k _ => mul_self_nonneg (u k)) eps_pos

/-- The chain rule's form of that gradient. -/
theorem dnorm_eq (l : Fin 128) :
    d l * nrm u + u l * ((∑ k, u k * d k) * (-(1 / 2) * (nrm u / ((∑ k, u k * u k) + eps))))
        + (∑ k, u k * d k) * (-(1 / 2) * (nrm u / ((∑ k, u k * u k) + eps))) * u l
      = dnorm u d l := by
  have e : ∑ k, d k * (u k * nrm u) = (∑ k, u k * d k) * nrm u := by
    rw [Finset.sum_mul]; exact Finset.sum_congr rfl fun k _ => by ring
  have q : nrm u * nrm u = 1 / ((∑ k, u k * u k) + eps) := by
    rw [nrm, ← mul_inv, Real.mul_self_sqrt (arg_pos u).le, one_div]
  rw [dnorm, e, div_eq_mul_one_div (nrm u), ← q]
  ring

end Head

/-- The queries' scale: the rational number of the float nearest to the reciprocal root of 128. -/
def scale : ℝ := 11863283 / 134217728
theorem lit_scale : Idealize.ShloMosaic.Ideal.ofBits .f32 0x3DB504F3#32 = (scale : EReal) := by
  simp [Idealize.ShloMosaic.Ideal.ofBits, Idealize.ShloMosaic.Ideal.ieee, -EReal.coe_mul]; unfold scale; norm_num

/-- A row of the convolution's output's gradient: the first four heads are queries, the next four keys, the rest values. -/
def dcq (x : Fin 1536 → ℝ) (dq dk dv : Fin 512 → ℝ) (l : Fin 1536) : ℝ :=
  if h : (l : ℕ) < 512 then
    dnorm (fun k => act (x ⟨(l : ℕ) / 128 * 128 + k, by omega⟩)) (fun k => dq ⟨(l : ℕ) / 128 * 128 + k, by omega⟩ * scale) ⟨(l : ℕ) % 128, by omega⟩ * act' (x l)
  else if h : (l : ℕ) < 1024 then
    dnorm (fun k => act (x ⟨(l : ℕ) / 128 * 128 + k, by omega⟩)) (fun k => dk ⟨((l : ℕ) - 512) / 128 * 128 + k, by omega⟩) ⟨(l : ℕ) % 128, by omega⟩ * act' (x l)
  else dv ⟨l - 1024, by omega⟩ * act' (x l)

/-- … at lane `k` of the query head that starts at lane `o`. -/
theorem dcq_q (x : Fin 1536 → ℝ) (dq dk dv : Fin 512 → ℝ) {o : ℕ} (h : o % 128 = 0) (ho : o + 128 ≤ 512) (k : Fin 128) :
    dcq x dq dk dv ⟨o + k, by omega⟩
      = dnorm (fun j => act (x ⟨o + j, by omega⟩)) (fun j => dq ⟨o + j, by omega⟩ * scale) k * act' (x ⟨o + k, by omega⟩) := by
  have e : (o + k) / 128 * 128 = o := by omega
  have e' : (o + k) % 128 = k := by omega
  simp only [dcq, e, e', dif_pos (show o + k < 512 by omega)]

/-- … of the key head, `p` the head's first lane among the keys. -/
theorem dcq_k (x : Fin 1536 → ℝ) (dq dk dv : Fin 512 → ℝ) {o p : ℕ} (h : p % 128 = 0) (hp : p + 128 ≤ 512) (ho : o = 512 + p) (k : Fin 128) :
    dcq x dq dk dv ⟨o + k, by omega⟩
      = dnorm (fun j => act (x ⟨o + j, by omega⟩)) (fun j => dk ⟨p + j, by omega⟩) k * act' (x ⟨o + k, by omega⟩) := by
  have e : (o + k) / 128 * 128 = o := by omega
  have e' : (o + k) % 128 = k := by omega
  have e'' : (o + k - 512) / 128 * 128 = p := by omega
  simp only [dcq, e, e', e'', dif_neg (show ¬ o + k < 512 by omega), dif_pos (show o + k < 1024 by omega)]

/-- … of the values. -/
theorem dcq_v (x : Fin 1536 → ℝ) (dq dk dv : Fin 512 → ℝ) (k : Fin 512) :
    dcq x dq dk dv ⟨1024 + k, by omega⟩ = dv k * act' (x ⟨1024 + k, by omega⟩) := by
  simp only [dcq, dif_neg (show ¬ 1024 + (k : ℕ) < 512 by omega), dif_neg (show ¬ 1024 + (k : ℕ) < 1024 by omega), Nat.add_sub_cancel_left]

/-- Lane `l` of the row that holds two by four numbers in lanes 8 to 15. -/
def lane (a : Fin 2 → Fin 4 → ℝ) (l : Fin 128) : ℝ :=
  if h : 8 ≤ (l : ℕ) ∧ (l : ℕ) < 16 then a ⟨((l : ℕ) - 8) / 4, by omega⟩ ⟨((l : ℕ) - 8) % 4, by omega⟩ else 0

/-- Lane `l` of the row of sixteen numbers followed by zeros. -/
def lane16 (a : Fin 16 → ℝ) (l : Fin 128) : ℝ := if h : (l : ℕ) < 16 then a ⟨l, h⟩ else 0

/-- A row of g's gradient by its input, in lanes 8 to 15. -/
def dalpha (p q : Fin 128 → ℝ) (a t : Fin 128 → ℝ) (l : Fin 128) : ℝ :=
  if 8 ≤ (l : ℕ) ∧ (l : ℕ) < 16 then q l * (0 - Real.exp (a l)) * sig (p l + t l) else 0

/-- A row of both gates' gradients. -/
def dpc (p q : Fin 128 → ℝ) (a t : Fin 128 → ℝ) (l : Fin 128) : ℝ :=
  if (l : ℕ) < 8 then q l * sig (p l) * (1 - sig (p l)) else dalpha p q a t l

/-- A row's part of the gradient of the logarithm of the decay rate. -/
def dalog (p q : Fin 128 → ℝ) (a t : Fin 128 → ℝ) (l : Fin 128) : ℝ :=
  if 8 ≤ (l : ℕ) ∧ (l : ℕ) < 16 then q l * ((0 - Real.exp (a l)) * sp (p l + t l)) else 0

end Cert.GdnPrep
-- ==== Proof.GdnPrep.Pay.lean ====
/- The payloads of the gradient of GDN's preparation at blocks of real numbers. -/
module
public import proofs.«01_k».proof.Proof.GdnPrep.Model
public import proofs.«01_k».proof.Proof.Columns
public import proofs.«01_k».proof.Proof.Gen.GdnPrepBwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.GdnPrepBwdIdeal.Hand

open Cert.Columns Cert.GdnPrep Cert.GdnPrepBwdIdeal Cert.GdnPrepBwdIdeal.Gen Idealize.ShloMosaic Idealize.ShloMosaic.TcCoe Idealize.SL.Sem
open Idealize.ShloMosaic.Pipeline (Dat)

section Payloads

variable {x : Vec Ideal S512x1536 .f32} {X : Fin 512 → Fin 1536 → ℝ} (hx : ∀ r l, x (ix2 r l) = (X r l : EReal))

section
include hx

/-- The activation and its derivative at a block of real numbers. -/
theorem act_pay (r : Fin 512) (l : Fin 1536) : k0_pay3 (F := Ideal) x (ix2 r l) = (act (X r l) : EReal) := by
  pointwise [k0_pay3]
  simp only [hx, Reals.lit_half, Reals.mul, Reals.add, Ideal.tanh_coe, sig_eq]
  rfl

theorem act'_pay (r : Fin 512) (l : Fin 1536) : k0_pay4 (F := Ideal) x (ix2 r l) = (act' (X r l) : EReal) := by
  pointwise [k0_pay4]
  simp only [hx, Reals.lit_half, Reals.lit_one, Reals.mul, Reals.add, Reals.sub, Ideal.tanh_coe, sig_eq]
  rfl
end

/-- The gradient of one head from lane `o` on: the body's lines for one head, at its scale's literal `w`. -/
def headBody (w : BitVec 32) (o : ℕ) (ho : S512x1536.Slices ![0, o] S512x128) (a b : FVec Ideal S512x1536 .f32) (d : Vec Ideal S512x128 .f32) :
    FVec Ideal S512x128 .f32 :=
  let u := extractStridedSlice S512x128 ![0, o] a ho
  let n := rsqrt (addf (shapeCast S512x1 (multiReduction .add [1] S512 (mulf u u) 0x00000000#32 reduces_S512x128_S512 (.inl rfl) rfl) shapeCasts_S512_S512x1)
    (broadcast S512x1 (Scalar.ofBits .f32 0x358637BD#32)))
  let y := mulf u (broadcastTo S512x128 n broadcasts_S512x1_S512x128)
  let e := mulf d (broadcast S512x128 (Scalar.ofBits .f32 w))
  let s := broadcastTo S512x128 (shapeCast S512x1 (multiReduction .add [1] S512 (mulf e y) 0x00000000#32 reduces_S512x128_S512 (.inl rfl) rfl) shapeCasts_S512_S512x1)
    broadcasts_S512x1_S512x128
  mulf (mulf (broadcastTo S512x128 n broadcasts_S512x1_S512x128) (subf e (mulf y s))) (extractStridedSlice S512x128 ![0, o] b ho)

/-- … at real numbers. -/
theorem head_at {w : BitVec 32} {o : ℕ} (hl : o + 128 ≤ 1536) (ho : S512x1536.Slices ![0, o] S512x128) {a b : FVec Ideal S512x1536 .f32} {d : Vec Ideal S512x128 .f32}
    {A B : Fin 512 → Fin 1536 → ℝ} {D : Fin 512 → Fin 128 → ℝ} {c : ℝ} (ha : ∀ r l, a (ix2 r l) = (A r l : EReal)) (hb : ∀ r l, b (ix2 r l) = (B r l : EReal))
    (hd : ∀ r l, d (ix2 r l) = (D r l : EReal)) (hw : Ideal.ofBits .f32 w = (c : EReal)) (r : Fin 512) (l : Fin 128) :
    headBody w o ho a b d (ix2 r l)
      = ((dnorm (fun k => A r ⟨o + k, by omega⟩) (fun k => D r k * c) l * B r ⟨o + l, by omega⟩ : ℝ) : EReal) := by
  pointwise [headBody]
  have p := arg_pos (fun k : Fin 128 => A r ⟨o + k, by omega⟩)
  simp (disch := first | exact p | norm_num) only [ha, hb, hd, hw, Reals.lit_eps, Reals.mul, Reals.add, Reals.sub, Reals.sum, Reals.rsqrt]
  rfl

section Gates

variable {p q : Vec Ideal S512x128 .f32} {a t : Vec Ideal S1x128 .f32} {P Q : Fin 512 → Fin 128 → ℝ} {A T : Fin 128 → ℝ}
  (hp : ∀ r l, p (ix2 r l) = (P r l : EReal)) (hq : ∀ r l, q (ix2 r l) = (Q r l : EReal))
  (ha : ∀ l, a (ix2 0 l) = (A l : EReal)) (ht : ∀ l, t (ix2 0 l) = (T l : EReal))

include hp hq ha ht

/-- The lanes of the decay rate are 8 to 15. -/
theorem mask_at (r : Fin 512) (l : Fin 128) : k0_pay34 (ix2 r l) = if 8 ≤ (l : ℕ) ∧ (l : ℕ) < 16 then 1#1 else 0#1 := by
  pointwise [k0_pay34]
  revert l
  decide +kernel

/-- The gradient by the gate's input. -/
theorem dalpha_pay {z : EReal} (hz : z = ((0 : ℝ) : EReal)) (r : Fin 512) (l : Fin 128) :
    k0_pay35 (F := Ideal) (k0_pay29 q) (k0_pay31 a) (k0_pay32 p t) k0_pay34 z (ix2 r l)
      = (dalpha (P r) (Q r) A T l : EReal) := by
  subst hz
  pointwise [k0_pay35, k0_pay29, k0_pay31, k0_pay32, k0_pay28]
  rw [mask_at hp hq ha ht, dalpha]
  split_ifs
  · simp only [Scalar.select, hp, hq, ha, ht, Reals.lit_half, Reals.zero, Reals.mul, Reals.add, Reals.sub, Ideal.tanh_coe, Ideal.exp_coe, sig_eq]
    rfl
  · exact Reals.zero

/-- … and both gates' gradients, the bf16 output's payload. -/
theorem dpc_pay (r : Fin 512) (l : Fin 128) :
    k0_pay36 (F := Ideal) (iota .tc S512x128 32 [1] iota_S512x128_d1_w32) (k0_pay29 q) (k0_pay30 p) (k0_pay31 a) (k0_pay32 p t) k0_pay34
        (Scalar.ofBits .f32 0x00000000#32) (ix2 r l)
      = (dpc (P r) (Q r) A T l : EReal) := by
  have hm : ∀ l : Fin 128, Scalar.cmpi .slt (BitVec.ofNat 32 l) 8#32 = if (l : ℕ) < 8 then 1#1 else 0#1 := by decide +kernel
  pointwise [k0_pay36, k0_pay30, k0_pay28]
  have d : k0_pay35 (F := Ideal) (k0_pay29 q) (k0_pay31 a) (k0_pay32 p t) k0_pay34 (0 : EReal) (ix2 r l) = _ := dalpha_pay hp hq ha ht Reals.zero r l
  have hq' : k0_pay29 (F := Ideal) q (ix2 r l) = q (ix2 r l) := by pointwise [k0_pay29]
  have hl := hm l
  simp only [Scalar.cmpi] at hl
  rw [d, hl, hq', dpc]
  split_ifs
  · simp only [Scalar.select, hp, hq, ha, ht, Reals.lit_half, Reals.one, Reals.mul, Reals.add, Reals.sub, Ideal.tanh_coe, sig_eq]
    rfl
  · rfl

/-- The decay rate's payload: the rows' parts are added to what was there. -/
theorem dalog_pay (c : Vec Ideal S1x128 .f32) (l : Fin 128) :
    k0_pay37 (F := Ideal) (k0_pay29 q) (k0_pay33 p a t) k0_pay34 c (ix2 0 l)
      = c (ix2 0 l) + ((∑ r, dalog (P r) (Q r) A T l : ℝ) : EReal) := by
  pointwise [k0_pay37, k0_pay29, k0_pay33, k0_pay31, k0_pay32, k0_pay28]
  rw [← Reals.sum]
  refine congrArg (c (ix2 0 l) + ·) (Finset.sum_congr rfl fun r _ => ?_)
  rw [mask_at hp hq ha ht, dalog]
  split_ifs
  · simp (disch := exact one_add_exp_pos _) only [Scalar.select, hp, hq, ha, ht, Reals.one, Reals.zero, Reals.mul, Reals.add, Reals.sub, Reals.max_, Reals.abs_,
      Reals.log, Ideal.exp_coe, zero_sub, Reals.softplus]
    rfl
  · exact Reals.zero

/-- The step bias's payload. -/
theorem ddt_pay (c : Vec Ideal S1x128 .f32) (l : Fin 128) :
    k0_pay38 (F := Ideal) (k0_pay29 q) (k0_pay31 a) (k0_pay32 p t) k0_pay34 (Scalar.ofBits .f32 0x00000000#32) c (ix2 0 l)
      = c (ix2 0 l) + ((∑ r, dalpha (P r) (Q r) A T l : ℝ) : EReal) := by
  pointwise [k0_pay38]
  rw [← Reals.sum]
  exact congrArg (c (ix2 0 l) + ·) (Finset.sum_congr rfl fun r _ => dalpha_pay hp hq ha ht Reals.zero r l)

end Gates

/-- The piece of a query head. -/
theorem q_piece {x : Fin 512 → Fin 1536 → ℝ} {dq dk dv : Fin 512 → Fin 512 → ℝ} {b : Vec Ideal S512x1536 .f32} {d : Vec Ideal S512x512 .f32}
    (hb : ∀ r l, b (ix2 r l) = (x r l : EReal)) (hd : ∀ r l, d (ix2 r l) = (dq r l : EReal)) {o : ℕ} (h : o % 128 = 0) (ho : o + 128 ≤ 512)
    (hs : S512x1536.Slices ![0, o] S512x128) (inb : ∀ a, (![0, o] : Fin 2 → ℕ) a + (![512, 128] : Fin 2 → ℕ) a ≤ S512x512.size a) (r : Fin 512) (k : Fin 128) :
    headBody 0x3DB504F3#32 o hs (k0_pay3 b) (k0_pay4 b) (View.ld d (Rect.unit ![0, o] ![512, 128] inb)) (ix2 r k)
      = (dcq (x r) (dq r) (dk r) (dv r) ⟨o + k, by omega⟩ : EReal) := by
  rw [dcq_q _ _ _ _ h ho]
  refine head_at (by omega) hs (act_pay hb) (act'_pay hb) (D := fun r k => dq r ⟨o + k, by omega⟩) (fun r k => ?_) lit_scale r k
  rw [← hd]
  exact congrArg d (emb_cols ho inb r k)

/-- The piece of a key head. -/
theorem k_piece {x : Fin 512 → Fin 1536 → ℝ} {dq dk dv : Fin 512 → Fin 512 → ℝ} {b : Vec Ideal S512x1536 .f32} {d : Vec Ideal S512x512 .f32}
    (hb : ∀ r l, b (ix2 r l) = (x r l : EReal)) (hd : ∀ r l, d (ix2 r l) = (dk r l : EReal)) {p o : ℕ} (h : p % 128 = 0) (hp : p + 128 ≤ 512) (ho : o = 512 + p)
    (hs : S512x1536.Slices ![0, o] S512x128) (inb : ∀ a, (![0, p] : Fin 2 → ℕ) a + (![512, 128] : Fin 2 → ℕ) a ≤ S512x512.size a) (r : Fin 512) (k : Fin 128) :
    headBody 0x3F800000#32 o hs (k0_pay3 b) (k0_pay4 b) (View.ld d (Rect.unit ![0, p] ![512, 128] inb)) (ix2 r k)
      = (dcq (x r) (dq r) (dk r) (dv r) ⟨o + k, by omega⟩ : EReal) := by
  rw [dcq_k _ _ _ _ h hp ho]
  refine (head_at (by omega) hs (act_pay hb) (act'_pay hb) (D := fun r k => dk r ⟨p + k, by omega⟩) (fun r k => ?_) Reals.lit_one r k).trans ?_
  · rw [← hd]
    exact congrArg d (emb_cols hp inb r k)
  · simp only [mul_one]

/-- The piece of the values. -/
theorem v_piece {x : Fin 512 → Fin 1536 → ℝ} {dq dk dv : Fin 512 → Fin 512 → ℝ} {b : Vec Ideal S512x1536 .f32} {d : Vec Ideal S512x512 .f32}
    (hb : ∀ r l, b (ix2 r l) = (x r l : EReal)) (hd : ∀ r l, d (ix2 r l) = (dv r l : EReal)) (r : Fin 512) (k : Fin 512) :
    k0_pay27 (k0_pay4 (F := Ideal) b) d (ix2 r k) = (dcq (x r) (dq r) (dk r) (dv r) ⟨1024 + k, by omega⟩ : EReal) := by
  rw [dcq_v]
  pointwise [k0_pay27]
  refine (congrArg₂ (· * ·) (hd r k) (act'_pay hb r _)).trans (Reals.mul _ _)

end Payloads

/-- The nine column pieces of a grid point's rows, the newest first: the values, and the keys' and queries' heads in turn. -/
abbrev pieces (b : Vec Ideal S512x1536 .f32) (d4 d5 d6 : Vec Ideal S512x512 .f32) : List (View.Piece (Elt Ideal) S512x1536 .f32) :=
    [ ⟨Rect.unit ![0, 1024] ![512, 512] inb_S512x1536_S512x512_0_1024, k0_pay27 (k0_pay4 b) d6⟩,
      ⟨Rect.unit ![0, 896] ![512, 128] inb_S512x1536_S512x128_0_896, k0_pay26 (k0_pay3 b) (k0_pay4 b) (View.ld d5 (Rect.unit ![0, 384] ![512, 128] inb_S512x512_S512x128_0_384))⟩,
      ⟨Rect.unit ![0, 384] ![512, 128] inb_S512x1536_S512x128_0_384, k0_pay25 (k0_pay4 b) (k0_pay23 (k0_pay3 b)) (k0_pay24 (k0_pay3 b)) (View.ld d4 (Rect.unit ![0, 384] ![512, 128] inb_S512x512_S512x128_0_384))⟩,
      ⟨Rect.unit ![0, 768] ![512, 128] inb_S512x1536_S512x128_0_768, k0_pay22 (k0_pay3 b) (k0_pay4 b) (View.ld d5 (Rect.unit ![0, 256] ![512, 128] inb_S512x512_S512x128_0_256))⟩,
      ⟨Rect.unit ![0, 256] ![512, 128] inb_S512x1536_S512x128_0_256, k0_pay21 (k0_pay4 b) (k0_pay19 (k0_pay3 b)) (k0_pay20 (k0_pay3 b)) (View.ld d4 (Rect.unit ![0, 256] ![512, 128] inb_S512x512_S512x128_0_256))⟩,
      ⟨Rect.unit ![0, 640] ![512, 128] inb_S512x1536_S512x128_0_640, k0_pay17 (k0_pay3 b) (k0_pay4 b) (View.ld d5 (Rect.unit ![0, 128] ![512, 128] inb_S512x512_S512x128_0_128))⟩,
      ⟨Rect.unit ![0, 128] ![512, 128] inb_S512x1536_S512x128_0_128, k0_pay16 (k0_pay4 b) (k0_pay13 (k0_pay3 b)) (k0_pay14 (k0_pay3 b)) (k0_pay15 (View.ld d4 (Rect.unit ![0, 128] ![512, 128] inb_S512x512_S512x128_0_128)))⟩,
      ⟨Rect.unit ![0, 512] ![512, 128] inb_S512x1536_S512x128_0_512, k0_pay11 (k0_pay3 b) (k0_pay4 b) (View.ld d5 (Rect.unit ![0, 0] ![512, 128] inb_S512x512_S512x128_0_0))⟩,
      ⟨Rect.unit ![0, 0] ![512, 128] inb_S512x1536_S512x128_0_0, k0_pay10 (k0_pay4 b) (k0_pay6 b) (k0_pay7 b) (k0_pay8 (View.ld d4 (Rect.unit ![0, 0] ![512, 128] inb_S512x512_S512x128_0_0))) (k0_pay9 b (View.ld d4 (Rect.unit ![0, 0] ![512, 128] inb_S512x512_S512x128_0_0)))⟩ ]

variable {x : Fin 512 → Fin 1536 → ℝ} {dq dk dv : Fin 512 → Fin 512 → ℝ} {b : Vec Ideal S512x1536 .f32} {d4 d5 d6 : Vec Ideal S512x512 .f32}
  (hb : ∀ r l, b (ix2 r l) = (x r l : EReal)) (hq : ∀ r l, d4 (ix2 r l) = (dq r l : EReal)) (hk : ∀ r l, d5 (ix2 r l) = (dk r l : EReal))
  (hv : ∀ r l, d6 (ix2 r l) = (dv r l : EReal))
include hb hq hk hv

/-- The rows the nine pieces make up. -/
theorem pieces_at (r : Fin 512) (l : Fin 1536) : View.canon (pieces b d4 d5 d6) (ix2 r l) = (dcq (x r) (dq r) (dk r) (dv r) l : EReal) := by
  refine canon_cols (e := .f32) (n := 512) (W := 1536) (o := 1024) (w := 512) (G := fun l => (dcq (x r) (dq r) (dk r) (dv r) l : EReal)) (by decide) _ _ _ r l (fun k => v_piece hb hv r k) fun h0 => ?_
  refine canon_cols (e := .f32) (n := 512) (W := 1536) (o := 896) (w := 128) (G := fun l => (dcq (x r) (dq r) (dk r) (dv r) l : EReal)) (by decide) _ _ _ r l (fun k => k_piece (dq := dq) (dv := dv) hb hk (p := 384) (o := 896) (by decide) (by decide) (by decide) slices_S512x1536_o0_896_S512x128 inb_S512x512_S512x128_0_384 r k) fun h1 => ?_
  refine canon_cols (e := .f32) (n := 512) (W := 1536) (o := 384) (w := 128) (G := fun l => (dcq (x r) (dq r) (dk r) (dv r) l : EReal)) (by decide) _ _ _ r l (fun k => q_piece (dk := dk) (dv := dv) hb hq (o := 384) (by decide) (by decide) slices_S512x1536_o0_384_S512x128 inb_S512x512_S512x128_0_384 r k) fun h2 => ?_
  refine canon_cols (e := .f32) (n := 512) (W := 1536) (o := 768) (w := 128) (G := fun l => (dcq (x r) (dq r) (dk r) (dv r) l : EReal)) (by decide) _ _ _ r l (fun k => k_piece (dq := dq) (dv := dv) hb hk (p := 256) (o := 768) (by decide) (by decide) (by decide) slices_S512x1536_o0_768_S512x128 inb_S512x512_S512x128_0_256 r k) fun h3 => ?_
  refine canon_cols (e := .f32) (n := 512) (W := 1536) (o := 256) (w := 128) (G := fun l => (dcq (x r) (dq r) (dk r) (dv r) l : EReal)) (by decide) _ _ _ r l (fun k => q_piece (dk := dk) (dv := dv) hb hq (o := 256) (by decide) (by decide) slices_S512x1536_o0_256_S512x128 inb_S512x512_S512x128_0_256 r k) fun h4 => ?_
  refine canon_cols (e := .f32) (n := 512) (W := 1536) (o := 640) (w := 128) (G := fun l => (dcq (x r) (dq r) (dk r) (dv r) l : EReal)) (by decide) _ _ _ r l (fun k => k_piece (dq := dq) (dv := dv) hb hk (p := 128) (o := 640) (by decide) (by decide) (by decide) slices_S512x1536_o0_640_S512x128 inb_S512x512_S512x128_0_128 r k) fun h5 => ?_
  refine canon_cols (e := .f32) (n := 512) (W := 1536) (o := 128) (w := 128) (G := fun l => (dcq (x r) (dq r) (dk r) (dv r) l : EReal)) (by decide) _ _ _ r l (fun k => q_piece (dk := dk) (dv := dv) hb hq (o := 128) (by decide) (by decide) slices_S512x1536_o0_128_S512x128 inb_S512x512_S512x128_0_128 r k) fun h6 => ?_
  refine canon_cols (e := .f32) (n := 512) (W := 1536) (o := 512) (w := 128) (G := fun l => (dcq (x r) (dq r) (dk r) (dv r) l : EReal)) (by decide) _ _ _ r l (fun k => k_piece (dq := dq) (dv := dv) hb hk (p := 0) (o := 512) (by decide) (by decide) (by decide) slices_S512x1536_o0_512_S512x128 inb_S512x512_S512x128_0_0 r k) fun h7 => ?_
  refine canon_cols (e := .f32) (n := 512) (W := 1536) (o := 0) (w := 128) (G := fun l => (dcq (x r) (dq r) (dk r) (dv r) l : EReal)) (by decide) _ _ _ r l (fun k => q_piece (dk := dk) (dv := dv) hb hq (o := 0) (by decide) (by decide) slices_S512x1536_o0_0_S512x128 inb_S512x512_S512x128_0_0 r k) fun h8 => ?_
  omega

end Cert.GdnPrepBwdIdeal.Hand
-- ==== Proof.GdnPrep.Block.lean ====
/- One grid point of the gradient of GDN's preparation: what it reads are real numbers, and what it writes to each output. -/
module
public import proofs.«01_k».proof.Proof.GdnPrep.Pay
public import Idealize.ShloMosaic.Lib.Routing.OpsSet
public import proofs.«01_k».proof.Proof.Gen.GdnPrepBwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.GdnPrepBwdIdeal.Hand

open Cert.GdnPrep Cert.GdnPrepBwdIdeal Cert.GdnPrepBwdIdeal.Gen Idealize.ShloMosaic Idealize.ShloMosaic.TcCoe Idealize.SL.Sem
open Idealize.ShloMosaic.Pipeline (Dat)

variable (m : (ℓ : Loc nD τ sig) → Buf (Elt Ideal) ℓ)

/-- The arguments as real functions: the convolution's output, the gates' inputs, the decay rate's logarithm, the step bias, and the cotangents of the
    queries, the keys, the values and the gates. -/
abbrev X (c : Dev nD) (s : Fin 8192) (l : Fin 1536) : ℝ := (m ((c.tc : Thread nD τ).loc main_arg0) (ix2 s l) : EReal).toReal
abbrev BA (c : Dev nD) (s : Fin 8192) (l : Fin 16) : ℝ := (m ((c.tc : Thread nD τ).loc main_arg1) (ix2 s l) : EReal).toReal
abbrev AL (c : Dev nD) (s : Fin 2) (l : Fin 4) : ℝ := (m ((c.tc : Thread nD τ).loc main_arg2) (ix2 s l) : EReal).toReal
abbrev DT (c : Dev nD) (s : Fin 2) (l : Fin 4) : ℝ := (m ((c.tc : Thread nD τ).loc main_arg3) (ix2 s l) : EReal).toReal
abbrev DQ (c : Dev nD) (s : Fin 8192) (l : Fin 512) : ℝ := (m ((c.tc : Thread nD τ).loc main_arg4) (ix2 s l) : EReal).toReal
abbrev DK (c : Dev nD) (s : Fin 8192) (l : Fin 512) : ℝ := (m ((c.tc : Thread nD τ).loc main_arg5) (ix2 s l) : EReal).toReal
abbrev DV (c : Dev nD) (s : Fin 8192) (l : Fin 512) : ℝ := (m ((c.tc : Thread nD τ).loc main_arg6) (ix2 s l) : EReal).toReal
abbrev DB (c : Dev nD) (s : Fin 8192) (l : Fin 16) : ℝ := (m ((c.tc : Thread nD τ).loc main_arg7) (ix2 s l) : EReal).toReal

/-- The arguments hold real numbers. -/
def Finite : Prop := ∀ c, (∀ s l, ((X m c s l : ℝ) : EReal) = m ((c.tc : Thread nD τ).loc main_arg0) (ix2 s l))
  ∧ (∀ s l, ((BA m c s l : ℝ) : EReal) = m ((c.tc : Thread nD τ).loc main_arg1) (ix2 s l))
  ∧ (∀ s l, ((AL m c s l : ℝ) : EReal) = m ((c.tc : Thread nD τ).loc main_arg2) (ix2 s l))
  ∧ (∀ s l, ((DT m c s l : ℝ) : EReal) = m ((c.tc : Thread nD τ).loc main_arg3) (ix2 s l))
  ∧ (∀ s l, ((DQ m c s l : ℝ) : EReal) = m ((c.tc : Thread nD τ).loc main_arg4) (ix2 s l))
  ∧ (∀ s l, ((DK m c s l : ℝ) : EReal) = m ((c.tc : Thread nD τ).loc main_arg5) (ix2 s l))
  ∧ (∀ s l, ((DV m c s l : ℝ) : EReal) = m ((c.tc : Thread nD τ).loc main_arg6) (ix2 s l))
  ∧ (∀ s l, ((DB m c s l : ℝ) : EReal) = m ((c.tc : Thread nD τ).loc main_arg7) (ix2 s l))

theorem idx0 : ∀ t, win0_0.index t = ![t.val, 0] := (by decide +kernel : ∀ t : Fin grid0.N, _)
theorem idx1 : ∀ t, win0_1.index t = ![t.val, 0] := (by decide +kernel : ∀ t : Fin grid0.N, _)
theorem idx2 : ∀ t, win0_2.index t = ![0, 0] := (by decide +kernel : ∀ t : Fin grid0.N, _)
theorem idx3 : ∀ t, win0_3.index t = ![0, 0] := (by decide +kernel : ∀ t : Fin grid0.N, _)
theorem idx4 : ∀ t, win0_4.index t = ![t.val, 0] := (by decide +kernel : ∀ t : Fin grid0.N, _)
theorem idx5 : ∀ t, win0_5.index t = ![t.val, 0] := (by decide +kernel : ∀ t : Fin grid0.N, _)
theorem idx6 : ∀ t, win0_6.index t = ![t.val, 0] := (by decide +kernel : ∀ t : Fin grid0.N, _)
theorem idx7 : ∀ t, win0_7.index t = ![t.val, 0] := (by decide +kernel : ∀ t : Fin grid0.N, _)
theorem idx8 : ∀ t, win0_8.index t = ![t.val, 0] := (by decide +kernel : ∀ t : Fin grid0.N, _)
theorem idx9 : ∀ t, win0_9.index t = ![t.val, 0] := (by decide +kernel : ∀ t : Fin grid0.N, _)
theorem idx10 : ∀ t, win0_10.index t = ![0, 0] := (by decide +kernel : ∀ t : Fin grid0.N, _)
theorem idx11 : ∀ t, win0_11.index t = ![0, 0] := (by decide +kernel : ∀ t : Fin grid0.N, _)

/-- Row `r` of grid point `t`'s block. -/
abbrev row (t : Fin cfg0.N) (r : Fin 512) : Fin 8192 := ⟨t.val * 512 + r, by have := lt_of_lt_of_eq t.isLt N_0; omega⟩

/-- The integer zero as a real number. -/
theorem zero_at (i : S_.Idx) : sitofp (F := Ideal) .f32 (constantI S_ 32 0#32) i = ((0 : ℝ) : EReal) := by
  pointwise []
  exact Reals.int_zero

/-- Sixteen columns and zeros after them. -/
theorem pad_at (w : FVec Ideal S8192x16 .f32) (z : FVec Ideal S_ .f32) {W : Fin 8192 → Fin 16 → ℝ} (hw : ∀ s l, w (ix2 s l) = (W s l : EReal))
    (hz : ∀ i, z i = ((0 : ℝ) : EReal)) (s : Fin 8192) (l : Fin 128) :
    pad S8192x128 ![0, 0] ![0, 112] ![0, 0] w z pads_S8192x16_S8192x128_000_01120 h_S_ (ix2 s l) = (lane16 (W s) l : EReal) := by
  pointwise []
  rw [lane16]
  split_ifs with h
  · exact hw s ⟨l, h⟩
  · exact hz _

/-- The start of the eight lanes. -/
abbrev starts : IVec S2 32 := concatenate S2 0 [⟨S1, broadcastInDim S1 ![] bcast_S_S1 (constantI S_ 32 0#32)⟩, ⟨S1, broadcastInDim S1 ![] bcast_S_S1 (constantI S_ 32 8#32)⟩]
  concatenates_S1_S1_S2_d0

/-- Update `k` is written to lane `8 + k`. -/
theorem lands : ∀ (k : Fin 8) (l : Fin 128), scatter_S1x128_S2_S8_0_0_01_0.resultIdx? (ix1 k) starts = some (ix2 0 l) ↔ (l : ℕ) = 8 + k := by decide +kernel

/-- Two by four numbers written to lanes 8 to 15 of a row of zeros. -/
theorem scatter_at (a : FVec Ideal S2x4 .f32) (z : FVec Ideal S1x128 .f32) {A : Fin 2 → Fin 4 → ℝ} (ha : ∀ i j, a (ix2 i j) = (A i j : EReal))
    (hz : ∀ l, z (ix2 0 l) = ((0 : ℝ) : EReal)) (l : Fin 128) :
    Host.scatter scatter_S1x128_S2_S8_0_0_01_0 (fun _ b => b) z starts (shapeCast S8 a shapeCasts_S2x4_S8) (ix2 0 l) = (lane A l : EReal) := by
  rw [lane]
  split_ifs with h
  · have hk : scatter_S1x128_S2_S8_0_0_01_0.resultIdx? (ix1 (⟨l - 8, by omega⟩ : Fin 8)) starts = some (ix2 0 l) :=
      (lands ⟨l - 8, by omega⟩ l).2 (by show (l : ℕ) = 8 + (l - 8); omega)
    refine Routing.scatter_set_hit _ _ _ _ _ _ (fun k hk => ?_) _ hk
    idx_vars k
    have e := (lands k0 l).1 hk
    have e1 : (l : ℕ) - 8 = k0 := by omega
    simp only [e1]
    rw [← ha]
    pointwise []
  · rw [Routing.scatter_set_miss, hz]
    intro k hk
    idx_vars k
    have e := (lands k0 l).1 hk
    omega

variable {m} (hm : Finite m)
include hm

/-- The blocks a grid point reads. -/
theorem blk0 (c : Dev nD) (t : Fin cfg0.N) (r : Fin 512) (l : Fin 1536) : iblk m c 0 t (ix2 r l) = (X m c (row t r) l : EReal) := by
  rw [(hm c).1]
  blk_point [iblk, V, idx0 t]
theorem blk4 (c : Dev nD) (t : Fin cfg0.N) (r : Fin 512) (l : Fin 512) : iblk m c 4 t (ix2 r l) = (DQ m c (row t r) l : EReal) := by
  rw [(hm c).2.2.2.2.1]
  blk_point [iblk, V, idx4 t]
theorem blk5 (c : Dev nD) (t : Fin cfg0.N) (r : Fin 512) (l : Fin 512) : iblk m c 5 t (ix2 r l) = (DK m c (row t r) l : EReal) := by
  rw [(hm c).2.2.2.2.2.1]
  blk_point [iblk, V, idx5 t]
theorem blk6 (c : Dev nD) (t : Fin cfg0.N) (r : Fin 512) (l : Fin 512) : iblk m c 6 t (ix2 r l) = (DV m c (row t r) l : EReal) := by
  rw [(hm c).2.2.2.2.2.2.1]
  blk_point [iblk, V, idx6 t]

/-- The padded and scattered arguments the region is entered with. -/
theorem V_BA (c : Dev nD) (s : Fin 8192) (l : Fin 128) : V m c main_v0 (ix2 s l) = (lane16 (BA m c s) l : EReal) := by
  simp only [V, hostOps0, hostOps0_1, hostOps0_2, hostOps0_3, List.flatten_cons, List.flatten_nil, List.append_nil, List.cons_append, List.nil_append]
  after_results
  exact pad_at (m (c, Proc.tc.devRef main_arg1)) _ (fun s l => ((hm c).2.1 s l).symm) zero_at s l
theorem blk1 (c : Dev nD) (t : Fin cfg0.N) (r : Fin 512) (l : Fin 128) : iblk m c 1 t (ix2 r l) = (lane16 (BA m c (row t r)) l : EReal) := by
  rw [← V_BA hm]
  blk_point [iblk, idx1 t]
theorem V_DB (c : Dev nD) (s : Fin 8192) (l : Fin 128) : V m c main_v13 (ix2 s l) = (lane16 (DB m c s) l : EReal) := by
  simp only [V, hostOps0, hostOps0_1, hostOps0_2, hostOps0_3, List.flatten_cons, List.flatten_nil, List.append_nil, List.cons_append, List.nil_append]
  after_results
  exact pad_at (m (c, Proc.tc.devRef main_arg7)) _ (fun s l => ((hm c).2.2.2.2.2.2.2 s l).symm) zero_at s l
theorem blk7 (c : Dev nD) (t : Fin cfg0.N) (r : Fin 512) (l : Fin 128) : iblk m c 7 t (ix2 r l) = (lane16 (DB m c (row t r)) l : EReal) := by
  rw [← V_DB hm]
  blk_point [iblk, idx7 t]
theorem V_AL (c : Dev nD) (l : Fin 128) : V m c main_v6 (ix2 0 l) = (lane (AL m c) l : EReal) := by
  simp only [V, hostOps0, hostOps0_1, hostOps0_2, hostOps0_3, List.flatten_cons, List.flatten_nil, List.append_nil, List.cons_append, List.nil_append]
  after_results
  exact scatter_at (m (c, Proc.tc.devRef main_arg2)) _ (fun s l => ((hm c).2.2.1 s l).symm) (fun l => by pointwise []; exact Reals.zero) l
theorem blk2 (c : Dev nD) (t : Fin cfg0.N) (l : Fin 128) : iblk m c 2 t (ix2 0 l) = (lane (AL m c) l : EReal) := by
  rw [← V_AL hm]
  blk_point [iblk, idx2 t]
theorem V_DT (c : Dev nD) (l : Fin 128) : V m c main_v12 (ix2 0 l) = (lane (DT m c) l : EReal) := by
  simp only [V, hostOps0, hostOps0_1, hostOps0_2, hostOps0_3, List.flatten_cons, List.flatten_nil, List.append_nil, List.cons_append, List.nil_append]
  after_results
  exact scatter_at (m (c, Proc.tc.devRef main_arg3)) _ (fun s l => ((hm c).2.2.2.1 s l).symm) (fun l => by pointwise []; exact Reals.zero) l
theorem blk3 (c : Dev nD) (t : Fin cfg0.N) (l : Fin 128) : iblk m c 3 t (ix2 0 l) = (lane (DT m c) l : EReal) := by
  rw [← V_DT hm]
  blk_point [iblk, idx3 t]

/-- The convolution's output's gradient, a row of a device. -/
abbrev dcqRow (c : Dev nD) (s : Fin 8192) : Fin 1536 → ℝ := dcq (X m c s) (DQ m c s) (DK m c s) (DV m c s)

/-- A grid point's rows of the convolution's output's gradient. -/
theorem dcq_point (c : Dev nD) (t : Fin cfg0.N) (r : Fin 512) (l : Fin 1536) :
    (outsAt0 m c t.val t.isLt).1 (ix2 r l) = (dcqRow (m := m) c (row t r) l : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact pieces_at (blk0 hm c t) (blk4 hm c t) (blk5 hm c t) (blk6 hm c t) r l

/-- A grid point's rows of the gates' inputs' gradient. -/
theorem dpc_point (c : Dev nD) (t : Fin cfg0.N) (r : Fin 512) (l : Fin 128) :
    (outsAt0 m c t.val t.isLt).2.1 (ix2 r l)
      = (dpc (lane16 (BA m c (row t r))) (lane16 (DB m c (row t r))) (lane (AL m c)) (lane (DT m c)) l : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dpc_pay (blk1 hm c t) (blk7 hm c t) (blk2 hm c t) (blk3 hm c t) r l

/-- The decay rate's logarithm's gradient: a grid point after the first adds its rows' parts. -/
theorem dal_step (c : Dev nD) (t : Fin cfg0.N) (h : ¬ t.val % 16 = 0) (j : Fin 1) (l : Fin 128) :
    (outsAt0 m c t.val t.isLt).2.2.1 (ix2 j l)
      = (outsAt0 m c (t.val - 1) (Nat.lt_of_le_of_lt (Nat.sub_le _ _) t.isLt)).2.2.1 (ix2 j l)
        + ((∑ r, dalog (lane16 (BA m c (row t r))) (lane16 (DB m c (row t r))) (lane (AL m c)) (lane (DT m c)) l : ℝ) : EReal) := by
  obtain rfl : j = 0 := Subsingleton.elim _ _
  rw [outsAt0_B m c t h]
  frame_open
  simp (disch := decide) only [↓ View.readCov_skip, ↓ View.readCov_cons_toLoadRect, ↓ View.readCov_fill]
  frame_out
  exact dalog_pay (blk1 hm c t) (blk7 hm c t) (blk2 hm c t) (blk3 hm c t) _ l

/-- The first grid point starts it from zero. -/
theorem dal_first (c : Dev nD) (t : Fin cfg0.N) (h : t.val % 16 = 0) (j : Fin 1) (l : Fin 128) :
    (outsAt0 m c t.val t.isLt).2.2.1 (ix2 j l) = 0 + ((∑ r, dalog (lane16 (BA m c (row t r))) (lane16 (DB m c (row t r))) (lane (AL m c)) (lane (DT m c)) l : ℝ) : EReal) := by
  obtain rfl : j = 0 := Subsingleton.elim _ _
  rw [outsAt0_A m c t h]
  frame_open
  simp (disch := decide) only [↓ View.readCov_skip, ↓ View.readCov_cons_toLoadRect, ↓ View.readCov_fill]
  frame_out
  refine (dalog_pay (blk1 hm c t) (blk7 hm c t) (blk2 hm c t) (blk3 hm c t) _ l).trans (congrArg (· + _) ?_)
  pointwise [k0_pay1]

/-- The step bias's gradient: a grid point after the first adds its rows' parts. -/
theorem ddt_step (c : Dev nD) (t : Fin cfg0.N) (h : ¬ t.val % 16 = 0) (j : Fin 1) (l : Fin 128) :
    (outsAt0 m c t.val t.isLt).2.2.2 (ix2 j l)
      = (outsAt0 m c (t.val - 1) (Nat.lt_of_le_of_lt (Nat.sub_le _ _) t.isLt)).2.2.2 (ix2 j l)
        + ((∑ r, dalpha (lane16 (BA m c (row t r))) (lane16 (DB m c (row t r))) (lane (AL m c)) (lane (DT m c)) l : ℝ) : EReal) := by
  obtain rfl : j = 0 := Subsingleton.elim _ _
  rw [outsAt0_B m c t h]
  frame_open
  simp (disch := decide) only [↓ View.readCov_skip, ↓ View.readCov_cons_toLoadRect, ↓ View.readCov_fill]
  frame_out
  exact ddt_pay (blk1 hm c t) (blk7 hm c t) (blk2 hm c t) (blk3 hm c t) _ l

/-- The first grid point starts it from zero. -/
theorem ddt_first (c : Dev nD) (t : Fin cfg0.N) (h : t.val % 16 = 0) (j : Fin 1) (l : Fin 128) :
    (outsAt0 m c t.val t.isLt).2.2.2 (ix2 j l) = 0 + ((∑ r, dalpha (lane16 (BA m c (row t r))) (lane16 (DB m c (row t r))) (lane (AL m c)) (lane (DT m c)) l : ℝ) : EReal) := by
  obtain rfl : j = 0 := Subsingleton.elim _ _
  rw [outsAt0_A m c t h]
  frame_open
  simp (disch := decide) only [↓ View.readCov_skip, ↓ View.readCov_cons_toLoadRect, ↓ View.readCov_fill]
  frame_out
  refine (ddt_pay (blk1 hm c t) (blk7 hm c t) (blk2 hm c t) (blk3 hm c t) _ l).trans (congrArg (· + _) ?_)
  pointwise [k0_pay2]

end Cert.GdnPrepBwdIdeal.Hand
-- ==== Proof.GdnPrep.Array.lean ====
/- The arrays the gradient of GDN's preparation leaves: the points' blocks put together. -/
module
public import proofs.«01_k».proof.Proof.GdnPrep.Block

@[expose] public section

set_option maxRecDepth 16384

noncomputable section

namespace Cert.GdnPrepBwdIdeal.Hand

open Cert.GdnPrep Cert.GdnPrepBwdIdeal Cert.GdnPrepBwdIdeal.Gen Idealize.ShloMosaic Idealize.ShloMosaic.TcCoe Idealize.SL.Sem
open Idealize.ShloMosaic.Pipeline (Dat)

variable {m : (ℓ : Loc nD τ sig) → Buf (Elt Ideal) ℓ} (hm : Finite m)

/-- The points' rows are all rows. -/
theorem sum_rows (f : Fin 8192 → ℝ) : ∑ t : Fin cfg0.N, ∑ r, f (row t r) = ∑ s, f s :=
  Fin.sum_mul_add_congr fun t k hl => rfl

include hm

/-- The array of the convolution's output's gradient. -/
theorem final_dcq (c : Dev nD) : (dats m 0 c).arrAt 8 (cfgs 0).N = fun i : S8192x1536.Idx => ((dcqRow (m := m) c (i 0) (i 1) : ℝ) : EReal) := by
  refine (dats m 0 c).arrAt_eq_of_covers 8 _ (by decide +kernel) fun t hf y => ?_
  idx_vars y
  blk_simp
  rw [after0_8]
  have e0 : (win0_8.blk t).view.emb (ix2 y0 y1) 0 = row t y0 := Fin.ext (by blk_simp [idx8 t])
  have e1 : (win0_8.blk t).view.emb (ix2 y0 y1) 1 = y1 := Fin.ext (by blk_simp [idx8 t])
  rw [e0, e1]
  exact dcq_point hm c t y0 y1

/-- The array of the gates' inputs' gradient. -/
theorem final_dpc (c : Dev nD) : (dats m 0 c).arrAt 9 (cfgs 0).N = fun i : S8192x128.Idx => ((dpc (lane16 (BA m c (i 0))) (lane16 (DB m c (i 0))) (lane (AL m c)) (lane (DT m c)) (i 1) : ℝ) : EReal) := by
  refine (dats m 0 c).arrAt_eq_of_covers 9 _ (by decide +kernel) fun t hf y => ?_
  idx_vars y
  blk_simp
  rw [after0_9]
  have e0 : (win0_9.blk t).view.emb (ix2 y0 y1) 0 = row t y0 := Fin.ext (by blk_simp [idx9 t])
  have e1 : (win0_9.blk t).view.emb (ix2 y0 y1) 1 = y1 := Fin.ext (by blk_simp [idx9 t])
  rw [e0, e1]
  exact dpc_point hm c t y0 y1

/-- The decay rate's logarithm's gradient. -/
theorem final_dal (c : Dev nD) : (dats m 0 c).arrAt 10 (cfgs 0).N
    = fun i : S1x128.Idx => ((∑ s, dalog (lane16 (BA m c s)) (lane16 (DB m c s)) (lane (AL m c)) (lane (DT m c)) (i 1) : ℝ) : EReal) := by
  refine (dats m 0 c).arrAt_eq_of_after_last 10 t0_15 (by decide +kernel) _ fun j => ?_
  blk_simp
  idx_vars j
  rw [after0_10, Pipeline.eq_sum_fin_of_reset_step_apply_last (fun n h (i : Fin 1 × Fin 128) => (outsAt0 m c n h).2.2.1 (ix2 i.1 i.2)) 16 (fun _ => 0)
    (fun t i => ((∑ r, dalog (lane16 (BA m c (row t r))) (lane16 (DB m c (row t r))) (lane (AL m c)) (lane (DT m c)) i.2 : ℝ) : EReal))
    (fun t h i => dal_first hm c t h i.1 i.2) (fun t h i => dal_step hm c t h i.1 i.2) (le_of_eq N_0) t0_15 rfl (j0, j1), zero_add, Reals.sum,
    sum_rows fun s => dalog (lane16 (BA m c s)) (lane16 (DB m c s)) (lane (AL m c)) (lane (DT m c)) j1]

/-- The step bias's gradient. -/
theorem final_ddt (c : Dev nD) : (dats m 0 c).arrAt 11 (cfgs 0).N
    = fun i : S1x128.Idx => ((∑ s, dalpha (lane16 (BA m c s)) (lane16 (DB m c s)) (lane (AL m c)) (lane (DT m c)) (i 1) : ℝ) : EReal) := by
  refine (dats m 0 c).arrAt_eq_of_after_last 11 t0_15 (by decide +kernel) _ fun j => ?_
  blk_simp
  idx_vars j
  rw [after0_11, Pipeline.eq_sum_fin_of_reset_step_apply_last (fun n h (i : Fin 1 × Fin 128) => (outsAt0 m c n h).2.2.2 (ix2 i.1 i.2)) 16 (fun _ => 0)
    (fun t i => ((∑ r, dalpha (lane16 (BA m c (row t r))) (lane16 (DB m c (row t r))) (lane (AL m c)) (lane (DT m c)) i.2 : ℝ) : EReal))
    (fun t h i => ddt_first hm c t h i.1 i.2) (fun t h i => ddt_step hm c t h i.1 i.2) (le_of_eq N_0) t0_15 rfl (j0, j1), zero_add, Reals.sum,
    sum_rows fun s => dalpha (lane16 (BA m c s)) (lane16 (DB m c s)) (lane (AL m c)) (lane (DT m c)) j1]

end Cert.GdnPrepBwdIdeal.Hand
-- ==== Proof.GdnPrep.Ref.lean ====
/- The reference's four results at real arguments. -/
module
public import proofs.«01_k».proof.Proof.GdnPrep.Model
public import proofs.«01_k».proof.Proof.Gen.GdnPrepRefIdeal.Read
public import Idealize.ShloMosaic.Lib.Pipeline.ValueKit

@[expose] public section

set_option maxRecDepth 16384

noncomputable section

namespace Cert.GdnPrepRefIdeal.Hand

open Cert.GdnPrep Cert.GdnPrepRefIdeal Cert.GdnPrepRefIdeal.Gen Cert.GdnPrepRefIdeal.Read Idealize.ShloMosaic Idealize.ShloMosaic.TcCoe Idealize.SL.Sem

section Heads

variable {x0 : (⟨S8192x1536, .f32⟩ : BufTy).Contents (Elt Ideal)} {x4 x5 x6 : (⟨S8192x512, .f32⟩ : BufTy).Contents (Elt Ideal)}
  {X : Fin 8192 → Fin 1536 → ℝ} {DQ DK DV : Fin 8192 → Fin 512 → ℝ}
  (hx : ∀ s l, x0 (ix2 s l) = (X s l : EReal)) (hq : ∀ s l, x4 (ix2 s l) = (DQ s l : EReal)) (hk : ∀ s l, x5 (ix2 s l) = (DK s l : EReal))
  (hv : ∀ s l, x6 (ix2 s l) = (DV s l : EReal))

section
include hx

/-- The logistic function of the convolution's output, and the activation. -/
theorem sig_at (s : Fin 8192) (l : Fin 1536) : val_main_v4_2 (F := Ideal) x0 (ix2 s l) = (GdnPrep.sig (X s l) : EReal) := by
  pointwise [val_main_v4_2, val_main_call0_v4, val_main_call0_cst_0, val_main_call0_v3, val_main_call0_v2, val_main_call0_cst, val_main_call0_v1, val_main_call0_v0]
  simp (disch := exact (one_add_exp_pos _).ne') only [hx, Reals.one, Reals.neg, Ideal.exp_coe, Reals.add, Reals.div]
  rfl
theorem act_at (s : Fin 8192) (l : Fin 1536) : val_main_v4_0 (F := Ideal) x0 (ix2 s l) = (act (X s l) : EReal) := by
  pointwise [val_main_v4_0]
  rw [hx, sig_at hx, Reals.mul]
  rfl

include hk in
/-- The gradient of a key head's normalisation. -/
theorem key_at (s : Fin 8192) (h : Fin 4) (l : Fin 128) : val_main_v90 (F := Ideal) x0 x5 (ix3 s h l)
    = (dnorm (fun k => act (X s ⟨512 + (h * 128 + k), by omega⟩)) (fun k => DK s ⟨h * 128 + k, by omega⟩) l : EReal) := by
  pointwise [val_main_v90, val_main_v88, val_main_v83, val_main_v58, val_main_v82, val_main_v27, val_main_v26, val_main_v24, val_main_v23, val_main_v22,
    val_main_v21, val_main_v20, val_main_cst_3, val_main_v25, val_main_cst_4, val_main_v87, val_main_v86, val_main_v85, val_main_v84, val_main_v81,
    val_main_v80, val_main_v79, val_main_cst_16, val_main_v30, val_main_v29, val_main_cst_5, val_main_v28, val_main_cst_17, val_main_v89]
  have p := arg_pos (fun k => act (X s ⟨512 + (h * 128 + k), by omega⟩))
  simp (disch := first | exact p | exact p.ne' | norm_num) only [act_at hx, hk, Reals.lit_eps, Reals.lit_neg_half, Reals.mul, Reals.add, Reals.sum, Reals.div,
    Reals.rsqrt, Finset.univ_unique, Finset.sum_singleton]
  exact congrArg _ (dnorm_eq (fun k => act (X s ⟨512 + (h * 128 + k), by omega⟩)) (fun k => DK s ⟨h * 128 + k, by omega⟩) l)

include hq in
/-- The gradient of a query head's normalisation. -/
theorem query_at (s : Fin 8192) (h : Fin 4) (l : Fin 128) : val_main_v107 (F := Ideal) x0 x4 (ix3 s h l)
    = (dnorm (fun k => act (X s ⟨h * 128 + k, by omega⟩)) (fun k => DQ s ⟨h * 128 + k, by omega⟩ * scale) l : EReal) := by
  pointwise [val_main_v107, val_main_v105, val_main_v100, val_main_v95, val_main_v59, val_main_v94, val_main_cst_19, val_main_v99, val_main_v12, val_main_v11,
    val_main_v9, val_main_v8, val_main_v7, val_main_v6, val_main_v5, val_main_cst, val_main_v10, val_main_cst_0, val_main_v104, val_main_v103,
    val_main_v102, val_main_v101, val_main_v98, val_main_v97, val_main_v96, val_main_cst_20, val_main_v15, val_main_v14, val_main_cst_1,
    val_main_v13, val_main_cst_21, val_main_v106]
  have p := arg_pos (fun k => act (X s ⟨h * 128 + k, by omega⟩))
  simp (disch := first | exact p | exact p.ne' | norm_num) only [act_at hx, hq, lit_scale, Reals.lit_eps, Reals.lit_neg_half, Reals.mul, Reals.add, Reals.sum, Reals.div,
    Reals.rsqrt, Finset.univ_unique, Finset.sum_singleton]
  exact congrArg _ (dnorm_eq (fun k => act (X s ⟨h * 128 + k, by omega⟩)) (fun k => DQ s ⟨h * 128 + k, by omega⟩ * scale) l)
end

include hx hq hk hv in
/-- The convolution's output's gradient. -/
theorem dcq_at (s : Fin 8192) (l : Fin 1536) : val_main_v111 (F := Ideal) x0 x4 x5 x6 (ix2 s l) = (dcq (X s) (DQ s) (DK s) (DV s) l : EReal) := by
  pointwise [val_main_v111, val_main_call3_v1, val_main_v110, val_main_v93, val_main_v78, val_main_cst_15, val_main_v92, val_main_v91, val_main_cst_18,
    val_main_v109, val_main_v108, val_main_cst_22, val_main_call3_v2, val_main_call3_v0, val_main_v4_1, val_main_call0_v7, val_main_call0_v6,
    val_main_call0_cst_1]
  have fin : ∀ d : ℝ, (d : EReal) * (GdnPrep.sig (X s l) : EReal) + (X s l : EReal) * (d : EReal) * ((GdnPrep.sig (X s l) : EReal) * (1 - (GdnPrep.sig (X s l) : EReal)))
      = ((d * act' (X s l) : ℝ) : EReal) := fun d => by
    simp only [Reals.one, Reals.mul, Reals.sub, Reals.add]
    exact congrArg _ (by rw [act']; ring)
  simp only [hx, sig_at hx]
  by_cases h0 : (l : ℕ) < 512
  · rw [dif_neg (by omega), dif_neg (by omega), dif_pos h0, zero_add, zero_add, query_at hx hq, fin, dcq, dif_pos h0]
  rw [dif_neg h0, add_zero, dcq, dif_neg h0]
  by_cases h1 : (l : ℕ) < 1024
  · have e : (l : ℕ) / 128 * 128 = 512 + ((l : ℕ) - 512) / 128 * 128 := by omega
    have e' : ((l : ℕ) - 512) % 128 = (l : ℕ) % 128 := by omega
    rw [dif_neg (by omega), dif_pos ⟨by omega, by omega⟩, zero_add, key_at hx hk, fin, dif_pos h1]
    simp only [e, e', add_assoc]
  · rw [dif_pos ⟨by omega, by omega⟩, dif_neg (by omega), add_zero, hv, fin, dif_neg h1]

end Heads

section Gates

variable {x1 x7 : (⟨S8192x16, .f32⟩ : BufTy).Contents (Elt Ideal)} {x2 x3 : (⟨S2x4, .f32⟩ : BufTy).Contents (Elt Ideal)}
  {BA DB : Fin 8192 → Fin 16 → ℝ} {AL DT : Fin 2 → Fin 4 → ℝ}
  (hp : ∀ s l, x1 (ix2 s l) = (BA s l : EReal)) (hq : ∀ s l, x7 (ix2 s l) = (DB s l : EReal))
  (ha : ∀ i j, x2 (ix2 i j) = (AL i j : EReal)) (ht : ∀ i j, x3 (ix2 i j) = (DT i j : EReal))

section
include hp ht

/-- Softplus of g's input. -/
theorem sp_at (s : Fin 8192) (i : Fin 2) (j : Fin 4) : val_main_v52_0 (F := Ideal) x1 x3 (ix3 s i j)
    = (sp (BA s ⟨8 + (i * 4 + j), by omega⟩ + DT i j) : EReal) := by
  pointwise [val_main_v52_0, val_main_call1_v4, val_main_call1_v3, val_main_v51, val_main_v37, val_main_v36, val_main_v50, val_main_v49, val_main_call1_v2,
    val_main_call1_cst, val_main_call1_v6, val_main_call1_v5, val_main_call1_v11, val_main_call1_v1, val_main_call1_v0, val_main_call1_v10,
    val_main_call1_v9, val_main_call1_v8, val_main_call1_v7]
  simp (disch := exact one_add_exp_pos _) only [hp, ht, Reals.add, ne_eq, not_true_eq_false, if_false, Reals.zero, Reals.max_, Reals.abs_, Reals.neg, Ideal.exp_coe,
    Reals.log1p]
  exact congrArg _ (Reals.softplus _)

/-- … and its derivative. -/
theorem dsp_at (s : Fin 8192) (i : Fin 2) (j : Fin 4) : val_main_v52_1 (F := Ideal) x1 x3 (ix3 s i j)
    = (GdnPrep.sig (BA s ⟨8 + (i * 4 + j), by omega⟩ + DT i j) : EReal) := by
  pointwise [val_main_v52_1, val_main_call1_v21, val_main_call1_v16, val_main_call1_v14, val_main_v51, val_main_v37, val_main_v36, val_main_v50, val_main_v49,
    val_main_call1_v13, val_main_call1_cst_0, val_main_call1_v15, val_main_call1_cst_1, val_main_call1_v20, val_main_call1_v18, val_main_v52_0,
    val_main_call1_v4, val_main_call1_v3, val_main_call1_v2, val_main_call1_cst, val_main_call1_v6, val_main_call1_v5, val_main_call1_v11,
    val_main_call1_v1, val_main_call1_v0, val_main_call1_v10, val_main_call1_v9, val_main_call1_v8, val_main_call1_v7, val_main_call1_v17,
    val_main_call1_cst_2, val_main_call1_v19, val_main_call1_cst_3]
  simp (disch := exact one_add_exp_pos _) only [hp, ht, Reals.add, Reals.sub, ne_eq, not_true_eq_false, if_false, Reals.lit_inf, EReal.coe_ne_top, Reals.zero, Reals.max_, Reals.abs_,
    Reals.neg, Ideal.exp_coe, Reals.log1p, Reals.softplus]
  exact congrArg _ (Reals.softplus_grad _)
end

include hp hq ha ht

/-- g's input's gradient. -/
theorem dz_at (s : Fin 8192) (i : Fin 2) (j : Fin 4) : val_main_v66 (F := Ideal) x1 x2 x3 x7 (ix3 s i j)
    = ((DB s ⟨8 + (i * 4 + j), by omega⟩ * (0 - Real.exp (AL i j)) * GdnPrep.sig (BA s ⟨8 + (i * 4 + j), by omega⟩ + DT i j) : ℝ) : EReal) := by
  pointwise [val_main_v66, val_main_v61, val_main_v60, val_main_v53, val_main_v48, val_main_v47, val_main_v3, val_main_v2]
  simp only [dsp_at hp ht, hq, ha, Ideal.exp_coe, Reals.neg, Reals.mul]
  exact congrArg _ (by ring)

/-- The gates' inputs' gradient. -/
theorem dpc_at (s : Fin 8192) (l : Fin 128) : val_main_v113 (F := Ideal) x1 x2 x3 x7 (ix2 s l)
    = (dpc (lane16 (BA s)) (lane16 (DB s)) (lane AL) (lane DT) l : EReal) := by
  pointwise [val_main_v113, val_main_v112, val_main_v77, val_main_v74, val_main_v73, val_main_cst_13, val_main_v76, val_main_v75, val_main_v72, val_main_v1,
    val_main_v0, val_main_v46, val_main_v43, val_main_v42, val_main_cst_7, val_main_v41, val_main_v40, val_main_cst_6, val_main_v39, val_main_v38,
    val_main_v35, val_main_v34, val_main_v45, val_main_v44, val_main_cst_8, val_main_cst_14, val_main_call4_v0, val_main_c]
  have one : ∀ x : ℝ, Ideal.div 1 (1 + Ideal.exp (-(x : EReal))) = (GdnPrep.sig x : EReal) := fun x => by
    simp (disch := exact (one_add_exp_pos _).ne') only [Reals.one, Reals.neg, Ideal.exp_coe, Reals.add, Reals.div]
    rfl
  by_cases h16 : (l : ℕ) < 16
  · rw [dif_pos h16]
    by_cases h8 : (l : ℕ) < 8
    · have e : (l : ℕ) / 4 * 4 + (l : ℕ) % 4 = l := by omega
      rw [dif_neg (by omega), dif_pos h8, zero_add]
      simp only [e, hp, hq, one, dpc, if_pos h8, lane16, dif_pos h16]
      simp only [Reals.one, Reals.sub, Reals.mul, mul_assoc]
    · have e : 8 + (((l : ℕ) - 8) / 4 * 4 + ((l : ℕ) - 8) % 4) = l := by omega
      have h' : 8 ≤ (l : ℕ) ∧ (l : ℕ) - 8 < 8 := by omega
      simp only [dif_pos h', dif_neg h8, add_zero, dz_at hp hq ha ht]
      have h : 8 ≤ (l : ℕ) ∧ (l : ℕ) < 16 := ⟨by omega, h16⟩
      simp only [e, dpc, if_neg h8, dalpha, if_pos h, lane16, dif_pos h16, lane, dif_pos h]
  · rw [dif_neg h16, dpc, if_neg (by omega), dalpha, if_neg (by omega)]
    exact Reals.int_zero

/-- The decay rate's logarithm's gradient. -/
theorem dal_at (j : Fin 1) (l : Fin 128) : val_main_v115 (F := Ideal) x1 x2 x3 x7 (ix2 j l)
    = ((∑ s, dalog (lane16 (BA s)) (lane16 (DB s)) (lane AL) (lane DT) l : ℝ) : EReal) := by
  pointwise [val_main_v115, val_main_v114, val_main_v71, val_main_v70, val_main_v65, val_main_v64, val_main_v63, val_main_v62, val_main_v3, val_main_v2,
    val_main_cst_9, val_main_cst_10, val_main_v47, val_main_call5_v0, val_main_c_23]
  by_cases h : 8 ≤ (l : ℕ) ∧ (l : ℕ) < 16
  · have e : 8 + (((l : ℕ) - 8) / 4 * 4 + ((l : ℕ) - 8) % 4) = l := by omega
    rw [dif_pos ⟨by omega, by omega⟩]
    simp only [sp_at hp ht, hq, ha, e, dalog, if_pos h, lane16, dif_pos h.2, lane, dif_pos h, Ideal.exp_coe, Reals.mul, Reals.sum, Reals.neg, Finset.univ_unique,
      Finset.sum_singleton]
    refine congrArg _ ?_
    rw [neg_mul, Finset.sum_mul, ← Finset.sum_neg_distrib]
    exact Finset.sum_congr rfl fun s _ => by ring
  · rw [dif_neg (by omega)]
    simp only [dalog, if_neg h, Finset.sum_const_zero]
    exact Reals.int_zero

/-- The step bias's gradient. -/
theorem ddt_at (j : Fin 1) (l : Fin 128) : val_main_v117 (F := Ideal) x1 x2 x3 x7 (ix2 j l)
    = ((∑ s, dalpha (lane16 (BA s)) (lane16 (DB s)) (lane AL) (lane DT) l : ℝ) : EReal) := by
  pointwise [val_main_v117, val_main_v116, val_main_v69, val_main_v68, val_main_v67, val_main_cst_11, val_main_cst_12, val_main_call6_v0, val_main_c_24]
  by_cases h : 8 ≤ (l : ℕ) ∧ (l : ℕ) < 16
  · have e : 8 + (((l : ℕ) - 8) / 4 * 4 + ((l : ℕ) - 8) % 4) = l := by omega
    rw [dif_pos ⟨by omega, by omega⟩]
    simp only [dz_at hp hq ha ht, e, dalpha, if_pos h, lane16, dif_pos h.2, lane, dif_pos h, Reals.sum, Finset.univ_unique, Finset.sum_singleton]
  · rw [dif_neg (by omega)]
    simp only [dalpha, if_neg h, Finset.sum_const_zero]
    exact Reals.int_zero

end Gates

end Cert.GdnPrepRefIdeal.Hand
-- ==== Proof.GdnPrep.Claim.lean ====
/- The gradient of GDN's preparation: the kernel computes the derivative of the activation, the heads' norms and the gates. -/
module
public import proofs.«01_k».proof.Proof.GdnPrep.Array
public import proofs.«01_k».proof.Proof.GdnPrep.Ref
public import proofs.«01_k».proof.Proof.Gen.GdnPrepBwd.Frame
public import proofs.«01_k».proof.Defs

@[expose] public section

set_option maxRecDepth 16384

noncomputable section

namespace Cert.GdnPrep

open Idealize.ShloMosaic Idealize.ShloMosaic.TcCoe Idealize.SL.Sem

/-- The shape facts the precondition states. -/
instance pre_facts : Cert.Pre_gdn_prep_finite.Facts := ⟨by decide, by decide, by decide, by decide⟩

/-- The precondition says that the arguments are real numbers. -/
theorem finite [Cert.Pre_gdn_prep_finite.Facts] {m : (ℓ : Loc Cert.GdnPrepBwdIdeal.nD Cert.GdnPrepBwdIdeal.τ Cert.GdnPrepBwdIdeal.sig) → Buf (Elt Ideal) ℓ}
    (h : Cert.Pre_GdnPrepBwdIdeal_gdn_prep_finite m) : Cert.GdnPrepBwdIdeal.Hand.Finite m := fun c => by
  obtain ⟨h0, h1, h2, h3, h4, h5, h6, h7⟩ := h c
  exact ⟨fun s l => Reals.exists_real (congrFun h0 (ix2 s l)), fun s l => Reals.exists_real (congrFun h1 (ix2 s l)), fun s l => Reals.exists_real (congrFun h2 (ix2 s l)),
    fun s l => Reals.exists_real (congrFun h3 (ix2 s l)), fun s l => Reals.exists_real (congrFun h4 (ix2 s l)), fun s l => Reals.exists_real (congrFun h5 (ix2 s l)),
    fun s l => Reals.exists_real (congrFun h6 (ix2 s l)), fun s l => Reals.exists_real (congrFun h7 (ix2 s l))⟩

/-- The reference runs to the end and leaves its arguments unchanged. -/
theorem frame_ref : Cert.quiescent_GdnPrepRefIdeal := fun m ρ _ =>
  (θ_run Cert.GdnPrepRefIdeal.defs _ _).mono (fun r h => ⟨fun c => (h c).2.2.2.2, sem_eq_zero_of_no_sems (by decide) r.2⟩)
    (Cert.GdnPrepRefIdeal.Value.run m ρ)

/-- The kernel's four results are the reference's four results, on real arguments. -/
theorem algebraic [Cert.Pre_gdn_prep_finite.Facts] : Cert.algebraic_GdnPrepBwdIdeal_GdnPrepRefIdeal_pre_gdn_prep_finite := fun m ρ m' ρ' hp hag =>
  ⟨_, _, _, _, Cert.GdnPrepBwdIdeal.Value.run_blocks m ρ, (θ_run _ _ _).mono (fun r h c => by
    obtain ⟨h0, h1, h2, h3, h4⟩ := h c
    obtain ⟨a0, a1, a2, a3, a4, a5, a6, a7⟩ := hag c
    have hm := finite hp
    obtain ⟨f0, f1, f2, f3, f4, f5, f6, f7⟩ := hm c
    refine ⟨h0.trans ?_, h1.trans ?_, h2.trans ?_, h3.trans ?_, h4⟩ <;> clear h0 h1 h2 h3 h4 h
    · rw [Cert.GdnPrepRefIdeal.Read.val_main_v111_eq]
      change Cert.GdnPrepRefIdeal.Read.val_main_v111 (m' (c.tc.loc Cert.GdnPrepRefIdeal.main_arg0)) (m' (c.tc.loc Cert.GdnPrepRefIdeal.main_arg4)) (m' (c.tc.loc Cert.GdnPrepRefIdeal.main_arg5)) (m' (c.tc.loc Cert.GdnPrepRefIdeal.main_arg6)) = _
      rw [a0, a4, a5, a6]
      refine Eq.trans ?_ (Cert.GdnPrepBwdIdeal.Hand.final_dcq hm c).symm
      funext i
      idx_vars i
      exact Cert.GdnPrepRefIdeal.Hand.dcq_at (fun s l => (f0 s l).symm) (fun s l => (f4 s l).symm) (fun s l => (f5 s l).symm) (fun s l => (f6 s l).symm) i0 i1
    · rw [Cert.GdnPrepRefIdeal.Read.val_main_v113_eq]
      change Cert.GdnPrepRefIdeal.Read.val_main_v113 (m' (c.tc.loc Cert.GdnPrepRefIdeal.main_arg1)) (m' (c.tc.loc Cert.GdnPrepRefIdeal.main_arg2)) (m' (c.tc.loc Cert.GdnPrepRefIdeal.main_arg3)) (m' (c.tc.loc Cert.GdnPrepRefIdeal.main_arg7)) = _
      rw [a1, a2, a3, a7]
      refine Eq.trans ?_ (Cert.GdnPrepBwdIdeal.Hand.final_dpc hm c).symm
      funext i
      idx_vars i
      exact Cert.GdnPrepRefIdeal.Hand.dpc_at (fun s l => (f1 s l).symm) (fun s l => (f7 s l).symm) (fun s l => (f2 s l).symm) (fun s l => (f3 s l).symm) i0 i1
    · rw [Cert.GdnPrepRefIdeal.Read.val_main_v115_eq]
      change Cert.GdnPrepRefIdeal.Read.val_main_v115 (m' (c.tc.loc Cert.GdnPrepRefIdeal.main_arg1)) (m' (c.tc.loc Cert.GdnPrepRefIdeal.main_arg2)) (m' (c.tc.loc Cert.GdnPrepRefIdeal.main_arg3)) (m' (c.tc.loc Cert.GdnPrepRefIdeal.main_arg7)) = _
      rw [a1, a2, a3, a7]
      refine Eq.trans ?_ (Cert.GdnPrepBwdIdeal.Hand.final_dal hm c).symm
      funext i
      idx_vars i
      exact Cert.GdnPrepRefIdeal.Hand.dal_at (fun s l => (f1 s l).symm) (fun s l => (f7 s l).symm) (fun s l => (f2 s l).symm) (fun s l => (f3 s l).symm) i0 i1
    · rw [Cert.GdnPrepRefIdeal.Read.val_main_v117_eq]
      change Cert.GdnPrepRefIdeal.Read.val_main_v117 (m' (c.tc.loc Cert.GdnPrepRefIdeal.main_arg1)) (m' (c.tc.loc Cert.GdnPrepRefIdeal.main_arg2)) (m' (c.tc.loc Cert.GdnPrepRefIdeal.main_arg3)) (m' (c.tc.loc Cert.GdnPrepRefIdeal.main_arg7)) = _
      rw [a1, a2, a3, a7]
      refine Eq.trans ?_ (Cert.GdnPrepBwdIdeal.Hand.final_ddt hm c).symm
      funext i
      idx_vars i
      exact Cert.GdnPrepRefIdeal.Hand.ddt_at (fun s l => (f1 s l).symm) (fun s l => (f7 s l).symm) (fun s l => (f2 s l).symm) (fun s l => (f3 s l).symm) i0 i1)
    (Cert.GdnPrepRefIdeal.Value.run m' ρ')⟩

end Cert.GdnPrep
-- ==== Proof.InProj.Model.lean ====
/- The gradient of the mixer's norm and its input projection over the real numbers: the projection's cotangent is the five parts side by side,
   the normalised row's cotangent is its product with the transposed matrix, and the row's gradient is the residual's plus the norm's. -/
module
public import proofs.«01_k».proof.Proof.Loss.Model

@[expose] public section

set_option maxRecDepth 16384

noncomputable section

namespace Cert.InProj

open Cert.Reals Cert.Loss

/-- Sixteen numbers and zeros after them. -/
def pad16 (a : Fin 16 → ℝ) (l : Fin 128) : ℝ := if h : (l : ℕ) < 16 then a ⟨l, h⟩ else 0

/-- The zeros add nothing to a product's sum. -/
theorem sum_pad16 (a b : Fin 16 → ℝ) : ∑ k, pad16 a k * pad16 b k = ∑ k, a k * b k := by
  have h := Fin.sum_univ_add (a := 16) (b := 112) fun k : Fin 128 => pad16 a k * pad16 b k
  rw [show ∑ k : Fin 128, pad16 a k * pad16 b k = ∑ k : Fin (16 + 112), pad16 a k * pad16 b k from rfl, h]
  have z : ∑ i : Fin 112, pad16 a (Fin.natAdd 16 i) * pad16 b (Fin.natAdd 16 i) = 0 := Finset.sum_eq_zero fun i _ => by
    rw [pad16, dif_neg (by simp), zero_mul]
  rw [z, add_zero]
  refine Finset.sum_congr rfl fun i _ => ?_
  have hi : ((Fin.castAdd 112 i : Fin (16 + 112)) : ℕ) < 16 := i.isLt
  rw [pad16, pad16, dif_pos hi, dif_pos hi]
  rfl

/-- The column of each part's entry. -/
abbrev col0 (k : Fin 512) : Fin 3088 := ⟨k, by omega⟩
abbrev col1 (k : Fin 512) : Fin 3088 := ⟨512 + k, by omega⟩
abbrev col2 (k : Fin 1536) : Fin 3088 := ⟨1024 + k, by omega⟩
abbrev col3 (k : Fin 512) : Fin 3088 := ⟨2560 + k, by omega⟩
abbrev col4 (k : Fin 16) : Fin 3088 := ⟨3072 + k, by omega⟩

section Parts

variable (rg gt : Fin 512 → ℝ) (qkv : Fin 1536 → ℝ) (z : Fin 512 → ℝ) (ba : Fin 16 → ℝ)

/-- The five parts of the projection's cotangent side by side. -/
def cat (n : Fin 3088) : ℝ :=
  if h : (n : ℕ) < 512 then rg ⟨n, h⟩
  else if h : (n : ℕ) - 512 < 512 then gt ⟨n - 512, h⟩
  else if h : (n : ℕ) - 512 - 512 < 1536 then qkv ⟨n - 512 - 512, h⟩
  else if h : (n : ℕ) - 512 - 512 - 1536 < 512 then z ⟨n - 512 - 512 - 1536, h⟩
  else ba ⟨n - 512 - 512 - 1536 - 512, by omega⟩

/-- A sum over the columns is the sum of the parts' sums. -/
theorem sum_cat (w : Fin 3088 → ℝ) : ∑ n, cat rg gt qkv z ba n * w n
    = ∑ k, rg k * w (col0 k) + ∑ k, gt k * w (col1 k) + ∑ k, qkv k * w (col2 k) + ∑ k, z k * w (col3 k)
      + ∑ k, ba k * w (col4 k) := by
  have h : ∑ n, cat rg gt qkv z ba n * w n = ∑ n : Fin (512 + 512 + 1536 + 512 + 16), cat rg gt qkv z ba n * w n := rfl
  rw [h, Fin.sum_univ_add, Fin.sum_univ_add, Fin.sum_univ_add, Fin.sum_univ_add]
  refine congrArg₂ (· + ·) (congrArg₂ (· + ·) (congrArg₂ (· + ·) (congrArg₂ (· + ·) ?_ ?_) ?_) ?_) ?_
  all_goals
    refine Finset.sum_congr rfl fun k _ => congrArg₂ (· * ·) ?_ (congrArg w (Fin.ext (by simp only [Fin.val_natAdd, Fin.val_castAdd])))
    have hk := k.isLt
    simp only [cat, Fin.val_natAdd, Fin.val_castAdd]
    repeat rw [dif_neg (by omega)]
    try rw [dif_pos (by omega)]
    try exact congrArg _ (Fin.ext (by first | omega | (dsimp only; omega)))

end Parts

variable (x g dx2 dp : Fin 1024 → ℝ)

/-- The cotangent of the normalised row times the gain. -/
def dh (w : Fin 1024 → Fin 3088 → ℝ) (dp : Fin 3088 → ℝ) (l : Fin 1024) : ℝ := ∑ n, dp n * w l n

/-- A row's gradient at a cotangent `e` of the normalised row times the gain. -/
def dx (e : Fin 1024 → ℝ) (l : Fin 1024) : ℝ :=
  dx2 l + inv x * (e l * g l - x l * inv x * ((∑ k, e k * g k * (x k * inv x)) / 1024))

/-- A row's part of the gain's gradient. -/
def dg (e : Fin 1024 → ℝ) (l : Fin 1024) : ℝ := e l * (x l * inv x)

end Cert.InProj
-- ==== Proof.InProj.Pay.lean ====
/- The kernel's payloads on blocks of real numbers: the projection's transposed product, the row's gradient and the gain's gradient. -/
module
public import proofs.«01_k».proof.Proof.InProj.Model
public import proofs.«01_k».proof.Proof.Gen.InProjBwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.InProjBwdIdeal.Hand

open Cert.Loss (inv inv_def arg_pos grad_eq)
open Cert.InProj Cert.InProjBwdIdeal Cert.InProjBwdIdeal.Gen Idealize.ShloMosaic Idealize.ShloMosaic.TcCoe Idealize.SL.Sem
open Idealize.ShloMosaic.Pipeline (Dat)

section Product

variable {a0 a1 a3 : Vec Ideal S512x512 .bf16} {w0 w1 w3 : Vec Ideal S1024x512 .bf16} {a2 : Vec Ideal S512x1536 .bf16} {w2 : Vec Ideal S1024x1536 .bf16}
  {a4 : Vec Ideal S512x128 .bf16} {w4 : Vec Ideal S1024x128 .bf16} {A0 A1 A3 : Fin 512 → Fin 512 → ℝ} {A2 : Fin 512 → Fin 1536 → ℝ} {A4 : Fin 512 → Fin 16 → ℝ}
  {W : Fin 1024 → Fin 3088 → ℝ}
  (h0 : ∀ r k, a0 (ix2 r k) = (A0 r k : EReal)) (h1 : ∀ r k, a1 (ix2 r k) = (A1 r k : EReal)) (h2 : ∀ r k, a2 (ix2 r k) = (A2 r k : EReal))
  (h3 : ∀ r k, a3 (ix2 r k) = (A3 r k : EReal)) (h4 : ∀ r k, a4 (ix2 r k) = (pad16 (A4 r) k : EReal))
  (g0 : ∀ l (k : Fin 512), w0 (ix2 l k) = (W l (col0 k) : EReal)) (g1 : ∀ l (k : Fin 512), w1 (ix2 l k) = (W l (col1 k) : EReal))
  (g2 : ∀ l (k : Fin 1536), w2 (ix2 l k) = (W l (col2 k) : EReal)) (g3 : ∀ l (k : Fin 512), w3 (ix2 l k) = (W l (col3 k) : EReal))
  (g4 : ∀ l k, w4 (ix2 l k) = (pad16 (fun j => W l (col4 j)) k : EReal))

include h0 h1 h2 h3 h4 g0 g1 g2 g3 g4

/-- The five products' sum is the product with the parts side by side. -/
theorem dh_pay (r : Fin 512) (l : Fin 1024) :
    k0_pay5 (F := Ideal) (k0_pay3 a0 w0 a1 w1 a2 w2 a3 w3) (k0_pay4 a4) w4 (ix2 r l)
      = (dh W (cat (A0 r) (A1 r) (A2 r) (A3 r) (A4 r)) l : EReal) := by
  pointwise [k0_pay5, k0_pay3, k0_pay4]
  simp only [h0, h1, h2, h3, h4, g0, g1, g2, g3, g4, Reals.lit_zero, Reals.mul, Reals.add, Reals.sum, sum_pad16]
  rw [dh, sum_cat]

end Product

section Norm

variable {v27 : FVec Ideal S512x1024 .f32} {v29 : FVec Ideal S512x128 .bf16} {v30 : Vec Ideal S1024x128 .bf16}
  {x d : Vec Ideal S512x1024 .f32} {g : Vec Ideal S1x1024 .f32} {E X D : Fin 512 → Fin 1024 → ℝ} {G : Fin 1024 → ℝ}
  (he : ∀ r l, k0_pay5 (F := Ideal) v27 v29 v30 (ix2 r l) = (E r l : EReal))
  (hx : ∀ r l, x (ix2 r l) = (X r l : EReal)) (hd : ∀ r l, d (ix2 r l) = (D r l : EReal)) (hg : ∀ l, g (ix2 0 l) = (G l : EReal))

include he hx hd hg

/-- The gradient's payload at a row of real numbers. -/
theorem dx_pay (r : Fin 512) (l : Fin 1024) :
    k0_pay9 (F := Ideal) v27 v29 v30 x d g (ix2 r l) = (dx (X r) G (D r) (E r) l : EReal) := by
  pointwise [k0_pay9, k0_pay6, k0_pay7]
  have p := arg_pos (X r)
  simp (disch := first | assumption | norm_num) only [he, hx, hd, hg, Reals.lit_1024, Reals.lit_eps, Reals.mul, Reals.add, Reals.sub,
    Reals.sum, Reals.div, Reals.rsqrt]
  rfl

/-- Half of the gradient, the bf16 output's payload. -/
theorem dxh_pay (r : Fin 512) (l : Fin 1024) :
    k0_pay1 (F := Ideal) (k0_pay9 (F := Ideal) v27 v29 v30 x d g) k0_pay10 (ix2 r l) = ((1 / 2 * dx (X r) G (D r) (E r) l : ℝ) : EReal) := by
  pointwise [k0_pay1, k0_pay10]
  rw [dx_pay he hx hd hg, Reals.lit_half, Reals.mul]

omit hd hg in
/-- The gain's gradient's payload: the rows' parts are added to what was there. -/
theorem dg_pay (a : Vec Ideal S1x1024 .f32) (l : Fin 1024) :
    k0_pay8 (F := Ideal) v27 v29 v30 x a (ix2 0 l) = a (ix2 0 l) + ((∑ r, dg (X r) (E r) l : ℝ) : EReal) := by
  pointwise [k0_pay8, k0_pay6, k0_pay7]
  have p := fun r => arg_pos (X r)
  simp (disch := first | exact p _ | norm_num) only [he, hx, Reals.lit_1024, Reals.lit_eps, Reals.mul, Reals.add, Reals.sub,
    Reals.sum, Reals.div, Reals.rsqrt]
  rfl

end Norm

end Cert.InProjBwdIdeal.Hand
-- ==== Proof.InProj.Block.lean ====
/- One grid point of the projection's gradient: the rows it reads are real numbers, and what it writes to each output. -/
module
public import proofs.«01_k».proof.Proof.InProj.Pay

@[expose] public section

set_option maxRecDepth 16384

noncomputable section

namespace Cert.InProjBwdIdeal.Hand

open Cert.Loss (inv inv_def arg_pos grad_eq)
open Cert.InProj Cert.InProjBwdIdeal Cert.InProjBwdIdeal.Gen Idealize.ShloMosaic Idealize.ShloMosaic.TcCoe Idealize.SL.Sem
open Idealize.ShloMosaic.Pipeline (Dat)

/-- The matrix's five groups of columns. -/
theorem cols0 (w : FVec Ideal S1024x3088 .f32) (l : Fin 1024) (k : Fin 512) :
    extractStridedSlice S1024x512 ![0, 0] (truncf .bf16 w bitsLt_bf16_f32) slices_S1024x3088_S1024x512_0_0 (ix2 l k) = w (ix2 l (col0 k)) := by
  pointwise []
theorem cols1 (w : FVec Ideal S1024x3088 .f32) (l : Fin 1024) (k : Fin 512) :
    extractStridedSlice S1024x512 ![0, 512] (truncf .bf16 w bitsLt_bf16_f32) slices_S1024x3088_S1024x512_0_512 (ix2 l k) = w (ix2 l (col1 k)) := by
  pointwise []
theorem cols2 (w : FVec Ideal S1024x3088 .f32) (l : Fin 1024) (k : Fin 1536) :
    extractStridedSlice S1024x1536 ![0, 1024] (truncf .bf16 w bitsLt_bf16_f32) slices_S1024x3088_S1024x1536_0_1024 (ix2 l k) = w (ix2 l (col2 k)) := by
  pointwise []
theorem cols3 (w : FVec Ideal S1024x3088 .f32) (l : Fin 1024) (k : Fin 512) :
    extractStridedSlice S1024x512 ![0, 2560] (truncf .bf16 w bitsLt_bf16_f32) slices_S1024x3088_S1024x512_0_2560 (ix2 l k) = w (ix2 l (col3 k)) := by
  pointwise []
theorem cols4 (w : FVec Ideal S1024x3088 .f32) (l : Fin 1024) (k : Fin 16) :
    extractStridedSlice S1024x16 ![0, 3072] (truncf .bf16 w bitsLt_bf16_f32) slices_S1024x3088_S1024x16_0_3072 (ix2 l k) = w (ix2 l (col4 k)) := by
  pointwise []

/-- The padding's zero. -/
theorem zero_at (i : S_.Idx) : sitofp (F := Ideal) .f32 (constantI S_ 32 0#32) i = ((0 : ℝ) : EReal) := by
  pointwise []
  exact Reals.int_zero

/-- The narrow float's zero. -/
theorem zero16_at (i : S_.Idx) : sitofp (F := Ideal) .bf16 (constantI S_ 32 0#32) i = ((0 : ℝ) : EReal) := by
  pointwise []
  exact Reals.int_zero

/-- Sixteen columns and zeros after them. -/
theorem pad_at (w : FVec Ideal S8192x16 .f32) (z : FVec Ideal S_ .f32) {A : Fin 8192 → Fin 16 → ℝ} (hw : ∀ s l, w (ix2 s l) = (A s l : EReal))
    (hz : ∀ i, z i = ((0 : ℝ) : EReal)) (s : Fin 8192) (l : Fin 128) :
    truncf .bf16 (pad S8192x128 ![0, 0] ![0, 112] ![0, 0] w z pads_S8192x16_S8192x128_000_01120 h_S_) bitsLt_bf16_f32 (ix2 s l) = (pad16 (A s) l : EReal) := by
  pointwise []
  rw [pad16]
  split_ifs with h
  · exact hw s ⟨l, h⟩
  · exact hz _

/-- … of the matrix. -/
theorem wpad_at (w : FVec Ideal S1024x16 .bf16) (z : FVec Ideal S_ .bf16) {A : Fin 1024 → Fin 16 → ℝ} (hw : ∀ s l, w (ix2 s l) = (A s l : EReal))
    (hz : ∀ i, z i = ((0 : ℝ) : EReal)) (s : Fin 1024) (l : Fin 128) :
    pad S1024x128 ![0, 0] ![0, 112] ![0, 0] w z pads_S1024x16_S1024x128_000_01120 h_S_ (ix2 s l) = (pad16 (A s) l : EReal) := by
  pointwise []
  rw [pad16]
  split_ifs with h
  · exact hw s ⟨l, h⟩
  · exact hz _

/-- The narrow copy of an argument. -/
theorem cast_at {S : Shape} (w : FVec Ideal S .f32) (i : S.Idx) : truncf .bf16 w bitsLt_bf16_f32 i = w i := rfl

variable (m : (ℓ : Loc nD τ sig) → Buf (Elt Ideal) ℓ)

/-- The arguments as real functions of row and column. -/
abbrev X (c : Dev nD) (s : Fin 8192) (l : Fin 1024) : ℝ := (m ((c.tc : Thread nD τ).loc main_arg0) (ix2 s l) : EReal).toReal
abbrev D (c : Dev nD) (s : Fin 8192) (l : Fin 1024) : ℝ := (m ((c.tc : Thread nD τ).loc main_arg1) (ix2 s l) : EReal).toReal
abbrev G (c : Dev nD) (l : Fin 1024) : ℝ := (m ((c.tc : Thread nD τ).loc main_arg2) (ix2 0 l) : EReal).toReal
abbrev W (c : Dev nD) (s : Fin 1024) (l : Fin 3088) : ℝ := (m ((c.tc : Thread nD τ).loc main_arg3) (ix2 s l) : EReal).toReal
abbrev A0 (c : Dev nD) (s : Fin 8192) (l : Fin 512) : ℝ := (m ((c.tc : Thread nD τ).loc main_arg4) (ix2 s l) : EReal).toReal
abbrev A1 (c : Dev nD) (s : Fin 8192) (l : Fin 512) : ℝ := (m ((c.tc : Thread nD τ).loc main_arg5) (ix2 s l) : EReal).toReal
abbrev A2 (c : Dev nD) (s : Fin 8192) (l : Fin 1536) : ℝ := (m ((c.tc : Thread nD τ).loc main_arg6) (ix2 s l) : EReal).toReal
abbrev A3 (c : Dev nD) (s : Fin 8192) (l : Fin 512) : ℝ := (m ((c.tc : Thread nD τ).loc main_arg7) (ix2 s l) : EReal).toReal
abbrev A4 (c : Dev nD) (s : Fin 8192) (l : Fin 16) : ℝ := (m ((c.tc : Thread nD τ).loc main_arg8) (ix2 s l) : EReal).toReal

/-- The arguments hold real numbers. -/
def Finite : Prop := ∀ c, (∀ s l, ((X m c s l : ℝ) : EReal) = m ((c.tc : Thread nD τ).loc main_arg0) (ix2 s l))
  ∧ (∀ s l, ((D m c s l : ℝ) : EReal) = m ((c.tc : Thread nD τ).loc main_arg1) (ix2 s l))
  ∧ (∀ l, ((G m c l : ℝ) : EReal) = m ((c.tc : Thread nD τ).loc main_arg2) (ix2 0 l))
  ∧ (∀ s l, ((W m c s l : ℝ) : EReal) = m ((c.tc : Thread nD τ).loc main_arg3) (ix2 s l))
  ∧ (∀ s l, ((A0 m c s l : ℝ) : EReal) = m ((c.tc : Thread nD τ).loc main_arg4) (ix2 s l))
  ∧ (∀ s l, ((A1 m c s l : ℝ) : EReal) = m ((c.tc : Thread nD τ).loc main_arg5) (ix2 s l))
  ∧ (∀ s l, ((A2 m c s l : ℝ) : EReal) = m ((c.tc : Thread nD τ).loc main_arg6) (ix2 s l))
  ∧ (∀ s l, ((A3 m c s l : ℝ) : EReal) = m ((c.tc : Thread nD τ).loc main_arg7) (ix2 s l))
  ∧ (∀ s l, ((A4 m c s l : ℝ) : EReal) = m ((c.tc : Thread nD τ).loc main_arg8) (ix2 s l))

theorem idx0 : ∀ t, win0_0.index t = ![t.val, 0] := (by decide +kernel : ∀ t : Fin grid0.N, _)
theorem idx1 : ∀ t, win0_1.index t = ![t.val, 0] := (by decide +kernel : ∀ t : Fin grid0.N, _)
theorem idx2 : ∀ t, win0_2.index t = ![0, 0] := (by decide +kernel : ∀ t : Fin grid0.N, _)
theorem idx3 : ∀ t, win0_3.index t = ![t.val, 0] := (by decide +kernel : ∀ t : Fin grid0.N, _)
theorem idx4 : ∀ t, win0_4.index t = ![t.val, 0] := (by decide +kernel : ∀ t : Fin grid0.N, _)
theorem idx5 : ∀ t, win0_5.index t = ![t.val, 0] := (by decide +kernel : ∀ t : Fin grid0.N, _)
theorem idx6 : ∀ t, win0_6.index t = ![t.val, 0] := (by decide +kernel : ∀ t : Fin grid0.N, _)
theorem idx7 : ∀ t, win0_7.index t = ![t.val, 0] := (by decide +kernel : ∀ t : Fin grid0.N, _)
theorem idx8 : ∀ t, win0_8.index t = ![0, 0] := (by decide +kernel : ∀ t : Fin grid0.N, _)
theorem idx9 : ∀ t, win0_9.index t = ![0, 0] := (by decide +kernel : ∀ t : Fin grid0.N, _)
theorem idx10 : ∀ t, win0_10.index t = ![0, 0] := (by decide +kernel : ∀ t : Fin grid0.N, _)
theorem idx11 : ∀ t, win0_11.index t = ![0, 0] := (by decide +kernel : ∀ t : Fin grid0.N, _)
theorem idx12 : ∀ t, win0_12.index t = ![0, 0] := (by decide +kernel : ∀ t : Fin grid0.N, _)
theorem idx13 : ∀ t, win0_13.index t = ![t.val, 0] := (by decide +kernel : ∀ t : Fin grid0.N, _)
theorem idx14 : ∀ t, win0_14.index t = ![t.val, 0] := (by decide +kernel : ∀ t : Fin grid0.N, _)

/-- Row `r` of grid point `t`'s block. -/
abbrev row (t : Fin cfg0.N) (r : Fin 512) : Fin 8192 := ⟨t.val * 512 + r, by have := lt_of_lt_of_eq t.isLt N_0; omega⟩

variable {m} (hm : Finite m)
include hm

/-- The blocks a grid point reads. -/
theorem blk0 (c : Dev nD) (t : Fin cfg0.N) (r : Fin 512) (l : Fin 1024) : iblk m c 0 t (ix2 r l) = (X m c (row t r) l : EReal) := by
  rw [(hm c).1]
  blk_point [iblk, V, idx0 t]
theorem blk1 (c : Dev nD) (t : Fin cfg0.N) (r : Fin 512) (l : Fin 1024) : iblk m c 1 t (ix2 r l) = (D m c (row t r) l : EReal) := by
  rw [(hm c).2.1]
  blk_point [iblk, V, idx1 t]
theorem blk2 (c : Dev nD) (t : Fin cfg0.N) (l : Fin 1024) : iblk m c 2 t (ix2 0 l) = (G m c l : EReal) := by
  rw [(hm c).2.2.1]
  blk_point [iblk, V, idx2 t]
theorem V_A0 (c : Dev nD) (s : Fin 8192) (l : Fin 512) : V m c main_v7 (ix2 s l) = (A0 m c s l : EReal) := by
  rw [(hm c).2.2.2.2.1]
  simp only [V, hostOps0, hostOps0_1, hostOps0_2, hostOps0_3, hostOps0_4, List.flatten_cons, List.flatten_nil, List.append_nil, List.cons_append, List.nil_append]
  after_results
  exact cast_at (m (c, Proc.tc.devRef main_arg4)) (ix2 s l)
theorem blk3 (c : Dev nD) (t : Fin cfg0.N) (r : Fin 512) (l : Fin 512) : iblk m c 3 t (ix2 r l) = (A0 m c (row t r) l : EReal) := by
  rw [← V_A0 hm]
  blk_point [iblk, idx3 t]
theorem V_A1 (c : Dev nD) (s : Fin 8192) (l : Fin 512) : V m c main_v8 (ix2 s l) = (A1 m c s l : EReal) := by
  rw [(hm c).2.2.2.2.2.1]
  simp only [V, hostOps0, hostOps0_1, hostOps0_2, hostOps0_3, hostOps0_4, List.flatten_cons, List.flatten_nil, List.append_nil, List.cons_append, List.nil_append]
  after_results
  exact cast_at (m (c, Proc.tc.devRef main_arg5)) (ix2 s l)
theorem blk4 (c : Dev nD) (t : Fin cfg0.N) (r : Fin 512) (l : Fin 512) : iblk m c 4 t (ix2 r l) = (A1 m c (row t r) l : EReal) := by
  rw [← V_A1 hm]
  blk_point [iblk, idx4 t]
theorem V_A2 (c : Dev nD) (s : Fin 8192) (l : Fin 1536) : V m c main_v9 (ix2 s l) = (A2 m c s l : EReal) := by
  rw [(hm c).2.2.2.2.2.2.1]
  simp only [V, hostOps0, hostOps0_1, hostOps0_2, hostOps0_3, hostOps0_4, List.flatten_cons, List.flatten_nil, List.append_nil, List.cons_append, List.nil_append]
  after_results
  exact cast_at (m (c, Proc.tc.devRef main_arg6)) (ix2 s l)
theorem blk5 (c : Dev nD) (t : Fin cfg0.N) (r : Fin 512) (l : Fin 1536) : iblk m c 5 t (ix2 r l) = (A2 m c (row t r) l : EReal) := by
  rw [← V_A2 hm]
  blk_point [iblk, idx5 t]
theorem V_A3 (c : Dev nD) (s : Fin 8192) (l : Fin 512) : V m c main_v10 (ix2 s l) = (A3 m c s l : EReal) := by
  rw [(hm c).2.2.2.2.2.2.2.1]
  simp only [V, hostOps0, hostOps0_1, hostOps0_2, hostOps0_3, hostOps0_4, List.flatten_cons, List.flatten_nil, List.append_nil, List.cons_append, List.nil_append]
  after_results
  exact cast_at (m (c, Proc.tc.devRef main_arg7)) (ix2 s l)
theorem blk6 (c : Dev nD) (t : Fin cfg0.N) (r : Fin 512) (l : Fin 512) : iblk m c 6 t (ix2 r l) = (A3 m c (row t r) l : EReal) := by
  rw [← V_A3 hm]
  blk_point [iblk, idx6 t]
theorem V_A4 (c : Dev nD) (s : Fin 8192) (l : Fin 128) : V m c main_v12 (ix2 s l) = (pad16 (A4 m c s) l : EReal) := by
  simp only [V, hostOps0, hostOps0_1, hostOps0_2, hostOps0_3, hostOps0_4, List.flatten_cons, List.flatten_nil, List.append_nil, List.cons_append, List.nil_append]
  after_results
  exact pad_at (m (c, Proc.tc.devRef main_arg8)) _ (fun s l => ((hm c).2.2.2.2.2.2.2.2 s l).symm) zero_at s l
theorem blk7 (c : Dev nD) (t : Fin cfg0.N) (r : Fin 512) (l : Fin 128) : iblk m c 7 t (ix2 r l) = (pad16 (A4 m c (row t r)) l : EReal) := by
  rw [← V_A4 hm]
  blk_point [iblk, idx7 t]
theorem V_W0 (c : Dev nD) (l : Fin 1024) (k : Fin 512) : V m c main_v1 (ix2 l k) = (W m c l (col0 k) : EReal) := by
  rw [(hm c).2.2.2.1]
  simp only [V, hostOps0, hostOps0_1, hostOps0_2, hostOps0_3, hostOps0_4, List.flatten_cons, List.flatten_nil, List.append_nil, List.cons_append, List.nil_append]
  after_results
  exact cols0 (m (c, Proc.tc.devRef main_arg3)) l k
theorem blk8 (c : Dev nD) (t : Fin cfg0.N) (l : Fin 1024) (k : Fin 512) : iblk m c 8 t (ix2 l k) = (W m c l (col0 k) : EReal) := by
  rw [← V_W0 hm]
  blk_point [iblk, idx8 t]
theorem V_W1 (c : Dev nD) (l : Fin 1024) (k : Fin 512) : V m c main_v2 (ix2 l k) = (W m c l (col1 k) : EReal) := by
  rw [(hm c).2.2.2.1]
  simp only [V, hostOps0, hostOps0_1, hostOps0_2, hostOps0_3, hostOps0_4, List.flatten_cons, List.flatten_nil, List.append_nil, List.cons_append, List.nil_append]
  after_results
  exact cols1 (m (c, Proc.tc.devRef main_arg3)) l k
theorem blk9 (c : Dev nD) (t : Fin cfg0.N) (l : Fin 1024) (k : Fin 512) : iblk m c 9 t (ix2 l k) = (W m c l (col1 k) : EReal) := by
  rw [← V_W1 hm]
  blk_point [iblk, idx9 t]
theorem V_W2 (c : Dev nD) (l : Fin 1024) (k : Fin 1536) : V m c main_v3 (ix2 l k) = (W m c l (col2 k) : EReal) := by
  rw [(hm c).2.2.2.1]
  simp only [V, hostOps0, hostOps0_1, hostOps0_2, hostOps0_3, hostOps0_4, List.flatten_cons, List.flatten_nil, List.append_nil, List.cons_append, List.nil_append]
  after_results
  exact cols2 (m (c, Proc.tc.devRef main_arg3)) l k
theorem blk10 (c : Dev nD) (t : Fin cfg0.N) (l : Fin 1024) (k : Fin 1536) : iblk m c 10 t (ix2 l k) = (W m c l (col2 k) : EReal) := by
  rw [← V_W2 hm]
  blk_point [iblk, idx10 t]
theorem V_W3 (c : Dev nD) (l : Fin 1024) (k : Fin 512) : V m c main_v4 (ix2 l k) = (W m c l (col3 k) : EReal) := by
  rw [(hm c).2.2.2.1]
  simp only [V, hostOps0, hostOps0_1, hostOps0_2, hostOps0_3, hostOps0_4, List.flatten_cons, List.flatten_nil, List.append_nil, List.cons_append, List.nil_append]
  after_results
  exact cols3 (m (c, Proc.tc.devRef main_arg3)) l k
theorem blk11 (c : Dev nD) (t : Fin cfg0.N) (l : Fin 1024) (k : Fin 512) : iblk m c 11 t (ix2 l k) = (W m c l (col3 k) : EReal) := by
  rw [← V_W3 hm]
  blk_point [iblk, idx11 t]
theorem V_W4 (c : Dev nD) (l : Fin 1024) (k : Fin 128) : V m c main_v6 (ix2 l k) = (pad16 (fun j => W m c l (col4 j)) k : EReal) := by
  simp only [V, hostOps0, hostOps0_1, hostOps0_2, hostOps0_3, hostOps0_4, List.flatten_cons, List.flatten_nil, List.append_nil, List.cons_append, List.nil_append]
  after_results
  exact wpad_at _ _ (A := fun l j => W m c l (col4 j)) (fun l j => (cols4 (m (c, Proc.tc.devRef main_arg3)) l j).trans ((hm c).2.2.2.1 l _).symm) zero16_at l k
theorem blk12 (c : Dev nD) (t : Fin cfg0.N) (l : Fin 1024) (k : Fin 128) :
    iblk m c 12 t (ix2 l k) = (pad16 (fun j => W m c l (col4 j)) k : EReal) := by
  rw [← V_W4 hm]
  blk_point [iblk, idx12 t]

omit hm in
/-- A row's cotangent of the normalised row times the gain. -/
abbrev E (m : (ℓ : Loc nD τ sig) → Buf (Elt Ideal) ℓ) (c : Dev nD) (s : Fin 8192) : Fin 1024 → ℝ := dh (W m c) (cat (A0 m c s) (A1 m c s) (A2 m c s) (A3 m c s) (A4 m c s))

/-- The product a grid point computes. -/
theorem dh_point (c : Dev nD) (t : Fin cfg0.N) (r : Fin 512) (l : Fin 1024) :
    k0_pay5 (F := Ideal) (k0_pay3 (iblk m c 3 t) (iblk m c 8 t) (iblk m c 4 t) (iblk m c 9 t) (iblk m c 5 t) (iblk m c 10 t) (iblk m c 6 t) (iblk m c 11 t))
      (k0_pay4 (iblk m c 7 t)) (iblk m c 12 t) (ix2 r l) = (E m c (row t r) l : EReal) :=
  dh_pay (A0 := fun r => A0 m c (row t r)) (A1 := fun r => A1 m c (row t r)) (A2 := fun r => A2 m c (row t r)) (A3 := fun r => A3 m c (row t r))
    (A4 := fun r => A4 m c (row t r)) (W := W m c) (blk3 hm c t) (blk4 hm c t) (blk5 hm c t) (blk6 hm c t) (blk7 hm c t) (blk8 hm c t) (blk9 hm c t) (blk10 hm c t)
    (blk11 hm c t) (blk12 hm c t) r l

/-- A grid point's rows of the gradient. -/
theorem dx_point (c : Dev nD) (t : Fin cfg0.N) (r : Fin 512) (l : Fin 1024) :
    (outsAt0 m c t.val t.isLt).1 (ix2 r l) = (dx (X m c (row t r)) (G m c) (D m c (row t r)) (E m c (row t r)) l : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dx_pay (dh_point hm c t) (blk0 hm c t) (blk1 hm c t) (blk2 hm c t) r l

/-- … and of half of it. -/
theorem dxh_point (c : Dev nD) (t : Fin cfg0.N) (r : Fin 512) (l : Fin 1024) :
    (outsAt0 m c t.val t.isLt).2.1 (ix2 r l) = ((1 / 2 * dx (X m c (row t r)) (G m c) (D m c (row t r)) (E m c (row t r)) l : ℝ) : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dxh_pay (dh_point hm c t) (blk0 hm c t) (blk1 hm c t) (blk2 hm c t) r l

/-- The gain's gradient: a grid point after the first adds its rows' parts. -/
theorem dg_step (c : Dev nD) (t : Fin cfg0.N) (h : ¬ t.val % 16 = 0) (j : Fin 1) (l : Fin 1024) :
    (outsAt0 m c t.val t.isLt).2.2 (ix2 j l)
      = (outsAt0 m c (t.val - 1) (Nat.lt_of_le_of_lt (Nat.sub_le _ _) t.isLt)).2.2 (ix2 j l)
        + ((∑ r, dg (X m c (row t r)) (E m c (row t r)) l : ℝ) : EReal) := by
  obtain rfl : j = 0 := Subsingleton.elim _ _
  rw [outsAt0_B m c t h]
  frame_open
  simp (disch := decide) only [↓ View.readCov_skip, ↓ View.readCov_cons_toLoadRect, ↓ View.readCov_fill]
  frame_out
  exact dg_pay (dh_point hm c t) (blk0 hm c t) _ l

/-- The first grid point starts it from zero. -/
theorem dg_first (c : Dev nD) (t : Fin cfg0.N) (h : t.val % 16 = 0) (j : Fin 1) (l : Fin 1024) :
    (outsAt0 m c t.val t.isLt).2.2 (ix2 j l) = 0 + ((∑ r, dg (X m c (row t r)) (E m c (row t r)) l : ℝ) : EReal) := by
  obtain rfl : j = 0 := Subsingleton.elim _ _
  rw [outsAt0_A m c t h]
  frame_open
  simp (disch := decide) only [↓ View.readCov_skip, ↓ View.readCov_cons_toLoadRect, ↓ View.readCov_fill]
  frame_out
  refine (dg_pay (dh_point hm c t) (blk0 hm c t) _ l).trans (congrArg (· + _) ?_)
  pointwise [k0_pay2]

end Cert.InProjBwdIdeal.Hand
-- ==== Proof.InProj.Array.lean ====
/- The projection's gradients as whole arrays, as functions of the entry arguments. -/
module
public import proofs.«01_k».proof.Proof.InProj.Block

@[expose] public section

set_option maxRecDepth 16384

noncomputable section

namespace Cert.InProjBwdIdeal.Hand

open Cert.InProj Cert.InProjBwdIdeal Cert.InProjBwdIdeal.Gen Idealize.ShloMosaic Idealize.ShloMosaic.TcCoe Idealize.SL.Sem
open Idealize.ShloMosaic.Pipeline (Dat)

variable {m : (ℓ : Loc nD τ sig) → Buf (Elt Ideal) ℓ} (hm : Finite m)

/-- The points' rows are all rows. -/
theorem sum_rows (f : Fin 8192 → ℝ) : ∑ t : Fin cfg0.N, ∑ r, f (row t r) = ∑ s, f s :=
  Fin.sum_mul_add_congr fun t k hl => rfl

include hm

/-- The array of the gradient. -/
theorem final_dx (c : Dev nD) : (dats m 0 c).arrAt 13 (cfgs 0).N
    = fun i : S8192x1024.Idx => ((dx (X m c (i 0)) (G m c) (D m c (i 0)) (E m c (i 0)) (i 1) : ℝ) : EReal) := by
  refine (dats m 0 c).arrAt_eq_of_covers 13 _ (by decide +kernel) fun t hf y => ?_
  idx_vars y
  blk_simp
  rw [after0_13]
  have e0 : (win0_13.blk t).view.emb (ix2 y0 y1) 0 = row t y0 := Fin.ext (by blk_simp [idx13 t])
  have e1 : (win0_13.blk t).view.emb (ix2 y0 y1) 1 = y1 := Fin.ext (by blk_simp [idx13 t])
  rw [e0, e1]
  exact dx_point hm c t y0 y1

/-- The array of half of the gradient. -/
theorem final_dxh (c : Dev nD) : (dats m 0 c).arrAt 14 (cfgs 0).N
    = fun i : S8192x1024.Idx => ((1 / 2 * dx (X m c (i 0)) (G m c) (D m c (i 0)) (E m c (i 0)) (i 1) : ℝ) : EReal) := by
  refine (dats m 0 c).arrAt_eq_of_covers 14 _ (by decide +kernel) fun t hf y => ?_
  idx_vars y
  blk_simp
  rw [after0_14]
  have e0 : (win0_14.blk t).view.emb (ix2 y0 y1) 0 = row t y0 := Fin.ext (by blk_simp [idx14 t])
  have e1 : (win0_14.blk t).view.emb (ix2 y0 y1) 1 = y1 := Fin.ext (by blk_simp [idx14 t])
  rw [e0, e1]
  exact dxh_point hm c t y0 y1

/-- The gain's gradient. -/
theorem final_dg (c : Dev nD) : (dats m 0 c).arrAt 15 (cfgs 0).N
    = fun i : S1x1024.Idx => ((∑ s, dg (X m c s) (E m c s) (i 1) : ℝ) : EReal) := by
  refine (dats m 0 c).arrAt_eq_of_after_last 15 t0_15 (by decide +kernel) _ fun j => ?_
  blk_simp
  idx_vars j
  rw [after0_15, Pipeline.eq_sum_fin_of_reset_step_apply_last (fun n h (i : Fin 1 × Fin 1024) => (outsAt0 m c n h).2.2 (ix2 i.1 i.2)) 16 (fun _ => 0)
    (fun t i => ((∑ r, dg (X m c (row t r)) (E m c (row t r)) i.2 : ℝ) : EReal))
    (fun t h i => dg_first hm c t h i.1 i.2) (fun t h i => dg_step hm c t h i.1 i.2) (le_of_eq N_0) t0_15 rfl (j0, j1), zero_add, Reals.sum,
    sum_rows fun s => dg (X m c s) (E m c s) j1]

end Cert.InProjBwdIdeal.Hand
-- ==== Proof.InProj.Ref.lean ====
/- The reference at real arguments: the derivative of the norm followed by the projection, for the residual's and the projection's cotangents. -/
module
public import proofs.«01_k».proof.Proof.InProj.Model
public import proofs.«01_k».proof.Proof.Gen.InProjRefIdeal.Read
public import Idealize.ShloMosaic.Lib.Pipeline.ValueKit

@[expose] public section

set_option maxRecDepth 16384

noncomputable section

namespace Cert.InProjRefIdeal.Hand

open Cert.Loss (inv inv_def arg_pos grad_eq)
open Cert.InProj Cert.InProjRefIdeal Cert.InProjRefIdeal.Read Idealize.ShloMosaic Idealize.ShloMosaic.TcCoe

variable {x0 x1 : (⟨S8192x1024, .f32⟩ : BufTy).Contents (Elt Ideal)} {x2 : (⟨S1x1024, .f32⟩ : BufTy).Contents (Elt Ideal)}
  {x3 : (⟨S1024x3088, .f32⟩ : BufTy).Contents (Elt Ideal)} {x4 x5 x7 : (⟨S8192x512, .f32⟩ : BufTy).Contents (Elt Ideal)}
  {x6 : (⟨S8192x1536, .f32⟩ : BufTy).Contents (Elt Ideal)} {x8 : (⟨S8192x16, .f32⟩ : BufTy).Contents (Elt Ideal)}
  {X D : Fin 8192 → Fin 1024 → ℝ} {G : Fin 1024 → ℝ} {W : Fin 1024 → Fin 3088 → ℝ} {A0 A1 A3 : Fin 8192 → Fin 512 → ℝ} {A2 : Fin 8192 → Fin 1536 → ℝ}
  {A4 : Fin 8192 → Fin 16 → ℝ}
  (hx : ∀ s l, x0 (ix2 s l) = (X s l : EReal)) (hd : ∀ s l, x1 (ix2 s l) = (D s l : EReal)) (hg : ∀ l, x2 (ix2 0 l) = (G l : EReal))
  (hw : ∀ l n, x3 (ix2 l n) = (W l n : EReal)) (h0 : ∀ s l, x4 (ix2 s l) = (A0 s l : EReal)) (h1 : ∀ s l, x5 (ix2 s l) = (A1 s l : EReal))
  (h2 : ∀ s l, x6 (ix2 s l) = (A2 s l : EReal)) (h3 : ∀ s l, x7 (ix2 s l) = (A3 s l : EReal)) (h4 : ∀ s l, x8 (ix2 s l) = (A4 s l : EReal))

include h0 h1 h2 h3 h4

/-- The parts side by side. -/
theorem cat_at (s : Fin 8192) (n : Fin 3088) :
    val_main_v0 (F := Ideal) x4 x5 x6 x7 x8 (ix2 s n) = (cat (A0 s) (A1 s) (A2 s) (A3 s) (A4 s) n : EReal) := by
  pointwise [val_main_v0]
  simp only [h0, h1, h2, h3, h4, cat]
  split_ifs <;> rfl

include hw

/-- The product with the transposed matrix. -/
theorem dh_at (s : Fin 8192) (l : Fin 1024) :
    val_main_v17 (F := Ideal) x3 x4 x5 x6 x7 x8 (ix2 s l) = (dh W (cat (A0 s) (A1 s) (A2 s) (A3 s) (A4 s)) l : EReal) := by
  pointwise [val_main_v17]
  simp only [cat_at h0 h1 h2 h3 h4, hw, Reals.mul, Reals.sum]
  rfl

include hx hd hg

/-- The row's gradient. -/
theorem dx_at (s : Fin 8192) (l : Fin 1024) :
    val_main_v37 (F := Ideal) x0 x1 x2 x3 x4 x5 x6 x7 x8 (ix2 s l)
      = (dx (X s) G (D s) (dh W (cat (A0 s) (A1 s) (A2 s) (A3 s) (A4 s))) l : EReal) := by
  have p := arg_pos (X s)
  pointwise [val_main_v37, val_main_v35, val_main_v28, val_main_v27, val_main_v22, val_main_v21, val_main_v26, val_main_v8, val_main_v7, val_main_v5, val_main_v3,
    val_main_v2, val_main_v1, val_main_cst, val_main_v4, val_main_cst_0, val_main_v6, val_main_cst_1, val_main_v34, val_main_v33, val_main_v32,
    val_main_v31, val_main_v29, val_main_v25, val_main_v24, val_main_v23, val_main_cst_4, val_main_v11, val_main_v10, val_main_cst_2, val_main_v9,
    val_main_v30, val_main_cst_5, val_main_cst_6, val_main_v36]
  simp (disch := first | exact p | exact p.ne' | norm_num) only [dh_at hw h0 h1 h2 h3 h4, hx, hd, hg, Reals.lit_1024, Reals.lit_eps, Reals.lit_half, Reals.lit_neg_half, Reals.lit_zero, Reals.mul, Reals.add, Reals.sub,
    Reals.sum, Reals.div, Reals.rsqrt, inv_def, Finset.univ_unique, Finset.sum_singleton]
  have e := grad_eq (X s) (fun k => dh W (cat (A0 s) (A1 s) (A2 s) (A3 s) (A4 s)) k * G k) l
  refine congrArg _ ?_
  rw [dx]
  linear_combination e

/-- Half of the row's gradient. -/
theorem dxh_at (s : Fin 8192) (l : Fin 1024) :
    val_main_v40 (F := Ideal) x0 x1 x2 x3 x4 x5 x6 x7 x8 (ix2 s l)
      = ((1 / 2 * dx (X s) G (D s) (dh W (cat (A0 s) (A1 s) (A2 s) (A3 s) (A4 s))) l : ℝ) : EReal) := by
  pointwise [val_main_v40, val_main_v39, val_main_v38, val_main_cst_7]
  rw [dx_at hx hd hg hw h0 h1 h2 h3 h4, Reals.lit_half, Reals.mul]

omit hd hg in
/-- The gain's gradient. -/
theorem dg_at (j : Fin 1) (l : Fin 1024) :
    val_main_v20 (F := Ideal) x0 x3 x4 x5 x6 x7 x8 (ix2 j l)
      = ((∑ s, dg (X s) (dh W (cat (A0 s) (A1 s) (A2 s) (A3 s) (A4 s))) l : ℝ) : EReal) := by
  have p := fun s => arg_pos (X s)
  pointwise [val_main_v20, val_main_v19, val_main_v18, val_main_v13, val_main_v12, val_main_v8, val_main_v7, val_main_v5, val_main_v3, val_main_v2, val_main_v1,
    val_main_cst, val_main_v4, val_main_cst_0, val_main_v6, val_main_cst_1, val_main_cst_3]
  simp (disch := first | exact p _ | exact (p _).ne' | norm_num) only [dh_at hw h0 h1 h2 h3 h4, hx, Reals.lit_1024, Reals.lit_eps, Reals.mul, Reals.add,
    Reals.sum, Reals.div, Reals.rsqrt, inv_def, Finset.univ_unique, Finset.sum_singleton]
  refine congrArg _ (Finset.sum_congr rfl fun s _ => ?_)
  simp only [dg]
  ring

end Cert.InProjRefIdeal.Hand
-- ==== Proof.InProj.Claim.lean ====
/- The gradient of the mixer's norm and its input projection: the kernel computes the derivative of the forward lines. -/
module
public import proofs.«01_k».proof.Proof.InProj.Array
public import proofs.«01_k».proof.Proof.InProj.Ref
public import proofs.«01_k».proof.Proof.Gen.InProjBwd.Frame
public import proofs.«01_k».proof.Defs

@[expose] public section

set_option maxRecDepth 16384

noncomputable section

namespace Cert.InProj

open Idealize.ShloMosaic Idealize.ShloMosaic.TcCoe Idealize.SL.Sem

/-- The shape facts the precondition states. -/
instance pre_facts : Cert.Pre_in_proj_finite.Facts := ⟨by decide, by decide, by decide, by decide, by decide, by decide⟩

/-- The precondition says that the arguments are real numbers. -/
theorem finite [Cert.Pre_in_proj_finite.Facts] {m : (ℓ : Loc Cert.InProjBwdIdeal.nD Cert.InProjBwdIdeal.τ Cert.InProjBwdIdeal.sig) → Buf (Elt Ideal) ℓ}
    (h : Cert.Pre_InProjBwdIdeal_in_proj_finite m) : Cert.InProjBwdIdeal.Hand.Finite m := fun c => by
  obtain ⟨h0, h1, h2, h3, h4, h5, h6, h7, h8⟩ := h c
  exact ⟨fun s l => Reals.exists_real (congrFun h0 (ix2 s l)),
    fun s l => Reals.exists_real (congrFun h1 (ix2 s l)),
    fun l => Reals.exists_real (congrFun h2 (ix2 0 l)),
    fun s l => Reals.exists_real (congrFun h3 (ix2 s l)),
    fun s l => Reals.exists_real (congrFun h4 (ix2 s l)),
    fun s l => Reals.exists_real (congrFun h5 (ix2 s l)),
    fun s l => Reals.exists_real (congrFun h6 (ix2 s l)),
    fun s l => Reals.exists_real (congrFun h7 (ix2 s l)),
    fun s l => Reals.exists_real (congrFun h8 (ix2 s l))⟩

/-- The reference runs to the end and leaves its arguments unchanged. -/
theorem frame_ref : Cert.quiescent_InProjRefIdeal := fun m ρ _ =>
  (θ_run Cert.InProjRefIdeal.defs _ _).mono (fun r h => ⟨fun c => (h c).2.2.2, sem_eq_zero_of_no_sems (by decide) r.2⟩)
    (Cert.InProjRefIdeal.Value.run m ρ)

/-- The kernel's three results are the reference's three results, on real arguments. -/
theorem algebraic [Cert.Pre_in_proj_finite.Facts] : Cert.algebraic_InProjBwdIdeal_InProjRefIdeal_pre_in_proj_finite := fun m ρ m' ρ' hp hag =>
  ⟨_, _, _, Cert.InProjBwdIdeal.Value.run_blocks m ρ, (θ_run _ _ _).mono (fun r h c => by
    obtain ⟨h0, h1, h2, h3⟩ := h c
    obtain ⟨a0, a1, a2, a3, a4, a5, a6, a7, a8⟩ := hag c
    have hm := finite hp
    obtain ⟨f0, f1, f2, f3, f4, f5, f6, f7, f8⟩ := hm c
    refine ⟨h0.trans ?_, h1.trans ?_, h2.trans ?_, h3⟩ <;> clear h0 h1 h2 h3 h
    · rw [Cert.InProjRefIdeal.Read.val_main_v37_eq]
      change Cert.InProjRefIdeal.Read.val_main_v37 (m' (c.tc.loc Cert.InProjRefIdeal.main_arg0)) (m' (c.tc.loc Cert.InProjRefIdeal.main_arg1)) (m' (c.tc.loc Cert.InProjRefIdeal.main_arg2)) (m' (c.tc.loc Cert.InProjRefIdeal.main_arg3)) (m' (c.tc.loc Cert.InProjRefIdeal.main_arg4)) (m' (c.tc.loc Cert.InProjRefIdeal.main_arg5)) (m' (c.tc.loc Cert.InProjRefIdeal.main_arg6)) (m' (c.tc.loc Cert.InProjRefIdeal.main_arg7)) (m' (c.tc.loc Cert.InProjRefIdeal.main_arg8)) = _
      rw [a0, a1, a2, a3, a4, a5, a6, a7, a8]
      refine Eq.trans ?_ (Cert.InProjBwdIdeal.Hand.final_dx hm c).symm
      funext i
      idx_vars i
      exact Cert.InProjRefIdeal.Hand.dx_at (fun s l => (f0 s l).symm) (fun s l => (f1 s l).symm) (fun l => (f2 l).symm) (fun s l => (f3 s l).symm) (fun s l => (f4 s l).symm) (fun s l => (f5 s l).symm) (fun s l => (f6 s l).symm) (fun s l => (f7 s l).symm) (fun s l => (f8 s l).symm) i0 i1
    · rw [Cert.InProjRefIdeal.Read.val_main_v40_eq]
      change Cert.InProjRefIdeal.Read.val_main_v40 (m' (c.tc.loc Cert.InProjRefIdeal.main_arg0)) (m' (c.tc.loc Cert.InProjRefIdeal.main_arg1)) (m' (c.tc.loc Cert.InProjRefIdeal.main_arg2)) (m' (c.tc.loc Cert.InProjRefIdeal.main_arg3)) (m' (c.tc.loc Cert.InProjRefIdeal.main_arg4)) (m' (c.tc.loc Cert.InProjRefIdeal.main_arg5)) (m' (c.tc.loc Cert.InProjRefIdeal.main_arg6)) (m' (c.tc.loc Cert.InProjRefIdeal.main_arg7)) (m' (c.tc.loc Cert.InProjRefIdeal.main_arg8)) = _
      rw [a0, a1, a2, a3, a4, a5, a6, a7, a8]
      refine Eq.trans ?_ (Cert.InProjBwdIdeal.Hand.final_dxh hm c).symm
      funext i
      idx_vars i
      exact Cert.InProjRefIdeal.Hand.dxh_at (fun s l => (f0 s l).symm) (fun s l => (f1 s l).symm) (fun l => (f2 l).symm) (fun s l => (f3 s l).symm) (fun s l => (f4 s l).symm) (fun s l => (f5 s l).symm) (fun s l => (f6 s l).symm) (fun s l => (f7 s l).symm) (fun s l => (f8 s l).symm) i0 i1
    · rw [Cert.InProjRefIdeal.Read.val_main_v20_eq]
      change Cert.InProjRefIdeal.Read.val_main_v20 (m' (c.tc.loc Cert.InProjRefIdeal.main_arg0)) (m' (c.tc.loc Cert.InProjRefIdeal.main_arg3)) (m' (c.tc.loc Cert.InProjRefIdeal.main_arg4)) (m' (c.tc.loc Cert.InProjRefIdeal.main_arg5)) (m' (c.tc.loc Cert.InProjRefIdeal.main_arg6)) (m' (c.tc.loc Cert.InProjRefIdeal.main_arg7)) (m' (c.tc.loc Cert.InProjRefIdeal.main_arg8)) = _
      rw [a0, a3, a4, a5, a6, a7, a8]
      refine Eq.trans ?_ (Cert.InProjBwdIdeal.Hand.final_dg hm c).symm
      funext i
      idx_vars i
      exact Cert.InProjRefIdeal.Hand.dg_at (fun s l => (f0 s l).symm) (fun s l => (f3 s l).symm) (fun s l => (f4 s l).symm) (fun s l => (f5 s l).symm) (fun s l => (f6 s l).symm) (fun s l => (f7 s l).symm) (fun s l => (f8 s l).symm) i0 i1)
    (Cert.InProjRefIdeal.Value.run m' ρ')⟩

end Cert.InProj
-- ==== Proof.OutProj.Model.lean ====
/- The gradient of the mixer's output gates over the real numbers: the gelu gate of the recurrent branch, and a head's norm and
   silu gate of the other. -/
module
public import proofs.«01_k».proof.Proof.GdnPrep.Model

@[expose] public section

noncomputable section

namespace Cert.OutProj

open Cert.Reals Cert.GdnPrep

/-- The float nearest to the square root of 2/π. -/
def root : ℝ := 6693141 / 8388608
theorem lit_root : Idealize.ShloMosaic.Ideal.ofBits .f32 0x3F4C422A#32 = (root : EReal) := by
  simp [Idealize.ShloMosaic.Ideal.ofBits, Idealize.ShloMosaic.Ideal.ieee, -EReal.coe_mul]; unfold root; norm_num
theorem lit_three : Idealize.ShloMosaic.Ideal.ofBits .f32 0x40400000#32 = ((3 : ℝ) : EReal) := by
  simp [Idealize.ShloMosaic.Ideal.ofBits, Idealize.ShloMosaic.Ideal.ieee, -EReal.coe_mul]; norm_num
theorem lit_44715 : Idealize.ShloMosaic.Ideal.ofBits .f32 0x472EAB00#32 = ((44715 : ℝ) : EReal) := by
  simp [Idealize.ShloMosaic.Ideal.ofBits, Idealize.ShloMosaic.Ideal.ieee, -EReal.coe_mul]; norm_num
theorem lit_million : Idealize.ShloMosaic.Ideal.ofBits .f32 0x49742400#32 = ((1000000 : ℝ) : EReal) := by
  simp [Idealize.ShloMosaic.Ideal.ofBits, Idealize.ShloMosaic.Ideal.ieee, -EReal.coe_mul]; norm_num

/-- The gelu gate's inner tangent, the gate, and its derivative. -/
def tnh (x : ℝ) : ℝ := Real.tanh (root * (x + 8943 / 200000 * x * x * x))
def gelu (x : ℝ) : ℝ := 1 / 2 * x * (1 + tnh x)
def gelu' (x : ℝ) : ℝ := 1 / 2 * (1 + tnh x) + 1 / 2 * x * (1 - tnh x * tnh x) * root * (1 + 26829 / 200000 * x * x)

section Head

variable (o e z g : Fin 128 → ℝ)

/-- The reciprocal root mean square of a head. -/
def inv : ℝ := (√((∑ k, o k * o k) / 128 + eps))⁻¹

theorem inv_def : (√((∑ k, o k * o k) / 128 + eps))⁻¹ = inv o := rfl

/-- The root mean square's argument is positive. -/
theorem arg_pos : 0 < (∑ k, o k * o k) / 128 + eps :=
  add_pos_of_nonneg_of_pos (div_nonneg (Finset.sum_nonneg fun k _ => mul_self_nonneg (o k)) (by norm_num)) eps_pos

/-- At a cotangent `e` of the gated head: the normalised head's cotangent, the head's gradient, the gate's gradient, and the
    head's part of the gain's gradient. -/
def dn (k : Fin 128) : ℝ := e k * act (z k)
def dhead (k : Fin 128) : ℝ := inv o * (dn e z k * g k - o k * inv o * ((∑ j, dn e z j * g j * (o j * inv o)) / 128))
def dgate (k : Fin 128) : ℝ := e k * (o k * inv o) * g k * act' (z k)
def dgain (k : Fin 128) : ℝ := dn e z k * (o k * inv o)

/-- The chain rule's form of a head's gradient at a cotangent `a` of the normalised head. -/
theorem norm_eq (a : Fin 128 → ℝ) (l : Fin 128) :
    a l * inv o + o l * ((∑ k, o k * a k) * (-(1 / 2) * (inv o / ((∑ k, o k * o k) / 128 + eps))) / 128)
        + (∑ k, o k * a k) * (-(1 / 2) * (inv o / ((∑ k, o k * o k) / 128 + eps))) / 128 * o l
      = inv o * (a l - o l * inv o * ((∑ k, a k * (o k * inv o)) / 128)) := by
  have q : inv o * inv o = 1 / ((∑ k, o k * o k) / 128 + eps) := by
    rw [inv, ← mul_inv, Real.mul_self_sqrt (arg_pos o).le, one_div]
  have e : ∀ k, a k * (o k * inv o) = o k * a k * inv o := fun k => by ring
  simp only [e, ← Finset.sum_mul]
  rw [div_eq_mul_one_div (inv o), ← q]
  ring

end Head

/-- Head `h`'s lanes of a row. -/
def hd (f : Fin 512 → ℝ) (h : Fin 4) (k : Fin 128) : ℝ := f ⟨(h : ℕ) * 128 + k, by omega⟩

/-- The head and the place in it of a lane. -/
abbrev hof (l : Fin 512) : Fin 4 := ⟨(l : ℕ) / 128, by omega⟩
abbrev kof (l : Fin 512) : Fin 128 := ⟨(l : ℕ) % 128, by omega⟩

/-- The output row's cotangent: its product with the transposed matrix; the first half is the recurrent branch's, the second the heads'. -/
def dy (w : Fin 1024 → Fin 1024 → ℝ) (d : Fin 1024 → ℝ) (l : Fin 1024) : ℝ := ∑ n, d n * w l n
def left (y : Fin 1024 → ℝ) (l : Fin 512) : ℝ := y ⟨l, by omega⟩
def right (y : Fin 1024 → ℝ) (l : Fin 512) : ℝ := y ⟨512 + l, by omega⟩

section Row

variable (y : Fin 1024 → ℝ) (o z : Fin 512 → ℝ) (g : Fin 128 → ℝ)

/-- A row's gradients by the heads' values and by their gates, and the row's part of the gain's gradient. -/
def dos (l : Fin 512) : ℝ := dhead (hd o (hof l)) (hd (right y) (hof l)) (hd z (hof l)) g (kof l)
def dz (l : Fin 512) : ℝ := dgate (hd o (hof l)) (hd (right y) (hof l)) (hd z (hof l)) g (kof l)
def dgn (k : Fin 128) : ℝ := ∑ h, dgain (hd o h) (hd (right y) h) (hd z h) k

variable {y o z g} in
/-- A head's lanes of a row's gradients. -/
theorem dos_at {h : Fin 4} {p : ℕ} (e : p = h * 128) (k : Fin 128) (hp : p + k < 512) :
    dos y o z g ⟨p + k, hp⟩ = dhead (hd o h) (hd (right y) h) (hd z h) g k := by
  subst e
  have e : hof ⟨(h : ℕ) * 128 + k, hp⟩ = h := Fin.ext (by show ((h : ℕ) * 128 + k) / 128 = h; omega)
  have e' : kof ⟨(h : ℕ) * 128 + k, hp⟩ = k := Fin.ext (by show ((h : ℕ) * 128 + k) % 128 = k; omega)
  rw [dos, e, e']
variable {y o z g} in
theorem dz_at {h : Fin 4} {p : ℕ} (e : p = h * 128) (k : Fin 128) (hp : p + k < 512) :
    dz y o z g ⟨p + k, hp⟩ = dgate (hd o h) (hd (right y) h) (hd z h) g k := by
  subst e
  have e : hof ⟨(h : ℕ) * 128 + k, hp⟩ = h := Fin.ext (by show ((h : ℕ) * 128 + k) / 128 = h; omega)
  have e' : kof ⟨(h : ℕ) * 128 + k, hp⟩ = k := Fin.ext (by show ((h : ℕ) * 128 + k) % 128 = k; omega)
  rw [dz, e, e']

/-- A row's gradient by the recurrent branch's gate. -/
def dgt (a x : Fin 512 → ℝ) (l : Fin 512) : ℝ := left y l * a l * gelu' (x l)

end Row

end Cert.OutProj
-- ==== Proof.OutProj.Pay.lean ====
/- The payloads of the gradient of the mixer's gates at blocks of real numbers. -/
module
public import proofs.«01_k».proof.Proof.OutProj.Model
public import proofs.«01_k».proof.Proof.Columns
public import proofs.«01_k».proof.Proof.Gen.OutProjBwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.OutProjBwdIdeal.Hand

open Cert.GdnPrep (act act' sig_eq)
open Cert.Columns Cert.OutProj Cert.OutProjBwdIdeal Cert.OutProjBwdIdeal.Gen Idealize.ShloMosaic Idealize.ShloMosaic.TcCoe Idealize.SL.Sem
open Idealize.ShloMosaic.Pipeline (Dat)

section Head

variable (g : Vec Ideal S1x128 .f32) (u d z : FVec Ideal S512x128 .f32)

/-- The body's lines for one head: the reciprocal root mean square, the normalised head, the logistic function of the gate, the normalised
    head's cotangent, and the three gradients. -/
def rBody : FVec Ideal S512x1 .f32 :=
  rsqrt (addf (divf (shapeCast S512x1 (multiReduction .add [1] S512 (mulf u u) 0x00000000#32 reduces_S512x128_S512 (.inl rfl) rfl) shapeCasts_S512_S512x1)
    (broadcast S512x1 (Scalar.ofBits .f32 0x43000000#32))) (broadcast S512x1 (Scalar.ofBits .f32 0x358637BD#32)))
def hatBody : FVec Ideal S512x128 .f32 := mulf u (broadcastTo S512x128 (rBody u) broadcasts_S512x1_S512x128)
def sigBody : FVec Ideal S512x128 .f32 :=
  addf (broadcast S512x128 (Scalar.ofBits .f32 0x3F000000#32))
    (mulf (broadcast S512x128 (Scalar.ofBits .f32 0x3F000000#32)) (tanh (mulf (broadcast S512x128 (Scalar.ofBits .f32 0x3F000000#32)) z)))
def dnBody : FVec Ideal S512x128 .f32 := mulf d (mulf z (sigBody z))
def dzBody : FVec Ideal S512x128 .bf16 :=
  truncf .bf16 (mulf (mulf (mulf d (hatBody u)) (broadcastTo S512x128 g broadcasts_S1x128_S512x128))
    (mulf (sigBody z) (addf (broadcast S512x128 (Scalar.ofBits .f32 0x3F800000#32))
      (mulf z (subf (broadcast S512x128 (Scalar.ofBits .f32 0x3F800000#32)) (sigBody z)))))) bitsLt_bf16_f32
def dgBody (a : FVec Ideal S1x128 .f32) : FVec Ideal S1x128 .f32 :=
  addf a (shapeCast S1x128 (multiReduction .add [0] S128 (mulf (dnBody d z) (hatBody u)) 0x00000000#32 reduces_S512x128_S128 (.inl rfl) rfl) shapeCasts_S128_S1x128)
def doBody : FVec Ideal S512x128 .bf16 :=
  let e := mulf (dnBody d z) (broadcastTo S512x128 g broadcasts_S1x128_S512x128)
  truncf .bf16 (mulf (broadcastTo S512x128 (rBody u) broadcasts_S512x1_S512x128) (subf e (mulf (hatBody u) (broadcastTo S512x128
    (divf (shapeCast S512x1 (multiReduction .add [1] S512 (mulf e (hatBody u)) 0x00000000#32 reduces_S512x128_S512 (.inl rfl) rfl) shapeCasts_S512_S512x1)
      (broadcast S512x1 (Scalar.ofBits .f32 0x43000000#32))) broadcasts_S512x1_S512x128)))) bitsLt_bf16_f32

variable {g u d z} {U D Z : Fin 512 → Fin 128 → ℝ} {G : Fin 128 → ℝ} (hg : ∀ k, g (ix2 0 k) = (G k : EReal)) (hu : ∀ r k, u (ix2 r k) = (U r k : EReal))
  (hd : ∀ r k, d (ix2 r k) = (D r k : EReal)) (hz : ∀ r k, z (ix2 r k) = (Z r k : EReal))

include hg hu hd hz

/-- The gate's gradient at real numbers … -/
theorem dz_body (r : Fin 512) (k : Fin 128) : dzBody g u d z (ix2 r k) = (dgate (U r) (D r) (Z r) G k : EReal) := by
  have p := arg_pos (U r)
  pointwise [dzBody, hatBody, rBody, sigBody]
  simp (disch := first | exact p | norm_num) only [hg, hu, hd, hz, Reals.lit_half, Reals.lit_one, Reals.one, Reals.lit_128, Reals.lit_eps, Reals.mul, Reals.add, Reals.sub, Reals.sum, Reals.div,
    Reals.rsqrt, Ideal.tanh_coe, sig_eq]
  rfl

/-- … the head's … -/
theorem do_body (r : Fin 512) (k : Fin 128) : doBody g u d z (ix2 r k) = (dhead (U r) (D r) (Z r) G k : EReal) := by
  have p := arg_pos (U r)
  pointwise [doBody, dnBody, hatBody, rBody, sigBody]
  simp (disch := first | exact p | norm_num) only [hg, hu, hd, hz, Reals.lit_half, Reals.lit_128, Reals.lit_eps, Reals.mul, Reals.add, Reals.sub, Reals.sum, Reals.div,
    Reals.rsqrt, Ideal.tanh_coe, sig_eq]
  rfl

omit hg in
/-- … and the gain's. -/
theorem dg_body (a : FVec Ideal S1x128 .f32) (k : Fin 128) :
    dgBody u d z a (ix2 0 k) = a (ix2 0 k) + ((∑ r, dgain (U r) (D r) (Z r) k : ℝ) : EReal) := by
  have p := fun r => arg_pos (U r)
  pointwise [dgBody, dnBody, hatBody, rBody, sigBody]
  simp (disch := first | exact p _ | norm_num) only [hu, hd, hz, Reals.lit_half, Reals.lit_128, Reals.lit_eps, Reals.mul, Reals.add, Reals.sub, Reals.sum, Reals.div,
    Reals.rsqrt, Ideal.tanh_coe, sig_eq]
  rfl

end Head

section Gate

/-- The two named constants. -/
theorem cube : Named.named (F := Ideal) κ "cube" (φ := .f32) 0x3D372713#32 = ((8943 / 200000 : ℝ) : EReal) := rfl
theorem cube3 : Named.named (F := Ideal) κ "cube3" (φ := .f32) 0x3E095D4F#32 = ((26829 / 200000 : ℝ) : EReal) := rfl

variable {x v w : Vec Ideal S512x512 .f32} {X V : Fin 512 → Fin 512 → ℝ} {q : Vec Ideal S512x1024 .f32} {b : Vec Ideal S1024x1024 .bf16}
  {Q : Fin 512 → Fin 1024 → ℝ} {W : Fin 1024 → Fin 1024 → ℝ} {A B : Fin 512 → Fin 512 → ℝ}
  (hx : ∀ r l, x (ix2 r l) = (X r l : EReal)) (hv : ∀ r l, v (ix2 r l) = (A r l : EReal)) (hw : ∀ r l, w (ix2 r l) = (B r l : EReal))
  (hq : ∀ r l, q (ix2 r l) = (Q r l : EReal)) (hb : ∀ l n, b (ix2 l n) = (W l n : EReal))

include hq hb in
/-- The product with the transposed matrix. -/
theorem dy_pay (r : Fin 512) (l : Fin 1024) : k0_pay23 (F := Ideal) q b (ix2 r l) = (dy W (Q r) l : EReal) := by
  pointwise [k0_pay23, k0_pay22]
  simp only [hq, hb, Reals.mul, Reals.sum]
  rfl

include hx hq hb

/-- The recurrent branch's gradient … -/
theorem dh_pay (r : Fin 512) (l : Fin 512) :
    k0_pay28 (F := Ideal) (k0_pay24 q b) (k0_pay25 x) (k0_pay26 x) k0_pay27 (ix2 r l) = ((left (dy W (Q r)) l * gelu (X r l) : ℝ) : EReal) := by
  pointwise [k0_pay28, k0_pay24, k0_pay25, k0_pay26, k0_pay27]
  simp only [hx, dy_pay hq hb, Reals.lit_half, Reals.lit_one, Reals.one, lit_root, cube, cube3, Reals.mul, Reals.add, Ideal.tanh_coe]
  rfl

include hv hw

/-- … and its gate's. -/
theorem dgt_pay (r : Fin 512) (l : Fin 512) :
    k0_pay29 (F := Ideal) x (k0_pay4 v w) (k0_pay24 q b) (ix2 r l) = (dgt (dy W (Q r)) (fun l => A r l + B r l) (X r) l : EReal) := by
  pointwise [k0_pay29, k0_pay24, k0_pay4]
  simp only [hx, hv, hw, dy_pay hq hb, Reals.lit_half, Reals.lit_one, Reals.one, lit_root, cube, cube3, Reals.mul, Reals.add, Reals.sub, Ideal.tanh_coe]
  rfl

end Gate

section Heads

/-- A head's columns of a block. -/
theorem slice_at {W p : ℕ} (v : FVec Ideal ⟨2, ![512, W]⟩ .f32) (hp : p + 128 ≤ W) (hs : (⟨2, ![512, W]⟩ : Shape).Slices ![0, p] S512x128) (r : Fin 512) (k : Fin 128) :
    extractStridedSlice S512x128 ![0, p] v hs (ix2 r k) = v (ix2 r ⟨p + k, by omega⟩) := by
  pointwise []
  refine congrArg v (funext fun a => Fin.ext ?_)
  match a with
  | 0 => exact Nat.zero_add _
  | 1 => rfl

variable {g : Vec Ideal S1x128 .f32} {a b z : Vec Ideal S512x512 .f32} {y : FVec Ideal S512x1024 .f32} {G : Fin 128 → ℝ} {A B Z : Fin 512 → Fin 512 → ℝ}
  {Y : Fin 512 → Fin 1024 → ℝ} (hg : ∀ k, g (ix2 0 k) = (G k : EReal)) (ha : ∀ r l, a (ix2 r l) = (A r l : EReal)) (hb : ∀ r l, b (ix2 r l) = (B r l : EReal))
  (hz : ∀ r l, z (ix2 r l) = (Z r l : EReal)) (hy : ∀ r l, y (ix2 r l) = (Y r l : EReal))

/-- A head's values, cotangent and gate in the blocks. -/
abbrev uHead (a b : Vec Ideal S512x512 .f32) {p : ℕ} (hs : S512x512.Slices ![0, p] S512x128) : FVec Ideal S512x128 .f32 := extractStridedSlice S512x128 ![0, p] (k0_pay5 a b) hs
abbrev dHead (y : FVec Ideal S512x1024 .f32) {p : ℕ} (hs : S512x1024.Slices ![0, 512 + p] S512x128) : FVec Ideal S512x128 .f32 := extractStridedSlice S512x128 ![0, 512 + p] y hs
abbrev zHead (z : Vec Ideal S512x512 .f32) {p : ℕ} (hs : S512x512.Slices ![0, p] S512x128) : FVec Ideal S512x128 .f32 := extractStridedSlice S512x128 ![0, p] z hs

section
variable {h : Fin 4} {p : ℕ} (e : p = h * 128)
include e

include ha hb in
theorem uHead_at (hs : S512x512.Slices ![0, p] S512x128) (r : Fin 512) (k : Fin 128) :
    uHead a b hs (ix2 r k) = (hd (fun l => A r l + B r l) h k : EReal) := by
  subst e
  refine (slice_at _ (by omega) hs r k).trans ?_
  pointwise [k0_pay5]
  rw [ha, hb, Reals.add]
  rfl
include hy in
theorem dHead_at (hs : S512x1024.Slices ![0, 512 + p] S512x128) (r : Fin 512) (k : Fin 128) :
    dHead y hs (ix2 r k) = (hd (right (Y r)) h k : EReal) := by
  subst e
  refine (slice_at _ (by omega) hs r k).trans ((hy _ _).trans ?_)
  exact congrArg (fun l => (Y r l : EReal)) (Fin.ext (by show 512 + (h : ℕ) * 128 + k = 512 + ((h : ℕ) * 128 + k); omega))
include hz in
theorem zHead_at (hs : S512x512.Slices ![0, p] S512x128) (r : Fin 512) (k : Fin 128) :
    zHead z hs (ix2 r k) = (hd (Z r) h k : EReal) := by
  subst e
  exact (slice_at _ (by omega) hs r k).trans (hz _ _)

include hg ha hb hz hy
/-- The piece of a head's gradient … -/
theorem do_piece (hs : S512x512.Slices ![0, p] S512x128) (hs' : S512x1024.Slices ![0, 512 + p] S512x128) (r : Fin 512) (k : Fin 128) :
    doBody g (uHead a b hs) (dHead y hs') (zHead z hs) (ix2 r k) = (dos (Y r) (fun l => A r l + B r l) (Z r) G ⟨p + k, by omega⟩ : EReal) := by
  rw [dos_at e]
  exact do_body hg (uHead_at ha hb e hs) (dHead_at hy e hs') (zHead_at hz e hs) r k
/-- … of its gate's … -/
theorem dz_piece (hs : S512x512.Slices ![0, p] S512x128) (hs' : S512x1024.Slices ![0, 512 + p] S512x128) (r : Fin 512) (k : Fin 128) :
    dzBody g (uHead a b hs) (dHead y hs') (zHead z hs) (ix2 r k) = (dz (Y r) (fun l => A r l + B r l) (Z r) G ⟨p + k, by omega⟩ : EReal) := by
  rw [dz_at e]
  exact dz_body hg (uHead_at ha hb e hs) (dHead_at hy e hs') (zHead_at hz e hs) r k
omit hg in
/-- … and of the gain's. -/
theorem dg_head (hs : S512x512.Slices ![0, p] S512x128) (hs' : S512x1024.Slices ![0, 512 + p] S512x128) (s : FVec Ideal S1x128 .f32) (k : Fin 128) :
    dgBody (uHead a b hs) (dHead y hs') (zHead z hs) s (ix2 0 k)
      = s (ix2 0 k) + ((∑ r, dgain (hd (fun l => A r l + B r l) h) (hd (right (Y r)) h) (hd (Z r) h) k : ℝ) : EReal) :=
  dg_body (uHead_at ha hb e hs) (dHead_at hy e hs') (zHead_at hz e hs) s k
end

/-- The four column pieces of the heads' gradient and of their gates', the newest first, and the gain's gradient with a block's rows added. -/
abbrev doPieces (g : Vec Ideal S1x128 .f32) (a b z : Vec Ideal S512x512 .f32) (y : FVec Ideal S512x1024 .f32) : List (View.Piece (Elt Ideal) S512x512 .bf16) :=
    [ ⟨Rect.unit ![0, 384] ![512, 128] inb_S512x512_S512x128_0_384, k0_pay1 (k0_pay19 (k0_pay5 a b)) (k0_pay52 g (k0_pay21 z) y) (k0_pay53 g (k0_pay20 (k0_pay5 a b)) (k0_pay21 z) y)⟩,
      ⟨Rect.unit ![0, 256] ![512, 128] inb_S512x512_S512x128_0_256, k0_pay47 g (k0_pay15 (k0_pay5 a b)) (k0_pay16 (k0_pay5 a b)) (k0_pay17 z) y⟩,
      ⟨Rect.unit ![0, 128] ![512, 128] inb_S512x512_S512x128_0_128, k0_pay42 g (k0_pay11 a b) (k0_pay12 a b) (k0_pay13 z) (k0_pay37 y) (k0_pay38 (k0_pay13 z))⟩,
      ⟨Rect.unit ![0, 0] ![512, 128] inb_S512x512_S512x128_0_0, k0_pay36 g (k0_pay7 a b) (k0_pay8 a b) (k0_pay9 z) (k0_pay31 y) (k0_pay32 (k0_pay9 z))⟩ ]
abbrev dzPieces (g : Vec Ideal S1x128 .f32) (a b z : Vec Ideal S512x512 .f32) (y : FVec Ideal S512x1024 .f32) : List (View.Piece (Elt Ideal) S512x512 .bf16) :=
    [ ⟨Rect.unit ![0, 384] ![512, 128] inb_S512x512_S512x128_0_384, k0_pay50 g (k0_pay20 (k0_pay5 a b)) (k0_pay21 z) y⟩,
      ⟨Rect.unit ![0, 256] ![512, 128] inb_S512x512_S512x128_0_256, k0_pay45 g (k0_pay16 (k0_pay5 a b)) (k0_pay17 z) y⟩,
      ⟨Rect.unit ![0, 128] ![512, 128] inb_S512x512_S512x128_0_128, k0_pay40 g (k0_pay12 a b) (k0_pay13 z) (k0_pay37 y)⟩,
      ⟨Rect.unit ![0, 0] ![512, 128] inb_S512x512_S512x128_0_0, k0_pay34 g (k0_pay8 a b) (k0_pay9 z) (k0_pay31 y)⟩ ]
abbrev dgSum (a b z : Vec Ideal S512x512 .f32) (y : FVec Ideal S512x1024 .f32) (s : Vec Ideal S1x128 .f32) : FVec Ideal S1x128 .f32 :=
  k0_pay2 (k0_pay51 (k0_pay20 (k0_pay5 a b)) (k0_pay21 z) y (k0_pay46 (k0_pay16 (k0_pay5 a b)) (k0_pay17 z) y
    (k0_pay41 (k0_pay12 a b) (k0_pay13 z) (k0_pay35 (k0_pay8 a b) (k0_pay9 z) k0_pay30 (k0_pay31 y) (k0_pay32 (k0_pay9 z))) (k0_pay37 y) (k0_pay38 (k0_pay13 z))))) s

include hg ha hb hz hy

/-- The rows the pieces of the heads' gradient make up, … -/
theorem do_pieces (r : Fin 512) (l : Fin 512) : View.canon (doPieces g a b z y) (ix2 r l) = (dos (Y r) (fun l => A r l + B r l) (Z r) G l : EReal) := by
  refine canon_cols (e := .bf16) (n := 512) (W := 512) (o := 384) (w := 128) (G := fun l => (dos (Y r) (fun l => A r l + B r l) (Z r) G l : EReal)) (by decide) _ _ _ r l (do_piece hg ha hb hz hy (h := 3) (p := 384) rfl slices_S512x512_o0_384_S512x128 slices_S512x1024_o0_896_S512x128 r) fun h0 => ?_
  refine canon_cols (e := .bf16) (n := 512) (W := 512) (o := 256) (w := 128) (G := fun l => (dos (Y r) (fun l => A r l + B r l) (Z r) G l : EReal)) (by decide) _ _ _ r l (do_piece hg ha hb hz hy (h := 2) (p := 256) rfl slices_S512x512_o0_256_S512x128 slices_S512x1024_o0_768_S512x128 r) fun h1 => ?_
  refine canon_cols (e := .bf16) (n := 512) (W := 512) (o := 128) (w := 128) (G := fun l => (dos (Y r) (fun l => A r l + B r l) (Z r) G l : EReal)) (by decide) _ _ _ r l (do_piece hg ha hb hz hy (h := 1) (p := 128) rfl slices_S512x512_o0_128_S512x128 slices_S512x1024_o0_640_S512x128 r) fun h2 => ?_
  refine canon_cols (e := .bf16) (n := 512) (W := 512) (o := 0) (w := 128) (G := fun l => (dos (Y r) (fun l => A r l + B r l) (Z r) G l : EReal)) (by decide) _ _ _ r l (do_piece hg ha hb hz hy (h := 0) (p := 0) rfl slices_S512x512_o0_0_S512x128 slices_S512x1024_o0_512_S512x128 r) fun h3 => ?_
  omega
/-- … of their gates' … -/
theorem dz_pieces (r : Fin 512) (l : Fin 512) : View.canon (dzPieces g a b z y) (ix2 r l) = (dz (Y r) (fun l => A r l + B r l) (Z r) G l : EReal) := by
  refine canon_cols (e := .bf16) (n := 512) (W := 512) (o := 384) (w := 128) (G := fun l => (dz (Y r) (fun l => A r l + B r l) (Z r) G l : EReal)) (by decide) _ _ _ r l (dz_piece hg ha hb hz hy (h := 3) (p := 384) rfl slices_S512x512_o0_384_S512x128 slices_S512x1024_o0_896_S512x128 r) fun h0 => ?_
  refine canon_cols (e := .bf16) (n := 512) (W := 512) (o := 256) (w := 128) (G := fun l => (dz (Y r) (fun l => A r l + B r l) (Z r) G l : EReal)) (by decide) _ _ _ r l (dz_piece hg ha hb hz hy (h := 2) (p := 256) rfl slices_S512x512_o0_256_S512x128 slices_S512x1024_o0_768_S512x128 r) fun h1 => ?_
  refine canon_cols (e := .bf16) (n := 512) (W := 512) (o := 128) (w := 128) (G := fun l => (dz (Y r) (fun l => A r l + B r l) (Z r) G l : EReal)) (by decide) _ _ _ r l (dz_piece hg ha hb hz hy (h := 1) (p := 128) rfl slices_S512x512_o0_128_S512x128 slices_S512x1024_o0_640_S512x128 r) fun h2 => ?_
  refine canon_cols (e := .bf16) (n := 512) (W := 512) (o := 0) (w := 128) (G := fun l => (dz (Y r) (fun l => A r l + B r l) (Z r) G l : EReal)) (by decide) _ _ _ r l (dz_piece hg ha hb hz hy (h := 0) (p := 0) rfl slices_S512x512_o0_0_S512x128 slices_S512x1024_o0_512_S512x128 r) fun h3 => ?_
  omega
omit hg in
/-- … and the gain's gradient. -/
theorem dg_sum (s : Vec Ideal S1x128 .f32) (k : Fin 128) :
    dgSum a b z y s (ix2 0 k) = s (ix2 0 k) + ((∑ r, dgn (Y r) (fun l => A r l + B r l) (Z r) k : ℝ) : EReal) := by
  have z0 : k0_pay30 (F := Ideal) (ix2 0 k) = ((0 : ℝ) : EReal) := by
    pointwise [k0_pay30]
    exact Reals.zero
  have e0 := (dg_head ha hb hz hy (h := 0) rfl slices_S512x512_o0_0_S512x128 slices_S512x1024_o0_512_S512x128 k0_pay30 k).trans (congrArg (· + _) z0)
  have e1 := (dg_head ha hb hz hy (h := 1) rfl slices_S512x512_o0_128_S512x128 slices_S512x1024_o0_640_S512x128 _ k).trans (congrArg (· + _) e0)
  have e2 := (dg_head ha hb hz hy (h := 2) rfl slices_S512x512_o0_256_S512x128 slices_S512x1024_o0_768_S512x128 _ k).trans (congrArg (· + _) e1)
  have e3 := (dg_head ha hb hz hy (h := 3) rfl slices_S512x512_o0_384_S512x128 slices_S512x1024_o0_896_S512x128 _ k).trans (congrArg (· + _) e2)
  have es : shapeCast S1x128 s shapeCasts_S1x128_S1x128 (ix2 0 k) = s (ix2 0 k) := by pointwise []
  refine (congrArg₂ (· + ·) es e3).trans (congrArg (s (ix2 0 k) + ·) ?_)
  simp only [Reals.add, dgn, Fin.sum_univ_four, Finset.sum_add_distrib, zero_add]

end Heads

end Cert.OutProjBwdIdeal.Hand
-- ==== Proof.OutProj.Block.lean ====
/- One grid point of the gates' gradient: the rows it reads are real numbers, and what it writes to each output. -/
module
public import proofs.«01_k».proof.Proof.OutProj.Pay

@[expose] public section

set_option maxRecDepth 16384

noncomputable section

namespace Cert.OutProjBwdIdeal.Hand

open Cert.OutProj Cert.OutProjBwdIdeal Cert.OutProjBwdIdeal.Gen Idealize.ShloMosaic Idealize.ShloMosaic.TcCoe Idealize.SL.Sem
open Idealize.ShloMosaic.Pipeline (Dat)

variable (m : (ℓ : Loc nD τ sig) → Buf (Elt Ideal) ℓ)

/-- The arguments as real functions: the cotangent, the recurrent branch's two directions, its gate, the heads' two directions, their gate, the gain and
    the matrix. -/
abbrev D (c : Dev nD) (s : Fin 8192) (l : Fin 1024) : ℝ := (m ((c.tc : Thread nD τ).loc main_arg0) (ix2 s l) : EReal).toReal
abbrev HF (c : Dev nD) (s : Fin 8192) (l : Fin 512) : ℝ := (m ((c.tc : Thread nD τ).loc main_arg1) (ix2 s l) : EReal).toReal
abbrev HB (c : Dev nD) (s : Fin 8192) (l : Fin 512) : ℝ := (m ((c.tc : Thread nD τ).loc main_arg2) (ix2 s l) : EReal).toReal
abbrev GT (c : Dev nD) (s : Fin 8192) (l : Fin 512) : ℝ := (m ((c.tc : Thread nD τ).loc main_arg3) (ix2 s l) : EReal).toReal
abbrev OF (c : Dev nD) (s : Fin 8192) (l : Fin 512) : ℝ := (m ((c.tc : Thread nD τ).loc main_arg4) (ix2 s l) : EReal).toReal
abbrev OB (c : Dev nD) (s : Fin 8192) (l : Fin 512) : ℝ := (m ((c.tc : Thread nD τ).loc main_arg5) (ix2 s l) : EReal).toReal
abbrev Z (c : Dev nD) (s : Fin 8192) (l : Fin 512) : ℝ := (m ((c.tc : Thread nD τ).loc main_arg6) (ix2 s l) : EReal).toReal
abbrev G (c : Dev nD) (l : Fin 128) : ℝ := (m ((c.tc : Thread nD τ).loc main_arg7) (ix2 0 l) : EReal).toReal
abbrev W (c : Dev nD) (s : Fin 1024) (l : Fin 1024) : ℝ := (m ((c.tc : Thread nD τ).loc main_arg8) (ix2 s l) : EReal).toReal

/-- The arguments hold real numbers. -/
def Finite : Prop := ∀ c, (∀ s l, ((D m c s l : ℝ) : EReal) = m ((c.tc : Thread nD τ).loc main_arg0) (ix2 s l))
  ∧ (∀ s l, ((HF m c s l : ℝ) : EReal) = m ((c.tc : Thread nD τ).loc main_arg1) (ix2 s l))
  ∧ (∀ s l, ((HB m c s l : ℝ) : EReal) = m ((c.tc : Thread nD τ).loc main_arg2) (ix2 s l))
  ∧ (∀ s l, ((GT m c s l : ℝ) : EReal) = m ((c.tc : Thread nD τ).loc main_arg3) (ix2 s l))
  ∧ (∀ s l, ((OF m c s l : ℝ) : EReal) = m ((c.tc : Thread nD τ).loc main_arg4) (ix2 s l))
  ∧ (∀ s l, ((OB m c s l : ℝ) : EReal) = m ((c.tc : Thread nD τ).loc main_arg5) (ix2 s l))
  ∧ (∀ s l, ((Z m c s l : ℝ) : EReal) = m ((c.tc : Thread nD τ).loc main_arg6) (ix2 s l))
  ∧ (∀ l, ((G m c l : ℝ) : EReal) = m ((c.tc : Thread nD τ).loc main_arg7) (ix2 0 l))
  ∧ (∀ s l, ((W m c s l : ℝ) : EReal) = m ((c.tc : Thread nD τ).loc main_arg8) (ix2 s l))

theorem idx0 : ∀ t, win0_0.index t = ![t.val, 0] := (by decide +kernel : ∀ t : Fin grid0.N, _)
theorem idx1 : ∀ t, win0_1.index t = ![t.val, 0] := (by decide +kernel : ∀ t : Fin grid0.N, _)
theorem idx2 : ∀ t, win0_2.index t = ![t.val, 0] := (by decide +kernel : ∀ t : Fin grid0.N, _)
theorem idx3 : ∀ t, win0_3.index t = ![t.val, 0] := (by decide +kernel : ∀ t : Fin grid0.N, _)
theorem idx4 : ∀ t, win0_4.index t = ![t.val, 0] := (by decide +kernel : ∀ t : Fin grid0.N, _)
theorem idx5 : ∀ t, win0_5.index t = ![t.val, 0] := (by decide +kernel : ∀ t : Fin grid0.N, _)
theorem idx6 : ∀ t, win0_6.index t = ![t.val, 0] := (by decide +kernel : ∀ t : Fin grid0.N, _)
theorem idx7 : ∀ t, win0_7.index t = ![0, 0] := (by decide +kernel : ∀ t : Fin grid0.N, _)
theorem idx8 : ∀ t, win0_8.index t = ![0, 0] := (by decide +kernel : ∀ t : Fin grid0.N, _)
theorem idx9 : ∀ t, win0_9.index t = ![t.val, 0] := (by decide +kernel : ∀ t : Fin grid0.N, _)
theorem idx10 : ∀ t, win0_10.index t = ![t.val, 0] := (by decide +kernel : ∀ t : Fin grid0.N, _)
theorem idx11 : ∀ t, win0_11.index t = ![t.val, 0] := (by decide +kernel : ∀ t : Fin grid0.N, _)
theorem idx12 : ∀ t, win0_12.index t = ![t.val, 0] := (by decide +kernel : ∀ t : Fin grid0.N, _)
theorem idx13 : ∀ t, win0_13.index t = ![0, 0] := (by decide +kernel : ∀ t : Fin grid0.N, _)
theorem idx14 : ∀ t, win0_14.index t = ![t.val, 0] := (by decide +kernel : ∀ t : Fin grid0.N, _)

/-- Row `r` of grid point `t`'s block. -/
abbrev row (t : Fin cfg0.N) (r : Fin 512) : Fin 8192 := ⟨t.val * 512 + r, by have := lt_of_lt_of_eq t.isLt N_0; omega⟩

/-- A row's product with the transposed matrix, and the heads' values of both directions together. -/
abbrev E (c : Dev nD) (s : Fin 8192) : Fin 1024 → ℝ := dy (W m c) (D m c s)
abbrev O (c : Dev nD) (s : Fin 8192) : Fin 512 → ℝ := fun l => OF m c s l + OB m c s l

/-- The narrow copy of an argument. -/
theorem cast_at {S : Shape} (w : FVec Ideal S .f32) (i : S.Idx) : truncf .bf16 w bitsLt_bf16_f32 i = w i := rfl

variable {m} (hm : Finite m)
include hm

/-- The blocks a grid point reads. -/
theorem blk0 (c : Dev nD) (t : Fin cfg0.N) (r : Fin 512) (l : Fin 1024) : iblk m c 0 t (ix2 r l) = (D m c (row t r) l : EReal) := by
  rw [(hm c).1]
  blk_point [iblk, V, idx0 t]
theorem blk1 (c : Dev nD) (t : Fin cfg0.N) (r : Fin 512) (l : Fin 512) : iblk m c 1 t (ix2 r l) = (HF m c (row t r) l : EReal) := by
  rw [(hm c).2.1]
  blk_point [iblk, V, idx1 t]
theorem blk2 (c : Dev nD) (t : Fin cfg0.N) (r : Fin 512) (l : Fin 512) : iblk m c 2 t (ix2 r l) = (HB m c (row t r) l : EReal) := by
  rw [(hm c).2.2.1]
  blk_point [iblk, V, idx2 t]
theorem blk3 (c : Dev nD) (t : Fin cfg0.N) (r : Fin 512) (l : Fin 512) : iblk m c 3 t (ix2 r l) = (GT m c (row t r) l : EReal) := by
  rw [(hm c).2.2.2.1]
  blk_point [iblk, V, idx3 t]
theorem blk4 (c : Dev nD) (t : Fin cfg0.N) (r : Fin 512) (l : Fin 512) : iblk m c 4 t (ix2 r l) = (OF m c (row t r) l : EReal) := by
  rw [(hm c).2.2.2.2.1]
  blk_point [iblk, V, idx4 t]
theorem blk5 (c : Dev nD) (t : Fin cfg0.N) (r : Fin 512) (l : Fin 512) : iblk m c 5 t (ix2 r l) = (OB m c (row t r) l : EReal) := by
  rw [(hm c).2.2.2.2.2.1]
  blk_point [iblk, V, idx5 t]
theorem blk6 (c : Dev nD) (t : Fin cfg0.N) (r : Fin 512) (l : Fin 512) : iblk m c 6 t (ix2 r l) = (Z m c (row t r) l : EReal) := by
  rw [(hm c).2.2.2.2.2.2.1]
  blk_point [iblk, V, idx6 t]
theorem blk7 (c : Dev nD) (t : Fin cfg0.N) (l : Fin 128) : iblk m c 7 t (ix2 0 l) = (G m c l : EReal) := by
  rw [(hm c).2.2.2.2.2.2.2.1]
  blk_point [iblk, V, idx7 t]
theorem V_W (c : Dev nD) (l n : Fin 1024) : V m c main_v0 (ix2 l n) = (W m c l n : EReal) := by
  rw [(hm c).2.2.2.2.2.2.2.2]
  simp only [V, hostOps0, List.flatten_cons, List.flatten_nil, List.append_nil, List.cons_append, List.nil_append]
  after_results
  exact cast_at (m (c, Proc.tc.devRef main_arg8)) (ix2 l n)
theorem blk8 (c : Dev nD) (t : Fin cfg0.N) (l n : Fin 1024) : iblk m c 8 t (ix2 l n) = (W m c l n : EReal) := by
  rw [← V_W hm]
  blk_point [iblk, idx8 t]

/-- A grid point's rows of the recurrent branch's gradient, … -/
theorem dh_point (c : Dev nD) (t : Fin cfg0.N) (r : Fin 512) (l : Fin 512) :
    (outsAt0 m c t.val t.isLt).1 (ix2 r l) = ((left (E m c (row t r)) l * gelu (GT m c (row t r) l) : ℝ) : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dh_pay (W := W m c) (Q := fun r => D m c (row t r)) (X := fun r => GT m c (row t r)) (blk3 hm c t) (blk0 hm c t) (blk8 hm c t) r l

/-- … of its gate's, … -/
theorem dgt_point (c : Dev nD) (t : Fin cfg0.N) (r : Fin 512) (l : Fin 512) :
    (outsAt0 m c t.val t.isLt).2.1 (ix2 r l)
      = (dgt (E m c (row t r)) (fun l => HF m c (row t r) l + HB m c (row t r) l) (GT m c (row t r)) l : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dgt_pay (W := W m c) (Q := fun r => D m c (row t r)) (X := fun r => GT m c (row t r)) (A := fun r => HF m c (row t r)) (B := fun r => HB m c (row t r))
      (blk3 hm c t) (blk1 hm c t) (blk2 hm c t) (blk0 hm c t) (blk8 hm c t) r l

/-- … and of the cotangent. -/
theorem db_point (c : Dev nD) (t : Fin cfg0.N) (r : Fin 512) (l : Fin 1024) :
    (outsAt0 m c t.val t.isLt).2.2.2.2.2 (ix2 r l) = (D m c (row t r) l : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact blk0 hm c t r l

/-- The product a grid point computes. -/
theorem dy_point (c : Dev nD) (t : Fin cfg0.N) (r : Fin 512) (l : Fin 1024) : k0_pay23 (F := Ideal) (iblk m c 0 t) (iblk m c 8 t) (ix2 r l) = (E m c (row t r) l : EReal) :=
  dy_pay (W := W m c) (Q := fun r => D m c (row t r)) (blk0 hm c t) (blk8 hm c t) r l

/-- A grid point's rows of the heads' gradient … -/
theorem do_point (c : Dev nD) (t : Fin cfg0.N) (r : Fin 512) (l : Fin 512) :
    (outsAt0 m c t.val t.isLt).2.2.1 (ix2 r l) = (dos (E m c (row t r)) (O m c (row t r)) (Z m c (row t r)) (G m c) l : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact do_pieces (blk7 hm c t) (blk4 hm c t) (blk5 hm c t) (blk6 hm c t) (dy_point hm c t) r l

/-- … and of their gates'. -/
theorem dz_point (c : Dev nD) (t : Fin cfg0.N) (r : Fin 512) (l : Fin 512) :
    (outsAt0 m c t.val t.isLt).2.2.2.1 (ix2 r l) = (dz (E m c (row t r)) (O m c (row t r)) (Z m c (row t r)) (G m c) l : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact dz_pieces (blk7 hm c t) (blk4 hm c t) (blk5 hm c t) (blk6 hm c t) (dy_point hm c t) r l

/-- The gain's gradient: a grid point after the first adds its rows' parts. -/
theorem dgn_step (c : Dev nD) (t : Fin cfg0.N) (h : ¬ t.val % 16 = 0) (j : Fin 1) (l : Fin 128) :
    (outsAt0 m c t.val t.isLt).2.2.2.2.1 (ix2 j l)
      = (outsAt0 m c (t.val - 1) (Nat.lt_of_le_of_lt (Nat.sub_le _ _) t.isLt)).2.2.2.2.1 (ix2 j l)
        + ((∑ r, dgn (E m c (row t r)) (O m c (row t r)) (Z m c (row t r)) l : ℝ) : EReal) := by
  obtain rfl : j = 0 := Subsingleton.elim _ _
  rw [outsAt0_B m c t h]
  frame_open
  simp (disch := decide) only [↓ View.readCov_skip, ↓ View.readCov_cons_toLoadRect, ↓ View.readCov_fill]
  frame_out
  exact dg_sum (blk4 hm c t) (blk5 hm c t) (blk6 hm c t) (dy_point hm c t) _ l

/-- The first grid point starts it from zero. -/
theorem dgn_first (c : Dev nD) (t : Fin cfg0.N) (h : t.val % 16 = 0) (j : Fin 1) (l : Fin 128) :
    (outsAt0 m c t.val t.isLt).2.2.2.2.1 (ix2 j l) = 0 + ((∑ r, dgn (E m c (row t r)) (O m c (row t r)) (Z m c (row t r)) l : ℝ) : EReal) := by
  obtain rfl : j = 0 := Subsingleton.elim _ _
  rw [outsAt0_A m c t h]
  frame_open
  simp (disch := decide) only [↓ View.readCov_skip, ↓ View.readCov_cons_toLoadRect, ↓ View.readCov_fill]
  frame_out
  refine (dg_sum (blk4 hm c t) (blk5 hm c t) (blk6 hm c t) (dy_point hm c t) _ l).trans (congrArg (· + _) ?_)
  pointwise [k0_pay3]

end Cert.OutProjBwdIdeal.Hand
-- ==== Proof.OutProj.Array.lean ====
/- The gates' gradients as whole arrays, as functions of the entry arguments. -/
module
public import proofs.«01_k».proof.Proof.OutProj.Block

@[expose] public section

set_option maxRecDepth 16384

noncomputable section

namespace Cert.OutProjBwdIdeal.Hand

open Cert.OutProj Cert.OutProjBwdIdeal Cert.OutProjBwdIdeal.Gen Idealize.ShloMosaic Idealize.ShloMosaic.TcCoe Idealize.SL.Sem
open Idealize.ShloMosaic.Pipeline (Dat)

variable {m : (ℓ : Loc nD τ sig) → Buf (Elt Ideal) ℓ} (hm : Finite m)

/-- The points' rows are all rows. -/
theorem sum_rows (f : Fin 8192 → ℝ) : ∑ t : Fin cfg0.N, ∑ r, f (row t r) = ∑ s, f s :=
  Fin.sum_mul_add_congr fun t k hl => rfl

include hm

/-- The array of the recurrent branch's gradient, … -/
theorem final_dh (c : Dev nD) : (dats m 0 c).arrAt 9 (cfgs 0).N
    = fun i : S8192x512.Idx => ((left (E m c (i 0)) (i 1) * gelu (GT m c (i 0) (i 1)) : ℝ) : EReal) := by
  refine (dats m 0 c).arrAt_eq_of_covers 9 _ (by decide +kernel) fun t hf y => ?_
  idx_vars y
  blk_simp
  rw [after0_9]
  have e0 : (win0_9.blk t).view.emb (ix2 y0 y1) 0 = row t y0 := Fin.ext (by blk_simp [idx9 t])
  have e1 : (win0_9.blk t).view.emb (ix2 y0 y1) 1 = y1 := Fin.ext (by blk_simp [idx9 t])
  rw [e0, e1]
  exact dh_point hm c t y0 y1

/-- … of its gate's, … -/
theorem final_dgt (c : Dev nD) : (dats m 0 c).arrAt 10 (cfgs 0).N
    = fun i : S8192x512.Idx => ((dgt (E m c (i 0)) (fun l => HF m c (i 0) l + HB m c (i 0) l) (GT m c (i 0)) (i 1) : ℝ) : EReal) := by
  refine (dats m 0 c).arrAt_eq_of_covers 10 _ (by decide +kernel) fun t hf y => ?_
  idx_vars y
  blk_simp
  rw [after0_10]
  have e0 : (win0_10.blk t).view.emb (ix2 y0 y1) 0 = row t y0 := Fin.ext (by blk_simp [idx10 t])
  have e1 : (win0_10.blk t).view.emb (ix2 y0 y1) 1 = y1 := Fin.ext (by blk_simp [idx10 t])
  rw [e0, e1]
  exact dgt_point hm c t y0 y1

/-- … of the heads', … -/
theorem final_do (c : Dev nD) : (dats m 0 c).arrAt 11 (cfgs 0).N
    = fun i : S8192x512.Idx => ((dos (E m c (i 0)) (O m c (i 0)) (Z m c (i 0)) (G m c) (i 1) : ℝ) : EReal) := by
  refine (dats m 0 c).arrAt_eq_of_covers 11 _ (by decide +kernel) fun t hf y => ?_
  idx_vars y
  blk_simp
  rw [after0_11]
  have e0 : (win0_11.blk t).view.emb (ix2 y0 y1) 0 = row t y0 := Fin.ext (by blk_simp [idx11 t])
  have e1 : (win0_11.blk t).view.emb (ix2 y0 y1) 1 = y1 := Fin.ext (by blk_simp [idx11 t])
  rw [e0, e1]
  exact do_point hm c t y0 y1

/-- … of their gates', … -/
theorem final_dz (c : Dev nD) : (dats m 0 c).arrAt 12 (cfgs 0).N
    = fun i : S8192x512.Idx => ((dz (E m c (i 0)) (O m c (i 0)) (Z m c (i 0)) (G m c) (i 1) : ℝ) : EReal) := by
  refine (dats m 0 c).arrAt_eq_of_covers 12 _ (by decide +kernel) fun t hf y => ?_
  idx_vars y
  blk_simp
  rw [after0_12]
  have e0 : (win0_12.blk t).view.emb (ix2 y0 y1) 0 = row t y0 := Fin.ext (by blk_simp [idx12 t])
  have e1 : (win0_12.blk t).view.emb (ix2 y0 y1) 1 = y1 := Fin.ext (by blk_simp [idx12 t])
  rw [e0, e1]
  exact dz_point hm c t y0 y1

/-- … and of the cotangent. -/
theorem final_db (c : Dev nD) : (dats m 0 c).arrAt 14 (cfgs 0).N
    = fun i : S8192x1024.Idx => ((D m c (i 0) (i 1) : ℝ) : EReal) := by
  refine (dats m 0 c).arrAt_eq_of_covers 14 _ (by decide +kernel) fun t hf y => ?_
  idx_vars y
  blk_simp
  rw [after0_14]
  have e0 : (win0_14.blk t).view.emb (ix2 y0 y1) 0 = row t y0 := Fin.ext (by blk_simp [idx14 t])
  have e1 : (win0_14.blk t).view.emb (ix2 y0 y1) 1 = y1 := Fin.ext (by blk_simp [idx14 t])
  rw [e0, e1]
  exact db_point hm c t y0 y1

/-- The gain's gradient. -/
theorem final_dgn (c : Dev nD) : (dats m 0 c).arrAt 13 (cfgs 0).N
    = fun i : S1x128.Idx => ((∑ s, dgn (E m c s) (O m c s) (Z m c s) (i 1) : ℝ) : EReal) := by
  refine (dats m 0 c).arrAt_eq_of_after_last 13 t0_15 (by decide +kernel) _ fun j => ?_
  blk_simp
  idx_vars j
  rw [after0_13, Pipeline.eq_sum_fin_of_reset_step_apply_last (fun n h (i : Fin 1 × Fin 128) => (outsAt0 m c n h).2.2.2.2.1 (ix2 i.1 i.2)) 16 (fun _ => 0)
    (fun t i => ((∑ r, dgn (E m c (row t r)) (O m c (row t r)) (Z m c (row t r)) i.2 : ℝ) : EReal))
    (fun t h i => dgn_first hm c t h i.1 i.2) (fun t h i => dgn_step hm c t h i.1 i.2) (le_of_eq N_0) t0_15 rfl (j0, j1), zero_add, Reals.sum,
    sum_rows fun s => dgn (E m c s) (O m c s) (Z m c s) j1]

end Cert.OutProjBwdIdeal.Hand
-- ==== Proof.OutProj.Ref.lean ====
/- The reference at real arguments: the derivative of the gates and the norm, followed by the projection. -/
module
public import proofs.«01_k».proof.Proof.OutProj.Model
public import proofs.«01_k».proof.Proof.Gen.OutProjRefIdeal.Read
public import Idealize.ShloMosaic.Lib.Pipeline.ValueKit

@[expose] public section

set_option maxRecDepth 16384

noncomputable section

namespace Cert.OutProjRefIdeal.Hand

open Cert.GdnPrep (act act')
open Cert.OutProj Cert.OutProjRefIdeal Cert.OutProjRefIdeal.Read Idealize.ShloMosaic Idealize.ShloMosaic.TcCoe

variable {x0 : (⟨S8192x1024, .f32⟩ : BufTy).Contents (Elt Ideal)} {x1 x2 x3 x4 x5 x6 : (⟨S8192x512, .f32⟩ : BufTy).Contents (Elt Ideal)}
  {x7 : (⟨S1x128, .f32⟩ : BufTy).Contents (Elt Ideal)} {x8 : (⟨S1024x1024, .f32⟩ : BufTy).Contents (Elt Ideal)}
  {D : Fin 8192 → Fin 1024 → ℝ} {HF HB GT OF OB Z : Fin 8192 → Fin 512 → ℝ} {G : Fin 128 → ℝ} {W : Fin 1024 → Fin 1024 → ℝ}
  (h0 : ∀ s l, x0 (ix2 s l) = (D s l : EReal)) (h1 : ∀ s l, x1 (ix2 s l) = (HF s l : EReal)) (h2 : ∀ s l, x2 (ix2 s l) = (HB s l : EReal))
  (h3 : ∀ s l, x3 (ix2 s l) = (GT s l : EReal)) (h4 : ∀ s l, x4 (ix2 s l) = (OF s l : EReal)) (h5 : ∀ s l, x5 (ix2 s l) = (OB s l : EReal))
  (h6 : ∀ s l, x6 (ix2 s l) = (Z s l : EReal)) (h7 : ∀ l, x7 (ix2 0 l) = (G l : EReal)) (h8 : ∀ l n, x8 (ix2 l n) = (W l n : EReal))

include h0 h8 in
/-- The product with the transposed matrix. -/
theorem dy_at (s : Fin 8192) (l : Fin 1024) : val_main_v47 (F := Ideal) x0 x8 (ix2 s l) = (dy W (D s) l : EReal) := by
  pointwise [val_main_v47]
  simp only [h0, h8, Reals.mul, Reals.sum]
  rfl

include h3 in
/-- The gelu gate's inner tangent. -/
theorem tnh_at (s : Fin 8192) (l : Fin 512) : val_main_v10 (F := Ideal) x3 (ix2 s l) = (tnh (GT s l) : EReal) := by
  pointwise [val_main_v10, val_main_v9, val_main_v8, val_main_cst_1, val_main_v7, val_main_v6, val_main_v4, val_main_v2, val_main_v1, val_main_v3, val_main_cst,
    val_main_v5, val_main_cst_0]
  simp (disch := norm_num) only [h3, lit_root, lit_44715, lit_million, Reals.mul, Reals.add, Reals.sub, Reals.sum, Reals.div, Reals.neg, Ideal.tanh_coe]
  refine congrArg _ (congrArg Real.tanh ?_)
  ring

include h0 h3 h8 in
/-- The recurrent branch's gradient … -/
theorem dh_at (s : Fin 8192) (l : Fin 512) : val_main_v79 (F := Ideal) x0 x3 x8 (ix2 s l) = ((left (dy W (D s)) l * gelu (GT s l) : ℝ) : EReal) := by
  pointwise [val_main_v79, val_main_v48, val_main_v20, val_main_v19, val_main_v18, val_main_cst_5, val_main_v17, val_main_v16, val_main_cst_4]
  simp only [dy_at h0 h8, tnh_at h3, h3, Reals.lit_half, Reals.lit_one, Reals.one, Reals.mul, Reals.add, Reals.sub, Reals.sum, Reals.div, Reals.neg]
  refine congrArg _ ?_
  simp only [left, gelu]
  ring

include h0 h1 h2 h3 h8 in
/-- … and its gate's. -/
theorem dgt_at (s : Fin 8192) (l : Fin 512) :
    val_main_v99 (F := Ideal) x0 x1 x2 x3 x8 (ix2 s l) = (dgt (dy W (D s)) (fun l => HF s l + HB s l) (GT s) l : EReal) := by
  pointwise [val_main_v99, val_main_v98, val_main_v96, val_main_v93, val_main_v87, val_main_v81, val_main_v78, val_main_v0, val_main_v48, val_main_v19,
    val_main_v18, val_main_cst_5, val_main_v17, val_main_v16, val_main_cst_4, val_main_v86, val_main_v85, val_main_cst_17, val_main_v84,
    val_main_v83, val_main_v82, val_main_cst_16, val_main_v80, val_main_v15, val_main_v12, val_main_v11, val_main_cst_2, val_main_v14, val_main_v13,
    val_main_cst_3, val_main_v92, val_main_v1, val_main_v91, val_main_v89, val_main_v88, val_main_cst_18, val_main_v90, val_main_cst_19,
    val_main_v95, val_main_v94, val_main_v97]
  simp (disch := norm_num) only [dy_at h0 h8, tnh_at h3, h1, h2, h3, Reals.lit_half, Reals.lit_one, Reals.one, lit_root, lit_44715, lit_million, Reals.mul, Reals.add, Reals.sub, Reals.sum, Reals.div, Reals.neg]
  refine congrArg _ ?_
  simp only [dgt, left, gelu']
  ring

include h0 h8 in
/-- A head's lanes of the product, … -/
theorem right_at (s : Fin 8192) (h : Fin 4) (k : Fin 128) : val_main_v50 (F := Ideal) x0 x8 (ix3 s h k) = (hd (right (dy W (D s))) h k : EReal) := by
  pointwise [val_main_v50, val_main_v49]
  rw [dy_at h0 h8]
  rfl

include h4 h5 in
/-- … of the values … -/
theorem o_at (s : Fin 8192) (h : Fin 4) (k : Fin 128) : val_main_v23 (F := Ideal) x4 x5 (ix3 s h k) = (hd (fun l => OF s l + OB s l) h k : EReal) := by
  pointwise [val_main_v23, val_main_v22]
  rw [h4, h5, Reals.add]
  rfl

include h6 in
/-- … and of the gate. -/
theorem z_at (s : Fin 8192) (h : Fin 4) (k : Fin 128) : val_main_v41 (F := Ideal) x6 (ix3 s h k) = (hd (Z s) h k : EReal) := by
  pointwise [val_main_v41]
  rw [h6]
  rfl

include h6 in
/-- The logistic function of the gate. -/
theorem sig_at (s : Fin 8192) (h : Fin 4) (k : Fin 128) : val_main_v42_2 (F := Ideal) x6 (ix3 s h k) = (GdnPrep.sig (hd (Z s) h k) : EReal) := by
  pointwise [val_main_v42_2, val_main_call0_v4, val_main_call0_cst_0, val_main_call0_v3, val_main_call0_v2, val_main_call0_cst, val_main_call0_v1,
    val_main_call0_v0]
  simp (disch := exact (GdnPrep.one_add_exp_pos _).ne') only [z_at h6, Reals.lit_one, Reals.one, Ideal.exp_coe, Reals.mul, Reals.add, Reals.sub, Reals.sum, Reals.div, Reals.neg]
  rfl

include h7 in
/-- The gain of every head. -/
theorem g_at (h : Fin 4) (k : Fin 128) : val_main_v24 (F := Ideal) x7 (ix2 h k) = (G k : EReal) := by
  pointwise [val_main_v24]
  rw [h7]

include h4 h5 in
/-- The mean square of a head and its reciprocal root. -/
theorem ms_at (s : Fin 8192) (h : Fin 4) (u : Fin 1) : val_main_v31 (F := Ideal) x4 x5 (ix3 s h u) = (((∑ k, hd (fun l => OF s l + OB s l) h k * hd (fun l => OF s l + OB s l) h k) / 128 + Reals.eps : ℝ) : EReal) := by
  pointwise [val_main_v31, val_main_v29, val_main_v27, val_main_v26, val_main_v25, val_main_cst_6, val_main_v28, val_main_cst_7, val_main_v30, val_main_cst_8]
  simp (disch := norm_num) only [o_at h4 h5, Reals.lit_128, Reals.lit_eps, Reals.mul, Reals.add, Reals.sub, Reals.sum, Reals.div, Reals.neg]

include h4 h5 in
theorem r_at (s : Fin 8192) (h : Fin 4) (u : Fin 1) : val_main_v32 (F := Ideal) x4 x5 (ix3 s h u) = (inv (hd (fun l => OF s l + OB s l) h) : EReal) := by
  pointwise [val_main_v32]
  rw [ms_at h4 h5, Reals.rsqrt (arg_pos _)]
  rfl

include h0 h4 h5 h6 h7 h8 in
/-- A head's gradient … -/
theorem dhead_at (s : Fin 8192) (h : Fin 4) (k : Fin 128) :
    val_main_v74 (F := Ideal) x0 x4 x5 x6 x7 x8 (ix3 s h k) = (dhead (hd (fun l => OF s l + OB s l) h) (hd (right (dy W (D s))) h) (hd (Z s) h) G k : EReal) := by
  pointwise [val_main_v74, val_main_v72, val_main_v65, val_main_v59, val_main_v52, val_main_v42_0, val_main_v58, val_main_v38, val_main_v64, val_main_v71,
    val_main_v70, val_main_v69, val_main_v68, val_main_v66, val_main_v63, val_main_v62, val_main_v61, val_main_cst_12, val_main_v35, val_main_v34,
    val_main_cst_9, val_main_v33, val_main_v67, val_main_cst_13, val_main_cst_14, val_main_v73]
  simp (disch := first | exact (arg_pos _).ne' | norm_num) only [right_at h0 h8, o_at h4 h5, z_at h6, sig_at h6, g_at h7, ms_at h4 h5, r_at h4 h5, Reals.lit_neg_half, Reals.lit_128, Reals.mul, Reals.add, Reals.sub, Reals.sum, Reals.div, Reals.neg,
    Finset.univ_unique, Finset.sum_singleton]
  exact congrArg _ (norm_eq (hd (fun l => OF s l + OB s l) h) (fun k => dn (hd (right (dy W (D s))) h) (hd (Z s) h) k * G k) k)

include h0 h4 h5 h6 h7 h8 in
/-- … and its gate's. -/
theorem dgate_at (s : Fin 8192) (h : Fin 4) (k : Fin 128) :
    val_main_v53 (F := Ideal) x0 x4 x5 x6 x7 x8 (ix3 s h k) = (dgate (hd (fun l => OF s l + OB s l) h) (hd (right (dy W (D s))) h) (hd (Z s) h) G k : EReal) := by
  pointwise [val_main_v53, val_main_call1_v1, val_main_v51, val_main_v40, val_main_v37, val_main_v36, val_main_v39, val_main_v38, val_main_call1_v2,
    val_main_call1_v0, val_main_v42_1, val_main_call0_v7, val_main_call0_v6, val_main_call0_cst_1]
  simp only [right_at h0 h8, o_at h4 h5, z_at h6, sig_at h6, g_at h7, r_at h4 h5, Reals.lit_one, Reals.one, Reals.mul, Reals.add, Reals.sub, Reals.sum, Reals.div, Reals.neg]
  refine congrArg _ ?_
  simp only [dgate, act']
  ring

include h0 h4 h5 h6 h7 h8 in
/-- The rows of the heads' gradient, … -/
theorem do_at (s : Fin 8192) (l : Fin 512) :
    val_main_v100 (F := Ideal) x0 x4 x5 x6 x7 x8 (ix2 s l) = (dos (dy W (D s)) (fun l => OF s l + OB s l) (Z s) G l : EReal) := by
  pointwise [val_main_v100, val_main_v77]
  exact dhead_at h0 h4 h5 h6 h7 h8 s (hof l) (kof l)

include h0 h4 h5 h6 h7 h8 in
/-- … of their gates' … -/
theorem dz_at (s : Fin 8192) (l : Fin 512) :
    val_main_v101 (F := Ideal) x0 x4 x5 x6 x7 x8 (ix2 s l) = (dz (dy W (D s)) (fun l => OF s l + OB s l) (Z s) G l : EReal) := by
  pointwise [val_main_v101, val_main_v54]
  exact dgate_at h0 h4 h5 h6 h7 h8 s (hof l) (kof l)

include h0 h4 h5 h6 h8 in
/-- … and the gain's gradient. -/
theorem dgn_at (j : Fin 1) (l : Fin 128) :
    val_main_v76 (F := Ideal) x0 x4 x5 x6 x8 (ix2 j l) = ((∑ s, dgn (dy W (D s)) (fun l => OF s l + OB s l) (Z s) l : ℝ) : EReal) := by
  pointwise [val_main_v76, val_main_v75, val_main_v60, val_main_v57, val_main_v56, val_main_v55, val_main_v37, val_main_v36, val_main_v52, val_main_v42_0,
    val_main_cst_10, val_main_cst_11, val_main_cst_15]
  simp only [right_at h0 h8, o_at h4 h5, z_at h6, sig_at h6, r_at h4 h5, Reals.mul, Reals.add, Reals.sub, Reals.sum, Reals.div, Reals.neg, Finset.univ_unique, Finset.sum_singleton]
  refine congrArg _ ?_
  simp only [dgn, dgain, dn, act]
  rw [Finset.sum_comm]
  exact Finset.sum_congr rfl fun s _ => Finset.sum_congr rfl fun h _ => by ring

include h0 in
/-- The cotangent itself. -/
theorem db_at (s : Fin 8192) (l : Fin 1024) : val_main_v102 (F := Ideal) x0 (ix2 s l) = (D s l : EReal) := by
  pointwise [val_main_v102]
  exact h0 s l

end Cert.OutProjRefIdeal.Hand
-- ==== Proof.OutProj.Claim.lean ====
/- The gradient of the mixer's gates and output projection: the kernel computes the derivative of the forward lines. -/
module
public import proofs.«01_k».proof.Proof.OutProj.Array
public import proofs.«01_k».proof.Proof.OutProj.Ref
public import proofs.«01_k».proof.Proof.Gen.OutProjBwd.Frame
public import proofs.«01_k».proof.Defs

@[expose] public section

set_option maxRecDepth 16384

noncomputable section

namespace Cert.OutProj

open Idealize.ShloMosaic Idealize.ShloMosaic.TcCoe Idealize.SL.Sem

/-- The shape facts the precondition states. -/
instance pre_facts : Cert.Pre_out_proj_finite.Facts := ⟨by decide, by decide, by decide, by decide⟩

/-- The precondition says that the arguments are real numbers. -/
theorem finite [Cert.Pre_out_proj_finite.Facts] {m : (ℓ : Loc Cert.OutProjBwdIdeal.nD Cert.OutProjBwdIdeal.τ Cert.OutProjBwdIdeal.sig) → Buf (Elt Ideal) ℓ}
    (h : Cert.Pre_OutProjBwdIdeal_out_proj_finite m) : Cert.OutProjBwdIdeal.Hand.Finite m := fun c => by
  obtain ⟨h0, h1, h2, h3, h4, h5, h6, h7, h8⟩ := h c
  exact ⟨fun s l => Reals.exists_real (congrFun h0 (ix2 s l)),
    fun s l => Reals.exists_real (congrFun h1 (ix2 s l)),
    fun s l => Reals.exists_real (congrFun h2 (ix2 s l)),
    fun s l => Reals.exists_real (congrFun h3 (ix2 s l)),
    fun s l => Reals.exists_real (congrFun h4 (ix2 s l)),
    fun s l => Reals.exists_real (congrFun h5 (ix2 s l)),
    fun s l => Reals.exists_real (congrFun h6 (ix2 s l)),
    fun l => Reals.exists_real (congrFun h7 (ix2 0 l)),
    fun s l => Reals.exists_real (congrFun h8 (ix2 s l))⟩

/-- The reference runs to the end and leaves its arguments unchanged. -/
theorem frame_ref : Cert.quiescent_OutProjRefIdeal := fun m ρ _ =>
  (θ_run Cert.OutProjRefIdeal.defs _ _).mono (fun r h => ⟨fun c => (h c).2.2.2.2.2.2, sem_eq_zero_of_no_sems (by decide) r.2⟩)
    (Cert.OutProjRefIdeal.Value.run m ρ)

/-- The kernel's six results are the reference's six results, on real arguments. -/
theorem algebraic [Cert.Pre_out_proj_finite.Facts] : Cert.algebraic_OutProjBwdIdeal_OutProjRefIdeal_pre_out_proj_finite := fun m ρ m' ρ' hp hag =>
  ⟨_, _, _, _, _, _, Cert.OutProjBwdIdeal.Value.run_blocks m ρ, (θ_run _ _ _).mono (fun r h c => by
    obtain ⟨h0, h1, h2, h3, h4, h5, h6⟩ := h c
    obtain ⟨a0, a1, a2, a3, a4, a5, a6, a7, a8⟩ := hag c
    have hm := finite hp
    obtain ⟨f0, f1, f2, f3, f4, f5, f6, f7, f8⟩ := hm c
    refine ⟨h0.trans ?_, h1.trans ?_, h2.trans ?_, h3.trans ?_, h4.trans ?_, h5.trans ?_, h6⟩ <;> clear h0 h1 h2 h3 h4 h5 h6 h
    · rw [Cert.OutProjRefIdeal.Read.val_main_v79_eq]
      change Cert.OutProjRefIdeal.Read.val_main_v79 (m' (c.tc.loc Cert.OutProjRefIdeal.main_arg0)) (m' (c.tc.loc Cert.OutProjRefIdeal.main_arg3)) (m' (c.tc.loc Cert.OutProjRefIdeal.main_arg8)) = _
      rw [a0, a3, a8]
      refine Eq.trans ?_ (Cert.OutProjBwdIdeal.Hand.final_dh hm c).symm
      funext i
      idx_vars i
      exact Cert.OutProjRefIdeal.Hand.dh_at (fun s l => (f0 s l).symm) (fun s l => (f3 s l).symm) (fun s l => (f8 s l).symm) i0 i1
    · rw [Cert.OutProjRefIdeal.Read.val_main_v99_eq]
      change Cert.OutProjRefIdeal.Read.val_main_v99 (m' (c.tc.loc Cert.OutProjRefIdeal.main_arg0)) (m' (c.tc.loc Cert.OutProjRefIdeal.main_arg1)) (m' (c.tc.loc Cert.OutProjRefIdeal.main_arg2)) (m' (c.tc.loc Cert.OutProjRefIdeal.main_arg3)) (m' (c.tc.loc Cert.OutProjRefIdeal.main_arg8)) = _
      rw [a0, a1, a2, a3, a8]
      refine Eq.trans ?_ (Cert.OutProjBwdIdeal.Hand.final_dgt hm c).symm
      funext i
      idx_vars i
      exact Cert.OutProjRefIdeal.Hand.dgt_at (fun s l => (f0 s l).symm) (fun s l => (f1 s l).symm) (fun s l => (f2 s l).symm) (fun s l => (f3 s l).symm) (fun s l => (f8 s l).symm) i0 i1
    · rw [Cert.OutProjRefIdeal.Read.val_main_v100_eq]
      change Cert.OutProjRefIdeal.Read.val_main_v100 (m' (c.tc.loc Cert.OutProjRefIdeal.main_arg0)) (m' (c.tc.loc Cert.OutProjRefIdeal.main_arg4)) (m' (c.tc.loc Cert.OutProjRefIdeal.main_arg5)) (m' (c.tc.loc Cert.OutProjRefIdeal.main_arg6)) (m' (c.tc.loc Cert.OutProjRefIdeal.main_arg7)) (m' (c.tc.loc Cert.OutProjRefIdeal.main_arg8)) = _
      rw [a0, a4, a5, a6, a7, a8]
      refine Eq.trans ?_ (Cert.OutProjBwdIdeal.Hand.final_do hm c).symm
      funext i
      idx_vars i
      exact Cert.OutProjRefIdeal.Hand.do_at (fun s l => (f0 s l).symm) (fun s l => (f4 s l).symm) (fun s l => (f5 s l).symm) (fun s l => (f6 s l).symm) (fun l => (f7 l).symm) (fun s l => (f8 s l).symm) i0 i1
    · rw [Cert.OutProjRefIdeal.Read.val_main_v101_eq]
      change Cert.OutProjRefIdeal.Read.val_main_v101 (m' (c.tc.loc Cert.OutProjRefIdeal.main_arg0)) (m' (c.tc.loc Cert.OutProjRefIdeal.main_arg4)) (m' (c.tc.loc Cert.OutProjRefIdeal.main_arg5)) (m' (c.tc.loc Cert.OutProjRefIdeal.main_arg6)) (m' (c.tc.loc Cert.OutProjRefIdeal.main_arg7)) (m' (c.tc.loc Cert.OutProjRefIdeal.main_arg8)) = _
      rw [a0, a4, a5, a6, a7, a8]
      refine Eq.trans ?_ (Cert.OutProjBwdIdeal.Hand.final_dz hm c).symm
      funext i
      idx_vars i
      exact Cert.OutProjRefIdeal.Hand.dz_at (fun s l => (f0 s l).symm) (fun s l => (f4 s l).symm) (fun s l => (f5 s l).symm) (fun s l => (f6 s l).symm) (fun l => (f7 l).symm) (fun s l => (f8 s l).symm) i0 i1
    · rw [Cert.OutProjRefIdeal.Read.val_main_v76_eq]
      change Cert.OutProjRefIdeal.Read.val_main_v76 (m' (c.tc.loc Cert.OutProjRefIdeal.main_arg0)) (m' (c.tc.loc Cert.OutProjRefIdeal.main_arg4)) (m' (c.tc.loc Cert.OutProjRefIdeal.main_arg5)) (m' (c.tc.loc Cert.OutProjRefIdeal.main_arg6)) (m' (c.tc.loc Cert.OutProjRefIdeal.main_arg8)) = _
      rw [a0, a4, a5, a6, a8]
      refine Eq.trans ?_ (Cert.OutProjBwdIdeal.Hand.final_dgn hm c).symm
      funext i
      idx_vars i
      exact Cert.OutProjRefIdeal.Hand.dgn_at (fun s l => (f0 s l).symm) (fun s l => (f4 s l).symm) (fun s l => (f5 s l).symm) (fun s l => (f6 s l).symm) (fun s l => (f8 s l).symm) i0 i1
    · rw [Cert.OutProjRefIdeal.Read.val_main_v102_eq]
      change Cert.OutProjRefIdeal.Read.val_main_v102 (m' (c.tc.loc Cert.OutProjRefIdeal.main_arg0)) = _
      rw [a0]
      refine Eq.trans ?_ (Cert.OutProjBwdIdeal.Hand.final_db hm c).symm
      funext i
      idx_vars i
      exact Cert.OutProjRefIdeal.Hand.db_at (fun s l => (f0 s l).symm) i0 i1)
    (Cert.OutProjRefIdeal.Value.run m' ρ')⟩

/-- The two named constants are within a rounding of the floats they replace. -/
theorem names : Cert.preserves_OutProjBwd_OutProjBwdIdeal :=
  ⟨IdealRules.named_const.statement Cert.OutProjBwdIdeal.κ "cube" .f32 0x3D372713#32 ((8943 / 200000 : ℝ) : EReal) rfl,
    IdealRules.named_const.statement Cert.OutProjBwdIdeal.κ "cube3" .f32 0x3E095D4F#32 ((26829 / 200000 : ℝ) : EReal) rfl⟩

end Cert.OutProj
-- ==== Proof.Ffn.Model.lean ====
/- The FFN's hidden columns in four groups of 704: the column of each group's entry, sums over the columns, and the gradient of the norm's output. -/
module
public import proofs.«01_k».proof.Proof.InProj.Model
public import Idealize.ShloMosaic.Lib.Pipeline.ValueKit

@[expose] public section

set_option maxRecDepth 16384

noncomputable section

namespace Cert.Ffn

open Idealize.ShloMosaic

/-- The column of group `j`'s entry `k`. -/
abbrev col (j : Fin 4) (k : Fin 704) : Fin 2816 := ⟨j * 704 + k, by omega⟩

/-- A sum over the columns is the sum of the groups' sums. -/
theorem sum_cols {M : Type} [AddCommMonoid M] (f : Fin 2816 → M) : ∑ n, f n = ∑ j, ∑ k, f (col j k) :=
  (Fin.sum_mul_add_congr fun j k hl => rfl).symm

variable (Wg Wu : Fin 1024 → Fin 2816 → ℝ) (a b : Fin 2816 → ℝ)

/-- The cotangent of the normalised row times the gain: the two projections' transposed products. -/
def dh (l : Fin 1024) : ℝ := ∑ n, a n * Wg l n + ∑ n, b n * Wu l n

end Cert.Ffn
-- ==== Proof.FfnIn.Pay.lean ====
/- The kernel's payloads on blocks of real numbers: the two projections' transposed products, the row's gradient, the gain's gradient and the norm. -/
module
public import proofs.«01_k».proof.Proof.Ffn.Model
public import proofs.«01_k».proof.Proof.Gen.FfnInBwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.FfnInBwdIdeal.Hand

open Cert.Loss (inv inv_def arg_pos grad_eq)
open Cert.InProj (dx dg)
open Cert.Ffn Cert.FfnInBwdIdeal Cert.FfnInBwdIdeal.Gen Idealize.ShloMosaic Idealize.ShloMosaic.TcCoe Idealize.SL.Sem
open Idealize.ShloMosaic.Pipeline (Dat)

section Product

variable {a b : Fin 4 → Vec Ideal S1x512x704 .bf16} {g u : Fin 4 → Vec Ideal S1x1024x704 .bf16} {A B : Fin 512 → Fin 2816 → ℝ} {Wg Wu : Fin 1024 → Fin 2816 → ℝ}
  (ha : ∀ j r k, a j (ix3 0 r k) = (A r (col j k) : EReal)) (hb : ∀ j r k, b j (ix3 0 r k) = (B r (col j k) : EReal))
  (hg : ∀ j l k, g j (ix3 0 l k) = (Wg l (col j k) : EReal)) (hu : ∀ j l k, u j (ix3 0 l k) = (Wu l (col j k) : EReal))

include ha hb hg hu

/-- The eight products' sum is the two projections' transposed products. -/
theorem dh_pay (r : Fin 512) (l : Fin 1024) :
    k0_pay9 (F := Ideal) (k0_pay7 (a 0) (g 0) (b 0) (u 0) (a 1) (g 1)) (k0_pay8 (b 1) (u 1)) (a 2) (g 2) (b 2) (u 2) (a 3) (g 3) (b 3) (u 3) (ix2 r l)
      = (dh Wg Wu (A r) (B r) l : EReal) := by
  pointwise [k0_pay9, k0_pay7, k0_pay8]
  simp only [ha, hb, hg, hu, Reals.lit_zero, Reals.mul, Reals.add, Reals.sum]
  rw [dh, sum_cols, sum_cols, Fin.sum_univ_four, Fin.sum_univ_four]
  refine congrArg _ ?_
  ring

end Product

section Norm

variable {e x d : Vec Ideal S512x1024 .f32} {g : Vec Ideal S1x1024 .f32} {E X D : Fin 512 → Fin 1024 → ℝ} {G : Fin 1024 → ℝ}
  (he : ∀ r l, e (ix2 r l) = (E r l : EReal)) (hx : ∀ r l, x (ix2 r l) = (X r l : EReal)) (hd : ∀ r l, d (ix2 r l) = (D r l : EReal))
  (hg : ∀ l, g (ix2 0 l) = (G l : EReal))

include hx hg

/-- The normalised row times the gain. -/
theorem h_pay (r : Fin 512) (l : Fin 1024) : k0_pay3 (F := Ideal) x (k0_pay10 x) g (ix2 r l) = ((X r l * inv (X r) * G l : ℝ) : EReal) := by
  pointwise [k0_pay3, k0_pay2, k0_pay1, k0_pay10]
  have p := arg_pos (X r)
  simp (disch := first | assumption | norm_num) only [hx, hg, Reals.lit_1024, Reals.lit_eps, Reals.mul, Reals.add, Reals.sum, Reals.div, Reals.rsqrt]
  rfl

include he hd

/-- The gradient's payload at a row of real numbers. -/
theorem dx_pay (r : Fin 512) (l : Fin 1024) : k0_pay5 (F := Ideal) e x (k0_pay10 x) g d (ix2 r l) = (dx (X r) G (D r) (E r) l : EReal) := by
  pointwise [k0_pay5, k0_pay2, k0_pay1, k0_pay10]
  have p := arg_pos (X r)
  simp (disch := first | assumption | norm_num) only [he, hx, hd, hg, Reals.lit_1024, Reals.lit_eps, Reals.mul, Reals.add, Reals.sub,
    Reals.sum, Reals.div, Reals.rsqrt]
  rfl

omit hd hg in
/-- The gain's gradient's payload: the rows' parts are added to what was there. -/
theorem dg_pay (a : Vec Ideal S1x1024 .f32) (l : Fin 1024) :
    k0_pay4 (F := Ideal) e x (k0_pay10 x) a (ix2 0 l) = a (ix2 0 l) + ((∑ r, dg (X r) (E r) l : ℝ) : EReal) := by
  pointwise [k0_pay4, k0_pay2, k0_pay1, k0_pay10]
  have p := fun r => arg_pos (X r)
  simp (disch := first | exact p _ | norm_num) only [he, hx, Reals.lit_1024, Reals.lit_eps, Reals.mul, Reals.add, Reals.sub,
    Reals.sum, Reals.div, Reals.rsqrt]
  rfl

end Norm

end Cert.FfnInBwdIdeal.Hand
-- ==== Proof.Groups.lean ====
/- Arrays of several groups of rows: reading one group off a block, and off the newest store. -/
module
public import Idealize.ShloMosaic.Lib.Pipeline.ValueKit
public import Idealize.ShloMosaic.Lib.Pipeline.ReadBack
public import Idealize.ShloMosaic.Lib.WritesUnit
public import Idealize.ShloMosaic.Lib.Routing.OpsSet

@[expose] public section

set_option maxRecDepth 16384

noncomputable section

namespace Cert.Groups

open Idealize.ShloMosaic Idealize.ShloMosaic.TcCoe Idealize.SL.Sem

variable {e : EltTy} {g n w : ℕ}

/-- A place of a group. -/
theorem emb_group {p : ℕ} (hp : p < g) (inb : ∀ a, (![p, 0, 0] : Fin 3 → ℕ) a + (![1, n, w] : Fin 3 → ℕ) a ≤ (⟨3, ![g, n, w]⟩ : Shape).size a)
    (z : Fin 1) (r : Fin n) (k : Fin w) :
    (Rect.unit (s := ⟨3, ![g, n, w]⟩) ![p, 0, 0] ![1, n, w] inb).emb (ix3 z r k) = ix3 (⟨p, hp⟩ : Fin g) r k := by
  obtain rfl : z = 0 := Subsingleton.elim _ _
  refine funext fun a => Fin.ext ?_
  match a with
  | 0 => rfl
  | 1 => show 0 + 1 * (r : ℕ) = r; omega
  | 2 => show 0 + 1 * (k : ℕ) = k; omega

/-- One group of a block. -/
def group (v : (⟨3, ![g, n, w]⟩ : Shape).Idx → Elt Ideal e) (j : Fin g) : (⟨3, ![1, n, w]⟩ : Shape).Idx → Elt Ideal e :=
  fun y => v (ix3 j (y 1) (y 2))

/-- Loading a group. -/
theorem ld_group (v : (⟨3, ![g, n, w]⟩ : Shape).Idx → Elt Ideal e) {p : ℕ} (hp : p < g)
    (inb : ∀ a, (![p, 0, 0] : Fin 3 → ℕ) a + (![1, n, w] : Fin 3 → ℕ) a ≤ (⟨3, ![g, n, w]⟩ : Shape).size a) :
    View.ld v (Rect.unit (s := ⟨3, ![g, n, w]⟩) ![p, 0, 0] ![1, n, w] inb) = group v ⟨p, hp⟩ := by
  funext y
  refine congrArg v (Eq.trans (congrArg _ (funext fun a => ?_ : y = ix3 (y 0 : Fin 1) (y 1 : Fin n) (y 2 : Fin w))) (emb_group hp inb (y 0) (y 1) (y 2)))
  match a with
  | 0 => rfl
  | 1 => rfl
  | 2 => rfl

/-- Reading a group off the newest store. -/
theorem canon_groups {q : ℕ} (hq : q < g) (inb : ∀ a, (![q, 0, 0] : Fin 3 → ℕ) a + (![1, n, w] : Fin 3 → ℕ) a ≤ (⟨3, ![g, n, w]⟩ : Shape).size a)
    (p : (Rect.unit (s := ⟨3, ![g, n, w]⟩) ![q, 0, 0] ![1, n, w] inb).shape.Idx → Elt Ideal e) (L : List (View.Piece (Elt Ideal) ⟨3, ![g, n, w]⟩ e))
    (j : Fin g) (r : Fin n) (k : Fin w) {G : Fin g → Elt Ideal e} (hp : p (ix3 0 r k) = G ⟨q, hq⟩)
    (hL : (j : ℕ) ≠ q → View.canon L (ix3 j r k) = G j) :
    View.canon (⟨Rect.unit ![q, 0, 0] ![1, n, w] inb, p⟩ :: L) (ix3 j r k) = G j := by
  by_cases h : (j : ℕ) = q
  · subst h
    rw [← emb_group j.isLt inb 0 r k, View.canon_cons_emb, hp]
  · rw [View.canon_cons_of_not_mem, hL h]
    rw [Rect.mem_set_unit]
    intro hall
    have := hall 0
    exact h (Nat.le_antisymm (Nat.lt_succ_iff.1 this.2) this.1)

/-- Reading a group off the stores of all four. -/
theorem canon_four (P : Fin 4 → (⟨3, ![1, n, w]⟩ : Shape).Idx → Elt Ideal e) (j : Fin 4) (r : Fin n) (k : Fin w) {G : Fin 4 → Elt Ideal e}
    (hP : ∀ j, P j (ix3 0 r k) = G j) (i0 i1 i2 i3) :
    View.canon (s := ⟨3, ![4, n, w]⟩) [⟨Rect.unit ![3, 0, 0] ![1, n, w] i3, P ⟨3, by decide⟩⟩, ⟨Rect.unit ![2, 0, 0] ![1, n, w] i2, P ⟨2, by decide⟩⟩,
      ⟨Rect.unit ![1, 0, 0] ![1, n, w] i1, P ⟨1, by decide⟩⟩, ⟨Rect.unit ![0, 0, 0] ![1, n, w] i0, P ⟨0, by decide⟩⟩] (ix3 j r k) = G j :=
  canon_groups (g := 4) (q := 3) (by decide) i3 (P ⟨3, by decide⟩) _ j r k (hP ⟨3, by decide⟩) fun h3 =>
    canon_groups (g := 4) (q := 2) (by decide) i2 (P ⟨2, by decide⟩) _ j r k (hP ⟨2, by decide⟩) fun h2 =>
      canon_groups (g := 4) (q := 1) (by decide) i1 (P ⟨1, by decide⟩) _ j r k (hP ⟨1, by decide⟩) fun h1 =>
        canon_groups (g := 4) (q := 0) (by decide) i0 (P ⟨0, by decide⟩) _ j r k (hP ⟨0, by decide⟩) fun h0 => by omega

end Cert.Groups
-- ==== Proof.FfnIn.Block.lean ====
/- One grid point of the input projections' gradient: the rows it reads are real numbers, and what it writes to each output. -/
module
public import proofs.«01_k».proof.Proof.FfnIn.Pay
public import proofs.«01_k».proof.Proof.Groups

@[expose] public section

set_option maxRecDepth 16384

noncomputable section

namespace Cert.FfnInBwdIdeal.Hand

open Cert.Loss (inv inv_def arg_pos grad_eq)
open Cert.InProj (dx dg)
open Cert.Groups Cert.Ffn Cert.FfnInBwdIdeal Cert.FfnInBwdIdeal.Gen Idealize.ShloMosaic Idealize.ShloMosaic.TcCoe Idealize.SL.Sem
open Idealize.ShloMosaic.Pipeline (Dat)

/-- A cotangent's columns in four groups. -/
theorem shards_at (w : FVec Ideal S8192x2816 .f32) (j : Fin 4) (s : Fin 8192) (k : Fin 704) :
    truncf .bf16 (transpose S4x8192x704 [1, 0, 2] (shapeCast S8192x4x704 w shapeCasts_S8192x2816_S8192x4x704) transposes_S8192x4x704_S4x8192x704_1_0_2)
      bitsLt_bf16_f32 (ix3 j s k) = w (ix2 s (col j k)) := by
  pointwise []

/-- A matrix's columns in four groups. -/
theorem wshards_at (w : FVec Ideal S1024x2816 .f32) (j : Fin 4) (s : Fin 1024) (k : Fin 704) :
    truncf .bf16 (transpose S4x1024x704 [1, 0, 2] (shapeCast S1024x4x704 w shapeCasts_S1024x2816_S1024x4x704) transposes_S1024x4x704_S4x1024x704_1_0_2)
      bitsLt_bf16_f32 (ix3 j s k) = w (ix2 s (col j k)) := by
  pointwise []

variable (m : (ℓ : Loc nD τ sig) → Buf (Elt Ideal) ℓ)

/-- The arguments as real functions of row and column. -/
abbrev X (c : Dev nD) (s : Fin 8192) (l : Fin 1024) : ℝ := (m ((c.tc : Thread nD τ).loc main_arg0) (ix2 s l) : EReal).toReal
abbrev D (c : Dev nD) (s : Fin 8192) (l : Fin 1024) : ℝ := (m ((c.tc : Thread nD τ).loc main_arg1) (ix2 s l) : EReal).toReal
abbrev G (c : Dev nD) (l : Fin 1024) : ℝ := (m ((c.tc : Thread nD τ).loc main_arg2) (ix2 0 l) : EReal).toReal
abbrev Wg (c : Dev nD) (s : Fin 1024) (l : Fin 2816) : ℝ := (m ((c.tc : Thread nD τ).loc main_arg3) (ix2 s l) : EReal).toReal
abbrev Wu (c : Dev nD) (s : Fin 1024) (l : Fin 2816) : ℝ := (m ((c.tc : Thread nD τ).loc main_arg4) (ix2 s l) : EReal).toReal
abbrev A (c : Dev nD) (s : Fin 8192) (l : Fin 2816) : ℝ := (m ((c.tc : Thread nD τ).loc main_arg5) (ix2 s l) : EReal).toReal
abbrev B (c : Dev nD) (s : Fin 8192) (l : Fin 2816) : ℝ := (m ((c.tc : Thread nD τ).loc main_arg6) (ix2 s l) : EReal).toReal

/-- The arguments hold real numbers. -/
def Finite : Prop := ∀ c, (∀ s l, ((X m c s l : ℝ) : EReal) = m ((c.tc : Thread nD τ).loc main_arg0) (ix2 s l))
  ∧ (∀ s l, ((D m c s l : ℝ) : EReal) = m ((c.tc : Thread nD τ).loc main_arg1) (ix2 s l))
  ∧ (∀ l, ((G m c l : ℝ) : EReal) = m ((c.tc : Thread nD τ).loc main_arg2) (ix2 0 l))
  ∧ (∀ s l, ((Wg m c s l : ℝ) : EReal) = m ((c.tc : Thread nD τ).loc main_arg3) (ix2 s l))
  ∧ (∀ s l, ((Wu m c s l : ℝ) : EReal) = m ((c.tc : Thread nD τ).loc main_arg4) (ix2 s l))
  ∧ (∀ s l, ((A m c s l : ℝ) : EReal) = m ((c.tc : Thread nD τ).loc main_arg5) (ix2 s l))
  ∧ (∀ s l, ((B m c s l : ℝ) : EReal) = m ((c.tc : Thread nD τ).loc main_arg6) (ix2 s l))

theorem idx0 : ∀ t, win0_0.index t = ![t.val, 0] := (by decide +kernel : ∀ t : Fin grid0.N, _)
theorem idx1 : ∀ t, win0_1.index t = ![t.val, 0] := (by decide +kernel : ∀ t : Fin grid0.N, _)
theorem idx7 : ∀ t, win0_7.index t = ![t.val, 0] := (by decide +kernel : ∀ t : Fin grid0.N, _)
theorem idx9 : ∀ t, win0_9.index t = ![t.val, 0] := (by decide +kernel : ∀ t : Fin grid0.N, _)
theorem idx2 : ∀ t, win0_2.index t = ![0, 0] := (by decide +kernel : ∀ t : Fin grid0.N, _)
theorem idx3 : ∀ t, win0_3.index t = ![0, t.val, 0] := (by decide +kernel : ∀ t : Fin grid0.N, _)
theorem idx4 : ∀ t, win0_4.index t = ![0, t.val, 0] := (by decide +kernel : ∀ t : Fin grid0.N, _)
theorem idx5 : ∀ t, win0_5.index t = ![0, 0, 0] := (by decide +kernel : ∀ t : Fin grid0.N, _)
theorem idx6 : ∀ t, win0_6.index t = ![0, 0, 0] := (by decide +kernel : ∀ t : Fin grid0.N, _)

/-- Row `r` of grid point `t`'s block. -/
abbrev row (t : Fin cfg0.N) (r : Fin 512) : Fin 8192 := ⟨t.val * 512 + r, by have := lt_of_lt_of_eq t.isLt N_0; omega⟩

variable {m} (hm : Finite m)
include hm

/-- The blocks a grid point reads. -/
theorem blk0 (c : Dev nD) (t : Fin cfg0.N) (r : Fin 512) (l : Fin 1024) : iblk m c 0 t (ix2 r l) = (X m c (row t r) l : EReal) := by
  rw [(hm c).1]
  blk_point [iblk, V, idx0 t]
theorem blk1 (c : Dev nD) (t : Fin cfg0.N) (r : Fin 512) (l : Fin 1024) : iblk m c 1 t (ix2 r l) = (D m c (row t r) l : EReal) := by
  rw [(hm c).2.1]
  blk_point [iblk, V, idx1 t]
theorem blk2 (c : Dev nD) (t : Fin cfg0.N) (l : Fin 1024) : iblk m c 2 t (ix2 0 l) = (G m c l : EReal) := by
  rw [(hm c).2.2.1]
  blk_point [iblk, V, idx2 t]
theorem V_A (c : Dev nD) (j : Fin 4) (s : Fin 8192) (k : Fin 704) : V m c main_v2 (ix3 j s k) = (A m c s (col j k) : EReal) := by
  rw [(hm c).2.2.2.2.2.1]
  simp only [V, hostOps0, List.flatten_cons, List.flatten_nil, List.append_nil, List.cons_append, List.nil_append]
  after_results
  exact shards_at (m (c, Proc.tc.devRef main_arg5)) j s k
theorem blk3 (c : Dev nD) (t : Fin cfg0.N) (j : Fin 4) (r : Fin 512) (k : Fin 704) :
    iblk m c 3 t (ix3 j r k) = (A m c (row t r) (col j k) : EReal) := by
  rw [← V_A hm]
  blk_point [iblk, idx3 t]
theorem V_B (c : Dev nD) (j : Fin 4) (s : Fin 8192) (k : Fin 704) : V m c main_v5 (ix3 j s k) = (B m c s (col j k) : EReal) := by
  rw [(hm c).2.2.2.2.2.2]
  simp only [V, hostOps0, List.flatten_cons, List.flatten_nil, List.append_nil, List.cons_append, List.nil_append]
  after_results
  exact shards_at (m (c, Proc.tc.devRef main_arg6)) j s k
theorem blk4 (c : Dev nD) (t : Fin cfg0.N) (j : Fin 4) (r : Fin 512) (k : Fin 704) :
    iblk m c 4 t (ix3 j r k) = (B m c (row t r) (col j k) : EReal) := by
  rw [← V_B hm]
  blk_point [iblk, idx4 t]
theorem V_Wg (c : Dev nD) (j : Fin 4) (s : Fin 1024) (k : Fin 704) : V m c main_v8 (ix3 j s k) = (Wg m c s (col j k) : EReal) := by
  rw [(hm c).2.2.2.1]
  simp only [V, hostOps0, List.flatten_cons, List.flatten_nil, List.append_nil, List.cons_append, List.nil_append]
  after_results
  exact wshards_at (m (c, Proc.tc.devRef main_arg3)) j s k
theorem blk5 (c : Dev nD) (t : Fin cfg0.N) (j : Fin 4) (r : Fin 1024) (k : Fin 704) :
    iblk m c 5 t (ix3 j r k) = (Wg m c r (col j k) : EReal) := by
  rw [← V_Wg hm]
  blk_point [iblk, idx5 t]
theorem V_Wu (c : Dev nD) (j : Fin 4) (s : Fin 1024) (k : Fin 704) : V m c main_v11 (ix3 j s k) = (Wu m c s (col j k) : EReal) := by
  rw [(hm c).2.2.2.2.1]
  simp only [V, hostOps0, List.flatten_cons, List.flatten_nil, List.append_nil, List.cons_append, List.nil_append]
  after_results
  exact wshards_at (m (c, Proc.tc.devRef main_arg4)) j s k
theorem blk6 (c : Dev nD) (t : Fin cfg0.N) (j : Fin 4) (r : Fin 1024) (k : Fin 704) :
    iblk m c 6 t (ix3 j r k) = (Wu m c r (col j k) : EReal) := by
  rw [← V_Wu hm]
  blk_point [iblk, idx6 t]

omit hm in
/-- A row's cotangent of the normalised row times the gain. -/
abbrev E (m : (ℓ : Loc nD τ sig) → Buf (Elt Ideal) ℓ) (c : Dev nD) (s : Fin 8192) : Fin 1024 → ℝ := dh (Wg m c) (Wu m c) (A m c s) (B m c s)

/-- The products a grid point computes. -/
theorem dh_point (c : Dev nD) (t : Fin cfg0.N) (r : Fin 512) (l : Fin 1024) :
    k0_pay9 (F := Ideal) (k0_pay7 (group (iblk m c 3 t) 0) (group (iblk m c 5 t) 0) (group (iblk m c 4 t) 0) (group (iblk m c 6 t) 0) (group (iblk m c 3 t) 1) (group (iblk m c 5 t) 1))
      (k0_pay8 (group (iblk m c 4 t) 1) (group (iblk m c 6 t) 1)) (group (iblk m c 3 t) 2) (group (iblk m c 5 t) 2) (group (iblk m c 4 t) 2) (group (iblk m c 6 t) 2) (group (iblk m c 3 t) 3) (group (iblk m c 5 t) 3) (group (iblk m c 4 t) 3) (group (iblk m c 6 t) 3) (ix2 r l)
      = (E m c (row t r) l : EReal) :=
  dh_pay (a := group (iblk m c 3 t)) (b := group (iblk m c 4 t)) (g := group (iblk m c 5 t)) (u := group (iblk m c 6 t)) (A := fun r => A m c (row t r))
    (B := fun r => B m c (row t r)) (blk3 hm c t) (blk4 hm c t) (blk5 hm c t) (blk6 hm c t) r l

/-- A grid point's rows of the gradient. -/
theorem dx_point (c : Dev nD) (t : Fin cfg0.N) (r : Fin 512) (l : Fin 1024) :
    (outsAt0 m c t.val t.isLt).1 (ix2 r l) = (dx (X m c (row t r)) (G m c) (D m c (row t r)) (E m c (row t r)) l : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    simp (disch := decide) only [ld_group]
    exact dx_pay (dh_point hm c t) (blk0 hm c t) (blk1 hm c t) (blk2 hm c t) r l

/-- … and of the norm. -/
theorem h_point (c : Dev nD) (t : Fin cfg0.N) (r : Fin 512) (l : Fin 1024) :
    (outsAt0 m c t.val t.isLt).2.2 (ix2 r l) = ((X m c (row t r) l * inv (X m c (row t r)) * G m c l : ℝ) : EReal) := by
  by_cases h : t.val % 16 = 0
  all_goals
    first | rw [outsAt0_A m c t h] | rw [outsAt0_B m c t h]
    frame_open
    simp (disch := decide) only [↓ View.readCov_skip, ↓ View.readCov_cons_toLoadRect, ↓ View.readCov_fill]
    frame_out
    exact h_pay (X := fun r => X m c (row t r)) (blk0 hm c t) (blk2 hm c t) r l

/-- The gain's gradient: a grid point after the first adds its rows' parts. -/
theorem dg_step (c : Dev nD) (t : Fin cfg0.N) (h : ¬ t.val % 16 = 0) (j : Fin 1) (l : Fin 1024) :
    (outsAt0 m c t.val t.isLt).2.1 (ix2 j l)
      = (outsAt0 m c (t.val - 1) (Nat.lt_of_le_of_lt (Nat.sub_le _ _) t.isLt)).2.1 (ix2 j l)
        + ((∑ r, dg (X m c (row t r)) (E m c (row t r)) l : ℝ) : EReal) := by
  obtain rfl : j = 0 := Subsingleton.elim _ _
  rw [outsAt0_B m c t h]
  frame_open
  simp (disch := decide) only [↓ View.readCov_skip, ↓ View.readCov_cons_toLoadRect, ↓ View.readCov_fill]
  frame_out
  simp (disch := decide) only [ld_group]
  exact dg_pay (dh_point hm c t) (blk0 hm c t) _ l

/-- The first grid point starts it from zero. -/
theorem dg_first (c : Dev nD) (t : Fin cfg0.N) (h : t.val % 16 = 0) (j : Fin 1) (l : Fin 1024) :
    (outsAt0 m c t.val t.isLt).2.1 (ix2 j l) = 0 + ((∑ r, dg (X m c (row t r)) (E m c (row t r)) l : ℝ) : EReal) := by
  obtain rfl : j = 0 := Subsingleton.elim _ _
  rw [outsAt0_A m c t h]
  frame_open
  simp (disch := decide) only [↓ View.readCov_skip, ↓ View.readCov_cons_toLoadRect, ↓ View.readCov_fill]
  frame_out
  simp (disch := decide) only [ld_group]
  refine (dg_pay (dh_point hm c t) (blk0 hm c t) _ l).trans (congrArg (· + _) ?_)
  pointwise [k0_pay6]

end Cert.FfnInBwdIdeal.Hand
-- ==== Proof.FfnIn.Array.lean ====
/- The input projections' gradients as whole arrays, as functions of the entry arguments. -/
module
public import proofs.«01_k».proof.Proof.FfnIn.Block

@[expose] public section

set_option maxRecDepth 16384

noncomputable section

namespace Cert.FfnInBwdIdeal.Hand

open Cert.Loss (inv)
open Cert.InProj (dx dg)
open Cert.Ffn Cert.FfnInBwdIdeal Cert.FfnInBwdIdeal.Gen Idealize.ShloMosaic Idealize.ShloMosaic.TcCoe Idealize.SL.Sem
open Idealize.ShloMosaic.Pipeline (Dat)

variable {m : (ℓ : Loc nD τ sig) → Buf (Elt Ideal) ℓ} (hm : Finite m)

/-- The points' rows are all rows. -/
theorem sum_rows (f : Fin 8192 → ℝ) : ∑ t : Fin cfg0.N, ∑ r, f (row t r) = ∑ s, f s :=
  Fin.sum_mul_add_congr fun t k hl => rfl

include hm

/-- The array of the gradient. -/
theorem final_dx (c : Dev nD) : (dats m 0 c).arrAt 7 (cfgs 0).N
    = fun i : S8192x1024.Idx => ((dx (X m c (i 0)) (G m c) (D m c (i 0)) (E m c (i 0)) (i 1) : ℝ) : EReal) := by
  refine (dats m 0 c).arrAt_eq_of_covers 7 _ (by decide +kernel) fun t hf y => ?_
  idx_vars y
  blk_simp
  rw [after0_7]
  have e0 : (win0_7.blk t).view.emb (ix2 y0 y1) 0 = row t y0 := Fin.ext (by blk_simp [idx7 t])
  have e1 : (win0_7.blk t).view.emb (ix2 y0 y1) 1 = y1 := Fin.ext (by blk_simp [idx7 t])
  rw [e0, e1]
  exact dx_point hm c t y0 y1

/-- The array of the norm. -/
theorem final_h (c : Dev nD) : (dats m 0 c).arrAt 9 (cfgs 0).N
    = fun i : S8192x1024.Idx => ((X m c (i 0) (i 1) * inv (X m c (i 0)) * G m c (i 1) : ℝ) : EReal) := by
  refine (dats m 0 c).arrAt_eq_of_covers 9 _ (by decide +kernel) fun t hf y => ?_
  idx_vars y
  blk_simp
  rw [after0_9]
  have e0 : (win0_9.blk t).view.emb (ix2 y0 y1) 0 = row t y0 := Fin.ext (by blk_simp [idx9 t])
  have e1 : (win0_9.blk t).view.emb (ix2 y0 y1) 1 = y1 := Fin.ext (by blk_simp [idx9 t])
  rw [e0, e1]
  exact h_point hm c t y0 y1

/-- The gain's gradient. -/
theorem final_dg (c : Dev nD) : (dats m 0 c).arrAt 8 (cfgs 0).N
    = fun i : S1x1024.Idx => ((∑ s, dg (X m c s) (E m c s) (i 1) : ℝ) : EReal) := by
  refine (dats m 0 c).arrAt_eq_of_after_last 8 t0_15 (by decide +kernel) _ fun j => ?_
  blk_simp
  idx_vars j
  rw [after0_8, Pipeline.eq_sum_fin_of_reset_step_apply_last (fun n h (i : Fin 1 × Fin 1024) => (outsAt0 m c n h).2.1 (ix2 i.1 i.2)) 16 (fun _ => 0)
    (fun t i => ((∑ r, dg (X m c (row t r)) (E m c (row t r)) i.2 : ℝ) : EReal))
    (fun t h i => dg_first hm c t h i.1 i.2) (fun t h i => dg_step hm c t h i.1 i.2) (le_of_eq N_0) t0_15 rfl (j0, j1), zero_add, Reals.sum,
    sum_rows fun s => dg (X m c s) (E m c s) j1]

end Cert.FfnInBwdIdeal.Hand
-- ==== Proof.FfnIn.Ref.lean ====
/- The reference at real arguments: the derivative of the norm followed by the two projections, and the norm. -/
module
public import proofs.«01_k».proof.Proof.Ffn.Model
public import proofs.«01_k».proof.Proof.Gen.FfnInRefIdeal.Read
public import Idealize.ShloMosaic.Lib.Pipeline.ValueKit

@[expose] public section

set_option maxRecDepth 16384

noncomputable section

namespace Cert.FfnInRefIdeal.Hand

open Cert.Loss (inv inv_def arg_pos grad_eq)
open Cert.InProj (dx dg)
open Cert.Ffn Cert.FfnInRefIdeal Cert.FfnInRefIdeal.Read Idealize.ShloMosaic Idealize.ShloMosaic.TcCoe

variable {x0 x1 : (⟨S8192x1024, .f32⟩ : BufTy).Contents (Elt Ideal)} {x2 : (⟨S1x1024, .f32⟩ : BufTy).Contents (Elt Ideal)}
  {x3 x4 : (⟨S1024x2816, .f32⟩ : BufTy).Contents (Elt Ideal)} {x5 x6 : (⟨S8192x2816, .f32⟩ : BufTy).Contents (Elt Ideal)}
  {X D : Fin 8192 → Fin 1024 → ℝ} {G : Fin 1024 → ℝ} {Wg Wu : Fin 1024 → Fin 2816 → ℝ} {A B : Fin 8192 → Fin 2816 → ℝ}
  (hx : ∀ s l, x0 (ix2 s l) = (X s l : EReal)) (hd : ∀ s l, x1 (ix2 s l) = (D s l : EReal)) (hg : ∀ l, x2 (ix2 0 l) = (G l : EReal))
  (hwg : ∀ l n, x3 (ix2 l n) = (Wg l n : EReal)) (hwu : ∀ l n, x4 (ix2 l n) = (Wu l n : EReal))
  (ha : ∀ s n, x5 (ix2 s n) = (A s n : EReal)) (hb : ∀ s n, x6 (ix2 s n) = (B s n : EReal))

include hwg hwu ha hb

/-- The products with the transposed matrices. -/
theorem dh_at (s : Fin 8192) (l : Fin 1024) : val_main_v19 (F := Ideal) x3 x4 x5 x6 (ix2 s l) = (dh Wg Wu (A s) (B s) l : EReal) := by
  pointwise [val_main_v19, val_main_v17, val_main_v18]
  simp only [ha, hb, hwg, hwu, Reals.mul, Reals.add, Reals.sum]
  rw [dh, add_comm]

include hx

/-- The gain's gradient. -/
theorem dg_at (j : Fin 1) (l : Fin 1024) :
    val_main_v22 (F := Ideal) x0 x3 x4 x5 x6 (ix2 j l) = ((∑ s, dg (X s) (dh Wg Wu (A s) (B s)) l : ℝ) : EReal) := by
  have p := fun s => arg_pos (X s)
  pointwise [val_main_v22, val_main_v21, val_main_v20, val_main_v12, val_main_v11, val_main_v7, val_main_v6, val_main_v4, val_main_v2, val_main_v1, val_main_v0,
    val_main_cst, val_main_v3, val_main_cst_0, val_main_v5, val_main_cst_1, val_main_cst_3]
  simp (disch := first | exact p _ | exact (p _).ne' | norm_num) only [dh_at hwg hwu ha hb, hx, Reals.lit_1024, Reals.lit_eps, Reals.mul, Reals.add,
    Reals.sum, Reals.div, Reals.rsqrt, inv_def, Finset.univ_unique, Finset.sum_singleton]
  refine congrArg _ (Finset.sum_congr rfl fun s _ => ?_)
  simp only [dg]
  ring

include hd hg

/-- The row's gradient. -/
theorem dx_at (s : Fin 8192) (l : Fin 1024) :
    val_main_v39 (F := Ideal) x0 x1 x2 x3 x4 x5 x6 (ix2 s l) = (dx (X s) G (D s) (dh Wg Wu (A s) (B s)) l : EReal) := by
  have p := arg_pos (X s)
  pointwise [val_main_v39, val_main_v37, val_main_v30, val_main_v29, val_main_v24, val_main_v23, val_main_v28, val_main_v7, val_main_v6, val_main_v4, val_main_v2,
    val_main_v1, val_main_v0, val_main_cst, val_main_v3, val_main_cst_0, val_main_v5, val_main_cst_1, val_main_v36, val_main_v35, val_main_v34,
    val_main_v33, val_main_v31, val_main_v27, val_main_v26, val_main_v25, val_main_cst_4, val_main_v10, val_main_v9, val_main_cst_2, val_main_v8,
    val_main_v32, val_main_cst_5, val_main_cst_6, val_main_v38]
  simp (disch := first | exact p | exact p.ne' | norm_num) only [dh_at hwg hwu ha hb, hx, hd, hg, Reals.lit_1024, Reals.lit_eps, Reals.lit_half,
    Reals.lit_neg_half, Reals.lit_zero, Reals.mul, Reals.add, Reals.sub, Reals.sum, Reals.div, Reals.rsqrt, inv_def, Finset.univ_unique,
    Finset.sum_singleton]
  have e := grad_eq (X s) (fun k => dh Wg Wu (A s) (B s) k * G k) l
  refine congrArg _ ?_
  rw [dx]
  linear_combination e

omit hwg hwu ha hb hd

/-- The normalised row times the gain. -/
theorem h_at (s : Fin 8192) (l : Fin 1024) : val_main_v52 (F := Ideal) x0 x2 (ix2 s l) = ((X s l * inv (X s) * G l : ℝ) : EReal) := by
  have p := arg_pos (X s)
  pointwise [val_main_v52, val_main_v51, val_main_v49, val_main_v48, val_main_v47, val_main_v46, val_main_v44, val_main_v42, val_main_v41, val_main_v40,
    val_main_cst_7, val_main_v43, val_main_cst_8, val_main_v45, val_main_cst_9, val_main_v50]
  simp (disch := first | exact p | norm_num) only [hx, hg, Reals.lit_1024, Reals.lit_eps, Reals.mul, Reals.add, Reals.sum, Reals.div, Reals.rsqrt,
    inv_def]

end Cert.FfnInRefIdeal.Hand
-- ==== Proof.FfnIn.Claim.lean ====
/- The gradient of an FFN's norm and its two input projections: the kernel computes the derivative of the forward lines. -/
module
public import proofs.«01_k».proof.Proof.FfnIn.Array
public import proofs.«01_k».proof.Proof.FfnIn.Ref
public import proofs.«01_k».proof.Proof.Gen.FfnInBwd.Frame
public import proofs.«01_k».proof.Defs

@[expose] public section

set_option maxRecDepth 16384

noncomputable section

namespace Cert.FfnIn

open Idealize.ShloMosaic Idealize.ShloMosaic.TcCoe Idealize.SL.Sem

/-- The shape facts the precondition states. -/
instance pre_facts : Cert.Pre_ffn_in_finite.Facts := ⟨by decide, by decide, by decide, by decide⟩

/-- The precondition says that the arguments are real numbers. -/
theorem finite [Cert.Pre_ffn_in_finite.Facts] {m : (ℓ : Loc Cert.FfnInBwdIdeal.nD Cert.FfnInBwdIdeal.τ Cert.FfnInBwdIdeal.sig) → Buf (Elt Ideal) ℓ}
    (h : Cert.Pre_FfnInBwdIdeal_ffn_in_finite m) : Cert.FfnInBwdIdeal.Hand.Finite m := fun c => by
  obtain ⟨h0, h1, h2, h3, h4, h5, h6⟩ := h c
  exact ⟨fun s l => Reals.exists_real (congrFun h0 (ix2 s l)),
    fun s l => Reals.exists_real (congrFun h1 (ix2 s l)),
    fun l => Reals.exists_real (congrFun h2 (ix2 0 l)),
    fun s l => Reals.exists_real (congrFun h3 (ix2 s l)),
    fun s l => Reals.exists_real (congrFun h4 (ix2 s l)),
    fun s l => Reals.exists_real (congrFun h5 (ix2 s l)),
    fun s l => Reals.exists_real (congrFun h6 (ix2 s l))⟩

/-- The reference runs to the end and leaves its arguments unchanged. -/
theorem frame_ref : Cert.quiescent_FfnInRefIdeal := fun m ρ _ =>
  (θ_run Cert.FfnInRefIdeal.defs _ _).mono (fun r h => ⟨fun c => (h c).2.2.2, sem_eq_zero_of_no_sems (by decide) r.2⟩)
    (Cert.FfnInRefIdeal.Value.run m ρ)

/-- The kernel's three results are the reference's three results, on real arguments. -/
theorem algebraic [Cert.Pre_ffn_in_finite.Facts] : Cert.algebraic_FfnInBwdIdeal_FfnInRefIdeal_pre_ffn_in_finite := fun m ρ m' ρ' hp hag =>
  ⟨_, _, _, Cert.FfnInBwdIdeal.Value.run_blocks m ρ, (θ_run _ _ _).mono (fun r h c => by
    obtain ⟨h0, h1, h2, h3⟩ := h c
    obtain ⟨a0, a1, a2, a3, a4, a5, a6⟩ := hag c
    have hm := finite hp
    obtain ⟨f0, f1, f2, f3, f4, f5, f6⟩ := hm c
    refine ⟨h0.trans ?_, h1.trans ?_, h2.trans ?_, h3⟩ <;> clear h0 h1 h2 h3 h
    · rw [Cert.FfnInRefIdeal.Read.val_main_v39_eq]
      change Cert.FfnInRefIdeal.Read.val_main_v39 (m' (c.tc.loc Cert.FfnInRefIdeal.main_arg0)) (m' (c.tc.loc Cert.FfnInRefIdeal.main_arg1)) (m' (c.tc.loc Cert.FfnInRefIdeal.main_arg2)) (m' (c.tc.loc Cert.FfnInRefIdeal.main_arg3)) (m' (c.tc.loc Cert.FfnInRefIdeal.main_arg4)) (m' (c.tc.loc Cert.FfnInRefIdeal.main_arg5)) (m' (c.tc.loc Cert.FfnInRefIdeal.main_arg6)) = _
      rw [a0, a1, a2, a3, a4, a5, a6]
      refine Eq.trans ?_ (Cert.FfnInBwdIdeal.Hand.final_dx hm c).symm
      funext i
      idx_vars i
      exact Cert.FfnInRefIdeal.Hand.dx_at (fun s l => (f0 s l).symm) (fun s l => (f1 s l).symm) (fun l => (f2 l).symm) (fun s l => (f3 s l).symm) (fun s l => (f4 s l).symm) (fun s l => (f5 s l).symm) (fun s l => (f6 s l).symm) i0 i1
    · rw [Cert.FfnInRefIdeal.Read.val_main_v22_eq]
      change Cert.FfnInRefIdeal.Read.val_main_v22 (m' (c.tc.loc Cert.FfnInRefIdeal.main_arg0)) (m' (c.tc.loc Cert.FfnInRefIdeal.main_arg3)) (m' (c.tc.loc Cert.FfnInRefIdeal.main_arg4)) (m' (c.tc.loc Cert.FfnInRefIdeal.main_arg5)) (m' (c.tc.loc Cert.FfnInRefIdeal.main_arg6)) = _
      rw [a0, a3, a4, a5, a6]
      refine Eq.trans ?_ (Cert.FfnInBwdIdeal.Hand.final_dg hm c).symm
      funext i
      idx_vars i
      exact Cert.FfnInRefIdeal.Hand.dg_at (fun s l => (f0 s l).symm) (fun s l => (f3 s l).symm) (fun s l => (f4 s l).symm) (fun s l => (f5 s l).symm) (fun s l => (f6 s l).symm) i0 i1
    · rw [Cert.FfnInRefIdeal.Read.val_main_v52_eq]
      change Cert.FfnInRefIdeal.Read.val_main_v52 (m' (c.tc.loc Cert.FfnInRefIdeal.main_arg0)) (m' (c.tc.loc Cert.FfnInRefIdeal.main_arg2)) = _
      rw [a0, a2]
      refine Eq.trans ?_ (Cert.FfnInBwdIdeal.Hand.final_h hm c).symm
      funext i
      idx_vars i
      exact Cert.FfnInRefIdeal.Hand.h_at (fun s l => (f0 s l).symm) (fun l => (f2 l).symm) i0 i1)
    (Cert.FfnInRefIdeal.Value.run m' ρ')⟩

end Cert.FfnIn
-- ==== Proof.Ffn.Hidden.lean ====
/- The gradient of an FFN's gate over the real numbers: the two projections of the normalised row, the cotangent that comes back through the output
   projection, and the gradients of the gate's and of the linear branch's input. -/
module
public import proofs.«01_k».proof.Proof.Ffn.Model
public import proofs.«01_k».proof.Proof.GdnPrep.Model

@[expose] public section

noncomputable section

namespace Cert.Ffn

open Cert.Loss (inv)
open Cert.GdnPrep (sig)

variable (x g d : Fin 1024 → ℝ) (Wg Wu : Fin 1024 → Fin 2816 → ℝ) (Wd : Fin 2816 → Fin 1024 → ℝ)

/-- A projection of the normalised row times the gain. -/
def proj (n : Fin 2816) : ℝ := ∑ l, x l * inv x * g l * Wg l n

/-- The cotangent of a hidden entry: half the row's cotangent through the output projection. -/
def dfv (n : Fin 2816) : ℝ := ∑ l, 1 / 2 * d l * Wd n l

/-- The gate's factor, as the forward saves it: the derivative of x·σ(x), times the linear branch. -/
def fa (n : Fin 2816) : ℝ :=
  sig (proj x g Wg n) * proj x g Wu n + proj x g Wg n * sig (proj x g Wg n) * proj x g Wu n * (1 - sig (proj x g Wg n))

/-- The linear branch's factor. -/
def fb (n : Fin 2816) : ℝ := proj x g Wg n * sig (proj x g Wg n)

/-- The gradients of the gate's input and of the linear branch. -/
def da (n : Fin 2816) : ℝ := dfv d Wd n * fa x g Wg Wu n
def db (n : Fin 2816) : ℝ := dfv d Wd n * fb x g Wg n

end Cert.Ffn
-- ==== Proof.FfnHidden.Pay.lean ====
/- The kernel's payload on blocks of real numbers: a group's product with the output projection's rows, times the saved factor. -/
module
public import proofs.«01_k».proof.Proof.Ffn.Hidden
public import proofs.«01_k».proof.Proof.Gen.FfnHiddenBwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.FfnHiddenBwdIdeal.Hand

open Cert.Ffn Cert.FfnHiddenBwdIdeal Cert.FfnHiddenBwdIdeal.Gen Idealize.ShloMosaic Idealize.ShloMosaic.TcCoe Idealize.SL.Sem
open Idealize.ShloMosaic.Pipeline (Dat)

/-- A group's gradient: the product over the row, times the factor. -/
theorem pay_at {v : Vec Ideal S512x1024 .bf16} {w : Vec Ideal S1x704x1024 .bf16} {f : Vec Ideal S1x512x704 .bf16} {D : Fin 512 → Fin 1024 → ℝ}
    {W : Fin 704 → Fin 1024 → ℝ} {P : Fin 512 → Fin 704 → ℝ} (hv : ∀ r l, v (ix2 r l) = ((1 / 2 * D r l : ℝ) : EReal)) (hw : ∀ k l, w (ix3 0 k l) = (W k l : EReal))
    (hf : ∀ r k, f (ix3 0 r k) = (P r k : EReal)) (r : Fin 512) (k : Fin 704) :
    k0_pay6 (F := Ideal) v w f (ix3 0 r k) = (((∑ l, 1 / 2 * D r l * W k l) * P r k : ℝ) : EReal) := by
  pointwise [k0_pay6, k0_pay5, k0_pay4]
  simp only [hv, hw, hf, Reals.lit_zero, Reals.mul, Reals.add, Reals.sum, zero_add]

section Same

variable (v : Vec Ideal S512x1024 .bf16) (w : Vec Ideal S1x704x1024 .bf16) (f : Vec Ideal S1x512x704 .bf16)

/-- The other groups' payloads, and the second output's, are the same lines. -/
theorem pay7_eq : k0_pay7 (F := Ideal) v w f = k0_pay6 v w f := rfl
theorem pay10_eq : k0_pay10 (F := Ideal) (k0_pay9 v w f) = k0_pay6 v w f := rfl
theorem pay11_eq : k0_pay11 (F := Ideal) (k0_pay8 v w) f = k0_pay6 v w f := rfl
theorem pay13_eq : k0_pay13 (F := Ideal) (k0_pay4 v) w f = k0_pay6 v w f := rfl
theorem pay14_eq : k0_pay14 (F := Ideal) (k0_pay4 v) w f = k0_pay6 v w f := rfl
theorem pay2_eq : k0_pay2 (F := Ideal) (k0_pay4 v) w f = k0_pay6 v w f := rfl
theorem pay3_eq : k0_pay3 (F := Ideal) (k0_pay4 v) w f = k0_pay6 v w f := rfl

end Same

end Cert.FfnHiddenBwdIdeal.Hand
-- ==== Proof.FfnHidden.Host.lean ====
/- The values the forward saves, as the host computes them from real arguments: the normalised row's two projections and the gate's two factors. -/
module
public import proofs.«01_k».proof.Proof.FfnHidden.Pay

@[expose] public section

set_option maxRecDepth 16384

noncomputable section

namespace Cert.FfnHiddenBwdIdeal.Hand

open Cert.Loss (inv inv_def arg_pos)
open Cert.GdnPrep (sig_eq)
open Cert.Ffn Cert.FfnHiddenBwdIdeal Cert.FfnHiddenBwdIdeal.Gen Idealize.ShloMosaic Idealize.ShloMosaic.TcCoe Idealize.SL.Sem

/-- The normalised row times the gain. -/
def hostH (x : FVec Ideal S8192x1024 .f32) (g : FVec Ideal S1x1024 .f32) : FVec Ideal S8192x1024 .bf16 :=
  truncf .bf16 (mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))))))
    (broadcastInDim S8192x1024 ![0, 1] bcast_S1x1024_S8192x1024_0_1 g)) bitsLt_bf16_f32

/-- A projection of it. -/
def hostP (h : FVec Ideal S8192x1024 .bf16) (w : FVec Ideal S1024x2816 .f32) : FVec Ideal S8192x2816 .f32 :=
  Host.dotGeneral dot_S8192x1024_S1024x2816_S8192x2816_1_0_0_1_n_n none h (truncf .bf16 w bitsLt_bf16_f32)

/-- The logistic function by way of tanh. -/
def hostS (a : FVec Ideal S8192x2816 .f32) : FVec Ideal S8192x2816 .f32 :=
  addf (broadcastInDim S8192x2816 ![] bcast_S_S8192x2816 (constant S_ .f32 0x3F000000#32)) (mulf (broadcastInDim S8192x2816 ![] bcast_S_S8192x2816 (constant S_ .f32 0x3F000000#32))
    (Host.tanh (mulf (broadcastInDim S8192x2816 ![] bcast_S_S8192x2816 (constant S_ .f32 0x3F000000#32)) a)))

/-- The gate's factor. -/
def hostF (a b : FVec Ideal S8192x2816 .f32) : FVec Ideal S8192x2816 .f32 :=
  addf (mulf (hostS a) b) (mulf (mulf (mulf a (hostS a)) b) (subf (broadcastInDim S8192x2816 ![] bcast_S_S8192x2816 (constant S_ .f32 0x3F800000#32)) (hostS a)))

/-- Columns in four groups. -/
def hostG (w : FVec Ideal S8192x2816 .f32) : FVec Ideal S4x8192x704 .bf16 :=
  truncf .bf16 (transpose S4x8192x704 [1, 0, 2] (shapeCast S8192x4x704 w shapeCasts_S8192x2816_S8192x4x704) transposes_S8192x4x704_S4x8192x704_1_0_2) bitsLt_bf16_f32

theorem hostG_at (w : FVec Ideal S8192x2816 .f32) (j : Fin 4) (s : Fin 8192) (k : Fin 704) : hostG w (ix3 j s k) = w (ix2 s (col j k)) := by
  pointwise [hostG]

/-- The output projection's rows in four groups. -/
theorem rows_at (w : FVec Ideal S2816x1024 .f32) (j : Fin 4) (k : Fin 704) (l : Fin 1024) :
    truncf .bf16 (shapeCast S4x704x1024 w shapeCasts_S2816x1024_S4x704x1024) bitsLt_bf16_f32 (ix3 j k l) = w (ix2 (col j k) l) := by
  pointwise []

/-- Half the cotangent. -/
theorem half_at (d : FVec Ideal S8192x1024 .f32) {D : Fin 8192 → Fin 1024 → ℝ} (hd : ∀ s l, d (ix2 s l) = (D s l : EReal)) (s : Fin 8192) (l : Fin 1024) :
    truncf .bf16 (mulf (broadcastInDim S8192x1024 ![] bcast_S_S8192x1024 (constant S_ .f32 0x3F000000#32)) d) bitsLt_bf16_f32 (ix2 s l) = ((1 / 2 * D s l : ℝ) : EReal) := by
  pointwise []
  simp only [hd, Reals.lit_half, Reals.mul]

variable {x : FVec Ideal S8192x1024 .f32} {g : FVec Ideal S1x1024 .f32} {wg wu : FVec Ideal S1024x2816 .f32} {X : Fin 8192 → Fin 1024 → ℝ} {G : Fin 1024 → ℝ}
  {Wg Wu : Fin 1024 → Fin 2816 → ℝ} (hx : ∀ s l, x (ix2 s l) = (X s l : EReal)) (hg : ∀ l, g (ix2 0 l) = (G l : EReal))
  (hwg : ∀ l n, wg (ix2 l n) = (Wg l n : EReal)) (hwu : ∀ l n, wu (ix2 l n) = (Wu l n : EReal))

include hx hg

theorem hostH_at (s : Fin 8192) (l : Fin 1024) : hostH x g (ix2 s l) = ((X s l * inv (X s) * G l : ℝ) : EReal) := by
  have p := arg_pos (X s)
  pointwise [hostH]
  simp (disch := first | exact p | norm_num) only [hx, hg, Reals.lit_1024, Reals.lit_eps, Reals.mul, Reals.add, Reals.sum, Reals.div, Reals.rsqrt, inv_def]

include hwg

theorem hostP_at (s : Fin 8192) (n : Fin 2816) : hostP (hostH x g) wg (ix2 s n) = (proj (X s) G Wg n : EReal) := by
  pointwise [hostP]
  simp only [hostH_at hx hg, hwg, Reals.mul, Reals.sum]
  rfl

theorem hostS_at (s : Fin 8192) (n : Fin 2816) : hostS (hostP (hostH x g) wg) (ix2 s n) = (GdnPrep.sig (proj (X s) G Wg n) : EReal) := by
  pointwise [hostS]
  simp only [hostP_at hx hg hwg, Reals.lit_half, Reals.mul, Reals.add, Ideal.tanh_coe, sig_eq]

/-- The linear branch's factor, in groups. -/
theorem fb_at (j : Fin 4) (s : Fin 8192) (k : Fin 704) :
    hostG (mulf (hostP (hostH x g) wg) (hostS (hostP (hostH x g) wg))) (ix3 j s k) = (fb (X s) G Wg (col j k) : EReal) := by
  rw [hostG_at]
  pointwise []
  simp only [hostP_at hx hg hwg, hostS_at hx hg hwg, Reals.mul]
  rfl

include hwu

/-- The gate's factor, in groups. -/
theorem fa_at (j : Fin 4) (s : Fin 8192) (k : Fin 704) :
    hostG (hostF (hostP (hostH x g) wg) (hostP (hostH x g) wu)) (ix3 j s k) = (fa (X s) G Wg Wu (col j k) : EReal) := by
  rw [hostG_at]
  pointwise [hostF]
  simp only [hostP_at hx hg hwg, hostP_at hx hg hwu, hostS_at hx hg hwg, Reals.lit_one, Reals.mul, Reals.add, Reals.sub]
  rfl

end Cert.FfnHiddenBwdIdeal.Hand
-- ==== Proof.FfnHidden.Block.lean ====
/- One grid point of the gate's gradient: the rows it reads are real numbers, and what it writes to each output. -/
module
public import proofs.«01_k».proof.Proof.FfnHidden.Host
public import proofs.«01_k».proof.Proof.Groups

@[expose] public section

set_option maxRecDepth 16384

noncomputable section

namespace Cert.FfnHiddenBwdIdeal.Hand

open Cert.Groups Cert.Ffn Cert.FfnHiddenBwdIdeal Cert.FfnHiddenBwdIdeal.Gen Idealize.ShloMosaic Idealize.ShloMosaic.TcCoe Idealize.SL.Sem
open Idealize.ShloMosaic.Pipeline (Dat)

variable (m : (ℓ : Loc nD τ sig) → Buf (Elt Ideal) ℓ)

/-- The arguments as real functions of row and column. -/
abbrev X (c : Dev nD) (s : Fin 8192) (l : Fin 1024) : ℝ := (m ((c.tc : Thread nD τ).loc main_arg0) (ix2 s l) : EReal).toReal
abbrev G (c : Dev nD) (l : Fin 1024) : ℝ := (m ((c.tc : Thread nD τ).loc main_arg1) (ix2 0 l) : EReal).toReal
abbrev Wg (c : Dev nD) (s : Fin 1024) (l : Fin 2816) : ℝ := (m ((c.tc : Thread nD τ).loc main_arg2) (ix2 s l) : EReal).toReal
abbrev Wu (c : Dev nD) (s : Fin 1024) (l : Fin 2816) : ℝ := (m ((c.tc : Thread nD τ).loc main_arg3) (ix2 s l) : EReal).toReal
abbrev Wd (c : Dev nD) (s : Fin 2816) (l : Fin 1024) : ℝ := (m ((c.tc : Thread nD τ).loc main_arg4) (ix2 s l) : EReal).toReal
abbrev D (c : Dev nD) (s : Fin 8192) (l : Fin 1024) : ℝ := (m ((c.tc : Thread nD τ).loc main_arg5) (ix2 s l) : EReal).toReal

/-- The arguments hold real numbers. -/
def Finite : Prop := ∀ c, (∀ s l, ((X m c s l : ℝ) : EReal) = m ((c.tc : Thread nD τ).loc main_arg0) (ix2 s l))
  ∧ (∀ l, ((G m c l : ℝ) : EReal) = m ((c.tc : Thread nD τ).loc main_arg1) (ix2 0 l))
  ∧ (∀ s l, ((Wg m c s l : ℝ) : EReal) = m ((c.tc : Thread nD τ).loc main_arg2) (ix2 s l))
  ∧ (∀ s l, ((Wu m c s l : ℝ) : EReal) = m ((c.tc : Thread nD τ).loc main_arg3) (ix2 s l))
  ∧ (∀ s l, ((Wd m c s l : ℝ) : EReal) = m ((c.tc : Thread nD τ).loc main_arg4) (ix2 s l))
  ∧ (∀ s l, ((D m c s l : ℝ) : EReal) = m ((c.tc : Thread nD τ).loc main_arg5) (ix2 s l))

theorem idx0 : ∀ t, win0_0.index t = ![t.val, 0] := (by decide +kernel : ∀ t : Fin grid0.N, _)
theorem idx1 : ∀ t, win0_1.index t = ![0, t.val, 0] := (by decide +kernel : ∀ t : Fin grid0.N, _)
theorem idx2 : ∀ t, win0_2.index t = ![0, t.val, 0] := (by decide +kernel : ∀ t : Fin grid0.N, _)
theorem idx3 : ∀ t, win0_3.index t = ![0, 0, 0] := (by decide +kernel : ∀ t : Fin grid0.N, _)
theorem idx4 : ∀ t, win0_4.index t = ![0, t.val, 0] := (by decide +kernel : ∀ t : Fin grid0.N, _)
theorem idx5 : ∀ t, win0_5.index t = ![0, t.val, 0] := (by decide +kernel : ∀ t : Fin grid0.N, _)

/-- Row `r` of grid point `t`'s block. -/
abbrev row (t : Fin cfg0.N) (r : Fin 512) : Fin 8192 := ⟨t.val * 512 + r, by have := lt_of_lt_of_eq t.isLt N_0; omega⟩

variable {m} (hm : Finite m)
include hm

/-- The arrays the host hands over. -/
theorem V_D (c : Dev nD) (s : Fin 8192) (l : Fin 1024) : V m c main_v39 (ix2 s l) = ((1 / 2 * D m c s l : ℝ) : EReal) := by
  simp only [V, hostOps0, List.flatten_cons, List.flatten_nil, List.append_nil, List.cons_append, List.nil_append]
  after_results
  exact half_at (m (c, Proc.tc.devRef main_arg5)) (fun s l => ((hm c).2.2.2.2.2 s l).symm) s l
theorem V_Wd (c : Dev nD) (j : Fin 4) (k : Fin 704) (l : Fin 1024) : V m c main_v41 (ix3 j k l) = (Wd m c (col j k) l : EReal) := by
  rw [(hm c).2.2.2.2.1]
  simp only [V, hostOps0, List.flatten_cons, List.flatten_nil, List.append_nil, List.cons_append, List.nil_append]
  after_results
  exact rows_at (m (c, Proc.tc.devRef main_arg4)) j k l
theorem V_fa (c : Dev nD) (j : Fin 4) (s : Fin 8192) (k : Fin 704) : V m c main_v33 (ix3 j s k) = (fa (X m c s) (G m c) (Wg m c) (Wu m c) (col j k) : EReal) := by
  simp only [V, hostOps0, List.flatten_cons, List.flatten_nil, List.append_nil, List.cons_append, List.nil_append]
  after_results
  exact fa_at (fun s l => ((hm c).1 s l).symm) (fun l => ((hm c).2.1 l).symm) (fun l n => ((hm c).2.2.1 l n).symm) (fun l n => ((hm c).2.2.2.1 l n).symm) j s k
theorem V_fb (c : Dev nD) (j : Fin 4) (s : Fin 8192) (k : Fin 704) : V m c main_v36 (ix3 j s k) = (fb (X m c s) (G m c) (Wg m c) (col j k) : EReal) := by
  simp only [V, hostOps0, List.flatten_cons, List.flatten_nil, List.append_nil, List.cons_append, List.nil_append]
  after_results
  exact fb_at (fun s l => ((hm c).1 s l).symm) (fun l => ((hm c).2.1 l).symm) (fun l n => ((hm c).2.2.1 l n).symm) j s k

/-- The blocks a grid point reads. -/
theorem blk0 (c : Dev nD) (t : Fin cfg0.N) (r : Fin 512) (l : Fin 1024) : iblk m c 0 t (ix2 r l) = ((1 / 2 * D m c (row t r) l : ℝ) : EReal) := by
  rw [← V_D hm]
  blk_point [iblk, idx0 t]
theorem blk1 (c : Dev nD) (t : Fin cfg0.N) (j : Fin 4) (r : Fin 512) (k : Fin 704) :
    iblk m c 1 t (ix3 j r k) = (fa (X m c (row t r)) (G m c) (Wg m c) (Wu m c) (col j k) : EReal) := by
  rw [← V_fa hm]
  blk_point [iblk, idx1 t]
theorem blk2 (c : Dev nD) (t : Fin cfg0.N) (j : Fin 4) (r : Fin 512) (k : Fin 704) :
    iblk m c 2 t (ix3 j r k) = (fb (X m c (row t r)) (G m c) (Wg m c) (col j k) : EReal) := by
  rw [← V_fb hm]
  blk_point [iblk, idx2 t]
theorem blk3 (c : Dev nD) (t : Fin cfg0.N) (j : Fin 4) (k : Fin 704) (l : Fin 1024) :
    iblk m c 3 t (ix3 j k l) = (Wd m c (col j k) l : EReal) := by
  rw [← V_Wd hm]
  blk_point [iblk, idx3 t]

/-- A grid point's rows of the gate's gradient. -/
theorem da_point (c : Dev nD) (t : Fin cfg0.N) (j : Fin 4) (r : Fin 512) (k : Fin 704) :
    out0_4 (F := Ideal) (iblk m c 0 t) (iblk m c 1 t) (iblk m c 2 t) (iblk m c 3 t) (ix3 j r k) = (da (X m c (row t r)) (G m c) (D m c (row t r)) (Wg m c) (Wu m c) (Wd m c) (col j k) : EReal) := by
  obtain ⟨P, hP⟩ : ∃ P : Fin 4 → Vec Ideal S1x512x704 .bf16, ∀ j, P j = k0_pay6 (F := Ideal) (iblk m c 0 t) (group (iblk m c 3 t) j) (group (iblk m c 1 t) j) := ⟨_, fun _ => rfl⟩
  have q : ∀ j, P j (ix3 0 r k) = ((da (X m c (row t r)) (G m c) (D m c (row t r)) (Wg m c) (Wu m c) (Wd m c) (col j k) : ℝ) : EReal) := fun j => by
    rw [hP]
    exact pay_at (D := fun r => D m c (row t r)) (W := fun k l => Wd m c (col j k) l) (P := fun r k => fa (X m c (row t r)) (G m c) (Wg m c) (Wu m c) (col j k)) (blk0 hm c t) (blk3 hm c t j) (blk1 hm c t j) r k
  unfold_out out0_4
  frame_out
  unfold r0_1 r0_2 r0_3 r0_4 r0_5 r0_6 r0_7 r0_8
  simp (disch := decide) only [ld_group, pay2_eq, pay3_eq, pay7_eq, pay10_eq, pay11_eq, pay13_eq, pay14_eq, ← hP]
  exact canon_four (n := 512) (w := 704) P j r k (G := fun j => ((da (X m c (row t r)) (G m c) (D m c (row t r)) (Wg m c) (Wu m c) (Wd m c) (col j k) : ℝ) : EReal)) q _ _ _ _

/-- … and of the linear branch's. -/
theorem db_point (c : Dev nD) (t : Fin cfg0.N) (j : Fin 4) (r : Fin 512) (k : Fin 704) :
    out0_5 (F := Ideal) (iblk m c 0 t) (iblk m c 1 t) (iblk m c 2 t) (iblk m c 3 t) (ix3 j r k) = (db (X m c (row t r)) (G m c) (D m c (row t r)) (Wg m c) (Wd m c) (col j k) : EReal) := by
  obtain ⟨P, hP⟩ : ∃ P : Fin 4 → Vec Ideal S1x512x704 .bf16, ∀ j, P j = k0_pay6 (F := Ideal) (iblk m c 0 t) (group (iblk m c 3 t) j) (group (iblk m c 2 t) j) := ⟨_, fun _ => rfl⟩
  have q : ∀ j, P j (ix3 0 r k) = ((db (X m c (row t r)) (G m c) (D m c (row t r)) (Wg m c) (Wd m c) (col j k) : ℝ) : EReal) := fun j => by
    rw [hP]
    exact pay_at (D := fun r => D m c (row t r)) (W := fun k l => Wd m c (col j k) l) (P := fun r k => fb (X m c (row t r)) (G m c) (Wg m c) (col j k)) (blk0 hm c t) (blk3 hm c t j) (blk2 hm c t j) r k
  unfold_out out0_5
  frame_out
  unfold r0_1 r0_2 r0_3 r0_4 r0_5 r0_6 r0_7 r0_8
  simp (disch := decide) only [ld_group, pay2_eq, pay3_eq, pay7_eq, pay10_eq, pay11_eq, pay13_eq, pay14_eq, ← hP]
  exact canon_four (n := 512) (w := 704) P j r k (G := fun j => ((db (X m c (row t r)) (G m c) (D m c (row t r)) (Wg m c) (Wd m c) (col j k) : ℝ) : EReal)) q _ _ _ _

end Cert.FfnHiddenBwdIdeal.Hand
-- ==== Proof.FfnHidden.Array.lean ====
/- The gate's gradients as whole arrays, as functions of the entry arguments. -/
module
public import proofs.«01_k».proof.Proof.FfnHidden.Block

@[expose] public section

set_option maxRecDepth 16384

noncomputable section

namespace Cert.FfnHiddenBwdIdeal.Hand

open Cert.Ffn Cert.FfnHiddenBwdIdeal Cert.FfnHiddenBwdIdeal.Gen Idealize.ShloMosaic Idealize.ShloMosaic.TcCoe Idealize.SL.Sem
open Idealize.ShloMosaic.Pipeline (Dat)

variable {m : (ℓ : Loc nD τ sig) → Buf (Elt Ideal) ℓ} (hm : Finite m)

include hm

/-- The array of the gate's gradient. -/
theorem final_da (c : Dev nD) : (dats m 0 c).arrAt 4 (cfgs 0).N
    = fun i : S4x8192x704.Idx => ((da (X m c (i 1)) (G m c) (D m c (i 1)) (Wg m c) (Wu m c) (Wd m c) (col (i 0) (i 2)) : ℝ) : EReal) := by
  refine (dats m 0 c).arrAt_eq_of_covers 4 _ (by decide +kernel) fun t hf y => ?_
  idx_vars y
  blk_simp
  rw [after0_4]
  have e0 : (win0_4.blk t).view.emb (ix3 y0 y1 y2) 0 = y0 := Fin.ext (by blk_simp [idx4 t])
  have e1 : (win0_4.blk t).view.emb (ix3 y0 y1 y2) 1 = row t y1 := Fin.ext (by blk_simp [idx4 t])
  have e2 : (win0_4.blk t).view.emb (ix3 y0 y1 y2) 2 = y2 := Fin.ext (by blk_simp [idx4 t])
  rw [e0, e1, e2]
  exact da_point hm c t y0 y1 y2

/-- The array of the linear branch's gradient. -/
theorem final_db (c : Dev nD) : (dats m 0 c).arrAt 5 (cfgs 0).N
    = fun i : S4x8192x704.Idx => ((db (X m c (i 1)) (G m c) (D m c (i 1)) (Wg m c) (Wd m c) (col (i 0) (i 2)) : ℝ) : EReal) := by
  refine (dats m 0 c).arrAt_eq_of_covers 5 _ (by decide +kernel) fun t hf y => ?_
  idx_vars y
  blk_simp
  rw [after0_5]
  have e0 : (win0_5.blk t).view.emb (ix3 y0 y1 y2) 0 = y0 := Fin.ext (by blk_simp [idx5 t])
  have e1 : (win0_5.blk t).view.emb (ix3 y0 y1 y2) 1 = row t y1 := Fin.ext (by blk_simp [idx5 t])
  have e2 : (win0_5.blk t).view.emb (ix3 y0 y1 y2) 2 = y2 := Fin.ext (by blk_simp [idx5 t])
  rw [e0, e1, e2]
  exact db_point hm c t y0 y1 y2

end Cert.FfnHiddenBwdIdeal.Hand
-- ==== Proof.FfnHidden.Ref.lean ====
/- The reference at real arguments: the derivative of the gate followed by the output projection, in four groups of columns. -/
module
public import proofs.«01_k».proof.Proof.Ffn.Hidden
public import proofs.«01_k».proof.Proof.Gen.FfnHiddenRefIdeal.Read
public import Idealize.ShloMosaic.Lib.Pipeline.ValueKit

@[expose] public section

set_option maxRecDepth 16384

noncomputable section

namespace Cert.FfnHiddenRefIdeal.Hand

open Cert.Loss (inv inv_def arg_pos)
open Cert.GdnPrep (one_add_exp_pos)
open Cert.Ffn Cert.FfnHiddenRefIdeal Cert.FfnHiddenRefIdeal.Read Idealize.ShloMosaic Idealize.ShloMosaic.TcCoe

variable {x0 x5 : (⟨S8192x1024, .f32⟩ : BufTy).Contents (Elt Ideal)} {x1 : (⟨S1x1024, .f32⟩ : BufTy).Contents (Elt Ideal)}
  {x2 x3 : (⟨S1024x2816, .f32⟩ : BufTy).Contents (Elt Ideal)} {x4 : (⟨S2816x1024, .f32⟩ : BufTy).Contents (Elt Ideal)}
  {X D : Fin 8192 → Fin 1024 → ℝ} {G : Fin 1024 → ℝ} {Wg Wu : Fin 1024 → Fin 2816 → ℝ} {Wd : Fin 2816 → Fin 1024 → ℝ}
  (hx : ∀ s l, x0 (ix2 s l) = (X s l : EReal)) (hg : ∀ l, x1 (ix2 0 l) = (G l : EReal)) (hwg : ∀ l n, x2 (ix2 l n) = (Wg l n : EReal))
  (hwu : ∀ l n, x3 (ix2 l n) = (Wu l n : EReal)) (hwd : ∀ n l, x4 (ix2 n l) = (Wd n l : EReal)) (hd : ∀ s l, x5 (ix2 s l) = (D s l : EReal))

include hwd hd in
/-- The hidden entry's cotangent. -/
theorem dfv_at (s : Fin 8192) (n : Fin 2816) : val_main_v21 (F := Ideal) x4 x5 (ix2 s n) = (dfv (D s) Wd n : EReal) := by
  pointwise [val_main_v21, val_main_v20, val_main_v19, val_main_cst_3]
  simp only [hwd, hd, Reals.lit_half, Reals.mul, Reals.sum]
  rfl

include hx hg

/-- The normalised row times the gain. -/
theorem h_at (s : Fin 8192) (l : Fin 1024) : val_main_v11 (F := Ideal) x0 x1 (ix2 s l) = ((X s l * inv (X s) * G l : ℝ) : EReal) := by
  have p := arg_pos (X s)
  pointwise [val_main_v11, val_main_v10, val_main_v9, val_main_v8, val_main_v7, val_main_v6, val_main_v5, val_main_cst_1, val_main_v4, val_main_v3, val_main_cst_0, val_main_v2,
    val_main_v1, val_main_v0, val_main_cst]
  simp (disch := first | exact p | norm_num) only [hx, hg, Reals.lit_1024, Reals.lit_eps, Reals.mul, Reals.add, Reals.sum, Reals.div, Reals.rsqrt, inv_def]

/-- The two projections. -/
theorem a_at (hwg : ∀ l n, x2 (ix2 l n) = (Wg l n : EReal)) (s : Fin 8192) (n : Fin 2816) : val_main_v12 (F := Ideal) x0 x1 x2 (ix2 s n) = (proj (X s) G Wg n : EReal) := by
  pointwise [val_main_v12]
  simp only [h_at hx hg, hwg, Reals.mul, Reals.sum]
  rfl
theorem b_at (hwu : ∀ l n, x3 (ix2 l n) = (Wu l n : EReal)) (s : Fin 8192) (n : Fin 2816) : val_main_v13 (F := Ideal) x0 x1 x3 (ix2 s n) = (proj (X s) G Wu n : EReal) := by
  pointwise [val_main_v13]
  simp only [h_at hx hg, hwu, Reals.mul, Reals.sum]
  rfl

include hwg

/-- The logistic function of the gate's input. -/
theorem sig_at (s : Fin 8192) (n : Fin 2816) : val_main_v14_2 (F := Ideal) x0 x1 x2 (ix2 s n) = (GdnPrep.sig (proj (X s) G Wg n) : EReal) := by
  have p := one_add_exp_pos (-proj (X s) G Wg n)
  pointwise [val_main_v14_2, val_main_call0_v4, val_main_call0_cst_0, val_main_call0_v3, val_main_call0_v2, val_main_call0_cst, val_main_call0_v1, val_main_call0_v0]
  simp (disch := exact p.ne') only [a_at hx hg hwg, ← EReal.coe_one, Reals.neg, Ideal.exp_coe, Reals.add, Reals.div]
  rfl

include hwd hd

/-- The linear branch's gradient. -/
theorem db_at (j : Fin 4) (s : Fin 8192) (k : Fin 704) : val_main_v30 (F := Ideal) x0 x1 x2 x4 x5 (ix3 j s k) = (db (X s) G (D s) Wg Wd (col j k) : EReal) := by
  pointwise [val_main_v30, val_main_v29, val_main_v28, val_main_v22, val_main_v14_0]
  simp only [a_at hx hg hwg, sig_at hx hg hwg, dfv_at hwd hd, Reals.mul]
  rw [db, fb, mul_comm]

include hwu

/-- The gate's gradient. -/
theorem da_at (j : Fin 4) (s : Fin 8192) (k : Fin 704) : val_main_v27 (F := Ideal) x0 x1 x2 x3 x4 x5 (ix3 j s k) = (da (X s) G (D s) Wg Wu Wd (col j k) : EReal) := by
  pointwise [val_main_v27, val_main_v26, val_main_v25, val_main_v24, val_main_call1_v2, val_main_call1_v1, val_main_call1_v0, val_main_v23, val_main_v14_1, val_main_call0_v7,
    val_main_call0_v6, val_main_call0_cst_1]
  simp only [a_at hx hg hwg, b_at hx hg hwu, sig_at hx hg hwg, dfv_at hwd hd, ← EReal.coe_one, Reals.mul, Reals.add, Reals.sub]
  refine congrArg _ ?_
  rw [da, fa]
  ring

end Cert.FfnHiddenRefIdeal.Hand
-- ==== Proof.FfnHidden.Claim.lean ====
/- The gradient of an FFN's gate and output projection: the kernel computes the derivative of the forward lines. -/
module
public import proofs.«01_k».proof.Proof.FfnHidden.Array
public import proofs.«01_k».proof.Proof.FfnHidden.Ref
public import proofs.«01_k».proof.Proof.Gen.FfnHiddenBwd.Frame
public import proofs.«01_k».proof.Defs

@[expose] public section

set_option maxRecDepth 16384

noncomputable section

namespace Cert.FfnHidden

open Idealize.ShloMosaic Idealize.ShloMosaic.TcCoe Idealize.SL.Sem

/-- The shape facts the precondition states. -/
instance pre_facts : Cert.Pre_ffn_hidden_finite.Facts := ⟨by decide, by decide, by decide, by decide⟩

/-- The precondition says that the arguments are real numbers. -/
theorem finite [Cert.Pre_ffn_hidden_finite.Facts] {m : (ℓ : Loc Cert.FfnHiddenBwdIdeal.nD Cert.FfnHiddenBwdIdeal.τ Cert.FfnHiddenBwdIdeal.sig) → Buf (Elt Ideal) ℓ}
    (h : Cert.Pre_FfnHiddenBwdIdeal_ffn_hidden_finite m) : Cert.FfnHiddenBwdIdeal.Hand.Finite m := fun c => by
  obtain ⟨h0, h1, h2, h3, h4, h5⟩ := h c
  exact ⟨fun s l => Reals.exists_real (congrFun h0 (ix2 s l)),
    fun l => Reals.exists_real (congrFun h1 (ix2 0 l)),
    fun s l => Reals.exists_real (congrFun h2 (ix2 s l)),
    fun s l => Reals.exists_real (congrFun h3 (ix2 s l)),
    fun s l => Reals.exists_real (congrFun h4 (ix2 s l)),
    fun s l => Reals.exists_real (congrFun h5 (ix2 s l))⟩

/-- The reference runs to the end and leaves its arguments unchanged. -/
theorem frame_ref : Cert.quiescent_FfnHiddenRefIdeal := fun m ρ _ =>
  (θ_run Cert.FfnHiddenRefIdeal.defs _ _).mono (fun r h => ⟨fun c => (h c).2.2, sem_eq_zero_of_no_sems (by decide) r.2⟩)
    (Cert.FfnHiddenRefIdeal.Value.run m ρ)

/-- The kernel's two results are the reference's two results, on real arguments. -/
theorem algebraic [Cert.Pre_ffn_hidden_finite.Facts] : Cert.algebraic_FfnHiddenBwdIdeal_FfnHiddenRefIdeal_pre_ffn_hidden_finite := fun m ρ m' ρ' hp hag =>
  ⟨_, _, Cert.FfnHiddenBwdIdeal.Value.run_blocks m ρ, (θ_run _ _ _).mono (fun r h c => by
    obtain ⟨h0, h1, h3⟩ := h c
    obtain ⟨a0, a1, a2, a3, a4, a5⟩ := hag c
    have hm := finite hp
    obtain ⟨f0, f1, f2, f3, f4, f5⟩ := hm c
    refine ⟨h0.trans ?_, h1.trans ?_, h3⟩ <;> clear h0 h1 h3 h
    · rw [Cert.FfnHiddenRefIdeal.Read.val_main_v27_eq]
      change Cert.FfnHiddenRefIdeal.Read.val_main_v27 (m' (c.tc.loc Cert.FfnHiddenRefIdeal.main_arg0)) (m' (c.tc.loc Cert.FfnHiddenRefIdeal.main_arg1)) (m' (c.tc.loc Cert.FfnHiddenRefIdeal.main_arg2)) (m' (c.tc.loc Cert.FfnHiddenRefIdeal.main_arg3)) (m' (c.tc.loc Cert.FfnHiddenRefIdeal.main_arg4)) (m' (c.tc.loc Cert.FfnHiddenRefIdeal.main_arg5)) = _
      rw [a0, a1, a2, a3, a4, a5]
      refine Eq.trans ?_ (Cert.FfnHiddenBwdIdeal.Hand.final_da hm c).symm
      funext i
      idx_vars i
      exact Cert.FfnHiddenRefIdeal.Hand.da_at (fun s l => (f0 s l).symm) (fun l => (f1 l).symm) (fun l n => (f2 l n).symm) (fun l n => (f3 l n).symm) (fun n l => (f4 n l).symm) (fun s l => (f5 s l).symm) i0 i1 i2
    · rw [Cert.FfnHiddenRefIdeal.Read.val_main_v30_eq]
      change Cert.FfnHiddenRefIdeal.Read.val_main_v30 (m' (c.tc.loc Cert.FfnHiddenRefIdeal.main_arg0)) (m' (c.tc.loc Cert.FfnHiddenRefIdeal.main_arg1)) (m' (c.tc.loc Cert.FfnHiddenRefIdeal.main_arg2)) (m' (c.tc.loc Cert.FfnHiddenRefIdeal.main_arg4)) (m' (c.tc.loc Cert.FfnHiddenRefIdeal.main_arg5)) = _
      rw [a0, a1, a2, a4, a5]
      refine Eq.trans ?_ (Cert.FfnHiddenBwdIdeal.Hand.final_db hm c).symm
      funext i
      idx_vars i
      exact Cert.FfnHiddenRefIdeal.Hand.db_at (fun s l => (f0 s l).symm) (fun l => (f1 l).symm) (fun l n => (f2 l n).symm) (fun n l => (f4 n l).symm) (fun s l => (f5 s l).symm) i0 i1 i2)
    (Cert.FfnHiddenRefIdeal.Value.run m' ρ')⟩

end Cert.FfnHidden
-- ==== Proof.RgConvFwd.Model.lean ====
/- The centred four-tap convolution along the rows, as a function of row and lane. -/
module
public import proofs.«01_k».proof.Proof.RgConv.Taps

@[expose] public section

set_option maxRecDepth 16384

noncomputable section

namespace Cert.RgConv

/-- Four taps with zero outside the sequence, added to a start value. -/
def conv {C : ℕ} (x : Fin 8192 → Fin C → EReal) (w : Fin 4 → Fin C → EReal) (b : EReal) (s : Fin 8192) (l : Fin C) : EReal :=
  b + w 0 l * tap x (s + 6) l + w 1 l * tap x (s + 7) l + w 2 l * tap x (s + 8) l + w 3 l * tap x (s + 9) l

end Cert.RgConv
-- ==== Proof.RgConvFwd.Block.lean ====
/- The RG-LRU layer's convolution: one grid point's rows, and the array of all of them. -/
module
public import proofs.«01_k».proof.Proof.RgConvFwd.Model
public import proofs.«01_k».proof.Proof.Gen.RgConvFwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.RgConvFwdIdeal.Hand

open Cert.RgConv Cert.RgConvFwdIdeal Cert.RgConvFwdIdeal.Gen Idealize.ShloMosaic Idealize.ShloMosaic.TcCoe Idealize.SL.Sem
open Idealize.ShloMosaic.Pipeline (Dat)

variable (m : (ℓ : Loc nD τ sig) → Buf (Elt Ideal) ℓ)

/-- The layer's input, the filter and the bias as functions of row and lane. -/
abbrev X (c : Dev nD) (s : Fin 8192) (l : Fin 512) : EReal := m ((c.tc : Thread nD τ).loc main_arg0) (ix2 s l)
abbrev W (c : Dev nD) (j : Fin 4) (l : Fin 512) : EReal := m ((c.tc : Thread nD τ).loc main_arg1) (ix2 j l)
abbrev B (c : Dev nD) (l : Fin 512) : EReal := m ((c.tc : Thread nD τ).loc main_arg2) (ix2 0 l)

theorem idx0 : ∀ t, win0_0.index t = ![t.val, 0] := (by decide +kernel : ∀ t : Fin grid0.N, _)
theorem idx1 : ∀ t, win0_1.index t = ![64 * t.val - 1, 0] := (by decide +kernel : ∀ t : Fin grid0.N, _)
theorem idx2 : ∀ t, win0_2.index t = ![min (64 * t.val + 64) 1023, 0] := (by decide +kernel : ∀ t : Fin grid0.N, _)
theorem idx3 : ∀ t, win0_3.index t = ![0, 0] := (by decide +kernel : ∀ t : Fin grid0.N, _)
theorem idx4 : ∀ t, win0_4.index t = ![0, 0] := (by decide +kernel : ∀ t : Fin grid0.N, _)
theorem idx5 : ∀ t, win0_5.index t = ![t.val, 0] := (by decide +kernel : ∀ t : Fin grid0.N, _)

theorem mask_lo : ∀ t, Scalar.cmpi .sgt (BitVec.ofNat 32 ((grid0.coords t) 0).val) 0#32 = if t.val = 0 then 0#1 else 1#1 :=
  (by decide +kernel : ∀ t : Fin grid0.N, _)
theorem mask_hi : ∀ t, Scalar.cmpi .slt (BitVec.ofNat 32 ((grid0.coords t) 0).val) 15#32 = if t.val = 15 then 0#1 else 1#1 :=
  (by decide +kernel : ∀ t : Fin grid0.N, _)

/-- The blocks a grid point reads: rows of the input, the eight rows before and after them, the bias. -/
theorem blk0 (c : Dev nD) (t : Fin cfg0.N) (r : Fin 512) (l : Fin 512) (s : Fin 8192) (hs : (s : ℕ) = 512 * t + r) :
    iblk m c 0 t (ix2 r l) = X m c s l := by
  blk_point [iblk, V, idx0 t]
theorem blk1 (c : Dev nD) (t : Fin cfg0.N) (r : Fin 8) (l : Fin 512) (s : Fin 8192) (hs : (s : ℕ) = 8 * (64 * t - 1) + r) :
    iblk m c 1 t (ix2 r l) = X m c s l := by
  blk_point [iblk, V, idx1 t]
theorem blk2 (c : Dev nD) (t : Fin cfg0.N) (r : Fin 8) (l : Fin 512) (s : Fin 8192) (hs : (s : ℕ) = 8 * min (64 * t.val + 64) 1023 + r) :
    iblk m c 2 t (ix2 r l) = X m c s l := by
  blk_point [iblk, V, idx2 t]
theorem blk4 (c : Dev nD) (t : Fin cfg0.N) (l : Fin 512) : iblk m c 4 t (ix2 0 l) = B m c l := by
  blk_point [iblk, V, idx4 t]

/-- The three blocks laid end to end are rows of the shifted read. -/
theorem rows_at (c : Dev nD) (t : Fin cfg0.N) (n : Fin 528) (l : Fin 512) :
    k0_pay2 (F := Ideal) (grid0.coords t) (iblk m c 1 t) (iblk m c 0 t) (iblk m c 2 t) (ix2 n l) = tap (X m c) (512 * t + n) l := by
  have ht : t.val < 16 := lt_of_lt_of_eq t.isLt N_0
  have hn := n.isLt
  pointwise [k0_pay2]
  simp only [mask_lo t, mask_hi t]
  unfold tap
  by_cases h0 : (n : ℕ) < 8
  · rw [dif_pos h0]
    by_cases h1 : (t : ℕ) = 0
    · rw [if_pos h1, dif_neg (by omega)]; rfl
    · rw [if_neg h1, dif_pos (by omega)]
      exact blk1 m c t _ l _ (by show 512 * (t : ℕ) + n - 8 = 8 * (64 * t - 1) + n; omega)
  rw [dif_neg h0]
  by_cases h2 : (n : ℕ) - 8 < 512
  · rw [dif_pos h2, dif_pos (by omega)]
    exact blk0 m c t _ l _ (by show 512 * (t : ℕ) + n - 8 = 512 * t + (n - 8); omega)
  · rw [dif_neg h2]
    by_cases h1 : (t : ℕ) = 15
    · rw [if_pos h1, dif_neg (by omega)]; rfl
    · rw [if_neg h1, dif_pos (by omega)]
      exact blk2 m c t _ l _ (by show 512 * (t : ℕ) + n - 8 = 8 * min (64 * t.val + 64) 1023 + (n - 8 - 512); omega)

/-- The filter with four rows after it, at a row of the filter. -/
theorem pad_at (w : FVec Ideal S4x512 .f32) (z : FVec Ideal S_ .f32) (j : Fin 8) (h : (j : ℕ) < 4) (l : Fin 512) :
    pad S8x512 ![0, 0] ![4, 0] ![0, 0] w z pads_S4x512_S8x512_040_000 h_S_ (ix2 j l) = w (ix2 ⟨j, h⟩ l) := by
  pointwise []
  rw [dif_pos h]

/-- The padded filter the region is entered with. -/
theorem V_filter (c : Dev nD) (j : Fin 8) (h : (j : ℕ) < 4) (l : Fin 512) : V m c main_v0 (ix2 j l) = W m c ⟨j, h⟩ l := by
  simp only [V, hostOps0, hostOps0_1, List.flatten_cons, List.flatten_nil, List.append_nil, List.cons_append, List.nil_append]
  after_results
  exact pad_at (m (c, Proc.tc.devRef main_arg1)) _ j h l

/-- A row of the filter block. -/
theorem blk3 (c : Dev nD) (t : Fin cfg0.N) (j : Fin 8) (h : (j : ℕ) < 4) (l : Fin 512) : iblk m c 3 t (ix2 j l) = W m c ⟨j, h⟩ l := by
  have e : iblk m c 3 t (ix2 j l) = V m c main_v0 (ix2 j l) := by
    blk_point [iblk, idx3 t]
  exact e.trans (V_filter m c _ h l)

/-- What a grid point writes. -/
theorem point (c : Dev nD) (t : Fin cfg0.N) (k l : Fin 512) (s : Fin 8192) (hs : (s : ℕ) = 512 * t + k) :
    out0_5 (F := Ideal) (grid0.coords t) (iblk m c 0 t) (iblk m c 1 t) (iblk m c 2 t) (iblk m c 3 t) (iblk m c 4 t) (ix2 k l) = conv (X m c) (W m c) (B m c l) s l := by
  have ht : t.val < 16 := lt_of_lt_of_eq t.isLt N_0
  unfold out0_5
  frame_out
  pointwise [k0_pay1, k0_pay3, rows_at m c t, blk3 m c t, blk4 m c t]
  rw [show 512 * (t : ℕ) + (8 + k + 528 - 2) % 528 = s + 6 by omega, show 512 * (t : ℕ) + (8 + k + 528 - 1) % 528 = s + 7 by omega,
    show 512 * (t : ℕ) + (8 + k) = s + 8 by omega, show 512 * (t : ℕ) + (8 + k + 528 - 527) % 528 = s + 9 by omega]
  rfl

/-- The array of the convolution. -/
theorem final (c : Dev nD) : (dats m 0 c).arrAt 5 (cfgs 0).N = fun i : S8192x512.Idx => conv (X m c) (W m c) (B m c (i 1)) (i 0) (i 1) := by
  refine (dats m 0 c).arrAt_eq_of_covers 5 _ (by decide +kernel) fun t hf y => ?_
  have ht : t.val < 16 := lt_of_lt_of_eq t.isLt N_0
  idx_vars y
  blk_simp
  rw [after0_5]
  have e1 : (win0_5.blk t).view.emb (ix2 y0 y1) 1 = y1 := Fin.ext (by blk_simp [idx5 t])
  rw [e1]
  exact point m c t y0 y1 _ (by blk_simp [idx5 t]; omega)

end Cert.RgConvFwdIdeal.Hand
-- ==== Proof.RgConvFwd.Claim.lean ====
/- The RG-LRU layer's convolution: the reference index by index, and the equation with the kernel. -/
module
public import proofs.«01_k».proof.Proof.RgConvFwd.Block
public import proofs.«01_k».proof.Proof.Gen.RgConvFwdRefIdeal.Read
public import proofs.«01_k».proof.Proof.Gen.RgConvFwd.Frame
public import proofs.«01_k».proof.Defs

@[expose] public section

set_option maxRecDepth 16384

noncomputable section

namespace Cert.RgConvFwdRefIdeal.Hand

open Cert.RgConv Cert.RgConvFwdRefIdeal Cert.RgConvFwdRefIdeal.Gen Cert.RgConvFwdRefIdeal.Read Idealize.ShloMosaic Idealize.ShloMosaic.TcCoe Idealize.SL.Sem

variable (x : (⟨S8192x512, .f32⟩ : BufTy).Contents (Elt Ideal)) (w : (⟨S4x512, .f32⟩ : BufTy).Contents (Elt Ideal)) (b : (⟨S1x512, .f32⟩ : BufTy).Contents (Elt Ideal))

/-- The padded input is the shifted read. -/
theorem xp_at (n : Fin 8195) (l : Fin 512) : val_main_v2 (F := Ideal) x (ix2 n l) = tap (fun s l => x (ix2 s l)) (n + 6) l := by
  pointwise [val_main_v2, val_main_v0, val_main_v1, val_main_cst, val_main_cst_0]
  have hn := n.isLt
  unfold tap
  by_cases h0 : (n : ℕ) < 2
  · rw [dif_pos h0, dif_neg (by omega)]
  rw [dif_neg h0]
  by_cases h1 : (n : ℕ) - 2 < 8192
  · rw [dif_pos h1, dif_pos (by omega)]; congr 1
  · rw [dif_neg h1, dif_neg (by omega)]

/-- The convolution with its bias. -/
theorem conv_at (s : Fin 8192) (l : Fin 512) :
    val_main_v33 (F := Ideal) x w b (ix2 s l) = conv (fun s l => x (ix2 s l)) (fun j l => w (ix2 j l)) (b (ix2 0 l)) s l := by
  pointwise [val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_cst_1, xp_at]
  rw [show 1 + (s : ℕ) + 6 = s + 7 by omega, show 2 + (s : ℕ) + 6 = s + 8 by omega, show 3 + (s : ℕ) + 6 = s + 9 by omega]
  unfold conv
  simp only [mul_comm (w _)]
  show (_ : EReal) = _
  abel

end Cert.RgConvFwdRefIdeal.Hand

namespace Cert.RgConvFwd

open Idealize.ShloMosaic Idealize.ShloMosaic.TcCoe Idealize.SL.Sem

/-- The reference runs to the end and leaves its arguments unchanged. -/
theorem frame_ref : Cert.quiescent_RgConvFwdRefIdeal := fun m ρ _ =>
  (θ_run Cert.RgConvFwdRefIdeal.defs _ _).mono (fun r h => ⟨fun c => (h c).2, sem_eq_zero_of_no_sems (by decide) r.2⟩)
    (Cert.RgConvFwdRefIdeal.Value.run m ρ)

/-- The kernel's result is the reference's, on every input. -/
theorem algebraic : Cert.algebraic_RgConvFwdIdeal_RgConvFwdRefIdeal := fun m ρ m' ρ' _ hag =>
  ⟨_, Cert.RgConvFwdIdeal.Value.run_blocks m ρ, (θ_run _ _ _).mono (fun r h c => by
    obtain ⟨h0, h3⟩ := h c
    obtain ⟨a0, a1, a2⟩ := hag c
    refine ⟨h0.trans ?_, h3⟩
    rw [Cert.RgConvFwdRefIdeal.Read.val_main_v33_eq, a0, a1, a2]
    refine Eq.trans ?_ (Cert.RgConvFwdIdeal.Hand.final m c).symm
    funext i
    idx_vars i
    exact Cert.RgConvFwdRefIdeal.Hand.conv_at _ _ _ i0 i1) (Cert.RgConvFwdRefIdeal.Value.run m' ρ')⟩

end Cert.RgConvFwd
-- ==== Proof.GdnConvFwd.Block.lean ====
/- The wide convolution: the blocks one grid point reads, the stack of its rows between their neighbours, and the three
   pieces of lanes it writes. -/
module
public import proofs.«01_k».proof.Proof.RgConvFwd.Model
public import proofs.«01_k».proof.Proof.GdnConv.Cells
public import proofs.«01_k».proof.Proof.Columns
public import proofs.«01_k».proof.Proof.Gen.GdnConvFwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.GdnConvFwdIdeal.Hand

open Cert.RgConv Cert.Cells Cert.Columns Cert.GdnConvFwdIdeal Cert.GdnConvFwdIdeal.Gen Idealize.ShloMosaic Idealize.ShloMosaic.TcCoe Idealize.SL.Sem
open Idealize.ShloMosaic.Pipeline (Dat)

section Forms

variable (i : grid0.Coords) (p q : Ideal .f32) (A C : Vec Ideal S8x512 .f32) (B : Vec Ideal S512x512 .f32) (b w0 w1 w2 w3 : Vec Ideal S1x512 .f32)

/-- The three pieces are computed by the same terms. -/
theorem piece_first : k0_pay7 (F := Ideal) (k0_pay4 i A B C) (k0_pay5 i A B C b w0 w1) (k0_pay6 i A B C w2) w3
    = k0_pay10 (k0_pay8 (k0_pay2 i) (k0_pay3 i) A B C) (k0_pay9 (k0_pay2 i) (k0_pay3 i) A B C b w0 w1) w2 w3 := rfl
theorem piece_third : k0_pay1 (F := Ideal) (k0_pay11 p q A B C) (k0_pay12 p q A B C b w0) (k0_pay13 p q A B C w1) w2 w3
    = k0_pay10 (k0_pay8 p q A B C) (k0_pay9 p q A B C b w0 w1) w2 w3 := rfl

end Forms

variable (m : (ℓ : Loc nD τ sig) → Buf (Elt Ideal) ℓ)

/-- The layer's input and the filter as functions of row and lane. -/
abbrev X (c : Dev nD) (s : Fin 8192) (l : Fin 1536) : EReal := m ((c.tc : Thread nD τ).loc main_arg0) (ix2 s l)
abbrev W (c : Dev nD) (j : Fin 4) (l : Fin 1536) : EReal := m ((c.tc : Thread nD τ).loc main_arg1) (ix2 j l)

theorem idx0 : ∀ t, win0_0.index t = ![t.val, 0] := (by decide +kernel : ∀ t : Fin grid0.N, _)
theorem idx1 : ∀ t, win0_1.index t = ![64 * t.val - 1, 0] := (by decide +kernel : ∀ t : Fin grid0.N, _)
theorem idx2 : ∀ t, win0_2.index t = ![min (64 * t.val + 64) 1023, 0] := (by decide +kernel : ∀ t : Fin grid0.N, _)
theorem idx3 : ∀ t, win0_3.index t = ![0, 0] := (by decide +kernel : ∀ t : Fin grid0.N, _)
theorem idx4 : ∀ t, win0_4.index t = ![0, 0] := (by decide +kernel : ∀ t : Fin grid0.N, _)
theorem idx5 : ∀ t, win0_5.index t = ![t.val, 0] := (by decide +kernel : ∀ t : Fin grid0.N, _)

theorem mask_lo : ∀ t, Scalar.cmpi .sgt (BitVec.ofNat 32 ((grid0.coords t) 0).val) 0#32 = if t.val = 0 then 0#1 else 1#1 :=
  (by decide +kernel : ∀ t : Fin grid0.N, _)
theorem mask_hi : ∀ t, Scalar.cmpi .slt (BitVec.ofNat 32 ((grid0.coords t) 0).val) 15#32 = if t.val = 15 then 0#1 else 1#1 :=
  (by decide +kernel : ∀ t : Fin grid0.N, _)

/-- A lane of the piece that begins at lane `o`. -/
abbrev lane {o : ℕ} (ho : o + 512 ≤ 1536) (k : Fin 512) : Fin 1536 := ⟨o + k, by omega⟩

variable (c : Dev nD) (t : Fin cfg0.N) {o : ℕ} (ho : o + 512 ≤ 1536) (iL : ∀ a, ![0, o] a + ![8, 512] a ≤ S8x1536.size a)
  (iM : ∀ a, ![0, o] a + ![512, 512] a ≤ S512x1536.size a)

/-- The blocks a grid point reads: rows of the input, and the eight rows before and after them. -/
theorem blk0 (r : Fin 512) (l : Fin 1536) (s : Fin 8192) (hs : (s : ℕ) = 512 * t + r) :
    iblk m c 0 t (ix2 r l) = X m c s l := by
  blk_point [iblk, V, idx0 t]
theorem blk1 (r : Fin 8) (l : Fin 1536) (s : Fin 8192) (hs : (s : ℕ) = 8 * (64 * t - 1) + r) :
    iblk m c 1 t (ix2 r l) = X m c s l := by
  blk_point [iblk, V, idx1 t]
theorem blk2 (r : Fin 8) (l : Fin 1536) (s : Fin 8192) (hs : (s : ℕ) = 8 * min (64 * t.val + 64) 1023 + r) :
    iblk m c 2 t (ix2 r l) = X m c s l := by
  blk_point [iblk, V, idx2 t]

/-- The stack of a piece: the input's rows between their masked neighbours. -/
abbrev stack : FVec Ideal S528x512 .f32 :=
  k0_pay8 (F := Ideal) (k0_pay2 (grid0.coords t)) (k0_pay3 (grid0.coords t)) (View.ld (iblk m c 1 t) (Rect.unit ![0, o] ![8, 512] iL))
    (View.ld (iblk m c 0 t) (Rect.unit ![0, o] ![512, 512] iM)) (View.ld (iblk m c 2 t) (Rect.unit ![0, o] ![8, 512] iL))

/-- The stack holds rows of the shifted read. -/
theorem stack_at (n : Fin 528) (l : Fin 512) : stack m c t iL iM (ix2 n l) = tap (X m c) (512 * t + n) (lane ho l) := by
  have ht : t.val < 16 := lt_of_lt_of_eq t.isLt N_0
  have hn := n.isLt
  pointwise [stack, k0_pay8, k0_pay2, k0_pay3]
  simp only [mask_lo t, mask_hi t]
  unfold tap
  by_cases h0 : (n : ℕ) < 8
  · rw [dif_pos h0]
    by_cases h1 : (t : ℕ) = 0
    · rw [if_pos h1, dif_neg (by omega)]; rfl
    · rw [if_neg h1, dif_pos (by omega)]
      exact blk1 m c t _ _ _ (by show 512 * (t : ℕ) + n - 8 = 8 * (64 * t - 1) + n; omega)
  rw [dif_neg h0]
  by_cases h2 : (n : ℕ) - 8 < 512
  · rw [dif_pos h2, dif_pos (by omega)]
    exact blk0 m c t _ _ _ (by show 512 * (t : ℕ) + n - 8 = 512 * t + (n - 8); omega)
  · rw [dif_neg h2]
    by_cases h1 : (t : ℕ) = 15
    · rw [if_pos h1, dif_neg (by omega)]; rfl
    · rw [if_neg h1, dif_pos (by omega)]
      exact blk2 m c t _ _ _ (by show 512 * (t : ℕ) + n - 8 = 8 * min (64 * t.val + 64) 1023 + (n - 8 - 512); omega)

/-- The filter with four rows after it, at a row of the filter. -/
theorem pad_at (w : FVec Ideal S4x1536 .f32) (z : FVec Ideal S_ .f32) (j : Fin 8) (h : (j : ℕ) < 4) (l : Fin 1536) :
    pad S8x1536 ![0, 0] ![4, 0] ![0, 0] w z pads_S4x1536_S8x1536_040_000 h_S_ (ix2 j l) = w (ix2 ⟨j, h⟩ l) := by
  pointwise []
  rw [dif_pos h]

/-- The padded filter the region is entered with. -/
theorem V_filter (j : Fin 8) (h : (j : ℕ) < 4) (l : Fin 1536) : V m c main_v0 (ix2 j l) = W m c ⟨j, h⟩ l := by
  simp only [V, hostOps0, hostOps0_1, hostOps0_2, List.flatten_cons, List.flatten_nil, List.append_nil, List.cons_append, List.nil_append]
  after_results
  exact pad_at (m (c, Proc.tc.devRef main_arg1)) _ j h l

/-- A piece of the filter block is the filter with four rows of zeros after it. -/
theorem blk3 (l : Fin 512) (q : ℕ) (hq : ∀ a, ![q, o] a + ![1, 512] a ≤ S8x1536.size a) (j : Fin 4) (hj : (j : ℕ) = q) :
    View.ld (iblk m c 3 t) (Rect.unit ![q, o] ![1, 512] hq) (ix2 0 l) = W m c j (lane ho l) := by
  subst hj
  have hj := j.isLt
  have e : View.ld (iblk m c 3 t) (Rect.unit ![(j : ℕ), o] ![1, 512] hq) (ix2 0 l) = V m c main_v0 (ix2 ⟨j, by omega⟩ (lane ho l)) := by
    blk_point [iblk, idx3 t]
  exact e.trans (V_filter m c _ hj _)

/-- The bias the region is entered with is zero. -/
theorem V_bias (l : Fin 1536) : V m c main_v1 (ix2 0 l) = (0 : EReal) := by
  have e : ∀ l : Fin 1536, broadcastInDim S1x1536 ![] bcast_S_S1x1536 (constant S_ .f32 0x00000000#32 : FVec Ideal S_ .f32) (ix2 0 l) = 0 := fun l => by
    pointwise []
  simp only [V, hostOps0, hostOps0_1, hostOps0_2, List.flatten_cons, List.flatten_nil, List.append_nil, List.cons_append, List.nil_append]
  after_results
  exact e l

/-- A piece of the bias block is zero. -/
theorem blk4 (l : Fin 512) (hq : ∀ a, ![0, o] a + ![1, 512] a ≤ S1x1536.size a) :
    View.ld (iblk m c 4 t) (Rect.unit ![0, o] ![1, 512] hq) (ix2 0 l) = (0 : EReal) := by
  have ho : o + 512 ≤ 1536 := hq 1
  have e : View.ld (iblk m c 4 t) (Rect.unit ![0, o] ![1, 512] hq) (ix2 0 l) = V m c main_v1 (ix2 0 (lane ho l)) := by
    blk_point [iblk, idx4 t]
  exact e.trans (V_bias m c _)

/-- A piece of the output, entry by entry. -/
theorem piece_at (k l : Fin 512) (s : Fin 8192) (hs : (s : ℕ) = 512 * t + k) (qb : ∀ a, ![0, o] a + ![1, 512] a ≤ S1x1536.size a)
    (q0 : ∀ a, ![0, o] a + ![1, 512] a ≤ S8x1536.size a) (q1 : ∀ a, ![1, o] a + ![1, 512] a ≤ S8x1536.size a)
    (q2 : ∀ a, ![2, o] a + ![1, 512] a ≤ S8x1536.size a) (q3 : ∀ a, ![3, o] a + ![1, 512] a ≤ S8x1536.size a) :
    k0_pay10 (F := Ideal) (stack m c t iL iM) (k0_pay9 (k0_pay2 (grid0.coords t)) (k0_pay3 (grid0.coords t))
        (View.ld (iblk m c 1 t) (Rect.unit ![0, o] ![8, 512] iL)) (View.ld (iblk m c 0 t) (Rect.unit ![0, o] ![512, 512] iM))
        (View.ld (iblk m c 2 t) (Rect.unit ![0, o] ![8, 512] iL)) (View.ld (iblk m c 4 t) (Rect.unit ![0, o] ![1, 512] qb))
        (View.ld (iblk m c 3 t) (Rect.unit ![0, o] ![1, 512] q0)) (View.ld (iblk m c 3 t) (Rect.unit ![1, o] ![1, 512] q1)))
        (View.ld (iblk m c 3 t) (Rect.unit ![2, o] ![1, 512] q2)) (View.ld (iblk m c 3 t) (Rect.unit ![3, o] ![1, 512] q3)) (ix2 k l)
      = conv (X m c) (W m c) 0 s (lane ho l) := by
  have hk := k.isLt
  have hb := blk4 m c t l qb
  have h0 := blk3 m c t ho l 0 q0 0 rfl
  have h1 := blk3 m c t ho l 1 q1 1 rfl
  have h2 := blk3 m c t ho l 2 q2 2 rfl
  have h3 := blk3 m c t ho l 3 q3 3 rfl
  revert hb h0 h1 h2 h3
  generalize View.ld (iblk m c 4 t) (Rect.unit ![0, o] ![1, 512] qb) = b
  generalize View.ld (iblk m c 3 t) (Rect.unit ![0, o] ![1, 512] q0) = a0
  generalize View.ld (iblk m c 3 t) (Rect.unit ![1, o] ![1, 512] q1) = a1
  generalize View.ld (iblk m c 3 t) (Rect.unit ![2, o] ![1, 512] q2) = a2
  generalize View.ld (iblk m c 3 t) (Rect.unit ![3, o] ![1, 512] q3) = a3
  intro hb h0 h1 h2 h3
  pointwise [k0_pay10, k0_pay9]
  simp only [stack_at m c t ho iL iM, hb, h0, h1, h2, h3]
  rw [show 512 * (t : ℕ) + (8 + k + 528 - 2) % 528 = s + 6 by omega, show 512 * (t : ℕ) + (8 + k + 528 - 1) % 528 = s + 7 by omega,
    show 512 * (t : ℕ) + (8 + k) = s + 8 by omega, show 512 * (t : ℕ) + (8 + k + 528 - 527) % 528 = s + 9 by omega]
  unfold conv
  congr 4

/-- What a grid point writes. -/
theorem point (k : Fin 512) (l : Fin 1536) (s : Fin 8192) (hs : (s : ℕ) = 512 * t + k) :
    out0_5 (F := Ideal) (grid0.coords t) (iblk m c 0 t) (iblk m c 1 t) (iblk m c 2 t) (iblk m c 3 t) (iblk m c 4 t) (ix2 k l) = conv (X m c) (W m c) 0 s l := by
  unfold out0_5
  simp only [piece_first, piece_third]
  refine canon_cols (e := .f32) (n := 512) (W := 1536) (o := 1024) (w := 512) (by decide) _ _ _ k l (G := fun l => conv (X m c) (W m c) 0 s l) (fun i => piece_at m c t (by decide) _ _ k i s hs _ _ _ _ _) fun h2 => ?_
  refine canon_cols (e := .f32) (n := 512) (W := 1536) (o := 512) (w := 512) (by decide) _ _ _ k l (G := fun l => conv (X m c) (W m c) 0 s l) (fun i => piece_at m c t (by decide) _ _ k i s hs _ _ _ _ _) fun h1 => ?_
  refine canon_cols (e := .f32) (n := 512) (W := 1536) (o := 0) (w := 512) (by decide) _ _ _ k l (G := fun l => conv (X m c) (W m c) 0 s l) (fun i => piece_at m c t (by decide) _ _ k i s hs _ _ _ _ _) fun h0 => ?_
  have := l.isLt
  omega

/-- The array of the convolution. -/
theorem final : (dats m 0 c).arrAt 5 (cfgs 0).N = fun i : S8192x1536.Idx => conv (X m c) (W m c) 0 (i 0) (i 1) := by
  refine (dats m 0 c).arrAt_eq_of_covers 5 _ (by decide +kernel) fun t hf y => ?_
  have ht : t.val < 16 := lt_of_lt_of_eq t.isLt N_0
  idx_vars y
  blk_simp
  rw [after0_5]
  have e1 : (win0_5.blk t).view.emb (ix2 y0 y1) 1 = y1 := Fin.ext (by blk_simp [idx5 t])
  rw [e1]
  exact point m c t y0 y1 _ (by blk_simp [idx5 t]; omega)

end Cert.GdnConvFwdIdeal.Hand
-- ==== Proof.GdnConvFwd.Claim.lean ====
/- The wide convolution: the reference index by index, and the equation with the kernel. -/
module
public import proofs.«01_k».proof.Proof.GdnConvFwd.Block
public import proofs.«01_k».proof.Proof.Gen.GdnConvFwdRefIdeal.Read
public import proofs.«01_k».proof.Proof.Gen.GdnConvFwd.Frame
public import proofs.«01_k».proof.Defs

@[expose] public section

set_option maxRecDepth 16384

noncomputable section

namespace Cert.GdnConvFwdRefIdeal.Hand

open Cert.RgConv Cert.GdnConvFwdRefIdeal Cert.GdnConvFwdRefIdeal.Gen Cert.GdnConvFwdRefIdeal.Read Idealize.ShloMosaic Idealize.ShloMosaic.TcCoe Idealize.SL.Sem

variable (x : (⟨S8192x1536, .f32⟩ : BufTy).Contents (Elt Ideal)) (w : (⟨S4x1536, .f32⟩ : BufTy).Contents (Elt Ideal))

/-- The padded input is the shifted read. -/
theorem xp_at (n : Fin 8195) (l : Fin 1536) : val_main_v2 (F := Ideal) x (ix2 n l) = tap (fun s l => x (ix2 s l)) (n + 6) l := by
  pointwise [val_main_v2, val_main_v0, val_main_v1, val_main_cst, val_main_cst_0]
  have hn := n.isLt
  unfold tap
  by_cases h0 : (n : ℕ) < 2
  · rw [dif_pos h0, dif_neg (by omega)]
  rw [dif_neg h0]
  by_cases h1 : (n : ℕ) - 2 < 8192
  · rw [dif_pos h1, dif_pos (by omega)]; congr 1
  · rw [dif_neg h1, dif_neg (by omega)]

/-- The convolution of the reference. -/
theorem conv_at (s : Fin 8192) (l : Fin 1536) :
    val_main_v31 (F := Ideal) x w (ix2 s l) = conv (fun s l => x (ix2 s l)) (fun j l => w (ix2 j l)) 0 s l := by
  pointwise [val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_cst_1, xp_at]
  rw [show 1 + (s : ℕ) + 6 = s + 7 by omega, show 2 + (s : ℕ) + 6 = s + 8 by omega, show 3 + (s : ℕ) + 6 = s + 9 by omega]
  unfold conv
  simp only [mul_comm (w _)]
  show (_ : EReal) = _
  abel

end Cert.GdnConvFwdRefIdeal.Hand

namespace Cert.GdnConvFwd

open Idealize.ShloMosaic Idealize.ShloMosaic.TcCoe Idealize.SL.Sem

/-- The reference runs to the end and leaves its arguments unchanged. -/
theorem frame_ref : Cert.quiescent_GdnConvFwdRefIdeal := fun m ρ _ =>
  (θ_run Cert.GdnConvFwdRefIdeal.defs _ _).mono (fun r h => ⟨fun c => (h c).2, sem_eq_zero_of_no_sems (by decide) r.2⟩)
    (Cert.GdnConvFwdRefIdeal.Value.run m ρ)

/-- The kernel's result is the reference's, on every input. -/
theorem algebraic : Cert.algebraic_GdnConvFwdIdeal_GdnConvFwdRefIdeal := fun m ρ m' ρ' _ hag =>
  ⟨_, Cert.GdnConvFwdIdeal.Value.run_blocks m ρ, (θ_run _ _ _).mono (fun r h c => by
    obtain ⟨h0, h3⟩ := h c
    obtain ⟨a0, a1⟩ := hag c
    refine ⟨h0.trans ?_, h3⟩
    rw [Cert.GdnConvFwdRefIdeal.Read.val_main_v31_eq, a0, a1]
    refine Eq.trans ?_ (Cert.GdnConvFwdIdeal.Hand.final m c).symm
    funext i
    idx_vars i
    exact Cert.GdnConvFwdRefIdeal.Hand.conv_at _ _ i0 i1) (Cert.GdnConvFwdRefIdeal.Value.run m' ρ')⟩

end Cert.GdnConvFwd
-- ==== Proof.InProjFwd.Model.lean ====
/- The mixer's norm and its input projection on the extended reals, as functions of row and column. -/
module
public import Idealize.ShloMosaic.Lib.Pointwise

@[expose] public section

set_option maxRecDepth 16384

noncomputable section

namespace Cert.InProjFwd

open Idealize.ShloMosaic Idealize.ShloMosaic.TcCoe

/-- The reciprocal root of the mean of squares of row `s`, with the program's two constants. -/
def scale (x : Fin 8192 → Fin 1024 → EReal) (s : Fin 8192) : EReal :=
  Ideal.rsqrt (Ideal.div (∑ j, x s j * x s j) (Ideal.ofBits FTy.f32 1149239296#32) + Ideal.ofBits FTy.f32 897988541#32)

/-- The normalised row times the gain. -/
def normed (x : Fin 8192 → Fin 1024 → EReal) (g : Fin 1024 → EReal) (s : Fin 8192) (k : Fin 1024) : EReal := x s k * scale x s * g k

/-- Its product with a column of the matrix. -/
def proj {N : ℕ} (x : Fin 8192 → Fin 1024 → EReal) (g : Fin 1024 → EReal) (w : Fin 1024 → Fin N → EReal) (s : Fin 8192) (n : Fin N) : EReal :=
  ∑ k, normed x g s k * w k n

/-- Sixteen numbers and zeros after them. -/
def pad16 (a : Fin 16 → EReal) (l : Fin 128) : EReal := if h : (l : ℕ) < 16 then a ⟨l, h⟩ else 0

/-- A product with a padded matrix is the padded product. -/
theorem sum_pad16 (a : Fin 1024 → EReal) (b : Fin 1024 → Fin 16 → EReal) (l : Fin 128) :
    ∑ k, a k * pad16 (b k) l = pad16 (fun i => ∑ k, a k * b k i) l := by
  unfold pad16
  split_ifs with h
  · rfl
  · exact Finset.sum_eq_zero fun k _ => mul_zero _

/-- The column of each part's entry. -/
abbrev col0 (k : Fin 512) : Fin 3088 := ⟨k, by omega⟩
abbrev col1 (k : Fin 512) : Fin 3088 := ⟨512 + k, by omega⟩
abbrev col2 (k : Fin 1536) : Fin 3088 := ⟨1024 + k, by omega⟩
abbrev col3 (k : Fin 512) : Fin 3088 := ⟨2560 + k, by omega⟩
abbrev col4 (k : Fin 16) : Fin 3088 := ⟨3072 + k, by omega⟩

end Cert.InProjFwd
-- ==== Proof.InProjFwd.Block.lean ====
/- The mixer's norm and input projection: the blocks one grid point reads, what it writes, and the six arrays. -/
module
public import proofs.«01_k».proof.Proof.InProjFwd.Model
public import proofs.«01_k».proof.Proof.Reals
public import proofs.«01_k».proof.Proof.Gen.InProjFwdIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.InProjFwdIdeal.Hand

open Cert.InProjFwd Cert.InProjFwdIdeal Cert.InProjFwdIdeal.Gen Idealize.ShloMosaic Idealize.ShloMosaic.TcCoe Idealize.SL.Sem
open Idealize.ShloMosaic.Pipeline (Dat)

/-- The matrix's groups of columns. -/
theorem cols0 (w : FVec Ideal S1024x3088 .f32) (l : Fin 1024) (k : Fin 512) :
    extractStridedSlice S1024x512 ![0, 0] (truncf .bf16 w bitsLt_bf16_f32) slices_S1024x3088_S1024x512_0_0 (ix2 l k) = w (ix2 l (col0 k)) := by
  pointwise []
theorem cols1 (w : FVec Ideal S1024x3088 .f32) (l : Fin 1024) (k : Fin 512) :
    extractStridedSlice S1024x512 ![0, 512] (truncf .bf16 w bitsLt_bf16_f32) slices_S1024x3088_S1024x512_0_512 (ix2 l k) = w (ix2 l (col1 k)) := by
  pointwise []
theorem cols2 (w : FVec Ideal S1024x3088 .f32) (l : Fin 1024) (k : Fin 1536) :
    extractStridedSlice S1024x1536 ![0, 1024] (truncf .bf16 w bitsLt_bf16_f32) slices_S1024x3088_S1024x1536_0_1024 (ix2 l k) = w (ix2 l (col2 k)) := by
  pointwise []
theorem cols3 (w : FVec Ideal S1024x3088 .f32) (l : Fin 1024) (k : Fin 512) :
    extractStridedSlice S1024x512 ![0, 2560] (truncf .bf16 w bitsLt_bf16_f32) slices_S1024x3088_S1024x512_0_2560 (ix2 l k) = w (ix2 l (col3 k)) := by
  pointwise []
theorem cols4 (w : FVec Ideal S1024x3088 .f32) (l : Fin 1024) (k : Fin 16) :
    extractStridedSlice S1024x16 ![0, 3072] (truncf .bf16 w bitsLt_bf16_f32) slices_S1024x3088_S1024x16_0_3072 (ix2 l k) = w (ix2 l (col4 k)) := by
  pointwise []

/-- The padding's zero. -/
theorem zero_at (i : S_.Idx) : sitofp (F := Ideal) .bf16 (constantI S_ 32 0#32) i = (0 : EReal) := by
  pointwise []
  exact Reals.int_zero

/-- The last group of columns with zeros after it. -/
theorem wpad_at (w : FVec Ideal S1024x16 .bf16) (z : FVec Ideal S_ .bf16) {A : Fin 1024 → Fin 16 → EReal} (hw : ∀ s l, w (ix2 s l) = A s l)
    (hz : ∀ i, z i = (0 : EReal)) (s : Fin 1024) (l : Fin 128) :
    pad S1024x128 ![0, 0] ![0, 112] ![0, 0] w z pads_S1024x16_S1024x128_000_01120 h_S_ (ix2 s l) = pad16 (A s) l := by
  pointwise []
  rw [pad16]
  split_ifs with h
  · exact hw s ⟨l, h⟩
  · exact hz _

variable (m : (ℓ : Loc nD τ sig) → Buf (Elt Ideal) ℓ)

/-- The arguments as functions of row and column. -/
abbrev X (c : Dev nD) (s : Fin 8192) (l : Fin 1024) : EReal := m ((c.tc : Thread nD τ).loc main_arg0) (ix2 s l)
abbrev G (c : Dev nD) (l : Fin 1024) : EReal := m ((c.tc : Thread nD τ).loc main_arg1) (ix2 0 l)
abbrev W (c : Dev nD) (s : Fin 1024) (l : Fin 3088) : EReal := m ((c.tc : Thread nD τ).loc main_arg2) (ix2 s l)

theorem idx0 : ∀ t, win0_0.index t = ![t.val, 0] := (by decide +kernel : ∀ t : Fin grid0.N, _)
theorem idx1 : ∀ t, win0_1.index t = ![0, 0] := (by decide +kernel : ∀ t : Fin grid0.N, _)
theorem idx2 : ∀ t, win0_2.index t = ![0, 0] := (by decide +kernel : ∀ t : Fin grid0.N, _)
theorem idx3 : ∀ t, win0_3.index t = ![0, 0] := (by decide +kernel : ∀ t : Fin grid0.N, _)
theorem idx4 : ∀ t, win0_4.index t = ![0, 0] := (by decide +kernel : ∀ t : Fin grid0.N, _)
theorem idx5 : ∀ t, win0_5.index t = ![0, 0] := (by decide +kernel : ∀ t : Fin grid0.N, _)
theorem idx6 : ∀ t, win0_6.index t = ![0, 0] := (by decide +kernel : ∀ t : Fin grid0.N, _)
theorem idx7 : ∀ t, win0_7.index t = ![t.val, 0] := (by decide +kernel : ∀ t : Fin grid0.N, _)
theorem idx8 : ∀ t, win0_8.index t = ![t.val, 0] := (by decide +kernel : ∀ t : Fin grid0.N, _)
theorem idx9 : ∀ t, win0_9.index t = ![t.val, 0] := (by decide +kernel : ∀ t : Fin grid0.N, _)
theorem idx10 : ∀ t, win0_10.index t = ![t.val, 0] := (by decide +kernel : ∀ t : Fin grid0.N, _)
theorem idx11 : ∀ t, win0_11.index t = ![t.val, 0] := (by decide +kernel : ∀ t : Fin grid0.N, _)
theorem idx12 : ∀ t, win0_12.index t = ![t.val, 0] := (by decide +kernel : ∀ t : Fin grid0.N, _)

/-- Row `r` of grid point `t`'s block. -/
abbrev row (t : Fin cfg0.N) (r : Fin 512) : Fin 8192 := ⟨t.val * 512 + r, by have := lt_of_lt_of_eq t.isLt N_0; omega⟩

variable (c : Dev nD) (t : Fin cfg0.N)

/-- The blocks a grid point reads. -/
theorem blk0 (r : Fin 512) (l : Fin 1024) : iblk m c 0 t (ix2 r l) = X m c (row t r) l := by
  blk_point [iblk, V, idx0 t]
theorem blk1 (l : Fin 1024) : iblk m c 1 t (ix2 0 l) = G m c l := by
  blk_point [iblk, V, idx1 t]
theorem V_w0 (l : Fin 1024) (k : Fin 512) : V m c main_v1 (ix2 l k) = W m c l (col0 k) := by
  simp only [V, hostOps0, hostOps0_1, List.flatten_cons, List.flatten_nil, List.append_nil, List.cons_append, List.nil_append]
  after_results
  exact cols0 (m (c, Proc.tc.devRef main_arg2)) l k
theorem blk2 (l : Fin 1024) (k : Fin 512) : iblk m c 2 t (ix2 l k) = W m c l (col0 k) := by
  have e : iblk m c 2 t (ix2 l k) = V m c main_v1 (ix2 l k) := by blk_point [iblk, idx2 t]
  exact e.trans (V_w0 m c l k)
theorem V_w1 (l : Fin 1024) (k : Fin 512) : V m c main_v2 (ix2 l k) = W m c l (col1 k) := by
  simp only [V, hostOps0, hostOps0_1, List.flatten_cons, List.flatten_nil, List.append_nil, List.cons_append, List.nil_append]
  after_results
  exact cols1 (m (c, Proc.tc.devRef main_arg2)) l k
theorem blk3 (l : Fin 1024) (k : Fin 512) : iblk m c 3 t (ix2 l k) = W m c l (col1 k) := by
  have e : iblk m c 3 t (ix2 l k) = V m c main_v2 (ix2 l k) := by blk_point [iblk, idx3 t]
  exact e.trans (V_w1 m c l k)
theorem V_w2 (l : Fin 1024) (k : Fin 1536) : V m c main_v3 (ix2 l k) = W m c l (col2 k) := by
  simp only [V, hostOps0, hostOps0_1, List.flatten_cons, List.flatten_nil, List.append_nil, List.cons_append, List.nil_append]
  after_results
  exact cols2 (m (c, Proc.tc.devRef main_arg2)) l k
theorem blk4 (l : Fin 1024) (k : Fin 1536) : iblk m c 4 t (ix2 l k) = W m c l (col2 k) := by
  have e : iblk m c 4 t (ix2 l k) = V m c main_v3 (ix2 l k) := by blk_point [iblk, idx4 t]
  exact e.trans (V_w2 m c l k)
theorem V_w3 (l : Fin 1024) (k : Fin 512) : V m c main_v4 (ix2 l k) = W m c l (col3 k) := by
  simp only [V, hostOps0, hostOps0_1, List.flatten_cons, List.flatten_nil, List.append_nil, List.cons_append, List.nil_append]
  after_results
  exact cols3 (m (c, Proc.tc.devRef main_arg2)) l k
theorem blk5 (l : Fin 1024) (k : Fin 512) : iblk m c 5 t (ix2 l k) = W m c l (col3 k) := by
  have e : iblk m c 5 t (ix2 l k) = V m c main_v4 (ix2 l k) := by blk_point [iblk, idx5 t]
  exact e.trans (V_w3 m c l k)
theorem V_w4 (l : Fin 1024) (k : Fin 128) : V m c main_v6 (ix2 l k) = pad16 (fun i => W m c l (col4 i)) k := by
  simp only [V, hostOps0, hostOps0_1, List.flatten_cons, List.flatten_nil, List.append_nil, List.cons_append, List.nil_append]
  after_results
  exact wpad_at _ _ (fun s i => cols4 (m (c, Proc.tc.devRef main_arg2)) s i) zero_at l k
theorem blk6 (l : Fin 1024) (k : Fin 128) : iblk m c 6 t (ix2 l k) = pad16 (fun i => W m c l (col4 i)) k := by
  have e : iblk m c 6 t (ix2 l k) = V m c main_v6 (ix2 l k) := by blk_point [iblk, idx6 t]
  exact e.trans (V_w4 m c l k)

/-- The normalised rows. -/
theorem h_at (r : Fin 512) (l : Fin 1024) : k0_pay3 (F := Ideal) (iblk m c 0 t) (iblk m c 1 t) (ix2 r l) = normed (X m c) (G m c) (row t r) l := by
  pointwise [k0_pay3, blk0 m c t, blk1 m c t]
  rfl

/-- What a grid point writes to each output. -/
theorem point7 (r : Fin 512) (l : Fin 1024) :
    out0_7 (F := Ideal) (iblk m c 0 t) (iblk m c 1 t) (iblk m c 2 t) (iblk m c 3 t) (iblk m c 4 t) (iblk m c 5 t) (iblk m c 6 t) (ix2 r l) = normed (X m c) (G m c) (row t r) l := by
  unfold out0_7
  frame_out
  exact h_at m c t r l
theorem point8 (r : Fin 512) (l : Fin 512) :
    out0_8 (F := Ideal) (iblk m c 0 t) (iblk m c 1 t) (iblk m c 2 t) (iblk m c 3 t) (iblk m c 4 t) (iblk m c 5 t) (iblk m c 6 t) (ix2 r l) = proj (X m c) (G m c) (W m c) (row t r) (col0 l) := by
  unfold out0_8
  frame_out
  pointwise [k0_pay4, h_at m c t, blk2 m c t]
  rfl
theorem point9 (r : Fin 512) (l : Fin 512) :
    out0_9 (F := Ideal) (iblk m c 0 t) (iblk m c 1 t) (iblk m c 2 t) (iblk m c 3 t) (iblk m c 4 t) (iblk m c 5 t) (iblk m c 6 t) (ix2 r l) = proj (X m c) (G m c) (W m c) (row t r) (col1 l) := by
  unfold out0_9
  frame_out
  pointwise [k0_pay5, h_at m c t, blk3 m c t]
  rfl
theorem point10 (r : Fin 512) (l : Fin 1536) :
    out0_10 (F := Ideal) (iblk m c 0 t) (iblk m c 1 t) (iblk m c 2 t) (iblk m c 3 t) (iblk m c 4 t) (iblk m c 5 t) (iblk m c 6 t) (ix2 r l) = proj (X m c) (G m c) (W m c) (row t r) (col2 l) := by
  unfold out0_10
  frame_out
  pointwise [k0_pay6, h_at m c t, blk4 m c t]
  rfl
theorem point11 (r : Fin 512) (l : Fin 512) :
    out0_11 (F := Ideal) (iblk m c 0 t) (iblk m c 1 t) (iblk m c 2 t) (iblk m c 3 t) (iblk m c 4 t) (iblk m c 5 t) (iblk m c 6 t) (ix2 r l) = proj (X m c) (G m c) (W m c) (row t r) (col3 l) := by
  unfold out0_11 k0_pay7
  frame_out
  pointwise [k0_pay1, h_at m c t, blk5 m c t]
  rfl
theorem point12 (r : Fin 512) (l : Fin 128) :
    out0_12 (F := Ideal) (iblk m c 0 t) (iblk m c 1 t) (iblk m c 2 t) (iblk m c 3 t) (iblk m c 4 t) (iblk m c 5 t) (iblk m c 6 t) (ix2 r l)
      = pad16 (fun i => proj (X m c) (G m c) (W m c) (row t r) (col4 i)) l := by
  unfold out0_12 k0_pay7
  frame_out
  pointwise [k0_pay2, h_at m c t, blk6 m c t]
  exact sum_pad16 _ _ _

/-- The six arrays. -/
theorem final7 : (dats m 0 c).arrAt 7 (cfgs 0).N = fun i : S8192x1024.Idx => normed (X m c) (G m c) (i 0) (i 1) := by
  refine (dats m 0 c).arrAt_eq_of_covers 7 _ (by decide +kernel) fun t hf y => ?_
  idx_vars y
  blk_simp
  rw [after0_7]
  have e0 : (win0_7.blk t).view.emb (ix2 y0 y1) 0 = row t y0 := Fin.ext (by blk_simp [idx7 t])
  have e1 : (win0_7.blk t).view.emb (ix2 y0 y1) 1 = y1 := Fin.ext (by blk_simp [idx7 t])
  rw [e0, e1]
  exact point7 m c t y0 y1
theorem final8 : (dats m 0 c).arrAt 8 (cfgs 0).N = fun i : S8192x512.Idx => proj (X m c) (G m c) (W m c) (i 0) (col0 (i 1)) := by
  refine (dats m 0 c).arrAt_eq_of_covers 8 _ (by decide +kernel) fun t hf y => ?_
  idx_vars y
  blk_simp
  rw [after0_8]
  have e0 : (win0_8.blk t).view.emb (ix2 y0 y1) 0 = row t y0 := Fin.ext (by blk_simp [idx8 t])
  have e1 : (win0_8.blk t).view.emb (ix2 y0 y1) 1 = y1 := Fin.ext (by blk_simp [idx8 t])
  rw [e0, e1]
  exact point8 m c t y0 y1
theorem final9 : (dats m 0 c).arrAt 9 (cfgs 0).N = fun i : S8192x512.Idx => proj (X m c) (G m c) (W m c) (i 0) (col1 (i 1)) := by
  refine (dats m 0 c).arrAt_eq_of_covers 9 _ (by decide +kernel) fun t hf y => ?_
  idx_vars y
  blk_simp
  rw [after0_9]
  have e0 : (win0_9.blk t).view.emb (ix2 y0 y1) 0 = row t y0 := Fin.ext (by blk_simp [idx9 t])
  have e1 : (win0_9.blk t).view.emb (ix2 y0 y1) 1 = y1 := Fin.ext (by blk_simp [idx9 t])
  rw [e0, e1]
  exact point9 m c t y0 y1
theorem final10 : (dats m 0 c).arrAt 10 (cfgs 0).N = fun i : S8192x1536.Idx => proj (X m c) (G m c) (W m c) (i 0) (col2 (i 1)) := by
  refine (dats m 0 c).arrAt_eq_of_covers 10 _ (by decide +kernel) fun t hf y => ?_
  idx_vars y
  blk_simp
  rw [after0_10]
  have e0 : (win0_10.blk t).view.emb (ix2 y0 y1) 0 = row t y0 := Fin.ext (by blk_simp [idx10 t])
  have e1 : (win0_10.blk t).view.emb (ix2 y0 y1) 1 = y1 := Fin.ext (by blk_simp [idx10 t])
  rw [e0, e1]
  exact point10 m c t y0 y1
theorem final11 : (dats m 0 c).arrAt 11 (cfgs 0).N = fun i : S8192x512.Idx => proj (X m c) (G m c) (W m c) (i 0) (col3 (i 1)) := by
  refine (dats m 0 c).arrAt_eq_of_covers 11 _ (by decide +kernel) fun t hf y => ?_
  idx_vars y
  blk_simp
  rw [after0_11]
  have e0 : (win0_11.blk t).view.emb (ix2 y0 y1) 0 = row t y0 := Fin.ext (by blk_simp [idx11 t])
  have e1 : (win0_11.blk t).view.emb (ix2 y0 y1) 1 = y1 := Fin.ext (by blk_simp [idx11 t])
  rw [e0, e1]
  exact point11 m c t y0 y1
theorem final12 : (dats m 0 c).arrAt 12 (cfgs 0).N = fun i : S8192x128.Idx => pad16 (fun j => proj (X m c) (G m c) (W m c) (i 0) (col4 j)) (i 1) := by
  refine (dats m 0 c).arrAt_eq_of_covers 12 _ (by decide +kernel) fun t hf y => ?_
  idx_vars y
  blk_simp
  rw [after0_12]
  have e0 : (win0_12.blk t).view.emb (ix2 y0 y1) 0 = row t y0 := Fin.ext (by blk_simp [idx12 t])
  have e1 : (win0_12.blk t).view.emb (ix2 y0 y1) 1 = y1 := Fin.ext (by blk_simp [idx12 t])
  rw [e0, e1]
  exact point12 m c t y0 y1

end Cert.InProjFwdIdeal.Hand
-- ==== Proof.InProjFwd.Claim.lean ====
/- The mixer's norm and input projection: the reference index by index, and the equation with the kernel. -/
module
public import proofs.«01_k».proof.Proof.InProjFwd.Block
public import proofs.«01_k».proof.Proof.Gen.InProjFwdRefIdeal.Read
public import proofs.«01_k».proof.Proof.Gen.InProjFwd.Frame
public import proofs.«01_k».proof.Defs

@[expose] public section

set_option maxRecDepth 16384

noncomputable section

namespace Cert.InProjFwdRefIdeal.Hand

open Cert.InProjFwd Cert.InProjFwdRefIdeal Cert.InProjFwdRefIdeal.Gen Cert.InProjFwdRefIdeal.Read Idealize.ShloMosaic Idealize.ShloMosaic.TcCoe Idealize.SL.Sem

variable (x : (⟨S8192x1024, .f32⟩ : BufTy).Contents (Elt Ideal)) (g : (⟨S1x1024, .f32⟩ : BufTy).Contents (Elt Ideal)) (w : (⟨S1024x3088, .f32⟩ : BufTy).Contents (Elt Ideal))

/-- The normalised rows times the gain. -/
theorem h_at (s : Fin 8192) (l : Fin 1024) : val_main_v11 (F := Ideal) x g (ix2 s l) = normed (fun s l => x (ix2 s l)) (fun l => g (ix2 0 l)) s l := by
  pointwise [val_main_v11, val_main_v10, val_main_v9, val_main_v8, val_main_v7, val_main_v6, val_main_v5, val_main_v4, val_main_v3, val_main_v2, val_main_v1,
    val_main_v0, val_main_cst, val_main_cst_0, val_main_cst_1]
  rfl

/-- The narrow copy of them. -/
theorem h16_at (s : Fin 8192) (l : Fin 1024) : val_main_v13 (F := Ideal) x g (ix2 s l) = normed (fun s l => x (ix2 s l)) (fun l => g (ix2 0 l)) s l := h_at x g s l

/-- The projection. -/
theorem p_at (s : Fin 8192) (n : Fin 3088) : val_main_v12 (F := Ideal) x g w (ix2 s n) = proj (fun s l => x (ix2 s l)) (fun l => g (ix2 0 l)) (fun k n => w (ix2 k n)) s n := by
  pointwise [val_main_v12, h_at]
  rfl

/-- Its five parts. -/
theorem p0_at (s : Fin 8192) (l : Fin 512) : val_main_v14 (F := Ideal) x g w (ix2 s l) = proj (fun s l => x (ix2 s l)) (fun l => g (ix2 0 l)) (fun k n => w (ix2 k n)) s (col0 l) := by
  pointwise [val_main_v14]
  exact p_at x g w s (col0 l)
theorem p1_at (s : Fin 8192) (l : Fin 512) : val_main_v15 (F := Ideal) x g w (ix2 s l) = proj (fun s l => x (ix2 s l)) (fun l => g (ix2 0 l)) (fun k n => w (ix2 k n)) s (col1 l) := by
  pointwise [val_main_v15]
  exact p_at x g w s (col1 l)
theorem p2_at (s : Fin 8192) (l : Fin 1536) : val_main_v16 (F := Ideal) x g w (ix2 s l) = proj (fun s l => x (ix2 s l)) (fun l => g (ix2 0 l)) (fun k n => w (ix2 k n)) s (col2 l) := by
  pointwise [val_main_v16]
  exact p_at x g w s (col2 l)
theorem p3_at (s : Fin 8192) (l : Fin 512) : val_main_v17 (F := Ideal) x g w (ix2 s l) = proj (fun s l => x (ix2 s l)) (fun l => g (ix2 0 l)) (fun k n => w (ix2 k n)) s (col3 l) := by
  pointwise [val_main_v17]
  exact p_at x g w s (col3 l)
theorem p4_at (s : Fin 8192) (l : Fin 16) : val_main_v18 (F := Ideal) x g w (ix2 s l) = proj (fun s l => x (ix2 s l)) (fun l => g (ix2 0 l)) (fun k n => w (ix2 k n)) s (col4 l) := by
  pointwise [val_main_v18]
  exact p_at x g w s (col4 l)
theorem pad_at (s : Fin 8192) (l : Fin 128) : val_main_v19 (F := Ideal) x g w (ix2 s l) = pad16 (fun i => proj (fun s l => x (ix2 s l)) (fun l => g (ix2 0 l)) (fun k n => w (ix2 k n)) s (col4 i)) l := by
  pointwise [val_main_v19, val_main_call0_v0, val_main_c]
  rw [pad16]
  split_ifs with h
  · exact p4_at x g w s ⟨l, h⟩
  · exact Reals.int_zero

end Cert.InProjFwdRefIdeal.Hand

namespace Cert.InProjFwd

open Idealize.ShloMosaic Idealize.ShloMosaic.TcCoe Idealize.SL.Sem

/-- The reference runs to the end and leaves its arguments unchanged. -/
theorem frame_ref : Cert.quiescent_InProjFwdRefIdeal := fun m ρ _ =>
  (θ_run Cert.InProjFwdRefIdeal.defs _ _).mono (fun r h => ⟨fun c => (h c).2.2.2.2.2.2, sem_eq_zero_of_no_sems (by decide) r.2⟩)
    (Cert.InProjFwdRefIdeal.Value.run m ρ)

/-- The kernel's six results are the reference's six results, on every input. -/
theorem algebraic : Cert.algebraic_InProjFwdIdeal_InProjFwdRefIdeal := fun m ρ m' ρ' _ hag =>
  ⟨_, _, _, _, _, _, Cert.InProjFwdIdeal.Value.run_blocks m ρ, (θ_run _ _ _).mono (fun r h c => by
    obtain ⟨h0, h1, h2, h3, h4, h5, h6⟩ := h c
    obtain ⟨a0, a1, a2⟩ := hag c
    refine ⟨h0.trans ?_, h1.trans ?_, h2.trans ?_, h3.trans ?_, h4.trans ?_, h5.trans ?_, h6⟩ <;> clear h0 h1 h2 h3 h4 h5 h6 h
    · rw [Cert.InProjFwdRefIdeal.Read.val_main_v13_eq, a0, a1]
      refine Eq.trans ?_ (Cert.InProjFwdIdeal.Hand.final7 m c).symm
      funext i
      idx_vars i
      exact Cert.InProjFwdRefIdeal.Hand.h16_at _ _ i0 i1
    · rw [Cert.InProjFwdRefIdeal.Read.val_main_v14_eq, a0, a1, a2]
      refine Eq.trans ?_ (Cert.InProjFwdIdeal.Hand.final8 m c).symm
      funext i
      idx_vars i
      exact Cert.InProjFwdRefIdeal.Hand.p0_at _ _ _ i0 i1
    · rw [Cert.InProjFwdRefIdeal.Read.val_main_v15_eq, a0, a1, a2]
      refine Eq.trans ?_ (Cert.InProjFwdIdeal.Hand.final9 m c).symm
      funext i
      idx_vars i
      exact Cert.InProjFwdRefIdeal.Hand.p1_at _ _ _ i0 i1
    · rw [Cert.InProjFwdRefIdeal.Read.val_main_v16_eq, a0, a1, a2]
      refine Eq.trans ?_ (Cert.InProjFwdIdeal.Hand.final10 m c).symm
      funext i
      idx_vars i
      exact Cert.InProjFwdRefIdeal.Hand.p2_at _ _ _ i0 i1
    · rw [Cert.InProjFwdRefIdeal.Read.val_main_v17_eq, a0, a1, a2]
      refine Eq.trans ?_ (Cert.InProjFwdIdeal.Hand.final11 m c).symm
      funext i
      idx_vars i
      exact Cert.InProjFwdRefIdeal.Hand.p3_at _ _ _ i0 i1
    · rw [Cert.InProjFwdRefIdeal.Read.val_main_v19_eq, a0, a1, a2]
      refine Eq.trans ?_ (Cert.InProjFwdIdeal.Hand.final12 m c).symm
      funext i
      idx_vars i
      exact Cert.InProjFwdRefIdeal.Hand.pad_at _ _ _ i0 i1)
    (Cert.InProjFwdRefIdeal.Value.run m' ρ')⟩

end Cert.InProjFwd
-- ==== Proof.FfnFwd.Model.lean ====
/- The feed-forward layer on the extended reals, as functions of row and column. -/
module
public import proofs.«01_k».proof.Proof.InProjFwd.Model
public import proofs.«01_k».proof.Proof.Ffn.Model
public import proofs.«01_k».proof.Proof.Reals

@[expose] public section

set_option maxRecDepth 16384

noncomputable section

namespace Cert.FfnFwd

open Cert.InProjFwd Idealize.ShloMosaic Idealize.ShloMosaic.TcCoe

/-- The logistic function. -/
def sg (a : EReal) : EReal := Ideal.div 1 (1 + Ideal.exp (-a))

/-- The kernel's logistic function, through the hyperbolic tangent, is the logistic function at every extended real. -/
theorem sg_tanh (a : EReal) :
    Ideal.ofBits .f32 1056964608#32 + Ideal.ofBits .f32 1056964608#32 * Ideal.tanh (Ideal.ofBits .f32 1056964608#32 * a) = sg a := by
  rw [Reals.lit_half, sg]
  induction a with
  | bot =>
    rw [EReal.coe_mul_bot_of_pos (by norm_num), Ideal.tanh_bot, EReal.neg_bot, Ideal.exp_top, EReal.add_top_of_ne_bot (by decide), Ideal.div, if_neg (by decide), EReal.inv_top, mul_zero,
      ← EReal.coe_one, Reals.neg, Reals.mul, Reals.add, ← EReal.coe_zero]
    norm_num
  | top =>
    rw [EReal.coe_mul_top_of_pos (by norm_num), Ideal.tanh_top, EReal.neg_top, Ideal.exp_bot, add_zero, ← EReal.coe_one, Reals.mul, Reals.add, Reals.div _ one_ne_zero]
    norm_num
  | coe x =>
    have p : (1 : ℝ) + Real.exp (-x) ≠ 0 := (add_pos one_pos (Real.exp_pos _)).ne'
    rw [Reals.mul, Ideal.tanh_coe, Reals.neg, Ideal.exp_coe, ← EReal.coe_one, Reals.mul, Reals.add, Reals.add, Reals.div _ p, ← Reals.sig_tanh]

variable (x : Fin 8192 → Fin 1024 → EReal) (g : Fin 1024 → EReal) (wg wu : Fin 1024 → Fin 2816 → EReal) (wd : Fin 2816 → Fin 1024 → EReal)

/-- The gate a·σ(a) of two numbers, and its derivatives in each. -/
def hid (a b : EReal) : EReal := a * sg a * b
def grad (a b : EReal) : EReal := sg a * b + a * sg a * b * (1 - sg a)
def lin (a : EReal) : EReal := a * sg a

/-- The hidden entry of row `s`, column `n`. -/
def f (s : Fin 8192) (n : Fin 2816) : EReal := hid (proj x g wg s n) (proj x g wu s n)

/-- The layer's output: half the hidden entries' product, added to the row. -/
def out (s : Fin 8192) (l : Fin 1024) : EReal := x s l + Ideal.ofBits .f32 1056964608#32 * ∑ n, f x g wg wu s n * wd n l

/-- The derivative as the chain rule writes it. -/
theorem grad_eq (a b : EReal) : b * sg a + a * b * (sg a * (1 - sg a)) = grad a b := by
  rw [grad, mul_comm b, mul_right_comm a (sg a) b, mul_assoc (a * b)]

end Cert.FfnFwd
-- ==== Proof.FfnFwd.Pay.lean ====
/- The feed-forward kernel's payloads for one group of hidden columns. -/
module
public import proofs.«01_k».proof.Proof.FfnFwd.Model
public import proofs.«01_k».proof.Proof.Groups
public import proofs.«01_k».proof.Proof.Gen.FfnFwdIdeal.Value
public import Idealize.ShloMosaic.Lib.Pipeline.ValueKit

@[expose] public section

set_option maxRecDepth 16384

noncomputable section

namespace Cert.FfnFwdIdeal.Hand

open Cert.InProjFwd Cert.FfnFwd Cert.FfnFwdIdeal Cert.FfnFwdIdeal.Gen Idealize.ShloMosaic Idealize.ShloMosaic.TcCoe Idealize.SL.Sem

section Same

variable (x : Vec Ideal S256x1024 .f32) (g : Vec Ideal S1x1024 .f32) (h : FVec Ideal S256x1024 .bf16) (w u : Vec Ideal S1x1024x704 .bf16)

/-- The hidden entries of each group are the same lines … -/
theorem pay12_eq : k0_pay12 (F := Ideal) x g w u = k0_pay24 (k0_pay6 x g) w u := rfl
theorem pay34_eq : k0_pay34 (F := Ideal) h w u = k0_pay24 h w u := rfl
theorem pay43_eq : k0_pay1 (F := Ideal) (k0_pay43 h w u) = k0_pay24 h w u := rfl
/-- … and their stores, … -/
theorem pay13_eq : k0_pay13 (F := Ideal) x g w u = k0_pay25 (k0_pay6 x g) w u := rfl
theorem pay35_eq : k0_pay35 (F := Ideal) (k0_pay34 h w u) = k0_pay25 h w u := rfl
theorem pay2_eq : k0_pay2 (F := Ideal) (k0_pay43 h w u) = k0_pay25 h w u := rfl
/-- … the stores of the gate's derivative, … -/
theorem pay16_eq : k0_pay16 (F := Ideal) (k0_pay9 x g w) (k0_pay11 x g w u) (k0_pay14 x g w u) k0_pay15
    = k0_pay26 (k0_pay20 (k0_pay6 x g) u) (k0_pay21 (k0_pay6 x g) w) (k0_pay23 (k0_pay6 x g) w u) := rfl
theorem pay36_eq : k0_pay36 (F := Ideal) (k0_pay30 h u) (k0_pay31 h w) (k0_pay33 h w u) = k0_pay26 (k0_pay20 h u) (k0_pay21 h w) (k0_pay23 h w u) := rfl
theorem pay3_eq : k0_pay3 (F := Ideal) (k0_pay40 h u) (k0_pay41 h w) (k0_pay43 h w u) = k0_pay26 (k0_pay20 h u) (k0_pay21 h w) (k0_pay23 h w u) := rfl
/-- … and of the linear branch's. -/
theorem pay17_eq : k0_pay17 (F := Ideal) (k0_pay10 x g w) = k0_pay27 (k0_pay22 (k0_pay6 x g) w) := rfl
theorem pay37_eq : k0_pay37 (F := Ideal) (k0_pay32 h w) = k0_pay27 (k0_pay22 h w) := rfl
theorem pay4_eq : k0_pay4 (F := Ideal) (k0_pay42 h w) = k0_pay27 (k0_pay22 h w) := rfl

end Same

section Group

variable {h : FVec Ideal S256x1024 .bf16} {w u : Vec Ideal S1x1024x704 .bf16} {A B : Fin 256 → Fin 704 → EReal}
  (ha : ∀ r k, ∑ l, h (ix2 r l) * w (ix3 0 l k) = A r k) (hb : ∀ r k, ∑ l, h (ix2 r l) * u (ix3 0 l k) = B r k)

/-- The two projections. -/
theorem lin_at (r : Fin 256) (k : Fin 704) : k0_pay19 (F := Ideal) h w (ix2 r k) = ∑ l, h (ix2 r l) * w (ix3 0 l k) := by
  pointwise [k0_pay19]
theorem lin2_at (r : Fin 256) (k : Fin 704) : k0_pay20 (F := Ideal) h w (ix2 r k) = ∑ l, h (ix2 r l) * w (ix3 0 l k) := lin_at r k

include ha

/-- The logistic function of the gate's input, and the gate's first factor. -/
theorem sg_at (r : Fin 256) (k : Fin 704) : k0_pay21 (F := Ideal) h w (ix2 r k) = sg (A r k) := by
  pointwise [k0_pay21, lin_at, ha]
  exact sg_tanh _
theorem silu_at (r : Fin 256) (k : Fin 704) : k0_pay22 (F := Ideal) h w (ix2 r k) = lin (A r k) := by
  pointwise [k0_pay22, lin_at, ha, sg_at ha]
  rfl
theorem gb_at (r : Fin 256) (k : Fin 704) : k0_pay27 (F := Ideal) (k0_pay22 h w) (ix3 0 r k) = lin (A r k) := by
  pointwise [k0_pay27, silu_at ha]

include hb

/-- The hidden entry, and the gate's derivative. -/
theorem hid_at (r : Fin 256) (k : Fin 704) : k0_pay23 (F := Ideal) h w u (ix2 r k) = hid (A r k) (B r k) := by
  pointwise [k0_pay23, lin2_at, hb, silu_at ha]
  rfl
theorem hid16_at (r : Fin 256) (k : Fin 704) : k0_pay24 (F := Ideal) h w u (ix2 r k) = hid (A r k) (B r k) := hid_at ha hb r k
theorem f_at (r : Fin 256) (k : Fin 704) : k0_pay25 (F := Ideal) h w u (ix3 0 r k) = hid (A r k) (B r k) := by
  pointwise [k0_pay25, hid16_at ha hb]
theorem ga_at (r : Fin 256) (k : Fin 704) : k0_pay26 (F := Ideal) (k0_pay20 h u) (k0_pay21 h w) (k0_pay23 h w u) (ix3 0 r k) = grad (A r k) (B r k) := by
  pointwise [k0_pay26, lin2_at, hb, sg_at ha, hid_at ha hb]
  rfl

end Group

/-- The output: the four groups' products one after another. -/
theorem out_at {x : Vec Ideal S256x1024 .f32} {P : Fin 4 → FVec Ideal S256x704 .bf16} {p : FVec Ideal S256x704 .f32} {d : Fin 4 → Vec Ideal S1x704x1024 .bf16}
    (hp : k0_pay1 p = P 3) (r : Fin 256) (l : Fin 1024) :
    k0_pay5 (F := Ideal) x (k0_pay38 (k0_pay28 (k0_pay18 (P 0) (d 0)) (P 1) (d 1)) (P 2) (d 2)) p (d 3) (ix2 r l)
      = x (ix2 r l) + Ideal.ofBits .f32 1056964608#32 * ∑ j, ∑ k, P j (ix2 r k) * d j (ix3 0 k l) := by
  unfold k0_pay5
  rw [hp]
  pointwise [k0_pay38, k0_pay28, k0_pay18]
  simp only [Reals.lit_zero, EReal.coe_zero, zero_add, Fin.sum_univ_four]

end Cert.FfnFwdIdeal.Hand
-- ==== Proof.FfnFwd.Block.lean ====
/- The feed-forward layer: the blocks one grid point reads, what it writes, and the four arrays. -/
module
public import proofs.«01_k».proof.Proof.FfnFwd.Pay
public import Idealize.ShloMosaic.Lib.Pipeline.ReadBack
public import Idealize.ShloMosaic.Lib.WritesUnit
public import Idealize.ShloMosaic.Lib.Routing.OpsSet

@[expose] public section

set_option maxRecDepth 16384

noncomputable section

namespace Cert.FfnFwdIdeal.Hand

open Cert.Groups Cert.Ffn Cert.InProjFwd Cert.FfnFwd Cert.FfnFwdIdeal Cert.FfnFwdIdeal.Gen Idealize.ShloMosaic Idealize.ShloMosaic.TcCoe Idealize.SL.Sem
open Idealize.ShloMosaic.Pipeline (Dat)

/-- The matrices in groups, as the host lays them out. -/
theorem cols_at (w : FVec Ideal S1024x2816 .f32) (j : Fin 4) (l : Fin 1024) (k : Fin 704) :
    truncf .bf16 (transpose S4x1024x704 [1, 0, 2] (shapeCast S1024x4x704 w shapeCasts_S1024x2816_S1024x4x704) transposes_S1024x4x704_S4x1024x704_1_0_2) bitsLt_bf16_f32 (ix3 j l k) = w (ix2 l (col j k)) := by
  pointwise []
theorem rows_at (w : FVec Ideal S2816x1024 .f32) (j : Fin 4) (k : Fin 704) (l : Fin 1024) :
    truncf .bf16 (shapeCast S4x704x1024 w shapeCasts_S2816x1024_S4x704x1024) bitsLt_bf16_f32 (ix3 j k l) = w (ix2 (col j k) l) := by
  pointwise []

variable (m : (ℓ : Loc nD τ sig) → Buf (Elt Ideal) ℓ)

/-- The arguments as functions of row and column. -/
abbrev X (c : Dev nD) (s : Fin 8192) (l : Fin 1024) : EReal := m ((c.tc : Thread nD τ).loc main_arg0) (ix2 s l)
abbrev G (c : Dev nD) (l : Fin 1024) : EReal := m ((c.tc : Thread nD τ).loc main_arg1) (ix2 0 l)
abbrev Wg (c : Dev nD) (l : Fin 1024) (n : Fin 2816) : EReal := m ((c.tc : Thread nD τ).loc main_arg2) (ix2 l n)
abbrev Wu (c : Dev nD) (l : Fin 1024) (n : Fin 2816) : EReal := m ((c.tc : Thread nD τ).loc main_arg3) (ix2 l n)
abbrev Wd (c : Dev nD) (n : Fin 2816) (l : Fin 1024) : EReal := m ((c.tc : Thread nD τ).loc main_arg4) (ix2 n l)

theorem idx0 : ∀ t, win0_0.index t = ![t.val, 0] := (by decide +kernel : ∀ t : Fin grid0.N, _)
theorem idx1 : ∀ t, win0_1.index t = ![0, 0] := (by decide +kernel : ∀ t : Fin grid0.N, _)
theorem idx2 : ∀ t, win0_2.index t = ![0, 0, 0] := (by decide +kernel : ∀ t : Fin grid0.N, _)
theorem idx3 : ∀ t, win0_3.index t = ![0, 0, 0] := (by decide +kernel : ∀ t : Fin grid0.N, _)
theorem idx4 : ∀ t, win0_4.index t = ![0, 0, 0] := (by decide +kernel : ∀ t : Fin grid0.N, _)
theorem idx5 : ∀ t, win0_5.index t = ![t.val, 0] := (by decide +kernel : ∀ t : Fin grid0.N, _)
theorem idx6 : ∀ t, win0_6.index t = ![0, t.val, 0] := (by decide +kernel : ∀ t : Fin grid0.N, _)
theorem idx7 : ∀ t, win0_7.index t = ![0, t.val, 0] := (by decide +kernel : ∀ t : Fin grid0.N, _)
theorem idx8 : ∀ t, win0_8.index t = ![0, t.val, 0] := (by decide +kernel : ∀ t : Fin grid0.N, _)

/-- Row `r` of grid point `t`'s block. -/
abbrev row (t : Fin cfg0.N) (r : Fin 256) : Fin 8192 := ⟨t.val * 256 + r, by have := lt_of_lt_of_eq t.isLt N_0; omega⟩

variable (c : Dev nD) (t : Fin cfg0.N)

/-- The arrays the host hands over. -/
theorem V_wg (j : Fin 4) (l : Fin 1024) (k : Fin 704) : V m c main_v2 (ix3 j l k) = Wg m c l (col j k) := by
  simp only [V, hostOps0, List.flatten_cons, List.flatten_nil, List.append_nil, List.cons_append, List.nil_append]
  after_results
  exact cols_at (m (c, Proc.tc.devRef main_arg2)) j l k
theorem V_wu (j : Fin 4) (l : Fin 1024) (k : Fin 704) : V m c main_v5 (ix3 j l k) = Wu m c l (col j k) := by
  simp only [V, hostOps0, List.flatten_cons, List.flatten_nil, List.append_nil, List.cons_append, List.nil_append]
  after_results
  exact cols_at (m (c, Proc.tc.devRef main_arg3)) j l k
theorem V_wd (j : Fin 4) (k : Fin 704) (l : Fin 1024) : V m c main_v7 (ix3 j k l) = Wd m c (col j k) l := by
  simp only [V, hostOps0, List.flatten_cons, List.flatten_nil, List.append_nil, List.cons_append, List.nil_append]
  after_results
  exact rows_at (m (c, Proc.tc.devRef main_arg4)) j k l

/-- The blocks a grid point reads. -/
theorem blk0 (r : Fin 256) (l : Fin 1024) : iblk m c 0 t (ix2 r l) = X m c (row t r) l := by
  blk_point [iblk, V, idx0 t]
theorem blk1 (l : Fin 1024) : iblk m c 1 t (ix2 0 l) = G m c l := by
  blk_point [iblk, V, idx1 t]
theorem blk2 (j : Fin 4) (l : Fin 1024) (k : Fin 704) : iblk m c 2 t (ix3 j l k) = Wg m c l (col j k) := by
  rw [← V_wg]
  blk_point [iblk, idx2 t]
theorem blk3 (j : Fin 4) (l : Fin 1024) (k : Fin 704) : iblk m c 3 t (ix3 j l k) = Wu m c l (col j k) := by
  rw [← V_wu]
  blk_point [iblk, idx3 t]
theorem blk4 (j : Fin 4) (k : Fin 704) (l : Fin 1024) : iblk m c 4 t (ix3 j k l) = Wd m c (col j k) l := by
  rw [← V_wd]
  blk_point [iblk, idx4 t]

/-- The normalised rows, and the two projections of a group. -/
theorem h_at (r : Fin 256) (l : Fin 1024) : k0_pay6 (F := Ideal) (iblk m c 0 t) (iblk m c 1 t) (ix2 r l) = normed (X m c) (G m c) (row t r) l := by
  pointwise [k0_pay6, blk0 m c t, blk1 m c t]
  rfl
theorem a_at (j : Fin 4) (r : Fin 256) (k : Fin 704) : ∑ l, (k0_pay6 (F := Ideal) (iblk m c 0 t) (iblk m c 1 t)) (ix2 r l) * (group (iblk m c 2 t) j) (ix3 0 l k) = proj (X m c) (G m c) (Wg m c) (row t r) (col j k) :=
  Finset.sum_congr rfl fun l _ => congrArg₂ (· * ·) (h_at m c t r l) (blk2 m c t j l k)
theorem b_at (j : Fin 4) (r : Fin 256) (k : Fin 704) : ∑ l, (k0_pay6 (F := Ideal) (iblk m c 0 t) (iblk m c 1 t)) (ix2 r l) * (group (iblk m c 3 t) j) (ix3 0 l k) = proj (X m c) (G m c) (Wu m c) (row t r) (col j k) :=
  Finset.sum_congr rfl fun l _ => congrArg₂ (· * ·) (h_at m c t r l) (blk3 m c t j l k)

/-- What a grid point writes: its rows of the output, … -/
theorem point5 (r : Fin 256) (l : Fin 1024) : out0_5 (F := Ideal) (iblk m c 0 t) (iblk m c 1 t) (iblk m c 2 t) (iblk m c 3 t) (iblk m c 4 t) (ix2 r l) = out (X m c) (G m c) (Wg m c) (Wu m c) (Wd m c) (row t r) l := by
  obtain ⟨P, hP⟩ : ∃ P : Fin 4 → FVec Ideal S256x704 .bf16, ∀ j, P j = k0_pay24 (k0_pay6 (F := Ideal) (iblk m c 0 t) (iblk m c 1 t)) (group (iblk m c 2 t) j) (group (iblk m c 3 t) j) := ⟨_, fun _ => rfl⟩
  unfold_out out0_5
  frame_out
  unfold r0_2 r0_4 r0_5 r0_7 r0_8 r0_10 r0_11 r0_13
  simp (disch := decide) only [ld_group, pay12_eq, pay34_eq, ← hP]
  refine (out_at (P := P) (d := fun j => group (iblk m c 4 t) j) ((pay43_eq _ _ _).trans (hP 3).symm) r l).trans ?_
  rw [blk0, out, sum_cols]
  refine congrArg (_ + _ * ·) (Finset.sum_congr rfl fun j _ => Finset.sum_congr rfl fun k _ => ?_)
  rw [hP]
  exact congrArg₂ (· * ·) (hid16_at (a_at m c t j) (b_at m c t j) r k) (blk4 m c t j k l)

/-- … of the gate's derivative, … -/
theorem point6 (j : Fin 4) (r : Fin 256) (k : Fin 704) : out0_6 (F := Ideal) (iblk m c 0 t) (iblk m c 1 t) (iblk m c 2 t) (iblk m c 3 t) (iblk m c 4 t) (ix3 j r k) = grad (proj (X m c) (G m c) (Wg m c) (row t r) (col j k)) (proj (X m c) (G m c) (Wu m c) (row t r) (col j k)) := by
  obtain ⟨P, hP⟩ : ∃ P : Fin 4 → Vec Ideal S1x256x704 .bf16, ∀ j, P j = k0_pay26 (k0_pay20 (k0_pay6 (F := Ideal) (iblk m c 0 t) (iblk m c 1 t)) (group (iblk m c 3 t) j)) (k0_pay21 (k0_pay6 (F := Ideal) (iblk m c 0 t) (iblk m c 1 t)) (group (iblk m c 2 t) j)) (k0_pay23 (k0_pay6 (F := Ideal) (iblk m c 0 t) (iblk m c 1 t)) (group (iblk m c 2 t) j) (group (iblk m c 3 t) j)) := ⟨_, fun _ => rfl⟩
  have q : ∀ j, P j (ix3 0 r k) = grad (proj (X m c) (G m c) (Wg m c) (row t r) (col j k)) (proj (X m c) (G m c) (Wu m c) (row t r) (col j k)) := fun j => by
    rw [hP]
    exact ga_at (a_at m c t j) (b_at m c t j) r k
  unfold_out out0_6
  frame_out
  unfold r0_2 r0_3 r0_5 r0_6 r0_8 r0_9 r0_11 r0_12
  simp (disch := decide) only [ld_group, pay16_eq, pay36_eq, pay3_eq, ← hP]
  exact canon_four (n := 256) (w := 704) P j r k (G := fun j => grad (proj (X m c) (G m c) (Wg m c) (row t r) (col j k)) (proj (X m c) (G m c) (Wu m c) (row t r) (col j k))) q _ _ _ _

/-- … of the linear branch's, … -/
theorem point7 (j : Fin 4) (r : Fin 256) (k : Fin 704) : out0_7 (F := Ideal) (iblk m c 0 t) (iblk m c 1 t) (iblk m c 2 t) (iblk m c 3 t) (iblk m c 4 t) (ix3 j r k) = lin (proj (X m c) (G m c) (Wg m c) (row t r) (col j k)) := by
  obtain ⟨P, hP⟩ : ∃ P : Fin 4 → Vec Ideal S1x256x704 .bf16, ∀ j, P j = k0_pay27 (k0_pay22 (k0_pay6 (F := Ideal) (iblk m c 0 t) (iblk m c 1 t)) (group (iblk m c 2 t) j)) := ⟨_, fun _ => rfl⟩
  have q : ∀ j, P j (ix3 0 r k) = lin (proj (X m c) (G m c) (Wg m c) (row t r) (col j k)) := fun j => by
    rw [hP]
    exact gb_at (a_at m c t j) r k
  unfold_out out0_7
  frame_out
  unfold r0_2 r0_3 r0_5 r0_6 r0_8 r0_9 r0_11 r0_12
  simp (disch := decide) only [ld_group, pay17_eq, pay37_eq, pay4_eq, ← hP]
  exact canon_four (n := 256) (w := 704) P j r k (G := fun j => lin (proj (X m c) (G m c) (Wg m c) (row t r) (col j k))) q _ _ _ _

/-- … and of the hidden entries. -/
theorem point8 (j : Fin 4) (r : Fin 256) (k : Fin 704) : out0_8 (F := Ideal) (iblk m c 0 t) (iblk m c 1 t) (iblk m c 2 t) (iblk m c 3 t) (iblk m c 4 t) (ix3 j r k) = f (X m c) (G m c) (Wg m c) (Wu m c) (row t r) (col j k) := by
  obtain ⟨P, hP⟩ : ∃ P : Fin 4 → Vec Ideal S1x256x704 .bf16, ∀ j, P j = k0_pay25 (k0_pay6 (F := Ideal) (iblk m c 0 t) (iblk m c 1 t)) (group (iblk m c 2 t) j) (group (iblk m c 3 t) j) := ⟨_, fun _ => rfl⟩
  have q : ∀ j, P j (ix3 0 r k) = f (X m c) (G m c) (Wg m c) (Wu m c) (row t r) (col j k) := fun j => by
    rw [hP]
    exact f_at (a_at m c t j) (b_at m c t j) r k
  unfold_out out0_8
  frame_out
  unfold r0_2 r0_3 r0_5 r0_6 r0_8 r0_9 r0_11 r0_12
  simp (disch := decide) only [ld_group, pay13_eq, pay35_eq, pay2_eq, ← hP]
  exact canon_four (n := 256) (w := 704) P j r k (G := fun j => f (X m c) (G m c) (Wg m c) (Wu m c) (row t r) (col j k)) q _ _ _ _

/-- The arrays. -/
theorem final5 (c : Dev nD) : (dats m 0 c).arrAt 5 (cfgs 0).N = fun i : S8192x1024.Idx => out (X m c) (G m c) (Wg m c) (Wu m c) (Wd m c) (i 0) (i 1) := by
  refine (dats m 0 c).arrAt_eq_of_covers 5 _ (by decide +kernel) fun t hf y => ?_
  idx_vars y
  blk_simp
  rw [after0_5]
  have e0 : (win0_5.blk t).view.emb (ix2 y0 y1) 0 = row t y0 := Fin.ext (by blk_simp [idx5 t])
  have e1 : (win0_5.blk t).view.emb (ix2 y0 y1) 1 = y1 := Fin.ext (by blk_simp [idx5 t])
  rw [e0, e1]
  exact point5 m c t y0 y1

/-- The gate's derivative. -/
theorem final6 (c : Dev nD) : (dats m 0 c).arrAt 6 (cfgs 0).N = fun i : S4x8192x704.Idx => grad (proj (X m c) (G m c) (Wg m c) (i 1) (col (i 0) (i 2))) (proj (X m c) (G m c) (Wu m c) (i 1) (col (i 0) (i 2))) := by
  refine (dats m 0 c).arrAt_eq_of_covers 6 _ (by decide +kernel) fun t hf y => ?_
  idx_vars y
  blk_simp
  rw [after0_6]
  have e0 : (win0_6.blk t).view.emb (ix3 y0 y1 y2) 0 = y0 := Fin.ext (by blk_simp [idx6 t])
  have e1 : (win0_6.blk t).view.emb (ix3 y0 y1 y2) 1 = row t y1 := Fin.ext (by blk_simp [idx6 t])
  have e2 : (win0_6.blk t).view.emb (ix3 y0 y1 y2) 2 = y2 := Fin.ext (by blk_simp [idx6 t])
  rw [e0, e1, e2]
  exact point6 m c t y0 y1 y2

/-- The linear branch's. -/
theorem final7 (c : Dev nD) : (dats m 0 c).arrAt 7 (cfgs 0).N = fun i : S4x8192x704.Idx => lin (proj (X m c) (G m c) (Wg m c) (i 1) (col (i 0) (i 2))) := by
  refine (dats m 0 c).arrAt_eq_of_covers 7 _ (by decide +kernel) fun t hf y => ?_
  idx_vars y
  blk_simp
  rw [after0_7]
  have e0 : (win0_7.blk t).view.emb (ix3 y0 y1 y2) 0 = y0 := Fin.ext (by blk_simp [idx7 t])
  have e1 : (win0_7.blk t).view.emb (ix3 y0 y1 y2) 1 = row t y1 := Fin.ext (by blk_simp [idx7 t])
  have e2 : (win0_7.blk t).view.emb (ix3 y0 y1 y2) 2 = y2 := Fin.ext (by blk_simp [idx7 t])
  rw [e0, e1, e2]
  exact point7 m c t y0 y1 y2

/-- The hidden entries. -/
theorem final8 (c : Dev nD) : (dats m 0 c).arrAt 8 (cfgs 0).N = fun i : S4x8192x704.Idx => f (X m c) (G m c) (Wg m c) (Wu m c) (i 1) (col (i 0) (i 2)) := by
  refine (dats m 0 c).arrAt_eq_of_covers 8 _ (by decide +kernel) fun t hf y => ?_
  idx_vars y
  blk_simp
  rw [after0_8]
  have e0 : (win0_8.blk t).view.emb (ix3 y0 y1 y2) 0 = y0 := Fin.ext (by blk_simp [idx8 t])
  have e1 : (win0_8.blk t).view.emb (ix3 y0 y1 y2) 1 = row t y1 := Fin.ext (by blk_simp [idx8 t])
  have e2 : (win0_8.blk t).view.emb (ix3 y0 y1 y2) 2 = y2 := Fin.ext (by blk_simp [idx8 t])
  rw [e0, e1, e2]
  exact point8 m c t y0 y1 y2

end Cert.FfnFwdIdeal.Hand
-- ==== Proof.FfnFwd.Claim.lean ====
/- The feed-forward layer: the reference index by index, and the equation with the kernel. -/
module
public import proofs.«01_k».proof.Proof.FfnFwd.Block
public import proofs.«01_k».proof.Proof.Gen.FfnFwdRefIdeal.Read
public import proofs.«01_k».proof.Proof.Gen.FfnFwd.Frame
public import proofs.«01_k».proof.Defs

@[expose] public section

set_option maxRecDepth 16384

noncomputable section

namespace Cert.FfnFwdRefIdeal.Hand

open Cert.Ffn Cert.InProjFwd Cert.FfnFwd Cert.FfnFwdRefIdeal Cert.FfnFwdRefIdeal.Gen Cert.FfnFwdRefIdeal.Read Idealize.ShloMosaic Idealize.ShloMosaic.TcCoe Idealize.SL.Sem

variable (x : (⟨S8192x1024, .f32⟩ : BufTy).Contents (Elt Ideal)) (g : (⟨S1x1024, .f32⟩ : BufTy).Contents (Elt Ideal))
  (wg wu : (⟨S1024x2816, .f32⟩ : BufTy).Contents (Elt Ideal)) (wd : (⟨S2816x1024, .f32⟩ : BufTy).Contents (Elt Ideal))

/-- The normalised rows times the gain. -/
theorem h_at (s : Fin 8192) (l : Fin 1024) : val_main_v11 (F := Ideal) x g (ix2 s l) = normed (fun s l => x (ix2 s l)) (fun l => g (ix2 0 l)) s l := by
  pointwise [val_main_v11, val_main_v10, val_main_v9, val_main_v8, val_main_v7, val_main_v6, val_main_v5, val_main_v4, val_main_v3, val_main_v2, val_main_v1,
    val_main_v0, val_main_cst, val_main_cst_0, val_main_cst_1]
  rfl

/-- The two projections. -/
theorem a_at (s : Fin 8192) (n : Fin 2816) : val_main_v12 (F := Ideal) x g wg (ix2 s n) = proj (fun s l => x (ix2 s l)) (fun l => g (ix2 0 l)) (fun l n => wg (ix2 l n)) s n := by
  pointwise [val_main_v12, h_at]
  rfl
theorem b_at (s : Fin 8192) (n : Fin 2816) : val_main_v13 (F := Ideal) x g wu (ix2 s n) = proj (fun s l => x (ix2 s l)) (fun l => g (ix2 0 l)) (fun l n => wu (ix2 l n)) s n := a_at x g wu s n

/-- The logistic function of the gate's input. -/
theorem sig_at (s : Fin 8192) (n : Fin 2816) : val_main_v14_2 (F := Ideal) x g wg (ix2 s n) = sg (proj (fun s l => x (ix2 s l)) (fun l => g (ix2 0 l)) (fun l n => wg (ix2 l n)) s n) := by
  pointwise [val_main_v14_2, val_main_call0_v4, val_main_call0_cst_0, val_main_call0_v3, val_main_call0_v2, val_main_call0_cst, val_main_call0_v1, val_main_call0_v0, a_at]
  rfl

/-- The hidden entry. -/
theorem hid_at (s : Fin 8192) (n : Fin 2816) : val_main_v15 (F := Ideal) x g wg wu (ix2 s n) = f (fun s l => x (ix2 s l)) (fun l => g (ix2 0 l)) (fun l n => wg (ix2 l n)) (fun l n => wu (ix2 l n)) s n := by
  pointwise [val_main_v15, val_main_v14_0, a_at, b_at, sig_at]
  rfl
theorem f_at (j : Fin 4) (s : Fin 8192) (k : Fin 704) : val_main_v32 (F := Ideal) x g wg wu (ix3 j s k) = f (fun s l => x (ix2 s l)) (fun l => g (ix2 0 l)) (fun l n => wg (ix2 l n)) (fun l n => wu (ix2 l n)) s (col j k) := by
  pointwise [val_main_v32, val_main_v31, val_main_v30]
  exact hid_at x g wg wu s (col j k)

/-- The linear branch's derivative. -/
theorem gb_at (j : Fin 4) (s : Fin 8192) (k : Fin 704) : val_main_v29 (F := Ideal) x g wg (ix3 j s k) = lin (proj (fun s l => x (ix2 s l)) (fun l => g (ix2 0 l)) (fun l n => wg (ix2 l n)) s (col j k)) := by
  pointwise [val_main_v29, val_main_v28, val_main_v27, val_main_v17, val_main_v16, val_main_cst_2, val_main_v14_0, a_at, sig_at]
  rfl

/-- The gate's derivative. -/
theorem ga_at (j : Fin 4) (s : Fin 8192) (k : Fin 704) : val_main_v26 (F := Ideal) x g wg wu (ix3 j s k)
    = grad (proj (fun s l => x (ix2 s l)) (fun l => g (ix2 0 l)) (fun l n => wg (ix2 l n)) s (col j k)) (proj (fun s l => x (ix2 s l)) (fun l => g (ix2 0 l)) (fun l n => wu (ix2 l n)) s (col j k)) := by
  pointwise [val_main_v26, val_main_v25, val_main_v24, val_main_v19, val_main_call1_v2, val_main_call1_v1, val_main_call1_v0, val_main_v18, val_main_v16, val_main_cst_2,
    val_main_v14_1, val_main_call0_v7, val_main_call0_v6, val_main_call0_cst_1, a_at, b_at, sig_at]
  exact grad_eq _ _

/-- The layer's output. -/
theorem out_at (s : Fin 8192) (l : Fin 1024) : val_main_v23 (F := Ideal) x g wg wu wd (ix2 s l) = out (fun s l => x (ix2 s l)) (fun l => g (ix2 0 l)) (fun l n => wg (ix2 l n)) (fun l n => wu (ix2 l n)) (fun n l => wd (ix2 n l)) s l := by
  pointwise [val_main_v23, val_main_v22, val_main_v21, val_main_cst_3, val_main_v20, hid_at]
  rfl

end Cert.FfnFwdRefIdeal.Hand

namespace Cert.FfnFwd

open Idealize.ShloMosaic Idealize.ShloMosaic.TcCoe Idealize.SL.Sem

/-- The reference runs to the end and leaves its arguments unchanged. -/
theorem frame_ref : Cert.quiescent_FfnFwdRefIdeal := fun m ρ _ =>
  (θ_run Cert.FfnFwdRefIdeal.defs _ _).mono (fun r h => ⟨fun c => (h c).2.2.2.2, sem_eq_zero_of_no_sems (by decide) r.2⟩)
    (Cert.FfnFwdRefIdeal.Value.run m ρ)

/-- The kernel's four results are the reference's four results, on every input. -/
theorem algebraic : Cert.algebraic_FfnFwdIdeal_FfnFwdRefIdeal := fun m ρ m' ρ' _ hag =>
  ⟨_, _, _, _, Cert.FfnFwdIdeal.Value.run_blocks m ρ, (θ_run _ _ _).mono (fun r h c => by
    obtain ⟨h0, h1, h2, h3, h4⟩ := h c
    obtain ⟨a0, a1, a2, a3, a4⟩ := hag c
    refine ⟨h0.trans ?_, h1.trans ?_, h2.trans ?_, h3.trans ?_, h4⟩ <;> clear h0 h1 h2 h3 h4 h
    · rw [Cert.FfnFwdRefIdeal.Read.val_main_v23_eq]
      change Cert.FfnFwdRefIdeal.Read.val_main_v23 (m' (c.tc.loc Cert.FfnFwdRefIdeal.main_arg0)) (m' (c.tc.loc Cert.FfnFwdRefIdeal.main_arg1)) (m' (c.tc.loc Cert.FfnFwdRefIdeal.main_arg2)) (m' (c.tc.loc Cert.FfnFwdRefIdeal.main_arg3)) (m' (c.tc.loc Cert.FfnFwdRefIdeal.main_arg4)) = _
      rw [a0, a1, a2, a3, a4]
      refine Eq.trans ?_ (Cert.FfnFwdIdeal.Hand.final5 m c).symm
      funext i
      idx_vars i
      exact Cert.FfnFwdRefIdeal.Hand.out_at _ _ _ _ _ i0 i1
    · rw [Cert.FfnFwdRefIdeal.Read.val_main_v26_eq]
      change Cert.FfnFwdRefIdeal.Read.val_main_v26 (m' (c.tc.loc Cert.FfnFwdRefIdeal.main_arg0)) (m' (c.tc.loc Cert.FfnFwdRefIdeal.main_arg1)) (m' (c.tc.loc Cert.FfnFwdRefIdeal.main_arg2)) (m' (c.tc.loc Cert.FfnFwdRefIdeal.main_arg3)) = _
      rw [a0, a1, a2, a3]
      refine Eq.trans ?_ (Cert.FfnFwdIdeal.Hand.final6 m c).symm
      funext i
      idx_vars i
      exact Cert.FfnFwdRefIdeal.Hand.ga_at _ _ _ _ i0 i1 i2
    · rw [Cert.FfnFwdRefIdeal.Read.val_main_v29_eq]
      change Cert.FfnFwdRefIdeal.Read.val_main_v29 (m' (c.tc.loc Cert.FfnFwdRefIdeal.main_arg0)) (m' (c.tc.loc Cert.FfnFwdRefIdeal.main_arg1)) (m' (c.tc.loc Cert.FfnFwdRefIdeal.main_arg2)) = _
      rw [a0, a1, a2]
      refine Eq.trans ?_ (Cert.FfnFwdIdeal.Hand.final7 m c).symm
      funext i
      idx_vars i
      exact Cert.FfnFwdRefIdeal.Hand.gb_at _ _ _ i0 i1 i2
    · rw [Cert.FfnFwdRefIdeal.Read.val_main_v32_eq]
      change Cert.FfnFwdRefIdeal.Read.val_main_v32 (m' (c.tc.loc Cert.FfnFwdRefIdeal.main_arg0)) (m' (c.tc.loc Cert.FfnFwdRefIdeal.main_arg1)) (m' (c.tc.loc Cert.FfnFwdRefIdeal.main_arg2)) (m' (c.tc.loc Cert.FfnFwdRefIdeal.main_arg3)) = _
      rw [a0, a1, a2, a3]
      refine Eq.trans ?_ (Cert.FfnFwdIdeal.Hand.final8 m c).symm
      funext i
      idx_vars i
      exact Cert.FfnFwdRefIdeal.Hand.f_at _ _ _ _ i0 i1 i2)
    (Cert.FfnFwdRefIdeal.Value.run m' ρ')⟩

end Cert.FfnFwd
-- ==== Proof.OutProjFwd.Model.lean ====
/- The mixer's output gates, its output norm and its output projection on the extended reals, as functions of row and column. -/
module
public import proofs.«01_k».proof.Proof.FfnFwd.Model

@[expose] public section

set_option maxRecDepth 16384

noncomputable section

namespace Cert.OutProjFwd

open Cert.FfnFwd Idealize.ShloMosaic Idealize.ShloMosaic.TcCoe

/-- The two whole numbers whose ratio is the cubic term's coefficient. -/
theorem lit_44715 : Ideal.ofBits .f32 0x472EAB00#32 = ((44715 : ℝ) : EReal) := by
  simp [Ideal.ofBits, Ideal.ieee, -EReal.coe_mul]; norm_num
theorem lit_million : Ideal.ofBits .f32 0x49742400#32 = ((1000000 : ℝ) : EReal) := by
  simp [Ideal.ofBits, Ideal.ieee, -EReal.coe_mul]; norm_num

/-- The GELU gate, with the hyperbolic tangent. -/
def gl (x : EReal) : EReal :=
  x * (Ideal.ofBits .f32 0x3F000000#32 * (1 + Ideal.tanh (Ideal.ofBits .f32 0x3F4C422A#32 *
    (x + Ideal.div (x * x * x * Ideal.ofBits .f32 0x472EAB00#32) (Ideal.ofBits .f32 0x49742400#32)))))

/-- The kernel's association of its factors gives the same gate at every extended real. -/
theorem gl_eq (x : EReal) : Ideal.ofBits .f32 0x3F000000#32 * x * (1 + Ideal.tanh (Ideal.ofBits .f32 0x3F4C422A#32 *
    (x + ((8943 / 200000 : ℝ) : EReal) * x * x * x))) = gl x := by
  have e : Ideal.div (x * x * x * Ideal.ofBits .f32 0x472EAB00#32) (Ideal.ofBits .f32 0x49742400#32) = ((8943 / 200000 : ℝ) : EReal) * x * x * x := by
    rw [lit_44715, lit_million, Ideal.div, if_neg (by exact_mod_cast (by norm_num : (1000000 : ℝ) ≠ 0)), mul_assoc, ← EReal.coe_inv, Reals.mul,
      show (44715 : ℝ) * (1000000 : ℝ)⁻¹ = 8943 / 200000 by norm_num, mul_comm, mul_assoc, mul_assoc, mul_assoc]
  rw [gl, e, ← mul_assoc, mul_comm x]

/-- The column of head `q`'s entry `k`. -/
abbrev hcol (q : Fin 4) (k : Fin 128) : Fin 512 := ⟨q * 128 + k, by omega⟩

/-- One entry of a head: the head's norm times the gain, times the silu of the gate. -/
def head (u g : Fin 128 → EReal) (z : Fin 128 → EReal) (k : Fin 128) : EReal :=
  u k * Ideal.rsqrt (Ideal.div (∑ j, u j * u j) (Ideal.ofBits .f32 0x43000000#32) + Ideal.ofBits .f32 0x358637BD#32) * g k * (z k * sg (z k))

variable (hf hb gate of ob z : Fin 8192 → Fin 512 → EReal) (gn : Fin 128 → EReal) (x : Fin 8192 → Fin 1024 → EReal) (w : Fin 1024 → Fin 1024 → EReal)

/-- The gated recurrent branch, and the gated attention branch. -/
def left (s : Fin 8192) (l : Fin 512) : EReal := (hf s l + hb s l) * gl (gate s l)
def right (s : Fin 8192) (q : Fin 4) (k : Fin 128) : EReal := head (fun k => of s (hcol q k) + ob s (hcol q k)) gn (fun k => z s (hcol q k)) k

/-- The two side by side. -/
def mix (s : Fin 8192) (l : Fin 1024) : EReal :=
  if h : (l : ℕ) < 512 then left hf hb gate s ⟨l, h⟩ else right of ob z gn s ⟨(l - 512) / 128, by omega⟩ ⟨(l - 512) % 128, by omega⟩

/-- The layer's output. -/
def xo (s : Fin 8192) (l : Fin 1024) : EReal := x s l + ∑ n, mix hf hb gate of ob z gn s n * w n l

end Cert.OutProjFwd
-- ==== Proof.OutProjFwd.Pay.lean ====
/- The payloads of the mixer's output kernel: the gate, one head, and the pieces side by side. -/
module
public import proofs.«01_k».proof.Proof.OutProjFwd.Model
public import proofs.«01_k».proof.Proof.Gen.OutProjFwdIdeal.Value
public import Idealize.ShloMosaic.Lib.Pipeline.ValueKit

@[expose] public section

set_option maxRecDepth 16384

noncomputable section

namespace Cert.OutProjFwdIdeal.Hand

open Cert.FfnFwd Cert.OutProjFwd Cert.OutProjFwdIdeal Cert.OutProjFwdIdeal.Gen Idealize.ShloMosaic Idealize.ShloMosaic.TcCoe Idealize.SL.Sem

/-- The named constant. -/
theorem cube : Named.named (F := Ideal) κ "cube" (φ := .f32) 0x3D372713#32 = ((8943 / 200000 : ℝ) : EReal) := rfl

/-- The gated recurrent branch. -/
theorem left_pay (a b v : Vec Ideal S512x512 .f32) (r : Fin 512) (l : Fin 512) :
    k0_pay1 (F := Ideal) a b v (ix2 r l) = (a (ix2 r l) + b (ix2 r l)) * gl (v (ix2 r l)) := by
  pointwise [k0_pay1]
  rw [cube, ← gl_eq]

/-- The body's lines for one head. -/
def headBody (g : Vec Ideal S1x128 .f32) (u z : FVec Ideal S512x128 .f32) : FVec Ideal S512x128 .f32 :=
  mulf (mulf (mulf u (broadcastTo S512x128 (rsqrt (addf (divf (shapeCast S512x1 (multiReduction .add [1] S512 (mulf u u) 0x00000000#32 reduces_S512x128_S512 (.inl rfl) rfl)
      shapeCasts_S512_S512x1) (broadcast S512x1 (Scalar.ofBits .f32 0x43000000#32))) (broadcast S512x1 (Scalar.ofBits .f32 0x358637BD#32)))) broadcasts_S512x1_S512x128))
    (broadcastTo S512x128 g broadcasts_S1x128_S512x128))
    (mulf z (addf (broadcast S512x128 (Scalar.ofBits .f32 0x3F000000#32))
      (mulf (broadcast S512x128 (Scalar.ofBits .f32 0x3F000000#32)) (tanh (mulf (broadcast S512x128 (Scalar.ofBits .f32 0x3F000000#32)) z)))))

/-- A head's entry. -/
theorem head_body (g : Vec Ideal S1x128 .f32) (u z : FVec Ideal S512x128 .f32) (r : Fin 512) (k : Fin 128) :
    headBody g u z (ix2 r k) = head (fun k => u (ix2 r k)) (fun k => g (ix2 0 k)) (fun k => z (ix2 r k)) k := by
  pointwise [headBody]
  rw [sg_tanh]
  rfl

/-- The pieces side by side, read at a column. -/
theorem pieces_at (v : FVec Ideal S512x512 .f32) (p : Fin 4 → FVec Ideal S512x128 .f32) (r : Fin 512) (l : Fin 1024) :
    truncf .bf16 (concatenate S512x1024 1 [⟨S512x512, v⟩, ⟨S512x512, concatenate S512x512 1 [⟨S512x128, p 0⟩, ⟨S512x128, p 1⟩, ⟨S512x128, p 2⟩, ⟨S512x128, p 3⟩]
        concatenates_S512x128_S512x128_S512x128_S512x128_S512x512_d1⟩] concatenates_S512x512_S512x512_S512x1024_d1) bitsLt_bf16_f32 (ix2 r l)
      = if h : (l : ℕ) < 512 then v (ix2 r ⟨l, h⟩) else p ⟨(l - 512) / 128, by omega⟩ (ix2 r ⟨(l - 512) % 128, by omega⟩) := by
  have cell : ∀ (q : Fin 4) (h : ¬ (l : ℕ) < 512) (i : Fin 128), (l : ℕ) - 512 = q * 128 + i →
      p q (ix2 r i) = p ⟨(l - 512) / 128, by omega⟩ (ix2 r ⟨(l - 512) % 128, by omega⟩) := fun q h i e => by
    have e0 : q = ⟨(l - 512) / 128, by omega⟩ := Fin.ext (by show (q : ℕ) = (l - 512) / 128; omega)
    have e1 : i = ⟨(l - 512) % 128, by omega⟩ := Fin.ext (by show (i : ℕ) = (l - 512) % 128; omega)
    rw [← e0, ← e1]
  pointwise []
  split_ifs
  all_goals first
    | rfl
    | exact absurd rfl ‹¬ _›
    | exact cell 0 ‹¬ (l : ℕ) < 512› ⟨(l : ℕ) - 512, by omega⟩ (by show (l : ℕ) - 512 = 0 * 128 + ((l : ℕ) - 512); omega)
    | exact cell 1 ‹¬ (l : ℕ) < 512› ⟨(l : ℕ) - 512 - 128, by omega⟩ (by show (l : ℕ) - 512 = 1 * 128 + ((l : ℕ) - 512 - 128); omega)
    | exact cell 2 ‹¬ (l : ℕ) < 512› ⟨(l : ℕ) - 512 - 128 - 128, by omega⟩ (by show (l : ℕ) - 512 = 2 * 128 + ((l : ℕ) - 512 - 128 - 128); omega)
    | exact cell 3 ‹¬ (l : ℕ) < 512› ⟨(l : ℕ) - 512 - 128 - 128 - 128, by omega⟩ (by show (l : ℕ) - 512 = 3 * 128 + ((l : ℕ) - 512 - 128 - 128 - 128); omega)

/-- A head's columns of a block. -/
theorem slice_at (v : FVec Ideal S512x512 .f32) {p : ℕ} (hp : p + 128 ≤ 512) (hs : S512x512.Slices ![0, p] S512x128) (r : Fin 512) (k : Fin 128) :
    extractStridedSlice S512x128 ![0, p] v hs (ix2 r k) = v (ix2 r ⟨p + k, by omega⟩) := by
  pointwise []

/-- Head `q`'s columns. -/
theorem slices (q : Fin 4) : S512x512.Slices ![0, (q : ℕ) * 128] S512x128 := by
  revert q
  decide

/-- The four heads of a block. -/
def heads (g : Vec Ideal S1x128 .f32) (a b z : Vec Ideal S512x512 .f32) (q : Fin 4) : FVec Ideal S512x128 .f32 :=
  headBody g (extractStridedSlice S512x128 ![0, (q : ℕ) * 128] (k0_pay2 a b) (slices q)) (extractStridedSlice S512x128 ![0, (q : ℕ) * 128] z (slices q))

/-- The kernel's second output is the gated recurrent branch and the four heads side by side. -/
theorem pay15_eq (g : Vec Ideal S1x128 .f32) (v : FVec Ideal S512x512 .f32) (a b z : Vec Ideal S512x512 .f32) :
    k0_pay15 (F := Ideal) g v (k0_pay7 z) (k0_pay8 (k0_pay2 a b)) (k0_pay9 z) (k0_pay10 (k0_pay2 a b)) (k0_pay11 z) (k0_pay12 g (k0_pay3 a b) (k0_pay4 z))
        (k0_pay13 g (k0_pay5 a b) (k0_pay6 a b)) k0_pay14
      = truncf .bf16 (concatenate S512x1024 1 [⟨S512x512, v⟩, ⟨S512x512, concatenate S512x512 1 [⟨S512x128, heads g a b z 0⟩, ⟨S512x128, heads g a b z 1⟩,
          ⟨S512x128, heads g a b z 2⟩, ⟨S512x128, heads g a b z 3⟩] concatenates_S512x128_S512x128_S512x128_S512x128_S512x512_d1⟩]
          concatenates_S512x512_S512x512_S512x1024_d1) bitsLt_bf16_f32 := rfl

end Cert.OutProjFwdIdeal.Hand
-- ==== Proof.OutProjFwd.Block.lean ====
/- The mixer's output kernel: the blocks one grid point reads, what it writes, and the two arrays. -/
module
public import proofs.«01_k».proof.Proof.OutProjFwd.Pay
public import Idealize.ShloMosaic.Lib.Pipeline.ReadBack
public import Idealize.ShloMosaic.Lib.WritesUnit
public import Idealize.ShloMosaic.Lib.Routing.OpsSet

@[expose] public section

set_option maxRecDepth 16384

noncomputable section

namespace Cert.OutProjFwdIdeal.Hand

open Cert.FfnFwd Cert.OutProjFwd Cert.OutProjFwdIdeal Cert.OutProjFwdIdeal.Gen Idealize.ShloMosaic Idealize.ShloMosaic.TcCoe Idealize.SL.Sem
open Idealize.ShloMosaic.Pipeline (Dat)

/-- The second output of one grid point, from any blocks. -/
theorem mix_pay (g : Vec Ideal S1x128 .f32) (p q v a b z : Vec Ideal S512x512 .f32) (r : Fin 512) (l : Fin 1024) :
    k0_pay15 (F := Ideal) g (k0_pay1 p q v) (k0_pay7 z) (k0_pay8 (k0_pay2 a b)) (k0_pay9 z) (k0_pay10 (k0_pay2 a b)) (k0_pay11 z) (k0_pay12 g (k0_pay3 a b) (k0_pay4 z)) (k0_pay13 g (k0_pay5 a b) (k0_pay6 a b)) k0_pay14 (ix2 r l)
      = if h : (l : ℕ) < 512 then (p (ix2 r ⟨l, h⟩) + q (ix2 r ⟨l, h⟩)) * gl (v (ix2 r ⟨l, h⟩))
        else head (fun k => a (ix2 r (hcol ⟨(l - 512) / 128, by omega⟩ k)) + b (ix2 r (hcol ⟨(l - 512) / 128, by omega⟩ k))) (fun k => g (ix2 0 k))
          (fun k => z (ix2 r (hcol ⟨(l - 512) / 128, by omega⟩ k))) ⟨(l - 512) % 128, by omega⟩ := by
  rw [pay15_eq]
  refine (pieces_at (k0_pay1 (F := Ideal) p q v) (heads g a b z) r l).trans ?_
  split_ifs with h
  · exact left_pay p q v r ⟨l, h⟩
  · generalize (⟨(l - 512) / 128, by omega⟩ : Fin 4) = j
    refine (head_body _ _ _ _ _).trans ?_
    simp only [slice_at _ (show (j : ℕ) * 128 + 128 ≤ 512 by omega)]
    rfl

variable (m : (ℓ : Loc nD τ sig) → Buf (Elt Ideal) ℓ)

/-- The arguments as functions of row and column. -/
abbrev X (c : Dev nD) (s : Fin 8192) (l : Fin 1024) : EReal := m ((c.tc : Thread nD τ).loc main_arg0) (ix2 s l)
abbrev HF (c : Dev nD) (s : Fin 8192) (l : Fin 512) : EReal := m ((c.tc : Thread nD τ).loc main_arg1) (ix2 s l)
abbrev HB (c : Dev nD) (s : Fin 8192) (l : Fin 512) : EReal := m ((c.tc : Thread nD τ).loc main_arg2) (ix2 s l)
abbrev GT (c : Dev nD) (s : Fin 8192) (l : Fin 512) : EReal := m ((c.tc : Thread nD τ).loc main_arg3) (ix2 s l)
abbrev OF (c : Dev nD) (s : Fin 8192) (l : Fin 512) : EReal := m ((c.tc : Thread nD τ).loc main_arg4) (ix2 s l)
abbrev OB (c : Dev nD) (s : Fin 8192) (l : Fin 512) : EReal := m ((c.tc : Thread nD τ).loc main_arg5) (ix2 s l)
abbrev Z (c : Dev nD) (s : Fin 8192) (l : Fin 512) : EReal := m ((c.tc : Thread nD τ).loc main_arg6) (ix2 s l)
abbrev GN (c : Dev nD) (k : Fin 128) : EReal := m ((c.tc : Thread nD τ).loc main_arg7) (ix2 0 k)
abbrev W (c : Dev nD) (s : Fin 1024) (l : Fin 1024) : EReal := m ((c.tc : Thread nD τ).loc main_arg8) (ix2 s l)

theorem idx0 : ∀ t, win0_0.index t = ![t.val, 0] := (by decide +kernel : ∀ t : Fin grid0.N, _)
theorem idx1 : ∀ t, win0_1.index t = ![t.val, 0] := (by decide +kernel : ∀ t : Fin grid0.N, _)
theorem idx2 : ∀ t, win0_2.index t = ![t.val, 0] := (by decide +kernel : ∀ t : Fin grid0.N, _)
theorem idx3 : ∀ t, win0_3.index t = ![t.val, 0] := (by decide +kernel : ∀ t : Fin grid0.N, _)
theorem idx4 : ∀ t, win0_4.index t = ![t.val, 0] := (by decide +kernel : ∀ t : Fin grid0.N, _)
theorem idx5 : ∀ t, win0_5.index t = ![t.val, 0] := (by decide +kernel : ∀ t : Fin grid0.N, _)
theorem idx6 : ∀ t, win0_6.index t = ![t.val, 0] := (by decide +kernel : ∀ t : Fin grid0.N, _)
theorem idx7 : ∀ t, win0_7.index t = ![0, 0] := (by decide +kernel : ∀ t : Fin grid0.N, _)
theorem idx8 : ∀ t, win0_8.index t = ![0, 0] := (by decide +kernel : ∀ t : Fin grid0.N, _)
theorem idx9 : ∀ t, win0_9.index t = ![t.val, 0] := (by decide +kernel : ∀ t : Fin grid0.N, _)
theorem idx10 : ∀ t, win0_10.index t = ![t.val, 0] := (by decide +kernel : ∀ t : Fin grid0.N, _)

/-- Row `r` of grid point `t`'s block. -/
abbrev row (t : Fin cfg0.N) (r : Fin 512) : Fin 8192 := ⟨t.val * 512 + r, by have := lt_of_lt_of_eq t.isLt N_0; omega⟩

variable (c : Dev nD) (t : Fin cfg0.N)

/-- The weights the host hands over. -/
theorem V_w (n l : Fin 1024) : V m c main_v0 (ix2 n l) = W m c n l := by
  simp only [V, hostOps0, List.flatten_cons, List.flatten_nil, List.append_nil, List.cons_append, List.nil_append]
  after_results
  rfl

/-- The blocks a grid point reads. -/
theorem blk0 (r : Fin 512) (l : Fin 1024) : iblk m c 0 t (ix2 r l) = X m c (row t r) l := by
  blk_point [iblk, V, idx0 t]
theorem blk1 (r : Fin 512) (l : Fin 512) : iblk m c 1 t (ix2 r l) = HF m c (row t r) l := by
  blk_point [iblk, V, idx1 t]
theorem blk2 (r : Fin 512) (l : Fin 512) : iblk m c 2 t (ix2 r l) = HB m c (row t r) l := by
  blk_point [iblk, V, idx2 t]
theorem blk3 (r : Fin 512) (l : Fin 512) : iblk m c 3 t (ix2 r l) = GT m c (row t r) l := by
  blk_point [iblk, V, idx3 t]
theorem blk4 (r : Fin 512) (l : Fin 512) : iblk m c 4 t (ix2 r l) = OF m c (row t r) l := by
  blk_point [iblk, V, idx4 t]
theorem blk5 (r : Fin 512) (l : Fin 512) : iblk m c 5 t (ix2 r l) = OB m c (row t r) l := by
  blk_point [iblk, V, idx5 t]
theorem blk6 (r : Fin 512) (l : Fin 512) : iblk m c 6 t (ix2 r l) = Z m c (row t r) l := by
  blk_point [iblk, V, idx6 t]
theorem blk7 (k : Fin 128) : iblk m c 7 t (ix2 0 k) = GN m c k := by
  blk_point [iblk, V, idx7 t]
theorem blk8 (n l : Fin 1024) : iblk m c 8 t (ix2 n l) = W m c n l := by
  rw [← V_w]
  blk_point [iblk, idx8 t]

/-- The gated branches of a grid point's rows. -/
theorem mix_at (r : Fin 512) (l : Fin 1024) : k0_pay15 (F := Ideal) (iblk m c 7 t) (k0_pay1 (iblk m c 1 t) (iblk m c 2 t) (iblk m c 3 t)) (k0_pay7 (iblk m c 6 t)) (k0_pay8 (k0_pay2 (iblk m c 4 t) (iblk m c 5 t))) (k0_pay9 (iblk m c 6 t)) (k0_pay10 (k0_pay2 (iblk m c 4 t) (iblk m c 5 t))) (k0_pay11 (iblk m c 6 t)) (k0_pay12 (iblk m c 7 t) (k0_pay3 (iblk m c 4 t) (iblk m c 5 t)) (k0_pay4 (iblk m c 6 t))) (k0_pay13 (iblk m c 7 t) (k0_pay5 (iblk m c 4 t) (iblk m c 5 t)) (k0_pay6 (iblk m c 4 t) (iblk m c 5 t))) k0_pay14 (ix2 r l) = mix (HF m c) (HB m c) (GT m c) (OF m c) (OB m c) (Z m c) (GN m c) (row t r) l := by
  rw [mix_pay, mix]
  split_ifs with h
  · rw [blk1, blk2, blk3, left]
  · simp only [blk4, blk5, blk6, blk7, right]

/-- What a grid point writes: its rows of the output, … -/
theorem point9 (r : Fin 512) (l : Fin 1024) : out0_9 (F := Ideal) (iblk m c 0 t) (iblk m c 1 t) (iblk m c 2 t) (iblk m c 3 t) (iblk m c 4 t) (iblk m c 5 t) (iblk m c 6 t) (iblk m c 7 t) (iblk m c 8 t) (ix2 r l) = xo (HF m c) (HB m c) (GT m c) (OF m c) (OB m c) (Z m c) (GN m c) (X m c) (W m c) (row t r) l := by
  unfold_out out0_9
  frame_out
  unfold k0_pay16
  obtain ⟨y, hy⟩ : ∃ y, y = k0_pay15 (F := Ideal) (iblk m c 7 t) (k0_pay1 (iblk m c 1 t) (iblk m c 2 t) (iblk m c 3 t)) (k0_pay7 (iblk m c 6 t)) (k0_pay8 (k0_pay2 (iblk m c 4 t) (iblk m c 5 t))) (k0_pay9 (iblk m c 6 t)) (k0_pay10 (k0_pay2 (iblk m c 4 t) (iblk m c 5 t))) (k0_pay11 (iblk m c 6 t)) (k0_pay12 (iblk m c 7 t) (k0_pay3 (iblk m c 4 t) (iblk m c 5 t)) (k0_pay4 (iblk m c 6 t))) (k0_pay13 (iblk m c 7 t) (k0_pay5 (iblk m c 4 t) (iblk m c 5 t)) (k0_pay6 (iblk m c 4 t) (iblk m c 5 t))) k0_pay14 := ⟨_, rfl⟩
  rw [← hy]
  pointwise [blk0 m c t, blk8 m c t]
  rw [xo]
  refine congrArg (_ + ·) (Finset.sum_congr rfl fun n _ => ?_)
  rw [hy, mix_at]

/-- … and of the gated branches. -/
theorem point10 (r : Fin 512) (l : Fin 1024) : out0_10 (F := Ideal) (iblk m c 0 t) (iblk m c 1 t) (iblk m c 2 t) (iblk m c 3 t) (iblk m c 4 t) (iblk m c 5 t) (iblk m c 6 t) (iblk m c 7 t) (iblk m c 8 t) (ix2 r l) = mix (HF m c) (HB m c) (GT m c) (OF m c) (OB m c) (Z m c) (GN m c) (row t r) l := by
  unfold_out out0_10
  frame_out
  exact mix_at m c t r l

/-- The output. -/
theorem final9 (c : Dev nD) : (dats m 0 c).arrAt 9 (cfgs 0).N = fun i : S8192x1024.Idx => xo (HF m c) (HB m c) (GT m c) (OF m c) (OB m c) (Z m c) (GN m c) (X m c) (W m c) (i 0) (i 1) := by
  refine (dats m 0 c).arrAt_eq_of_covers 9 _ (by decide +kernel) fun t hf y => ?_
  idx_vars y
  blk_simp
  rw [after0_9]
  have e0 : (win0_9.blk t).view.emb (ix2 y0 y1) 0 = row t y0 := Fin.ext (by blk_simp [idx9 t])
  have e1 : (win0_9.blk t).view.emb (ix2 y0 y1) 1 = y1 := Fin.ext (by blk_simp [idx9 t])
  rw [e0, e1]
  exact point9 m c t y0 y1

/-- The gated branches. -/
theorem final10 (c : Dev nD) : (dats m 0 c).arrAt 10 (cfgs 0).N = fun i : S8192x1024.Idx => mix (HF m c) (HB m c) (GT m c) (OF m c) (OB m c) (Z m c) (GN m c) (i 0) (i 1) := by
  refine (dats m 0 c).arrAt_eq_of_covers 10 _ (by decide +kernel) fun t hf y => ?_
  idx_vars y
  blk_simp
  rw [after0_10]
  have e0 : (win0_10.blk t).view.emb (ix2 y0 y1) 0 = row t y0 := Fin.ext (by blk_simp [idx10 t])
  have e1 : (win0_10.blk t).view.emb (ix2 y0 y1) 1 = y1 := Fin.ext (by blk_simp [idx10 t])
  rw [e0, e1]
  exact point10 m c t y0 y1

end Cert.OutProjFwdIdeal.Hand
-- ==== Proof.OutProjFwd.Claim.lean ====
/- The mixer's output gates, norm and projection: the reference index by index, and the equation with the kernel. -/
module
public import proofs.«01_k».proof.Proof.OutProjFwd.Block
public import proofs.«01_k».proof.Proof.Gen.OutProjFwdRefIdeal.Read
public import proofs.«01_k».proof.Proof.Gen.OutProjFwd.Frame
public import proofs.«01_k».proof.Defs

@[expose] public section

set_option maxRecDepth 16384

noncomputable section

namespace Cert.OutProjFwdRefIdeal.Hand

open Cert.FfnFwd Cert.OutProjFwd Cert.OutProjFwdRefIdeal Cert.OutProjFwdRefIdeal.Gen Cert.OutProjFwdRefIdeal.Read Idealize.ShloMosaic Idealize.ShloMosaic.TcCoe Idealize.SL.Sem

variable (x0 : (⟨S8192x1024, .f32⟩ : BufTy).Contents (Elt Ideal)) (x1 x2 x3 x4 x5 x6 : (⟨S8192x512, .f32⟩ : BufTy).Contents (Elt Ideal))
  (x7 : (⟨S1x128, .f32⟩ : BufTy).Contents (Elt Ideal)) (x8 : (⟨S1024x1024, .f32⟩ : BufTy).Contents (Elt Ideal))

/-- The gated recurrent branch. -/
theorem left_at (s : Fin 8192) (l : Fin 512) : val_main_v16 (F := Ideal) x1 x2 x3 (ix2 s l) = left (fun s l => x1 (ix2 s l)) (fun s l => x2 (ix2 s l)) (fun s l => x3 (ix2 s l)) s l := by
  pointwise [val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2, val_main_cst_3]
  rfl

/-- A head's attention output, before its norm. -/
theorem u_at (s : Fin 8192) (q : Fin 4) (k : Fin 128) : val_main_v18 (F := Ideal) x4 x5 (ix3 s q k) = x4 (ix2 s (hcol q k)) + x5 (ix2 s (hcol q k)) := by
  pointwise [val_main_v18, val_main_v17]

/-- A head's gate. -/
theorem z_at (s : Fin 8192) (q : Fin 4) (k : Fin 128) : val_main_v33 (F := Ideal) x6 (ix3 s q k) = x6 (ix2 s (hcol q k)) := by
  pointwise [val_main_v33]

/-- A head's entry. -/
theorem head_at (s : Fin 8192) (q : Fin 4) (k : Fin 128) : val_main_v35 (F := Ideal) x4 x5 x6 x7 (ix3 s q k) = right (fun s l => x4 (ix2 s l)) (fun s l => x5 (ix2 s l)) (fun s l => x6 (ix2 s l)) (fun k => x7 (ix2 0 k)) s q k := by
  pointwise [val_main_v35, val_main_v34, val_main_call0_v5, val_main_call0_v4, val_main_call0_cst_0, val_main_call0_v3, val_main_call0_v2, val_main_call0_cst,
    val_main_call0_v1, val_main_call0_v0, val_main_v32, val_main_v31, val_main_v30, val_main_v29, val_main_v28, val_main_v27, val_main_v26, val_main_v25,
    val_main_v24, val_main_v23, val_main_v22, val_main_v21, val_main_v20, val_main_v19, val_main_cst_4, val_main_cst_5, val_main_cst_6, u_at, z_at]
  rfl

/-- The two branches side by side. -/
theorem mix_at (s : Fin 8192) (l : Fin 1024) : val_main_v37 (F := Ideal) x1 x2 x3 x4 x5 x6 x7 (ix2 s l) = mix (fun s l => x1 (ix2 s l)) (fun s l => x2 (ix2 s l)) (fun s l => x3 (ix2 s l)) (fun s l => x4 (ix2 s l)) (fun s l => x5 (ix2 s l)) (fun s l => x6 (ix2 s l)) (fun k => x7 (ix2 0 k)) s l := by
  have e : ∀ n : Fin 512, val_main_v36 (F := Ideal) x4 x5 x6 x7 (ix2 s n)
      = right (fun s l => x4 (ix2 s l)) (fun s l => x5 (ix2 s l)) (fun s l => x6 (ix2 s l)) (fun k => x7 (ix2 0 k)) s ⟨n / 128, by omega⟩ ⟨n % 128, by omega⟩ := fun n => by
    rw [← head_at]
    pointwise [val_main_v36]
  pointwise [val_main_v37, left_at, e]
  rfl

/-- The gated branches. -/
theorem y_at (s : Fin 8192) (l : Fin 1024) : val_main_v40 (F := Ideal) x1 x2 x3 x4 x5 x6 x7 (ix2 s l) = mix (fun s l => x1 (ix2 s l)) (fun s l => x2 (ix2 s l)) (fun s l => x3 (ix2 s l)) (fun s l => x4 (ix2 s l)) (fun s l => x5 (ix2 s l)) (fun s l => x6 (ix2 s l)) (fun k => x7 (ix2 0 k)) s l := by
  pointwise [val_main_v40]
  exact mix_at x1 x2 x3 x4 x5 x6 x7 s l

/-- The output. -/
theorem out_at (s : Fin 8192) (l : Fin 1024) : val_main_v39 (F := Ideal) x0 x1 x2 x3 x4 x5 x6 x7 x8 (ix2 s l)
    = xo (fun s l => x1 (ix2 s l)) (fun s l => x2 (ix2 s l)) (fun s l => x3 (ix2 s l)) (fun s l => x4 (ix2 s l)) (fun s l => x5 (ix2 s l)) (fun s l => x6 (ix2 s l)) (fun k => x7 (ix2 0 k)) (fun s l => x0 (ix2 s l)) (fun s l => x8 (ix2 s l)) s l := by
  obtain ⟨y, hy⟩ : ∃ y, y = val_main_v37 (F := Ideal) x1 x2 x3 x4 x5 x6 x7 := ⟨_, rfl⟩
  rw [val_main_v39, val_main_v38, ← hy]
  pointwise []
  rw [xo]
  refine congrArg (_ + ·) (Finset.sum_congr rfl fun n _ => ?_)
  rw [hy, mix_at]

end Cert.OutProjFwdRefIdeal.Hand

namespace Cert.OutProjFwd

open Idealize.ShloMosaic Idealize.ShloMosaic.TcCoe Idealize.SL.Sem

/-- The cubic term's coefficient, read as the rational it stands for. -/
theorem names : Cert.preserves_OutProjFwd_OutProjFwdIdeal :=
  IdealRules.named_const.statement Cert.OutProjFwdIdeal.κ "cube" .f32 0x3D372713#32 ((8943 / 200000 : ℝ) : EReal) rfl

/-- The reference runs to the end and leaves its arguments unchanged. -/
theorem frame_ref : Cert.quiescent_OutProjFwdRefIdeal := fun m ρ _ =>
  (θ_run Cert.OutProjFwdRefIdeal.defs _ _).mono (fun r h => ⟨fun c => (h c).2.2, sem_eq_zero_of_no_sems (by decide) r.2⟩)
    (Cert.OutProjFwdRefIdeal.Value.run m ρ)

/-- The kernel's two results are the reference's two results, on every input. -/
theorem algebraic : Cert.algebraic_OutProjFwdIdeal_OutProjFwdRefIdeal := fun m ρ m' ρ' _ hag =>
  ⟨_, _, Cert.OutProjFwdIdeal.Value.run_blocks m ρ, (θ_run _ _ _).mono (fun r h c => by
    obtain ⟨h0, h1, h2⟩ := h c
    obtain ⟨a0, a1, a2, a3, a4, a5, a6, a7, a8⟩ := hag c
    refine ⟨h0.trans ?_, h1.trans ?_, h2⟩ <;> clear h0 h1 h2 h
    · rw [Cert.OutProjFwdRefIdeal.Read.val_main_v39_eq]
      change Cert.OutProjFwdRefIdeal.Read.val_main_v39 (m' (c.tc.loc Cert.OutProjFwdRefIdeal.main_arg0)) (m' (c.tc.loc Cert.OutProjFwdRefIdeal.main_arg1)) (m' (c.tc.loc Cert.OutProjFwdRefIdeal.main_arg2)) (m' (c.tc.loc Cert.OutProjFwdRefIdeal.main_arg3)) (m' (c.tc.loc Cert.OutProjFwdRefIdeal.main_arg4)) (m' (c.tc.loc Cert.OutProjFwdRefIdeal.main_arg5)) (m' (c.tc.loc Cert.OutProjFwdRefIdeal.main_arg6)) (m' (c.tc.loc Cert.OutProjFwdRefIdeal.main_arg7)) (m' (c.tc.loc Cert.OutProjFwdRefIdeal.main_arg8)) = _
      rw [a0, a1, a2, a3, a4, a5, a6, a7, a8]
      refine Eq.trans ?_ (Cert.OutProjFwdIdeal.Hand.final9 m c).symm
      funext i
      idx_vars i
      exact Cert.OutProjFwdRefIdeal.Hand.out_at _ _ _ _ _ _ _ _ _ i0 i1
    · rw [Cert.OutProjFwdRefIdeal.Read.val_main_v40_eq]
      change Cert.OutProjFwdRefIdeal.Read.val_main_v40 (m' (c.tc.loc Cert.OutProjFwdRefIdeal.main_arg1)) (m' (c.tc.loc Cert.OutProjFwdRefIdeal.main_arg2)) (m' (c.tc.loc Cert.OutProjFwdRefIdeal.main_arg3)) (m' (c.tc.loc Cert.OutProjFwdRefIdeal.main_arg4)) (m' (c.tc.loc Cert.OutProjFwdRefIdeal.main_arg5)) (m' (c.tc.loc Cert.OutProjFwdRefIdeal.main_arg6)) (m' (c.tc.loc Cert.OutProjFwdRefIdeal.main_arg7)) = _
      rw [a1, a2, a3, a4, a5, a6, a7]
      refine Eq.trans ?_ (Cert.OutProjFwdIdeal.Hand.final10 m c).symm
      funext i
      idx_vars i
      exact Cert.OutProjFwdRefIdeal.Hand.y_at _ _ _ _ _ _ _ i0 i1)
    (Cert.OutProjFwdRefIdeal.Value.run m' ρ')⟩

end Cert.OutProjFwd
-- ==== Proof.MixPrep.Model.lean ====
/- The gates and heads that feed the two recurrences, on the extended reals, as functions of row and column. -/
module
public import proofs.«01_k».proof.Proof.FfnFwd.Model

@[expose] public section

set_option maxRecDepth 16384

noncomputable section

namespace Cert.MixPrep

open Cert.FfnFwd Idealize.ShloMosaic Idealize.ShloMosaic.TcCoe

theorem lit_eight : Ideal.ofBits .f32 0x41000000#32 = ((8 : ℝ) : EReal) := by
  simp [Ideal.ofBits, Ideal.ieee, -EReal.coe_mul]; norm_num
theorem lit_neg_eight : Ideal.ofBits .f32 0xC1000000#32 = -((8 : ℝ) : EReal) := by
  rw [← EReal.coe_neg]
  simp [Ideal.ofBits, Ideal.ieee, -EReal.coe_mul]; norm_num

theorem zero_sub' (x : EReal) : (0 : EReal) - x = -x := by
  rw [sub_eq_add_neg, zero_add]

/-- The softplus function, as the program computes it. -/
def sp (x : EReal) : EReal := max x 0 + Ideal.log (1 + Ideal.exp (-(FloatOps.absf (F := Ideal) (φ := .f32) x)))

/-- The decay of a recurrence gate with pre-activation `p`. -/
def dcy (p lam : EReal) : EReal := Ideal.exp (Ideal.ofBits .f32 0xC1000000#32 * sg p * sp (-lam))

/-- The kernel's association of the decay's factors gives the same decay. -/
theorem dcy_eq (p lam : EReal) : Ideal.exp (-sg p * (Ideal.ofBits .f32 0x41000000#32 * sp (-lam))) = dcy p lam := by
  rw [dcy, lit_eight, lit_neg_eight, ← mul_assoc, EReal.neg_mul (sg p), mul_comm (sg p), ← EReal.neg_mul]

/-- The column of entry `i` in the block of column `l`. -/
abbrev bcol (l : Fin 512) (i : Fin 64) : Fin 512 := ⟨l / 64 * 64 + i, by omega⟩

/-- A gate's pre-activation: a block-diagonal product and a bias. -/
def pre (A : Fin 8 → Fin 64 → Fin 64 → EReal) (b : Fin 512 → EReal) (X : Fin 512 → EReal) (l : Fin 512) : EReal :=
  ∑ i : Fin 64, A ⟨l / 64, by omega⟩ i ⟨l % 64, by omega⟩ * X (bcol l i) + b l

/-- The entries of the whole matrix of which `A` holds the diagonal blocks. -/
def diag (A : Fin 8 → Fin 64 → Fin 64 → EReal) (p q : Fin 512) : EReal :=
  A ⟨p / 64, by omega⟩ ⟨p % 64, by omega⟩ ⟨q % 64, by omega⟩ * if (p : ℕ) / 64 = (q : ℕ) / 64 then 1 else 0

/-- A row times the whole matrix is the block's rows times the block. -/
theorem diag_sum (A : Fin 8 → Fin 64 → Fin 64 → EReal) (X : Fin 512 → EReal) (l : Fin 512) :
    ∑ p, X p * diag A p l = ∑ i : Fin 64, A ⟨l / 64, by omega⟩ i ⟨l % 64, by omega⟩ * X (bcol l i) := by
  refine (Finset.sum_of_injOn (bcol l) (fun i _ j _ h => ?_) (fun _ _ => Finset.mem_coe.2 (Finset.mem_univ _)) (fun p _ hp => ?_) (fun i _ => ?_)).symm
  · have := congrArg Fin.val h
    exact Fin.ext (by simpa using this)
  · have h : ¬ (p : ℕ) / 64 = (l : ℕ) / 64 := fun h => hp ⟨⟨(p : ℕ) % 64, by omega⟩, Finset.mem_coe.2 (Finset.mem_univ _), Fin.ext (by show (l : ℕ) / 64 * 64 + (p : ℕ) % 64 = p; omega)⟩
    rw [diag, if_neg h, mul_zero, mul_zero]
  · have e0 : ((bcol l i : Fin 512) : ℕ) / 64 = (l : ℕ) / 64 := by show ((l : ℕ) / 64 * 64 + (i : ℕ)) / 64 = _; omega
    have e1 : ((bcol l i : Fin 512) : ℕ) % 64 = i := by show ((l : ℕ) / 64 * 64 + (i : ℕ)) % 64 = _; omega
    rw [diag, if_pos e0, mul_one, mul_comm]
    simp only [e0, e1]

/-- The silu function. -/
def sl (x : EReal) : EReal := x * sg x

/-- One entry of a head, divided by the head's length. -/
def unit (u : Fin 128 → EReal) (k : Fin 128) : EReal := u k * Ideal.rsqrt (∑ j, u j * u j + Ideal.ofBits .f32 0x358637BD#32)

/-- Column `o + 128 q + k`: entry `k` of head `q` in the group that begins at column `o`. -/
abbrev qcol (o : ℕ) (ho : o ≤ 1024) (q : Fin 4) (k : Fin 128) : Fin 1536 := ⟨o + (q * 128 + k), by omega⟩

variable (C : Fin 1536 → EReal)

/-- A query, a key, a value: entry by entry. -/
def query (l : Fin 512) : EReal :=
  unit (fun k => sl (C (qcol 0 (by omega) ⟨l / 128, by omega⟩ k))) ⟨l % 128, by omega⟩ * Ideal.ofBits .f32 0x3DB504F3#32
def key (l : Fin 512) : EReal := unit (fun k => sl (C (qcol 512 (by omega) ⟨l / 128, by omega⟩ k))) ⟨l % 128, by omega⟩
def value (l : Fin 512) : EReal := sl (C ⟨1024 + l, by omega⟩)

/-- The write strengths, the log-decays, and zeros after them. -/
def bgs (B : Fin 16 → EReal) (al dt : Fin 2 → Fin 4 → EReal) (l : Fin 128) : EReal :=
  if h : (l : ℕ) < 8 then sg (B ⟨l, by omega⟩)
  else if h' : (l : ℕ) < 16 then
    -Ideal.exp (al ⟨(l - 8) / 4, by omega⟩ ⟨(l - 8) % 4, by omega⟩) * sp (B ⟨l, h'⟩ + dt ⟨(l - 8) / 4, by omega⟩ ⟨(l - 8) % 4, by omega⟩)
  else 0

end Cert.MixPrep
-- ==== Proof.MixPrep.Pay.lean ====
/- The payloads of the mixer's preparation kernel. -/
module
public import proofs.«01_k».proof.Proof.MixPrep.Model
public import proofs.«01_k».proof.Proof.Gen.MixPrepIdeal.Value
public import Idealize.ShloMosaic.Lib.Pipeline.ValueKit

@[expose] public section

set_option maxRecDepth 16384

noncomputable section

namespace Cert.MixPrepIdeal.Hand

open Cert.FfnFwd Cert.MixPrep Cert.MixPrepIdeal Cert.MixPrepIdeal.Gen Idealize.ShloMosaic Idealize.ShloMosaic.TcCoe Idealize.SL.Sem

/-- The scaled softplus of the decay parameter. -/
theorem lam_pay (v : Vec Ideal S1x1024 .f32) (l : Fin 1024) :
    k0_pay3 (F := Ideal) v (ix2 0 l) = Ideal.ofBits .f32 0x41000000#32 * sp (-v (ix2 0 l)) := by
  pointwise [k0_pay3]
  simp only [zero_sub']
  rfl

variable (a : Vec Ideal S512x512 .f32) (w : Vec Ideal S512x2048 .bf16) (b : Vec Ideal S1x2048 .f32) (v : Vec Ideal S1x1024 .f32) (r l : Fin 512)

/-- The decays of the two directions. -/
theorem dec0_pay : k0_pay8 (F := Ideal) (k0_pay3 v) (k0_pay4 a w b) (ix2 r l)
    = dcy (∑ x, a (ix2 r x) * w (ix2 x (⟨l, by omega⟩ : Fin 2048)) + b (ix2 0 (⟨l, by omega⟩ : Fin 2048))) (v (ix2 0 (⟨l, by omega⟩ : Fin 1024))) := by
  rw [← dcy_eq]
  pointwise [k0_pay8, k0_pay7, k0_pay4, k0_pay2]
  simp only [zero_sub']
  rw [lam_pay]
  rfl
theorem dec1_pay : k0_pay14 (F := Ideal) (k0_pay3 v) (k0_pay10 (k0_pay2 a w b)) (ix2 r l)
    = dcy (∑ x, a (ix2 r x) * w (ix2 x (⟨512 + l, by omega⟩ : Fin 2048)) + b (ix2 0 (⟨512 + l, by omega⟩ : Fin 2048))) (v (ix2 0 (⟨512 + l, by omega⟩ : Fin 1024))) := by
  rw [← dcy_eq]
  pointwise [k0_pay14, k0_pay13, k0_pay10, k0_pay2]
  simp only [zero_sub']
  rw [lam_pay]
  rfl

/-- The silu of the convolved columns. -/
theorem silu_pay (x : Vec Ideal S512x1536 .f32) (r : Fin 512) (l : Fin 1536) : k0_pay18 (F := Ideal) x (ix2 r l) = sl (x (ix2 r l)) := by
  pointwise [k0_pay18]
  rw [sg_tanh]
  rfl

/-- The body's lines that divide a head by its length. -/
def unitBody (u : FVec Ideal S512x128 .f32) : FVec Ideal S512x128 .f32 :=
  mulf u (broadcastTo S512x128 (rsqrt (addf (shapeCast S512x1 (multiReduction .add [1] S512 (mulf u u) 0x00000000#32 reduces_S512x128_S512 (.inl rfl) rfl)
      shapeCasts_S512_S512x1) (broadcast S512x1 (Scalar.ofBits .f32 0x358637BD#32)))) broadcasts_S512x1_S512x128)
theorem unit_body (u : FVec Ideal S512x128 .f32) (r : Fin 512) (k : Fin 128) : unitBody u (ix2 r k) = unit (fun k => u (ix2 r k)) k := by
  pointwise [unitBody]
  rfl

/-- A head's columns of a block. -/
theorem slice_at (y : FVec Ideal S512x1536 .f32) {p : ℕ} (hp : p + 128 ≤ 1536) (hs : S512x1536.Slices ![0, p] S512x128) (r : Fin 512) (k : Fin 128) :
    extractStridedSlice S512x128 ![0, p] y hs (ix2 r k) = y (ix2 r ⟨p + k, by omega⟩) := by
  pointwise []

/-- A scaled head, and an unscaled one. -/
theorem q_pay (x : Vec Ideal S512x1536 .f32) {p : ℕ} (hp : p + 128 ≤ 1536) (hs : S512x1536.Slices ![0, p] S512x128) (r : Fin 512) (k : Fin 128) :
    mulf (unitBody (extractStridedSlice S512x128 ![0, p] (k0_pay18 (F := Ideal) x) hs)) (broadcast S512x128 (Scalar.ofBits .f32 0x3DB504F3#32)) (ix2 r k)
      = unit (fun k => sl (x (ix2 r ⟨p + k, by omega⟩))) k * Ideal.ofBits .f32 0x3DB504F3#32 := by
  pointwise []
  rw [unit_body]
  simp only [slice_at _ hp, silu_pay]
theorem k_pay (x : Vec Ideal S512x1536 .f32) {p : ℕ} (hp : p + 128 ≤ 1536) (hs : S512x1536.Slices ![0, p] S512x128) (r : Fin 512) (k : Fin 128) :
    unitBody (extractStridedSlice S512x128 ![0, p] (k0_pay18 (F := Ideal) x) hs) (ix2 r k) = unit (fun k => sl (x (ix2 r ⟨p + k, by omega⟩))) k := by
  rw [unit_body]
  simp only [slice_at _ hp, silu_pay]

/-- The comparisons that choose a lane's formula. -/
theorem slt8 : ∀ l : Fin 128, IntOp.cmpi .slt (BitVec.ofNat 32 l) 8#32 = if (l : ℕ) < 8 then 1#1 else 0#1 := by decide +kernel
theorem slt16 : ∀ l : Fin 128, IntOp.cmpi .slt (BitVec.ofNat 32 l) 16#32 = if (l : ℕ) < 16 then 1#1 else 0#1 := by decide +kernel

/-- The write strengths and log-decays. -/
theorem bg_pay (x : Vec Ideal S512x128 .f32) (al dt : Vec Ideal S1x128 .f32) (r : Fin 512) (l : Fin 128) :
    k0_pay1 (F := Ideal) (k0_pay30 x) (iota .tc S512x128 32 [1] iota_S512x128_d1_w32) (k0_pay31 x) al dt (ix2 r l)
      = if (l : ℕ) < 8 then sg (x (ix2 r l)) else if (l : ℕ) < 16 then -Ideal.exp (al (ix2 0 l)) * sp (x (ix2 r l) + dt (ix2 0 l)) else 0 := by
  pointwise [k0_pay1, k0_pay30, k0_pay31]
  rw [slt8, slt16, sg_tanh]
  simp only [zero_sub']
  split_ifs <;> rfl

/-- The places of a block-diagonal matrix that hold its blocks. -/
theorem same : ∀ i j : Fin 8, IntOp.cmpi .eq (IntOp.addi (BitVec.ofNat 32 i) 0#32) (BitVec.ofNat 32 j) = if (i : ℕ) = j then 1#1 else 0#1 := by decide +kernel

theorem eye_at (i j : Fin 8) : FloatOps.uitofp (F := Ideal) .f32 (IntOp.cmpi .eq (IntOp.addi (BitVec.ofNat 32 i) 0#32) (BitVec.ofNat 32 j)) = if (i : ℕ) = j then (1 : EReal) else 0 := by
  rw [same]
  split_ifs
  · show (((1#1 : BitVec 1).toNat : ℝ) : EReal) = 1
    simp
  · show (((0#1 : BitVec 1).toNat : ℝ) : EReal) = 0
    simp

/-- The host's lines that lay the blocks of one direction on the diagonal of a whole matrix. -/
def bdiag {d : ℕ} (hs : S2x8x64x64.Slices ![d, 0, 0, 0] S1x8x64x64) (w : FVec Ideal S2x8x64x64 .f32) : FVec Ideal S512x512 .f32 :=
  shapeCast S512x512 (mulf (broadcastInDim S8x64x8x64 ![0, 1, 2, 3] bcast_S8x64x1x64_S8x64x8x64_0_1_2_3 (broadcastInDim S8x64x1x64 ![0, 1, 3] bcast_S8x64x64_S8x64x1x64_0_1_3
    (shapeCast S8x64x64 (extractStridedSlice S1x8x64x64 ![d, 0, 0, 0] w hs) shapeCasts_S1x8x64x64_S8x64x64)))
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))) shapeCasts_S8x64x8x64_S512x512
theorem bdiag_at {d : ℕ} (hd : d < 2) (hs : S2x8x64x64.Slices ![d, 0, 0, 0] S1x8x64x64) (w : FVec Ideal S2x8x64x64 .f32) (p q : Fin 512) :
    bdiag hs w (ix2 p q) = diag (fun k i j => w (ix4 ⟨d, hd⟩ k i j)) p q := by
  pointwise [bdiag]
  exact congrArg₂ (· * ·) rfl (eye_at ⟨p / 64, by omega⟩ ⟨q / 64, by omega⟩)

/-- Four matrices side by side: the columns of the first two. -/
theorem cat0_at (a b c e : FVec Ideal S512x512 .f32) (p q : Fin 512) :
    truncf .bf16 (concatenate S512x2048 1 [⟨S512x512, a⟩, ⟨S512x512, b⟩, ⟨S512x512, c⟩, ⟨S512x512, e⟩] concatenates_S512x512_S512x512_S512x512_S512x512_S512x2048_d1) bitsLt_bf16_f32
      (ix2 p (⟨q, by omega⟩ : Fin 2048)) = a (ix2 p q) := by
  pointwise []
theorem cat1_at (a b c e : FVec Ideal S512x512 .f32) (p q : Fin 512) :
    truncf .bf16 (concatenate S512x2048 1 [⟨S512x512, a⟩, ⟨S512x512, b⟩, ⟨S512x512, c⟩, ⟨S512x512, e⟩] concatenates_S512x512_S512x512_S512x512_S512x512_S512x2048_d1) bitsLt_bf16_f32
      (ix2 p (⟨512 + q, by omega⟩ : Fin 2048)) = b (ix2 p q) := by
  pointwise []

end Cert.MixPrepIdeal.Hand
-- ==== Proof.MixPrep.Host.lean ====
/- The mixer's preparation kernel: what the host hands over. -/
module
public import proofs.«01_k».proof.Proof.MixPrep.Pay
public import proofs.«01_k».proof.Proof.Columns
public import Idealize.ShloMosaic.Lib.Pipeline.ReadBack
public import Idealize.ShloMosaic.Lib.WritesUnit
public import Idealize.ShloMosaic.Lib.Routing.OpsSet

@[expose] public section

set_option maxRecDepth 16384

noncomputable section

namespace Cert.MixPrepIdeal.Hand

open Cert.Columns Cert.FfnFwd Cert.MixPrep Cert.MixPrepIdeal Cert.MixPrepIdeal.Gen Idealize.ShloMosaic Idealize.ShloMosaic.TcCoe Idealize.SL.Sem
open Idealize.ShloMosaic.Pipeline (Dat)

/-- Sixteen columns and padding after them. -/
theorem pad_at (w : FVec Ideal S8192x16 .f32) (z : FVec Ideal S_ .f32) (s : Fin 8192) (l : Fin 128) (h : (l : ℕ) < 16) :
    pad S8192x128 ![0, 0] ![0, 112] ![0, 0] w z pads_S8192x16_S8192x128_000_01120 h_S_ (ix2 s l) = w (ix2 s ⟨l, h⟩) := by
  pointwise []
  rw [dif_pos h]

/-- The start of the eight lanes. -/
abbrev starts : IVec S2 32 := concatenate S2 0 [⟨S1, broadcastInDim S1 ![] bcast_S_S1 (constantI S_ 32 0#32)⟩, ⟨S1, broadcastInDim S1 ![] bcast_S_S1 (constantI S_ 32 8#32)⟩]
  concatenates_S1_S1_S2_d0

/-- Update `k` is written to lane `8 + k`. -/
theorem lands : ∀ (k : Fin 8) (l : Fin 128), scatter_S1x128_S2_S8_0_0_01_0.resultIdx? (ix1 k) starts = some (ix2 0 l) ↔ (l : ℕ) = 8 + k := by decide +kernel

/-- Two by four numbers written to lanes 8 to 15 of a row. -/
theorem scatter_at (a : FVec Ideal S2x4 .f32) (z : FVec Ideal S1x128 .f32) (l : Fin 128) (h : 8 ≤ (l : ℕ)) (h' : (l : ℕ) < 16) :
    Host.scatter scatter_S1x128_S2_S8_0_0_01_0 (fun _ b => b) z starts (shapeCast S8 a shapeCasts_S2x4_S8) (ix2 0 l)
      = a (ix2 ⟨(l - 8) / 4, by omega⟩ ⟨(l - 8) % 4, by omega⟩) := by
  have hk : scatter_S1x128_S2_S8_0_0_01_0.resultIdx? (ix1 (⟨l - 8, by omega⟩ : Fin 8)) starts = some (ix2 0 l) :=
    (lands ⟨l - 8, by omega⟩ l).2 (by show (l : ℕ) = 8 + (l - 8); omega)
  refine Routing.scatter_set_hit _ _ _ _ _ _ (fun k hk => ?_) _ hk
  idx_vars k
  have e := (lands k0 l).1 hk
  have e1 : (l : ℕ) - 8 = k0 := by omega
  simp only [e1]
  pointwise []

variable (m : (ℓ : Loc nD τ sig) → Buf (Elt Ideal) ℓ)

/-- The arguments as functions of their coordinates. -/
abbrev X (c : Dev nD) (s : Fin 8192) (l : Fin 512) : EReal := m ((c.tc : Thread nD τ).loc main_arg0) (ix2 s l)
abbrev C (c : Dev nD) (s : Fin 8192) (l : Fin 1536) : EReal := m ((c.tc : Thread nD τ).loc main_arg1) (ix2 s l)
abbrev BA (c : Dev nD) (s : Fin 8192) (l : Fin 16) : EReal := m ((c.tc : Thread nD τ).loc main_arg2) (ix2 s l)
abbrev WA (c : Dev nD) (d : Fin 2) (k : Fin 8) (i j : Fin 64) : EReal := m ((c.tc : Thread nD τ).loc main_arg3) (ix4 d k i j)
abbrev WAb (c : Dev nD) (d : Fin 2) (l : Fin 512) : EReal := m ((c.tc : Thread nD τ).loc main_arg4) (ix2 d l)
abbrev LM (c : Dev nD) (d : Fin 2) (l : Fin 512) : EReal := m ((c.tc : Thread nD τ).loc main_arg7) (ix2 d l)
abbrev AL (c : Dev nD) (d : Fin 2) (h : Fin 4) : EReal := m ((c.tc : Thread nD τ).loc main_arg8) (ix2 d h)
abbrev DT (c : Dev nD) (d : Fin 2) (h : Fin 4) : EReal := m ((c.tc : Thread nD τ).loc main_arg9) (ix2 d h)

theorem idx0 : ∀ t, win0_0.index t = ![t.val, 0] := (by decide +kernel : ∀ t : Fin grid0.N, _)
theorem idx1 : ∀ t, win0_1.index t = ![t.val, 0] := (by decide +kernel : ∀ t : Fin grid0.N, _)
theorem idx2 : ∀ t, win0_2.index t = ![t.val, 0] := (by decide +kernel : ∀ t : Fin grid0.N, _)
theorem idx3 : ∀ t, win0_3.index t = ![0, 0] := (by decide +kernel : ∀ t : Fin grid0.N, _)
theorem idx4 : ∀ t, win0_4.index t = ![0, 0] := (by decide +kernel : ∀ t : Fin grid0.N, _)
theorem idx5 : ∀ t, win0_5.index t = ![0, 0] := (by decide +kernel : ∀ t : Fin grid0.N, _)
theorem idx6 : ∀ t, win0_6.index t = ![0, 0] := (by decide +kernel : ∀ t : Fin grid0.N, _)
theorem idx7 : ∀ t, win0_7.index t = ![0, 0] := (by decide +kernel : ∀ t : Fin grid0.N, _)
theorem idx8 : ∀ t, win0_8.index t = ![t.val, 0] := (by decide +kernel : ∀ t : Fin grid0.N, _)
theorem idx10 : ∀ t, win0_10.index t = ![t.val, 0] := (by decide +kernel : ∀ t : Fin grid0.N, _)
theorem idx12 : ∀ t, win0_12.index t = ![t.val, 0] := (by decide +kernel : ∀ t : Fin grid0.N, _)
theorem idx13 : ∀ t, win0_13.index t = ![t.val, 0] := (by decide +kernel : ∀ t : Fin grid0.N, _)
theorem idx14 : ∀ t, win0_14.index t = ![t.val, 0] := (by decide +kernel : ∀ t : Fin grid0.N, _)
theorem idx15 : ∀ t, win0_15.index t = ![t.val, 0] := (by decide +kernel : ∀ t : Fin grid0.N, _)

/-- Row `r` of grid point `t`'s block. -/
abbrev row (t : Fin cfg0.N) (r : Fin 512) : Fin 8192 := ⟨t.val * 512 + r, by have := lt_of_lt_of_eq t.isLt N_0; omega⟩

variable (c : Dev nD) (t : Fin cfg0.N)

/-- What the host hands over: the block-diagonal weights, the biases, the decay parameters, … -/
theorem V_w0 (p l : Fin 512) : V m c main_v57 (ix2 p ⟨l, by omega⟩) = diag (WA m c 0) p l := by
  simp only [V, hostOps0, hostOps0_1, hostOps0_2, List.flatten_cons, List.flatten_nil, List.append_nil, List.cons_append, List.nil_append]
  after_results
  refine (cat0_at _ _ _ _ _ _).trans ?_
  simp only [Matrix.cons_val_zero, Matrix.cons_val_one]
  after_results_simp
  exact bdiag_at (d := 0) (by decide) _ _ _ _
theorem V_b0 (l : Fin 512) : V m c main_v60 (ix2 0 ⟨l, by omega⟩) = WAb m c 0 l := by
  simp only [V, hostOps0, hostOps0_1, hostOps0_2, List.flatten_cons, List.flatten_nil, List.append_nil, List.cons_append, List.nil_append]
  after_results
  pointwise []
  have h0 : ((l : ℕ)) / 512 = 0 := by omega
  have h1 : ((l : ℕ)) % 512 = l := by omega
  rw [dif_pos (by omega)]
  simp only [h0, h1]
  rfl
theorem V_l0 (l : Fin 512) : V m c main_v62 (ix2 0 ⟨l, by omega⟩) = LM m c 0 l := by
  simp only [V, hostOps0, hostOps0_1, hostOps0_2, List.flatten_cons, List.flatten_nil, List.append_nil, List.cons_append, List.nil_append]
  after_results
  pointwise []
  have h0 : ((l : ℕ)) / 512 = 0 := by omega
  have h1 : ((l : ℕ)) % 512 = l := by omega
  simp only [h0, h1]
  rfl
theorem V_w1 (p l : Fin 512) : V m c main_v57 (ix2 p ⟨512 + l, by omega⟩) = diag (WA m c 1) p l := by
  simp only [V, hostOps0, hostOps0_1, hostOps0_2, List.flatten_cons, List.flatten_nil, List.append_nil, List.cons_append, List.nil_append]
  after_results
  refine (cat1_at _ _ _ _ _ _).trans ?_
  simp only [Matrix.cons_val_zero, Matrix.cons_val_one]
  after_results_simp
  exact bdiag_at (d := 1) (by decide) _ _ _ _
theorem V_b1 (l : Fin 512) : V m c main_v60 (ix2 0 ⟨512 + l, by omega⟩) = WAb m c 1 l := by
  simp only [V, hostOps0, hostOps0_1, hostOps0_2, List.flatten_cons, List.flatten_nil, List.append_nil, List.cons_append, List.nil_append]
  after_results
  pointwise []
  have h0 : (512 + (l : ℕ)) / 512 = 1 := by omega
  have h1 : (512 + (l : ℕ)) % 512 = l := by omega
  rw [dif_pos (by omega)]
  simp only [h0, h1]
  rfl
theorem V_l1 (l : Fin 512) : V m c main_v62 (ix2 0 ⟨512 + l, by omega⟩) = LM m c 1 l := by
  simp only [V, hostOps0, hostOps0_1, hostOps0_2, List.flatten_cons, List.flatten_nil, List.append_nil, List.cons_append, List.nil_append]
  after_results
  pointwise []
  have h0 : (512 + (l : ℕ)) / 512 = 1 := by omega
  have h1 : (512 + (l : ℕ)) % 512 = l := by omega
  simp only [h0, h1]
  rfl
/-- … and the lanes of the write strengths and log-decays. -/
theorem V_BA (s : Fin 8192) (l : Fin 128) (h : (l : ℕ) < 16) : V m c main_v61 (ix2 s l) = BA m c s ⟨l, h⟩ := by
  simp only [V, hostOps0, hostOps0_1, hostOps0_2, List.flatten_cons, List.flatten_nil, List.append_nil, List.cons_append, List.nil_append]
  after_results
  exact pad_at _ _ s l h
theorem V_AL (l : Fin 128) (h : 8 ≤ (l : ℕ)) (h' : (l : ℕ) < 16) : V m c main_v68 (ix2 0 l) = AL m c ⟨(l - 8) / 4, by omega⟩ ⟨(l - 8) % 4, by omega⟩ := by
  simp only [V, hostOps0, hostOps0_1, hostOps0_2, List.flatten_cons, List.flatten_nil, List.append_nil, List.cons_append, List.nil_append]
  after_results
  exact scatter_at _ _ l h h'
theorem V_DT (l : Fin 128) (h : 8 ≤ (l : ℕ)) (h' : (l : ℕ) < 16) : V m c main_v74 (ix2 0 l) = DT m c ⟨(l - 8) / 4, by omega⟩ ⟨(l - 8) % 4, by omega⟩ := by
  simp only [V, hostOps0, hostOps0_1, hostOps0_2, List.flatten_cons, List.flatten_nil, List.append_nil, List.cons_append, List.nil_append]
  after_results
  exact scatter_at _ _ l h h'

end Cert.MixPrepIdeal.Hand
-- ==== Proof.MixPrep.Block.lean ====
/- The mixer's preparation kernel: the blocks one grid point reads, and what it writes. -/
module
public import proofs.«01_k».proof.Proof.MixPrep.Host
public import proofs.«01_k».proof.Proof.Columns

@[expose] public section

set_option maxRecDepth 16384

noncomputable section

namespace Cert.MixPrepIdeal.Hand

open Cert.Columns Cert.FfnFwd Cert.MixPrep Cert.MixPrepIdeal Cert.MixPrepIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The blocks a grid point reads. -/
theorem blk0 (r l : Fin 512) : iblk m c 0 t (ix2 r l) = X m c (row t r) l := by
  blk_point [iblk, V, idx0 t]
theorem blk1 (r : Fin 512) (l : Fin 1536) : iblk m c 1 t (ix2 r l) = C m c (row t r) l := by
  blk_point [iblk, V, idx1 t]
theorem blk2 (r : Fin 512) (l : Fin 128) (h : (l : ℕ) < 16) : iblk m c 2 t (ix2 r l) = BA m c (row t r) ⟨l, h⟩ := by
  rw [← V_BA]
  blk_point [iblk, idx2 t]
theorem blk6 (l : Fin 128) (h : 8 ≤ (l : ℕ)) (h' : (l : ℕ) < 16) : iblk m c 6 t (ix2 0 l) = AL m c ⟨(l - 8) / 4, by omega⟩ ⟨(l - 8) % 4, by omega⟩ := by
  rw [← V_AL m c l h h']
  blk_point [iblk, idx6 t]
theorem blk7 (l : Fin 128) (h : 8 ≤ (l : ℕ)) (h' : (l : ℕ) < 16) : iblk m c 7 t (ix2 0 l) = DT m c ⟨(l - 8) / 4, by omega⟩ ⟨(l - 8) % 4, by omega⟩ := by
  rw [← V_DT m c l h h']
  blk_point [iblk, idx7 t]
theorem blk3_0 (p l : Fin 512) : iblk m c 3 t (ix2 p ((⟨l, by omega⟩ : Fin 2048))) = diag (WA m c 0) p l := by
  rw [← V_w0]
  blk_point [iblk, idx3 t]
theorem blk4_0 (l : Fin 512) : iblk m c 4 t (ix2 0 ((⟨l, by omega⟩ : Fin 2048))) = WAb m c 0 l := by
  rw [← V_b0]
  blk_point [iblk, idx4 t]
theorem blk5_0 (l : Fin 512) : iblk m c 5 t (ix2 0 ((⟨l, by omega⟩ : Fin 1024))) = LM m c 0 l := by
  rw [← V_l0]
  blk_point [iblk, idx5 t]
theorem blk3_1 (p l : Fin 512) : iblk m c 3 t (ix2 p ((⟨512 + l, by omega⟩ : Fin 2048))) = diag (WA m c 1) p l := by
  rw [← V_w1]
  blk_point [iblk, idx3 t]
theorem blk4_1 (l : Fin 512) : iblk m c 4 t (ix2 0 ((⟨512 + l, by omega⟩ : Fin 2048))) = WAb m c 1 l := by
  rw [← V_b1]
  blk_point [iblk, idx4 t]
theorem blk5_1 (l : Fin 512) : iblk m c 5 t (ix2 0 ((⟨512 + l, by omega⟩ : Fin 1024))) = LM m c 1 l := by
  rw [← V_l1]
  blk_point [iblk, idx5 t]

/-- What a grid point writes: its rows of the two decays, … -/
theorem point8 (r l : Fin 512) : out0_8 (F := Ideal) (iblk m c 0 t) (iblk m c 1 t) (iblk m c 2 t) (iblk m c 3 t) (iblk m c 4 t) (iblk m c 5 t) (iblk m c 6 t) (iblk m c 7 t) (ix2 r l) = dcy (pre (WA m c 0) (WAb m c 0) (X m c (row t r)) l) (LM m c 0 l) := by
  unfold_out out0_8
  frame_out
  refine (dec0_pay _ _ _ _ r l).trans ?_
  simp only [blk0, blk3_0, blk4_0, blk5_0, diag_sum]
  rfl
theorem point10 (r l : Fin 512) : out0_10 (F := Ideal) (iblk m c 0 t) (iblk m c 1 t) (iblk m c 2 t) (iblk m c 3 t) (iblk m c 4 t) (iblk m c 5 t) (iblk m c 6 t) (iblk m c 7 t) (ix2 r l) = dcy (pre (WA m c 1) (WAb m c 1) (X m c (row t r)) l) (LM m c 1 l) := by
  unfold_out out0_10
  frame_out
  refine (dec1_pay _ _ _ _ r l).trans ?_
  simp only [blk0, blk3_1, blk4_1, blk5_1, diag_sum]
  rfl

/-- … of the queries and keys, a head at a time, …  -/
theorem head_q (q : Fin 4) (r : Fin 512) (k : Fin 128) :
    unit (fun k => sl (iblk m c 1 t (ix2 r (⟨0 + q * 128 + k, by omega⟩ : Fin 1536)))) k * Ideal.ofBits .f32 0x3DB504F3#32 = query (C m c (row t r)) ⟨q * 128 + k, by omega⟩ := by
  have e0 : ((q : ℕ) * 128 + k) / 128 = q := by omega
  have e1 : ((q : ℕ) * 128 + k) % 128 = k := by omega
  simp only [blk1, query, e0, e1, Nat.add_assoc]
theorem head_k (q : Fin 4) (r : Fin 512) (k : Fin 128) :
    unit (fun k => sl (iblk m c 1 t (ix2 r (⟨512 + q * 128 + k, by omega⟩ : Fin 1536)))) k = key (C m c (row t r)) ⟨q * 128 + k, by omega⟩ := by
  have e0 : ((q : ℕ) * 128 + k) / 128 = q := by omega
  have e1 : ((q : ℕ) * 128 + k) % 128 = k := by omega
  simp only [blk1, key, e0, e1, Nat.add_assoc]
theorem point12 (r l : Fin 512) : out0_12 (F := Ideal) (iblk m c 0 t) (iblk m c 1 t) (iblk m c 2 t) (iblk m c 3 t) (iblk m c 4 t) (iblk m c 5 t) (iblk m c 6 t) (iblk m c 7 t) (ix2 r l) = query (C m c (row t r)) l := by
  unfold_out out0_12
  frame_out
  refine canon_cols (e := .f32) (n := 512) (W := 512) (o := 384) (w := 128) (by decide) _ _ _ r l (G := fun l => query (C m c (row t r)) l)
    (fun k => (q_pay (iblk m c 1 t) (p := 384) (by decide) slices_S512x1536_o0_384_S512x128 r k).trans (head_q m c t 3 r k)) fun h3 => ?_
  refine canon_cols (e := .f32) (n := 512) (W := 512) (o := 256) (w := 128) (by decide) _ _ _ r l (G := fun l => query (C m c (row t r)) l)
    (fun k => (q_pay (iblk m c 1 t) (p := 256) (by decide) slices_S512x1536_o0_256_S512x128 r k).trans (head_q m c t 2 r k)) fun h2 => ?_
  refine canon_cols (e := .f32) (n := 512) (W := 512) (o := 128) (w := 128) (by decide) _ _ _ r l (G := fun l => query (C m c (row t r)) l)
    (fun k => (q_pay (iblk m c 1 t) (p := 128) (by decide) slices_S512x1536_o0_128_S512x128 r k).trans (head_q m c t 1 r k)) fun h1 => ?_
  refine canon_cols (e := .f32) (n := 512) (W := 512) (o := 0) (w := 128) (by decide) _ _ _ r l (G := fun l => query (C m c (row t r)) l)
    (fun k => (q_pay (iblk m c 1 t) (p := 0) (by decide) slices_S512x1536_o0_0_S512x128 r k).trans (head_q m c t 0 r k)) fun h0 => ?_
  omega
theorem point13 (r l : Fin 512) : out0_13 (F := Ideal) (iblk m c 0 t) (iblk m c 1 t) (iblk m c 2 t) (iblk m c 3 t) (iblk m c 4 t) (iblk m c 5 t) (iblk m c 6 t) (iblk m c 7 t) (ix2 r l) = key (C m c (row t r)) l := by
  unfold_out out0_13
  frame_out
  refine canon_cols (e := .f32) (n := 512) (W := 512) (o := 384) (w := 128) (by decide) _ _ _ r l (G := fun l => key (C m c (row t r)) l)
    (fun k => (k_pay (iblk m c 1 t) (p := 896) (by decide) slices_S512x1536_o0_896_S512x128 r k).trans (head_k m c t 3 r k)) fun h3 => ?_
  refine canon_cols (e := .f32) (n := 512) (W := 512) (o := 256) (w := 128) (by decide) _ _ _ r l (G := fun l => key (C m c (row t r)) l)
    (fun k => (k_pay (iblk m c 1 t) (p := 768) (by decide) slices_S512x1536_o0_768_S512x128 r k).trans (head_k m c t 2 r k)) fun h2 => ?_
  refine canon_cols (e := .f32) (n := 512) (W := 512) (o := 128) (w := 128) (by decide) _ _ _ r l (G := fun l => key (C m c (row t r)) l)
    (fun k => (k_pay (iblk m c 1 t) (p := 640) (by decide) slices_S512x1536_o0_640_S512x128 r k).trans (head_k m c t 1 r k)) fun h1 => ?_
  refine canon_cols (e := .f32) (n := 512) (W := 512) (o := 0) (w := 128) (by decide) _ _ _ r l (G := fun l => key (C m c (row t r)) l)
    (fun k => (k_pay (iblk m c 1 t) (p := 512) (by decide) slices_S512x1536_o0_512_S512x128 r k).trans (head_k m c t 0 r k)) fun h0 => ?_
  omega

/-- … of the values, and of the write strengths and log-decays. -/
theorem point14 (r l : Fin 512) : out0_14 (F := Ideal) (iblk m c 0 t) (iblk m c 1 t) (iblk m c 2 t) (iblk m c 3 t) (iblk m c 4 t) (iblk m c 5 t) (iblk m c 6 t) (iblk m c 7 t) (ix2 r l) = value (C m c (row t r)) l := by
  unfold_out out0_14
  frame_out
  pointwise [k0_pay29]
  rw [silu_pay, blk1]
  rfl
theorem point15 (r : Fin 512) (l : Fin 128) : out0_15 (F := Ideal) (iblk m c 0 t) (iblk m c 1 t) (iblk m c 2 t) (iblk m c 3 t) (iblk m c 4 t) (iblk m c 5 t) (iblk m c 6 t) (iblk m c 7 t) (ix2 r l) = bgs (BA m c (row t r)) (AL m c) (DT m c) l := by
  unfold_out out0_15
  frame_out
  rw [bg_pay, bgs]
  split_ifs with h h'
  · rw [blk2 m c t r l (by omega)]
  · rw [blk2 m c t r l h', blk6 m c t l (by omega) h', blk7 m c t l (by omega) h']
  · rfl

/-- The arrays after the run. -/
theorem final8 (c : Dev nD) : (dats m 0 c).arrAt 8 (cfgs 0).N = fun i : S8192x512.Idx => dcy (pre (WA m c 0) (WAb m c 0) (X m c (i 0)) (i 1)) (LM m c 0 (i 1)) := by
  refine (dats m 0 c).arrAt_eq_of_covers 8 _ (by decide +kernel) fun t hf y => ?_
  idx_vars y
  blk_simp
  rw [after0_8]
  have e0 : (win0_8.blk t).view.emb (ix2 y0 y1) 0 = row t y0 := Fin.ext (by blk_simp [idx8 t])
  have e1 : (win0_8.blk t).view.emb (ix2 y0 y1) 1 = y1 := Fin.ext (by blk_simp [idx8 t])
  rw [e0, e1]
  exact point8 m c t y0 y1

theorem final10 (c : Dev nD) : (dats m 0 c).arrAt 10 (cfgs 0).N = fun i : S8192x512.Idx => dcy (pre (WA m c 1) (WAb m c 1) (X m c (i 0)) (i 1)) (LM m c 1 (i 1)) := by
  refine (dats m 0 c).arrAt_eq_of_covers 10 _ (by decide +kernel) fun t hf y => ?_
  idx_vars y
  blk_simp
  rw [after0_10]
  have e0 : (win0_10.blk t).view.emb (ix2 y0 y1) 0 = row t y0 := Fin.ext (by blk_simp [idx10 t])
  have e1 : (win0_10.blk t).view.emb (ix2 y0 y1) 1 = y1 := Fin.ext (by blk_simp [idx10 t])
  rw [e0, e1]
  exact point10 m c t y0 y1

theorem final12 (c : Dev nD) : (dats m 0 c).arrAt 12 (cfgs 0).N = fun i : S8192x512.Idx => query (C m c (i 0)) (i 1) := by
  refine (dats m 0 c).arrAt_eq_of_covers 12 _ (by decide +kernel) fun t hf y => ?_
  idx_vars y
  blk_simp
  rw [after0_12]
  have e0 : (win0_12.blk t).view.emb (ix2 y0 y1) 0 = row t y0 := Fin.ext (by blk_simp [idx12 t])
  have e1 : (win0_12.blk t).view.emb (ix2 y0 y1) 1 = y1 := Fin.ext (by blk_simp [idx12 t])
  rw [e0, e1]
  exact point12 m c t y0 y1

theorem final13 (c : Dev nD) : (dats m 0 c).arrAt 13 (cfgs 0).N = fun i : S8192x512.Idx => key (C m c (i 0)) (i 1) := by
  refine (dats m 0 c).arrAt_eq_of_covers 13 _ (by decide +kernel) fun t hf y => ?_
  idx_vars y
  blk_simp
  rw [after0_13]
  have e0 : (win0_13.blk t).view.emb (ix2 y0 y1) 0 = row t y0 := Fin.ext (by blk_simp [idx13 t])
  have e1 : (win0_13.blk t).view.emb (ix2 y0 y1) 1 = y1 := Fin.ext (by blk_simp [idx13 t])
  rw [e0, e1]
  exact point13 m c t y0 y1

theorem final14 (c : Dev nD) : (dats m 0 c).arrAt 14 (cfgs 0).N = fun i : S8192x512.Idx => value (C m c (i 0)) (i 1) := by
  refine (dats m 0 c).arrAt_eq_of_covers 14 _ (by decide +kernel) fun t hf y => ?_
  idx_vars y
  blk_simp
  rw [after0_14]
  have e0 : (win0_14.blk t).view.emb (ix2 y0 y1) 0 = row t y0 := Fin.ext (by blk_simp [idx14 t])
  have e1 : (win0_14.blk t).view.emb (ix2 y0 y1) 1 = y1 := Fin.ext (by blk_simp [idx14 t])
  rw [e0, e1]
  exact point14 m c t y0 y1

theorem final15 (c : Dev nD) : (dats m 0 c).arrAt 15 (cfgs 0).N = fun i : S8192x128.Idx => bgs (BA m c (i 0)) (AL m c) (DT m c) (i 1) := by
  refine (dats m 0 c).arrAt_eq_of_covers 15 _ (by decide +kernel) fun t hf y => ?_
  idx_vars y
  blk_simp
  rw [after0_15]
  have e0 : (win0_15.blk t).view.emb (ix2 y0 y1) 0 = row t y0 := Fin.ext (by blk_simp [idx15 t])
  have e1 : (win0_15.blk t).view.emb (ix2 y0 y1) 1 = y1 := Fin.ext (by blk_simp [idx15 t])
  rw [e0, e1]
  exact point15 m c t y0 y1

end Cert.MixPrepIdeal.Hand
-- ==== Proof.MixPrep.Claim.lean ====
/- The mixer's preparation: the reference index by index, and the equation with the kernel. -/
module
public import proofs.«01_k».proof.Proof.MixPrep.Block
public import proofs.«01_k».proof.Proof.Gen.MixPrepRefIdeal.Read
public import proofs.«01_k».proof.Proof.Gen.MixPrep.Frame
public import proofs.«01_k».proof.Defs

@[expose] public section

set_option maxRecDepth 16384

noncomputable section

namespace Cert.MixPrepRefIdeal.Hand

open Cert.FfnFwd Cert.MixPrep Cert.MixPrepRefIdeal Cert.MixPrepRefIdeal.Gen Cert.MixPrepRefIdeal.Read Idealize.ShloMosaic Idealize.ShloMosaic.TcCoe Idealize.SL.Sem

variable (x0 : (⟨S8192x512, .f32⟩ : BufTy).Contents (Elt Ideal)) (x1 : (⟨S8192x1536, .f32⟩ : BufTy).Contents (Elt Ideal)) (x2 : (⟨S8192x16, .f32⟩ : BufTy).Contents (Elt Ideal))
  (x3 : (⟨S2x8x64x64, .f32⟩ : BufTy).Contents (Elt Ideal)) (x4 x7 : (⟨S2x512, .f32⟩ : BufTy).Contents (Elt Ideal)) (x8 x9 : (⟨S2x4, .f32⟩ : BufTy).Contents (Elt Ideal))

/-- The softplus of the decay parameter. -/
theorem soft_at (d : Fin 2) (l : Fin 512) : val_main_v16 (F := Ideal) x7 (ix2 d l) = sp (-x7 (ix2 d l)) := by
  pointwise [val_main_v16, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v15]
  first | rfl | (rw [if_neg (by simp)]; rfl)

/-- A gate's pre-activation. -/
theorem pre_at (d : Fin 2) (s : Fin 8192) (l : Fin 512) : val_main_v6 (F := Ideal) x0 x3 x4 (ix3 d s l) = pre (fun k i j => x3 (ix4 d k i j)) (fun l => x4 (ix2 d l)) (fun l => x0 (ix2 s l)) l := by
  pointwise [val_main_v6, val_main_v5, val_main_v4, val_main_v3, val_main_v2, val_main_v1, val_main_v0]
  rfl

/-- The decays. -/
theorem dec_at (d : Fin 2) (s : Fin 8192) (l : Fin 512) : val_main_v20 (F := Ideal) x0 x3 x4 x7 (ix3 d s l) = dcy (pre (fun k i j => x3 (ix4 d k i j)) (fun l => x4 (ix2 d l)) (fun l => x0 (ix2 s l)) l) (x7 (ix2 d l)) := by
  pointwise [val_main_v20, val_main_v19, val_main_v18, val_main_v17, val_main_v14, val_main_v13, val_main_v12, val_main_v11, val_main_v10, val_main_v9, val_main_v8, val_main_v7, val_main_cst, val_main_cst_0, val_main_cst_1, soft_at, pre_at]
  rfl
theorem dec0_at (s : Fin 8192) (l : Fin 512) : val_main_v66 (F := Ideal) x0 x3 x4 x7 (ix2 s l) = dcy (pre (fun k i j => x3 (ix4 0 k i j)) (fun l => x4 (ix2 0 l)) (fun l => x0 (ix2 s l)) l) (x7 (ix2 0 l)) := by
  rw [← dec_at]
  pointwise [val_main_v66, val_main_v65]
theorem dec1_at (s : Fin 8192) (l : Fin 512) : val_main_v68 (F := Ideal) x0 x3 x4 x7 (ix2 s l) = dcy (pre (fun k i j => x3 (ix4 1 k i j)) (fun l => x4 (ix2 1 l)) (fun l => x0 (ix2 s l)) l) (x7 (ix2 1 l)) := by
  rw [← dec_at]
  pointwise [val_main_v68, val_main_v67]

/-- The silu of the convolved columns. -/
theorem silu_at (s : Fin 8192) (l : Fin 1536) : val_main_v21 (F := Ideal) x1 (ix2 s l) = sl (x1 (ix2 s l)) := by
  pointwise [val_main_v21, val_main_call1_v5, val_main_call1_v4, val_main_call1_v3, val_main_call1_v2, val_main_call1_v1, val_main_call1_v0, val_main_call1_cst, val_main_call1_cst_0]
  rfl

/-- The queries, the keys and the values. -/
theorem query_at (s : Fin 8192) (l : Fin 512) : val_main_v34 (F := Ideal) x1 (ix2 s l) = query (fun l => x1 (ix2 s l)) l := by
  have u : ∀ (q : Fin 4) (k : Fin 128), val_main_v23 (F := Ideal) x1 (ix3 s q k) = sl (x1 (ix2 s (qcol 0 (by omega) q k))) := fun q k => by
    rw [← silu_at]
    pointwise [val_main_v23, val_main_v22]
    exact congrArg (fun j => val_main_v21 (F := Ideal) x1 (ix2 s j)) (Fin.ext (by show (q : ℕ) * 128 + k = 0 + (q * 128 + k); omega))
  pointwise [val_main_v34, val_main_v33, val_main_v32, val_main_v31, val_main_v30, val_main_v29, val_main_v28, val_main_v27, val_main_v26, val_main_v25, val_main_v24, val_main_cst_2, val_main_cst_3, val_main_cst_4, u]
  rfl
theorem key_at (s : Fin 8192) (l : Fin 512) : val_main_v45 (F := Ideal) x1 (ix2 s l) = key (fun l => x1 (ix2 s l)) l := by
  have u : ∀ (q : Fin 4) (k : Fin 128), val_main_v36 (F := Ideal) x1 (ix3 s q k) = sl (x1 (ix2 s (qcol 512 (by omega) q k))) := fun q k => by
    rw [← silu_at]
    pointwise [val_main_v36, val_main_v35]
  pointwise [val_main_v45, val_main_v44, val_main_v43, val_main_v42, val_main_v41, val_main_v40, val_main_v39, val_main_v38, val_main_v37, val_main_cst_5, val_main_cst_6, u]
  rfl
theorem value_at (s : Fin 8192) (l : Fin 512) : val_main_v69 (F := Ideal) x1 (ix2 s l) = value (fun l => x1 (ix2 s l)) l := by
  pointwise [val_main_v69, silu_at]
  rfl

/-- The write strengths and the log-decays. -/
theorem beta_at (s : Fin 8192) (l : Fin 8) : val_main_v52 (F := Ideal) x2 (ix2 s l) = sg (x2 (ix2 s ⟨l, by omega⟩)) := by
  pointwise [val_main_v52, val_main_v51, val_main_v50, val_main_v49, val_main_v48, val_main_v47, val_main_v46, val_main_cst_7, val_main_cst_8]
  rfl
theorem decay_at (s : Fin 8192) (l : Fin 8) : val_main_v62 (F := Ideal) x2 x8 x9 (ix2 s l)
    = -Ideal.exp (x8 (ix2 ⟨l / 4, by omega⟩ ⟨l % 4, by omega⟩)) * sp (x2 (ix2 s ⟨8 + l, by omega⟩) + x9 (ix2 ⟨l / 4, by omega⟩ ⟨l % 4, by omega⟩)) := by
  pointwise [val_main_v62, val_main_v61, val_main_v60, val_main_v59, val_main_v58, val_main_v57, val_main_v56, val_main_v55, val_main_v54, val_main_v53, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst]
  first | rfl | (rw [if_neg (by simp)]; rfl)
theorem bgs_at (s : Fin 8192) (l : Fin 128) : val_main_v64 (F := Ideal) x2 x8 x9 (ix2 s l)
    = bgs (fun l => x2 (ix2 s l)) (fun d h => x8 (ix2 d h)) (fun d h => x9 (ix2 d h)) l := by
  pointwise [val_main_v64, val_main_v63, val_main_cst_9]
  rw [bgs]
  split_ifs with h h' h'' <;> first | omega | skip
  · exact beta_at x2 s ⟨l, h⟩
  · rw [dif_pos (by omega)]
    refine (decay_at x2 x8 x9 s ⟨l - 8, by omega⟩).trans ?_
    have e : 8 + ((l : ℕ) - 8) = l := by omega
    simp only [e]
  · rfl

end Cert.MixPrepRefIdeal.Hand

namespace Cert.MixPrep

open Idealize.ShloMosaic Idealize.ShloMosaic.TcCoe Idealize.SL.Sem

/-- The reference runs to the end and leaves its arguments unchanged. -/
theorem frame_ref : Cert.quiescent_MixPrepRefIdeal := fun m ρ _ =>
  (θ_run Cert.MixPrepRefIdeal.defs _ _).mono (fun r h => ⟨fun c => (h c).2.2.2.2.2.2, sem_eq_zero_of_no_sems (by decide) r.2⟩)
    (Cert.MixPrepRefIdeal.Value.run m ρ)

set_option maxHeartbeats 2000000 in
/-- The kernel's six results are the reference's, on every input. -/
theorem algebraic : Cert.algebraic_MixPrepIdeal_MixPrepRefIdeal := fun m ρ m' ρ' _ hag =>
  ⟨_, _, _, _, _, _, (θ_run _ _ _).mono (fun r h c => ⟨(h c).1, (h c).2.2.1, (h c).2.2.2.2.1, (h c).2.2.2.2.2.1, (h c).2.2.2.2.2.2.1, (h c).2.2.2.2.2.2.2.1, (h c).2.2.2.2.2.2.2.2⟩)
      (Cert.MixPrepIdeal.Value.run_blocks m ρ),
    (θ_run _ _ _).mono (fun r h c => by
    obtain ⟨h0, h1, h2, h3, h4, h5, h6⟩ := h c
    obtain ⟨a0, a1, a2, a3, a4, a5, a6, a7, a8, a9⟩ := hag c
    refine ⟨h0.trans ?_, h1.trans ?_, h2.trans ?_, h3.trans ?_, h4.trans ?_, h5.trans ?_, h6⟩ <;> clear h0 h1 h2 h3 h4 h5 h6 h
    · rw [Cert.MixPrepRefIdeal.Read.val_main_v66_eq]
      change Cert.MixPrepRefIdeal.Read.val_main_v66 (m' (c.tc.loc Cert.MixPrepRefIdeal.main_arg0)) (m' (c.tc.loc Cert.MixPrepRefIdeal.main_arg3)) (m' (c.tc.loc Cert.MixPrepRefIdeal.main_arg4)) (m' (c.tc.loc Cert.MixPrepRefIdeal.main_arg7)) = _
      rw [a0, a3, a4, a7]
      refine Eq.trans ?_ (Cert.MixPrepIdeal.Hand.final8 m c).symm
      funext i
      idx_vars i
      exact Cert.MixPrepRefIdeal.Hand.dec0_at _ _ _ _ i0 i1
    · rw [Cert.MixPrepRefIdeal.Read.val_main_v68_eq]
      change Cert.MixPrepRefIdeal.Read.val_main_v68 (m' (c.tc.loc Cert.MixPrepRefIdeal.main_arg0)) (m' (c.tc.loc Cert.MixPrepRefIdeal.main_arg3)) (m' (c.tc.loc Cert.MixPrepRefIdeal.main_arg4)) (m' (c.tc.loc Cert.MixPrepRefIdeal.main_arg7)) = _
      rw [a0, a3, a4, a7]
      refine Eq.trans ?_ (Cert.MixPrepIdeal.Hand.final10 m c).symm
      funext i
      idx_vars i
      exact Cert.MixPrepRefIdeal.Hand.dec1_at _ _ _ _ i0 i1
    · rw [Cert.MixPrepRefIdeal.Read.val_main_v34_eq]
      change Cert.MixPrepRefIdeal.Read.val_main_v34 (m' (c.tc.loc Cert.MixPrepRefIdeal.main_arg1)) = _
      rw [a1]
      refine Eq.trans ?_ (Cert.MixPrepIdeal.Hand.final12 m c).symm
      funext i
      idx_vars i
      exact Cert.MixPrepRefIdeal.Hand.query_at _ i0 i1
    · rw [Cert.MixPrepRefIdeal.Read.val_main_v45_eq]
      change Cert.MixPrepRefIdeal.Read.val_main_v45 (m' (c.tc.loc Cert.MixPrepRefIdeal.main_arg1)) = _
      rw [a1]
      refine Eq.trans ?_ (Cert.MixPrepIdeal.Hand.final13 m c).symm
      funext i
      idx_vars i
      exact Cert.MixPrepRefIdeal.Hand.key_at _ i0 i1
    · rw [Cert.MixPrepRefIdeal.Read.val_main_v69_eq]
      change Cert.MixPrepRefIdeal.Read.val_main_v69 (m' (c.tc.loc Cert.MixPrepRefIdeal.main_arg1)) = _
      rw [a1]
      refine Eq.trans ?_ (Cert.MixPrepIdeal.Hand.final14 m c).symm
      funext i
      idx_vars i
      exact Cert.MixPrepRefIdeal.Hand.value_at _ i0 i1
    · rw [Cert.MixPrepRefIdeal.Read.val_main_v64_eq]
      change Cert.MixPrepRefIdeal.Read.val_main_v64 (m' (c.tc.loc Cert.MixPrepRefIdeal.main_arg2)) (m' (c.tc.loc Cert.MixPrepRefIdeal.main_arg8)) (m' (c.tc.loc Cert.MixPrepRefIdeal.main_arg9)) = _
      rw [a2, a8, a9]
      refine Eq.trans ?_ (Cert.MixPrepIdeal.Hand.final15 m c).symm
      funext i
      idx_vars i
      exact Cert.MixPrepRefIdeal.Hand.bgs_at _ _ _ i0 i1)
    (Cert.MixPrepRefIdeal.Value.run m' ρ')⟩

end Cert.MixPrep
-- ==== Proof.Adamw.Claim.lean ====
/- The AdamW step: the equation with the kernel. -/
module
public import proofs.«01_k».proof.Proof.Gen.AdamwIdeal.Value
public import proofs.«01_k».proof.Proof.Gen.AdamwRefIdeal.Read
public import proofs.«01_k».proof.Proof.Gen.Adamw.Frame
public import proofs.«01_k».proof.Defs

@[expose] public section

set_option maxRecDepth 16384

noncomputable section

namespace Cert.Adamw

open Idealize.ShloMosaic Idealize.ShloMosaic.TcCoe Idealize.SL.Sem

/-- The reference runs to the end and leaves its arguments unchanged. -/
theorem frame_ref : Cert.quiescent_AdamwRefIdeal := fun m ρ _ =>
  (θ_run Cert.AdamwRefIdeal.defs _ _).mono (fun r h => ⟨fun c => (h c).2.2.2, sem_eq_zero_of_no_sems (by decide) r.2⟩)
    (Cert.AdamwRefIdeal.Value.run m ρ)

/-- The kernel's step and moments are the reference's, on every input. -/
theorem algebraic : Cert.algebraic_AdamwIdeal_AdamwRefIdeal := fun m ρ m' ρ' _ hag =>
  ⟨_, _, _, Cert.AdamwIdeal.Value.run m ρ, (θ_run _ _ _).mono (fun r h c => by
    obtain ⟨h0, h1, h2, h3⟩ := h c
    obtain ⟨a0, a1, a2, a3⟩ := hag c
    refine ⟨h0.trans ?_, h1.trans ?_, h2.trans ?_, h3⟩ <;> clear h0 h1 h2 h3 h
    · rw [Cert.AdamwRefIdeal.Read.val_main_v23_eq]
      change Cert.AdamwRefIdeal.Read.val_main_v23 (m' (c.tc.loc Cert.AdamwRefIdeal.main_arg0)) (m' (c.tc.loc Cert.AdamwRefIdeal.main_arg1)) (m' (c.tc.loc Cert.AdamwRefIdeal.main_arg2)) (m' (c.tc.loc Cert.AdamwRefIdeal.main_arg3)) = _
      rw [a0, a1, a2, a3]
      rfl
    · rw [Cert.AdamwRefIdeal.Read.val_main_v4_eq]
      change Cert.AdamwRefIdeal.Read.val_main_v4 (m' (c.tc.loc Cert.AdamwRefIdeal.main_arg1)) (m' (c.tc.loc Cert.AdamwRefIdeal.main_arg2)) = _
      rw [a1, a2]
      rfl
    · rw [Cert.AdamwRefIdeal.Read.val_main_v10_eq]
      change Cert.AdamwRefIdeal.Read.val_main_v10 (m' (c.tc.loc Cert.AdamwRefIdeal.main_arg1)) (m' (c.tc.loc Cert.AdamwRefIdeal.main_arg3)) = _
      rw [a1, a3]
      rfl)
    (Cert.AdamwRefIdeal.Value.run m' ρ')⟩

end Cert.Adamw
-- ==== Proof.TokenProduct.Array.lean ====
/- The product over the tokens: the eight blocks of rows add up to the whole sum. -/
module
public import proofs.«01_k».proof.Proof.Gen.TokenProductIdeal.Value
public import Idealize.ShloMosaic.Lib.Pipeline.ValueKit
public import Idealize.ShloMosaic.PureOps.Ideal

@[expose] public section

set_option maxRecDepth 16384

noncomputable section

namespace Cert.TokenProductIdeal.Hand

open Cert.TokenProductIdeal Cert.TokenProductIdeal.Gen Idealize.ShloMosaic Idealize.ShloMosaic.TcCoe Idealize.SL.Sem

/-- A grid point writes zeros first. -/
theorem zero_at (i : Fin 2816) (j : Fin 1024) : k0_pay1 (F := Ideal) (ix3 0 i j) = 0 := by
  pointwise [k0_pay1]

/-- A grid point adds the product of its rows to what stands there. -/
theorem add_at (a : FVec Ideal S1024x2816 .bf16) (b : FVec Ideal S1024x1024 .bf16) (y : FVec Ideal S1x2816x1024 .f32) (i : Fin 2816) (j : Fin 1024) :
    k0_pay2 (F := Ideal) a b y (ix3 0 i j) = y (ix3 0 i j) + ∑ r : Fin 1024, a (ix2 r i) * b (ix2 r j) := by
  pointwise [k0_pay2]

variable (m : (ℓ : Loc nD τ sig) → Buf (Elt Ideal) ℓ)

/-- The arguments by token and column. -/
abbrev X (c : Dev nD) (s : Fin 8192) (i : Fin 2816) : EReal := m ((c.tc : Thread nD τ).loc main_arg0) (ix2 s i)
abbrev Y (c : Dev nD) (s : Fin 8192) (j : Fin 1024) : EReal := m ((c.tc : Thread nD τ).loc main_arg1) (ix2 s j)

theorem idx0 : ∀ t, win0_0.index t = ![t.val, 0] := (by decide +kernel : ∀ t : Fin grid0.N, _)
theorem idx1 : ∀ t, win0_1.index t = ![t.val, 0] := (by decide +kernel : ∀ t : Fin grid0.N, _)

/-- Row `r` of grid point `t`'s block. -/
abbrev row (t : Fin cfg0.N) (r : Fin 1024) : Fin 8192 := ⟨t.val * 1024 + r, by have := lt_of_lt_of_eq t.isLt N_0; omega⟩

theorem blk0 (c : Dev nD) (t : Fin cfg0.N) (r : Fin 1024) (l : Fin 2816) :
    iblk m c 0 t (ix2 r l) = X m c (row t r) l := by
  blk_point [iblk, V, idx0 t]
theorem blk1 (c : Dev nD) (t : Fin cfg0.N) (r : Fin 1024) (l : Fin 1024) :
    iblk m c 1 t (ix2 r l) = Y m c (row t r) l := by
  blk_point [iblk, V, idx1 t]

/-- The part of entry `(i, j)` of the product that grid point `n` adds. -/
def part (c : Dev nD) (i : Fin 2816) (j : Fin 1024) (n : ℕ) : EReal :=
  if h : n < cfg0.N then ∑ r : Fin 1024, X m c (row ⟨n, h⟩ r) i * Y m c (row ⟨n, h⟩ r) j
  else 0

/-- A grid point adds its part. -/
theorem step_at (c : Dev nD) (n : ℕ) (h : n < cfg0.N) (y : FVec Ideal S1x2816x1024 .f32) (i : Fin 2816) (j : Fin 1024) :
    k0_pay2 (F := Ideal) (iblk m c 0 ⟨n, h⟩) (iblk m c 1 ⟨n, h⟩) y (ix3 0 i j) = y (ix3 0 i j) + part m c i j n := by
  rw [add_at, part, dif_pos h]
  exact congrArg (_ + ·) (Finset.sum_congr rfl fun r _ => congrArg₂ (· * ·) (blk0 m c ⟨n, h⟩ r i) (blk1 m c ⟨n, h⟩ r j))

/-- The eight parts are the whole sum. -/
theorem parts (c : Dev nD) (i : Fin 2816) (j : Fin 1024) : ∑ n ∈ Finset.range 8, part m c i j n = ∑ s : Fin 8192, X m c s i * Y m c s j := by
  have e : ∀ t : Fin 8, part m c i j t = ∑ k : Fin 1024, X m c ⟨t.val * 1024 + k.val, by omega⟩ i * Y m c ⟨t.val * 1024 + k.val, by omega⟩ j :=
    fun t => dif_pos (lt_of_lt_of_eq t.isLt N_0.symm)
  rw [Finset.sum_range, Finset.sum_congr rfl fun t _ => e t]
  exact Fin.sum_mul_add_congr (f := fun s : Fin 8192 => X m c s i * Y m c s j) (fun t k hk => rfl) rfl

/-- The array the kernel leaves is the sum over all rows. -/
theorem array_at (c : Dev nD) (i : Fin 2816) (j : Fin 1024) : (Cert.TokenProductIdeal.Value.G2 m c (ix3 0 i j) : EReal)
    = ∑ s : Fin 8192, X m c s i * Y m c s j := by
  have hr : Cert.TokenProductIdeal.Value.run2Of (ix3 0 i j) = 0 := by
    show 1 * (0 / 1 - 0) + 1 * (i.val / 2816 - 0) + 1 * (j.val / 1024 - 0) = 0
    rw [Nat.div_eq_of_lt i.isLt, Nat.div_eq_of_lt j.isLt]
  have hl : Cert.TokenProductIdeal.Value.loc2Of (ix3 0 i j) = ix3 0 i j := by
    funext a
    match a with
    | ⟨0, _⟩ => exact Fin.ext (by show 0 % 1 = 0; rfl)
    | ⟨1, _⟩ => exact Fin.ext (Nat.mod_eq_of_lt i.isLt)
    | ⟨2, _⟩ => exact Fin.ext (Nat.mod_eq_of_lt j.isLt)
  unfold Cert.TokenProductIdeal.Value.G2
  rw [dif_pos (show 8 * Cert.TokenProductIdeal.Value.run2Of (ix3 0 i j) + 7 < cfg0.N by rw [hr]; exact lt_of_lt_of_eq (by decide) N_0.symm), hl]
  refine (Pipeline.accAt_add_apply (Cert.TokenProductIdeal.Value.reset2 m c) (Cert.TokenProductIdeal.Value.step2 m c) (fun _ => (0 : EReal))
    (fun n (p : S1x2816x1024.Idx) => part m c (p 1) (p 2) n) _ 7 (fun h p => ?_) (fun n h y p _ _ => ?_) 7 le_rfl _ (ix3 0 i j)).trans ?_
  · idx_vars p
    obtain rfl : p0 = 0 := Subsingleton.elim _ _
    exact (step_at m c _ h _ p1 p2).trans (congrArg (· + _) (zero_at p1 p2))
  · idx_vars p
    obtain rfl : p0 = 0 := Subsingleton.elim _ _
    exact step_at m c n h y p1 p2
  · rw [zero_add, hr]
    exact (Finset.sum_congr rfl fun n _ => congrArg (part m c i j) (Nat.zero_add n)).trans (parts m c i j)

end Cert.TokenProductIdeal.Hand
-- ==== Proof.TokenProduct.Claim.lean ====
/- The product over the tokens: the equation with the kernel. -/
module
public import proofs.«01_k».proof.Proof.TokenProduct.Array
public import proofs.«01_k».proof.Proof.Gen.TokenProductRefIdeal.Read
public import proofs.«01_k».proof.Proof.Gen.TokenProduct.Frame
public import proofs.«01_k».proof.Defs

@[expose] public section

set_option maxRecDepth 16384

noncomputable section

namespace Cert.TokenProduct

open Idealize.ShloMosaic Idealize.ShloMosaic.TcCoe Idealize.SL.Sem

/-- The reference runs to the end and leaves its arguments unchanged. -/
theorem frame_ref : Cert.quiescent_TokenProductRefIdeal := fun m ρ _ =>
  (θ_run Cert.TokenProductRefIdeal.defs _ _).mono (fun r h => ⟨fun c => (h c).2, sem_eq_zero_of_no_sems (by decide) r.2⟩)
    (Cert.TokenProductRefIdeal.Value.run m ρ)

/-- An entry of the reference's product. -/
theorem ref_at (x : FVec Ideal Cert.TokenProductRefIdeal.S8192x2816 .bf16) (y : FVec Ideal Cert.TokenProductRefIdeal.S8192x1024 .bf16) (i : Fin 2816) (j : Fin 1024) :
    Cert.TokenProductRefIdeal.Read.val_main_v3 (F := Ideal) x y (ix3 0 i j) = ∑ s : Fin 8192, (x (ix2 s i) * y (ix2 s j) : EReal) := by
  pointwise [Cert.TokenProductRefIdeal.Read.val_main_v3, Cert.TokenProductRefIdeal.Read.val_main_v2, Cert.TokenProductRefIdeal.Read.val_main_v1, Cert.TokenProductRefIdeal.Read.val_main_v0]

/-- The kernel's product is the reference's, on every input. -/
theorem algebraic : Cert.algebraic_TokenProductIdeal_TokenProductRefIdeal := fun m ρ m' ρ' _ hag =>
  ⟨_, Cert.TokenProductIdeal.Value.run m ρ, (θ_run _ _ _).mono (fun r h c => by
    obtain ⟨h0, h1⟩ := h c
    obtain ⟨a0, a1⟩ := hag c
    refine ⟨h0.trans ?_, h1⟩
    clear h0 h1 h
    rw [Cert.TokenProductRefIdeal.Read.val_main_v3_eq]
    change Cert.TokenProductRefIdeal.Read.val_main_v3 (m' (c.tc.loc Cert.TokenProductRefIdeal.main_arg0)) (m' (c.tc.loc Cert.TokenProductRefIdeal.main_arg1)) = _
    rw [a0, a1]
    funext i
    idx_vars i
    obtain rfl : i0 = 0 := Subsingleton.elim _ _
    exact (ref_at _ _ i1 i2).trans (Cert.TokenProductIdeal.Hand.array_at m c i1 i2).symm)
    (Cert.TokenProductRefIdeal.Value.run m' ρ')⟩

end Cert.TokenProduct
-- ==== Proof.SumChips.Claim.lean ====
/- The sum of the chips' parts: the equation with the kernel. -/
module
public import proofs.«01_k».proof.Proof.Gen.SumChipsIdeal.Value
public import proofs.«01_k».proof.Proof.Gen.SumChipsRefIdeal.Read
public import proofs.«01_k».proof.Proof.Gen.SumChips.Frame
public import Idealize.ShloMosaic.Lib.Pipeline.ValueKit
public import proofs.«01_k».proof.Defs

@[expose] public section

set_option maxRecDepth 16384

noncomputable section

namespace Cert.SumChipsIdeal.Hand

open Cert.SumChipsIdeal Cert.SumChipsIdeal.Gen Idealize.ShloMosaic Idealize.ShloMosaic.TcCoe Idealize.SL.Sem
open Idealize.ShloMosaic.Pipeline (Dat)

/-- Part `k` of a block of four parts, as the kernel loads it. -/
theorem ld_at (x : Vec Ideal S4x176x1024 .bf16) (r : Fin 176) (l : Fin 1024) :
    out0_1 (F := Ideal) x (ix2 r l) = (((x (ix3 0 r l) + x (ix3 1 r l)) + x (ix3 2 r l)) + x (ix3 3 r l) : EReal) := by
  refine (Cert.SumChipsIdeal.Value.canon1_eq _ _ _ _ (ix2 r l)).trans ?_
  refine congrArg₂ (· + ·) (congrArg₂ (· + ·) (congrArg₂ (· + ·) ?_ ?_) ?_) ?_ <;>
    exact congrArg x (funext fun a => Fin.ext (by
      match a with
      | ⟨0, _⟩ => rfl
      | ⟨1, _⟩ => show 0 + 1 * (r : ℕ) = r; omega
      | ⟨2, _⟩ => show 0 + 1 * (l : ℕ) = l; omega))

variable (m : (ℓ : Loc nD τ sig) → Buf (Elt Ideal) ℓ)

/-- The chips' parts by chip, row and column. -/
abbrev X (c : Dev nD) (k : Fin 4) (s : Fin 352) (l : Fin 1024) : EReal := m ((c.tc : Thread nD τ).loc main_arg0) (ix3 k s l)

theorem idx0 : ∀ t, win0_0.index t = ![0, t.val, 0] := (by decide +kernel : ∀ t : Fin grid0.N, _)
theorem idx1 : ∀ t, win0_1.index t = ![t.val, 0] := (by decide +kernel : ∀ t : Fin grid0.N, _)

/-- Row `r` of grid point `t`'s block. -/
abbrev row (t : Fin cfg0.N) (r : Fin 176) : Fin 352 := ⟨t.val * 176 + r, by have := lt_of_lt_of_eq t.isLt N_0; omega⟩

theorem blk0 (c : Dev nD) (t : Fin cfg0.N) (k : Fin 4) (r : Fin 176) (l : Fin 1024) : iblk m c 0 t (ix3 k r l) = X m c k (row t r) l := by
  blk_point [iblk, V, idx0 t]

/-- The array of the sums. -/
theorem final_sum (c : Dev nD) : (dats m 0 c).arrAt 1 (cfgs 0).N = fun i : S352x1024.Idx => ∑ k : Fin 4, X m c k (i 0) (i 1) := by
  refine (dats m 0 c).arrAt_eq_of_covers 1 _ (by decide +kernel) fun t hf y => ?_
  have ht : t.val < 2 := lt_of_lt_of_eq t.isLt N_0
  idx_vars y
  blk_simp
  rw [after0_1]
  have e0 : (win0_1.blk t).view.emb (ix2 y0 y1) 0 = row t y0 := Fin.ext (by blk_simp [idx1 t])
  have e1 : (win0_1.blk t).view.emb (ix2 y0 y1) 1 = y1 := Fin.ext (by blk_simp [idx1 t])
  rw [e0, e1, ld_at, blk0, blk0, blk0, blk0, Fin.sum_univ_four]

end Cert.SumChipsIdeal.Hand

namespace Cert.SumChips

open Idealize.ShloMosaic Idealize.ShloMosaic.TcCoe Idealize.SL.Sem

/-- The reference runs to the end and leaves its arguments unchanged. -/
theorem frame_ref : Cert.quiescent_SumChipsRefIdeal := fun m ρ _ =>
  (θ_run Cert.SumChipsRefIdeal.defs _ _).mono (fun r h => ⟨fun c => (h c).2, sem_eq_zero_of_no_sems (by decide) r.2⟩)
    (Cert.SumChipsRefIdeal.Value.run m ρ)

/-- An entry of the reference's sum. -/
theorem ref_at (x : FVec Ideal Cert.SumChipsRefIdeal.S4x352x1024 .bf16) (i : Fin 352) (j : Fin 1024) :
    Cert.SumChipsRefIdeal.Read.val_main_v1 (F := Ideal) x (ix2 i j) = ∑ k : Fin 4, (x (ix3 k i j) : EReal) := by
  pointwise [Cert.SumChipsRefIdeal.Read.val_main_v1, Cert.SumChipsRefIdeal.Read.val_main_v0, Cert.SumChipsRefIdeal.Read.val_main_cst]

/-- The kernel's sum is the reference's, on every input. -/
theorem algebraic : Cert.algebraic_SumChipsIdeal_SumChipsRefIdeal := fun m ρ m' ρ' _ hag =>
  ⟨_, Cert.SumChipsIdeal.Value.run_blocks m ρ, (θ_run _ _ _).mono (fun r h c => by
    obtain ⟨h0, h1⟩ := h c
    have a0 := hag c
    refine ⟨h0.trans ?_, h1⟩
    clear h0 h1 h
    rw [Cert.SumChipsRefIdeal.Read.val_main_v1_eq]
    change Cert.SumChipsRefIdeal.Read.val_main_v1 (m' (c.tc.loc Cert.SumChipsRefIdeal.main_arg0)) = _
    rw [a0]
    refine Eq.trans ?_ (Cert.SumChipsIdeal.Hand.final_sum m c).symm
    funext i
    idx_vars i
    exact ref_at _ i0 i1)
    (Cert.SumChipsRefIdeal.Value.run m' ρ')⟩

end Cert.SumChips
-- ==== Proof.lean ====
/- The certificate: every claim of proofs.«01_k».proof.Defs, put together from the modules under Proof/. -/
module

public import proofs.«01_k».proof.Defs
public import proofs.«01_k».proof.Proof.Gen.RgConvBwd
public import proofs.«01_k».proof.Proof.Gen.RgConvBwd.Skeleton
public import proofs.«01_k».proof.Proof.Gen.RgConvBwd.Launch
public import proofs.«01_k».proof.Proof.Gen.RgConvBwd.Points
public import proofs.«01_k».proof.Proof.Gen.RgConvBwd.Frame
public import proofs.«01_k».proof.Proof.Gen.RgConvBwdIdeal
public import proofs.«01_k».proof.Proof.Gen.RgConvBwdIdeal.Skeleton
public import proofs.«01_k».proof.Proof.Gen.RgConvBwdIdeal.Launch
public import proofs.«01_k».proof.Proof.Gen.RgConvBwdIdeal.Points
public import proofs.«01_k».proof.Proof.Gen.RgConvBwdIdeal.Frame
public import proofs.«01_k».proof.Proof.Gen.RgConvRefIdeal
public import proofs.«01_k».proof.Proof.Gen.RgConvBwdIdeal.Value
public import proofs.«01_k».proof.Proof.Gen.RgConvRefIdeal.Run
public import proofs.«01_k».proof.Proof.Gen.RgConvRefIdeal.Read
public import proofs.«01_k».proof.Proof.RgConv.Claim
public import proofs.«01_k».proof.Proof.Gen.GdnConvBwd
public import proofs.«01_k».proof.Proof.Gen.GdnConvBwd.Skeleton
public import proofs.«01_k».proof.Proof.Gen.GdnConvBwd.Launch
public import proofs.«01_k».proof.Proof.Gen.GdnConvBwd.Points
public import proofs.«01_k».proof.Proof.Gen.GdnConvBwd.Frame
public import proofs.«01_k».proof.Proof.Gen.GdnConvBwdIdeal
public import proofs.«01_k».proof.Proof.Gen.GdnConvBwdIdeal.Skeleton
public import proofs.«01_k».proof.Proof.Gen.GdnConvBwdIdeal.Launch
public import proofs.«01_k».proof.Proof.Gen.GdnConvBwdIdeal.Points
public import proofs.«01_k».proof.Proof.Gen.GdnConvBwdIdeal.Frame
public import proofs.«01_k».proof.Proof.Gen.GdnConvRefIdeal
public import proofs.«01_k».proof.Proof.Gen.GdnConvBwdIdeal.Value
public import proofs.«01_k».proof.Proof.Gen.GdnConvRefIdeal.Run
public import proofs.«01_k».proof.Proof.Gen.GdnConvRefIdeal.Read
public import proofs.«01_k».proof.Proof.GdnConv.Claim
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossRefIdeal
public import proofs.«01_k».proof.Proof.Gen.LossHeadIdeal.Value
public import proofs.«01_k».proof.Proof.Gen.LossRefIdeal.Run
public import proofs.«01_k».proof.Proof.Gen.LossRefIdeal.Read
public import proofs.«01_k».proof.Proof.Loss.Claim
public import proofs.«01_k».proof.Proof.Gen.GdnPrepBwd
public import proofs.«01_k».proof.Proof.Gen.GdnPrepBwd.Skeleton
public import proofs.«01_k».proof.Proof.Gen.GdnPrepBwd.Launch
public import proofs.«01_k».proof.Proof.Gen.GdnPrepBwd.Points
public import proofs.«01_k».proof.Proof.Gen.GdnPrepBwd.Frame
public import proofs.«01_k».proof.Proof.Gen.GdnPrepBwdIdeal
public import proofs.«01_k».proof.Proof.Gen.GdnPrepBwdIdeal.Skeleton
public import proofs.«01_k».proof.Proof.Gen.GdnPrepBwdIdeal.Launch
public import proofs.«01_k».proof.Proof.Gen.GdnPrepBwdIdeal.Points
public import proofs.«01_k».proof.Proof.Gen.GdnPrepBwdIdeal.Frame
public import proofs.«01_k».proof.Proof.Gen.GdnPrepRefIdeal
public import proofs.«01_k».proof.Proof.Gen.GdnPrepBwdIdeal.Value
public import proofs.«01_k».proof.Proof.Gen.GdnPrepRefIdeal.Run
public import proofs.«01_k».proof.Proof.Gen.GdnPrepRefIdeal.Read
public import proofs.«01_k».proof.Proof.GdnPrep.Claim
public import proofs.«01_k».proof.Proof.Gen.InProjBwd
public import proofs.«01_k».proof.Proof.Gen.InProjBwd.Skeleton
public import proofs.«01_k».proof.Proof.Gen.InProjBwd.Launch
public import proofs.«01_k».proof.Proof.Gen.InProjBwd.Points
public import proofs.«01_k».proof.Proof.Gen.InProjBwd.Frame
public import proofs.«01_k».proof.Proof.Gen.InProjBwdIdeal
public import proofs.«01_k».proof.Proof.Gen.InProjBwdIdeal.Skeleton
public import proofs.«01_k».proof.Proof.Gen.InProjBwdIdeal.Launch
public import proofs.«01_k».proof.Proof.Gen.InProjBwdIdeal.Points
public import proofs.«01_k».proof.Proof.Gen.InProjBwdIdeal.Frame
public import proofs.«01_k».proof.Proof.Gen.InProjRefIdeal
public import proofs.«01_k».proof.Proof.Gen.InProjBwdIdeal.Value
public import proofs.«01_k».proof.Proof.Gen.InProjRefIdeal.Run
public import proofs.«01_k».proof.Proof.Gen.InProjRefIdeal.Read
public import proofs.«01_k».proof.Proof.InProj.Claim
public import proofs.«01_k».proof.Proof.Gen.OutProjBwd
public import proofs.«01_k».proof.Proof.Gen.OutProjBwd.Skeleton
public import proofs.«01_k».proof.Proof.Gen.OutProjBwd.Launch
public import proofs.«01_k».proof.Proof.Gen.OutProjBwd.Points
public import proofs.«01_k».proof.Proof.Gen.OutProjBwd.Frame
public import proofs.«01_k».proof.Proof.Gen.OutProjBwdIdeal
public import proofs.«01_k».proof.Proof.Gen.OutProjBwdIdeal.Skeleton
public import proofs.«01_k».proof.Proof.Gen.OutProjBwdIdeal.Launch
public import proofs.«01_k».proof.Proof.Gen.OutProjBwdIdeal.Points
public import proofs.«01_k».proof.Proof.Gen.OutProjBwdIdeal.Frame
public import proofs.«01_k».proof.Proof.Gen.OutProjRefIdeal
public import proofs.«01_k».proof.Proof.Gen.OutProjBwdIdeal.Value
public import proofs.«01_k».proof.Proof.Gen.OutProjRefIdeal.Run
public import proofs.«01_k».proof.Proof.Gen.OutProjRefIdeal.Read
public import proofs.«01_k».proof.Proof.OutProj.Claim
public import proofs.«01_k».proof.Proof.Gen.FfnInBwd
public import proofs.«01_k».proof.Proof.Gen.FfnInBwd.Skeleton
public import proofs.«01_k».proof.Proof.Gen.FfnInBwd.Launch
public import proofs.«01_k».proof.Proof.Gen.FfnInBwd.Points
public import proofs.«01_k».proof.Proof.Gen.FfnInBwd.Frame
public import proofs.«01_k».proof.Proof.Gen.FfnInBwdIdeal
public import proofs.«01_k».proof.Proof.Gen.FfnInBwdIdeal.Skeleton
public import proofs.«01_k».proof.Proof.Gen.FfnInBwdIdeal.Launch
public import proofs.«01_k».proof.Proof.Gen.FfnInBwdIdeal.Points
public import proofs.«01_k».proof.Proof.Gen.FfnInBwdIdeal.Frame
public import proofs.«01_k».proof.Proof.Gen.FfnInRefIdeal
public import proofs.«01_k».proof.Proof.Gen.FfnInBwdIdeal.Value
public import proofs.«01_k».proof.Proof.Gen.FfnInRefIdeal.Run
public import proofs.«01_k».proof.Proof.Gen.FfnInRefIdeal.Read
public import proofs.«01_k».proof.Proof.FfnIn.Claim
public import proofs.«01_k».proof.Proof.Gen.FfnHiddenBwd
public import proofs.«01_k».proof.Proof.Gen.FfnHiddenBwd.Skeleton
public import proofs.«01_k».proof.Proof.Gen.FfnHiddenBwd.Launch
public import proofs.«01_k».proof.Proof.Gen.FfnHiddenBwd.Points
public import proofs.«01_k».proof.Proof.Gen.FfnHiddenBwd.Frame
public import proofs.«01_k».proof.Proof.Gen.FfnHiddenBwdIdeal
public import proofs.«01_k».proof.Proof.Gen.FfnHiddenBwdIdeal.Skeleton
public import proofs.«01_k».proof.Proof.Gen.FfnHiddenBwdIdeal.Launch
public import proofs.«01_k».proof.Proof.Gen.FfnHiddenBwdIdeal.Points
public import proofs.«01_k».proof.Proof.Gen.FfnHiddenBwdIdeal.Frame
public import proofs.«01_k».proof.Proof.Gen.FfnHiddenRefIdeal
public import proofs.«01_k».proof.Proof.Gen.FfnHiddenBwdIdeal.Value
public import proofs.«01_k».proof.Proof.Gen.FfnHiddenRefIdeal.Run
public import proofs.«01_k».proof.Proof.Gen.FfnHiddenRefIdeal.Read
public import proofs.«01_k».proof.Proof.FfnHidden.Claim
public import proofs.«01_k».proof.Proof.Gen.RgGatesBwd
public import proofs.«01_k».proof.Proof.Gen.RgGatesBwd.Skeleton
public import proofs.«01_k».proof.Proof.Gen.RgGatesBwd.Launch
public import proofs.«01_k».proof.Proof.Gen.RgGatesBwd.Points
public import proofs.«01_k».proof.Proof.Gen.RgGatesBwd.Frame
public import proofs.«01_k».proof.Proof.Gen.RgGatesBwdIdeal
public import proofs.«01_k».proof.Proof.Gen.RgGatesBwdIdeal.Skeleton
public import proofs.«01_k».proof.Proof.Gen.RgGatesBwdIdeal.Launch
public import proofs.«01_k».proof.Proof.Gen.RgGatesBwdIdeal.Points
public import proofs.«01_k».proof.Proof.Gen.RgGatesBwdIdeal.Frame
public import proofs.«01_k».proof.Proof.Gen.RgConvFwd
public import proofs.«01_k».proof.Proof.Gen.RgConvFwd.Skeleton
public import proofs.«01_k».proof.Proof.Gen.RgConvFwd.Launch
public import proofs.«01_k».proof.Proof.Gen.RgConvFwd.Points
public import proofs.«01_k».proof.Proof.Gen.RgConvFwd.Frame
public import proofs.«01_k».proof.Proof.Gen.RgConvFwdIdeal
public import proofs.«01_k».proof.Proof.Gen.RgConvFwdIdeal.Skeleton
public import proofs.«01_k».proof.Proof.Gen.RgConvFwdIdeal.Launch
public import proofs.«01_k».proof.Proof.Gen.RgConvFwdIdeal.Points
public import proofs.«01_k».proof.Proof.Gen.RgConvFwdIdeal.Frame
public import proofs.«01_k».proof.Proof.Gen.RgConvFwdRefIdeal
public import proofs.«01_k».proof.Proof.Gen.RgConvFwdIdeal.Value
public import proofs.«01_k».proof.Proof.Gen.RgConvFwdRefIdeal.Run
public import proofs.«01_k».proof.Proof.Gen.RgConvFwdRefIdeal.Read
public import proofs.«01_k».proof.Proof.RgConvFwd.Claim
public import proofs.«01_k».proof.Proof.Gen.GdnConvFwd
public import proofs.«01_k».proof.Proof.Gen.GdnConvFwd.Skeleton
public import proofs.«01_k».proof.Proof.Gen.GdnConvFwd.Launch
public import proofs.«01_k».proof.Proof.Gen.GdnConvFwd.Points
public import proofs.«01_k».proof.Proof.Gen.GdnConvFwd.Frame
public import proofs.«01_k».proof.Proof.Gen.GdnConvFwdIdeal
public import proofs.«01_k».proof.Proof.Gen.GdnConvFwdIdeal.Skeleton
public import proofs.«01_k».proof.Proof.Gen.GdnConvFwdIdeal.Launch
public import proofs.«01_k».proof.Proof.Gen.GdnConvFwdIdeal.Points
public import proofs.«01_k».proof.Proof.Gen.GdnConvFwdIdeal.Frame
public import proofs.«01_k».proof.Proof.Gen.GdnConvFwdRefIdeal
public import proofs.«01_k».proof.Proof.Gen.GdnConvFwdIdeal.Value
public import proofs.«01_k».proof.Proof.Gen.GdnConvFwdRefIdeal.Run
public import proofs.«01_k».proof.Proof.Gen.GdnConvFwdRefIdeal.Read
public import proofs.«01_k».proof.Proof.GdnConvFwd.Claim
public import proofs.«01_k».proof.Proof.Gen.InProjFwd
public import proofs.«01_k».proof.Proof.Gen.InProjFwd.Skeleton
public import proofs.«01_k».proof.Proof.Gen.InProjFwd.Launch
public import proofs.«01_k».proof.Proof.Gen.InProjFwd.Points
public import proofs.«01_k».proof.Proof.Gen.InProjFwd.Frame
public import proofs.«01_k».proof.Proof.Gen.InProjFwdIdeal
public import proofs.«01_k».proof.Proof.Gen.InProjFwdIdeal.Skeleton
public import proofs.«01_k».proof.Proof.Gen.InProjFwdIdeal.Launch
public import proofs.«01_k».proof.Proof.Gen.InProjFwdIdeal.Points
public import proofs.«01_k».proof.Proof.Gen.InProjFwdIdeal.Frame
public import proofs.«01_k».proof.Proof.Gen.InProjFwdRefIdeal
public import proofs.«01_k».proof.Proof.Gen.InProjFwdIdeal.Value
public import proofs.«01_k».proof.Proof.Gen.InProjFwdRefIdeal.Run
public import proofs.«01_k».proof.Proof.Gen.InProjFwdRefIdeal.Read
public import proofs.«01_k».proof.Proof.InProjFwd.Claim
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.FfnFwd.Claim
public import proofs.«01_k».proof.Proof.Gen.OutProjFwd
public import proofs.«01_k».proof.Proof.Gen.OutProjFwd.Skeleton
public import proofs.«01_k».proof.Proof.Gen.OutProjFwd.Launch
public import proofs.«01_k».proof.Proof.Gen.OutProjFwd.Points
public import proofs.«01_k».proof.Proof.Gen.OutProjFwd.Frame
public import proofs.«01_k».proof.Proof.Gen.OutProjFwdIdeal
public import proofs.«01_k».proof.Proof.Gen.OutProjFwdIdeal.Skeleton
public import proofs.«01_k».proof.Proof.Gen.OutProjFwdIdeal.Launch
public import proofs.«01_k».proof.Proof.Gen.OutProjFwdIdeal.Points
public import proofs.«01_k».proof.Proof.Gen.OutProjFwdIdeal.Frame
public import proofs.«01_k».proof.Proof.Gen.OutProjFwdRefIdeal
public import proofs.«01_k».proof.Proof.Gen.OutProjFwdIdeal.Value
public import proofs.«01_k».proof.Proof.Gen.OutProjFwdRefIdeal.Run
public import proofs.«01_k».proof.Proof.Gen.OutProjFwdRefIdeal.Read
public import proofs.«01_k».proof.Proof.OutProjFwd.Claim
public import proofs.«01_k».proof.Proof.Gen.GdnSeqFwd
public import proofs.«01_k».proof.Proof.Gen.GdnSeqFwd.Skeleton
public import proofs.«01_k».proof.Proof.Gen.GdnSeqFwd.Launch
public import proofs.«01_k».proof.Proof.Gen.GdnSeqFwd.Points
public import proofs.«01_k».proof.Proof.Gen.GdnSeqFwd.Frame
public import proofs.«01_k».proof.Proof.Gen.GdnSeqFwdIdeal
public import proofs.«01_k».proof.Proof.Gen.GdnSeqFwdIdeal.Skeleton
public import proofs.«01_k».proof.Proof.Gen.GdnSeqFwdIdeal.Launch
public import proofs.«01_k».proof.Proof.Gen.GdnSeqFwdIdeal.Points
public import proofs.«01_k».proof.Proof.Gen.GdnSeqFwdIdeal.Frame
public import proofs.«01_k».proof.Proof.Gen.MixPrep
public import proofs.«01_k».proof.Proof.Gen.MixPrep.Skeleton
public import proofs.«01_k».proof.Proof.Gen.MixPrep.Launch
public import proofs.«01_k».proof.Proof.Gen.MixPrep.Points
public import proofs.«01_k».proof.Proof.Gen.MixPrep.Frame
public import proofs.«01_k».proof.Proof.Gen.MixPrepIdeal
public import proofs.«01_k».proof.Proof.Gen.MixPrepIdeal.Skeleton
public import proofs.«01_k».proof.Proof.Gen.MixPrepIdeal.Launch
public import proofs.«01_k».proof.Proof.Gen.MixPrepIdeal.Points
public import proofs.«01_k».proof.Proof.Gen.MixPrepIdeal.Frame
public import proofs.«01_k».proof.Proof.Gen.MixPrepRefIdeal
public import proofs.«01_k».proof.Proof.Gen.MixPrepIdeal.Value
public import proofs.«01_k».proof.Proof.Gen.MixPrepRefIdeal.Run
public import proofs.«01_k».proof.Proof.Gen.MixPrepRefIdeal.Read
public import proofs.«01_k».proof.Proof.MixPrep.Claim
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwRefIdeal
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.Adamw.Claim
public import proofs.«01_k».proof.Proof.Gen.TokenProduct
public import proofs.«01_k».proof.Proof.Gen.TokenProduct.Skeleton
public import proofs.«01_k».proof.Proof.Gen.TokenProduct.Launch
public import proofs.«01_k».proof.Proof.Gen.TokenProduct.Points
public import proofs.«01_k».proof.Proof.Gen.TokenProduct.Frame
public import proofs.«01_k».proof.Proof.Gen.TokenProductIdeal
public import proofs.«01_k».proof.Proof.Gen.TokenProductIdeal.Skeleton
public import proofs.«01_k».proof.Proof.Gen.TokenProductIdeal.Launch
public import proofs.«01_k».proof.Proof.Gen.TokenProductIdeal.Points
public import proofs.«01_k».proof.Proof.Gen.TokenProductIdeal.Frame
public import proofs.«01_k».proof.Proof.Gen.TokenProductRefIdeal
public import proofs.«01_k».proof.Proof.Gen.TokenProductIdeal.Value
public import proofs.«01_k».proof.Proof.Gen.TokenProductRefIdeal.Run
public import proofs.«01_k».proof.Proof.Gen.TokenProductRefIdeal.Read
public import proofs.«01_k».proof.Proof.TokenProduct.Claim
public import proofs.«01_k».proof.Proof.Gen.SumChips
public import proofs.«01_k».proof.Proof.Gen.SumChips.Skeleton
public import proofs.«01_k».proof.Proof.Gen.SumChips.Launch
public import proofs.«01_k».proof.Proof.Gen.SumChips.Points
public import proofs.«01_k».proof.Proof.Gen.SumChips.Frame
public import proofs.«01_k».proof.Proof.Gen.SumChipsIdeal
public import proofs.«01_k».proof.Proof.Gen.SumChipsIdeal.Skeleton
public import proofs.«01_k».proof.Proof.Gen.SumChipsIdeal.Launch
public import proofs.«01_k».proof.Proof.Gen.SumChipsIdeal.Points
public import proofs.«01_k».proof.Proof.Gen.SumChipsIdeal.Frame
public import proofs.«01_k».proof.Proof.Gen.SumChipsRefIdeal
public import proofs.«01_k».proof.Proof.Gen.SumChipsIdeal.Value
public import proofs.«01_k».proof.Proof.Gen.SumChipsRefIdeal.Run
public import proofs.«01_k».proof.Proof.Gen.SumChipsRefIdeal.Read
public import proofs.«01_k».proof.Proof.SumChips.Claim
public import proofs.«01_k».proof.Proof.Gen.GdnLocalFwd
public import proofs.«01_k».proof.Proof.Gen.GdnLocalFwd.Skeleton
public import proofs.«01_k».proof.Proof.Gen.GdnLocalFwd.Launch
public import proofs.«01_k».proof.Proof.Gen.GdnLocalFwd.Points
public import proofs.«01_k».proof.Proof.Gen.GdnLocalFwd.Frame
public import proofs.«01_k».proof.Proof.Gen.GdnLocalFwdIdeal
public import proofs.«01_k».proof.Proof.Gen.GdnLocalFwdIdeal.Skeleton
public import proofs.«01_k».proof.Proof.Gen.GdnLocalFwdIdeal.Launch
public import proofs.«01_k».proof.Proof.Gen.GdnLocalFwdIdeal.Points
public import proofs.«01_k».proof.Proof.Gen.GdnLocalFwdIdeal.Frame
public import Idealize.ShloMosaic.Adequacy
public import Idealize.ShloMosaic.Init

@[expose] public section

noncomputable section

namespace Cert.Proof

open Idealize.ShloMosaic Idealize.SL.Sem

/-- The convolution gradient's kernel ends on every input, at the float words … -/
theorem frame_rgConvBwd : Cert.quiescent_RgConvBwd := fun m ρ _ => Cert.RgConvBwd.Gen.frame m ρ
/-- … and at the extended reals. -/
theorem frame_rgConvBwdIdeal : Cert.quiescent_RgConvBwdIdeal := fun m ρ _ => Cert.RgConvBwdIdeal.Gen.frame m ρ

/-- The GDN convolution gradient's kernel ends on every input, at the float words … -/
theorem frame_gdnConvBwd : Cert.quiescent_GdnConvBwd := fun m ρ _ => Cert.GdnConvBwd.Gen.frame m ρ
/-- … and at the extended reals. -/
theorem frame_gdnConvBwdIdeal : Cert.quiescent_GdnConvBwdIdeal := fun m ρ _ => Cert.GdnConvBwdIdeal.Gen.frame m ρ

/-- The loss head's kernel ends on every input, at the float words … -/
theorem frame_lossHead : Cert.quiescent_LossHead := fun m ρ _ => Cert.LossHead.Gen.frame m ρ
/-- … and at the extended reals. -/
theorem frame_lossHeadIdeal : Cert.quiescent_LossHeadIdeal := fun m ρ _ => Cert.LossHeadIdeal.Gen.frame m ρ

/-- The GDN preparation gradient's kernel ends on every input, at the float words … -/
theorem frame_gdnPrepBwd : Cert.quiescent_GdnPrepBwd := fun m ρ _ => Cert.GdnPrepBwd.Gen.frame m ρ
/-- … and at the extended reals. -/
theorem frame_gdnPrepBwdIdeal : Cert.quiescent_GdnPrepBwdIdeal := fun m ρ _ => Cert.GdnPrepBwdIdeal.Gen.frame m ρ

/-- The input projection gradient's kernel ends on every input, at the float words … -/
theorem frame_inProjBwd : Cert.quiescent_InProjBwd := fun m ρ _ => Cert.InProjBwd.Gen.frame m ρ
/-- … and at the extended reals. -/
theorem frame_inProjBwdIdeal : Cert.quiescent_InProjBwdIdeal := fun m ρ _ => Cert.InProjBwdIdeal.Gen.frame m ρ

/-- The output projection gradient's kernel ends on every input, at the float words … -/
theorem frame_outProjBwd : Cert.quiescent_OutProjBwd := fun m ρ _ => Cert.OutProjBwd.Gen.frame m ρ
/-- … and at the extended reals. -/
theorem frame_outProjBwdIdeal : Cert.quiescent_OutProjBwdIdeal := fun m ρ _ => Cert.OutProjBwdIdeal.Gen.frame m ρ

/-- The FFN input projection gradient's kernel ends on every input, at the float words … -/
theorem frame_ffnInBwd : Cert.quiescent_FfnInBwd := fun m ρ _ => Cert.FfnInBwd.Gen.frame m ρ
/-- … and at the extended reals. -/
theorem frame_ffnInBwdIdeal : Cert.quiescent_FfnInBwdIdeal := fun m ρ _ => Cert.FfnInBwdIdeal.Gen.frame m ρ

/-- The FFN gate gradient's kernel ends on every input, at the float words … -/
theorem frame_ffnHiddenBwd : Cert.quiescent_FfnHiddenBwd := fun m ρ _ => Cert.FfnHiddenBwd.Gen.frame m ρ
/-- … and at the extended reals. -/
theorem frame_ffnHiddenBwdIdeal : Cert.quiescent_FfnHiddenBwdIdeal := fun m ρ _ => Cert.FfnHiddenBwdIdeal.Gen.frame m ρ

/-- The RG-LRU gates' gradient's kernel ends on every input, at the float words … -/
theorem frame_rgGatesBwd : Cert.quiescent_RgGatesBwd := fun m ρ _ => Cert.RgGatesBwd.Gen.frame m ρ
/-- … and at the extended reals. -/
theorem frame_rgGatesBwdIdeal : Cert.quiescent_RgGatesBwdIdeal := fun m ρ _ => Cert.RgGatesBwdIdeal.Gen.frame m ρ

/-- The RG-LRU convolution's kernel ends on every input, at the float words … -/
theorem frame_rgConvFwd : Cert.quiescent_RgConvFwd := fun m ρ _ => Cert.RgConvFwd.Gen.frame m ρ
/-- … and at the extended reals. -/
theorem frame_rgConvFwdIdeal : Cert.quiescent_RgConvFwdIdeal := fun m ρ _ => Cert.RgConvFwdIdeal.Gen.frame m ρ

/-- The GDN convolution's kernel ends on every input, at the float words … -/
theorem frame_gdnConvFwd : Cert.quiescent_GdnConvFwd := fun m ρ _ => Cert.GdnConvFwd.Gen.frame m ρ
/-- … and at the extended reals. -/
theorem frame_gdnConvFwdIdeal : Cert.quiescent_GdnConvFwdIdeal := fun m ρ _ => Cert.GdnConvFwdIdeal.Gen.frame m ρ

/-- The input projection's kernel ends on every input, at the float words … -/
theorem frame_inProjFwd : Cert.quiescent_InProjFwd := fun m ρ _ => Cert.InProjFwd.Gen.frame m ρ
/-- … and at the extended reals. -/
theorem frame_inProjFwdIdeal : Cert.quiescent_InProjFwdIdeal := fun m ρ _ => Cert.InProjFwdIdeal.Gen.frame m ρ

/-- The feed-forward layer's kernel ends on every input, at the float words … -/
theorem frame_ffnFwd : Cert.quiescent_FfnFwd := fun m ρ _ => Cert.FfnFwd.Gen.frame m ρ
/-- … and at the extended reals. -/
theorem frame_ffnFwdIdeal : Cert.quiescent_FfnFwdIdeal := fun m ρ _ => Cert.FfnFwdIdeal.Gen.frame m ρ

/-- The output projection's kernel ends on every input, at the float words … -/
theorem frame_outProjFwd : Cert.quiescent_OutProjFwd := fun m ρ _ => Cert.OutProjFwd.Gen.frame m ρ
/-- … and at the extended reals. -/
theorem frame_outProjFwdIdeal : Cert.quiescent_OutProjFwdIdeal := fun m ρ _ => Cert.OutProjFwdIdeal.Gen.frame m ρ

/-- The chunk scan's kernel ends on every input, at the float words … -/
theorem frame_gdnSeqFwd : Cert.quiescent_GdnSeqFwd := fun m ρ _ => Cert.GdnSeqFwd.Gen.frame m ρ
/-- … and at the extended reals. -/
theorem frame_gdnSeqFwdIdeal : Cert.quiescent_GdnSeqFwdIdeal := fun m ρ _ => Cert.GdnSeqFwdIdeal.Gen.frame m ρ

/-- The mixer's preparation kernel ends on every input, at the float words … -/
theorem frame_mixPrep : Cert.quiescent_MixPrep := fun m ρ _ => Cert.MixPrep.Gen.frame m ρ
/-- … and at the extended reals. -/
theorem frame_mixPrepIdeal : Cert.quiescent_MixPrepIdeal := fun m ρ _ => Cert.MixPrepIdeal.Gen.frame m ρ

/-- The AdamW step's kernel ends on every input, at the float words … -/
theorem frame_adamw : Cert.quiescent_Adamw := fun m ρ _ => Cert.Adamw.Gen.frame m ρ
/-- … and at the extended reals. -/
theorem frame_adamwIdeal : Cert.quiescent_AdamwIdeal := fun m ρ _ => Cert.AdamwIdeal.Gen.frame m ρ

/-- The token product's kernel ends on every input, at the float words … -/
theorem frame_tokenProduct : Cert.quiescent_TokenProduct := fun m ρ _ => Cert.TokenProduct.Gen.frame m ρ
/-- … and at the extended reals. -/
theorem frame_tokenProductIdeal : Cert.quiescent_TokenProductIdeal := fun m ρ _ => Cert.TokenProductIdeal.Gen.frame m ρ

/-- The chips' sum's kernel ends on every input, at the float words … -/
theorem frame_sumChips : Cert.quiescent_SumChips := fun m ρ _ => Cert.SumChips.Gen.frame m ρ
/-- … and at the extended reals. -/
theorem frame_sumChipsIdeal : Cert.quiescent_SumChipsIdeal := fun m ρ _ => Cert.SumChipsIdeal.Gen.frame m ρ

/-- The chunks' own work's kernel ends on every input, at the float words … -/
theorem frame_gdnLocalFwd : Cert.quiescent_GdnLocalFwd := fun m ρ _ => Cert.GdnLocalFwd.Gen.frame m ρ
/-- … and at the extended reals. -/
theorem frame_gdnLocalFwdIdeal : Cert.quiescent_GdnLocalFwdIdeal := fun m ρ _ => Cert.GdnLocalFwdIdeal.Gen.frame m ρ

/-- All the claims. -/
theorem claim : Cert.Claim :=
  ⟨Cert.RgConvBwd.Gen.facts,
    Cert.RgConvBwdIdeal.Gen.facts,
    Cert.RgConvRefIdeal.Gen.facts,
    Cert.GdnConvBwd.Gen.facts,
    Cert.GdnConvBwdIdeal.Gen.facts,
    Cert.GdnConvRefIdeal.Gen.facts,
    Cert.LossHead.Gen.facts,
    Cert.LossHeadIdeal.Gen.facts,
    Cert.LossRefIdeal.Gen.facts,
    Cert.GdnPrepBwd.Gen.facts,
    Cert.GdnPrepBwdIdeal.Gen.facts,
    Cert.GdnPrepRefIdeal.Gen.facts,
    Cert.InProjBwd.Gen.facts,
    Cert.InProjBwdIdeal.Gen.facts,
    Cert.InProjRefIdeal.Gen.facts,
    Cert.OutProjBwd.Gen.facts,
    Cert.OutProjBwdIdeal.Gen.facts,
    Cert.OutProjRefIdeal.Gen.facts,
    Cert.FfnInBwd.Gen.facts,
    Cert.FfnInBwdIdeal.Gen.facts,
    Cert.FfnInRefIdeal.Gen.facts,
    Cert.FfnHiddenBwd.Gen.facts,
    Cert.FfnHiddenBwdIdeal.Gen.facts,
    Cert.FfnHiddenRefIdeal.Gen.facts,
    Cert.RgGatesBwd.Gen.facts,
    Cert.RgGatesBwdIdeal.Gen.facts,
    Cert.RgConvFwd.Gen.facts,
    Cert.RgConvFwdIdeal.Gen.facts,
    Cert.RgConvFwdRefIdeal.Gen.facts,
    Cert.GdnConvFwd.Gen.facts,
    Cert.GdnConvFwdIdeal.Gen.facts,
    Cert.GdnConvFwdRefIdeal.Gen.facts,
    Cert.InProjFwd.Gen.facts,
    Cert.InProjFwdIdeal.Gen.facts,
    Cert.InProjFwdRefIdeal.Gen.facts,
    Cert.FfnFwd.Gen.facts,
    Cert.FfnFwdIdeal.Gen.facts,
    Cert.FfnFwdRefIdeal.Gen.facts,
    Cert.OutProjFwd.Gen.facts,
    Cert.OutProjFwdIdeal.Gen.facts,
    Cert.OutProjFwdRefIdeal.Gen.facts,
    Cert.GdnSeqFwd.Gen.facts,
    Cert.GdnSeqFwdIdeal.Gen.facts,
    Cert.MixPrep.Gen.facts,
    Cert.MixPrepIdeal.Gen.facts,
    Cert.MixPrepRefIdeal.Gen.facts,
    Cert.Adamw.Gen.facts,
    Cert.AdamwIdeal.Gen.facts,
    Cert.AdamwRefIdeal.Gen.facts,
    Cert.TokenProduct.Gen.facts,
    Cert.TokenProductIdeal.Gen.facts,
    Cert.TokenProductRefIdeal.Gen.facts,
    Cert.SumChips.Gen.facts,
    Cert.SumChipsIdeal.Gen.facts,
    Cert.SumChipsRefIdeal.Gen.facts,
    Cert.GdnLocalFwd.Gen.facts,
    Cert.GdnLocalFwdIdeal.Gen.facts,
    Cert.Loss.pre_facts,
    Cert.GdnPrep.pre_facts,
    Cert.InProj.pre_facts,
    Cert.OutProj.pre_facts,
    Cert.FfnIn.pre_facts,
    Cert.FfnHidden.pre_facts,
    frame_rgConvBwd,
    frame_rgConvBwdIdeal,
    Cert.RgConv.frame_ref,
    frame_gdnConvBwd,
    frame_gdnConvBwdIdeal,
    Cert.GdnConv.frame_ref,
    frame_lossHead,
    frame_lossHeadIdeal,
    fun m ρ _ => frame_lossHeadIdeal m ρ trivial,
    Cert.Loss.frame_ref,
    fun m ρ _ => Cert.Loss.frame_ref m ρ trivial,
    frame_gdnPrepBwd,
    frame_gdnPrepBwdIdeal,
    fun m ρ _ => frame_gdnPrepBwdIdeal m ρ trivial,
    Cert.GdnPrep.frame_ref,
    fun m ρ _ => Cert.GdnPrep.frame_ref m ρ trivial,
    frame_inProjBwd,
    frame_inProjBwdIdeal,
    fun m ρ _ => frame_inProjBwdIdeal m ρ trivial,
    Cert.InProj.frame_ref,
    fun m ρ _ => Cert.InProj.frame_ref m ρ trivial,
    frame_outProjBwd,
    frame_outProjBwdIdeal,
    fun m ρ _ => frame_outProjBwdIdeal m ρ trivial,
    Cert.OutProj.frame_ref,
    fun m ρ _ => Cert.OutProj.frame_ref m ρ trivial,
    frame_ffnInBwd,
    frame_ffnInBwdIdeal,
    fun m ρ _ => frame_ffnInBwdIdeal m ρ trivial,
    Cert.FfnIn.frame_ref,
    fun m ρ _ => Cert.FfnIn.frame_ref m ρ trivial,
    frame_ffnHiddenBwd,
    frame_ffnHiddenBwdIdeal,
    fun m ρ _ => frame_ffnHiddenBwdIdeal m ρ trivial,
    Cert.FfnHidden.frame_ref,
    fun m ρ _ => Cert.FfnHidden.frame_ref m ρ trivial,
    frame_rgGatesBwd,
    frame_rgGatesBwdIdeal,
    frame_rgConvFwd,
    frame_rgConvFwdIdeal,
    Cert.RgConvFwd.frame_ref,
    frame_gdnConvFwd,
    frame_gdnConvFwdIdeal,
    Cert.GdnConvFwd.frame_ref,
    frame_inProjFwd,
    frame_inProjFwdIdeal,
    Cert.InProjFwd.frame_ref,
    frame_ffnFwd,
    frame_ffnFwdIdeal,
    Cert.FfnFwd.frame_ref,
    frame_outProjFwd,
    frame_outProjFwdIdeal,
    Cert.OutProjFwd.frame_ref,
    frame_gdnSeqFwd,
    frame_gdnSeqFwdIdeal,
    frame_mixPrep,
    frame_mixPrepIdeal,
    Cert.MixPrep.frame_ref,
    frame_adamw,
    frame_adamwIdeal,
    Cert.Adamw.frame_ref,
    frame_tokenProduct,
    frame_tokenProductIdeal,
    Cert.TokenProduct.frame_ref,
    frame_sumChips,
    frame_sumChipsIdeal,
    Cert.SumChips.frame_ref,
    frame_gdnLocalFwd,
    frame_gdnLocalFwdIdeal,
    trivial,
    Cert.RgConv.algebraic,
    trivial,
    Cert.GdnConv.algebraic,
    trivial,
    Cert.Loss.algebraic,
    trivial,
    Cert.GdnPrep.algebraic,
    trivial,
    Cert.InProj.algebraic,
    Cert.OutProj.names,
    Cert.OutProj.algebraic,
    trivial,
    Cert.FfnIn.algebraic,
    trivial,
    Cert.FfnHidden.algebraic,
    trivial,
    trivial,
    Cert.RgConvFwd.algebraic,
    trivial,
    Cert.GdnConvFwd.algebraic,
    trivial,
    Cert.InProjFwd.algebraic,
    trivial,
    Cert.FfnFwd.algebraic,
    Cert.OutProjFwd.names,
    Cert.OutProjFwd.algebraic,
    trivial,
    trivial,
    Cert.MixPrep.algebraic,
    trivial,
    Cert.Adamw.algebraic,
    trivial,
    Cert.TokenProduct.algebraic,
    trivial,
    Cert.SumChips.algebraic,
    trivial⟩

end Cert.Proof

end
